-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite [hPre_finite : Cert.Pre_finite.Facts] (m : (ℓ : Loc Cert.FfnIdeal.nD Cert.FfnIdeal.τ Cert.FfnIdeal.sig) → Buf (Elt Ideal) ℓ) : Prop :=
  ∀ c : Dev Cert.FfnIdeal.nD,
    (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite [hPre_finite : Cert.Pre_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))) = (fun _ => 1#1)

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstIdeal_finite [hPre_finite : Cert.Pre_finite.Facts] (m : (ℓ : Loc Cert.FfnFirstIdeal.nD Cert.FfnFirstIdeal.τ Cert.FfnFirstIdeal.sig) → Buf (Elt Ideal) ℓ) : Prop :=
  ∀ c : Dev Cert.FfnFirstIdeal.nD,
    (Cert.Pre_finite.fn (F := Ideal) (m ((c.tc : Thread Cert.FfnFirstIdeal.nD Cert.FfnFirstIdeal.τ).loc Cert.FfnFirstIdeal.main_arg0)) (m ((c.tc : Thread Cert.FfnFirstIdeal.nD Cert.FfnFirstIdeal.τ).loc Cert.FfnFirstIdeal.main_arg1)) (m ((c.tc : Thread Cert.FfnFirstIdeal.nD Cert.FfnFirstIdeal.τ).loc Cert.FfnFirstIdeal.main_arg2)) (m ((c.tc : Thread Cert.FfnFirstIdeal.nD Cert.FfnFirstIdeal.τ).loc Cert.FfnFirstIdeal.main_arg3)) (m ((c.tc : Thread Cert.FfnFirstIdeal.nD Cert.FfnFirstIdeal.τ).loc Cert.FfnFirstIdeal.main_arg4))) = (fun _ => 1#1)

def Pre_FfnFirstReferenceIdeal (m : (ℓ : Loc Cert.FfnFirstReferenceIdeal.nD Cert.FfnFirstReferenceIdeal.τ Cert.FfnFirstReferenceIdeal.sig) → Buf (Elt Ideal) ℓ) : Prop :=
  True

def Pre_FfnFirstReferenceIdeal_finite [hPre_finite : Cert.Pre_finite.Facts] (m : (ℓ : Loc Cert.FfnFirstReferenceIdeal.nD Cert.FfnFirstReferenceIdeal.τ Cert.FfnFirstReferenceIdeal.sig) → Buf (Elt Ideal) ℓ) : Prop :=
  ∀ c : Dev Cert.FfnFirstReferenceIdeal.nD,
    (Cert.Pre_finite.fn (F := Ideal) (m ((c.tc : Thread Cert.FfnFirstReferenceIdeal.nD Cert.FfnFirstReferenceIdeal.τ).loc Cert.FfnFirstReferenceIdeal.main_arg0)) (m ((c.tc : Thread Cert.FfnFirstReferenceIdeal.nD Cert.FfnFirstReferenceIdeal.τ).loc Cert.FfnFirstReferenceIdeal.main_arg1)) (m ((c.tc : Thread Cert.FfnFirstReferenceIdeal.nD Cert.FfnFirstReferenceIdeal.τ).loc Cert.FfnFirstReferenceIdeal.main_arg2)) (m ((c.tc : Thread Cert.FfnFirstReferenceIdeal.nD Cert.FfnFirstReferenceIdeal.τ).loc Cert.FfnFirstReferenceIdeal.main_arg3)) (m ((c.tc : Thread Cert.FfnFirstReferenceIdeal.nD Cert.FfnFirstReferenceIdeal.τ).loc Cert.FfnFirstReferenceIdeal.main_arg4))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolReferenceIdeal (m : (ℓ : Loc Cert.PoolReferenceIdeal.nD Cert.PoolReferenceIdeal.τ Cert.PoolReferenceIdeal.sig) → Buf (Elt Ideal) ℓ) : Prop :=
  True

def Pre_PoolBack (m : (ℓ : Loc Cert.PoolBack.nD Cert.PoolBack.τ Cert.PoolBack.sig) → Buf (Elt Bits) ℓ) : Prop :=
  True

def Pre_PoolBackIdeal (m : (ℓ : Loc Cert.PoolBackIdeal.nD Cert.PoolBackIdeal.τ Cert.PoolBackIdeal.sig) → Buf (Elt Ideal) ℓ) : Prop :=
  True

def Pre_PoolBackReferenceIdeal (m : (ℓ : Loc Cert.PoolBackReferenceIdeal.nD Cert.PoolBackReferenceIdeal.τ Cert.PoolBackReferenceIdeal.sig) → Buf (Elt Ideal) ℓ) : Prop :=
  True

def Pre_StepGateUp (m : (ℓ : Loc Cert.StepGateUp.nD Cert.StepGateUp.τ Cert.StepGateUp.sig) → Buf (Elt Bits) ℓ) : Prop :=
  True

def Pre_StepGateUpIdeal (m : (ℓ : Loc Cert.StepGateUpIdeal.nD Cert.StepGateUpIdeal.τ Cert.StepGateUpIdeal.sig) → Buf (Elt Ideal) ℓ) : Prop :=
  True

def Pre_StepGateUpReferenceIdeal (m : (ℓ : Loc Cert.StepGateUpReferenceIdeal.nD Cert.StepGateUpReferenceIdeal.τ Cert.StepGateUpReferenceIdeal.sig) → Buf (Elt Ideal) ℓ) : Prop :=
  True

def Pre_StepDown (m : (ℓ : Loc Cert.StepDown.nD Cert.StepDown.τ Cert.StepDown.sig) → Buf (Elt Bits) ℓ) : Prop :=
  True

def Pre_StepDownIdeal (m : (ℓ : Loc Cert.StepDownIdeal.nD Cert.StepDownIdeal.τ Cert.StepDownIdeal.sig) → Buf (Elt Ideal) ℓ) : Prop :=
  True

def Pre_StepDownReferenceIdeal (m : (ℓ : Loc Cert.StepDownReferenceIdeal.nD Cert.StepDownReferenceIdeal.τ Cert.StepDownReferenceIdeal.sig) → Buf (Elt Ideal) ℓ) : Prop :=
  True

def Pre_StepIn (m : (ℓ : Loc Cert.StepIn.nD Cert.StepIn.τ Cert.StepIn.sig) → Buf (Elt Bits) ℓ) : Prop :=
  True

def Pre_StepInIdeal (m : (ℓ : Loc Cert.StepInIdeal.nD Cert.StepInIdeal.τ Cert.StepInIdeal.sig) → Buf (Elt Ideal) ℓ) : Prop :=
  True

def Pre_StepInReferenceIdeal (m : (ℓ : Loc Cert.StepInReferenceIdeal.nD Cert.StepInReferenceIdeal.τ Cert.StepInReferenceIdeal.sig) → Buf (Elt Ideal) ℓ) : Prop :=
  True

def Pre_StepOut (m : (ℓ : Loc Cert.StepOut.nD Cert.StepOut.τ Cert.StepOut.sig) → Buf (Elt Bits) ℓ) : Prop :=
  True

def Pre_StepOutIdeal (m : (ℓ : Loc Cert.StepOutIdeal.nD Cert.StepOutIdeal.τ Cert.StepOutIdeal.sig) → Buf (Elt Ideal) ℓ) : Prop :=
  True

def Pre_StepOutReferenceIdeal (m : (ℓ : Loc Cert.StepOutReferenceIdeal.nD Cert.StepOutReferenceIdeal.τ Cert.StepOutReferenceIdeal.sig) → Buf (Elt Ideal) ℓ) : Prop :=
  True

def Pre_StepPool (m : (ℓ : Loc Cert.StepPool.nD Cert.StepPool.τ Cert.StepPool.sig) → Buf (Elt Bits) ℓ) : Prop :=
  True

def Pre_StepPoolIdeal (m : (ℓ : Loc Cert.StepPoolIdeal.nD Cert.StepPoolIdeal.τ Cert.StepPoolIdeal.sig) → Buf (Elt Ideal) ℓ) : Prop :=
  True

def Pre_StepPoolReferenceIdeal (m : (ℓ : Loc Cert.StepPoolReferenceIdeal.nD Cert.StepPoolReferenceIdeal.τ Cert.StepPoolReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_finite [hFfnIdeal : Cert.FfnIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_finite [hFfnReferenceIdeal : Cert.FfnReferenceIdeal.Facts] [hPre_finite : Cert.Pre_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4))
      ∧ r.2.sem = fun _ => 0)

def quiescent_FfnFirstIdeal_pre_finite [hFfnFirstIdeal : Cert.FfnFirstIdeal.Facts] [hPre_finite : Cert.Pre_finite.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal_finite m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4))
      ∧ r.2.sem = fun _ => 0)

def quiescent_FfnFirstReferenceIdeal [hFfnFirstReferenceIdeal : Cert.FfnFirstReferenceIdeal.Facts] : Prop :=
  ∀ (m : (ℓ : Loc Cert.FfnFirstReferenceIdeal.nD Cert.FfnFirstReferenceIdeal.τ Cert.FfnFirstReferenceIdeal.sig) → Buf (Elt Ideal) ℓ) (g : Dev Cert.FfnFirstReferenceIdeal.nD → PrngReg), Pre_FfnFirstReferenceIdeal m →
    θ_run (Cert.FfnFirstReferenceIdeal.defs (F := Ideal)) (onTc (τ := Cert.FfnFirstReferenceIdeal.τ) (Cert.FfnFirstReferenceIdeal.main (F := Ideal))) ⟨m, fun _ => 0, g⟩ (fun r => (∀ c : Dev Cert.FfnFirstReferenceIdeal.nD,
      r.2.mem ((c.tc : Thread Cert.FfnFirstReferenceIdeal.nD Cert.FfnFirstReferenceIdeal.τ).loc Cert.FfnFirstReferenceIdeal.main_arg0) = m ((c.tc : Thread Cert.FfnFirstReferenceIdeal.nD Cert.FfnFirstReferenceIdeal.τ).loc Cert.FfnFirstReferenceIdeal.main_arg0)
      ∧ r.2.mem ((c.tc : Thread Cert.FfnFirstReferenceIdeal.nD Cert.FfnFirstReferenceIdeal.τ).loc Cert.FfnFirstReferenceIdeal.main_arg1) = m ((c.tc : Thread Cert.FfnFirstReferenceIdeal.nD Cert.FfnFirstReferenceIdeal.τ).loc Cert.FfnFirstReferenceIdeal.main_arg1)
      ∧ r.2.mem ((c.tc : Thread Cert.FfnFirstReferenceIdeal.nD Cert.FfnFirstReferenceIdeal.τ).loc Cert.FfnFirstReferenceIdeal.main_arg2) = m ((c.tc : Thread Cert.FfnFirstReferenceIdeal.nD Cert.FfnFirstReferenceIdeal.τ).loc Cert.FfnFirstReferenceIdeal.main_arg2)
      ∧ r.2.mem ((c.tc : Thread Cert.FfnFirstReferenceIdeal.nD Cert.FfnFirstReferenceIdeal.τ).loc Cert.FfnFirstReferenceIdeal.main_arg3) = m ((c.tc : Thread Cert.FfnFirstReferenceIdeal.nD Cert.FfnFirstReferenceIdeal.τ).loc Cert.FfnFirstReferenceIdeal.main_arg3)
      ∧ r.2.mem ((c.tc : Thread Cert.FfnFirstReferenceIdeal.nD Cert.FfnFirstReferenceIdeal.τ).loc Cert.FfnFirstReferenceIdeal.main_arg4) = m ((c.tc : Thread Cert.FfnFirstReferenceIdeal.nD Cert.FfnFirstReferenceIdeal.τ).loc Cert.FfnFirstReferenceIdeal.main_arg4))
      ∧ r.2.sem = fun _ => 0)

def quiescent_FfnFirstReferenceIdeal_pre_finite [hFfnFirstReferenceIdeal : Cert.FfnFirstReferenceIdeal.Facts] [hPre_finite : Cert.Pre_finite.Facts] : Prop :=
  ∀ (m : (ℓ : Loc Cert.FfnFirstReferenceIdeal.nD Cert.FfnFirstReferenceIdeal.τ Cert.FfnFirstReferenceIdeal.sig) → Buf (Elt Ideal) ℓ) (g : Dev Cert.FfnFirstReferenceIdeal.nD → PrngReg), Pre_FfnFirstReferenceIdeal_finite m →
    θ_run (Cert.FfnFirstReferenceIdeal.defs (F := Ideal)) (onTc (τ := Cert.FfnFirstReferenceIdeal.τ) (Cert.FfnFirstReferenceIdeal.main (F := Ideal))) ⟨m, fun _ => 0, g⟩ (fun r => (∀ c : Dev Cert.FfnFirstReferenceIdeal.nD,
      r.2.mem ((c.tc : Thread Cert.FfnFirstReferenceIdeal.nD Cert.FfnFirstReferenceIdeal.τ).loc Cert.FfnFirstReferenceIdeal.main_arg0) = m ((c.tc : Thread Cert.FfnFirstReferenceIdeal.nD Cert.FfnFirstReferenceIdeal.τ).loc Cert.FfnFirstReferenceIdeal.main_arg0)
      ∧ r.2.mem ((c.tc : Thread Cert.FfnFirstReferenceIdeal.nD Cert.FfnFirstReferenceIdeal.τ).loc Cert.FfnFirstReferenceIdeal.main_arg1) = m ((c.tc : Thread Cert.FfnFirstReferenceIdeal.nD Cert.FfnFirstReferenceIdeal.τ).loc Cert.FfnFirstReferenceIdeal.main_arg1)
      ∧ r.2.mem ((c.tc : Thread Cert.FfnFirstReferenceIdeal.nD Cert.FfnFirstReferenceIdeal.τ).loc Cert.FfnFirstReferenceIdeal.main_arg2) = m ((c.tc : Thread Cert.FfnFirstReferenceIdeal.nD Cert.FfnFirstReferenceIdeal.τ).loc Cert.FfnFirstReferenceIdeal.main_arg2)
      ∧ r.2.mem ((c.tc : Thread Cert.FfnFirstReferenceIdeal.nD Cert.FfnFirstReferenceIdeal.τ).loc Cert.FfnFirstReferenceIdeal.main_arg3) = m ((c.tc : Thread Cert.FfnFirstReferenceIdeal.nD Cert.FfnFirstReferenceIdeal.τ).loc Cert.FfnFirstReferenceIdeal.main_arg3)
      ∧ r.2.mem ((c.tc : Thread Cert.FfnFirstReferenceIdeal.nD Cert.FfnFirstReferenceIdeal.τ).loc Cert.FfnFirstReferenceIdeal.main_arg4) = m ((c.tc : Thread Cert.FfnFirstReferenceIdeal.nD Cert.FfnFirstReferenceIdeal.τ).loc Cert.FfnFirstReferenceIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def quiescent_PoolBack [hPoolBack : Cert.PoolBack.Facts] : Prop :=
  ∀ (m : (ℓ : Loc Cert.PoolBack.nD Cert.PoolBack.τ Cert.PoolBack.sig) → Buf (Elt Bits) ℓ) (g : Dev Cert.PoolBack.nD → PrngReg), Pre_PoolBack m →
    θ_run (Cert.PoolBack.defs (F := Bits)) (onTc (τ := Cert.PoolBack.τ) (Cert.PoolBack.main (F := Bits))) ⟨m, fun _ => 0, g⟩ (fun r => (∀ c : Dev Cert.PoolBack.nD,
      r.2.mem ((c.tc : Thread Cert.PoolBack.nD Cert.PoolBack.τ).loc Cert.PoolBack.main_arg0) = m ((c.tc : Thread Cert.PoolBack.nD Cert.PoolBack.τ).loc Cert.PoolBack.main_arg0)
      ∧ r.2.mem ((c.tc : Thread Cert.PoolBack.nD Cert.PoolBack.τ).loc Cert.PoolBack.main_arg1) = m ((c.tc : Thread Cert.PoolBack.nD Cert.PoolBack.τ).loc Cert.PoolBack.main_arg1)
      ∧ r.2.mem ((c.tc : Thread Cert.PoolBack.nD Cert.PoolBack.τ).loc Cert.PoolBack.main_arg2) = m ((c.tc : Thread Cert.PoolBack.nD Cert.PoolBack.τ).loc Cert.PoolBack.main_arg2)
      ∧ r.2.mem ((c.tc : Thread Cert.PoolBack.nD Cert.PoolBack.τ).loc Cert.PoolBack.main_arg3) = m ((c.tc : Thread Cert.PoolBack.nD Cert.PoolBack.τ).loc Cert.PoolBack.main_arg3)
      ∧ r.2.mem ((c.tc : Thread Cert.PoolBack.nD Cert.PoolBack.τ).loc Cert.PoolBack.main_arg4) = m ((c.tc : Thread Cert.PoolBack.nD Cert.PoolBack.τ).loc Cert.PoolBack.main_arg4))
      ∧ r.2.sem = fun _ => 0)

def quiescent_PoolBackIdeal [hPoolBackIdeal : Cert.PoolBackIdeal.Facts] : Prop :=
  ∀ (m : (ℓ : Loc Cert.PoolBackIdeal.nD Cert.PoolBackIdeal.τ Cert.PoolBackIdeal.sig) → Buf (Elt Ideal) ℓ) (g : Dev Cert.PoolBackIdeal.nD → PrngReg), Pre_PoolBackIdeal m →
    θ_run (Cert.PoolBackIdeal.defs (F := Ideal)) (onTc (τ := Cert.PoolBackIdeal.τ) (Cert.PoolBackIdeal.main (F := Ideal))) ⟨m, fun _ => 0, g⟩ (fun r => (∀ c : Dev Cert.PoolBackIdeal.nD,
      r.2.mem ((c.tc : Thread Cert.PoolBackIdeal.nD Cert.PoolBackIdeal.τ).loc Cert.PoolBackIdeal.main_arg0) = m ((c.tc : Thread Cert.PoolBackIdeal.nD Cert.PoolBackIdeal.τ).loc Cert.PoolBackIdeal.main_arg0)
      ∧ r.2.mem ((c.tc : Thread Cert.PoolBackIdeal.nD Cert.PoolBackIdeal.τ).loc Cert.PoolBackIdeal.main_arg1) = m ((c.tc : Thread Cert.PoolBackIdeal.nD Cert.PoolBackIdeal.τ).loc Cert.PoolBackIdeal.main_arg1)
      ∧ r.2.mem ((c.tc : Thread Cert.PoolBackIdeal.nD Cert.PoolBackIdeal.τ).loc Cert.PoolBackIdeal.main_arg2) = m ((c.tc : Thread Cert.PoolBackIdeal.nD Cert.PoolBackIdeal.τ).loc Cert.PoolBackIdeal.main_arg2)
      ∧ r.2.mem ((c.tc : Thread Cert.PoolBackIdeal.nD Cert.PoolBackIdeal.τ).loc Cert.PoolBackIdeal.main_arg3) = m ((c.tc : Thread Cert.PoolBackIdeal.nD Cert.PoolBackIdeal.τ).loc Cert.PoolBackIdeal.main_arg3)
      ∧ r.2.mem ((c.tc : Thread Cert.PoolBackIdeal.nD Cert.PoolBackIdeal.τ).loc Cert.PoolBackIdeal.main_arg4) = m ((c.tc : Thread Cert.PoolBackIdeal.nD Cert.PoolBackIdeal.τ).loc Cert.PoolBackIdeal.main_arg4))
      ∧ r.2.sem = fun _ => 0)

def quiescent_PoolBackReferenceIdeal [hPoolBackReferenceIdeal : Cert.PoolBackReferenceIdeal.Facts] : Prop :=
  ∀ (m : (ℓ : Loc Cert.PoolBackReferenceIdeal.nD Cert.PoolBackReferenceIdeal.τ Cert.PoolBackReferenceIdeal.sig) → Buf (Elt Ideal) ℓ) (g : Dev Cert.PoolBackReferenceIdeal.nD → PrngReg), Pre_PoolBackReferenceIdeal m →
    θ_run (Cert.PoolBackReferenceIdeal.defs (F := Ideal)) (onTc (τ := Cert.PoolBackReferenceIdeal.τ) (Cert.PoolBackReferenceIdeal.main (F := Ideal))) ⟨m, fun _ => 0, g⟩ (fun r => (∀ c : Dev Cert.PoolBackReferenceIdeal.nD,
      r.2.mem ((c.tc : Thread Cert.PoolBackReferenceIdeal.nD Cert.PoolBackReferenceIdeal.τ).loc Cert.PoolBackReferenceIdeal.main_arg0) = m ((c.tc : Thread Cert.PoolBackReferenceIdeal.nD Cert.PoolBackReferenceIdeal.τ).loc Cert.PoolBackReferenceIdeal.main_arg0)
      ∧ r.2.mem ((c.tc : Thread Cert.PoolBackReferenceIdeal.nD Cert.PoolBackReferenceIdeal.τ).loc Cert.PoolBackReferenceIdeal.main_arg1) = m ((c.tc : Thread Cert.PoolBackReferenceIdeal.nD Cert.PoolBackReferenceIdeal.τ).loc Cert.PoolBackReferenceIdeal.main_arg1)
      ∧ r.2.mem ((c.tc : Thread Cert.PoolBackReferenceIdeal.nD Cert.PoolBackReferenceIdeal.τ).loc Cert.PoolBackReferenceIdeal.main_arg2) = m ((c.tc : Thread Cert.PoolBackReferenceIdeal.nD Cert.PoolBackReferenceIdeal.τ).loc Cert.PoolBackReferenceIdeal.main_arg2)
      ∧ r.2.mem ((c.tc : Thread Cert.PoolBackReferenceIdeal.nD Cert.PoolBackReferenceIdeal.τ).loc Cert.PoolBackReferenceIdeal.main_arg3) = m ((c.tc : Thread Cert.PoolBackReferenceIdeal.nD Cert.PoolBackReferenceIdeal.τ).loc Cert.PoolBackReferenceIdeal.main_arg3)
      ∧ r.2.mem ((c.tc : Thread Cert.PoolBackReferenceIdeal.nD Cert.PoolBackReferenceIdeal.τ).loc Cert.PoolBackReferenceIdeal.main_arg4) = m ((c.tc : Thread Cert.PoolBackReferenceIdeal.nD Cert.PoolBackReferenceIdeal.τ).loc Cert.PoolBackReferenceIdeal.main_arg4))
      ∧ r.2.sem = fun _ => 0)

def quiescent_StepGateUp [hStepGateUp : Cert.StepGateUp.Facts] : Prop :=
  ∀ (m : (ℓ : Loc Cert.StepGateUp.nD Cert.StepGateUp.τ Cert.StepGateUp.sig) → Buf (Elt Bits) ℓ) (g : Dev Cert.StepGateUp.nD → PrngReg), Pre_StepGateUp m →
    θ_run (Cert.StepGateUp.defs (F := Bits)) (onTc (τ := Cert.StepGateUp.τ) (Cert.StepGateUp.main (F := Bits))) ⟨m, fun _ => 0, g⟩ (fun r => (∀ c : Dev Cert.StepGateUp.nD,
      r.2.mem ((c.tc : Thread Cert.StepGateUp.nD Cert.StepGateUp.τ).loc Cert.StepGateUp.main_arg0) = m ((c.tc : Thread Cert.StepGateUp.nD Cert.StepGateUp.τ).loc Cert.StepGateUp.main_arg0)
      ∧ r.2.mem ((c.tc : Thread Cert.StepGateUp.nD Cert.StepGateUp.τ).loc Cert.StepGateUp.main_arg1) = m ((c.tc : Thread Cert.StepGateUp.nD Cert.StepGateUp.τ).loc Cert.StepGateUp.main_arg1)
      ∧ r.2.mem ((c.tc : Thread Cert.StepGateUp.nD Cert.StepGateUp.τ).loc Cert.StepGateUp.main_arg2) = m ((c.tc : Thread Cert.StepGateUp.nD Cert.StepGateUp.τ).loc Cert.StepGateUp.main_arg2)
      ∧ r.2.mem ((c.tc : Thread Cert.StepGateUp.nD Cert.StepGateUp.τ).loc Cert.StepGateUp.main_arg3) = m ((c.tc : Thread Cert.StepGateUp.nD Cert.StepGateUp.τ).loc Cert.StepGateUp.main_arg3))
      ∧ r.2.sem = fun _ => 0)

def quiescent_StepGateUpIdeal [hStepGateUpIdeal : Cert.StepGateUpIdeal.Facts] : Prop :=
  ∀ (m : (ℓ : Loc Cert.StepGateUpIdeal.nD Cert.StepGateUpIdeal.τ Cert.StepGateUpIdeal.sig) → Buf (Elt Ideal) ℓ) (g : Dev Cert.StepGateUpIdeal.nD → PrngReg), Pre_StepGateUpIdeal m →
    θ_run (Cert.StepGateUpIdeal.defs (F := Ideal)) (onTc (τ := Cert.StepGateUpIdeal.τ) (Cert.StepGateUpIdeal.main (F := Ideal))) ⟨m, fun _ => 0, g⟩ (fun r => (∀ c : Dev Cert.StepGateUpIdeal.nD,
      r.2.mem ((c.tc : Thread Cert.StepGateUpIdeal.nD Cert.StepGateUpIdeal.τ).loc Cert.StepGateUpIdeal.main_arg0) = m ((c.tc : Thread Cert.StepGateUpIdeal.nD Cert.StepGateUpIdeal.τ).loc Cert.StepGateUpIdeal.main_arg0)
      ∧ r.2.mem ((c.tc : Thread Cert.StepGateUpIdeal.nD Cert.StepGateUpIdeal.τ).loc Cert.StepGateUpIdeal.main_arg1) = m ((c.tc : Thread Cert.StepGateUpIdeal.nD Cert.StepGateUpIdeal.τ).loc Cert.StepGateUpIdeal.main_arg1)
      ∧ r.2.mem ((c.tc : Thread Cert.StepGateUpIdeal.nD Cert.StepGateUpIdeal.τ).loc Cert.StepGateUpIdeal.main_arg2) = m ((c.tc : Thread Cert.StepGateUpIdeal.nD Cert.StepGateUpIdeal.τ).loc Cert.StepGateUpIdeal.main_arg2)
      ∧ r.2.mem ((c.tc : Thread Cert.StepGateUpIdeal.nD Cert.StepGateUpIdeal.τ).loc Cert.StepGateUpIdeal.main_arg3) = m ((c.tc : Thread Cert.StepGateUpIdeal.nD Cert.StepGateUpIdeal.τ).loc Cert.StepGateUpIdeal.main_arg3))
      ∧ r.2.sem = fun _ => 0)

def quiescent_StepGateUpReferenceIdeal [hStepGateUpReferenceIdeal : Cert.StepGateUpReferenceIdeal.Facts] : Prop :=
  ∀ (m : (ℓ : Loc Cert.StepGateUpReferenceIdeal.nD Cert.StepGateUpReferenceIdeal.τ Cert.StepGateUpReferenceIdeal.sig) → Buf (Elt Ideal) ℓ) (g : Dev Cert.StepGateUpReferenceIdeal.nD → PrngReg), Pre_StepGateUpReferenceIdeal m →
    θ_run (Cert.StepGateUpReferenceIdeal.defs (F := Ideal)) (onTc (τ := Cert.StepGateUpReferenceIdeal.τ) (Cert.StepGateUpReferenceIdeal.main (F := Ideal))) ⟨m, fun _ => 0, g⟩ (fun r => (∀ c : Dev Cert.StepGateUpReferenceIdeal.nD,
      r.2.mem ((c.tc : Thread Cert.StepGateUpReferenceIdeal.nD Cert.StepGateUpReferenceIdeal.τ).loc Cert.StepGateUpReferenceIdeal.main_arg0) = m ((c.tc : Thread Cert.StepGateUpReferenceIdeal.nD Cert.StepGateUpReferenceIdeal.τ).loc Cert.StepGateUpReferenceIdeal.main_arg0)
      ∧ r.2.mem ((c.tc : Thread Cert.StepGateUpReferenceIdeal.nD Cert.StepGateUpReferenceIdeal.τ).loc Cert.StepGateUpReferenceIdeal.main_arg1) = m ((c.tc : Thread Cert.StepGateUpReferenceIdeal.nD Cert.StepGateUpReferenceIdeal.τ).loc Cert.StepGateUpReferenceIdeal.main_arg1)
      ∧ r.2.mem ((c.tc : Thread Cert.StepGateUpReferenceIdeal.nD Cert.StepGateUpReferenceIdeal.τ).loc Cert.StepGateUpReferenceIdeal.main_arg2) = m ((c.tc : Thread Cert.StepGateUpReferenceIdeal.nD Cert.StepGateUpReferenceIdeal.τ).loc Cert.StepGateUpReferenceIdeal.main_arg2)
      ∧ r.2.mem ((c.tc : Thread Cert.StepGateUpReferenceIdeal.nD Cert.StepGateUpReferenceIdeal.τ).loc Cert.StepGateUpReferenceIdeal.main_arg3) = m ((c.tc : Thread Cert.StepGateUpReferenceIdeal.nD Cert.StepGateUpReferenceIdeal.τ).loc Cert.StepGateUpReferenceIdeal.main_arg3))
      ∧ r.2.sem = fun _ => 0)

def quiescent_StepDown [hStepDown : Cert.StepDown.Facts] : Prop :=
  ∀ (m : (ℓ : Loc Cert.StepDown.nD Cert.StepDown.τ Cert.StepDown.sig) → Buf (Elt Bits) ℓ) (g : Dev Cert.StepDown.nD → PrngReg), Pre_StepDown m →
    θ_run (Cert.StepDown.defs (F := Bits)) (onTc (τ := Cert.StepDown.τ) (Cert.StepDown.main (F := Bits))) ⟨m, fun _ => 0, g⟩ (fun r => (∀ c : Dev Cert.StepDown.nD,
      r.2.mem ((c.tc : Thread Cert.StepDown.nD Cert.StepDown.τ).loc Cert.StepDown.main_arg0) = m ((c.tc : Thread Cert.StepDown.nD Cert.StepDown.τ).loc Cert.StepDown.main_arg0)
      ∧ r.2.mem ((c.tc : Thread Cert.StepDown.nD Cert.StepDown.τ).loc Cert.StepDown.main_arg1) = m ((c.tc : Thread Cert.StepDown.nD Cert.StepDown.τ).loc Cert.StepDown.main_arg1)
      ∧ r.2.mem ((c.tc : Thread Cert.StepDown.nD Cert.StepDown.τ).loc Cert.StepDown.main_arg2) = m ((c.tc : Thread Cert.StepDown.nD Cert.StepDown.τ).loc Cert.StepDown.main_arg2)
      ∧ r.2.mem ((c.tc : Thread Cert.StepDown.nD Cert.StepDown.τ).loc Cert.StepDown.main_arg3) = m ((c.tc : Thread Cert.StepDown.nD Cert.StepDown.τ).loc Cert.StepDown.main_arg3))
      ∧ r.2.sem = fun _ => 0)

def quiescent_StepDownIdeal [hStepDownIdeal : Cert.StepDownIdeal.Facts] : Prop :=
  ∀ (m : (ℓ : Loc Cert.StepDownIdeal.nD Cert.StepDownIdeal.τ Cert.StepDownIdeal.sig) → Buf (Elt Ideal) ℓ) (g : Dev Cert.StepDownIdeal.nD → PrngReg), Pre_StepDownIdeal m →
    θ_run (Cert.StepDownIdeal.defs (F := Ideal)) (onTc (τ := Cert.StepDownIdeal.τ) (Cert.StepDownIdeal.main (F := Ideal))) ⟨m, fun _ => 0, g⟩ (fun r => (∀ c : Dev Cert.StepDownIdeal.nD,
      r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
      ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
      ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
      ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3))
      ∧ r.2.sem = fun _ => 0)

def quiescent_StepDownReferenceIdeal [hStepDownReferenceIdeal : Cert.StepDownReferenceIdeal.Facts] : Prop :=
  ∀ (m : (ℓ : Loc Cert.StepDownReferenceIdeal.nD Cert.StepDownReferenceIdeal.τ Cert.StepDownReferenceIdeal.sig) → Buf (Elt Ideal) ℓ) (g : Dev Cert.StepDownReferenceIdeal.nD → PrngReg), Pre_StepDownReferenceIdeal m →
    θ_run (Cert.StepDownReferenceIdeal.defs (F := Ideal)) (onTc (τ := Cert.StepDownReferenceIdeal.τ) (Cert.StepDownReferenceIdeal.main (F := Ideal))) ⟨m, fun _ => 0, g⟩ (fun r => (∀ c : Dev Cert.StepDownReferenceIdeal.nD,
      r.2.mem ((c.tc : Thread Cert.StepDownReferenceIdeal.nD Cert.StepDownReferenceIdeal.τ).loc Cert.StepDownReferenceIdeal.main_arg0) = m ((c.tc : Thread Cert.StepDownReferenceIdeal.nD Cert.StepDownReferenceIdeal.τ).loc Cert.StepDownReferenceIdeal.main_arg0)
      ∧ r.2.mem ((c.tc : Thread Cert.StepDownReferenceIdeal.nD Cert.StepDownReferenceIdeal.τ).loc Cert.StepDownReferenceIdeal.main_arg1) = m ((c.tc : Thread Cert.StepDownReferenceIdeal.nD Cert.StepDownReferenceIdeal.τ).loc Cert.StepDownReferenceIdeal.main_arg1)
      ∧ r.2.mem ((c.tc : Thread Cert.StepDownReferenceIdeal.nD Cert.StepDownReferenceIdeal.τ).loc Cert.StepDownReferenceIdeal.main_arg2) = m ((c.tc : Thread Cert.StepDownReferenceIdeal.nD Cert.StepDownReferenceIdeal.τ).loc Cert.StepDownReferenceIdeal.main_arg2)
      ∧ r.2.mem ((c.tc : Thread Cert.StepDownReferenceIdeal.nD Cert.StepDownReferenceIdeal.τ).loc Cert.StepDownReferenceIdeal.main_arg3) = m ((c.tc : Thread Cert.StepDownReferenceIdeal.nD Cert.StepDownReferenceIdeal.τ).loc Cert.StepDownReferenceIdeal.main_arg3))
      ∧ r.2.sem = fun _ => 0)

def quiescent_StepIn [hStepIn : Cert.StepIn.Facts] : Prop :=
  ∀ (m : (ℓ : Loc Cert.StepIn.nD Cert.StepIn.τ Cert.StepIn.sig) → Buf (Elt Bits) ℓ) (g : Dev Cert.StepIn.nD → PrngReg), Pre_StepIn m →
    θ_run (Cert.StepIn.defs (F := Bits)) (onTc (τ := Cert.StepIn.τ) (Cert.StepIn.main (F := Bits))) ⟨m, fun _ => 0, g⟩ (fun r => (∀ c : Dev Cert.StepIn.nD,
      r.2.mem ((c.tc : Thread Cert.StepIn.nD Cert.StepIn.τ).loc Cert.StepIn.main_arg0) = m ((c.tc : Thread Cert.StepIn.nD Cert.StepIn.τ).loc Cert.StepIn.main_arg0)
      ∧ r.2.mem ((c.tc : Thread Cert.StepIn.nD Cert.StepIn.τ).loc Cert.StepIn.main_arg1) = m ((c.tc : Thread Cert.StepIn.nD Cert.StepIn.τ).loc Cert.StepIn.main_arg1)
      ∧ r.2.mem ((c.tc : Thread Cert.StepIn.nD Cert.StepIn.τ).loc Cert.StepIn.main_arg2) = m ((c.tc : Thread Cert.StepIn.nD Cert.StepIn.τ).loc Cert.StepIn.main_arg2)
      ∧ r.2.mem ((c.tc : Thread Cert.StepIn.nD Cert.StepIn.τ).loc Cert.StepIn.main_arg3) = m ((c.tc : Thread Cert.StepIn.nD Cert.StepIn.τ).loc Cert.StepIn.main_arg3))
      ∧ r.2.sem = fun _ => 0)

def quiescent_StepInIdeal [hStepInIdeal : Cert.StepInIdeal.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ r.2.sem = fun _ => 0)

def quiescent_StepInReferenceIdeal [hStepInReferenceIdeal : Cert.StepInReferenceIdeal.Facts] : Prop :=
  ∀ (m : (ℓ : Loc Cert.StepInReferenceIdeal.nD Cert.StepInReferenceIdeal.τ Cert.StepInReferenceIdeal.sig) → Buf (Elt Ideal) ℓ) (g : Dev Cert.StepInReferenceIdeal.nD → PrngReg), Pre_StepInReferenceIdeal m →
    θ_run (Cert.StepInReferenceIdeal.defs (F := Ideal)) (onTc (τ := Cert.StepInReferenceIdeal.τ) (Cert.StepInReferenceIdeal.main (F := Ideal))) ⟨m, fun _ => 0, g⟩ (fun r => (∀ c : Dev Cert.StepInReferenceIdeal.nD,
      r.2.mem ((c.tc : Thread Cert.StepInReferenceIdeal.nD Cert.StepInReferenceIdeal.τ).loc Cert.StepInReferenceIdeal.main_arg0) = m ((c.tc : Thread Cert.StepInReferenceIdeal.nD Cert.StepInReferenceIdeal.τ).loc Cert.StepInReferenceIdeal.main_arg0)
      ∧ r.2.mem ((c.tc : Thread Cert.StepInReferenceIdeal.nD Cert.StepInReferenceIdeal.τ).loc Cert.StepInReferenceIdeal.main_arg1) = m ((c.tc : Thread Cert.StepInReferenceIdeal.nD Cert.StepInReferenceIdeal.τ).loc Cert.StepInReferenceIdeal.main_arg1)
      ∧ r.2.mem ((c.tc : Thread Cert.StepInReferenceIdeal.nD Cert.StepInReferenceIdeal.τ).loc Cert.StepInReferenceIdeal.main_arg2) = m ((c.tc : Thread Cert.StepInReferenceIdeal.nD Cert.StepInReferenceIdeal.τ).loc Cert.StepInReferenceIdeal.main_arg2)
      ∧ r.2.mem ((c.tc : Thread Cert.StepInReferenceIdeal.nD Cert.StepInReferenceIdeal.τ).loc Cert.StepInReferenceIdeal.main_arg3) = m ((c.tc : Thread Cert.StepInReferenceIdeal.nD Cert.StepInReferenceIdeal.τ).loc Cert.StepInReferenceIdeal.main_arg3))
      ∧ r.2.sem = fun _ => 0)

def quiescent_StepOut [hStepOut : Cert.StepOut.Facts] : Prop :=
  ∀ (m : (ℓ : Loc Cert.StepOut.nD Cert.StepOut.τ Cert.StepOut.sig) → Buf (Elt Bits) ℓ) (g : Dev Cert.StepOut.nD → PrngReg), Pre_StepOut m →
    θ_run (Cert.StepOut.defs (F := Bits)) (onTc (τ := Cert.StepOut.τ) (Cert.StepOut.main (F := Bits))) ⟨m, fun _ => 0, g⟩ (fun r => (∀ c : Dev Cert.StepOut.nD,
      r.2.mem ((c.tc : Thread Cert.StepOut.nD Cert.StepOut.τ).loc Cert.StepOut.main_arg0) = m ((c.tc : Thread Cert.StepOut.nD Cert.StepOut.τ).loc Cert.StepOut.main_arg0)
      ∧ r.2.mem ((c.tc : Thread Cert.StepOut.nD Cert.StepOut.τ).loc Cert.StepOut.main_arg1) = m ((c.tc : Thread Cert.StepOut.nD Cert.StepOut.τ).loc Cert.StepOut.main_arg1)
      ∧ r.2.mem ((c.tc : Thread Cert.StepOut.nD Cert.StepOut.τ).loc Cert.StepOut.main_arg2) = m ((c.tc : Thread Cert.StepOut.nD Cert.StepOut.τ).loc Cert.StepOut.main_arg2)
      ∧ r.2.mem ((c.tc : Thread Cert.StepOut.nD Cert.StepOut.τ).loc Cert.StepOut.main_arg3) = m ((c.tc : Thread Cert.StepOut.nD Cert.StepOut.τ).loc Cert.StepOut.main_arg3))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ r.2.sem = fun _ => 0)

def quiescent_StepOutReferenceIdeal [hStepOutReferenceIdeal : Cert.StepOutReferenceIdeal.Facts] : Prop :=
  ∀ (m : (ℓ : Loc Cert.StepOutReferenceIdeal.nD Cert.StepOutReferenceIdeal.τ Cert.StepOutReferenceIdeal.sig) → Buf (Elt Ideal) ℓ) (g : Dev Cert.StepOutReferenceIdeal.nD → PrngReg), Pre_StepOutReferenceIdeal m →
    θ_run (Cert.StepOutReferenceIdeal.defs (F := Ideal)) (onTc (τ := Cert.StepOutReferenceIdeal.τ) (Cert.StepOutReferenceIdeal.main (F := Ideal))) ⟨m, fun _ => 0, g⟩ (fun r => (∀ c : Dev Cert.StepOutReferenceIdeal.nD,
      r.2.mem ((c.tc : Thread Cert.StepOutReferenceIdeal.nD Cert.StepOutReferenceIdeal.τ).loc Cert.StepOutReferenceIdeal.main_arg0) = m ((c.tc : Thread Cert.StepOutReferenceIdeal.nD Cert.StepOutReferenceIdeal.τ).loc Cert.StepOutReferenceIdeal.main_arg0)
      ∧ r.2.mem ((c.tc : Thread Cert.StepOutReferenceIdeal.nD Cert.StepOutReferenceIdeal.τ).loc Cert.StepOutReferenceIdeal.main_arg1) = m ((c.tc : Thread Cert.StepOutReferenceIdeal.nD Cert.StepOutReferenceIdeal.τ).loc Cert.StepOutReferenceIdeal.main_arg1)
      ∧ r.2.mem ((c.tc : Thread Cert.StepOutReferenceIdeal.nD Cert.StepOutReferenceIdeal.τ).loc Cert.StepOutReferenceIdeal.main_arg2) = m ((c.tc : Thread Cert.StepOutReferenceIdeal.nD Cert.StepOutReferenceIdeal.τ).loc Cert.StepOutReferenceIdeal.main_arg2)
      ∧ r.2.mem ((c.tc : Thread Cert.StepOutReferenceIdeal.nD Cert.StepOutReferenceIdeal.τ).loc Cert.StepOutReferenceIdeal.main_arg3) = m ((c.tc : Thread Cert.StepOutReferenceIdeal.nD Cert.StepOutReferenceIdeal.τ).loc Cert.StepOutReferenceIdeal.main_arg3))
      ∧ r.2.sem = fun _ => 0)

def quiescent_StepPool [hStepPool : Cert.StepPool.Facts] : Prop :=
  ∀ (m : (ℓ : Loc Cert.StepPool.nD Cert.StepPool.τ Cert.StepPool.sig) → Buf (Elt Bits) ℓ) (g : Dev Cert.StepPool.nD → PrngReg), Pre_StepPool m →
    θ_run (Cert.StepPool.defs (F := Bits)) (onTc (τ := Cert.StepPool.τ) (Cert.StepPool.main (F := Bits))) ⟨m, fun _ => 0, g⟩ (fun r => (∀ c : Dev Cert.StepPool.nD,
      r.2.mem ((c.tc : Thread Cert.StepPool.nD Cert.StepPool.τ).loc Cert.StepPool.main_arg0) = m ((c.tc : Thread Cert.StepPool.nD Cert.StepPool.τ).loc Cert.StepPool.main_arg0)
      ∧ r.2.mem ((c.tc : Thread Cert.StepPool.nD Cert.StepPool.τ).loc Cert.StepPool.main_arg1) = m ((c.tc : Thread Cert.StepPool.nD Cert.StepPool.τ).loc Cert.StepPool.main_arg1)
      ∧ r.2.mem ((c.tc : Thread Cert.StepPool.nD Cert.StepPool.τ).loc Cert.StepPool.main_arg2) = m ((c.tc : Thread Cert.StepPool.nD Cert.StepPool.τ).loc Cert.StepPool.main_arg2)
      ∧ r.2.mem ((c.tc : Thread Cert.StepPool.nD Cert.StepPool.τ).loc Cert.StepPool.main_arg3) = m ((c.tc : Thread Cert.StepPool.nD Cert.StepPool.τ).loc Cert.StepPool.main_arg3))
      ∧ r.2.sem = fun _ => 0)

def quiescent_StepPoolIdeal [hStepPoolIdeal : Cert.StepPoolIdeal.Facts] : Prop :=
  ∀ (m : (ℓ : Loc Cert.StepPoolIdeal.nD Cert.StepPoolIdeal.τ Cert.StepPoolIdeal.sig) → Buf (Elt Ideal) ℓ) (g : Dev Cert.StepPoolIdeal.nD → PrngReg), Pre_StepPoolIdeal m →
    θ_run (Cert.StepPoolIdeal.defs (F := Ideal)) (onTc (τ := Cert.StepPoolIdeal.τ) (Cert.StepPoolIdeal.main (F := Ideal))) ⟨m, fun _ => 0, g⟩ (fun r => (∀ c : Dev Cert.StepPoolIdeal.nD,
      r.2.mem ((c.tc : Thread Cert.StepPoolIdeal.nD Cert.StepPoolIdeal.τ).loc Cert.StepPoolIdeal.main_arg0) = m ((c.tc : Thread Cert.StepPoolIdeal.nD Cert.StepPoolIdeal.τ).loc Cert.StepPoolIdeal.main_arg0)
      ∧ r.2.mem ((c.tc : Thread Cert.StepPoolIdeal.nD Cert.StepPoolIdeal.τ).loc Cert.StepPoolIdeal.main_arg1) = m ((c.tc : Thread Cert.StepPoolIdeal.nD Cert.StepPoolIdeal.τ).loc Cert.StepPoolIdeal.main_arg1)
      ∧ r.2.mem ((c.tc : Thread Cert.StepPoolIdeal.nD Cert.StepPoolIdeal.τ).loc Cert.StepPoolIdeal.main_arg2) = m ((c.tc : Thread Cert.StepPoolIdeal.nD Cert.StepPoolIdeal.τ).loc Cert.StepPoolIdeal.main_arg2)
      ∧ r.2.mem ((c.tc : Thread Cert.StepPoolIdeal.nD Cert.StepPoolIdeal.τ).loc Cert.StepPoolIdeal.main_arg3) = m ((c.tc : Thread Cert.StepPoolIdeal.nD Cert.StepPoolIdeal.τ).loc Cert.StepPoolIdeal.main_arg3))
      ∧ r.2.sem = fun _ => 0)

def quiescent_StepPoolReferenceIdeal [hStepPoolReferenceIdeal : Cert.StepPoolReferenceIdeal.Facts] : Prop :=
  ∀ (m : (ℓ : Loc Cert.StepPoolReferenceIdeal.nD Cert.StepPoolReferenceIdeal.τ Cert.StepPoolReferenceIdeal.sig) → Buf (Elt Ideal) ℓ) (g : Dev Cert.StepPoolReferenceIdeal.nD → PrngReg), Pre_StepPoolReferenceIdeal m →
    θ_run (Cert.StepPoolReferenceIdeal.defs (F := Ideal)) (onTc (τ := Cert.StepPoolReferenceIdeal.τ) (Cert.StepPoolReferenceIdeal.main (F := Ideal))) ⟨m, fun _ => 0, g⟩ (fun r => (∀ c : Dev Cert.StepPoolReferenceIdeal.nD,
      r.2.mem ((c.tc : Thread Cert.StepPoolReferenceIdeal.nD Cert.StepPoolReferenceIdeal.τ).loc Cert.StepPoolReferenceIdeal.main_arg0) = m ((c.tc : Thread Cert.StepPoolReferenceIdeal.nD Cert.StepPoolReferenceIdeal.τ).loc Cert.StepPoolReferenceIdeal.main_arg0)
      ∧ r.2.mem ((c.tc : Thread Cert.StepPoolReferenceIdeal.nD Cert.StepPoolReferenceIdeal.τ).loc Cert.StepPoolReferenceIdeal.main_arg1) = m ((c.tc : Thread Cert.StepPoolReferenceIdeal.nD Cert.StepPoolReferenceIdeal.τ).loc Cert.StepPoolReferenceIdeal.main_arg1)
      ∧ r.2.mem ((c.tc : Thread Cert.StepPoolReferenceIdeal.nD Cert.StepPoolReferenceIdeal.τ).loc Cert.StepPoolReferenceIdeal.main_arg2) = m ((c.tc : Thread Cert.StepPoolReferenceIdeal.nD Cert.StepPoolReferenceIdeal.τ).loc Cert.StepPoolReferenceIdeal.main_arg2)
      ∧ r.2.mem ((c.tc : Thread Cert.StepPoolReferenceIdeal.nD Cert.StepPoolReferenceIdeal.τ).loc Cert.StepPoolReferenceIdeal.main_arg3) = m ((c.tc : Thread Cert.StepPoolReferenceIdeal.nD Cert.StepPoolReferenceIdeal.τ).loc Cert.StepPoolReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)) (v3 : (c : Dev Cert.KernelIdeal.nD) → Buf (Elt Ideal) ((c.tc : Thread Cert.KernelIdeal.nD Cert.KernelIdeal.τ).loc Cert.KernelIdeal.main_v50_3)) (v4 : (c : Dev Cert.KernelIdeal.nD) → Buf (Elt Ideal) ((c.tc : Thread Cert.KernelIdeal.nD Cert.KernelIdeal.τ).loc Cert.KernelIdeal.main_v50_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_v50_3) = v3 c
          ∧ r.2.mem ((c.tc : Thread Cert.KernelIdeal.nD Cert.KernelIdeal.τ).loc Cert.KernelIdeal.main_v50_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_v207) = v1 c
          ∧ r.2.mem ((c.tc : Thread Cert.ReferenceIdeal.nD Cert.ReferenceIdeal.τ).loc Cert.ReferenceIdeal.main_v208) = v2 c
          ∧ r.2.mem ((c.tc : Thread Cert.ReferenceIdeal.nD Cert.ReferenceIdeal.τ).loc Cert.ReferenceIdeal.main_v209) = v3 c
          ∧ r.2.mem ((c.tc : Thread Cert.ReferenceIdeal.nD Cert.ReferenceIdeal.τ).loc Cert.ReferenceIdeal.main_v205) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal_pre_finite [hFfnIdeal : Cert.FfnIdeal.Facts] [hFfnReferenceIdeal : Cert.FfnReferenceIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_finite m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v26_0)) (v1 : (c : Dev Cert.FfnIdeal.nD) → Buf (Elt Ideal) ((c.tc : Thread Cert.FfnIdeal.nD Cert.FfnIdeal.τ).loc Cert.FfnIdeal.main_v26_1)) (v2 : (c : Dev Cert.FfnIdeal.nD) → Buf (Elt Ideal) ((c.tc : Thread Cert.FfnIdeal.nD Cert.FfnIdeal.τ).loc Cert.FfnIdeal.main_v26_2)) (v3 : (c : Dev Cert.FfnIdeal.nD) → Buf (Elt Ideal) ((c.tc : Thread Cert.FfnIdeal.nD Cert.FfnIdeal.τ).loc Cert.FfnIdeal.main_v26_3)) (v4 : (c : Dev Cert.FfnIdeal.nD) → Buf (Elt Ideal) ((c.tc : Thread Cert.FfnIdeal.nD Cert.FfnIdeal.τ).loc Cert.FfnIdeal.main_v26_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v26_0) = v0 c
          ∧ r.2.mem ((c.tc : Thread Cert.FfnIdeal.nD Cert.FfnIdeal.τ).loc Cert.FfnIdeal.main_v26_1) = v1 c
          ∧ r.2.mem ((c.tc : Thread Cert.FfnIdeal.nD Cert.FfnIdeal.τ).loc Cert.FfnIdeal.main_v26_2) = v2 c
          ∧ r.2.mem ((c.tc : Thread Cert.FfnIdeal.nD Cert.FfnIdeal.τ).loc Cert.FfnIdeal.main_v26_3) = v3 c
          ∧ r.2.mem ((c.tc : Thread Cert.FfnIdeal.nD Cert.FfnIdeal.τ).loc Cert.FfnIdeal.main_v26_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v123) = v0 c
          ∧ r.2.mem ((c.tc : Thread Cert.FfnReferenceIdeal.nD Cert.FfnReferenceIdeal.τ).loc Cert.FfnReferenceIdeal.main_v124) = v1 c
          ∧ r.2.mem ((c.tc : Thread Cert.FfnReferenceIdeal.nD Cert.FfnReferenceIdeal.τ).loc Cert.FfnReferenceIdeal.main_v125) = v2 c
          ∧ r.2.mem ((c.tc : Thread Cert.FfnReferenceIdeal.nD Cert.FfnReferenceIdeal.τ).loc Cert.FfnReferenceIdeal.main_v126) = v3 c
          ∧ r.2.mem ((c.tc : Thread Cert.FfnReferenceIdeal.nD Cert.FfnReferenceIdeal.τ).loc Cert.FfnReferenceIdeal.main_v122) = v4 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_FfnFirst_FfnFirstIdeal : Prop :=
  True

def algebraic_FfnFirstIdeal_FfnFirstReferenceIdeal_pre_finite [hFfnFirstIdeal : Cert.FfnFirstIdeal.Facts] [hFfnFirstReferenceIdeal : Cert.FfnFirstReferenceIdeal.Facts] [hPre_finite : Cert.Pre_finite.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstReferenceIdeal.nD Cert.FfnFirstReferenceIdeal.τ Cert.FfnFirstReferenceIdeal.sig) → Buf (Elt Ideal) ℓ) (g' : Dev Cert.FfnFirstReferenceIdeal.nD → PrngReg), Pre_FfnFirstIdeal_finite m →
    (∀ c : Dev Cert.FfnFirstIdeal.nD,
      m' ((c.tc : Thread Cert.FfnFirstReferenceIdeal.nD Cert.FfnFirstReferenceIdeal.τ).loc Cert.FfnFirstReferenceIdeal.main_arg0) = m ((c.tc : Thread Cert.FfnFirstIdeal.nD Cert.FfnFirstIdeal.τ).loc Cert.FfnFirstIdeal.main_arg0)
      ∧ m' ((c.tc : Thread Cert.FfnFirstReferenceIdeal.nD Cert.FfnFirstReferenceIdeal.τ).loc Cert.FfnFirstReferenceIdeal.main_arg1) = m ((c.tc : Thread Cert.FfnFirstIdeal.nD Cert.FfnFirstIdeal.τ).loc Cert.FfnFirstIdeal.main_arg1)
      ∧ m' ((c.tc : Thread Cert.FfnFirstReferenceIdeal.nD Cert.FfnFirstReferenceIdeal.τ).loc Cert.FfnFirstReferenceIdeal.main_arg2) = m ((c.tc : Thread Cert.FfnFirstIdeal.nD Cert.FfnFirstIdeal.τ).loc Cert.FfnFirstIdeal.main_arg2)
      ∧ m' ((c.tc : Thread Cert.FfnFirstReferenceIdeal.nD Cert.FfnFirstReferenceIdeal.τ).loc Cert.FfnFirstReferenceIdeal.main_arg3) = m ((c.tc : Thread Cert.FfnFirstIdeal.nD Cert.FfnFirstIdeal.τ).loc Cert.FfnFirstIdeal.main_arg3)
      ∧ m' ((c.tc : Thread Cert.FfnFirstReferenceIdeal.nD Cert.FfnFirstReferenceIdeal.τ).loc Cert.FfnFirstReferenceIdeal.main_arg4) = m ((c.tc : Thread Cert.FfnFirstIdeal.nD Cert.FfnFirstIdeal.τ).loc Cert.FfnFirstIdeal.main_arg4)) →
    ∃ (v0 : (c : Dev Cert.FfnFirstIdeal.nD) → Buf (Elt Ideal) ((c.tc : Thread Cert.FfnFirstIdeal.nD Cert.FfnFirstIdeal.τ).loc Cert.FfnFirstIdeal.main_v26_0)) (v1 : (c : Dev Cert.FfnFirstIdeal.nD) → Buf (Elt Ideal) ((c.tc : Thread Cert.FfnFirstIdeal.nD Cert.FfnFirstIdeal.τ).loc Cert.FfnFirstIdeal.main_v26_1)) (v2 : (c : Dev Cert.FfnFirstIdeal.nD) → Buf (Elt Ideal) ((c.tc : Thread Cert.FfnFirstIdeal.nD Cert.FfnFirstIdeal.τ).loc Cert.FfnFirstIdeal.main_v26_2)) (v3 : (c : Dev Cert.FfnFirstIdeal.nD) → Buf (Elt Ideal) ((c.tc : Thread Cert.FfnFirstIdeal.nD Cert.FfnFirstIdeal.τ).loc Cert.FfnFirstIdeal.main_v26_3)) (v4 : (c : Dev Cert.FfnFirstIdeal.nD) → Buf (Elt Ideal) ((c.tc : Thread Cert.FfnFirstIdeal.nD Cert.FfnFirstIdeal.τ).loc Cert.FfnFirstIdeal.main_v26_4)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v26_0) = v0 c
          ∧ r.2.mem ((c.tc : Thread Cert.FfnFirstIdeal.nD Cert.FfnFirstIdeal.τ).loc Cert.FfnFirstIdeal.main_v26_1) = v1 c
          ∧ r.2.mem ((c.tc : Thread Cert.FfnFirstIdeal.nD Cert.FfnFirstIdeal.τ).loc Cert.FfnFirstIdeal.main_v26_2) = v2 c
          ∧ r.2.mem ((c.tc : Thread Cert.FfnFirstIdeal.nD Cert.FfnFirstIdeal.τ).loc Cert.FfnFirstIdeal.main_v26_3) = v3 c
          ∧ r.2.mem ((c.tc : Thread Cert.FfnFirstIdeal.nD Cert.FfnFirstIdeal.τ).loc Cert.FfnFirstIdeal.main_v26_4) = v4 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4))
      ∧ θ_run (Cert.FfnFirstReferenceIdeal.defs (F := Ideal)) (onTc (τ := Cert.FfnFirstReferenceIdeal.τ) (Cert.FfnFirstReferenceIdeal.main (F := Ideal))) ⟨m', fun _ => 0, g'⟩ (fun r => ∀ c : Dev Cert.FfnFirstReferenceIdeal.nD,
          r.2.mem ((c.tc : Thread Cert.FfnFirstReferenceIdeal.nD Cert.FfnFirstReferenceIdeal.τ).loc Cert.FfnFirstReferenceIdeal.main_v123) = v0 c
          ∧ r.2.mem ((c.tc : Thread Cert.FfnFirstReferenceIdeal.nD Cert.FfnFirstReferenceIdeal.τ).loc Cert.FfnFirstReferenceIdeal.main_v124) = v1 c
          ∧ r.2.mem ((c.tc : Thread Cert.FfnFirstReferenceIdeal.nD Cert.FfnFirstReferenceIdeal.τ).loc Cert.FfnFirstReferenceIdeal.main_v125) = v2 c
          ∧ r.2.mem ((c.tc : Thread Cert.FfnFirstReferenceIdeal.nD Cert.FfnFirstReferenceIdeal.τ).loc Cert.FfnFirstReferenceIdeal.main_v126) = v3 c
          ∧ r.2.mem ((c.tc : Thread Cert.FfnFirstReferenceIdeal.nD Cert.FfnFirstReferenceIdeal.τ).loc Cert.FfnFirstReferenceIdeal.main_v122) = v4 c
          ∧ r.2.mem ((c.tc : Thread Cert.FfnFirstReferenceIdeal.nD Cert.FfnFirstReferenceIdeal.τ).loc Cert.FfnFirstReferenceIdeal.main_arg0) = m' ((c.tc : Thread Cert.FfnFirstReferenceIdeal.nD Cert.FfnFirstReferenceIdeal.τ).loc Cert.FfnFirstReferenceIdeal.main_arg0)
          ∧ r.2.mem ((c.tc : Thread Cert.FfnFirstReferenceIdeal.nD Cert.FfnFirstReferenceIdeal.τ).loc Cert.FfnFirstReferenceIdeal.main_arg1) = m' ((c.tc : Thread Cert.FfnFirstReferenceIdeal.nD Cert.FfnFirstReferenceIdeal.τ).loc Cert.FfnFirstReferenceIdeal.main_arg1)
          ∧ r.2.mem ((c.tc : Thread Cert.FfnFirstReferenceIdeal.nD Cert.FfnFirstReferenceIdeal.τ).loc Cert.FfnFirstReferenceIdeal.main_arg2) = m' ((c.tc : Thread Cert.FfnFirstReferenceIdeal.nD Cert.FfnFirstReferenceIdeal.τ).loc Cert.FfnFirstReferenceIdeal.main_arg2)
          ∧ r.2.mem ((c.tc : Thread Cert.FfnFirstReferenceIdeal.nD Cert.FfnFirstReferenceIdeal.τ).loc Cert.FfnFirstReferenceIdeal.main_arg3) = m' ((c.tc : Thread Cert.FfnFirstReferenceIdeal.nD Cert.FfnFirstReferenceIdeal.τ).loc Cert.FfnFirstReferenceIdeal.main_arg3)
          ∧ r.2.mem ((c.tc : Thread Cert.FfnFirstReferenceIdeal.nD Cert.FfnFirstReferenceIdeal.τ).loc Cert.FfnFirstReferenceIdeal.main_arg4) = m' ((c.tc : Thread Cert.FfnFirstReferenceIdeal.nD Cert.FfnFirstReferenceIdeal.τ).loc Cert.FfnFirstReferenceIdeal.main_arg4))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)) (v3 : (c : Dev Cert.ConvIdeal.nD) → Buf (Elt Ideal) ((c.tc : Thread Cert.ConvIdeal.nD Cert.ConvIdeal.τ).loc Cert.ConvIdeal.main_v0_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_v0_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v64) = v0 c
          ∧ r.2.mem ((c.tc : Thread Cert.ConvReferenceIdeal.nD Cert.ConvReferenceIdeal.τ).loc Cert.ConvReferenceIdeal.main_v65) = v1 c
          ∧ r.2.mem ((c.tc : Thread Cert.ConvReferenceIdeal.nD Cert.ConvReferenceIdeal.τ).loc Cert.ConvReferenceIdeal.main_v48) = v2 c
          ∧ r.2.mem ((c.tc : Thread Cert.ConvReferenceIdeal.nD Cert.ConvReferenceIdeal.τ).loc Cert.ConvReferenceIdeal.main_v66) = v3 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)
      ∧ m' ((c.tc : Thread Cert.LossReferenceIdeal.nD Cert.LossReferenceIdeal.τ).loc Cert.LossReferenceIdeal.main_arg3) = m ((c.tc : Thread Cert.LossIdeal.nD Cert.LossIdeal.τ).loc Cert.LossIdeal.main_arg3)
      ∧ m' ((c.tc : Thread Cert.LossReferenceIdeal.nD Cert.LossReferenceIdeal.τ).loc Cert.LossReferenceIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)) (v4 : (c : Dev Cert.LossIdeal.nD) → Buf (Elt Ideal) ((c.tc : Thread Cert.LossIdeal.nD Cert.LossIdeal.τ).loc Cert.LossIdeal.main_v0_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_v0_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v55) = v0 c
          ∧ r.2.mem ((c.tc : Thread Cert.LossReferenceIdeal.nD Cert.LossReferenceIdeal.τ).loc Cert.LossReferenceIdeal.main_v56) = v1 c
          ∧ r.2.mem ((c.tc : Thread Cert.LossReferenceIdeal.nD Cert.LossReferenceIdeal.τ).loc Cert.LossReferenceIdeal.main_v24) = v2 c
          ∧ r.2.mem ((c.tc : Thread Cert.LossReferenceIdeal.nD Cert.LossReferenceIdeal.τ).loc Cert.LossReferenceIdeal.main_v57) = v3 c
          ∧ r.2.mem ((c.tc : Thread Cert.LossReferenceIdeal.nD Cert.LossReferenceIdeal.τ).loc Cert.LossReferenceIdeal.main_v58) = v4 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v19) = v0 c
          ∧ r.2.mem ((c.tc : Thread Cert.UpReferenceIdeal.nD Cert.UpReferenceIdeal.τ).loc Cert.UpReferenceIdeal.main_v20) = v1 c
          ∧ r.2.mem ((c.tc : Thread Cert.UpReferenceIdeal.nD Cert.UpReferenceIdeal.τ).loc Cert.UpReferenceIdeal.main_v25) = v2 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v24_0)) (v1 : (c : Dev Cert.DownIdeal.nD) → Buf (Elt Ideal) ((c.tc : Thread Cert.DownIdeal.nD Cert.DownIdeal.τ).loc Cert.DownIdeal.main_v24_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v24_0) = v0 c
          ∧ r.2.mem ((c.tc : Thread Cert.DownIdeal.nD Cert.DownIdeal.τ).loc Cert.DownIdeal.main_v24_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v40) = v0 c
          ∧ r.2.mem ((c.tc : Thread Cert.DownReferenceIdeal.nD Cert.DownReferenceIdeal.τ).loc Cert.DownReferenceIdeal.main_v24) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Pool_PoolIdeal : Prop :=
  True

def algebraic_PoolIdeal_PoolReferenceIdeal [hPoolIdeal : Cert.PoolIdeal.Facts] [hPoolReferenceIdeal : Cert.PoolReferenceIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)
      ∧ m' ((c.tc : Thread Cert.PoolReferenceIdeal.nD Cert.PoolReferenceIdeal.τ).loc Cert.PoolReferenceIdeal.main_arg2) = m ((c.tc : Thread Cert.PoolIdeal.nD Cert.PoolIdeal.τ).loc Cert.PoolIdeal.main_arg2)
      ∧ m' ((c.tc : Thread Cert.PoolReferenceIdeal.nD Cert.PoolReferenceIdeal.τ).loc Cert.PoolReferenceIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v0)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v89) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3))

def preserves_PoolBack_PoolBackIdeal : Prop :=
  True

def algebraic_PoolBackIdeal_PoolBackReferenceIdeal [hPoolBackIdeal : Cert.PoolBackIdeal.Facts] [hPoolBackReferenceIdeal : Cert.PoolBackReferenceIdeal.Facts] : Prop :=
  ∀ (m : (ℓ : Loc Cert.PoolBackIdeal.nD Cert.PoolBackIdeal.τ Cert.PoolBackIdeal.sig) → Buf (Elt Ideal) ℓ) (g : Dev Cert.PoolBackIdeal.nD → PrngReg)
    (m' : (ℓ : Loc Cert.PoolBackReferenceIdeal.nD Cert.PoolBackReferenceIdeal.τ Cert.PoolBackReferenceIdeal.sig) → Buf (Elt Ideal) ℓ) (g' : Dev Cert.PoolBackReferenceIdeal.nD → PrngReg), Pre_PoolBackIdeal m →
    (∀ c : Dev Cert.PoolBackIdeal.nD,
      m' ((c.tc : Thread Cert.PoolBackReferenceIdeal.nD Cert.PoolBackReferenceIdeal.τ).loc Cert.PoolBackReferenceIdeal.main_arg0) = m ((c.tc : Thread Cert.PoolBackIdeal.nD Cert.PoolBackIdeal.τ).loc Cert.PoolBackIdeal.main_arg0)
      ∧ m' ((c.tc : Thread Cert.PoolBackReferenceIdeal.nD Cert.PoolBackReferenceIdeal.τ).loc Cert.PoolBackReferenceIdeal.main_arg1) = m ((c.tc : Thread Cert.PoolBackIdeal.nD Cert.PoolBackIdeal.τ).loc Cert.PoolBackIdeal.main_arg1)
      ∧ m' ((c.tc : Thread Cert.PoolBackReferenceIdeal.nD Cert.PoolBackReferenceIdeal.τ).loc Cert.PoolBackReferenceIdeal.main_arg2) = m ((c.tc : Thread Cert.PoolBackIdeal.nD Cert.PoolBackIdeal.τ).loc Cert.PoolBackIdeal.main_arg2)
      ∧ m' ((c.tc : Thread Cert.PoolBackReferenceIdeal.nD Cert.PoolBackReferenceIdeal.τ).loc Cert.PoolBackReferenceIdeal.main_arg3) = m ((c.tc : Thread Cert.PoolBackIdeal.nD Cert.PoolBackIdeal.τ).loc Cert.PoolBackIdeal.main_arg3)
      ∧ m' ((c.tc : Thread Cert.PoolBackReferenceIdeal.nD Cert.PoolBackReferenceIdeal.τ).loc Cert.PoolBackReferenceIdeal.main_arg4) = m ((c.tc : Thread Cert.PoolBackIdeal.nD Cert.PoolBackIdeal.τ).loc Cert.PoolBackIdeal.main_arg4)) →
    ∃ (v0 : (c : Dev Cert.PoolBackIdeal.nD) → Buf (Elt Ideal) ((c.tc : Thread Cert.PoolBackIdeal.nD Cert.PoolBackIdeal.τ).loc Cert.PoolBackIdeal.main_v0_0)) (v1 : (c : Dev Cert.PoolBackIdeal.nD) → Buf (Elt Ideal) ((c.tc : Thread Cert.PoolBackIdeal.nD Cert.PoolBackIdeal.τ).loc Cert.PoolBackIdeal.main_v0_1)) (v2 : (c : Dev Cert.PoolBackIdeal.nD) → Buf (Elt Ideal) ((c.tc : Thread Cert.PoolBackIdeal.nD Cert.PoolBackIdeal.τ).loc Cert.PoolBackIdeal.main_v0_2)),
      θ_run (Cert.PoolBackIdeal.defs (F := Ideal)) (onTc (τ := Cert.PoolBackIdeal.τ) (Cert.PoolBackIdeal.main (F := Ideal))) ⟨m, fun _ => 0, g⟩ (fun r => ∀ c : Dev Cert.PoolBackIdeal.nD,
          r.2.mem ((c.tc : Thread Cert.PoolBackIdeal.nD Cert.PoolBackIdeal.τ).loc Cert.PoolBackIdeal.main_v0_0) = v0 c
          ∧ r.2.mem ((c.tc : Thread Cert.PoolBackIdeal.nD Cert.PoolBackIdeal.τ).loc Cert.PoolBackIdeal.main_v0_1) = v1 c
          ∧ r.2.mem ((c.tc : Thread Cert.PoolBackIdeal.nD Cert.PoolBackIdeal.τ).loc Cert.PoolBackIdeal.main_v0_2) = v2 c
          ∧ r.2.mem ((c.tc : Thread Cert.PoolBackIdeal.nD Cert.PoolBackIdeal.τ).loc Cert.PoolBackIdeal.main_arg0) = m ((c.tc : Thread Cert.PoolBackIdeal.nD Cert.PoolBackIdeal.τ).loc Cert.PoolBackIdeal.main_arg0)
          ∧ r.2.mem ((c.tc : Thread Cert.PoolBackIdeal.nD Cert.PoolBackIdeal.τ).loc Cert.PoolBackIdeal.main_arg1) = m ((c.tc : Thread Cert.PoolBackIdeal.nD Cert.PoolBackIdeal.τ).loc Cert.PoolBackIdeal.main_arg1)
          ∧ r.2.mem ((c.tc : Thread Cert.PoolBackIdeal.nD Cert.PoolBackIdeal.τ).loc Cert.PoolBackIdeal.main_arg2) = m ((c.tc : Thread Cert.PoolBackIdeal.nD Cert.PoolBackIdeal.τ).loc Cert.PoolBackIdeal.main_arg2)
          ∧ r.2.mem ((c.tc : Thread Cert.PoolBackIdeal.nD Cert.PoolBackIdeal.τ).loc Cert.PoolBackIdeal.main_arg3) = m ((c.tc : Thread Cert.PoolBackIdeal.nD Cert.PoolBackIdeal.τ).loc Cert.PoolBackIdeal.main_arg3)
          ∧ r.2.mem ((c.tc : Thread Cert.PoolBackIdeal.nD Cert.PoolBackIdeal.τ).loc Cert.PoolBackIdeal.main_arg4) = m ((c.tc : Thread Cert.PoolBackIdeal.nD Cert.PoolBackIdeal.τ).loc Cert.PoolBackIdeal.main_arg4))
      ∧ θ_run (Cert.PoolBackReferenceIdeal.defs (F := Ideal)) (onTc (τ := Cert.PoolBackReferenceIdeal.τ) (Cert.PoolBackReferenceIdeal.main (F := Ideal))) ⟨m', fun _ => 0, g'⟩ (fun r => ∀ c : Dev Cert.PoolBackReferenceIdeal.nD,
          r.2.mem ((c.tc : Thread Cert.PoolBackReferenceIdeal.nD Cert.PoolBackReferenceIdeal.τ).loc Cert.PoolBackReferenceIdeal.main_v196) = v0 c
          ∧ r.2.mem ((c.tc : Thread Cert.PoolBackReferenceIdeal.nD Cert.PoolBackReferenceIdeal.τ).loc Cert.PoolBackReferenceIdeal.main_v142) = v1 c
          ∧ r.2.mem ((c.tc : Thread Cert.PoolBackReferenceIdeal.nD Cert.PoolBackReferenceIdeal.τ).loc Cert.PoolBackReferenceIdeal.main_v195) = v2 c
          ∧ r.2.mem ((c.tc : Thread Cert.PoolBackReferenceIdeal.nD Cert.PoolBackReferenceIdeal.τ).loc Cert.PoolBackReferenceIdeal.main_arg0) = m' ((c.tc : Thread Cert.PoolBackReferenceIdeal.nD Cert.PoolBackReferenceIdeal.τ).loc Cert.PoolBackReferenceIdeal.main_arg0)
          ∧ r.2.mem ((c.tc : Thread Cert.PoolBackReferenceIdeal.nD Cert.PoolBackReferenceIdeal.τ).loc Cert.PoolBackReferenceIdeal.main_arg1) = m' ((c.tc : Thread Cert.PoolBackReferenceIdeal.nD Cert.PoolBackReferenceIdeal.τ).loc Cert.PoolBackReferenceIdeal.main_arg1)
          ∧ r.2.mem ((c.tc : Thread Cert.PoolBackReferenceIdeal.nD Cert.PoolBackReferenceIdeal.τ).loc Cert.PoolBackReferenceIdeal.main_arg2) = m' ((c.tc : Thread Cert.PoolBackReferenceIdeal.nD Cert.PoolBackReferenceIdeal.τ).loc Cert.PoolBackReferenceIdeal.main_arg2)
          ∧ r.2.mem ((c.tc : Thread Cert.PoolBackReferenceIdeal.nD Cert.PoolBackReferenceIdeal.τ).loc Cert.PoolBackReferenceIdeal.main_arg3) = m' ((c.tc : Thread Cert.PoolBackReferenceIdeal.nD Cert.PoolBackReferenceIdeal.τ).loc Cert.PoolBackReferenceIdeal.main_arg3)
          ∧ r.2.mem ((c.tc : Thread Cert.PoolBackReferenceIdeal.nD Cert.PoolBackReferenceIdeal.τ).loc Cert.PoolBackReferenceIdeal.main_arg4) = m' ((c.tc : Thread Cert.PoolBackReferenceIdeal.nD Cert.PoolBackReferenceIdeal.τ).loc Cert.PoolBackReferenceIdeal.main_arg4))

def preserves_StepGateUp_StepGateUpIdeal : Prop :=
  True

def algebraic_StepGateUpIdeal_StepGateUpReferenceIdeal [hStepGateUpIdeal : Cert.StepGateUpIdeal.Facts] [hStepGateUpReferenceIdeal : Cert.StepGateUpReferenceIdeal.Facts] : Prop :=
  ∀ (m : (ℓ : Loc Cert.StepGateUpIdeal.nD Cert.StepGateUpIdeal.τ Cert.StepGateUpIdeal.sig) → Buf (Elt Ideal) ℓ) (g : Dev Cert.StepGateUpIdeal.nD → PrngReg)
    (m' : (ℓ : Loc Cert.StepGateUpReferenceIdeal.nD Cert.StepGateUpReferenceIdeal.τ Cert.StepGateUpReferenceIdeal.sig) → Buf (Elt Ideal) ℓ) (g' : Dev Cert.StepGateUpReferenceIdeal.nD → PrngReg), Pre_StepGateUpIdeal m →
    (∀ c : Dev Cert.StepGateUpIdeal.nD,
      m' ((c.tc : Thread Cert.StepGateUpReferenceIdeal.nD Cert.StepGateUpReferenceIdeal.τ).loc Cert.StepGateUpReferenceIdeal.main_arg0) = m ((c.tc : Thread Cert.StepGateUpIdeal.nD Cert.StepGateUpIdeal.τ).loc Cert.StepGateUpIdeal.main_arg0)
      ∧ m' ((c.tc : Thread Cert.StepGateUpReferenceIdeal.nD Cert.StepGateUpReferenceIdeal.τ).loc Cert.StepGateUpReferenceIdeal.main_arg1) = m ((c.tc : Thread Cert.StepGateUpIdeal.nD Cert.StepGateUpIdeal.τ).loc Cert.StepGateUpIdeal.main_arg1)
      ∧ m' ((c.tc : Thread Cert.StepGateUpReferenceIdeal.nD Cert.StepGateUpReferenceIdeal.τ).loc Cert.StepGateUpReferenceIdeal.main_arg2) = m ((c.tc : Thread Cert.StepGateUpIdeal.nD Cert.StepGateUpIdeal.τ).loc Cert.StepGateUpIdeal.main_arg2)
      ∧ m' ((c.tc : Thread Cert.StepGateUpReferenceIdeal.nD Cert.StepGateUpReferenceIdeal.τ).loc Cert.StepGateUpReferenceIdeal.main_arg3) = m ((c.tc : Thread Cert.StepGateUpIdeal.nD Cert.StepGateUpIdeal.τ).loc Cert.StepGateUpIdeal.main_arg3)) →
    ∃ (v0 : (c : Dev Cert.StepGateUpIdeal.nD) → Buf (Elt Ideal) ((c.tc : Thread Cert.StepGateUpIdeal.nD Cert.StepGateUpIdeal.τ).loc Cert.StepGateUpIdeal.main_v0_0)) (v1 : (c : Dev Cert.StepGateUpIdeal.nD) → Buf (Elt Ideal) ((c.tc : Thread Cert.StepGateUpIdeal.nD Cert.StepGateUpIdeal.τ).loc Cert.StepGateUpIdeal.main_v0_1)) (v2 : (c : Dev Cert.StepGateUpIdeal.nD) → Buf (Elt Ideal) ((c.tc : Thread Cert.StepGateUpIdeal.nD Cert.StepGateUpIdeal.τ).loc Cert.StepGateUpIdeal.main_v0_2)) (v3 : (c : Dev Cert.StepGateUpIdeal.nD) → Buf (Elt Ideal) ((c.tc : Thread Cert.StepGateUpIdeal.nD Cert.StepGateUpIdeal.τ).loc Cert.StepGateUpIdeal.main_v0_3)),
      θ_run (Cert.StepGateUpIdeal.defs (F := Ideal)) (onTc (τ := Cert.StepGateUpIdeal.τ) (Cert.StepGateUpIdeal.main (F := Ideal))) ⟨m, fun _ => 0, g⟩ (fun r => ∀ c : Dev Cert.StepGateUpIdeal.nD,
          r.2.mem ((c.tc : Thread Cert.StepGateUpIdeal.nD Cert.StepGateUpIdeal.τ).loc Cert.StepGateUpIdeal.main_v0_0) = v0 c
          ∧ r.2.mem ((c.tc : Thread Cert.StepGateUpIdeal.nD Cert.StepGateUpIdeal.τ).loc Cert.StepGateUpIdeal.main_v0_1) = v1 c
          ∧ r.2.mem ((c.tc : Thread Cert.StepGateUpIdeal.nD Cert.StepGateUpIdeal.τ).loc Cert.StepGateUpIdeal.main_v0_2) = v2 c
          ∧ r.2.mem ((c.tc : Thread Cert.StepGateUpIdeal.nD Cert.StepGateUpIdeal.τ).loc Cert.StepGateUpIdeal.main_v0_3) = v3 c
          ∧ r.2.mem ((c.tc : Thread Cert.StepGateUpIdeal.nD Cert.StepGateUpIdeal.τ).loc Cert.StepGateUpIdeal.main_arg0) = m ((c.tc : Thread Cert.StepGateUpIdeal.nD Cert.StepGateUpIdeal.τ).loc Cert.StepGateUpIdeal.main_arg0)
          ∧ r.2.mem ((c.tc : Thread Cert.StepGateUpIdeal.nD Cert.StepGateUpIdeal.τ).loc Cert.StepGateUpIdeal.main_arg1) = m ((c.tc : Thread Cert.StepGateUpIdeal.nD Cert.StepGateUpIdeal.τ).loc Cert.StepGateUpIdeal.main_arg1)
          ∧ r.2.mem ((c.tc : Thread Cert.StepGateUpIdeal.nD Cert.StepGateUpIdeal.τ).loc Cert.StepGateUpIdeal.main_arg2) = m ((c.tc : Thread Cert.StepGateUpIdeal.nD Cert.StepGateUpIdeal.τ).loc Cert.StepGateUpIdeal.main_arg2)
          ∧ r.2.mem ((c.tc : Thread Cert.StepGateUpIdeal.nD Cert.StepGateUpIdeal.τ).loc Cert.StepGateUpIdeal.main_arg3) = m ((c.tc : Thread Cert.StepGateUpIdeal.nD Cert.StepGateUpIdeal.τ).loc Cert.StepGateUpIdeal.main_arg3))
      ∧ θ_run (Cert.StepGateUpReferenceIdeal.defs (F := Ideal)) (onTc (τ := Cert.StepGateUpReferenceIdeal.τ) (Cert.StepGateUpReferenceIdeal.main (F := Ideal))) ⟨m', fun _ => 0, g'⟩ (fun r => ∀ c : Dev Cert.StepGateUpReferenceIdeal.nD,
          r.2.mem ((c.tc : Thread Cert.StepGateUpReferenceIdeal.nD Cert.StepGateUpReferenceIdeal.τ).loc Cert.StepGateUpReferenceIdeal.main_v23) = v0 c
          ∧ r.2.mem ((c.tc : Thread Cert.StepGateUpReferenceIdeal.nD Cert.StepGateUpReferenceIdeal.τ).loc Cert.StepGateUpReferenceIdeal.main_v4) = v1 c
          ∧ r.2.mem ((c.tc : Thread Cert.StepGateUpReferenceIdeal.nD Cert.StepGateUpReferenceIdeal.τ).loc Cert.StepGateUpReferenceIdeal.main_v10) = v2 c
          ∧ r.2.mem ((c.tc : Thread Cert.StepGateUpReferenceIdeal.nD Cert.StepGateUpReferenceIdeal.τ).loc Cert.StepGateUpReferenceIdeal.main_arg1) = v3 c
          ∧ r.2.mem ((c.tc : Thread Cert.StepGateUpReferenceIdeal.nD Cert.StepGateUpReferenceIdeal.τ).loc Cert.StepGateUpReferenceIdeal.main_arg0) = m' ((c.tc : Thread Cert.StepGateUpReferenceIdeal.nD Cert.StepGateUpReferenceIdeal.τ).loc Cert.StepGateUpReferenceIdeal.main_arg0)
          ∧ r.2.mem ((c.tc : Thread Cert.StepGateUpReferenceIdeal.nD Cert.StepGateUpReferenceIdeal.τ).loc Cert.StepGateUpReferenceIdeal.main_arg1) = m' ((c.tc : Thread Cert.StepGateUpReferenceIdeal.nD Cert.StepGateUpReferenceIdeal.τ).loc Cert.StepGateUpReferenceIdeal.main_arg1)
          ∧ r.2.mem ((c.tc : Thread Cert.StepGateUpReferenceIdeal.nD Cert.StepGateUpReferenceIdeal.τ).loc Cert.StepGateUpReferenceIdeal.main_arg2) = m' ((c.tc : Thread Cert.StepGateUpReferenceIdeal.nD Cert.StepGateUpReferenceIdeal.τ).loc Cert.StepGateUpReferenceIdeal.main_arg2)
          ∧ r.2.mem ((c.tc : Thread Cert.StepGateUpReferenceIdeal.nD Cert.StepGateUpReferenceIdeal.τ).loc Cert.StepGateUpReferenceIdeal.main_arg3) = m' ((c.tc : Thread Cert.StepGateUpReferenceIdeal.nD Cert.StepGateUpReferenceIdeal.τ).loc Cert.StepGateUpReferenceIdeal.main_arg3))

def preserves_StepDown_StepDownIdeal : Prop :=
  True

def algebraic_StepDownIdeal_StepDownReferenceIdeal [hStepDownIdeal : Cert.StepDownIdeal.Facts] [hStepDownReferenceIdeal : Cert.StepDownReferenceIdeal.Facts] : Prop :=
  ∀ (m : (ℓ : Loc Cert.StepDownIdeal.nD Cert.StepDownIdeal.τ Cert.StepDownIdeal.sig) → Buf (Elt Ideal) ℓ) (g : Dev Cert.StepDownIdeal.nD → PrngReg)
    (m' : (ℓ : Loc Cert.StepDownReferenceIdeal.nD Cert.StepDownReferenceIdeal.τ Cert.StepDownReferenceIdeal.sig) → Buf (Elt Ideal) ℓ) (g' : Dev Cert.StepDownReferenceIdeal.nD → PrngReg), Pre_StepDownIdeal m →
    (∀ c : Dev Cert.StepDownIdeal.nD,
      m' ((c.tc : Thread Cert.StepDownReferenceIdeal.nD Cert.StepDownReferenceIdeal.τ).loc Cert.StepDownReferenceIdeal.main_arg0) = m ((c.tc : Thread Cert.StepDownIdeal.nD Cert.StepDownIdeal.τ).loc Cert.StepDownIdeal.main_arg0)
      ∧ m' ((c.tc : Thread Cert.StepDownReferenceIdeal.nD Cert.StepDownReferenceIdeal.τ).loc Cert.StepDownReferenceIdeal.main_arg1) = m ((c.tc : Thread Cert.StepDownIdeal.nD Cert.StepDownIdeal.τ).loc Cert.StepDownIdeal.main_arg1)
      ∧ m' ((c.tc : Thread Cert.StepDownReferenceIdeal.nD Cert.StepDownReferenceIdeal.τ).loc Cert.StepDownReferenceIdeal.main_arg2) = m ((c.tc : Thread Cert.StepDownIdeal.nD Cert.StepDownIdeal.τ).loc Cert.StepDownIdeal.main_arg2)
      ∧ m' ((c.tc : Thread Cert.StepDownReferenceIdeal.nD Cert.StepDownReferenceIdeal.τ).loc Cert.StepDownReferenceIdeal.main_arg3) = m ((c.tc : Thread Cert.StepDownIdeal.nD Cert.StepDownIdeal.τ).loc Cert.StepDownIdeal.main_arg3)) →
    ∃ (v0 : (c : Dev Cert.StepDownIdeal.nD) → Buf (Elt Ideal) ((c.tc : Thread Cert.StepDownIdeal.nD Cert.StepDownIdeal.τ).loc Cert.StepDownIdeal.main_v0_0)) (v1 : (c : Dev Cert.StepDownIdeal.nD) → Buf (Elt Ideal) ((c.tc : Thread Cert.StepDownIdeal.nD Cert.StepDownIdeal.τ).loc Cert.StepDownIdeal.main_v0_1)) (v2 : (c : Dev Cert.StepDownIdeal.nD) → Buf (Elt Ideal) ((c.tc : Thread Cert.StepDownIdeal.nD Cert.StepDownIdeal.τ).loc Cert.StepDownIdeal.main_v0_2)) (v3 : (c : Dev Cert.StepDownIdeal.nD) → Buf (Elt Ideal) ((c.tc : Thread Cert.StepDownIdeal.nD Cert.StepDownIdeal.τ).loc Cert.StepDownIdeal.main_v0_3)),
      θ_run (Cert.StepDownIdeal.defs (F := Ideal)) (onTc (τ := Cert.StepDownIdeal.τ) (Cert.StepDownIdeal.main (F := Ideal))) ⟨m, fun _ => 0, g⟩ (fun r => ∀ c : Dev Cert.StepDownIdeal.nD,
          r.2.mem ((c.tc : Thread Cert.StepDownIdeal.nD Cert.StepDownIdeal.τ).loc Cert.StepDownIdeal.main_v0_0) = v0 c
          ∧ r.2.mem ((c.tc : Thread Cert.StepDownIdeal.nD Cert.StepDownIdeal.τ).loc Cert.StepDownIdeal.main_v0_1) = v1 c
          ∧ r.2.mem ((c.tc : Thread Cert.StepDownIdeal.nD Cert.StepDownIdeal.τ).loc Cert.StepDownIdeal.main_v0_2) = v2 c
          ∧ r.2.mem ((c.tc : Thread Cert.StepDownIdeal.nD Cert.StepDownIdeal.τ).loc Cert.StepDownIdeal.main_v0_3) = v3 c
          ∧ r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
          ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
          ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
          ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3))
      ∧ θ_run (Cert.StepDownReferenceIdeal.defs (F := Ideal)) (onTc (τ := Cert.StepDownReferenceIdeal.τ) (Cert.StepDownReferenceIdeal.main (F := Ideal))) ⟨m', fun _ => 0, g'⟩ (fun r => ∀ c : Dev Cert.StepDownReferenceIdeal.nD,
          r.2.mem ((c.tc : Thread Cert.StepDownReferenceIdeal.nD Cert.StepDownReferenceIdeal.τ).loc Cert.StepDownReferenceIdeal.main_v23) = v0 c
          ∧ r.2.mem ((c.tc : Thread Cert.StepDownReferenceIdeal.nD Cert.StepDownReferenceIdeal.τ).loc Cert.StepDownReferenceIdeal.main_v4) = v1 c
          ∧ r.2.mem ((c.tc : Thread Cert.StepDownReferenceIdeal.nD Cert.StepDownReferenceIdeal.τ).loc Cert.StepDownReferenceIdeal.main_v10) = v2 c
          ∧ r.2.mem ((c.tc : Thread Cert.StepDownReferenceIdeal.nD Cert.StepDownReferenceIdeal.τ).loc Cert.StepDownReferenceIdeal.main_arg1) = v3 c
          ∧ r.2.mem ((c.tc : Thread Cert.StepDownReferenceIdeal.nD Cert.StepDownReferenceIdeal.τ).loc Cert.StepDownReferenceIdeal.main_arg0) = m' ((c.tc : Thread Cert.StepDownReferenceIdeal.nD Cert.StepDownReferenceIdeal.τ).loc Cert.StepDownReferenceIdeal.main_arg0)
          ∧ r.2.mem ((c.tc : Thread Cert.StepDownReferenceIdeal.nD Cert.StepDownReferenceIdeal.τ).loc Cert.StepDownReferenceIdeal.main_arg1) = m' ((c.tc : Thread Cert.StepDownReferenceIdeal.nD Cert.StepDownReferenceIdeal.τ).loc Cert.StepDownReferenceIdeal.main_arg1)
          ∧ r.2.mem ((c.tc : Thread Cert.StepDownReferenceIdeal.nD Cert.StepDownReferenceIdeal.τ).loc Cert.StepDownReferenceIdeal.main_arg2) = m' ((c.tc : Thread Cert.StepDownReferenceIdeal.nD Cert.StepDownReferenceIdeal.τ).loc Cert.StepDownReferenceIdeal.main_arg2)
          ∧ r.2.mem ((c.tc : Thread Cert.StepDownReferenceIdeal.nD Cert.StepDownReferenceIdeal.τ).loc Cert.StepDownReferenceIdeal.main_arg3) = m' ((c.tc : Thread Cert.StepDownReferenceIdeal.nD Cert.StepDownReferenceIdeal.τ).loc Cert.StepDownReferenceIdeal.main_arg3))

def preserves_StepIn_StepInIdeal : Prop :=
  True

def algebraic_StepInIdeal_StepInReferenceIdeal [hStepInIdeal : Cert.StepInIdeal.Facts] [hStepInReferenceIdeal : Cert.StepInReferenceIdeal.Facts] : Prop :=
  ∀ (m : (ℓ : Loc Cert.StepInIdeal.nD Cert.StepInIdeal.τ Cert.StepInIdeal.sig) → Buf (Elt Ideal) ℓ) (g : Dev Cert.StepInIdeal.nD → PrngReg)
    (m' : (ℓ : Loc Cert.StepInReferenceIdeal.nD Cert.StepInReferenceIdeal.τ Cert.StepInReferenceIdeal.sig) → Buf (Elt Ideal) ℓ) (g' : Dev Cert.StepInReferenceIdeal.nD → PrngReg), Pre_StepInIdeal m →
    (∀ c : Dev Cert.StepInIdeal.nD,
      m' ((c.tc : Thread Cert.StepInReferenceIdeal.nD Cert.StepInReferenceIdeal.τ).loc Cert.StepInReferenceIdeal.main_arg0) = m ((c.tc : Thread Cert.StepInIdeal.nD Cert.StepInIdeal.τ).loc Cert.StepInIdeal.main_arg0)
      ∧ m' ((c.tc : Thread Cert.StepInReferenceIdeal.nD Cert.StepInReferenceIdeal.τ).loc Cert.StepInReferenceIdeal.main_arg1) = m ((c.tc : Thread Cert.StepInIdeal.nD Cert.StepInIdeal.τ).loc Cert.StepInIdeal.main_arg1)
      ∧ m' ((c.tc : Thread Cert.StepInReferenceIdeal.nD Cert.StepInReferenceIdeal.τ).loc Cert.StepInReferenceIdeal.main_arg2) = m ((c.tc : Thread Cert.StepInIdeal.nD Cert.StepInIdeal.τ).loc Cert.StepInIdeal.main_arg2)
      ∧ m' ((c.tc : Thread Cert.StepInReferenceIdeal.nD Cert.StepInReferenceIdeal.τ).loc Cert.StepInReferenceIdeal.main_arg3) = m ((c.tc : Thread Cert.StepInIdeal.nD Cert.StepInIdeal.τ).loc Cert.StepInIdeal.main_arg3)) →
    ∃ (v0 : (c : Dev Cert.StepInIdeal.nD) → Buf (Elt Ideal) ((c.tc : Thread Cert.StepInIdeal.nD Cert.StepInIdeal.τ).loc Cert.StepInIdeal.main_v0_0)) (v1 : (c : Dev Cert.StepInIdeal.nD) → Buf (Elt Ideal) ((c.tc : Thread Cert.StepInIdeal.nD Cert.StepInIdeal.τ).loc Cert.StepInIdeal.main_v0_1)) (v2 : (c : Dev Cert.StepInIdeal.nD) → Buf (Elt Ideal) ((c.tc : Thread Cert.StepInIdeal.nD Cert.StepInIdeal.τ).loc Cert.StepInIdeal.main_v0_2)) (v3 : (c : Dev Cert.StepInIdeal.nD) → Buf (Elt Ideal) ((c.tc : Thread Cert.StepInIdeal.nD Cert.StepInIdeal.τ).loc Cert.StepInIdeal.main_v0_3)),
      θ_run (Cert.StepInIdeal.defs (F := Ideal)) (onTc (τ := Cert.StepInIdeal.τ) (Cert.StepInIdeal.main (F := Ideal))) ⟨m, fun _ => 0, g⟩ (fun r => ∀ c : Dev Cert.StepInIdeal.nD,
          r.2.mem ((c.tc : Thread Cert.StepInIdeal.nD Cert.StepInIdeal.τ).loc Cert.StepInIdeal.main_v0_0) = v0 c
          ∧ r.2.mem ((c.tc : Thread Cert.StepInIdeal.nD Cert.StepInIdeal.τ).loc Cert.StepInIdeal.main_v0_1) = v1 c
          ∧ r.2.mem ((c.tc : Thread Cert.StepInIdeal.nD Cert.StepInIdeal.τ).loc Cert.StepInIdeal.main_v0_2) = v2 c
          ∧ r.2.mem ((c.tc : Thread Cert.StepInIdeal.nD Cert.StepInIdeal.τ).loc Cert.StepInIdeal.main_v0_3) = v3 c
          ∧ r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ θ_run (Cert.StepInReferenceIdeal.defs (F := Ideal)) (onTc (τ := Cert.StepInReferenceIdeal.τ) (Cert.StepInReferenceIdeal.main (F := Ideal))) ⟨m', fun _ => 0, g'⟩ (fun r => ∀ c : Dev Cert.StepInReferenceIdeal.nD,
          r.2.mem ((c.tc : Thread Cert.StepInReferenceIdeal.nD Cert.StepInReferenceIdeal.τ).loc Cert.StepInReferenceIdeal.main_v23) = v0 c
          ∧ r.2.mem ((c.tc : Thread Cert.StepInReferenceIdeal.nD Cert.StepInReferenceIdeal.τ).loc Cert.StepInReferenceIdeal.main_v4) = v1 c
          ∧ r.2.mem ((c.tc : Thread Cert.StepInReferenceIdeal.nD Cert.StepInReferenceIdeal.τ).loc Cert.StepInReferenceIdeal.main_v10) = v2 c
          ∧ r.2.mem ((c.tc : Thread Cert.StepInReferenceIdeal.nD Cert.StepInReferenceIdeal.τ).loc Cert.StepInReferenceIdeal.main_arg1) = v3 c
          ∧ r.2.mem ((c.tc : Thread Cert.StepInReferenceIdeal.nD Cert.StepInReferenceIdeal.τ).loc Cert.StepInReferenceIdeal.main_arg0) = m' ((c.tc : Thread Cert.StepInReferenceIdeal.nD Cert.StepInReferenceIdeal.τ).loc Cert.StepInReferenceIdeal.main_arg0)
          ∧ r.2.mem ((c.tc : Thread Cert.StepInReferenceIdeal.nD Cert.StepInReferenceIdeal.τ).loc Cert.StepInReferenceIdeal.main_arg1) = m' ((c.tc : Thread Cert.StepInReferenceIdeal.nD Cert.StepInReferenceIdeal.τ).loc Cert.StepInReferenceIdeal.main_arg1)
          ∧ r.2.mem ((c.tc : Thread Cert.StepInReferenceIdeal.nD Cert.StepInReferenceIdeal.τ).loc Cert.StepInReferenceIdeal.main_arg2) = m' ((c.tc : Thread Cert.StepInReferenceIdeal.nD Cert.StepInReferenceIdeal.τ).loc Cert.StepInReferenceIdeal.main_arg2)
          ∧ r.2.mem ((c.tc : Thread Cert.StepInReferenceIdeal.nD Cert.StepInReferenceIdeal.τ).loc Cert.StepInReferenceIdeal.main_arg3) = m' ((c.tc : Thread Cert.StepInReferenceIdeal.nD Cert.StepInReferenceIdeal.τ).loc Cert.StepInReferenceIdeal.main_arg3))

def preserves_StepOut_StepOutIdeal : Prop :=
  True

def algebraic_StepOutIdeal_StepOutReferenceIdeal [hStepOutIdeal : Cert.StepOutIdeal.Facts] [hStepOutReferenceIdeal : Cert.StepOutReferenceIdeal.Facts] : Prop :=
  ∀ (m : (ℓ : Loc Cert.StepOutIdeal.nD Cert.StepOutIdeal.τ Cert.StepOutIdeal.sig) → Buf (Elt Ideal) ℓ) (g : Dev Cert.StepOutIdeal.nD → PrngReg)
    (m' : (ℓ : Loc Cert.StepOutReferenceIdeal.nD Cert.StepOutReferenceIdeal.τ Cert.StepOutReferenceIdeal.sig) → Buf (Elt Ideal) ℓ) (g' : Dev Cert.StepOutReferenceIdeal.nD → PrngReg), Pre_StepOutIdeal m →
    (∀ c : Dev Cert.StepOutIdeal.nD,
      m' ((c.tc : Thread Cert.StepOutReferenceIdeal.nD Cert.StepOutReferenceIdeal.τ).loc Cert.StepOutReferenceIdeal.main_arg0) = m ((c.tc : Thread Cert.StepOutIdeal.nD Cert.StepOutIdeal.τ).loc Cert.StepOutIdeal.main_arg0)
      ∧ m' ((c.tc : Thread Cert.StepOutReferenceIdeal.nD Cert.StepOutReferenceIdeal.τ).loc Cert.StepOutReferenceIdeal.main_arg1) = m ((c.tc : Thread Cert.StepOutIdeal.nD Cert.StepOutIdeal.τ).loc Cert.StepOutIdeal.main_arg1)
      ∧ m' ((c.tc : Thread Cert.StepOutReferenceIdeal.nD Cert.StepOutReferenceIdeal.τ).loc Cert.StepOutReferenceIdeal.main_arg2) = m ((c.tc : Thread Cert.StepOutIdeal.nD Cert.StepOutIdeal.τ).loc Cert.StepOutIdeal.main_arg2)
      ∧ m' ((c.tc : Thread Cert.StepOutReferenceIdeal.nD Cert.StepOutReferenceIdeal.τ).loc Cert.StepOutReferenceIdeal.main_arg3) = m ((c.tc : Thread Cert.StepOutIdeal.nD Cert.StepOutIdeal.τ).loc Cert.StepOutIdeal.main_arg3)) →
    ∃ (v0 : (c : Dev Cert.StepOutIdeal.nD) → Buf (Elt Ideal) ((c.tc : Thread Cert.StepOutIdeal.nD Cert.StepOutIdeal.τ).loc Cert.StepOutIdeal.main_v0_0)) (v1 : (c : Dev Cert.StepOutIdeal.nD) → Buf (Elt Ideal) ((c.tc : Thread Cert.StepOutIdeal.nD Cert.StepOutIdeal.τ).loc Cert.StepOutIdeal.main_v0_1)) (v2 : (c : Dev Cert.StepOutIdeal.nD) → Buf (Elt Ideal) ((c.tc : Thread Cert.StepOutIdeal.nD Cert.StepOutIdeal.τ).loc Cert.StepOutIdeal.main_v0_2)) (v3 : (c : Dev Cert.StepOutIdeal.nD) → Buf (Elt Ideal) ((c.tc : Thread Cert.StepOutIdeal.nD Cert.StepOutIdeal.τ).loc Cert.StepOutIdeal.main_v0_3)),
      θ_run (Cert.StepOutIdeal.defs (F := Ideal)) (onTc (τ := Cert.StepOutIdeal.τ) (Cert.StepOutIdeal.main (F := Ideal))) ⟨m, fun _ => 0, g⟩ (fun r => ∀ c : Dev Cert.StepOutIdeal.nD,
          r.2.mem ((c.tc : Thread Cert.StepOutIdeal.nD Cert.StepOutIdeal.τ).loc Cert.StepOutIdeal.main_v0_0) = v0 c
          ∧ r.2.mem ((c.tc : Thread Cert.StepOutIdeal.nD Cert.StepOutIdeal.τ).loc Cert.StepOutIdeal.main_v0_1) = v1 c
          ∧ r.2.mem ((c.tc : Thread Cert.StepOutIdeal.nD Cert.StepOutIdeal.τ).loc Cert.StepOutIdeal.main_v0_2) = v2 c
          ∧ r.2.mem ((c.tc : Thread Cert.StepOutIdeal.nD Cert.StepOutIdeal.τ).loc Cert.StepOutIdeal.main_v0_3) = v3 c
          ∧ r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ θ_run (Cert.StepOutReferenceIdeal.defs (F := Ideal)) (onTc (τ := Cert.StepOutReferenceIdeal.τ) (Cert.StepOutReferenceIdeal.main (F := Ideal))) ⟨m', fun _ => 0, g'⟩ (fun r => ∀ c : Dev Cert.StepOutReferenceIdeal.nD,
          r.2.mem ((c.tc : Thread Cert.StepOutReferenceIdeal.nD Cert.StepOutReferenceIdeal.τ).loc Cert.StepOutReferenceIdeal.main_v23) = v0 c
          ∧ r.2.mem ((c.tc : Thread Cert.StepOutReferenceIdeal.nD Cert.StepOutReferenceIdeal.τ).loc Cert.StepOutReferenceIdeal.main_v4) = v1 c
          ∧ r.2.mem ((c.tc : Thread Cert.StepOutReferenceIdeal.nD Cert.StepOutReferenceIdeal.τ).loc Cert.StepOutReferenceIdeal.main_v10) = v2 c
          ∧ r.2.mem ((c.tc : Thread Cert.StepOutReferenceIdeal.nD Cert.StepOutReferenceIdeal.τ).loc Cert.StepOutReferenceIdeal.main_arg1) = v3 c
          ∧ r.2.mem ((c.tc : Thread Cert.StepOutReferenceIdeal.nD Cert.StepOutReferenceIdeal.τ).loc Cert.StepOutReferenceIdeal.main_arg0) = m' ((c.tc : Thread Cert.StepOutReferenceIdeal.nD Cert.StepOutReferenceIdeal.τ).loc Cert.StepOutReferenceIdeal.main_arg0)
          ∧ r.2.mem ((c.tc : Thread Cert.StepOutReferenceIdeal.nD Cert.StepOutReferenceIdeal.τ).loc Cert.StepOutReferenceIdeal.main_arg1) = m' ((c.tc : Thread Cert.StepOutReferenceIdeal.nD Cert.StepOutReferenceIdeal.τ).loc Cert.StepOutReferenceIdeal.main_arg1)
          ∧ r.2.mem ((c.tc : Thread Cert.StepOutReferenceIdeal.nD Cert.StepOutReferenceIdeal.τ).loc Cert.StepOutReferenceIdeal.main_arg2) = m' ((c.tc : Thread Cert.StepOutReferenceIdeal.nD Cert.StepOutReferenceIdeal.τ).loc Cert.StepOutReferenceIdeal.main_arg2)
          ∧ r.2.mem ((c.tc : Thread Cert.StepOutReferenceIdeal.nD Cert.StepOutReferenceIdeal.τ).loc Cert.StepOutReferenceIdeal.main_arg3) = m' ((c.tc : Thread Cert.StepOutReferenceIdeal.nD Cert.StepOutReferenceIdeal.τ).loc Cert.StepOutReferenceIdeal.main_arg3))

def preserves_StepPool_StepPoolIdeal : Prop :=
  True

def algebraic_StepPoolIdeal_StepPoolReferenceIdeal [hStepPoolIdeal : Cert.StepPoolIdeal.Facts] [hStepPoolReferenceIdeal : Cert.StepPoolReferenceIdeal.Facts] : Prop :=
  ∀ (m : (ℓ : Loc Cert.StepPoolIdeal.nD Cert.StepPoolIdeal.τ Cert.StepPoolIdeal.sig) → Buf (Elt Ideal) ℓ) (g : Dev Cert.StepPoolIdeal.nD → PrngReg)
    (m' : (ℓ : Loc Cert.StepPoolReferenceIdeal.nD Cert.StepPoolReferenceIdeal.τ Cert.StepPoolReferenceIdeal.sig) → Buf (Elt Ideal) ℓ) (g' : Dev Cert.StepPoolReferenceIdeal.nD → PrngReg), Pre_StepPoolIdeal m →
    (∀ c : Dev Cert.StepPoolIdeal.nD,
      m' ((c.tc : Thread Cert.StepPoolReferenceIdeal.nD Cert.StepPoolReferenceIdeal.τ).loc Cert.StepPoolReferenceIdeal.main_arg0) = m ((c.tc : Thread Cert.StepPoolIdeal.nD Cert.StepPoolIdeal.τ).loc Cert.StepPoolIdeal.main_arg0)
      ∧ m' ((c.tc : Thread Cert.StepPoolReferenceIdeal.nD Cert.StepPoolReferenceIdeal.τ).loc Cert.StepPoolReferenceIdeal.main_arg1) = m ((c.tc : Thread Cert.StepPoolIdeal.nD Cert.StepPoolIdeal.τ).loc Cert.StepPoolIdeal.main_arg1)
      ∧ m' ((c.tc : Thread Cert.StepPoolReferenceIdeal.nD Cert.StepPoolReferenceIdeal.τ).loc Cert.StepPoolReferenceIdeal.main_arg2) = m ((c.tc : Thread Cert.StepPoolIdeal.nD Cert.StepPoolIdeal.τ).loc Cert.StepPoolIdeal.main_arg2)
      ∧ m' ((c.tc : Thread Cert.StepPoolReferenceIdeal.nD Cert.StepPoolReferenceIdeal.τ).loc Cert.StepPoolReferenceIdeal.main_arg3) = m ((c.tc : Thread Cert.StepPoolIdeal.nD Cert.StepPoolIdeal.τ).loc Cert.StepPoolIdeal.main_arg3)) →
    ∃ (v0 : (c : Dev Cert.StepPoolIdeal.nD) → Buf (Elt Ideal) ((c.tc : Thread Cert.StepPoolIdeal.nD Cert.StepPoolIdeal.τ).loc Cert.StepPoolIdeal.main_v0_0)) (v1 : (c : Dev Cert.StepPoolIdeal.nD) → Buf (Elt Ideal) ((c.tc : Thread Cert.StepPoolIdeal.nD Cert.StepPoolIdeal.τ).loc Cert.StepPoolIdeal.main_v0_1)) (v2 : (c : Dev Cert.StepPoolIdeal.nD) → Buf (Elt Ideal) ((c.tc : Thread Cert.StepPoolIdeal.nD Cert.StepPoolIdeal.τ).loc Cert.StepPoolIdeal.main_v0_2)) (v3 : (c : Dev Cert.StepPoolIdeal.nD) → Buf (Elt Ideal) ((c.tc : Thread Cert.StepPoolIdeal.nD Cert.StepPoolIdeal.τ).loc Cert.StepPoolIdeal.main_v0_3)),
      θ_run (Cert.StepPoolIdeal.defs (F := Ideal)) (onTc (τ := Cert.StepPoolIdeal.τ) (Cert.StepPoolIdeal.main (F := Ideal))) ⟨m, fun _ => 0, g⟩ (fun r => ∀ c : Dev Cert.StepPoolIdeal.nD,
          r.2.mem ((c.tc : Thread Cert.StepPoolIdeal.nD Cert.StepPoolIdeal.τ).loc Cert.StepPoolIdeal.main_v0_0) = v0 c
          ∧ r.2.mem ((c.tc : Thread Cert.StepPoolIdeal.nD Cert.StepPoolIdeal.τ).loc Cert.StepPoolIdeal.main_v0_1) = v1 c
          ∧ r.2.mem ((c.tc : Thread Cert.StepPoolIdeal.nD Cert.StepPoolIdeal.τ).loc Cert.StepPoolIdeal.main_v0_2) = v2 c
          ∧ r.2.mem ((c.tc : Thread Cert.StepPoolIdeal.nD Cert.StepPoolIdeal.τ).loc Cert.StepPoolIdeal.main_v0_3) = v3 c
          ∧ r.2.mem ((c.tc : Thread Cert.StepPoolIdeal.nD Cert.StepPoolIdeal.τ).loc Cert.StepPoolIdeal.main_arg0) = m ((c.tc : Thread Cert.StepPoolIdeal.nD Cert.StepPoolIdeal.τ).loc Cert.StepPoolIdeal.main_arg0)
          ∧ r.2.mem ((c.tc : Thread Cert.StepPoolIdeal.nD Cert.StepPoolIdeal.τ).loc Cert.StepPoolIdeal.main_arg1) = m ((c.tc : Thread Cert.StepPoolIdeal.nD Cert.StepPoolIdeal.τ).loc Cert.StepPoolIdeal.main_arg1)
          ∧ r.2.mem ((c.tc : Thread Cert.StepPoolIdeal.nD Cert.StepPoolIdeal.τ).loc Cert.StepPoolIdeal.main_arg2) = m ((c.tc : Thread Cert.StepPoolIdeal.nD Cert.StepPoolIdeal.τ).loc Cert.StepPoolIdeal.main_arg2)
          ∧ r.2.mem ((c.tc : Thread Cert.StepPoolIdeal.nD Cert.StepPoolIdeal.τ).loc Cert.StepPoolIdeal.main_arg3) = m ((c.tc : Thread Cert.StepPoolIdeal.nD Cert.StepPoolIdeal.τ).loc Cert.StepPoolIdeal.main_arg3))
      ∧ θ_run (Cert.StepPoolReferenceIdeal.defs (F := Ideal)) (onTc (τ := Cert.StepPoolReferenceIdeal.τ) (Cert.StepPoolReferenceIdeal.main (F := Ideal))) ⟨m', fun _ => 0, g'⟩ (fun r => ∀ c : Dev Cert.StepPoolReferenceIdeal.nD,
          r.2.mem ((c.tc : Thread Cert.StepPoolReferenceIdeal.nD Cert.StepPoolReferenceIdeal.τ).loc Cert.StepPoolReferenceIdeal.main_arg1) = v0 c
          ∧ r.2.mem ((c.tc : Thread Cert.StepPoolReferenceIdeal.nD Cert.StepPoolReferenceIdeal.τ).loc Cert.StepPoolReferenceIdeal.main_v23) = v1 c
          ∧ r.2.mem ((c.tc : Thread Cert.StepPoolReferenceIdeal.nD Cert.StepPoolReferenceIdeal.τ).loc Cert.StepPoolReferenceIdeal.main_v4) = v2 c
          ∧ r.2.mem ((c.tc : Thread Cert.StepPoolReferenceIdeal.nD Cert.StepPoolReferenceIdeal.τ).loc Cert.StepPoolReferenceIdeal.main_v10) = v3 c
          ∧ r.2.mem ((c.tc : Thread Cert.StepPoolReferenceIdeal.nD Cert.StepPoolReferenceIdeal.τ).loc Cert.StepPoolReferenceIdeal.main_arg0) = m' ((c.tc : Thread Cert.StepPoolReferenceIdeal.nD Cert.StepPoolReferenceIdeal.τ).loc Cert.StepPoolReferenceIdeal.main_arg0)
          ∧ r.2.mem ((c.tc : Thread Cert.StepPoolReferenceIdeal.nD Cert.StepPoolReferenceIdeal.τ).loc Cert.StepPoolReferenceIdeal.main_arg1) = m' ((c.tc : Thread Cert.StepPoolReferenceIdeal.nD Cert.StepPoolReferenceIdeal.τ).loc Cert.StepPoolReferenceIdeal.main_arg1)
          ∧ r.2.mem ((c.tc : Thread Cert.StepPoolReferenceIdeal.nD Cert.StepPoolReferenceIdeal.τ).loc Cert.StepPoolReferenceIdeal.main_arg2) = m' ((c.tc : Thread Cert.StepPoolReferenceIdeal.nD Cert.StepPoolReferenceIdeal.τ).loc Cert.StepPoolReferenceIdeal.main_arg2)
          ∧ r.2.mem ((c.tc : Thread Cert.StepPoolReferenceIdeal.nD Cert.StepPoolReferenceIdeal.τ).loc Cert.StepPoolReferenceIdeal.main_arg3) = m' ((c.tc : Thread Cert.StepPoolReferenceIdeal.nD Cert.StepPoolReferenceIdeal.τ).loc Cert.StepPoolReferenceIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfnFirst : Cert.FfnFirst.Facts) (hFfnFirstIdeal : Cert.FfnFirstIdeal.Facts) (hFfnFirstReferenceIdeal : Cert.FfnFirstReferenceIdeal.Facts) (hConv : Cert.Conv.Facts) (hConvIdeal : Cert.ConvIdeal.Facts) (hConvReferenceIdeal : Cert.ConvReferenceIdeal.Facts) (hLoss : Cert.Loss.Facts) (hLossIdeal : Cert.LossIdeal.Facts) (hLossReferenceIdeal : Cert.LossReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hPool : Cert.Pool.Facts) (hPoolIdeal : Cert.PoolIdeal.Facts) (hPoolReferenceIdeal : Cert.PoolReferenceIdeal.Facts) (hPoolBack : Cert.PoolBack.Facts) (hPoolBackIdeal : Cert.PoolBackIdeal.Facts) (hPoolBackReferenceIdeal : Cert.PoolBackReferenceIdeal.Facts) (hStepGateUp : Cert.StepGateUp.Facts) (hStepGateUpIdeal : Cert.StepGateUpIdeal.Facts) (hStepGateUpReferenceIdeal : Cert.StepGateUpReferenceIdeal.Facts) (hStepDown : Cert.StepDown.Facts) (hStepDownIdeal : Cert.StepDownIdeal.Facts) (hStepDownReferenceIdeal : Cert.StepDownReferenceIdeal.Facts) (hStepIn : Cert.StepIn.Facts) (hStepInIdeal : Cert.StepInIdeal.Facts) (hStepInReferenceIdeal : Cert.StepInReferenceIdeal.Facts) (hStepOut : Cert.StepOut.Facts) (hStepOutIdeal : Cert.StepOutIdeal.Facts) (hStepOutReferenceIdeal : Cert.StepOutReferenceIdeal.Facts) (hStepPool : Cert.StepPool.Facts) (hStepPoolIdeal : Cert.StepPoolIdeal.Facts) (hStepPoolReferenceIdeal : Cert.StepPoolReferenceIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnIdeal_pre_finite (hFfnIdeal := hFfnIdeal) (hPre_finite := hPre_finite)
    ∧ quiescent_FfnReferenceIdeal (hFfnReferenceIdeal := hFfnReferenceIdeal)
    ∧ quiescent_FfnReferenceIdeal_pre_finite (hFfnReferenceIdeal := hFfnReferenceIdeal) (hPre_finite := hPre_finite)
    ∧ quiescent_FfnFirst (hFfnFirst := hFfnFirst)
    ∧ quiescent_FfnFirstIdeal (hFfnFirstIdeal := hFfnFirstIdeal)
    ∧ quiescent_FfnFirstIdeal_pre_finite (hFfnFirstIdeal := hFfnFirstIdeal) (hPre_finite := hPre_finite)
    ∧ quiescent_FfnFirstReferenceIdeal (hFfnFirstReferenceIdeal := hFfnFirstReferenceIdeal)
    ∧ quiescent_FfnFirstReferenceIdeal_pre_finite (hFfnFirstReferenceIdeal := hFfnFirstReferenceIdeal) (hPre_finite := hPre_finite)
    ∧ quiescent_Conv (hConv := hConv)
    ∧ quiescent_ConvIdeal (hConvIdeal := hConvIdeal)
    ∧ quiescent_ConvReferenceIdeal (hConvReferenceIdeal := hConvReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Pool (hPool := hPool)
    ∧ quiescent_PoolIdeal (hPoolIdeal := hPoolIdeal)
    ∧ quiescent_PoolReferenceIdeal (hPoolReferenceIdeal := hPoolReferenceIdeal)
    ∧ quiescent_PoolBack (hPoolBack := hPoolBack)
    ∧ quiescent_PoolBackIdeal (hPoolBackIdeal := hPoolBackIdeal)
    ∧ quiescent_PoolBackReferenceIdeal (hPoolBackReferenceIdeal := hPoolBackReferenceIdeal)
    ∧ quiescent_StepGateUp (hStepGateUp := hStepGateUp)
    ∧ quiescent_StepGateUpIdeal (hStepGateUpIdeal := hStepGateUpIdeal)
    ∧ quiescent_StepGateUpReferenceIdeal (hStepGateUpReferenceIdeal := hStepGateUpReferenceIdeal)
    ∧ quiescent_StepDown (hStepDown := hStepDown)
    ∧ quiescent_StepDownIdeal (hStepDownIdeal := hStepDownIdeal)
    ∧ quiescent_StepDownReferenceIdeal (hStepDownReferenceIdeal := hStepDownReferenceIdeal)
    ∧ quiescent_StepIn (hStepIn := hStepIn)
    ∧ quiescent_StepInIdeal (hStepInIdeal := hStepInIdeal)
    ∧ quiescent_StepInReferenceIdeal (hStepInReferenceIdeal := hStepInReferenceIdeal)
    ∧ quiescent_StepOut (hStepOut := hStepOut)
    ∧ quiescent_StepOutIdeal (hStepOutIdeal := hStepOutIdeal)
    ∧ quiescent_StepOutReferenceIdeal (hStepOutReferenceIdeal := hStepOutReferenceIdeal)
    ∧ quiescent_StepPool (hStepPool := hStepPool)
    ∧ quiescent_StepPoolIdeal (hStepPoolIdeal := hStepPoolIdeal)
    ∧ quiescent_StepPoolReferenceIdeal (hStepPoolReferenceIdeal := hStepPoolReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal_pre_finite (hFfnIdeal := hFfnIdeal) (hFfnReferenceIdeal := hFfnReferenceIdeal) (hPre_finite := hPre_finite)
    ∧ preserves_FfnFirst_FfnFirstIdeal
    ∧ algebraic_FfnFirstIdeal_FfnFirstReferenceIdeal_pre_finite (hFfnFirstIdeal := hFfnFirstIdeal) (hFfnFirstReferenceIdeal := hFfnFirstReferenceIdeal) (hPre_finite := hPre_finite)
    ∧ preserves_Conv_ConvIdeal
    ∧ algebraic_ConvIdeal_ConvReferenceIdeal (hConvIdeal := hConvIdeal) (hConvReferenceIdeal := hConvReferenceIdeal)
    ∧ preserves_Loss_LossIdeal
    ∧ algebraic_LossIdeal_LossReferenceIdeal (hLossIdeal := hLossIdeal) (hLossReferenceIdeal := hLossReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Pool_PoolIdeal
    ∧ algebraic_PoolIdeal_PoolReferenceIdeal (hPoolIdeal := hPoolIdeal) (hPoolReferenceIdeal := hPoolReferenceIdeal)
    ∧ preserves_PoolBack_PoolBackIdeal
    ∧ algebraic_PoolBackIdeal_PoolBackReferenceIdeal (hPoolBackIdeal := hPoolBackIdeal) (hPoolBackReferenceIdeal := hPoolBackReferenceIdeal)
    ∧ preserves_StepGateUp_StepGateUpIdeal
    ∧ algebraic_StepGateUpIdeal_StepGateUpReferenceIdeal (hStepGateUpIdeal := hStepGateUpIdeal) (hStepGateUpReferenceIdeal := hStepGateUpReferenceIdeal)
    ∧ preserves_StepDown_StepDownIdeal
    ∧ algebraic_StepDownIdeal_StepDownReferenceIdeal (hStepDownIdeal := hStepDownIdeal) (hStepDownReferenceIdeal := hStepDownReferenceIdeal)
    ∧ preserves_StepIn_StepInIdeal
    ∧ algebraic_StepInIdeal_StepInReferenceIdeal (hStepInIdeal := hStepInIdeal) (hStepInReferenceIdeal := hStepInReferenceIdeal)
    ∧ preserves_StepOut_StepOutIdeal
    ∧ algebraic_StepOutIdeal_StepOutReferenceIdeal (hStepOutIdeal := hStepOutIdeal) (hStepOutReferenceIdeal := hStepOutReferenceIdeal)
    ∧ preserves_StepPool_StepPoolIdeal
    ∧ algebraic_StepPoolIdeal_StepPoolReferenceIdeal (hStepPoolIdeal := hStepPoolIdeal) (hStepPoolReferenceIdeal := hStepPoolReferenceIdeal)
-- ==== Pre_finite.lean ====
abbrev S4096x1024 : Shape := ⟨2, ![4096, 1024]⟩
abbrev S16x1024 : Shape := ⟨2, ![16, 1024]⟩
abbrev S4x1024x1408 : Shape := ⟨3, ![4, 1024, 1408]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S16x1024 : S_.BroadcastsInDim S16x1024 (![] : Fin 0 → Fin S16x1024.rank)
  reducesTo_S16x1024_S_d0_1 : S16x1024.ReducesTo [0, 1] S_
  bitsLt_bf16_f32 : FTy.bits .bf16 < FTy.bits .f32
  bcast_S_S4x1024x1408 : S_.BroadcastsInDim S4x1024x1408 (![] : Fin 0 → Fin S4x1024x1408.rank)
  reducesTo_S4x1024x1408_S_d0_1_2 : S4x1024x1408.ReducesTo [0, 1, 2] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v15 : FVec F S2816x1024 .f32) (main_v16 : FVec F S4x1024x1408 .f32) (main_cst_4 : FVec F S_ .f32) : IVec S_ 1 :=
  let main_v17 : FVec F S4x1024x1408 .f32 := broadcastInDim S4x1024x1408 ![] bcast_S_S4x1024x1408 main_cst_4
  let main_v18 : IVec S4x1024x1408 1 := cmpf .oeq main_v16 main_v17
  let main_c_5 : IVec S_ 1 := constantI S_ 1 1#1
  let main_v19 : IVec S_ 1 := (fun x v => Host.reduce IntOp.andi x v reducesTo_S4x1024x1408_S_d0_1_2 h_S_) main_v18 main_c_5
  let main_v20 : IVec S_ 1 := andi main_v13 main_v19
  let main_v21 : FVec F S2816x1024 .f32 := subf main_v15 main_v15
  let main_cst_6 : FVec F S_ .f32 := constant S_ .f32 0x00000000#32
  let main_v22 : FVec F S2816x1024 .f32 := broadcastInDim S2816x1024 ![] bcast_S_S2816x1024 main_cst_6
  let main_v23 : IVec S2816x1024 1 := cmpf .oeq main_v21 main_v22
  let main_c_7 : IVec S_ 1 := constantI S_ 1 1#1
  let main_v24 : IVec S_ 1 := (fun x v => Host.reduce IntOp.andi x v reducesTo_S2816x1024_S_d0_1 h_S_) main_v23 main_c_7
  let main_v25 : IVec S_ 1 := andi main_v20 main_v24
  main_v25

def fn {F : FTy → Type} [FloatOps F] (main_arg0 : FVec F S4096x1024 .f32) (main_arg1 : FVec F S4096x1024 .f32) (main_arg2 : FVec F S16x1024 .f32) (main_arg3 : FVec F S4x1024x1408 .bf16) (main_arg4 : FVec F S2816x1024 .bf16) : IVec S_ 1 :=
  let main_v0 : FVec F S4096x1024 .f32 := subf main_arg0 main_arg0
  let main_cst : FVec F S_ .f32 := constant S_ .f32 0x00000000#32
  let main_v1 : FVec F S4096x1024 .f32 := broadcastInDim S4096x1024 ![] bcast_S_S4096x1024 main_cst
  let main_v2 : IVec S4096x1024 1 := cmpf .oeq main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := subf main_arg1 main_arg1
  let main_cst_0 : FVec F S_ .f32 := constant S_ .f32 0x00000000#32
  let main_v5 : FVec F S4096x1024 .f32 := broadcastInDim S4096x1024 ![] bcast_S_S4096x1024 main_cst_0
  let main_v6 : IVec S4096x1024 1 := cmpf .oeq main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S16x1024 .f32 := subf main_arg2 main_arg2
  let main_cst_2 : FVec F S_ .f32 := constant S_ .f32 0x00000000#32
  let main_v10 : FVec F S16x1024 .f32 := broadcastInDim S16x1024 ![] bcast_S_S16x1024 main_cst_2
  let main_v11 : IVec S16x1024 1 := cmpf .oeq main_v9 main_v10
  let main_c_3 : IVec S_ 1 := constantI S_ 1 1#1
  let main_v12 : IVec S_ 1 := (fun x v => Host.reduce IntOp.andi x v reducesTo_S16x1024_S_d0_1 h_S_) main_v11 main_c_3
  let main_v13 : IVec S_ 1 := andi main_v8 main_v12
  let main_v14 : FVec F S4x1024x1408 .f32 := (extf .f32 · bitsLt_bf16_f32) main_arg3
  let main_v15 : FVec F S2816x1024 .f32 := (extf .f32 · bitsLt_bf16_f32) main_arg4
  let main_v16 : FVec F S4x1024x1408 .f32 := subf main_v14 main_v14
  let main_cst_4 : FVec F S_ .f32 := constant S_ .f32 0x00000000#32
  fn_part1 (F := F) main_v13 main_v15 main_v16 main_cst_4
-- ==== Kernel.lean ====
abbrev S4096x1024 : Shape := ⟨2, ![4096, 1024]⟩
abbrev S16x1024 : Shape := ⟨2, ![16, 1024]⟩
abbrev S4x1024x768 : Shape := ⟨3, ![4, 1024, 768]⟩
abbrev S1024x1024 : Shape := ⟨2, ![1024, 1024]⟩
abbrev S1024x4x768 : Shape := ⟨3, ![1024, 4, 768]⟩
abbrev S1024x3072 : Shape := ⟨2, ![1024, 3072]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩
abbrev S3x1024 : Shape := ⟨2, ![3, 1024]⟩
abbrev S2x1024 : Shape := ⟨2, ![2, 1024]⟩
abbrev S4098x1024 : Shape := ⟨2, ![4098, 1024]⟩
abbrev S8x1024 : Shape := ⟨2, ![8, 1024]⟩
abbrev S512x1024 : Shape := ⟨2, ![512, 1024]⟩
abbrev S512x3072 : Shape := ⟨2, ![512, 3072]⟩
abbrev S16x3072 : Shape := ⟨2, ![16, 3072]⟩
abbrev S520x1024 : Shape := ⟨2, ![520, 1024]⟩
abbrev S512 : Shape := ⟨1, ![512]⟩
abbrev S512x1 : Shape := ⟨2, ![512, 1]⟩
abbrev S8x3072 : Shape := ⟨2, ![8, 3072]⟩
abbrev S512x768 : Shape := ⟨2, ![512, 768]⟩
abbrev S1x1024x768 : Shape := ⟨3, ![1, 1024, 768]⟩
abbrev S1024x768 : Shape := ⟨2, ![1024, 768]⟩

abbrev nBuf : Space → Nat
  | .hbm => 64
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S16x1024, .f32⟩
  | .hbm, ⟨3, _⟩ => ⟨S4x1024x768, .bf16⟩
  | .hbm, ⟨4, _⟩ => ⟨S1024x1024, .bf16⟩
  | .hbm, ⟨5, _⟩ => ⟨S1024x4x768, .bf16⟩
  | .hbm, ⟨6, _⟩ => ⟨S1024x3072, .bf16⟩
  | .hbm, ⟨7, _⟩ => ⟨S1024x3072, .f32⟩
  | .hbm, ⟨8, _⟩ => ⟨S1x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x3072, .f32⟩
  | .hbm, ⟨27, _⟩ => ⟨S3x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S2x1024, .f32⟩
  | .hbm, ⟨34, _⟩ => ⟨S4098x1024, .f32⟩
  | .hbm, ⟨35, _⟩ => ⟨S4096x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1024x1024, .f32⟩
  | .hbm, ⟨57, _⟩ => ⟨S4096x1024, .f32⟩
  | .hbm, ⟨58, _⟩ => ⟨S4096x3072, .bf16⟩
  | .hbm, ⟨59, _⟩ => ⟨S4096x1024, .f32⟩
  | .hbm, ⟨60, _⟩ => ⟨S4096x3072, .bf16⟩
  | .hbm, ⟨61, _⟩ => ⟨S4096x1024, .bf16⟩
  | .hbm, ⟨62, _⟩ => ⟨S4096x1024, .bf16⟩
  | .hbm, ⟨63, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x3072, .bf16⟩
  | .local _ .vmem, ⟨7, _⟩ => ⟨S512x3072, .bf16⟩
  | .local _ .vmem, ⟨8, _⟩ => ⟨S16x3072, .bf16⟩
  | .local _ .vmem, ⟨9, _⟩ => ⟨S16x3072, .bf16⟩
  | .local _ .vmem, ⟨10, _⟩ => ⟨S16x1024, .f32⟩
  | .local _ .vmem, ⟨11, _⟩ => ⟨S4x1024x768, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x3072, .bf16⟩
  | .local _ .vmem, ⟨16, _⟩ => ⟨S512x3072, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S8x1024, .f32⟩
  | .local _ .vmem, ⟨22, _⟩ => ⟨S520x1024, .f32⟩
  | .local _ .vmem, ⟨23, _⟩ => ⟨S520x1024, .f32⟩
  | .local _ .vmem, ⟨24, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50_0 : Ref sig .tc := ⟨.hbm, 59, rfl⟩
abbrev main_v50_1 : Ref sig .tc := ⟨.hbm, 60, rfl⟩
abbrev main_v50_2 : Ref sig .tc := ⟨.hbm, 61, rfl⟩
abbrev main_v50_3 : Ref sig .tc := ⟨.hbm, 62, rfl⟩
abbrev main_v50_4 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
abbrev S4096x1024 : Shape := ⟨2, ![4096, 1024]⟩
abbrev S16x1024 : Shape := ⟨2, ![16, 1024]⟩
abbrev S4x1024x768 : Shape := ⟨3, ![4, 1024, 768]⟩
abbrev S1024x1024 : Shape := ⟨2, ![1024, 1024]⟩
abbrev S1024x4x768 : Shape := ⟨3, ![1024, 4, 768]⟩
abbrev S1024x3072 : Shape := ⟨2, ![1024, 3072]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩
abbrev S3x1024 : Shape := ⟨2, ![3, 1024]⟩
abbrev S2x1024 : Shape := ⟨2, ![2, 1024]⟩
abbrev S4098x1024 : Shape := ⟨2, ![4098, 1024]⟩
abbrev S8x1024 : Shape := ⟨2, ![8, 1024]⟩
abbrev S512x1024 : Shape := ⟨2, ![512, 1024]⟩
abbrev S512x3072 : Shape := ⟨2, ![512, 3072]⟩
abbrev S16x3072 : Shape := ⟨2, ![16, 3072]⟩
abbrev S520x1024 : Shape := ⟨2, ![520, 1024]⟩
abbrev S512 : Shape := ⟨1, ![512]⟩
abbrev S512x1 : Shape := ⟨2, ![512, 1]⟩
abbrev S8x3072 : Shape := ⟨2, ![8, 3072]⟩
abbrev S512x768 : Shape := ⟨2, ![512, 768]⟩
abbrev S1x1024x768 : Shape := ⟨3, ![1, 1024, 768]⟩
abbrev S1024x768 : Shape := ⟨2, ![1024, 768]⟩

abbrev nBuf : Space → Nat
  | .hbm => 64
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S16x1024, .f32⟩
  | .hbm, ⟨3, _⟩ => ⟨S4x1024x768, .bf16⟩
  | .hbm, ⟨4, _⟩ => ⟨S1024x1024, .bf16⟩
  | .hbm, ⟨5, _⟩ => ⟨S1024x4x768, .bf16⟩
  | .hbm, ⟨6, _⟩ => ⟨S1024x3072, .bf16⟩
  | .hbm, ⟨7, _⟩ => ⟨S1024x3072, .f32⟩
  | .hbm, ⟨8, _⟩ => ⟨S1x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x3072, .f32⟩
  | .hbm, ⟨27, _⟩ => ⟨S3x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S2x1024, .f32⟩
  | .hbm, ⟨34, _⟩ => ⟨S4098x1024, .f32⟩
  | .hbm, ⟨35, _⟩ => ⟨S4096x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1024x1024, .f32⟩
  | .hbm, ⟨57, _⟩ => ⟨S4096x1024, .f32⟩
  | .hbm, ⟨58, _⟩ => ⟨S4096x3072, .bf16⟩
  | .hbm, ⟨59, _⟩ => ⟨S4096x1024, .f32⟩
  | .hbm, ⟨60, _⟩ => ⟨S4096x3072, .bf16⟩
  | .hbm, ⟨61, _⟩ => ⟨S4096x1024, .bf16⟩
  | .hbm, ⟨62, _⟩ => ⟨S4096x1024, .bf16⟩
  | .hbm, ⟨63, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x3072, .bf16⟩
  | .local _ .vmem, ⟨7, _⟩ => ⟨S512x3072, .bf16⟩
  | .local _ .vmem, ⟨8, _⟩ => ⟨S16x3072, .bf16⟩
  | .local _ .vmem, ⟨9, _⟩ => ⟨S16x3072, .bf16⟩
  | .local _ .vmem, ⟨10, _⟩ => ⟨S16x1024, .f32⟩
  | .local _ .vmem, ⟨11, _⟩ => ⟨S4x1024x768, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x3072, .bf16⟩
  | .local _ .vmem, ⟨16, _⟩ => ⟨S512x3072, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S8x1024, .f32⟩
  | .local _ .vmem, ⟨22, _⟩ => ⟨S520x1024, .f32⟩
  | .local _ .vmem, ⟨23, _⟩ => ⟨S520x1024, .f32⟩
  | .local _ .vmem, ⟨24, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50_0 : Ref sig .tc := ⟨.hbm, 59, rfl⟩
abbrev main_v50_1 : Ref sig .tc := ⟨.hbm, 60, rfl⟩
abbrev main_v50_2 : Ref sig .tc := ⟨.hbm, 61, rfl⟩
abbrev main_v50_3 : Ref sig .tc := ⟨.hbm, 62, rfl⟩
abbrev main_v50_4 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4096x1024 : Shape := ⟨2, ![4096, 1024]⟩
abbrev S16x1024 : Shape := ⟨2, ![16, 1024]⟩
abbrev S4x1024x768 : Shape := ⟨3, ![4, 1024, 768]⟩
abbrev S1024x1024 : Shape := ⟨2, ![1024, 1024]⟩
abbrev S1024x4x768 : Shape := ⟨3, ![1024, 4, 768]⟩
abbrev S1024x3072 : Shape := ⟨2, ![1024, 3072]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩
abbrev S3x1024 : Shape := ⟨2, ![3, 1024]⟩
abbrev S2x1024 : Shape := ⟨2, ![2, 1024]⟩
abbrev S4098x1024 : Shape := ⟨2, ![4098, 1024]⟩
abbrev S8x1024 : Shape := ⟨2, ![8, 1024]⟩

abbrev nBuf : Space → Nat
  | .hbm => 252
  | .vmem => 0
  | .smem => 0
  | _ => 0

abbrev hbmTy0_0 (i : Nat) : BufTy := match i % 128 with
  | 0 => ⟨S4096x1024, .f32⟩
  | 1 => ⟨S4096x1024, .f32⟩
  | 2 => ⟨S16x1024, .f32⟩
  | 3 => ⟨S4x1024x768, .bf16⟩
  | 4 => ⟨S1024x1024, .bf16⟩
  | 5 => ⟨S1024x4x768, .bf16⟩
  | 6 => ⟨S1024x3072, .bf16⟩
  | 7 => ⟨S1024x3072, .f32⟩
  | 8 => ⟨S1x1024, .f32⟩
  | 9 => ⟨S1024, .f32⟩
  | 10 => ⟨S4096x1024, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S4096x3072, .f32⟩
  | 27 => ⟨S3x1024, .f32⟩
  | 28 => ⟨S4096x1024, .f32⟩
  | 29 => ⟨S4096x1024, .f32⟩
  | 30 => ⟨S4096x1024, .f32⟩
  | 31 => ⟨S4096x1024, .f32⟩
  | 32 => ⟨S_, .f32⟩
  | 33 => ⟨S2x1024, .f32⟩
  | 34 => ⟨S4098x1024, .f32⟩
  | 35 => ⟨S4096x1024, .f32⟩
  | 36 => ⟨S1x1024, .f32⟩
  | 37 => ⟨S1024, .f32⟩
  | 38 => ⟨S1x1024, .f32⟩
  | 39 => ⟨S4096x1024, .f32⟩
  | 40 => ⟨S4096x1024, .f32⟩
  | 41 => ⟨S4096x1024, .f32⟩
  | 42 => ⟨S1x1024, .f32⟩
  | 43 => ⟨S1024, .f32⟩
  | 44 => ⟨S1x1024, .f32⟩
  | 45 => ⟨S4096x1024, .f32⟩
  | 46 => ⟨S4096x1024, .f32⟩
  | 47 => ⟨S4096x1024, .f32⟩
  | 48 => ⟨S4096x1024, .f32⟩
  | 49 => ⟨S1x1024, .f32⟩
  | 50 => ⟨S1024, .f32⟩
  | 51 => ⟨S1x1024, .f32⟩
  | 52 => ⟨S4096x1024, .f32⟩
  | 53 => ⟨S4096x1024, .f32⟩
  | 54 => ⟨S4096x1024, .f32⟩
  | 55 => ⟨S4096x1024, .f32⟩
  | 56 => ⟨S1024x1024, .f32⟩
  | 57 => ⟨S4096x1024, .f32⟩
  | 58 => ⟨S1024x4x768, .bf16⟩
  | 59 => ⟨S1024x3072, .bf16⟩
  | 60 => ⟨S1024x3072, .f32⟩
  | 61 => ⟨S3x1024, .f32⟩
  | 62 => ⟨S4096x1024, .f32⟩
  | 63 => ⟨S4096x1024, .f32⟩
  | 64 => ⟨S4096x1024, .f32⟩
  | 65 => ⟨S4096x1024, .f32⟩
  | 66 => ⟨S_, .f32⟩
  | 67 => ⟨S2x1024, .f32⟩
  | 68 => ⟨S4098x1024, .f32⟩
  | 69 => ⟨S_, .f32⟩
  | 70 => ⟨S2x1024, .f32⟩
  | 71 => ⟨S4096x1024, .f32⟩
  | 72 => ⟨S1x1024, .f32⟩
  | 73 => ⟨S1024, .f32⟩
  | 74 => ⟨S1x1024, .f32⟩
  | 75 => ⟨S4096x1024, .f32⟩
  | 76 => ⟨S4096x1024, .f32⟩
  | 77 => ⟨S4096x1024, .f32⟩
  | 78 => ⟨S1x1024, .f32⟩
  | 79 => ⟨S1024, .f32⟩
  | 80 => ⟨S1x1024, .f32⟩
  | 81 => ⟨S4096x1024, .f32⟩
  | 82 => ⟨S4096x1024, .f32⟩
  | 83 => ⟨S4096x1024, .f32⟩
  | 84 => ⟨S4096x1024, .f32⟩
  | 85 => ⟨S1x1024, .f32⟩
  | 86 => ⟨S1024, .f32⟩
  | 87 => ⟨S1x1024, .f32⟩
  | 88 => ⟨S4096x1024, .f32⟩
  | 89 => ⟨S4096x1024, .f32⟩
  | 90 => ⟨S4096x1024, .f32⟩
  | 91 => ⟨S4096x1024, .f32⟩
  | 92 => ⟨S1x1024, .f32⟩
  | 93 => ⟨S1024, .f32⟩
  | 94 => ⟨S4096x1024, .f32⟩
  | 95 => ⟨S_, .f32⟩
  | 96 => ⟨S4096, .f32⟩
  | 97 => ⟨S4096x1, .f32⟩
  | 98 => ⟨S_, .f32⟩
  | 99 => ⟨S4096x1, .f32⟩
  | 100 => ⟨S4096x1, .f32⟩
  | 101 => ⟨S_, .f32⟩
  | 102 => ⟨S4096x1, .f32⟩
  | 103 => ⟨S4096x1, .f32⟩
  | 104 => ⟨S4096x1, .f32⟩
  | 105 => ⟨S4096x1, .f32⟩
  | 106 => ⟨S_, .f32⟩
  | 107 => ⟨S4096x1, .f32⟩
  | 108 => ⟨S4096x1, .f32⟩
  | 109 => ⟨S4096x1024, .f32⟩
  | 110 => ⟨S4096x1024, .f32⟩
  | 111 => ⟨S1x1024, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S_, .f32⟩
  | 118 => ⟨S1024, .f32⟩
  | 119 => ⟨S1x1024, .f32⟩
  | 120 => ⟨S4096x1024, .f32⟩
  | 121 => ⟨S4096x1024, .f32⟩
  | 122 => ⟨S_, .f32⟩
  | 123 => ⟨S1024, .f32⟩
  | 124 => ⟨S4096x1024, .f32⟩
  | 125 => ⟨S_, .f32⟩
  | 126 => ⟨S4096, .f32⟩
  | 127 => ⟨S4096x1, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1, .f32⟩
  | 3 => ⟨S_, .f32⟩
  | 4 => ⟨S4096x1, .f32⟩
  | 5 => ⟨S4096x1, .f32⟩
  | 6 => ⟨S_, .f32⟩
  | 7 => ⟨S4096, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S1024x1024, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S_, .f32⟩
  | 20 => ⟨S1024, .f32⟩
  | 21 => ⟨S1x1024, .f32⟩
  | 22 => ⟨S4096x1024, .f32⟩
  | 23 => ⟨S4096x1024, .f32⟩
  | 24 => ⟨S_, .f32⟩
  | 25 => ⟨S1024, .f32⟩
  | 26 => ⟨S1x1024, .f32⟩
  | 27 => ⟨S_, .f32⟩
  | 28 => ⟨S3x1024, .f32⟩
  | 29 => ⟨S_, .f32⟩
  | 30 => ⟨S4098x1024, .f32⟩
  | 31 => ⟨S4096x1024, .f32⟩
  | 32 => ⟨S_, .f32⟩
  | 33 => ⟨S1024, .f32⟩
  | 34 => ⟨S1x1024, .f32⟩
  | 35 => ⟨S4096x1024, .f32⟩
  | 36 => ⟨S4096x1024, .f32⟩
  | 37 => ⟨S_, .f32⟩
  | 38 => ⟨S1024, .f32⟩
  | 39 => ⟨S1x1024, .f32⟩
  | 40 => ⟨S_, .f32⟩
  | 41 => ⟨S3x1024, .f32⟩
  | 42 => ⟨S3x1024, .f32⟩
  | 43 => ⟨S_, .f32⟩
  | 44 => ⟨S4098x1024, .f32⟩
  | 45 => ⟨S4098x1024, .f32⟩
  | 46 => ⟨S4096x1024, .f32⟩
  | 47 => ⟨S_, .f32⟩
  | 48 => ⟨S1024, .f32⟩
  | 49 => ⟨S1x1024, .f32⟩
  | 50 => ⟨S4096x1024, .f32⟩
  | 51 => ⟨S4096x1024, .f32⟩
  | 52 => ⟨S_, .f32⟩
  | 53 => ⟨S1024, .f32⟩
  | 54 => ⟨S1x1024, .f32⟩
  | 55 => ⟨S_, .f32⟩
  | 56 => ⟨S3x1024, .f32⟩
  | 57 => ⟨S3x1024, .f32⟩
  | 58 => ⟨S_, .f32⟩
  | 59 => ⟨S4098x1024, .f32⟩
  | 60 => ⟨S4098x1024, .f32⟩
  | 61 => ⟨S2x1024, .f32⟩
  | 62 => ⟨S4096x1024, .f32⟩
  | 63 => ⟨S4096x1024, .f32⟩
  | 64 => ⟨S4096x1024, .f32⟩
  | 65 => ⟨S4096x3072, .f32⟩
  | 66 => ⟨S1x1024, .f32⟩
  | 67 => ⟨S1024, .f32⟩
  | 68 => ⟨S4096x1024, .f32⟩
  | 69 => ⟨S_, .f32⟩
  | 70 => ⟨S4096, .f32⟩
  | 71 => ⟨S4096x1, .f32⟩
  | 72 => ⟨S_, .f32⟩
  | 73 => ⟨S4096x1, .f32⟩
  | 74 => ⟨S4096x1, .f32⟩
  | 75 => ⟨S_, .f32⟩
  | 76 => ⟨S4096x1, .f32⟩
  | 77 => ⟨S4096x1, .f32⟩
  | 78 => ⟨S4096x1, .f32⟩
  | 79 => ⟨S4096x1, .f32⟩
  | 80 => ⟨S_, .f32⟩
  | 81 => ⟨S4096x1, .f32⟩
  | 82 => ⟨S4096x1, .f32⟩
  | 83 => ⟨S4096x1024, .f32⟩
  | 84 => ⟨S4096x1024, .f32⟩
  | 85 => ⟨S1x1024, .f32⟩
  | 86 => ⟨S4096x1024, .f32⟩
  | 87 => ⟨S4096x1024, .f32⟩
  | 88 => ⟨S4096x3072, .f32⟩
  | 89 => ⟨S4096x1024, .f32⟩
  | 90 => ⟨S4096x1024, .f32⟩
  | 91 => ⟨S_, .f32⟩
  | 92 => ⟨S1024, .f32⟩
  | 93 => ⟨S1x1024, .f32⟩
  | 94 => ⟨S4096x1024, .f32⟩
  | 95 => ⟨S4096x1024, .f32⟩
  | 96 => ⟨S_, .f32⟩
  | 97 => ⟨S1024, .f32⟩
  | 98 => ⟨S4096x1024, .f32⟩
  | 99 => ⟨S_, .f32⟩
  | 100 => ⟨S4096, .f32⟩
  | 101 => ⟨S4096x1, .f32⟩
  | 102 => ⟨S4096x1024, .f32⟩
  | 103 => ⟨S4096x1024, .f32⟩
  | 104 => ⟨S4096x1, .f32⟩
  | 105 => ⟨S_, .f32⟩
  | 106 => ⟨S4096x1, .f32⟩
  | 107 => ⟨S4096x1, .f32⟩
  | 108 => ⟨S_, .f32⟩
  | 109 => ⟨S4096, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S1x1024, .f32⟩
  | 116 => ⟨S1x1024, .f32⟩
  | 117 => ⟨S_, .f32⟩
  | 118 => ⟨S3x1024, .f32⟩
  | 119 => ⟨S8x1024, .f32⟩
  | 120 => ⟨S4096x1024, .f32⟩
  | 121 => ⟨S4096x3072, .bf16⟩
  | 122 => ⟨S4096x1024, .bf16⟩
  | 123 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_3 : Ref sig .tc := ⟨.hbm, 66, rfl⟩
abbrev main_v57 : Ref sig .tc := ⟨.hbm, 67, rfl⟩
abbrev main_v58 : Ref sig .tc := ⟨.hbm, 68, rfl⟩
abbrev main_cst_4 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_cst_5 : Ref sig .tc := ⟨.hbm, 95, rfl⟩
abbrev main_v84 : Ref sig .tc := ⟨.hbm, 96, rfl⟩
abbrev main_v85 : Ref sig .tc := ⟨.hbm, 97, rfl⟩
abbrev main_cst_6 : Ref sig .tc := ⟨.hbm, 98, rfl⟩
abbrev main_v86 : Ref sig .tc := ⟨.hbm, 99, rfl⟩
abbrev main_v87 : Ref sig .tc := ⟨.hbm, 100, rfl⟩
abbrev main_cst_7 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_cst_8 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_cst_9 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_cst_10 : Ref sig .tc := ⟨.hbm, 122, rfl⟩
abbrev main_v106 : Ref sig .tc := ⟨.hbm, 123, rfl⟩
abbrev main_v107 : Ref sig .tc := ⟨.hbm, 124, rfl⟩
abbrev main_cst_11 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_cst_12 : Ref sig .tc := ⟨.hbm, 131, rfl⟩
abbrev main_v113 : Ref sig .tc := ⟨.hbm, 132, rfl⟩
abbrev main_v114 : Ref sig .tc := ⟨.hbm, 133, rfl⟩
abbrev main_cst_13 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_cst_14 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_cst_15 : Ref sig .tc := ⟨.hbm, 152, rfl⟩
abbrev main_v131 : Ref sig .tc := ⟨.hbm, 153, rfl⟩
abbrev main_v132 : Ref sig .tc := ⟨.hbm, 154, rfl⟩
abbrev main_cst_16 : Ref sig .tc := ⟨.hbm, 155, rfl⟩
abbrev main_v133 : Ref sig .tc := ⟨.hbm, 156, rfl⟩
abbrev main_cst_17 : Ref sig .tc := ⟨.hbm, 157, rfl⟩
abbrev main_v134 : Ref sig .tc := ⟨.hbm, 158, rfl⟩
abbrev main_v135 : Ref sig .tc := ⟨.hbm, 159, rfl⟩
abbrev main_cst_18 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_cst_19 : Ref sig .tc := ⟨.hbm, 165, rfl⟩
abbrev main_v140 : Ref sig .tc := ⟨.hbm, 166, rfl⟩
abbrev main_v141 : Ref sig .tc := ⟨.hbm, 167, rfl⟩
abbrev main_cst_20 : Ref sig .tc := ⟨.hbm, 168, rfl⟩
abbrev main_v142 : Ref sig .tc := ⟨.hbm, 169, rfl⟩
abbrev main_v143 : Ref sig .tc := ⟨.hbm, 170, rfl⟩
abbrev main_cst_21 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_cst_22 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_cst_23 : Ref sig .tc := ⟨.hbm, 180, rfl⟩
abbrev main_v151 : Ref sig .tc := ⟨.hbm, 181, rfl⟩
abbrev main_v152 : Ref sig .tc := ⟨.hbm, 182, rfl⟩
abbrev main_cst_24 : Ref sig .tc := ⟨.hbm, 183, rfl⟩
abbrev main_v153 : Ref sig .tc := ⟨.hbm, 184, rfl⟩
abbrev main_v154 : Ref sig .tc := ⟨.hbm, 185, rfl⟩
abbrev main_cst_25 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_cst_26 : Ref sig .tc := ⟨.hbm, 197, rfl⟩
abbrev main_v165 : Ref sig .tc := ⟨.hbm, 198, rfl⟩
abbrev main_v166 : Ref sig .tc := ⟨.hbm, 199, rfl⟩
abbrev main_cst_27 : Ref sig .tc := ⟨.hbm, 200, rfl⟩
abbrev main_v167 : Ref sig .tc := ⟨.hbm, 201, rfl⟩
abbrev main_v168 : Ref sig .tc := ⟨.hbm, 202, rfl⟩
abbrev main_cst_28 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_cst_29 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_cst_30 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_cst_31 : Ref sig .tc := ⟨.hbm, 224, rfl⟩
abbrev main_v187 : Ref sig .tc := ⟨.hbm, 225, rfl⟩
abbrev main_v188 : Ref sig .tc := ⟨.hbm, 226, rfl⟩
abbrev main_cst_32 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_cst_33 : Ref sig .tc := ⟨.hbm, 233, rfl⟩
abbrev main_v194 : Ref sig .tc := ⟨.hbm, 234, rfl⟩
abbrev main_v195 : Ref sig .tc := ⟨.hbm, 235, rfl⟩
abbrev main_cst_34 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_cst_35 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩

abbrev nD : Nat := 1
abbrev τ : Topo := Topo.v7x

variable {F : FTy → Type} [FloatOps F]
-- ==== Ffn.lean ====
abbrev S4096x1024 : Shape := ⟨2, ![4096, 1024]⟩
abbrev S16x1024 : Shape := ⟨2, ![16, 1024]⟩
abbrev S4x1024x1408 : Shape := ⟨3, ![4, 1024, 1408]⟩
abbrev S2816x1024 : Shape := ⟨2, ![2816, 1024]⟩
abbrev S1x1024 : Shape := ⟨2, ![1, 1024]⟩
abbrev S1024 : Shape := ⟨1, ![1024]⟩
abbrev S1024x4x1408 : Shape := ⟨3, ![1024, 4, 1408]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S8x1024 : Shape := ⟨2, ![8, 1024]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S1408x1024 : Shape := ⟨2, ![1408, 1024]⟩
abbrev S256x1408 : Shape := ⟨2, ![256, 1408]⟩
abbrev S1x1024x1408 : Shape := ⟨3, ![1, 1024, 1408]⟩
abbrev S1024x1408 : Shape := ⟨2, ![1024, 1408]⟩

abbrev nBuf : Space → Nat
  | .hbm => 47
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S16x1024, .f32⟩
  | .hbm, ⟨3, _⟩ => ⟨S4x1024x1408, .bf16⟩
  | .hbm, ⟨4, _⟩ => ⟨S2816x1024, .bf16⟩
  | .hbm, ⟨5, _⟩ => ⟨S1x1024, .f32⟩
  | .hbm, ⟨6, _⟩ => ⟨S1024, .f32⟩
  | .hbm, ⟨7, _⟩ => ⟨S1024x4x1408, .bf16⟩
  | .hbm, ⟨8, _⟩ => ⟨S1024x5632, .bf16⟩
  | .hbm, ⟨9, _⟩ => ⟨S1024x5632, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S2816x1024, .f32⟩
  | .hbm, ⟨40, _⟩ => ⟨S4096x1024, .f32⟩
  | .hbm, ⟨41, _⟩ => ⟨S4096x5632, .bf16⟩
  | .hbm, ⟨42, _⟩ => ⟨S4096x1024, .f32⟩
  | .hbm, ⟨43, _⟩ => ⟨S4096x5632, .bf16⟩
  | .hbm, ⟨44, _⟩ => ⟨S4096x1024, .bf16⟩
  | .hbm, ⟨45, _⟩ => ⟨S4096x2816, .bf16⟩
  | .hbm, ⟨46, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x5632, .bf16⟩
  | .local _ .vmem, ⟨7, _⟩ => ⟨S256x5632, .bf16⟩
  | .local _ .vmem, ⟨8, _⟩ => ⟨S16x1024, .f32⟩
  | .local _ .vmem, ⟨9, _⟩ => ⟨S4x1024x1408, .bf16⟩
  | .local _ .vmem, ⟨10, _⟩ => ⟨S2816x1024, .bf16⟩
  | .local _ .vmem, ⟨11, _⟩ => ⟨S256x1024, .f32⟩
  | .local _ .vmem, ⟨12, _⟩ => ⟨S256x1024, .f32⟩
  | .local _ .vmem, ⟨13, _⟩ => ⟨S256x5632, .bf16⟩
  | .local _ .vmem, ⟨14, _⟩ => ⟨S256x5632, .bf16⟩
  | .local _ .vmem, ⟨15, _⟩ => ⟨S256x1024, .bf16⟩
  | .local _ .vmem, ⟨16, _⟩ => ⟨S256x1024, .bf16⟩
  | .local _ .vmem, ⟨17, _⟩ => ⟨S256x2816, .bf16⟩
  | .local _ .vmem, ⟨18, _⟩ => ⟨S256x2816, .bf16⟩
  | .local _ .vmem, ⟨19, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26_0 : Ref sig .tc := ⟨.hbm, 42, rfl⟩
abbrev main_v26_1 : Ref sig .tc := ⟨.hbm, 43, rfl⟩
abbrev main_v26_2 : Ref sig .tc := ⟨.hbm, 44, rfl⟩
abbrev main_v26_3 : Ref sig .tc := ⟨.hbm, 45, rfl⟩
abbrev main_v26_4 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnReferenceIdeal.lean ====
abbrev S4096x1024 : Shape := ⟨2, ![4096, 1024]⟩
abbrev S16x1024 : Shape := ⟨2, ![16, 1024]⟩
abbrev S4x1024x1408 : Shape := ⟨3, ![4, 1024, 1408]⟩
abbrev S2816x1024 : Shape := ⟨2, ![2816, 1024]⟩
abbrev S1x1024 : Shape := ⟨2, ![1, 1024]⟩
abbrev S1024 : Shape := ⟨1, ![1024]⟩
abbrev S1024x4x1408 : Shape := ⟨3, ![1024, 4, 1408]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S6x1024 : Shape := ⟨2, ![6, 1024]⟩
abbrev S8x1024 : Shape := ⟨2, ![8, 1024]⟩

abbrev nBuf : Space → Nat
  | .hbm => 177
  | .vmem => 0
  | .smem => 0
  | _ => 0

abbrev hbmTy0_0 (i : Nat) : BufTy := match i % 128 with
  | 0 => ⟨S4096x1024, .f32⟩
  | 1 => ⟨S4096x1024, .f32⟩
  | 2 => ⟨S16x1024, .f32⟩
  | 3 => ⟨S4x1024x1408, .bf16⟩
  | 4 => ⟨S2816x1024, .bf16⟩
  | 5 => ⟨S1x1024, .f32⟩
  | 6 => ⟨S1024, .f32⟩
  | 7 => ⟨S1024x4x1408, .bf16⟩
  | 8 => ⟨S1024x5632, .bf16⟩
  | 9 => ⟨S1024x5632, .f32⟩
  | 10 => ⟨S4096x1024, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S4096x5632, .f32⟩
  | 27 => ⟨S4096x2816, .f32⟩
  | 28 => ⟨S4096x2816, .f32⟩
  | 29 => ⟨S4096x2816, .f32⟩
  | 30 => ⟨S4096x2816, .f32⟩
  | 31 => ⟨S_, .f32⟩
  | 32 => ⟨S4096x2816, .f32⟩
  | 33 => ⟨S4096x2816, .f32⟩
  | 34 => ⟨S_, .f32⟩
  | 35 => ⟨S4096x2816, .f32⟩
  | 36 => ⟨S4096x2816, .f32⟩
  | 37 => ⟨S4096x2816, .f32⟩
  | 38 => ⟨S4096x2816, .f32⟩
  | 39 => ⟨S2816x1024, .f32⟩
  | 40 => ⟨S4096x1024, .f32⟩
  | 41 => ⟨S1024x4x1408, .bf16⟩
  | 42 => ⟨S1024x5632, .bf16⟩
  | 43 => ⟨S1024x5632, .f32⟩
  | 44 => ⟨S4096x2816, .f32⟩
  | 45 => ⟨S4096x2816, .f32⟩
  | 46 => ⟨S4096x2816, .f32⟩
  | 47 => ⟨S4096x2816, .f32⟩
  | 48 => ⟨S_, .f32⟩
  | 49 => ⟨S4096x2816, .f32⟩
  | 50 => ⟨S4096x2816, .f32⟩
  | 51 => ⟨S_, .f32⟩
  | 52 => ⟨S4096x2816, .f32⟩
  | 53 => ⟨S4096x2816, .f32⟩
  | 54 => ⟨S_, .f32⟩
  | 55 => ⟨S4096x2816, .f32⟩
  | 56 => ⟨S4096x2816, .f32⟩
  | 57 => ⟨S4096x2816, .f32⟩
  | 58 => ⟨S4096x2816, .f32⟩
  | 59 => ⟨S4096x2816, .f32⟩
  | 60 => ⟨S1x1024, .f32⟩
  | 61 => ⟨S1024, .f32⟩
  | 62 => ⟨S4096x1024, .f32⟩
  | 63 => ⟨S_, .f32⟩
  | 64 => ⟨S4096, .f32⟩
  | 65 => ⟨S4096x1, .f32⟩
  | 66 => ⟨S_, .f32⟩
  | 67 => ⟨S4096x1, .f32⟩
  | 68 => ⟨S4096x1, .f32⟩
  | 69 => ⟨S_, .f32⟩
  | 70 => ⟨S4096x1, .f32⟩
  | 71 => ⟨S4096x1, .f32⟩
  | 72 => ⟨S4096x1, .f32⟩
  | 73 => ⟨S4096x1, .f32⟩
  | 74 => ⟨S_, .f32⟩
  | 75 => ⟨S4096x1, .f32⟩
  | 76 => ⟨S4096x1, .f32⟩
  | 77 => ⟨S4096x1024, .f32⟩
  | 78 => ⟨S4096x1024, .f32⟩
  | 79 => ⟨S1x1024, .f32⟩
  | 80 => ⟨S4096x1024, .f32⟩
  | 81 => ⟨S4096x1024, .f32⟩
  | 82 => ⟨S4096x1024, .f32⟩
  | 83 => ⟨S4096x1024, .f32⟩
  | 84 => ⟨S4096x1024, .f32⟩
  | 85 => ⟨S_, .f32⟩
  | 86 => ⟨S1024, .f32⟩
  | 87 => ⟨S1x1024, .f32⟩
  | 88 => ⟨S4096x1024, .f32⟩
  | 89 => ⟨S4096x1024, .f32⟩
  | 90 => ⟨S_, .f32⟩
  | 91 => ⟨S1024, .f32⟩
  | 92 => ⟨S4096x1024, .f32⟩
  | 93 => ⟨S_, .f32⟩
  | 94 => ⟨S4096, .f32⟩
  | 95 => ⟨S4096x1, .f32⟩
  | 96 => ⟨S4096x1024, .f32⟩
  | 97 => ⟨S4096x1024, .f32⟩
  | 98 => ⟨S4096x1, .f32⟩
  | 99 => ⟨S_, .f32⟩
  | 100 => ⟨S4096x1, .f32⟩
  | 101 => ⟨S4096x1, .f32⟩
  | 102 => ⟨S_, .f32⟩
  | 103 => ⟨S4096, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S2816x1024, .f32⟩
  | 110 => ⟨S4096x1024, .f32⟩
  | 111 => ⟨S4096x2816, .f32⟩
  | 112 => ⟨S4096x2816, .f32⟩
  | 113 => ⟨S4096x2816, .f32⟩
  | 114 => ⟨S4096x2816, .f32⟩
  | 115 => ⟨S4096x2816, .f32⟩
  | 116 => ⟨S4096x2816, .f32⟩
  | 117 => ⟨S4096x2816, .f32⟩
  | 118 => ⟨S4096x5632, .f32⟩
  | 119 => ⟨S1x1024, .f32⟩
  | 120 => ⟨S1024, .f32⟩
  | 121 => ⟨S4096x1024, .f32⟩
  | 122 => ⟨S_, .f32⟩
  | 123 => ⟨S4096, .f32⟩
  | 124 => ⟨S4096x1, .f32⟩
  | 125 => ⟨S_, .f32⟩
  | 126 => ⟨S4096x1, .f32⟩
  | 127 => ⟨S4096x1, .f32⟩
  | _ => ⟨S4096x1024, .f32⟩

abbrev hbmTy0_1 (i : Nat) : BufTy := match i % 128 with
  | 0 => ⟨S_, .f32⟩
  | 1 => ⟨S4096x1, .f32⟩
  | 2 => ⟨S4096x1, .f32⟩
  | 3 => ⟨S4096x1, .f32⟩
  | 4 => ⟨S4096x1, .f32⟩
  | 5 => ⟨S_, .f32⟩
  | 6 => ⟨S4096x1, .f32⟩
  | 7 => ⟨S4096x1, .f32⟩
  | 8 => ⟨S4096x1024, .f32⟩
  | 9 => ⟨S4096x1024, .f32⟩
  | 10 => ⟨S1x1024, .f32⟩
  | 11 => ⟨S4096x1024, .f32⟩
  | 12 => ⟨S4096x1024, .f32⟩
  | 13 => ⟨S4096x5632, .f32⟩
  | 14 => ⟨S4096x1024, .f32⟩
  | 15 => ⟨S4096x1024, .f32⟩
  | 16 => ⟨S_, .f32⟩
  | 17 => ⟨S1024, .f32⟩
  | 18 => ⟨S1x1024, .f32⟩
  | 19 => ⟨S4096x1024, .f32⟩
  | 20 => ⟨S4096x1024, .f32⟩
  | 21 => ⟨S_, .f32⟩
  | 22 => ⟨S1024, .f32⟩
  | 23 => ⟨S4096x1024, .f32⟩
  | 24 => ⟨S_, .f32⟩
  | 25 => ⟨S4096, .f32⟩
  | 26 => ⟨S4096x1, .f32⟩
  | 27 => ⟨S4096x1024, .f32⟩
  | 28 => ⟨S4096x1024, .f32⟩
  | 29 => ⟨S4096x1, .f32⟩
  | 30 => ⟨S_, .f32⟩
  | 31 => ⟨S4096x1, .f32⟩
  | 32 => ⟨S4096x1, .f32⟩
  | 33 => ⟨S_, .f32⟩
  | 34 => ⟨S4096, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S1x1024, .f32⟩
  | 41 => ⟨S1x1024, .f32⟩
  | 42 => ⟨S_, .f32⟩
  | 43 => ⟨S6x1024, .f32⟩
  | 44 => ⟨S8x1024, .f32⟩
  | 45 => ⟨S4096x1024, .f32⟩
  | 46 => ⟨S4096x5632, .bf16⟩
  | 47 => ⟨S4096x1024, .bf16⟩
  | 48 => ⟨S4096x2816, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_v30_2 : Ref sig .tc := ⟨.hbm, 53, rfl⟩
abbrev main_call1_cst_1 : Ref sig .tc := ⟨.hbm, 54, rfl⟩
abbrev main_call1_v6 : Ref sig .tc := ⟨.hbm, 55, rfl⟩
abbrev main_call1_v7 : Ref sig .tc := ⟨.hbm, 56, rfl⟩
abbrev main_v30_1 : Ref sig .tc := ⟨.hbm, 57, rfl⟩
abbrev main_v30_0 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_2 : Ref sig .tc := ⟨.hbm, 63, rfl⟩
abbrev main_v35 : Ref sig .tc := ⟨.hbm, 64, rfl⟩
abbrev main_v36 : Ref sig .tc := ⟨.hbm, 65, rfl⟩
abbrev main_cst_3 : Ref sig .tc := ⟨.hbm, 66, rfl⟩
abbrev main_v37 : Ref sig .tc := ⟨.hbm, 67, rfl⟩
abbrev main_v38 : Ref sig .tc := ⟨.hbm, 68, rfl⟩
abbrev main_cst_4 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_5 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_6 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_7 : Ref sig .tc := ⟨.hbm, 90, rfl⟩
abbrev main_v57 : Ref sig .tc := ⟨.hbm, 91, rfl⟩
abbrev main_v58 : Ref sig .tc := ⟨.hbm, 92, rfl⟩
abbrev main_cst_8 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_9 : Ref sig .tc := ⟨.hbm, 99, rfl⟩
abbrev main_v64 : Ref sig .tc := ⟨.hbm, 100, rfl⟩
abbrev main_v65 : Ref sig .tc := ⟨.hbm, 101, rfl⟩
abbrev main_cst_10 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_11 : Ref sig .tc := ⟨.hbm, 122, rfl⟩
abbrev main_v82 : Ref sig .tc := ⟨.hbm, 123, rfl⟩
abbrev main_v83 : Ref sig .tc := ⟨.hbm, 124, rfl⟩
abbrev main_cst_12 : Ref sig .tc := ⟨.hbm, 125, rfl⟩
abbrev main_v84 : Ref sig .tc := ⟨.hbm, 126, rfl⟩
abbrev main_v85 : Ref sig .tc := ⟨.hbm, 127, rfl⟩
abbrev main_cst_13 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_14 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_15 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_16 : Ref sig .tc := ⟨.hbm, 149, rfl⟩
abbrev main_v104 : Ref sig .tc := ⟨.hbm, 150, rfl⟩
abbrev main_v105 : Ref sig .tc := ⟨.hbm, 151, rfl⟩
abbrev main_cst_17 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_18 : Ref sig .tc := ⟨.hbm, 158, rfl⟩
abbrev main_v111 : Ref sig .tc := ⟨.hbm, 159, rfl⟩
abbrev main_v112 : Ref sig .tc := ⟨.hbm, 160, rfl⟩
abbrev main_cst_19 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_cst_20 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩

abbrev nD : Nat := 1
abbrev τ : Topo := Topo.v7x

variable {F : FTy → Type} [FloatOps F]
-- ==== FfnFirst.lean ====
abbrev S4096x1024 : Shape := ⟨2, ![4096, 1024]⟩
abbrev S16x1024 : Shape := ⟨2, ![16, 1024]⟩
abbrev S4x1024x1408 : Shape := ⟨3, ![4, 1024, 1408]⟩
abbrev S2816x1024 : Shape := ⟨2, ![2816, 1024]⟩
abbrev S1x1024 : Shape := ⟨2, ![1, 1024]⟩
abbrev S1024 : Shape := ⟨1, ![1024]⟩
abbrev S1024x4x1408 : Shape := ⟨3, ![1024, 4, 1408]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S8x1024 : Shape := ⟨2, ![8, 1024]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S1408x1024 : Shape := ⟨2, ![1408, 1024]⟩
abbrev S256x1408 : Shape := ⟨2, ![256, 1408]⟩
abbrev S1x1024x1408 : Shape := ⟨3, ![1, 1024, 1408]⟩
abbrev S1024x1408 : Shape := ⟨2, ![1024, 1408]⟩

abbrev nBuf : Space → Nat
  | .hbm => 47
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S16x1024, .f32⟩
  | .hbm, ⟨3, _⟩ => ⟨S4x1024x1408, .bf16⟩
  | .hbm, ⟨4, _⟩ => ⟨S2816x1024, .bf16⟩
  | .hbm, ⟨5, _⟩ => ⟨S1x1024, .f32⟩
  | .hbm, ⟨6, _⟩ => ⟨S1024, .f32⟩
  | .hbm, ⟨7, _⟩ => ⟨S1024x4x1408, .bf16⟩
  | .hbm, ⟨8, _⟩ => ⟨S1024x5632, .bf16⟩
  | .hbm, ⟨9, _⟩ => ⟨S1024x5632, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S2816x1024, .f32⟩
  | .hbm, ⟨40, _⟩ => ⟨S4096x1024, .f32⟩
  | .hbm, ⟨41, _⟩ => ⟨S4096x5632, .bf16⟩
  | .hbm, ⟨42, _⟩ => ⟨S4096x1024, .f32⟩
  | .hbm, ⟨43, _⟩ => ⟨S4096x5632, .bf16⟩
  | .hbm, ⟨44, _⟩ => ⟨S4096x1024, .bf16⟩
  | .hbm, ⟨45, _⟩ => ⟨S4096x2816, .bf16⟩
  | .hbm, ⟨46, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x5632, .bf16⟩
  | .local _ .vmem, ⟨7, _⟩ => ⟨S256x5632, .bf16⟩
  | .local _ .vmem, ⟨8, _⟩ => ⟨S16x1024, .f32⟩
  | .local _ .vmem, ⟨9, _⟩ => ⟨S4x1024x1408, .bf16⟩
  | .local _ .vmem, ⟨10, _⟩ => ⟨S2816x1024, .bf16⟩
  | .local _ .vmem, ⟨11, _⟩ => ⟨S256x1024, .f32⟩
  | .local _ .vmem, ⟨12, _⟩ => ⟨S256x1024, .f32⟩
  | .local _ .vmem, ⟨13, _⟩ => ⟨S256x5632, .bf16⟩
  | .local _ .vmem, ⟨14, _⟩ => ⟨S256x5632, .bf16⟩
  | .local _ .vmem, ⟨15, _⟩ => ⟨S256x1024, .bf16⟩
  | .local _ .vmem, ⟨16, _⟩ => ⟨S256x1024, .bf16⟩
  | .local _ .vmem, ⟨17, _⟩ => ⟨S256x2816, .bf16⟩
  | .local _ .vmem, ⟨18, _⟩ => ⟨S256x2816, .bf16⟩
  | .local _ .vmem, ⟨19, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26_0 : Ref sig .tc := ⟨.hbm, 42, rfl⟩
abbrev main_v26_1 : Ref sig .tc := ⟨.hbm, 43, rfl⟩
abbrev main_v26_2 : Ref sig .tc := ⟨.hbm, 44, rfl⟩
abbrev main_v26_3 : Ref sig .tc := ⟨.hbm, 45, rfl⟩
abbrev main_v26_4 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnFirstReferenceIdeal.lean ====
abbrev S4096x1024 : Shape := ⟨2, ![4096, 1024]⟩
abbrev S16x1024 : Shape := ⟨2, ![16, 1024]⟩
abbrev S4x1024x1408 : Shape := ⟨3, ![4, 1024, 1408]⟩
abbrev S2816x1024 : Shape := ⟨2, ![2816, 1024]⟩
abbrev S1x1024 : Shape := ⟨2, ![1, 1024]⟩
abbrev S1024 : Shape := ⟨1, ![1024]⟩
abbrev S1024x4x1408 : Shape := ⟨3, ![1024, 4, 1408]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S6x1024 : Shape := ⟨2, ![6, 1024]⟩
abbrev S8x1024 : Shape := ⟨2, ![8, 1024]⟩

abbrev nBuf : Space → Nat
  | .hbm => 177
  | .vmem => 0
  | .smem => 0
  | _ => 0

abbrev hbmTy0_0 (i : Nat) : BufTy := match i % 128 with
  | 0 => ⟨S4096x1024, .f32⟩
  | 1 => ⟨S4096x1024, .f32⟩
  | 2 => ⟨S16x1024, .f32⟩
  | 3 => ⟨S4x1024x1408, .bf16⟩
  | 4 => ⟨S2816x1024, .bf16⟩
  | 5 => ⟨S1x1024, .f32⟩
  | 6 => ⟨S1024, .f32⟩
  | 7 => ⟨S1024x4x1408, .bf16⟩
  | 8 => ⟨S1024x5632, .bf16⟩
  | 9 => ⟨S1024x5632, .f32⟩
  | 10 => ⟨S4096x1024, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S4096x5632, .f32⟩
  | 27 => ⟨S4096x2816, .f32⟩
  | 28 => ⟨S4096x2816, .f32⟩
  | 29 => ⟨S4096x2816, .f32⟩
  | 30 => ⟨S4096x2816, .f32⟩
  | 31 => ⟨S_, .f32⟩
  | 32 => ⟨S4096x2816, .f32⟩
  | 33 => ⟨S4096x2816, .f32⟩
  | 34 => ⟨S_, .f32⟩
  | 35 => ⟨S4096x2816, .f32⟩
  | 36 => ⟨S4096x2816, .f32⟩
  | 37 => ⟨S4096x2816, .f32⟩
  | 38 => ⟨S4096x2816, .f32⟩
  | 39 => ⟨S2816x1024, .f32⟩
  | 40 => ⟨S4096x1024, .f32⟩
  | 41 => ⟨S1024x4x1408, .bf16⟩
  | 42 => ⟨S1024x5632, .bf16⟩
  | 43 => ⟨S1024x5632, .f32⟩
  | 44 => ⟨S4096x2816, .f32⟩
  | 45 => ⟨S4096x2816, .f32⟩
  | 46 => ⟨S4096x2816, .f32⟩
  | 47 => ⟨S4096x2816, .f32⟩
  | 48 => ⟨S_, .f32⟩
  | 49 => ⟨S4096x2816, .f32⟩
  | 50 => ⟨S4096x2816, .f32⟩
  | 51 => ⟨S_, .f32⟩
  | 52 => ⟨S4096x2816, .f32⟩
  | 53 => ⟨S4096x2816, .f32⟩
  | 54 => ⟨S_, .f32⟩
  | 55 => ⟨S4096x2816, .f32⟩
  | 56 => ⟨S4096x2816, .f32⟩
  | 57 => ⟨S4096x2816, .f32⟩
  | 58 => ⟨S4096x2816, .f32⟩
  | 59 => ⟨S4096x2816, .f32⟩
  | 60 => ⟨S1x1024, .f32⟩
  | 61 => ⟨S1024, .f32⟩
  | 62 => ⟨S4096x1024, .f32⟩
  | 63 => ⟨S_, .f32⟩
  | 64 => ⟨S4096, .f32⟩
  | 65 => ⟨S4096x1, .f32⟩
  | 66 => ⟨S_, .f32⟩
  | 67 => ⟨S4096x1, .f32⟩
  | 68 => ⟨S4096x1, .f32⟩
  | 69 => ⟨S_, .f32⟩
  | 70 => ⟨S4096x1, .f32⟩
  | 71 => ⟨S4096x1, .f32⟩
  | 72 => ⟨S4096x1, .f32⟩
  | 73 => ⟨S4096x1, .f32⟩
  | 74 => ⟨S_, .f32⟩
  | 75 => ⟨S4096x1, .f32⟩
  | 76 => ⟨S4096x1, .f32⟩
  | 77 => ⟨S4096x1024, .f32⟩
  | 78 => ⟨S4096x1024, .f32⟩
  | 79 => ⟨S1x1024, .f32⟩
  | 80 => ⟨S4096x1024, .f32⟩
  | 81 => ⟨S4096x1024, .f32⟩
  | 82 => ⟨S4096x1024, .f32⟩
  | 83 => ⟨S4096x1024, .f32⟩
  | 84 => ⟨S4096x1024, .f32⟩
  | 85 => ⟨S_, .f32⟩
  | 86 => ⟨S1024, .f32⟩
  | 87 => ⟨S1x1024, .f32⟩
  | 88 => ⟨S4096x1024, .f32⟩
  | 89 => ⟨S4096x1024, .f32⟩
  | 90 => ⟨S_, .f32⟩
  | 91 => ⟨S1024, .f32⟩
  | 92 => ⟨S4096x1024, .f32⟩
  | 93 => ⟨S_, .f32⟩
  | 94 => ⟨S4096, .f32⟩
  | 95 => ⟨S4096x1, .f32⟩
  | 96 => ⟨S4096x1024, .f32⟩
  | 97 => ⟨S4096x1024, .f32⟩
  | 98 => ⟨S4096x1, .f32⟩
  | 99 => ⟨S_, .f32⟩
  | 100 => ⟨S4096x1, .f32⟩
  | 101 => ⟨S4096x1, .f32⟩
  | 102 => ⟨S_, .f32⟩
  | 103 => ⟨S4096, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S2816x1024, .f32⟩
  | 110 => ⟨S4096x1024, .f32⟩
  | 111 => ⟨S4096x2816, .f32⟩
  | 112 => ⟨S4096x2816, .f32⟩
  | 113 => ⟨S4096x2816, .f32⟩
  | 114 => ⟨S4096x2816, .f32⟩
  | 115 => ⟨S4096x2816, .f32⟩
  | 116 => ⟨S4096x2816, .f32⟩
  | 117 => ⟨S4096x2816, .f32⟩
  | 118 => ⟨S4096x5632, .f32⟩
  | 119 => ⟨S1x1024, .f32⟩
  | 120 => ⟨S1024, .f32⟩
  | 121 => ⟨S4096x1024, .f32⟩
  | 122 => ⟨S_, .f32⟩
  | 123 => ⟨S4096, .f32⟩
  | 124 => ⟨S4096x1, .f32⟩
  | 125 => ⟨S_, .f32⟩
  | 126 => ⟨S4096x1, .f32⟩
  | 127 => ⟨S4096x1, .f32⟩
  | _ => ⟨S4096x1024, .f32⟩

abbrev hbmTy0_1 (i : Nat) : BufTy := match i % 128 with
  | 0 => ⟨S_, .f32⟩
  | 1 => ⟨S4096x1, .f32⟩
  | 2 => ⟨S4096x1, .f32⟩
  | 3 => ⟨S4096x1, .f32⟩
  | 4 => ⟨S4096x1, .f32⟩
  | 5 => ⟨S_, .f32⟩
  | 6 => ⟨S4096x1, .f32⟩
  | 7 => ⟨S4096x1, .f32⟩
  | 8 => ⟨S4096x1024, .f32⟩
  | 9 => ⟨S4096x1024, .f32⟩
  | 10 => ⟨S1x1024, .f32⟩
  | 11 => ⟨S4096x1024, .f32⟩
  | 12 => ⟨S4096x1024, .f32⟩
  | 13 => ⟨S4096x5632, .f32⟩
  | 14 => ⟨S4096x1024, .f32⟩
  | 15 => ⟨S4096x1024, .f32⟩
  | 16 => ⟨S_, .f32⟩
  | 17 => ⟨S1024, .f32⟩
  | 18 => ⟨S1x1024, .f32⟩
  | 19 => ⟨S4096x1024, .f32⟩
  | 20 => ⟨S4096x1024, .f32⟩
  | 21 => ⟨S_, .f32⟩
  | 22 => ⟨S1024, .f32⟩
  | 23 => ⟨S4096x1024, .f32⟩
  | 24 => ⟨S_, .f32⟩
  | 25 => ⟨S4096, .f32⟩
  | 26 => ⟨S4096x1, .f32⟩
  | 27 => ⟨S4096x1024, .f32⟩
  | 28 => ⟨S4096x1024, .f32⟩
  | 29 => ⟨S4096x1, .f32⟩
  | 30 => ⟨S_, .f32⟩
  | 31 => ⟨S4096x1, .f32⟩
  | 32 => ⟨S4096x1, .f32⟩
  | 33 => ⟨S_, .f32⟩
  | 34 => ⟨S4096, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S1x1024, .f32⟩
  | 41 => ⟨S1x1024, .f32⟩
  | 42 => ⟨S_, .f32⟩
  | 43 => ⟨S6x1024, .f32⟩
  | 44 => ⟨S8x1024, .f32⟩
  | 45 => ⟨S4096x1024, .f32⟩
  | 46 => ⟨S4096x5632, .bf16⟩
  | 47 => ⟨S4096x1024, .bf16⟩
  | 48 => ⟨S4096x2816, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_v30_2 : Ref sig .tc := ⟨.hbm, 53, rfl⟩
abbrev main_call1_cst_1 : Ref sig .tc := ⟨.hbm, 54, rfl⟩
abbrev main_call1_v6 : Ref sig .tc := ⟨.hbm, 55, rfl⟩
abbrev main_call1_v7 : Ref sig .tc := ⟨.hbm, 56, rfl⟩
abbrev main_v30_1 : Ref sig .tc := ⟨.hbm, 57, rfl⟩
abbrev main_v30_0 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_2 : Ref sig .tc := ⟨.hbm, 63, rfl⟩
abbrev main_v35 : Ref sig .tc := ⟨.hbm, 64, rfl⟩
abbrev main_v36 : Ref sig .tc := ⟨.hbm, 65, rfl⟩
abbrev main_cst_3 : Ref sig .tc := ⟨.hbm, 66, rfl⟩
abbrev main_v37 : Ref sig .tc := ⟨.hbm, 67, rfl⟩
abbrev main_v38 : Ref sig .tc := ⟨.hbm, 68, rfl⟩
abbrev main_cst_4 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_5 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_6 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_7 : Ref sig .tc := ⟨.hbm, 90, rfl⟩
abbrev main_v57 : Ref sig .tc := ⟨.hbm, 91, rfl⟩
abbrev main_v58 : Ref sig .tc := ⟨.hbm, 92, rfl⟩
abbrev main_cst_8 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_9 : Ref sig .tc := ⟨.hbm, 99, rfl⟩
abbrev main_v64 : Ref sig .tc := ⟨.hbm, 100, rfl⟩
abbrev main_v65 : Ref sig .tc := ⟨.hbm, 101, rfl⟩
abbrev main_cst_10 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_11 : Ref sig .tc := ⟨.hbm, 122, rfl⟩
abbrev main_v82 : Ref sig .tc := ⟨.hbm, 123, rfl⟩
abbrev main_v83 : Ref sig .tc := ⟨.hbm, 124, rfl⟩
abbrev main_cst_12 : Ref sig .tc := ⟨.hbm, 125, rfl⟩
abbrev main_v84 : Ref sig .tc := ⟨.hbm, 126, rfl⟩
abbrev main_v85 : Ref sig .tc := ⟨.hbm, 127, rfl⟩
abbrev main_cst_13 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_14 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_15 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_16 : Ref sig .tc := ⟨.hbm, 149, rfl⟩
abbrev main_v104 : Ref sig .tc := ⟨.hbm, 150, rfl⟩
abbrev main_v105 : Ref sig .tc := ⟨.hbm, 151, rfl⟩
abbrev main_cst_17 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_18 : Ref sig .tc := ⟨.hbm, 158, rfl⟩
abbrev main_v111 : Ref sig .tc := ⟨.hbm, 159, rfl⟩
abbrev main_v112 : Ref sig .tc := ⟨.hbm, 160, rfl⟩
abbrev main_cst_19 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_cst_20 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩

abbrev nD : Nat := 1
abbrev τ : Topo := Topo.v7x

variable {F : FTy → Type} [FloatOps F]
-- ==== Conv.lean ====
abbrev S4096x1024 : Shape := ⟨2, ![4096, 1024]⟩
abbrev S16x1024 : Shape := ⟨2, ![16, 1024]⟩
abbrev S4x1024x768 : Shape := ⟨3, ![4, 1024, 768]⟩
abbrev S1024x1024 : Shape := ⟨2, ![1024, 1024]⟩
abbrev S4096x3072 : Shape := ⟨2, ![4096, 3072]⟩
abbrev S512x1024 : Shape := ⟨2, ![512, 1024]⟩
abbrev S512x3072 : Shape := ⟨2, ![512, 3072]⟩
abbrev S520x1024 : Shape := ⟨2, ![520, 1024]⟩
abbrev S8x1024 : Shape := ⟨2, ![8, 1024]⟩
abbrev S512 : Shape := ⟨1, ![512]⟩
abbrev S512x1 : Shape := ⟨2, ![512, 1]⟩
abbrev S1x1024 : Shape := ⟨2, ![1, 1024]⟩
abbrev S1x1024x768 : Shape := ⟨3, ![1, 1024, 768]⟩
abbrev S1024x768 : Shape := ⟨2, ![1024, 768]⟩
abbrev S512x768 : Shape := ⟨2, ![512, 768]⟩

abbrev nBuf : Space → Nat
  | .hbm => 8
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S16x1024, .f32⟩
  | .hbm, ⟨2, _⟩ => ⟨S4x1024x768, .bf16⟩
  | .hbm, ⟨3, _⟩ => ⟨S1024x1024, .bf16⟩
  | .hbm, ⟨4, _⟩ => ⟨S4096x1024, .f32⟩
  | .hbm, ⟨5, _⟩ => ⟨S4096x3072, .bf16⟩
  | .hbm, ⟨6, _⟩ => ⟨S4096x1024, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S4x1024x768, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x3072, .bf16⟩
  | .local _ .vmem, ⟨8, _⟩ => ⟨S512x3072, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x3072, .f32⟩
  | .local _ .vmem, ⟨14, _⟩ => ⟨S520x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvReferenceIdeal.lean ====
abbrev S4096x1024 : Shape := ⟨2, ![4096, 1024]⟩
abbrev S16x1024 : Shape := ⟨2, ![16, 1024]⟩
abbrev S4x1024x768 : Shape := ⟨3, ![4, 1024, 768]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4x768 : Shape := ⟨3, ![1024, 4, 768]⟩
abbrev S1024x3072 : Shape := ⟨2, ![1024, 3072]⟩
abbrev S4096x3072 : Shape := ⟨2, ![4096, 3072]⟩
abbrev S3x1024 : Shape := ⟨2, ![3, 1024]⟩
abbrev S2x1024 : Shape := ⟨2, ![2, 1024]⟩
abbrev S4098x1024 : Shape := ⟨2, ![4098, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16x1024, .f32⟩
  | .hbm, ⟨2, _⟩ => ⟨S4x1024x768, .bf16⟩
  | .hbm, ⟨3, _⟩ => ⟨S1024x1024, .bf16⟩
  | .hbm, ⟨4, _⟩ => ⟨S1x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S1024x4x768, .bf16⟩
  | .hbm, ⟨23, _⟩ => ⟨S1024x3072, .bf16⟩
  | .hbm, ⟨24, _⟩ => ⟨S1024x3072, .f32⟩
  | .hbm, ⟨25, _⟩ => ⟨S4096x3072, .f32⟩
  | .hbm, ⟨26, _⟩ => ⟨S3x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S2x1024, .f32⟩
  | .hbm, ⟨33, _⟩ => ⟨S4098x1024, .f32⟩
  | .hbm, ⟨34, _⟩ => ⟨S4096x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1024x1024, .f32⟩
  | .hbm, ⟨56, _⟩ => ⟨S4096x1024, .f32⟩
  | .hbm, ⟨57, _⟩ => ⟨S1x1024, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S1x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x3072, .bf16⟩
  | .hbm, ⟨77, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_3 : Ref sig .tc := ⟨.hbm, 60, rfl⟩
abbrev main_v52 : Ref sig .tc := ⟨.hbm, 61, rfl⟩
abbrev main_v53 : Ref sig .tc := ⟨.hbm, 62, rfl⟩
abbrev main_cst_4 : Ref sig .tc := ⟨.hbm, 63, rfl⟩
abbrev main_v54 : Ref sig .tc := ⟨.hbm, 64, rfl⟩
abbrev main_v55 : Ref sig .tc := ⟨.hbm, 65, rfl⟩
abbrev main_cst_5 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩

abbrev nD : Nat := 1
abbrev τ : Topo := Topo.v7x

variable {F : FTy → Type} [FloatOps F]
-- ==== Loss.lean ====
abbrev S4096x1024 : Shape := ⟨2, ![4096, 1024]⟩
abbrev S16x1024 : Shape := ⟨2, ![16, 1024]⟩
abbrev S4x1024x1408 : Shape := ⟨3, ![4, 1024, 1408]⟩
abbrev S2816x1024 : Shape := ⟨2, ![2816, 1024]⟩
abbrev S4096x5632 : Shape := ⟨2, ![4096, 5632]⟩
abbrev S8x128 : Shape := ⟨2, ![8, 128]⟩
abbrev S512x1024 : Shape := ⟨2, ![512, 1024]⟩
abbrev S512x5632 : Shape := ⟨2, ![512, 5632]⟩
abbrev S1x1024 : Shape := ⟨2, ![1, 1024]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩
abbrev S1408x1024 : Shape := ⟨2, ![1408, 1024]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S16x1024, .f32⟩
  | .hbm, ⟨3, _⟩ => ⟨S4x1024x1408, .bf16⟩
  | .hbm, ⟨4, _⟩ => ⟨S2816x1024, .bf16⟩
  | .hbm, ⟨5, _⟩ => ⟨S4096x1024, .f32⟩
  | .hbm, ⟨6, _⟩ => ⟨S4096x5632, .bf16⟩
  | .hbm, ⟨7, _⟩ => ⟨S4096x1024, .f32⟩
  | .hbm, ⟨8, _⟩ => ⟨S4096x1024, .bf16⟩
  | .hbm, ⟨9, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S4x1024x1408, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S512x5632, .bf16⟩
  | .local _ .vmem, ⟨10, _⟩ => ⟨S512x5632, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x128, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v80 : BitVec 1 := Scalar.cmpi .eq arg0 c7_i32
  let v81 : BitVec 32 := Scalar.extui v80
  let c0_i32_47 : BitVec 32 := 0#32
  let v82 : BitVec 1 := Scalar.cmpi .ne v81 c0_i32_47
  v82

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossReferenceIdeal.lean ====
abbrev S4096x1024 : Shape := ⟨2, ![4096, 1024]⟩
abbrev S16x1024 : Shape := ⟨2, ![16, 1024]⟩
abbrev S4x1024x1408 : Shape := ⟨3, ![4, 1024, 1408]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4x1408 : Shape := ⟨3, ![1024, 4, 1408]⟩
abbrev S1024x5632 : Shape := ⟨2, ![1024, 5632]⟩
abbrev S4096x5632 : Shape := ⟨2, ![4096, 5632]⟩
abbrev S4096x2816 : Shape := ⟨2, ![4096, 2816]⟩
abbrev S8x128 : Shape := ⟨2, ![8, 128]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S16x1024, .f32⟩
  | .hbm, ⟨3, _⟩ => ⟨S4x1024x1408, .bf16⟩
  | .hbm, ⟨4, _⟩ => ⟨S2816x1024, .bf16⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S1024x4x1408, .bf16⟩
  | .hbm, ⟨24, _⟩ => ⟨S1024x5632, .bf16⟩
  | .hbm, ⟨25, _⟩ => ⟨S1024x5632, .f32⟩
  | .hbm, ⟨26, _⟩ => ⟨S4096x5632, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S2816x1024, .f32⟩
  | .hbm, ⟨40, _⟩ => ⟨S4096x1024, .f32⟩
  | .hbm, ⟨41, _⟩ => ⟨S1x1024, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S4096, .f32⟩
  | .hbm, ⟨78, _⟩ => ⟨S_, .f32⟩
  | .hbm, ⟨79, _⟩ => ⟨S4096, .f32⟩
  | .hbm, ⟨80, _⟩ => ⟨S4096, .f32⟩
  | .hbm, ⟨81, _⟩ => ⟨S4096x1024, .f32⟩
  | .hbm, ⟨82, _⟩ => ⟨S4096x1024, .f32⟩
  | .hbm, ⟨83, _⟩ => ⟨S4096x5632, .bf16⟩
  | .hbm, ⟨84, _⟩ => ⟨S4096x1024, .bf16⟩
  | .hbm, ⟨85, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_cst_11 : Ref sig .tc := ⟨.hbm, 75, rfl⟩
abbrev main_v50 : Ref sig .tc := ⟨.hbm, 76, rfl⟩
abbrev main_v51 : Ref sig .tc := ⟨.hbm, 77, rfl⟩
abbrev main_cst_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩

abbrev nD : Nat := 1
abbrev τ : Topo := Topo.v7x

variable {F : FTy → Type} [FloatOps F]
-- ==== Up.lean ====
abbrev S4096x1024 : Shape := ⟨2, ![4096, 1024]⟩
abbrev S16x1024 : Shape := ⟨2, ![16, 1024]⟩
abbrev S4x1024x1408 : Shape := ⟨3, ![4, 1024, 1408]⟩
abbrev S4096x5632 : Shape := ⟨2, ![4096, 5632]⟩
abbrev S4096x2816 : Shape := ⟨2, ![4096, 2816]⟩
abbrev S512x1024 : Shape := ⟨2, ![512, 1024]⟩
abbrev S512x5632 : Shape := ⟨2, ![512, 5632]⟩
abbrev S512x2816 : Shape := ⟨2, ![512, 2816]⟩
abbrev S512 : Shape := ⟨1, ![512]⟩
abbrev S512x1 : Shape := ⟨2, ![512, 1]⟩
abbrev S1x1024 : Shape := ⟨2, ![1, 1024]⟩
abbrev S1x1024x1408 : Shape := ⟨3, ![1, 1024, 1408]⟩
abbrev S1024x1408 : Shape := ⟨2, ![1024, 1408]⟩
abbrev S512x1408 : Shape := ⟨2, ![512, 1408]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S16x1024, .f32⟩
  | .hbm, ⟨2, _⟩ => ⟨S4x1024x1408, .bf16⟩
  | .hbm, ⟨3, _⟩ => ⟨S4096x5632, .bf16⟩
  | .hbm, ⟨4, _⟩ => ⟨S4096x1024, .bf16⟩
  | .hbm, ⟨5, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S4x1024x1408, .bf16⟩
  | .local _ .vmem, ⟨4, _⟩ => ⟨S512x5632, .bf16⟩
  | .local _ .vmem, ⟨5, _⟩ => ⟨S512x5632, .bf16⟩
  | .local _ .vmem, ⟨6, _⟩ => ⟨S512x1024, .bf16⟩
  | .local _ .vmem, ⟨7, _⟩ => ⟨S512x1024, .bf16⟩
  | .local _ .vmem, ⟨8, _⟩ => ⟨S512x2816, .bf16⟩
  | .local _ .vmem, ⟨9, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== UpReferenceIdeal.lean ====
abbrev S4096x1024 : Shape := ⟨2, ![4096, 1024]⟩
abbrev S16x1024 : Shape := ⟨2, ![16, 1024]⟩
abbrev S4x1024x1408 : Shape := ⟨3, ![4, 1024, 1408]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4x1408 : Shape := ⟨3, ![1024, 4, 1408]⟩
abbrev S1024x5632 : Shape := ⟨2, ![1024, 5632]⟩
abbrev S4096x5632 : Shape := ⟨2, ![4096, 5632]⟩
abbrev S4096x2816 : Shape := ⟨2, ![4096, 2816]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16x1024, .f32⟩
  | .hbm, ⟨2, _⟩ => ⟨S4x1024x1408, .bf16⟩
  | .hbm, ⟨3, _⟩ => ⟨S1x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1024x4x1408, .bf16⟩
  | .hbm, ⟨22, _⟩ => ⟨S1024x5632, .bf16⟩
  | .hbm, ⟨23, _⟩ => ⟨S1024x5632, .f32⟩
  | .hbm, ⟨24, _⟩ => ⟨S4096x5632, .f32⟩
  | .hbm, ⟨25, _⟩ => ⟨S4096x5632, .bf16⟩
  | .hbm, ⟨26, _⟩ => ⟨S4096x1024, .bf16⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Down.lean ====
abbrev S4096x1024 : Shape := ⟨2, ![4096, 1024]⟩
abbrev S16x1024 : Shape := ⟨2, ![16, 1024]⟩
abbrev S4x1024x1408 : Shape := ⟨3, ![4, 1024, 1408]⟩
abbrev S2816x1024 : Shape := ⟨2, ![2816, 1024]⟩
abbrev S1x1024 : Shape := ⟨2, ![1, 1024]⟩
abbrev S1024 : Shape := ⟨1, ![1024]⟩
abbrev S1024x4x1408 : Shape := ⟨3, ![1024, 4, 1408]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 41
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S16x1024, .f32⟩
  | .hbm, ⟨2, _⟩ => ⟨S4x1024x1408, .bf16⟩
  | .hbm, ⟨3, _⟩ => ⟨S2816x1024, .bf16⟩
  | .hbm, ⟨4, _⟩ => ⟨S1x1024, .f32⟩
  | .hbm, ⟨5, _⟩ => ⟨S1024, .f32⟩
  | .hbm, ⟨6, _⟩ => ⟨S1024x4x1408, .bf16⟩
  | .hbm, ⟨7, _⟩ => ⟨S1024x5632, .bf16⟩
  | .hbm, ⟨8, _⟩ => ⟨S1024x5632, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .bf16⟩
  | .hbm, ⟨39, _⟩ => ⟨S4096x1024, .f32⟩
  | .hbm, ⟨40, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S16x1024, .f32⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownReferenceIdeal.lean ====
abbrev S4096x1024 : Shape := ⟨2, ![4096, 1024]⟩
abbrev S16x1024 : Shape := ⟨2, ![16, 1024]⟩
abbrev S4x1024x1408 : Shape := ⟨3, ![4, 1024, 1408]⟩
abbrev S2816x1024 : Shape := ⟨2, ![2816, 1024]⟩
abbrev S1x1024 : Shape := ⟨2, ![1, 1024]⟩
abbrev S1024 : Shape := ⟨1, ![1024]⟩
abbrev S1024x4x1408 : Shape := ⟨3, ![1024, 4, 1408]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16x1024, .f32⟩
  | .hbm, ⟨2, _⟩ => ⟨S4x1024x1408, .bf16⟩
  | .hbm, ⟨3, _⟩ => ⟨S2816x1024, .bf16⟩
  | .hbm, ⟨4, _⟩ => ⟨S1x1024, .f32⟩
  | .hbm, ⟨5, _⟩ => ⟨S1024, .f32⟩
  | .hbm, ⟨6, _⟩ => ⟨S1024x4x1408, .bf16⟩
  | .hbm, ⟨7, _⟩ => ⟨S1024x5632, .bf16⟩
  | .hbm, ⟨8, _⟩ => ⟨S1024x5632, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S2816x1024, .f32⟩
  | .hbm, ⟨39, _⟩ => ⟨S4096x1024, .f32⟩
  | .hbm, ⟨40, _⟩ => ⟨S1x1024, .f32⟩
  | .hbm, ⟨41, _⟩ => ⟨S1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Pool.lean ====
abbrev S4096x1024 : Shape := ⟨2, ![4096, 1024]⟩
abbrev S16x1024 : Shape := ⟨2, ![16, 1024]⟩
abbrev S1x1024 : Shape := ⟨2, ![1, 1024]⟩
abbrev S4x256x256 : Shape := ⟨3, ![4, 256, 256]⟩
abbrev S512x1024 : Shape := ⟨2, ![512, 1024]⟩
abbrev S528x1024 : Shape := ⟨2, ![528, 1024]⟩
abbrev S512 : Shape := ⟨1, ![512]⟩
abbrev S512x1 : Shape := ⟨2, ![512, 1]⟩
abbrev S528x256 : Shape := ⟨2, ![528, 256]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S16x1024, .f32⟩
  | .hbm, ⟨2, _⟩ => ⟨S1x1024, .f32⟩
  | .hbm, ⟨3, _⟩ => ⟨S4x256x256, .bf16⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S1x1024, .f32⟩
  | .local _ .vmem, ⟨4, _⟩ => ⟨S4x256x256, .bf16⟩
  | .local _ .vmem, ⟨5, _⟩ => ⟨S512x1024, .f32⟩
  | .local _ .vmem, ⟨6, _⟩ => ⟨S512x1024, .f32⟩
  | .local _ .vmem, ⟨7, _⟩ => ⟨S528x1024, .f32⟩
  | .local _ .vmem, ⟨8, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolReferenceIdeal.lean ====
abbrev S4096x1024 : Shape := ⟨2, ![4096, 1024]⟩
abbrev S16x1024 : Shape := ⟨2, ![16, 1024]⟩
abbrev S1x1024 : Shape := ⟨2, ![1, 1024]⟩
abbrev S4x256x256 : Shape := ⟨3, ![4, 256, 256]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x256 : Shape := ⟨2, ![4096, 256]⟩
abbrev S1x256x256 : Shape := ⟨3, ![1, 256, 256]⟩
abbrev S256x256 : Shape := ⟨2, ![256, 256]⟩

abbrev nBuf : Space → Nat
  | .hbm => 109
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16x1024, .f32⟩
  | .hbm, ⟨2, _⟩ => ⟨S1x1024, .f32⟩
  | .hbm, ⟨3, _⟩ => ⟨S4x256x256, .bf16⟩
  | .hbm, ⟨4, _⟩ => ⟨S1x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S_, .f32⟩
  | .hbm, ⟨32, _⟩ => ⟨S4096x256, .f32⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .f32⟩
  | .hbm, ⟨37, _⟩ => ⟨S4096x1, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S_, .f32⟩
  | .hbm, ⟨42, _⟩ => ⟨S_, .f32⟩
  | .hbm, ⟨43, _⟩ => ⟨S4096x256, .f32⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096, .f32⟩
  | .hbm, ⟨48, _⟩ => ⟨S4096x1, .f32⟩
  | .hbm, ⟨49, _⟩ => ⟨S4096x256, .f32⟩
  | .hbm, ⟨50, _⟩ => ⟨S4096x256, .f32⟩
  | .hbm, ⟨51, _⟩ => ⟨S4096x256, .f32⟩
  | .hbm, ⟨52, _⟩ => ⟨S_, .f32⟩
  | .hbm, ⟨53, _⟩ => ⟨S_, .f32⟩
  | .hbm, ⟨54, _⟩ => ⟨S4096x256, .f32⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S4096, .f32⟩
  | .hbm, ⟨59, _⟩ => ⟨S4096x1, .f32⟩
  | .hbm, ⟨60, _⟩ => ⟨S4096x256, .f32⟩
  | .hbm, ⟨61, _⟩ => ⟨S4096x256, .f32⟩
  | .hbm, ⟨62, _⟩ => ⟨S4096x256, .f32⟩
  | .hbm, ⟨63, _⟩ => ⟨S_, .f32⟩
  | .hbm, ⟨64, _⟩ => ⟨S_, .f32⟩
  | .hbm, ⟨65, _⟩ => ⟨S4096x256, .f32⟩
  | .hbm, ⟨66, _⟩ => ⟨S_, .i32⟩
  | .hbm, ⟨67, _⟩ => ⟨S4096, .i32⟩
  | .hbm, ⟨68, _⟩ => ⟨S4096, .i32⟩
  | .hbm, ⟨69, _⟩ => ⟨S4096, .f32⟩
  | .hbm, ⟨70, _⟩ => ⟨S4096x1, .f32⟩
  | .hbm, ⟨71, _⟩ => ⟨S4096x256, .f32⟩
  | .hbm, ⟨72, _⟩ => ⟨S4096x256, .f32⟩
  | .hbm, ⟨73, _⟩ => ⟨S4096x256, .f32⟩
  | .hbm, ⟨74, _⟩ => ⟨S4x256x256, .f32⟩
  | .hbm, ⟨75, _⟩ => ⟨S1x256x256, .f32⟩
  | .hbm, ⟨76, _⟩ => ⟨S256x256, .f32⟩
  | .hbm, ⟨77, _⟩ => ⟨S1x256x256, .f32⟩
  | .hbm, ⟨78, _⟩ => ⟨S256x256, .f32⟩
  | .hbm, ⟨79, _⟩ => ⟨S1x256x256, .f32⟩
  | .hbm, ⟨80, _⟩ => ⟨S256x256, .f32⟩
  | .hbm, ⟨81, _⟩ => ⟨S1x256x256, .f32⟩
  | .hbm, ⟨82, _⟩ => ⟨S256x256, .f32⟩
  | .hbm, ⟨83, _⟩ => ⟨S4096x256, .f32⟩
  | .hbm, ⟨84, _⟩ => ⟨S4096x256, .f32⟩
  | .hbm, ⟨85, _⟩ => ⟨S4096x256, .f32⟩
  | .hbm, ⟨86, _⟩ => ⟨S4096x256, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S1x1024, .f32⟩
  | .hbm, ⟨91, _⟩ => ⟨S1024, .f32⟩
  | .hbm, ⟨92, _⟩ => ⟨S4096x1024, .f32⟩
  | .hbm, ⟨93, _⟩ => ⟨S_, .f32⟩
  | .hbm, ⟨94, _⟩ => ⟨S4096, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S_, .f32⟩
  | .hbm, ⟨100, _⟩ => ⟨S4096x1, .f32⟩
  | .hbm, ⟨101, _⟩ => ⟨S4096x1, .f32⟩
  | .hbm, ⟨102, _⟩ => ⟨S4096x1, .f32⟩
  | .hbm, ⟨103, _⟩ => ⟨S4096x1024, .f32⟩
  | .hbm, ⟨104, _⟩ => ⟨S4096x1024, .f32⟩
  | .hbm, ⟨105, _⟩ => ⟨S1x1024, .f32⟩
  | .hbm, ⟨106, _⟩ => ⟨S4096x1024, .f32⟩
  | .hbm, ⟨107, _⟩ => ⟨S4096x1024, .f32⟩
  | .hbm, ⟨108, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_c_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_c_9 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_10 : Ref sig .tc := ⟨.hbm, 93, rfl⟩
abbrev main_v77 : Ref sig .tc := ⟨.hbm, 94, rfl⟩
abbrev main_v78 : Ref sig .tc := ⟨.hbm, 95, rfl⟩
abbrev main_cst_11 : Ref sig .tc := ⟨.hbm, 96, rfl⟩
abbrev main_v79 : Ref sig .tc := ⟨.hbm, 97, rfl⟩
abbrev main_v80 : Ref sig .tc := ⟨.hbm, 98, rfl⟩
abbrev main_cst_12 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩

abbrev nD : Nat := 1
abbrev τ : Topo := Topo.v7x

variable {F : FTy → Type} [FloatOps F]
-- ==== PoolBack.lean ====
abbrev S4096x1024 : Shape := ⟨2, ![4096, 1024]⟩
abbrev S16x1024 : Shape := ⟨2, ![16, 1024]⟩
abbrev S1x1024 : Shape := ⟨2, ![1, 1024]⟩
abbrev S4x256x256 : Shape := ⟨3, ![4, 256, 256]⟩
abbrev S8x1024 : Shape := ⟨2, ![8, 1024]⟩
abbrev S512x1024 : Shape := ⟨2, ![512, 1024]⟩
abbrev S528x1024 : Shape := ⟨2, ![528, 1024]⟩
abbrev S512 : Shape := ⟨1, ![512]⟩
abbrev S512x1 : Shape := ⟨2, ![512, 1]⟩
abbrev S16 : Shape := ⟨1, ![16]⟩
abbrev S16x1 : Shape := ⟨2, ![16, 1]⟩
abbrev S528x256 : Shape := ⟨2, ![528, 256]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S1024 : Shape := ⟨1, ![1024]⟩
abbrev S16x256 : Shape := ⟨2, ![16, 256]⟩

abbrev nBuf : Space → Nat
  | .hbm => 8
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S16x1024, .f32⟩
  | .hbm, ⟨3, _⟩ => ⟨S1x1024, .f32⟩
  | .hbm, ⟨4, _⟩ => ⟨S4x256x256, .bf16⟩
  | .hbm, ⟨5, _⟩ => ⟨S4096x1024, .f32⟩
  | .hbm, ⟨6, _⟩ => ⟨S4x256x256, .f32⟩
  | .hbm, ⟨7, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S1x1024, .f32⟩
  | .local _ .vmem, ⟨8, _⟩ => ⟨S4x256x256, .bf16⟩
  | .local _ .vmem, ⟨9, _⟩ => ⟨S512x1024, .f32⟩
  | .local _ .vmem, ⟨10, _⟩ => ⟨S512x1024, .f32⟩
  | .local _ .vmem, ⟨11, _⟩ => ⟨S4x256x256, .f32⟩
  | .local _ .vmem, ⟨12, _⟩ => ⟨S8x1024, .f32⟩
  | .local _ .vmem, ⟨13, _⟩ => ⟨S528x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S528x1024, .f32⟩
  | .local _ .vmem, ⟨18, _⟩ => ⟨S512x1024, .f32⟩
  | .local _ .vmem, ⟨19, _⟩ => ⟨S16x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PoolBackReferenceIdeal.lean ====
abbrev S4096x1024 : Shape := ⟨2, ![4096, 1024]⟩
abbrev S16x1024 : Shape := ⟨2, ![16, 1024]⟩
abbrev S1x1024 : Shape := ⟨2, ![1, 1024]⟩
abbrev S4x256x256 : Shape := ⟨3, ![4, 256, 256]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x256 : Shape := ⟨2, ![4096, 256]⟩
abbrev S1x256x256 : Shape := ⟨3, ![1, 256, 256]⟩
abbrev S256x256 : Shape := ⟨2, ![256, 256]⟩
abbrev S4111x256 : Shape := ⟨2, ![4111, 256]⟩
abbrev S4103x256 : Shape := ⟨2, ![4103, 256]⟩
abbrev S4099x256 : Shape := ⟨2, ![4099, 256]⟩
abbrev S4097x256 : Shape := ⟨2, ![4097, 256]⟩
abbrev S5x1024 : Shape := ⟨2, ![5, 1024]⟩
abbrev S8x1024 : Shape := ⟨2, ![8, 1024]⟩

abbrev nBuf : Space → Nat
  | .hbm => 239
  | .vmem => 0
  | .smem => 0
  | _ => 0

abbrev hbmTy0_0 (i : Nat) : BufTy := match i % 128 with
  | 0 => ⟨S4096x1024, .f32⟩
  | 1 => ⟨S4096x1024, .f32⟩
  | 2 => ⟨S16x1024, .f32⟩
  | 3 => ⟨S1x1024, .f32⟩
  | 4 => ⟨S4x256x256, .bf16⟩
  | 5 => ⟨S4x256x256, .f32⟩
  | 6 => ⟨S1x1024, .f32⟩
  | 7 => ⟨S1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S1x1024, .f32⟩
  | 26 => ⟨S4096x1024, .f32⟩
  | 27 => ⟨S4096x1024, .f32⟩
  | 28 => ⟨S4096, .i32⟩
  | 29 => ⟨S_, .i32⟩
  | 30 => ⟨S4096, .i32⟩
  | 31 => ⟨S4096, .i32⟩
  | 32 => ⟨S4096x256, .f32⟩
  | 33 => ⟨S4096x256, .f32⟩
  | 34 => ⟨S4096x256, .f32⟩
  | 35 => ⟨S4096x256, .f32⟩
  | 36 => ⟨S_, .f32⟩
  | 37 => ⟨S_, .f32⟩
  | 38 => ⟨S4096x256, .f32⟩
  | 39 => ⟨S_, .i32⟩
  | 40 => ⟨S4096, .i32⟩
  | 41 => ⟨S4096, .i32⟩
  | 42 => ⟨S4096, .f32⟩
  | 43 => ⟨S4096x1, .f32⟩
  | 44 => ⟨S4096x256, .f32⟩
  | 45 => ⟨S4096x256, .f32⟩
  | 46 => ⟨S4096x256, .f32⟩
  | 47 => ⟨S_, .f32⟩
  | 48 => ⟨S_, .f32⟩
  | 49 => ⟨S4096x256, .f32⟩
  | 50 => ⟨S_, .i32⟩
  | 51 => ⟨S4096, .i32⟩
  | 52 => ⟨S4096, .i32⟩
  | 53 => ⟨S4096, .f32⟩
  | 54 => ⟨S4096x1, .f32⟩
  | 55 => ⟨S4096x256, .f32⟩
  | 56 => ⟨S4096x256, .f32⟩
  | 57 => ⟨S4096x256, .f32⟩
  | 58 => ⟨S_, .f32⟩
  | 59 => ⟨S_, .f32⟩
  | 60 => ⟨S4096x256, .f32⟩
  | 61 => ⟨S_, .i32⟩
  | 62 => ⟨S4096, .i32⟩
  | 63 => ⟨S4096, .i32⟩
  | 64 => ⟨S4096, .f32⟩
  | 65 => ⟨S4096x1, .f32⟩
  | 66 => ⟨S4096x256, .f32⟩
  | 67 => ⟨S4096x256, .f32⟩
  | 68 => ⟨S4096x256, .f32⟩
  | 69 => ⟨S_, .f32⟩
  | 70 => ⟨S_, .f32⟩
  | 71 => ⟨S4096x256, .f32⟩
  | 72 => ⟨S_, .i32⟩
  | 73 => ⟨S4096, .i32⟩
  | 74 => ⟨S4096, .i32⟩
  | 75 => ⟨S4096, .f32⟩
  | 76 => ⟨S4096x1, .f32⟩
  | 77 => ⟨S4096x256, .f32⟩
  | 78 => ⟨S4096x256, .f32⟩
  | 79 => ⟨S4096x256, .f32⟩
  | 80 => ⟨S1x256x256, .f32⟩
  | 81 => ⟨S256x256, .f32⟩
  | 82 => ⟨S1x256x256, .f32⟩
  | 83 => ⟨S256x256, .f32⟩
  | 84 => ⟨S1x256x256, .f32⟩
  | 85 => ⟨S256x256, .f32⟩
  | 86 => ⟨S1x256x256, .f32⟩
  | 87 => ⟨S256x256, .f32⟩
  | 88 => ⟨S4096x256, .f32⟩
  | 89 => ⟨S4096x256, .f32⟩
  | 90 => ⟨S4096x256, .f32⟩
  | 91 => ⟨S4096x256, .f32⟩
  | 92 => ⟨S4096x1024, .f32⟩
  | 93 => ⟨S4096x1024, .f32⟩
  | 94 => ⟨S4096x1024, .f32⟩
  | 95 => ⟨S1x1024, .f32⟩
  | 96 => ⟨S1024, .f32⟩
  | 97 => ⟨S4096x1024, .f32⟩
  | 98 => ⟨S_, .f32⟩
  | 99 => ⟨S4096, .f32⟩
  | 100 => ⟨S4096x1, .f32⟩
  | 101 => ⟨S_, .f32⟩
  | 102 => ⟨S4096x1, .f32⟩
  | 103 => ⟨S4096x1, .f32⟩
  | 104 => ⟨S_, .f32⟩
  | 105 => ⟨S4096x1, .f32⟩
  | 106 => ⟨S4096x1, .f32⟩
  | 107 => ⟨S4096x1, .f32⟩
  | 108 => ⟨S4096x1, .f32⟩
  | 109 => ⟨S_, .f32⟩
  | 110 => ⟨S4096x1, .f32⟩
  | 111 => ⟨S4096x1, .f32⟩
  | 112 => ⟨S4096x1024, .f32⟩
  | 113 => ⟨S4096x1024, .f32⟩
  | 114 => ⟨S1x1024, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S_, .f32⟩
  | 121 => ⟨S1024, .f32⟩
  | 122 => ⟨S1x1024, .f32⟩
  | 123 => ⟨S4096x1024, .f32⟩
  | 124 => ⟨S4096x1024, .f32⟩
  | 125 => ⟨S_, .f32⟩
  | 126 => ⟨S1024, .f32⟩
  | 127 => ⟨S4096x1024, .f32⟩
  | _ => ⟨S4096x1024, .f32⟩

abbrev hbmTy0_1 (i : Nat) : BufTy := match i % 128 with
  | 0 => ⟨S_, .f32⟩
  | 1 => ⟨S4096, .f32⟩
  | 2 => ⟨S4096x1, .f32⟩
  | 3 => ⟨S4096x1024, .f32⟩
  | 4 => ⟨S4096x1024, .f32⟩
  | 5 => ⟨S4096x1, .f32⟩
  | 6 => ⟨S_, .f32⟩
  | 7 => ⟨S4096x1, .f32⟩
  | 8 => ⟨S4096x1, .f32⟩
  | 9 => ⟨S_, .f32⟩
  | 10 => ⟨S4096, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S_, .f32⟩
  | 18 => ⟨S1024, .f32⟩
  | 19 => ⟨S1x1024, .f32⟩
  | 20 => ⟨S4096x1024, .f32⟩
  | 21 => ⟨S4096x1024, .f32⟩
  | 22 => ⟨S4096x256, .f32⟩
  | 23 => ⟨S4096x256, .f32⟩
  | 24 => ⟨S4096x256, .f32⟩
  | 25 => ⟨S4096x256, .f32⟩
  | 26 => ⟨S256x256, .f32⟩
  | 27 => ⟨S256x256, .f32⟩
  | 28 => ⟨S4096x256, .f32⟩
  | 29 => ⟨S256x256, .f32⟩
  | 30 => ⟨S256x256, .f32⟩
  | 31 => ⟨S4096x256, .f32⟩
  | 32 => ⟨S256x256, .f32⟩
  | 33 => ⟨S256x256, .f32⟩
  | 34 => ⟨S4096x256, .f32⟩
  | 35 => ⟨S256x256, .f32⟩
  | 36 => ⟨S256x256, .f32⟩
  | 37 => ⟨S4096x256, .f32⟩
  | 38 => ⟨S1x256x256, .f32⟩
  | 39 => ⟨S1x256x256, .f32⟩
  | 40 => ⟨S1x256x256, .f32⟩
  | 41 => ⟨S1x256x256, .f32⟩
  | 42 => ⟨S4x256x256, .f32⟩
  | 43 => ⟨S4096x256, .f32⟩
  | 44 => ⟨S4096x256, .f32⟩
  | 45 => ⟨S4096x256, .f32⟩
  | 46 => ⟨S_, .f32⟩
  | 47 => ⟨S4111x256, .f32⟩
  | 48 => ⟨S_, .f32⟩
  | 49 => ⟨S_, .f32⟩
  | 50 => ⟨S4096x256, .f32⟩
  | 51 => ⟨S4096x256, .f32⟩
  | 52 => ⟨S4096x256, .f32⟩
  | 53 => ⟨S4096x256, .f32⟩
  | 54 => ⟨S4096x256, .f32⟩
  | 55 => ⟨S_, .f32⟩
  | 56 => ⟨S4103x256, .f32⟩
  | 57 => ⟨S_, .f32⟩
  | 58 => ⟨S_, .f32⟩
  | 59 => ⟨S4096x256, .f32⟩
  | 60 => ⟨S4096x256, .f32⟩
  | 61 => ⟨S4096x256, .f32⟩
  | 62 => ⟨S4096x256, .f32⟩
  | 63 => ⟨S4096x256, .f32⟩
  | 64 => ⟨S_, .f32⟩
  | 65 => ⟨S4099x256, .f32⟩
  | 66 => ⟨S_, .f32⟩
  | 67 => ⟨S_, .f32⟩
  | 68 => ⟨S4096x256, .f32⟩
  | 69 => ⟨S4096x256, .f32⟩
  | 70 => ⟨S4096x256, .f32⟩
  | 71 => ⟨S4096x256, .f32⟩
  | 72 => ⟨S4096x256, .f32⟩
  | 73 => ⟨S_, .f32⟩
  | 74 => ⟨S4097x256, .f32⟩
  | 75 => ⟨S_, .f32⟩
  | 76 => ⟨S_, .f32⟩
  | 77 => ⟨S4096x256, .f32⟩
  | 78 => ⟨S4096x256, .f32⟩
  | 79 => ⟨S4096x1024, .f32⟩
  | 80 => ⟨S4096x1024, .f32⟩
  | 81 => ⟨S_, .f32⟩
  | 82 => ⟨S1024, .f32⟩
  | 83 => ⟨S1x1024, .f32⟩
  | 84 => ⟨S4096x1024, .f32⟩
  | 85 => ⟨S4096x1024, .f32⟩
  | 86 => ⟨S_, .f32⟩
  | 87 => ⟨S1024, .f32⟩
  | 88 => ⟨S4096x1024, .f32⟩
  | 89 => ⟨S_, .f32⟩
  | 90 => ⟨S4096, .f32⟩
  | 91 => ⟨S4096x1, .f32⟩
  | 92 => ⟨S4096x1024, .f32⟩
  | 93 => ⟨S4096x1024, .f32⟩
  | 94 => ⟨S4096x1, .f32⟩
  | 95 => ⟨S_, .f32⟩
  | 96 => ⟨S4096x1, .f32⟩
  | 97 => ⟨S4096x1, .f32⟩
  | 98 => ⟨S_, .f32⟩
  | 99 => ⟨S4096, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S1x1024, .f32⟩
  | 106 => ⟨S1x1024, .f32⟩
  | 107 => ⟨S_, .f32⟩
  | 108 => ⟨S5x1024, .f32⟩
  | 109 => ⟨S8x1024, .f32⟩
  | 110 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_c_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_c_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_11 : Ref sig .tc := ⟨.hbm, 98, rfl⟩
abbrev main_v80 : Ref sig .tc := ⟨.hbm, 99, rfl⟩
abbrev main_v81 : Ref sig .tc := ⟨.hbm, 100, rfl⟩
abbrev main_cst_12 : Ref sig .tc := ⟨.hbm, 101, rfl⟩
abbrev main_v82 : Ref sig .tc := ⟨.hbm, 102, rfl⟩
abbrev main_v83 : Ref sig .tc := ⟨.hbm, 103, rfl⟩
abbrev main_cst_13 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_14 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_15 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_16 : Ref sig .tc := ⟨.hbm, 125, rfl⟩
abbrev main_v102 : Ref sig .tc := ⟨.hbm, 126, rfl⟩
abbrev main_v103 : Ref sig .tc := ⟨.hbm, 127, rfl⟩
abbrev main_cst_17 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_18 : Ref sig .tc := ⟨.hbm, 134, rfl⟩
abbrev main_v109 : Ref sig .tc := ⟨.hbm, 135, rfl⟩
abbrev main_v110 : Ref sig .tc := ⟨.hbm, 136, rfl⟩
abbrev main_cst_19 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_cst_20 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_cst_21 : Ref sig .tc := ⟨.hbm, 174, rfl⟩
abbrev main_v146 : Ref sig .tc := ⟨.hbm, 175, rfl⟩
abbrev main_cst_22 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_cst_23 : Ref sig .tc := ⟨.hbm, 183, rfl⟩
abbrev main_v153 : Ref sig .tc := ⟨.hbm, 184, rfl⟩
abbrev main_cst_24 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_cst_25 : Ref sig .tc := ⟨.hbm, 192, rfl⟩
abbrev main_v160 : Ref sig .tc := ⟨.hbm, 193, rfl⟩
abbrev main_cst_26 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_cst_27 : Ref sig .tc := ⟨.hbm, 201, rfl⟩
abbrev main_v167 : Ref sig .tc := ⟨.hbm, 202, rfl⟩
abbrev main_cst_28 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_cst_29 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_cst_30 : Ref sig .tc := ⟨.hbm, 214, rfl⟩
abbrev main_v177 : Ref sig .tc := ⟨.hbm, 215, rfl⟩
abbrev main_v178 : Ref sig .tc := ⟨.hbm, 216, rfl⟩
abbrev main_cst_31 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_cst_32 : Ref sig .tc := ⟨.hbm, 223, rfl⟩
abbrev main_v184 : Ref sig .tc := ⟨.hbm, 224, rfl⟩
abbrev main_v185 : Ref sig .tc := ⟨.hbm, 225, rfl⟩
abbrev main_cst_33 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_cst_34 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩

abbrev nD : Nat := 1
abbrev τ : Topo := Topo.v7x

variable {F : FTy → Type} [FloatOps F]
-- ==== StepGateUp.lean ====
abbrev S2048x1408 : Shape := ⟨2, ![2048, 1408]⟩
abbrev S128x1408 : Shape := ⟨2, ![128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepGateUpIdeal.lean ====
abbrev S2048x1408 : Shape := ⟨2, ![2048, 1408]⟩
abbrev S128x1408 : Shape := ⟨2, ![128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepGateUpReferenceIdeal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepDown.lean ====
abbrev S1408x1024 : Shape := ⟨2, ![1408, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepDownIdeal.lean ====
abbrev S1408x1024 : Shape := ⟨2, ![1408, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepDownReferenceIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepIn.lean ====
abbrev S1024x768 : Shape := ⟨2, ![1024, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepInIdeal.lean ====
abbrev S1024x768 : Shape := ⟨2, ![1024, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepInReferenceIdeal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepOut.lean ====
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepOutReferenceIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepPool.lean ====
abbrev S1x4x64x256 : Shape := ⟨4, ![1, 4, 64, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x4x64x256, .f32⟩
  | .hbm, ⟨1, _⟩ => ⟨S1x4x64x256, .f32⟩
  | .hbm, ⟨2, _⟩ => ⟨S1x4x64x256, .f32⟩
  | .hbm, ⟨3, _⟩ => ⟨S1x4x64x256, .f32⟩
  | .hbm, ⟨4, _⟩ => ⟨S1x4x64x256, .f32⟩
  | .hbm, ⟨5, _⟩ => ⟨S1x4x64x256, .f32⟩
  | .hbm, ⟨6, _⟩ => ⟨S1x4x64x256, .f32⟩
  | .hbm, ⟨7, _⟩ => ⟨S1x4x64x256, .f32⟩
  | .local _ .vmem, ⟨0, _⟩ => ⟨S1x4x64x256, .f32⟩
  | .local _ .vmem, ⟨1, _⟩ => ⟨S1x4x64x256, .f32⟩
  | .local _ .vmem, ⟨2, _⟩ => ⟨S1x4x64x256, .f32⟩
  | .local _ .vmem, ⟨3, _⟩ => ⟨S1x4x64x256, .f32⟩
  | .local _ .vmem, ⟨4, _⟩ => ⟨S1x4x64x256, .f32⟩
  | .local _ .vmem, ⟨5, _⟩ => ⟨S1x4x64x256, .f32⟩
  | .local _ .vmem, ⟨6, _⟩ => ⟨S1x4x64x256, .f32⟩
  | .local _ .vmem, ⟨7, _⟩ => ⟨S1x4x64x256, .f32⟩
  | _, _ => ⟨S1x4x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x4x64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4x64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4x64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4x64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4x64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4x64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4x64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4x64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== StepPoolReferenceIdeal.lean ====
abbrev S1x4x64x256 : Shape := ⟨4, ![1, 4, 64, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4x64x256, .f32⟩
  | .hbm, ⟨1, _⟩ => ⟨S1x4x64x256, .f32⟩
  | .hbm, ⟨2, _⟩ => ⟨S1x4x64x256, .f32⟩
  | .hbm, ⟨3, _⟩ => ⟨S1x4x64x256, .f32⟩
  | .hbm, ⟨4, _⟩ => ⟨S_, .f32⟩
  | .hbm, ⟨5, _⟩ => ⟨S1x4x64x256, .f32⟩
  | .hbm, ⟨6, _⟩ => ⟨S1x4x64x256, .f32⟩
  | .hbm, ⟨7, _⟩ => ⟨S_, .f32⟩
  | .hbm, ⟨8, _⟩ => ⟨S1x4x64x256, .f32⟩
  | .hbm, ⟨9, _⟩ => ⟨S1x4x64x256, .f32⟩
  | .hbm, ⟨10, _⟩ => ⟨S1x4x64x256, .f32⟩
  | .hbm, ⟨11, _⟩ => ⟨S_, .f32⟩
  | .hbm, ⟨12, _⟩ => ⟨S1x4x64x256, .f32⟩
  | .hbm, ⟨13, _⟩ => ⟨S1x4x64x256, .f32⟩
  | .hbm, ⟨14, _⟩ => ⟨S1x4x64x256, .f32⟩
  | .hbm, ⟨15, _⟩ => ⟨S_, .f32⟩
  | .hbm, ⟨16, _⟩ => ⟨S1x4x64x256, .f32⟩
  | .hbm, ⟨17, _⟩ => ⟨S1x4x64x256, .f32⟩
  | .hbm, ⟨18, _⟩ => ⟨S1x4x64x256, .f32⟩
  | .hbm, ⟨19, _⟩ => ⟨S_, .f32⟩
  | .hbm, ⟨20, _⟩ => ⟨S1x4x64x256, .f32⟩
  | .hbm, ⟨21, _⟩ => ⟨S1x4x64x256, .f32⟩
  | .hbm, ⟨22, _⟩ => ⟨S_, .f32⟩
  | .hbm, ⟨23, _⟩ => ⟨S1x4x64x256, .f32⟩
  | .hbm, ⟨24, _⟩ => ⟨S1x4x64x256, .f32⟩
  | .hbm, ⟨25, _⟩ => ⟨S1x4x64x256, .f32⟩
  | .hbm, ⟨26, _⟩ => ⟨S_, .f32⟩
  | .hbm, ⟨27, _⟩ => ⟨S1x4x64x256, .f32⟩
  | .hbm, ⟨28, _⟩ => ⟨S1x4x64x256, .f32⟩
  | .hbm, ⟨29, _⟩ => ⟨S1x4x64x256, .f32⟩
  | .hbm, ⟨30, _⟩ => ⟨S_, .f32⟩
  | .hbm, ⟨31, _⟩ => ⟨S1x4x64x256, .f32⟩
  | .hbm, ⟨32, _⟩ => ⟨S1x4x64x256, .f32⟩
  | .hbm, ⟨33, _⟩ => ⟨S1x4x64x256, .f32⟩
  | .hbm, ⟨34, _⟩ => ⟨S_, .f32⟩
  | .hbm, ⟨35, _⟩ => ⟨S1x4x64x256, .f32⟩
  | .hbm, ⟨36, _⟩ => ⟨S1x4x64x256, .f32⟩
  | _, _ => ⟨S1x4x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Rms.lean ====
/- The gradient of an RMS normalisation over the extended reals, written in the two ways in which the programs write
   it: the kernel factors the reciprocal root out of the row, the derivative keeps the three terms of the product rule. -/
module

public import Idealize.ShloMosaic.PureOps.Ideal.Laws
public import Idealize.ShloMosaic.PureOps.Ideal

@[expose] public section

noncomputable section

namespace Cert.Rms

open Idealize.ShloMosaic

/-- The number of columns as the programs' constant. -/
theorem width : Ideal.ofBits .f32 0x44800000#32 = ((1024 : ℝ) : EReal) := by
  simp [Ideal.ofBits, Ideal.ieee, -EReal.coe_mul]; norm_num

/-- The constant minus one half. -/
theorem minus_half : Ideal.ofBits .f32 0xBF000000#32 = ((-(1 / 2) : ℝ) : EReal) := by
  simp [Ideal.ofBits, Ideal.ieee, -EReal.coe_mul]; norm_num

/-- The constant added to the mean square is a positive real. -/
theorem eps_pos : ∃ e : ℝ, 0 < e ∧ Ideal.ofBits .f32 0x358637BD#32 = (e : EReal) := by
  refine ⟨_, ?_, by simp [Ideal.ofBits, Ideal.ieee, -EReal.coe_mul]; rfl⟩
  norm_num

variable {ι : Type} [Fintype ι]

/-- The mean square of a row plus the constant. -/
def ms (x : ι → EReal) : EReal :=
  Ideal.div (∑ k, x k * x k) (Ideal.ofBits .f32 0x44800000#32) + Ideal.ofBits .f32 0x358637BD#32

/-- The reciprocal root of a row. -/
def rr (x : ι → EReal) : EReal := Ideal.rsqrt (ms x)

/-- The gradient with respect to the row `x`, the reciprocal root factored out; `a` is the gradient with respect to the
    normalised row. -/
def bwd (x a : ι → EReal) (l : ι) : EReal :=
  rr x * (a l - x l * rr x * Ideal.div (∑ k, a k * (x k * rr x)) (Ideal.ofBits .f32 0x44800000#32))

/-- The factor by which the product rule multiplies a row's entry twice. -/
def cc (x a : ι → EReal) : EReal :=
  Ideal.div ((∑ k, x k * a k) * (Ideal.ofBits .f32 0xBF000000#32 * Ideal.div (rr x) (ms x))) (Ideal.ofBits .f32 0x44800000#32)

theorem sum_mul_real {r : ℝ} (hr : 0 ≤ r) (f : ι → EReal) : ∑ k, f k * (r : EReal) = (∑ k, f k) * (r : EReal) := by
  classical
  induction (Finset.univ : Finset ι) using Finset.induction_on with
  | empty => simp
  | insert a s ha ih =>
    rw [Finset.sum_insert ha, Finset.sum_insert ha, ih,
      EReal.right_distrib_of_nonneg_of_ne_top (by exact_mod_cast hr) (EReal.coe_ne_top r)]

theorem sq_nonneg' (x : EReal) : 0 ≤ x * x := by
  rcases le_total 0 x with h | h
  · exact mul_nonneg h h
  · have := EReal.mul_nonneg_iff (a := x) (b := x); exact this.mpr (.inr ⟨h, h⟩)

/-- Either some square is infinite and the reciprocal root is zero, or the mean square is a positive real and so is every
    entry of the row. -/
theorem cases (x : ι → EReal) :
    (ms x = ⊤) ∨ (∃ v : ℝ, 0 < v ∧ ms x = (v : EReal)) ∧ ∀ k, ∃ y : ℝ, x k = (y : EReal) := by
  obtain ⟨e, he, hE⟩ := eps_pos
  have hS : 0 ≤ ∑ k, x k * x k := Finset.sum_nonneg fun k _ => sq_nonneg' _
  have hdiv : ∀ s, Ideal.div s ((1024 : ℝ) : EReal) = s * ((1 / 1024 : ℝ) : EReal) := Ideal.div_coe (by norm_num)
  unfold ms
  rw [width, hE, hdiv]
  by_cases ht : (∑ k, x k * x k) = ⊤
  · left
    rw [ht, EReal.top_mul_coe_of_pos (by norm_num)]
    simp
  · right
    have hb : (∑ k, x k * x k) ≠ ⊥ := fun h => by rw [h] at hS; simp at hS
    lift (∑ k, x k * x k) to ℝ using ⟨ht, hb⟩ with s hs
    have hs0 : 0 ≤ s := by exact_mod_cast hS
    refine ⟨⟨s * (1 / 1024) + e, by positivity, by push_cast; rfl⟩, fun k => ?_⟩
    have hk : x k * x k ≠ ⊤ := by
      intro h
      have : x k * x k ≤ ∑ k, x k * x k := Finset.single_le_sum (f := fun k => x k * x k) (fun i _ => sq_nonneg' _) (Finset.mem_univ k)
      rw [h, ← hs] at this
      simp at this
    induction h : x k using EReal.rec with
    | bot => rw [h] at hk; simp at hk
    | top => rw [h] at hk; simp at hk
    | coe y => exact ⟨y, rfl⟩

/-- The two ways of writing the gradient agree. -/
theorem bwd_eq (x a : ι → EReal) (l : ι) : a l * rr x + x l * cc x a + cc x a * x l = bwd x a l := by
  have hdiv : ∀ s, Ideal.div s ((1024 : ℝ) : EReal) = s * ((1 / 1024 : ℝ) : EReal) := Ideal.div_coe (by norm_num)
  unfold bwd cc rr
  rw [width, minus_half]
  simp only [hdiv]
  rcases cases x with h | ⟨⟨v, hv, h⟩, hx⟩
  · rw [h]
    simp [Ideal.div]
  · rw [h]
    have hsq : 0 < Real.sqrt v := Real.sqrt_pos.mpr hv
    have hr : Ideal.rsqrt (v : EReal) = (((Real.sqrt v)⁻¹ : ℝ) : EReal) := by
      rw [Ideal.rsqrt_coe, if_neg (not_lt.mpr hv.le), if_neg hv.ne']
    rw [hr, Ideal.div_coe hv.ne']
    obtain ⟨y, hy⟩ := hx l
    rw [hy]
    have hr0 : 0 ≤ (Real.sqrt v)⁻¹ := by positivity
    have e1 : ∑ k, a k * (x k * (((Real.sqrt v)⁻¹ : ℝ) : EReal)) = (∑ k, x k * a k) * (((Real.sqrt v)⁻¹ : ℝ) : EReal) := by
      rw [← sum_mul_real hr0]
      exact Finset.sum_congr rfl fun k _ => by rw [← mul_assoc, mul_comm (a k)]
    rw [e1]
    generalize (∑ k, x k * a k) = M
    have hr3 : (Real.sqrt v)⁻¹ * (1 / v) = (Real.sqrt v)⁻¹ * (1 / v) := rfl
    have hv2 : 1 / v = (Real.sqrt v)⁻¹ * (Real.sqrt v)⁻¹ := by
      rw [← mul_inv, Real.mul_self_sqrt hv.le, one_div]
    rw [hv2]
    generalize (Real.sqrt v)⁻¹ = r at *
    have hM : ∀ p q : ℝ, (p : EReal) * (M * (q : EReal)) = ((p * q : ℝ) : EReal) * M := fun p q => by
      rw [mul_comm M, ← mul_assoc, EReal.coe_mul]
    have t1 : (y : EReal) * (M * (((-(1 / 2) : ℝ) : EReal) * ((r : EReal) * ((r * r : ℝ) : EReal))) * ((1 / 1024 : ℝ) : EReal))
        = ((-(1 / 2) * (y * r * r * r / 1024) : ℝ) : EReal) * M := by
      rw [mul_assoc M, ← EReal.coe_mul, ← EReal.coe_mul, ← EReal.coe_mul, hM]
      congr 2; ring
    rw [mul_comm (M * _ * _) (y : EReal), t1]
    have t2 : (y : EReal) * (r : EReal) * (M * (r : EReal) * ((1 / 1024 : ℝ) : EReal)) = ((y * r * r / 1024 : ℝ) : EReal) * M := by
      rw [mul_assoc M, ← EReal.coe_mul, ← EReal.coe_mul, hM]
      congr 2; ring
    rw [t2, sub_eq_add_neg, EReal.left_distrib_of_nonneg_of_ne_top (by exact_mod_cast hr0) (EReal.coe_ne_top r), mul_comm (r : EReal),
      add_assoc, mul_neg, ← mul_assoc, ← EReal.coe_mul, ← EReal.neg_mul, ← EReal.coe_neg]
    congr 1
    have : ∀ q : ℝ, (q : EReal) * M + (q : EReal) * M = ((2 * q : ℝ) : EReal) * M := fun q => by
      rw [EReal.coe_mul, mul_assoc]
      rw [show ((2 : ℝ) : EReal) = 1 + 1 from by rw [← EReal.coe_one, ← EReal.coe_add]; norm_num,
        EReal.right_distrib_of_nonneg (by norm_num) (by norm_num), one_mul]
    rw [this]
    congr 2; ring

end Cert.Rms

end
-- ==== Proof.Spec.lean ====
/- The gradient of the gated convolution's sub-layer, token by token and column by column, over the extended reals: the
   functions that the results of both programs are shown equal to. No program is named here. -/
module

public import proofs.«01_k».proof.Proof.Rms

@[expose] public section

noncomputable section

namespace Cert.Conv

open Idealize.ShloMosaic

/-- What the gradient is computed from: the sub-layer's input `h`, the gradient `dh` of its output, the mixer's output `y`
    and the projection `p` that the forward pass saved, the small parameters `s` (row 4: the first gain, row 5: the second,
    rows 8 to 10: the taps), the input weight `wi` in the chips' four column blocks, the output weight `wo`. -/
structure In where
  h : Fin 4096 → Fin 1024 → EReal
  dh : Fin 4096 → Fin 1024 → EReal
  y : Fin 4096 → Fin 1024 → EReal
  p : Fin 4096 → Fin 3072 → EReal
  s : Fin 16 → Fin 1024 → EReal
  wi : Fin 4 → Fin 1024 → Fin 768 → EReal
  wo : Fin 1024 → Fin 1024 → EReal

variable (I : In)

/-- The gradient with respect to the mixer's output. -/
def dy (t : Fin 4096) (l : Fin 1024) : EReal := Rms.bwd (I.y t) (fun k => I.dh t k * I.s 5 k) l

/-- The gradient with respect to the gated convolution. -/
def dbc (t : Fin 4096) (l : Fin 1024) : EReal := ∑ k : Fin 1024, dy I t k * I.wo l k

/-- The three parts of the projection. -/
def gb (t : Fin 4096) (l : Fin 1024) : EReal := I.p t ⟨l.val, by omega⟩
def gc (t : Fin 4096) (l : Fin 1024) : EReal := I.p t ⟨1024 + l.val, by omega⟩
def gv (t : Fin 4096) (l : Fin 1024) : EReal := I.p t ⟨2048 + l.val, by omega⟩

/-- The convolution's input `n` tokens earlier, zero before the first token. -/
def ub (n : ℕ) (t : Fin 4096) (l : Fin 1024) : EReal :=
  if n ≤ t.val then gc I ⟨t.val - n, by omega⟩ l * gv I ⟨t.val - n, by omega⟩ l else 0

/-- The convolution. -/
def conv (t : Fin 4096) (l : Fin 1024) : EReal := ub I 0 t l * I.s 10 l + ub I 1 t l * I.s 9 l + ub I 2 t l * I.s 8 l

/-- The gated convolution. -/
def bc (t : Fin 4096) (l : Fin 1024) : EReal := gb I t l * conv I t l

/-- The gradient with respect to the convolution. -/
def dc (t : Fin 4096) (l : Fin 1024) : EReal := dbc I t l * gb I t l

/-- The same `n` tokens later, zero past the last token. -/
def da (n : ℕ) (t : Fin 4096) (l : Fin 1024) : EReal :=
  if h : t.val + n < 4096 then dc I ⟨t.val + n, h⟩ l else 0

/-- The gradient with respect to the convolution's input. -/
def du (t : Fin 4096) (l : Fin 1024) : EReal := da I 0 t l * I.s 10 l + da I 1 t l * I.s 9 l + da I 2 t l * I.s 8 l

/-- The gradient with respect to the projection. -/
def dp (t : Fin 4096) (k : Fin 3072) : EReal :=
  if h : k.val < 1024 then dbc I t ⟨k.val, h⟩ * conv I t ⟨k.val, h⟩
  else if h' : k.val < 2048 then du I t ⟨k.val - 1024, by omega⟩ * gv I t ⟨k.val - 1024, by omega⟩
  else du I t ⟨k.val - 2048, by omega⟩ * gc I t ⟨k.val - 2048, by omega⟩

/-- The gradient with respect to the normalised input. -/
def dn (t : Fin 4096) (l : Fin 1024) : EReal :=
  ∑ j : Fin 4, ∑ k : Fin 768, dp I t ⟨j.val * 768 + k.val, by omega⟩ * I.wi j l k

/-- The gradient with respect to the sub-layer's input. -/
def o (t : Fin 4096) (l : Fin 1024) : EReal := I.dh t l + Rms.bwd (I.h t) (fun k => dn I t k * I.s 4 k) l

/-- What a token adds to row `j` of the small parameters' gradient. -/
def term (j : ℕ) (t : Fin 4096) (l : Fin 1024) : EReal :=
  if j = 0 then dn I t l * (I.h t l * Rms.rr (I.h t))
  else if j = 1 then I.dh t l * (I.y t l * Rms.rr (I.y t))
  else if j = 2 then dc I t l * ub I 2 t l
  else if j = 3 then dc I t l * ub I 1 t l
  else if j = 4 then dc I t l * ub I 0 t l
  else 0

/-- The small parameters' gradient. -/
def sums (j : Fin 8) (l : Fin 1024) : EReal := ∑ t : Fin 4096, term I j.val t l

end Cert.Conv

end
-- ==== Proof.Pay.lean ====
/- The body's values at a tile of 512 tokens, read at an index, are the gradient's functions of Spec.lean. -/
module

public import proofs.«01_k».proof.Proof.Gen.KernelIdeal.Value
public import proofs.«01_k».proof.Proof.Spec
public import Idealize.ShloMosaic.Lib.Pointwise
public import Idealize.ShloMosaic.Lib.Pipeline.ReadBack
public import Idealize.ShloMosaic.Lib.Pipeline.ValueKit

@[expose] public section

set_option maxRecDepth 16384

noncomputable section

namespace Cert.KernelIdeal.At

open Cert.KernelIdeal Cert.KernelIdeal.Gen Idealize.ShloMosaic Idealize.ShloMosaic.TcCoe

/-- Token `r` of tile `T`. -/
def tok (T : Fin 8) (r : Fin 512) : Fin 4096 := ⟨T.val * 512 + r.val, by omega⟩

theorem tok_val (T : Fin 8) (r : Fin 512) : (tok T r).val = T.val * 512 + r.val := rfl

/-- The rows of the small parameters and the three parts of the projection, as the body loads them. -/
abbrev sm4 (s : Vec Ideal S16x1024 .f32) : Vec Ideal S1x1024 .f32 := View.ld s (Rect.unit (s := S16x1024) ![4, 0] S1x1024.size inb_S16x1024_S1x1024_4_0)
abbrev sm5 (s : Vec Ideal S16x1024 .f32) : Vec Ideal S1x1024 .f32 := View.ld s (Rect.unit (s := S16x1024) ![5, 0] S1x1024.size inb_S16x1024_S1x1024_5_0)
abbrev sm8 (s : Vec Ideal S16x1024 .f32) : Vec Ideal S1x1024 .f32 := View.ld s (Rect.unit (s := S16x1024) ![8, 0] S1x1024.size inb_S16x1024_S1x1024_8_0)
abbrev sm9 (s : Vec Ideal S16x1024 .f32) : Vec Ideal S1x1024 .f32 := View.ld s (Rect.unit (s := S16x1024) ![9, 0] S1x1024.size inb_S16x1024_S1x1024_9_0)
abbrev sm10 (s : Vec Ideal S16x1024 .f32) : Vec Ideal S1x1024 .f32 := View.ld s (Rect.unit (s := S16x1024) ![10, 0] S1x1024.size inb_S16x1024_S1x1024_10_0)
abbrev pb (p : Vec Ideal S512x3072 .bf16) : Vec Ideal S512x1024 .bf16 := View.ld p (Rect.unit (s := S512x3072) ![0, 0] S512x1024.size inb_S512x3072_S512x1024_0_0)
abbrev pc (p : Vec Ideal S512x3072 .bf16) : Vec Ideal S512x1024 .bf16 := View.ld p (Rect.unit (s := S512x3072) ![0, 1024] S512x1024.size inb_S512x3072_S512x1024_0_1024)
abbrev pv (p : Vec Ideal S512x3072 .bf16) : Vec Ideal S512x1024 .bf16 := View.ld p (Rect.unit (s := S512x3072) ![0, 2048] S512x1024.size inb_S512x3072_S512x1024_0_2048)

/-- What the blocks hold at tile `T`. -/
structure Holds (I : Conv.In) (T : Fin 8) (d h y : Vec Ideal S512x1024 .f32) (p : Vec Ideal S512x3072 .bf16) (hal : Vec Ideal S16x3072 .bf16)
    (s : Vec Ideal S16x1024 .f32) (wi : Vec Ideal S4x1024x768 .bf16) (wo : Vec Ideal S1024x1024 .bf16) (v0 : BitVec 32) : Prop where
  d : ∀ r l, d (ix2 r l) = I.dh (tok T r) l
  h : ∀ r l, h (ix2 r l) = I.h (tok T r) l
  y : ∀ r l, y (ix2 r l) = I.y (tok T r) l
  p : ∀ r k, p (ix2 r k) = I.p (tok T r) k
  hal : ∀ (i : Fin 16) k (hT : T.val ≠ 0), hal (ix2 i k) = I.p ⟨T.val * 512 - 16 + i.val, by omega⟩ k
  s : ∀ j l, s (ix2 j l) = I.s j l
  wi : ∀ j l k, wi (ix3 j l k) = I.wi j l k
  wo : ∀ l k, wo (ix2 l k) = I.wo l k
  v0 : Scalar.cmpi .sgt v0 0#32 = if T.val = 0 then 0#1 else 1#1

variable {I : Conv.In} {T : Fin 8} {d h y : Vec Ideal S512x1024 .f32} {p : Vec Ideal S512x3072 .bf16} {hal : Vec Ideal S16x3072 .bf16}
    {s : Vec Ideal S16x1024 .f32} {wi : Vec Ideal S4x1024x768 .bf16} {wo : Vec Ideal S1024x1024 .bf16} {v0 : BitVec 32}
variable (H : Holds I T d h y p hal s wi wo v0)
include H

/-- The gradient with respect to the mixer's output. -/
theorem dy_at (r : Fin 512) (l : Fin 1024) : k0_pay11 (F := Ideal) d y (sm5 s) (ix2 r l) = Conv.dy I (tok T r) l := by
  have hd := H.d
  have hy := H.y
  have hs := H.s
  unfold k0_pay11 k0_pay9 k0_pay8 k0_pay7 sm5
  pointwise [Conv.dy, Rms.bwd, Rms.rr, Rms.ms, hd, hy, hs]

/-- The gradient with respect to the gated convolution. -/
theorem dbc_at (r : Fin 512) (l : Fin 1024) : k0_pay12 (F := Ideal) (k0_pay11 d y (sm5 s)) wo (ix2 r l) = Conv.dbc I (tok T r) l := by
  have hd := dy_at H
  have hw := H.wo
  unfold k0_pay12
  pointwise [Conv.dbc, hd, hw]

/-- The gradient with respect to the convolution. -/
theorem dc_at (r : Fin 512) (l : Fin 1024) :
    k0_pay23 (F := Ideal) (k0_pay12 (k0_pay11 d y (sm5 s)) wo) (k0_pay13 (pb p)) (ix2 r l) = Conv.dc I (tok T r) l := by
  have hd := dbc_at H
  have hp := H.p
  unfold k0_pay23 k0_pay13 pb
  pointwise [Conv.dc, Conv.gb, hd, hp]

/-- The convolution's input in the scratch: the eight rows before the tile, then the tile. -/
abbrev ue (p : Vec Ideal S512x3072 .bf16) (hal : Vec Ideal S16x3072 .bf16) (v0 : BitVec 32) : Vec Ideal S520x1024 .f32 :=
  (View.whole cc0_scratch0).readCov (Val := Elt Ideal)
    [⟨Rect.unit (s := S520x1024) ![8, 0] S512x1024.size inb_S520x1024_S512x1024_8_0, k0_pay17 (F := Ideal) (pc p) (pv p)⟩,
      ⟨Rect.unit (s := S520x1024) ![0, 0] S8x1024.size inb_S520x1024_S8x1024_0_0, k0_pay16 (F := Ideal) v0 hal⟩]
    (Rect.unit (s := S520x1024) ![0, 0] S520x1024.size inb_S520x1024_S520x1024_0_0).toLoadRect

theorem ue_at (i : Fin 520) (l : Fin 1024) : ue p hal v0 (ix2 i l)
    = if hi : 8 ≤ T.val * 512 + i.val then Conv.gc I ⟨T.val * 512 + i.val - 8, by omega⟩ l * Conv.gv I ⟨T.val * 512 + i.val - 8, by omega⟩ l else 0 := by
  unfold ue
  rw [View.readCov_eq_canon']
  have hp := H.p
  have hh := H.hal
  have hv := H.v0
  blk_simp
  canon_tiles x hx using View.cover_of_tiledBy (s := S520x1024) (Val := Elt Ideal) (e := .f32) _ ![8, 1024] (by sl_kernel_rfl) _
  · idx_vars x
    rw [Rect.idx_unit_val] at hx0 hx1
    have e0 : i.val = 8 + x0.val := by simpa using hx0
    have e1 : l = x1 := Fin.ext (by simpa using hx1)
    subst e1
    rw [dif_pos (by omega)]
    have e : ∀ hh, (⟨T.val * 512 + i.val - 8, hh⟩ : Fin 4096) = tok T x0 := fun _ => Fin.ext (by rw [tok_val]; dsimp only; omega)
    rw [e]
    unfold k0_pay17 k0_pay14 k0_pay15 pc pv
    pointwise [Conv.gc, Conv.gv, hp]
  · idx_vars x
    rw [Rect.idx_unit_val] at hx0 hx1
    have e0 : i.val = x0.val := by simpa using hx0
    have e1 : l = x1 := Fin.ext (by simpa using hx1)
    subst e1
    unfold k0_pay16
    pointwise [Conv.gc, Conv.gv]
    rw [hv]
    by_cases hT : T.val = 0
    · rw [if_pos hT, dif_neg (by omega)]
      rfl
    · rw [if_neg hT, dif_pos (by omega), hh _ _ hT, hh _ _ hT]
      have e : ∀ hh h', (⟨T.val * 512 + i.val - 8, hh⟩ : Fin 4096) = ⟨T.val * 512 - 16 + (8 + x0.val), h'⟩ :=
        fun _ _ => Fin.ext (by dsimp only; omega)
      rw [e]
      rfl

/-- The scratch's row eight plus `r` less `n` is the convolution's input `n` tokens before token `r`. -/
theorem ue_ub (n : ℕ) (hn : n ≤ 2) (r : Fin 512) (l : Fin 1024) (i : Fin 520) (hi : i.val = 8 + r.val - n) :
    ue p hal v0 (ix2 i l) = Conv.ub I n (tok T r) l := by
  rw [ue_at H, Conv.ub]
  have et := tok_val T r
  have e : ∀ h1 h2, (⟨T.val * 512 + i.val - 8, h1⟩ : Fin 4096) = ⟨(tok T r).val - n, h2⟩ := fun _ _ => Fin.ext (by dsimp only; omega)
  by_cases hc : n ≤ (tok T r).val
  · rw [dif_pos (by omega), if_pos hc, e]
  · rw [dif_neg (by omega), if_neg hc]

theorem u0_at (r : Fin 512) (l : Fin 1024) : k0_pay18 (F := Ideal) (ue p hal v0) (ix2 r l) = Conv.ub I 0 (tok T r) l := by
  have hu := ue_ub H 0 (by omega) r l
  unfold k0_pay18
  pointwise []
  exact hu _ (by simp)

theorem u1_at (r : Fin 512) (l : Fin 1024) : k0_pay19 (F := Ideal) (ue p hal v0) (ix2 r l) = Conv.ub I 1 (tok T r) l := by
  have hu := ue_ub H 1 (by omega) r l
  unfold k0_pay19
  pointwise []
  exact hu _ (by dsimp only; omega)

theorem u2_at (r : Fin 512) (l : Fin 1024) : k0_pay20 (F := Ideal) (ue p hal v0) (ix2 r l) = Conv.ub I 2 (tok T r) l := by
  have hu := ue_ub H 2 (by omega) r l
  unfold k0_pay20
  pointwise []
  exact hu _ (by dsimp only; omega)

/-- The convolution. -/
theorem conv_at (r : Fin 512) (l : Fin 1024) : k0_pay21 (F := Ideal) (sm8 s) (sm9 s) (sm10 s) (ue p hal v0) (ix2 r l) = Conv.conv I (tok T r) l := by
  have h0 := u0_at H
  have h1 := u1_at H
  have h2 := u2_at H
  have hs := H.s
  unfold k0_pay21 sm8 sm9 sm10
  pointwise [Conv.conv, h0, h1, h2, hs]

/-- The gated convolution. -/
theorem bc_at (r : Fin 512) (l : Fin 1024) :
    k0_pay22 (F := Ideal) (k0_pay13 (pb p)) (sm8 s) (sm9 s) (sm10 s) (ue p hal v0) (ix2 r l) = Conv.bc I (tok T r) l := by
  have hc := conv_at H
  have hp := H.p
  unfold k0_pay22 k0_pay13 pb
  pointwise [Conv.bc, Conv.gb, hc, hp]

/-- The gradient with respect to the convolution, in the scratch: the tile, then the first eight rows of the tile after it. -/
abbrev de (dcb : Vec Ideal S512x1024 .f32) (cr : Vec Ideal S8x1024 .f32) : Vec Ideal S520x1024 .f32 :=
  (View.whole cc0_scratch1).readCov (Val := Elt Ideal)
    [⟨Rect.unit (s := S520x1024) ![512, 0] S8x1024.size inb_S520x1024_S8x1024_512_0, k0_pay28 (F := Ideal) cr⟩,
      ⟨Rect.unit (s := S520x1024) ![0, 0] S512x1024.size inb_S520x1024_S512x1024_0_0, k0_pay27 (F := Ideal) dcb⟩]
    (Rect.unit (s := S520x1024) ![0, 0] S520x1024.size inb_S520x1024_S520x1024_0_0).toLoadRect

/-- What the carried rows hold when tile `T` reads them. -/
def Carried (I : Conv.In) (T : Fin 8) (cr : Vec Ideal S8x1024 .f32) : Prop :=
  ∀ (i : Fin 8) (l : Fin 1024), cr (ix2 i l) = if hi : (T.val + 1) * 512 + i.val < 4096 then Conv.dc I ⟨(T.val + 1) * 512 + i.val, hi⟩ l else 0

/-- The body's gradient with respect to the gated convolution and with respect to the convolution. -/
abbrev dbcB (d y : Vec Ideal S512x1024 .f32) (s : Vec Ideal S16x1024 .f32) (wo : Vec Ideal S1024x1024 .bf16) : FVec Ideal S512x1024 .f32 :=
  k0_pay12 (F := Ideal) (k0_pay11 d y (sm5 s)) wo
abbrev dcB (d y : Vec Ideal S512x1024 .f32) (p : Vec Ideal S512x3072 .bf16) (s : Vec Ideal S16x1024 .f32) (wo : Vec Ideal S1024x1024 .bf16) :
    FVec Ideal S512x1024 .f32 := k0_pay23 (F := Ideal) (dbcB d y s wo) (k0_pay13 (pb p))

/-- The rows the body keeps for the next tile. -/
theorem carry_at : ∀ (i : Fin 8) (l : Fin 1024), k0_pay29 (F := Ideal) (dcB d y p s wo) (ix2 i l) = Conv.dc I (tok T ⟨i.val, by omega⟩) l := by
  intro i l
  have hc := dc_at H
  unfold k0_pay29
  pointwise [hc]

variable {cr : Vec Ideal S8x1024 .f32} (C : Carried I T cr)
include C

theorem de_at (i : Fin 520) (l : Fin 1024) : de (dcB d y p s wo) cr (ix2 i l)
    = if hi : T.val * 512 + i.val < 4096 then Conv.dc I ⟨T.val * 512 + i.val, hi⟩ l else 0 := by
  unfold de
  rw [View.readCov_eq_canon']
  have hd := dc_at H
  blk_simp
  canon_tiles x hx using View.cover_of_tiledBy (s := S520x1024) (Val := Elt Ideal) (e := .f32) _ ![8, 1024] (by sl_kernel_rfl) _
  · idx_vars x
    rw [Rect.idx_unit_val] at hx0 hx1
    have e0 : i.val = 512 + x0.val := by simpa using hx0
    have e1 : l = x1 := Fin.ext (by simpa using hx1)
    subst e1
    unfold k0_pay28
    pointwise []
    rw [C]
    have e : T.val * 512 + i.val = (T.val + 1) * 512 + x0.val := by omega
    simp only [e]
  · idx_vars x
    rw [Rect.idx_unit_val] at hx0 hx1
    have e0 : i.val = x0.val := by simpa using hx0
    have e1 : l = x1 := Fin.ext (by simpa using hx1)
    subst e1
    unfold k0_pay27
    pointwise [hd]
    rw [dif_pos (by omega)]
    congr 1
    exact Fin.ext (by rw [tok_val]; dsimp only; omega)

theorem de_da (n : ℕ) (r : Fin 512) (l : Fin 1024) (i : Fin 520) (hi : i.val = r.val + n) :
    de (dcB d y p s wo) cr (ix2 i l) = Conv.da I n (tok T r) l := by
  rw [de_at H C, Conv.da]
  have e : T.val * 512 + i.val = (tok T r).val + n := by rw [tok_val]; omega
  simp only [e]

/-- The gradient with respect to the convolution's input. -/
theorem du_at (r : Fin 512) (l : Fin 1024) :
    k0_pay30 (F := Ideal) (sm8 s) (sm9 s) (sm10 s) (de (dcB d y p s wo) cr) (ix2 r l) = Conv.du I (tok T r) l := by
  have h0 := de_da H C 0 r l
  have h1 := de_da H C 1 r l
  have h2 := de_da H C 2 r l
  have hs := H.s
  unfold k0_pay30 sm8 sm9 sm10
  pointwise [Conv.du, hs]
  rw [h0 _ (by simp), h1 _ (by dsimp only; omega), h2 _ (by dsimp only; omega)]

/-- The three parts of the gradient with respect to the projection. -/
abbrev q0 (d y : Vec Ideal S512x1024 .f32) (p : Vec Ideal S512x3072 .bf16) (hal : Vec Ideal S16x3072 .bf16) (s : Vec Ideal S16x1024 .f32)
    (wo : Vec Ideal S1024x1024 .bf16) (v0 : BitVec 32) : FVec Ideal S512x1024 .bf16 :=
  k0_pay31 (F := Ideal) (dbcB d y s wo) (k0_pay21 (sm8 s) (sm9 s) (sm10 s) (ue p hal v0))
abbrev q1 (d y : Vec Ideal S512x1024 .f32) (p : Vec Ideal S512x3072 .bf16) (s : Vec Ideal S16x1024 .f32) (wo : Vec Ideal S1024x1024 .bf16)
    (cr : Vec Ideal S8x1024 .f32) : FVec Ideal S512x1024 .bf16 :=
  k0_pay32 (F := Ideal) (k0_pay15 (pv p)) (sm8 s) (sm9 s) (sm10 s) (de (dcB d y p s wo) cr)
abbrev q2 (d y : Vec Ideal S512x1024 .f32) (p : Vec Ideal S512x3072 .bf16) (s : Vec Ideal S16x1024 .f32) (wo : Vec Ideal S1024x1024 .bf16)
    (cr : Vec Ideal S8x1024 .f32) : FVec Ideal S512x1024 .bf16 :=
  k0_pay33 (F := Ideal) (k0_pay14 (pc p)) (sm8 s) (sm9 s) (sm10 s) (de (dcB d y p s wo) cr)

theorem q0_at (r : Fin 512) (l : Fin 1024) (k : Fin 3072) (hk : k.val = l.val) :
    q0 d y p hal s wo v0 (ix2 r l) = Conv.dp I (tok T r) k := by
  have hd := dbc_at H
  have hc := conv_at H
  unfold q0 k0_pay31
  pointwise [hd, hc]
  rw [Conv.dp, dif_pos (by omega)]
  simp only [hk]

theorem q1_at (r : Fin 512) (l : Fin 1024) (k : Fin 3072) (hk : k.val = 1024 + l.val) :
    q1 d y p s wo cr (ix2 r l) = Conv.dp I (tok T r) k := by
  have hd := du_at H C
  have hp := H.p
  unfold q1 k0_pay32 k0_pay15 pv
  pointwise [hd, hp]
  have e : k.val - 1024 = l.val := by omega
  rw [Conv.dp, dif_neg (by omega), dif_pos (by omega)]
  simp only [e]
  rfl

theorem q2_at (r : Fin 512) (l : Fin 1024) (k : Fin 3072) (hk : k.val = 2048 + l.val) :
    q2 d y p s wo cr (ix2 r l) = Conv.dp I (tok T r) k := by
  have hd := du_at H C
  have hp := H.p
  unfold q2 k0_pay33 k0_pay14 pc
  pointwise [hd, hp]
  have e : k.val - 2048 = l.val := by omega
  rw [Conv.dp, dif_neg (by omega), dif_neg (by omega)]
  simp only [e]
  rfl

omit H C in
theorem in_cols (y : S512x3072.Idx) (c : ℕ) (inb : ∀ a, ![0, c] a + S512x1024.size a ≤ S512x3072.size a) (h : c ≤ (y 1).val) (h' : (y 1).val < c + 1024) :
    y ∈ (Rect.unit (s := S512x3072) ![0, c] S512x1024.size inb).set := by
  rw [Rect.mem_set_unit]
  intro a
  have h0 : (y 0).val < 512 := (y 0).isLt
  match a with
  | 0 => exact ⟨Nat.zero_le _, by show (y 0).val < 0 + 512; omega⟩
  | 1 => exact ⟨h, h'⟩

/-- The projection's gradient as the body has stored it, whole. -/
theorem dp_at (j : S512x3072.Idx) :
    View.canon (Val := Elt Ideal) (e := .bf16) [⟨Rect.unit (s := S512x3072) ![0, 2048] S512x1024.size inb_S512x3072_S512x1024_0_2048, q2 d y p s wo cr⟩,
      ⟨Rect.unit (s := S512x3072) ![0, 1024] S512x1024.size inb_S512x3072_S512x1024_0_1024, q1 d y p s wo cr⟩,
      ⟨Rect.unit (s := S512x3072) ![0, 0] S512x1024.size inb_S512x3072_S512x1024_0_0, q0 d y p hal s wo v0⟩] j
    = Conv.dp I (tok T (j 0)) (j 1) := by
  have h2 := q2_at H C
  have h1 := q1_at H C
  have h0 := q0_at H C
  canon_tiles x hx
  · idx_vars x
    rw [h2 x0 x1 (j 1) hx1, show j 0 = x0 from Fin.ext hx0]
  · idx_vars x
    rw [h1 x0 x1 (j 1) hx1, show j 0 = x0 from Fin.ext hx0]
  · idx_vars x
    rw [h0 x0 x1 (j 1) hx1, show j 0 = x0 from Fin.ext hx0]

/-- The first part alone, and the first two. -/
theorem dp0_at (j : S512x3072.Idx) (hj : (j 1).val < 1024) :
    View.canon (Val := Elt Ideal) (e := .bf16) [⟨Rect.unit (s := S512x3072) ![0, 0] S512x1024.size inb_S512x3072_S512x1024_0_0, q0 d y p hal s wo v0⟩] j
    = Conv.dp I (tok T (j 0)) (j 1) := by
  have h0 := q0_at H C
  canon_tiles x hx using ⟨_, List.mem_cons_self, in_cols j 0 inb_S512x3072_S512x1024_0_0 (by omega) (by omega)⟩
  · idx_vars x
    rw [h0 x0 x1 (j 1) hx1, show j 0 = x0 from Fin.ext hx0]

theorem dp1_at (j : S512x3072.Idx) (hj : (j 1).val < 2048) :
    View.canon (Val := Elt Ideal) (e := .bf16) [⟨Rect.unit (s := S512x3072) ![0, 1024] S512x1024.size inb_S512x3072_S512x1024_0_1024, q1 d y p s wo cr⟩,
      ⟨Rect.unit (s := S512x3072) ![0, 0] S512x1024.size inb_S512x3072_S512x1024_0_0, q0 d y p hal s wo v0⟩] j
    = Conv.dp I (tok T (j 0)) (j 1) := by
  have h1 := q1_at H C
  have h0 := q0_at H C
  have hcov : ∃ p_1 ∈ ([⟨Rect.unit (s := S512x3072) ![0, 1024] S512x1024.size inb_S512x3072_S512x1024_0_1024, q1 d y p s wo cr⟩,
      ⟨Rect.unit (s := S512x3072) ![0, 0] S512x1024.size inb_S512x3072_S512x1024_0_0, q0 d y p hal s wo v0⟩] : List (View.Piece (Elt Ideal) S512x3072 .bf16)),
      j ∈ p_1.fst.set := by
    by_cases hc : (j 1).val < 1024
    · exact ⟨_, List.mem_cons_of_mem _ List.mem_cons_self, in_cols j 0 inb_S512x3072_S512x1024_0_0 (by omega) (by omega)⟩
    · exact ⟨_, List.mem_cons_self, in_cols j 1024 inb_S512x3072_S512x1024_0_1024 (by omega) (by omega)⟩
  canon_tiles x hx using hcov
  · idx_vars x
    rw [h1 x0 x1 (j 1) hx1, show j 0 = x0 from Fin.ext hx0]
  · idx_vars x
    rw [h0 x0 x1 (j 1) hx1, show j 0 = x0 from Fin.ext hx0]

/-- The gradient with respect to the normalised input, from the projection's gradient read back in four blocks of columns. -/
abbrev dnB (d y : Vec Ideal S512x1024 .f32) (p : Vec Ideal S512x3072 .bf16) (hal : Vec Ideal S16x3072 .bf16) (s : Vec Ideal S16x1024 .f32)
    (wi : Vec Ideal S4x1024x768 .bf16) (wo : Vec Ideal S1024x1024 .bf16) (v0 : BitVec 32) (cr : Vec Ideal S8x1024 .f32)
    (M : View sig .tc .vmem S512x3072 .bf16) : FVec Ideal S512x1024 .f32 :=
  k0_pay34 (F := Ideal)
    (M.readCov (Val := Elt Ideal) [⟨Rect.unit (s := S512x3072) ![0, 0] S512x1024.size inb_S512x3072_S512x1024_0_0, q0 d y p hal s wo v0⟩]
      (Rect.unit (s := S512x3072) ![0, 0] S512x768.size inb_S512x3072_S512x768_0_0).toLoadRect)
    (View.ld wi (Rect.unit (s := S4x1024x768) ![0, 0, 0] S1x1024x768.size inb_S4x1024x768_S1x1024x768_0_0_0))
    (M.readCov (Val := Elt Ideal) [⟨Rect.unit (s := S512x3072) ![0, 1024] S512x1024.size inb_S512x3072_S512x1024_0_1024, q1 d y p s wo cr⟩,
      ⟨Rect.unit (s := S512x3072) ![0, 0] S512x1024.size inb_S512x3072_S512x1024_0_0, q0 d y p hal s wo v0⟩]
      (Rect.unit (s := S512x3072) ![0, 768] S512x768.size inb_S512x3072_S512x768_0_768).toLoadRect)
    (View.ld wi (Rect.unit (s := S4x1024x768) ![1, 0, 0] S1x1024x768.size inb_S4x1024x768_S1x1024x768_1_0_0))
    (M.readCov (Val := Elt Ideal) [⟨Rect.unit (s := S512x3072) ![0, 2048] S512x1024.size inb_S512x3072_S512x1024_0_2048, q2 d y p s wo cr⟩,
      ⟨Rect.unit (s := S512x3072) ![0, 1024] S512x1024.size inb_S512x3072_S512x1024_0_1024, q1 d y p s wo cr⟩,
      ⟨Rect.unit (s := S512x3072) ![0, 0] S512x1024.size inb_S512x3072_S512x1024_0_0, q0 d y p hal s wo v0⟩]
      (Rect.unit (s := S512x3072) ![0, 1536] S512x768.size inb_S512x3072_S512x768_0_1536).toLoadRect)
    (View.ld wi (Rect.unit (s := S4x1024x768) ![2, 0, 0] S1x1024x768.size inb_S4x1024x768_S1x1024x768_2_0_0))
    (M.readCov (Val := Elt Ideal) [⟨Rect.unit (s := S512x3072) ![0, 2048] S512x1024.size inb_S512x3072_S512x1024_0_2048, q2 d y p s wo cr⟩,
      ⟨Rect.unit (s := S512x3072) ![0, 1024] S512x1024.size inb_S512x3072_S512x1024_0_1024, q1 d y p s wo cr⟩,
      ⟨Rect.unit (s := S512x3072) ![0, 0] S512x1024.size inb_S512x3072_S512x1024_0_0, q0 d y p hal s wo v0⟩]
      (Rect.unit (s := S512x3072) ![0, 2304] S512x768.size inb_S512x3072_S512x768_0_2304).toLoadRect)
    (View.ld wi (Rect.unit (s := S4x1024x768) ![3, 0, 0] S1x1024x768.size inb_S4x1024x768_S1x1024x768_3_0_0))

/-- The columns `n` to `n + 768` of an array that is the projection's gradient there. -/
theorem rd_at (M : View sig .tc .vmem S512x3072 .bf16) (L : List (View.Piece (Elt Ideal) S512x3072 .bf16)) (n : ℕ) (hn : n + 768 ≤ 3072)
    (inb : ∀ a, ![0, n] a + S512x768.size a ≤ S512x3072.size a)
    (hL : ∀ j : S512x3072.Idx, (j 1).val < n + 768 → View.canon L j = Conv.dp I (tok T (j 0)) (j 1)) (r : Fin 512) (x : Fin 768) (k : Fin 3072) (hk : k.val = n + x.val) :
    M.readCov L (Rect.unit (s := S512x3072) ![0, n] S512x768.size inb).toLoadRect (ix2 r x) = Conv.dp I (tok T r) k := by
  rw [View.readCov_eq_canon']
  have e1 : ((Rect.unit (s := S512x3072) ![0, n] S512x768.size inb).idx (ix2 r x) 1).val = n + x.val := Rect.idx_unit_val ..
  have e0 : ((Rect.unit (s := S512x3072) ![0, n] S512x768.size inb).idx (ix2 r x) 0).val = 0 + r.val := Rect.idx_unit_val ..
  have h := hL ((Rect.unit (s := S512x3072) ![0, n] S512x768.size inb).idx (ix2 r x)) (by rw [e1]; omega)
  rw [show (Rect.unit (s := S512x3072) ![0, n] S512x768.size inb).idx (ix2 r x) 1 = k from Fin.ext (by rw [e1, hk]),
    show (Rect.unit (s := S512x3072) ![0, n] S512x768.size inb).idx (ix2 r x) 0 = r from Fin.ext (by rw [e0, Nat.zero_add])] at h
  exact h

omit H C in
theorem pay34_at (a0 a1 a2 a3 : Vec Ideal S512x768 .bf16) (w0 w1 w2 w3 : Vec Ideal S1x1024x768 .bf16) (r : Fin 512) (l : Fin 1024) :
    k0_pay34 (F := Ideal) a0 w0 a1 w1 a2 w2 a3 w3 (ix2 r l)
      = ∑ x : Fin 768, a0 (ix2 r x) * w0 (ix3 0 l x) + ∑ x : Fin 768, a1 (ix2 r x) * w1 (ix3 0 l x) + ∑ x : Fin 768, a2 (ix2 r x) * w2 (ix3 0 l x)
        + ∑ x : Fin 768, a3 (ix2 r x) * w3 (ix3 0 l x) := by
  unfold k0_pay34
  pointwise []

omit C in
theorem wi_at (j : Fin 4) (inb : ∀ a, ![j.val, 0, 0] a + S1x1024x768.size a ≤ S4x1024x768.size a) (l : Fin 1024) (x : Fin 768) :
    View.ld wi (Rect.unit (s := S4x1024x768) ![j.val, 0, 0] S1x1024x768.size inb) (ix3 0 l x) = I.wi j l x := by
  rw [← H.wi]
  pointwise []

theorem dn_at (M : View sig .tc .vmem S512x3072 .bf16) (r : Fin 512) (l : Fin 1024) :
    dnB d y p hal s wi wo v0 cr M (ix2 r l) = Conv.dn I (tok T r) l := by
  unfold dnB
  rw [pay34_at, Conv.dn, Fin.sum_univ_four]
  refine congrArg₂ (· + ·) (congrArg₂ (· + ·) (congrArg₂ (· + ·) ?_ ?_) ?_) ?_ <;> refine Finset.sum_congr rfl fun x _ => congrArg₂ (· * ·) ?_ ?_
  · exact rd_at H C M _ 0 (by omega) _ (fun j hj => dp0_at H C j (by omega)) r x _ (by show 0 * 768 + x.val = 0 + x.val; omega)
  · exact wi_at H 0 _ l x
  · exact rd_at H C M _ 768 (by omega) _ (fun j hj => dp1_at H C j (by omega)) r x _ (by show 1 * 768 + x.val = 768 + x.val; omega)
  · exact wi_at H 1 _ l x
  · exact rd_at H C M _ 1536 (by omega) _ (fun j hj => dp_at H C j) r x _ (by show 2 * 768 + x.val = 1536 + x.val; omega)
  · exact wi_at H 2 _ l x
  · exact rd_at H C M _ 2304 (by omega) _ (fun j hj => dp_at H C j) r x _ (by show 3 * 768 + x.val = 2304 + x.val; omega)
  · exact wi_at H 3 _ l x

/-- The gradient with respect to the sub-layer's input. -/
theorem o_at (M : View sig .tc .vmem S512x3072 .bf16) (r : Fin 512) (l : Fin 1024) :
    k0_pay4 (F := Ideal) d (dnB d y p hal s wi wo v0 cr M) h (k0_pay35 h) (FloatOps.ofBits FTy.f32 897988541#32) (sm4 s) (ix2 r l) = Conv.o I (tok T r) l := by
  have hn := dn_at H C M
  have hd := H.d
  have hh := H.h
  have hs := H.s
  unfold k0_pay4 k0_pay2 k0_pay1 k0_pay35 sm4
  pointwise [Conv.o, Rms.bwd, Rms.rr, Rms.ms, hd, hh, hn, hs]

/-- What the tile adds to each row of the small parameters' gradient. -/
theorem sum0_at (M : View sig .tc .vmem S512x3072 .bf16) (v : Vec Ideal S1x1024 .f32) (l : Fin 1024) :
    k0_pay3 (F := Ideal) (dnB d y p hal s wi wo v0 cr M) h (k0_pay35 h) (FloatOps.ofBits FTy.f32 897988541#32) v (ix2 0 l)
      = v (ix2 0 l) + ∑ r : Fin 512, Conv.term I 0 (tok T r) l := by
  have hn := dn_at H C M
  have hh := H.h
  unfold k0_pay3 k0_pay2 k0_pay1 k0_pay35
  pointwise [Conv.term, Rms.rr, Rms.ms, hh, hn]

omit C in
theorem sum1_at (v : Vec Ideal S1x1024 .f32) (l : Fin 1024) :
    k0_pay10 (F := Ideal) d y v (ix2 0 l) = v (ix2 0 l) + ∑ r : Fin 512, Conv.term I 1 (tok T r) l := by
  have hd := H.d
  have hy := H.y
  unfold k0_pay10 k0_pay9 k0_pay8 k0_pay7
  pointwise [Conv.term, Rms.rr, Rms.ms, hd, hy]

omit C in
theorem sum2_at (v : Vec Ideal S1x1024 .f32) (l : Fin 1024) :
    k0_pay26 (F := Ideal) (dbcB d y s wo) (k0_pay13 (pb p)) (ue p hal v0) v (ix2 0 l) = v (ix2 0 l) + ∑ r : Fin 512, Conv.term I 2 (tok T r) l := by
  have hc := dc_at H
  have hu := u2_at H
  unfold k0_pay26
  pointwise [Conv.term, hc, hu]

omit C in
theorem sum3_at (v : Vec Ideal S1x1024 .f32) (l : Fin 1024) :
    k0_pay25 (F := Ideal) (dbcB d y s wo) (k0_pay13 (pb p)) (ue p hal v0) v (ix2 0 l) = v (ix2 0 l) + ∑ r : Fin 512, Conv.term I 3 (tok T r) l := by
  have hc := dc_at H
  have hu := u1_at H
  unfold k0_pay25
  pointwise [Conv.term, hc, hu]

omit C in
theorem sum4_at (v : Vec Ideal S1x1024 .f32) (l : Fin 1024) :
    k0_pay24 (F := Ideal) (dbcB d y s wo) (k0_pay13 (pb p)) (ue p hal v0) v (ix2 0 l) = v (ix2 0 l) + ∑ r : Fin 512, Conv.term I 4 (tok T r) l := by
  have hc := dc_at H
  have hu := u0_at H
  unfold k0_pay24
  pointwise [Conv.term, hc, hu]

end Cert.KernelIdeal.At

end
-- ==== Proof.Point.lean ====
/- What each grid point of the kernel leaves in its output blocks. -/
module

public import proofs.«01_k».proof.Proof.Pay

@[expose] public section

set_option maxRecDepth 16384

noncomputable section

namespace Cert.KernelIdeal.At

open Cert.KernelIdeal Cert.KernelIdeal.Gen Idealize.ShloMosaic Idealize.ShloMosaic.TcCoe

variable (m : (ℓ : Loc nD τ sig) → Buf (Elt Ideal) ℓ) (c : Dev nD)

/-- The region's input arrays, as the gradient's inputs. -/
def KI : Conv.In where
  h t l := V m c main_arg0 (ix2 t l)
  dh t l := V m c main_arg1 (ix2 t l)
  y t l := V m c main_v48 (ix2 t l)
  p t k := V m c main_v49 (ix2 t k)
  s j l := V m c main_arg2 (ix2 j l)
  wi j l k := V m c main_arg3 (ix3 j l k)
  wo l k := V m c main_arg4 (ix2 l k)

/-- The tile of grid point `t`: the points go through the sequence backwards. -/
def tile (t : Fin cfg0.N) : Fin 8 := ⟨7 - t.val, by omega⟩

/-- The blocks' places in their arrays. -/
theorem idx : ∀ t : Fin cfg0.N, win0_0.index t = ![7 - t.val, 0] ∧ win0_1.index t = ![7 - t.val, 0] ∧ win0_2.index t = ![7 - t.val, 0]
    ∧ win0_3.index t = ![7 - t.val, 0] ∧ win0_4.index t = ![(7 - t.val) * 32 - 1, 0] ∧ win0_5.index t = ![0, 0] ∧ win0_6.index t = ![0, 0, 0]
    ∧ win0_7.index t = ![0, 0] ∧ win0_8.index t = ![7 - t.val, 0] ∧ win0_9.index t = ![7 - t.val, 0] ∧ win0_10.index t = ![7 - t.val, 0]
    ∧ win0_11.index t = ![7 - t.val, 0] ∧ win0_12.index t = ![0, 0] :=
  (by decide +kernel : ∀ t : Fin grid0.N, _)

/-- The comparison that says whether a tile has one before it. -/
theorem first : ∀ t : Fin cfg0.N, Scalar.cmpi .sgt (Scalar.subi (7#32) (BitVec.ofNat 32 ↑(grid0.coords t 0))) 0#32
    = if (tile t).val = 0 then 0#1 else 1#1 :=
  (by decide +kernel : ∀ t : Fin grid0.N, Scalar.cmpi .sgt (Scalar.subi (7#32) (BitVec.ofNat 32 ↑(grid0.coords t 0))) 0#32
    = if 7 - t.val = 0 then 0#1 else 1#1)

theorem b0 (t : Fin cfg0.N) (r : Fin 512) (l : Fin 1024) : iblk m c 0 t (ix2 r l) = (KI m c).dh (tok (tile t) r) l := by
  blk_ext [iblk, KI, tok, tile, idx t]

theorem b1 (t : Fin cfg0.N) (r : Fin 512) (l : Fin 1024) : iblk m c 1 t (ix2 r l) = (KI m c).h (tok (tile t) r) l := by
  blk_ext [iblk, KI, tok, tile, idx t]

theorem b2 (t : Fin cfg0.N) (r : Fin 512) (l : Fin 1024) : iblk m c 2 t (ix2 r l) = (KI m c).y (tok (tile t) r) l := by
  blk_ext [iblk, KI, tok, tile, idx t]

theorem b3 (t : Fin cfg0.N) (r : Fin 512) (k : Fin 3072) : iblk m c 3 t (ix2 r k) = (KI m c).p (tok (tile t) r) k := by
  blk_ext [iblk, KI, tok, tile, idx t]

theorem b4 (t : Fin cfg0.N) (i : Fin 16) (k : Fin 3072) (ht : (tile t).val ≠ 0) (hi) :
    iblk m c 4 t (ix2 i k) = (KI m c).p ⟨(tile t).val * 512 - 16 + i.val, hi⟩ k := by
  have ht' : 7 - t.val ≠ 0 := ht
  blk_ext [iblk, KI, tok, tile, idx t]

theorem b5 (t : Fin cfg0.N) (j : Fin 16) (l : Fin 1024) : iblk m c 5 t (ix2 j l) = (KI m c).s j l := by
  blk_ext [iblk, KI, idx t]

theorem b6 (t : Fin cfg0.N) (j : Fin 4) (l : Fin 1024) (k : Fin 768) : iblk m c 6 t (ix3 j l k) = (KI m c).wi j l k := by
  blk_ext [iblk, KI, idx t]

theorem b7 (t : Fin cfg0.N) (l k : Fin 1024) : iblk m c 7 t (ix2 l k) = (KI m c).wo l k := by
  blk_ext [iblk, KI, idx t]

/-- The word the body computes from the grid coordinate. -/
abbrev w0 (t : Fin cfg0.N) : BitVec 32 := Scalar.subi (7#32) (BitVec.ofNat 32 ↑(grid0.coords t 0))

theorem holds (t : Fin cfg0.N) : Holds (KI m c) (tile t) (iblk m c 0 t) (iblk m c 1 t) (iblk m c 2 t) (iblk m c 3 t) (iblk m c 4 t) (iblk m c 5 t)
    (iblk m c 6 t) (iblk m c 7 t) (w0 t) where
  d := b0 m c t
  h := b1 m c t
  y := b2 m c t
  p := b3 m c t
  hal i k ht := b4 m c t i k ht _
  s := b5 m c t
  wi := b6 m c t
  wo := b7 m c t
  v0 := first t

/-- What the scratch carries after a point: the first rows of its tile. -/
theorem carry (t : Fin cfg0.N) (i : Fin 8) (l : Fin 1024) :
    (outsAt0 m c t.val t.isLt).2.2.2.2.2 (ix2 i l) = Conv.dc (KI m c) (tok (tile t) ⟨i.val, by omega⟩) l := by
  by_cases h : t.val % 8 = 0
  · rw [outsAt0_A m c t h]
    frame_out
    exact carry_at (holds m c t) i l
  · rw [outsAt0_B m c t h]
    frame_out
    exact carry_at (holds m c t) i l

/-- The carried rows a point reads: zero at the first, what the point before left afterwards. -/
def cr (t : Fin cfg0.N) : Vec Ideal S8x1024 .f32 :=
  if t.val % 8 = 0 then k0_pay6 (F := Ideal) else (outsAt0 m c (t.val - 1) (Nat.lt_of_le_of_lt (Nat.sub_le _ _) t.isLt)).2.2.2.2.2

theorem carried (t : Fin cfg0.N) : Carried (KI m c) (tile t) (cr m c t) := by
  intro i l
  have hN : cfg0.N = 8 := rfl
  unfold cr
  by_cases h : t.val % 8 = 0
  · have h0 : t.val = 0 := by omega
    rw [if_pos h, dif_neg (by show ¬ (7 - t.val + 1) * 512 + i.val < 4096; omega)]
    unfold k0_pay6
    pointwise []
  · rw [if_neg h, dif_pos (by show (7 - t.val + 1) * 512 + i.val < 4096; omega)]
    refine (carry m c ⟨t.val - 1, by omega⟩ i l).trans (congrArg (Conv.dc (KI m c) · l) (Fin.ext ?_))
    show (7 - (t.val - 1)) * 512 + i.val = (7 - t.val + 1) * 512 + i.val
    omega

end Cert.KernelIdeal.At

end
-- ==== Proof.Out.lean ====
/- The blocks the grid points write back, and what the sums hold after each point. -/
module

public import proofs.«01_k».proof.Proof.Point
public import Idealize.ShloMosaic.Lib.WritesUnit

@[expose] public section

set_option maxRecDepth 16384

noncomputable section

namespace Cert.KernelIdeal.At

open Cert.KernelIdeal Cert.KernelIdeal.Gen Idealize.ShloMosaic Idealize.ShloMosaic.TcCoe

variable (m : (ℓ : Loc nD τ sig) → Buf (Elt Ideal) ℓ) (c : Dev nD)

theorem carriedA (t : Fin cfg0.N) (h : t.val % 8 = 0) : Carried (KI m c) (tile t) (k0_pay6 (F := Ideal)) := by
  have C := carried m c t
  rwa [show cr m c t = k0_pay6 (F := Ideal) from if_pos h] at C

theorem carriedB (t : Fin cfg0.N) (h : ¬t.val % 8 = 0) :
    Carried (KI m c) (tile t) (outsAt0 m c (t.val - 1) (Nat.lt_of_le_of_lt (Nat.sub_le _ _) t.isLt)).2.2.2.2.2 := by
  have C := carried m c t
  rwa [show cr m c t = _ from if_neg h] at C

/-- The gradient with respect to the mixer's output. -/
theorem out10 (t : Fin cfg0.N) (r : Fin 512) (l : Fin 1024) :
    (outsAt0 m c t.val t.isLt).2.2.1 (ix2 r l) = Conv.dy (KI m c) (tok (tile t) r) l := by
  by_cases h : t.val % 8 = 0
  · rw [outsAt0_A m c t h]
    frame_out
    exact dy_at (holds m c t) r l
  · rw [outsAt0_B m c t h]
    frame_out
    exact dy_at (holds m c t) r l

/-- The gated convolution. -/
theorem out11 (t : Fin cfg0.N) (r : Fin 512) (l : Fin 1024) :
    (outsAt0 m c t.val t.isLt).2.2.2.1 (ix2 r l) = Conv.bc (KI m c) (tok (tile t) r) l := by
  by_cases h : t.val % 8 = 0
  · rw [outsAt0_A m c t h]
    frame_out
    exact bc_at (holds m c t) r l
  · rw [outsAt0_B m c t h]
    frame_out
    exact bc_at (holds m c t) r l

/-- The gradient with respect to the projection. -/
theorem out9 (t : Fin cfg0.N) (r : Fin 512) (k : Fin 3072) :
    (outsAt0 m c t.val t.isLt).2.1 (ix2 r k) = Conv.dp (KI m c) (tok (tile t) r) k := by
  by_cases h : t.val % 8 = 0
  · rw [outsAt0_A m c t h]
    frame_out
    exact dp_at (holds m c t) (carriedA m c t h) (ix2 r k)
  · rw [outsAt0_B m c t h]
    frame_out
    simp only [read_unread_whole]
    exact dp_at (holds m c t) (carriedB m c t h) (ix2 r k)

/-- The gradient with respect to the sub-layer's input. -/
theorem out8 (t : Fin cfg0.N) (r : Fin 512) (l : Fin 1024) :
    (outsAt0 m c t.val t.isLt).1 (ix2 r l) = Conv.o (KI m c) (tok (tile t) r) l := by
  by_cases h : t.val % 8 = 0
  · rw [outsAt0_A m c t h]
    frame_open
    simp (disch := decide) only [↓ View.readCov_skip, ↓ View.readCov_cons_toLoadRect, ↓ View.readCov_fill]
    frame_out
    exact o_at (holds m c t) (carriedA m c t h) _ r l
  · rw [outsAt0_B m c t h]
    frame_open
    simp (disch := decide) only [↓ View.readCov_skip, ↓ View.readCov_cons_toLoadRect, ↓ View.readCov_fill]
    frame_out
    simp only [read_unread_whole]
    exact o_at (holds m c t) (carriedB m c t h) _ r l

/-- A row written over a block: what an entry reads afterwards. -/
theorem row_at (v : View sig .tc .vmem S8x1024 .f32) (f : v.ty.Contents (Elt Ideal)) (n : ℕ) (hn : n < 8)
    (inb : ∀ a, ![n, 0] a + S1x1024.size a ≤ S8x1024.size a) (x : Vec Ideal S1x1024 .f32)
    (L : List (View.Piece (Elt Ideal) S8x1024 .f32)) (j : Fin 8) (l : Fin 1024) :
    v.read (Elt Ideal) (v.writes (Elt Ideal) f (⟨Rect.unit (s := S8x1024) ![n, 0] S1x1024.size inb, x⟩ :: L)) (ix2 j l)
      = if j.val = n then x (ix2 0 l) else v.read (Elt Ideal) (v.writes (Elt Ideal) f L) (ix2 j l) := by
  split_ifs with h
  · exact View.read_writes_cons_unit_of_mem v f inb x L _ (ix2 0 l) rfl (Fin.forall_fin_two.mpr ⟨h, (Nat.zero_add _).symm⟩)
  · refine View.read_writes_cons_unit_of_not_mem v f inb x L _ rfl (0 : Fin 2) ?_
    show j.val < n ∨ n + 1 ≤ j.val
    omega

/-- Five rows written over a block: what an entry reads afterwards. -/
theorem rows_at (v : View sig .tc .vmem S8x1024 .f32) (f : v.ty.Contents (Elt Ideal)) (x0 x1 x2 x3 x4 : Vec Ideal S1x1024 .f32)
    (L : List (View.Piece (Elt Ideal) S8x1024 .f32)) (j : Fin 8) (l : Fin 1024) :
    v.read (Elt Ideal) (v.writes (Elt Ideal) f (⟨Rect.unit (s := S8x1024) ![0, 0] S1x1024.size inb_S8x1024_S1x1024_0_0, x0⟩
      :: ⟨Rect.unit (s := S8x1024) ![2, 0] S1x1024.size inb_S8x1024_S1x1024_2_0, x2⟩ :: ⟨Rect.unit (s := S8x1024) ![3, 0] S1x1024.size inb_S8x1024_S1x1024_3_0, x3⟩
      :: ⟨Rect.unit (s := S8x1024) ![4, 0] S1x1024.size inb_S8x1024_S1x1024_4_0, x4⟩ :: ⟨Rect.unit (s := S8x1024) ![1, 0] S1x1024.size inb_S8x1024_S1x1024_1_0, x1⟩
      :: L)) (ix2 j l)
    = if j.val = 0 then x0 (ix2 0 l) else if j.val = 1 then x1 (ix2 0 l) else if j.val = 2 then x2 (ix2 0 l) else if j.val = 3 then x3 (ix2 0 l)
      else if j.val = 4 then x4 (ix2 0 l) else v.read (Elt Ideal) (v.writes (Elt Ideal) f L) (ix2 j l) := by
  rw [row_at v f 0 (by omega), row_at v f 2 (by omega), row_at v f 3 (by omega), row_at v f 4 (by omega), row_at v f 1 (by omega)]
  split_ifs <;> first | rfl | omega

theorem ld_row (v : Vec Ideal S8x1024 .f32) (n : ℕ) (hn : n < 8) (inb : ∀ a, ![n, 0] a + S1x1024.size a ≤ S8x1024.size a) (j : Fin 8) (hj : j.val = n) (l : Fin 1024) :
    View.ld v (Rect.unit (s := S8x1024) ![n, 0] S1x1024.size inb) (ix2 0 l) = v (ix2 j l) := by
  subst hj
  pointwise []

theorem term_ge (I : Conv.In) (j : ℕ) (h0 : ¬j = 0) (h1 : ¬j = 1) (h2 : ¬j = 2) (h3 : ¬j = 3) (h4 : ¬j = 4) (t : Fin 4096) (l : Fin 1024) : Conv.term I j t l = 0 := by
  unfold Conv.term
  rw [if_neg h0, if_neg h1, if_neg h2, if_neg h3, if_neg h4]

/-- At the points after the first, the block of sums grows by its tile's terms. -/
theorem sumB (t : Fin cfg0.N) (h : ¬t.val % 8 = 0) (j : Fin 8) (l : Fin 1024) : (outsAt0 m c t.val t.isLt).2.2.2.2.1 (ix2 j l)
    = (outsAt0 m c (t.val - 1) (Nat.lt_of_le_of_lt (Nat.sub_le _ _) t.isLt)).2.2.2.2.1 (ix2 j l) + ∑ r : Fin 512, Conv.term (KI m c) j.val (tok (tile t) r) l := by
  have H := holds m c t
  have C := carriedB m c t h
  rw [outsAt0_B m c t h]
  frame_open
  simp (disch := decide) only [↓ View.readCov_skip, ↓ View.readCov_cons_toLoadRect, ↓ View.readCov_fill]
  frame_out
  simp only [read_unread_whole]
  refine (rows_at _ _ _ _ _ _ _ [] j l).trans ?_
  split_ifs with h0 h1 h2 h3 h4
  · refine (sum0_at H C _ _ l).trans ?_
    rw [h0]
    exact congrArg (· + _) (ld_row _ 0 (by omega) _ j h0 l)
  · refine (sum1_at H _ l).trans ?_
    rw [h1]
    exact congrArg (· + _) (ld_row _ 1 (by omega) _ j h1 l)
  · refine (sum2_at H _ l).trans ?_
    rw [h2]
    exact congrArg (· + _) (ld_row _ 2 (by omega) _ j h2 l)
  · refine (sum3_at H _ l).trans ?_
    rw [h3]
    exact congrArg (· + _) (ld_row _ 3 (by omega) _ j h3 l)
  · refine (sum4_at H _ l).trans ?_
    rw [h4]
    exact congrArg (· + _) (ld_row _ 4 (by omega) _ j h4 l)
  · rw [View.writes_nil, Memref.IsWhole.read_unread]
    simp only [term_ge _ _ h0 h1 h2 h3 h4, Finset.sum_const_zero, add_zero]

/-- The first point starts the block of sums at zero. -/
theorem sumA (t : Fin cfg0.N) (h : t.val % 8 = 0) (j : Fin 8) (l : Fin 1024) : (outsAt0 m c t.val t.isLt).2.2.2.2.1 (ix2 j l)
    = 0 + ∑ r : Fin 512, Conv.term (KI m c) j.val (tok (tile t) r) l := by
  have H := holds m c t
  have C := carriedA m c t h
  have hz (i : Fin 8) : k0_pay5 (F := Ideal) (ix2 i l) = 0 := by
    unfold k0_pay5
    pointwise []
  rw [outsAt0_A m c t h]
  frame_open
  simp (disch := decide) only [↓ View.readCov_skip, ↓ View.readCov_cons_toLoadRect, ↓ View.readCov_fill]
  frame_out
  refine (View.read_writes_junk_apply_eq_canon (ms0_12 t).view _ _).symm.trans ?_
  refine (rows_at _ _ _ _ _ _ _ [_] j l).trans ?_
  split_ifs with h0 h1 h2 h3 h4
  · refine (sum0_at H C _ _ l).trans ?_
    rw [h0]
    exact congrArg (· + _) ((ld_row _ 0 (by omega) _ j h0 l).trans (hz j))
  · refine (sum1_at H _ l).trans ?_
    rw [h1]
    exact congrArg (· + _) ((ld_row _ 1 (by omega) _ j h1 l).trans (hz j))
  · refine (sum2_at H _ l).trans ?_
    rw [h2]
    exact congrArg (· + _) ((ld_row _ 2 (by omega) _ j h2 l).trans (hz j))
  · refine (sum3_at H _ l).trans ?_
    rw [h3]
    exact congrArg (· + _) ((ld_row _ 3 (by omega) _ j h3 l).trans (hz j))
  · refine (sum4_at H _ l).trans ?_
    rw [h4]
    exact congrArg (· + _) ((ld_row _ 4 (by omega) _ j h4 l).trans (hz j))
  · refine (View.read_writes_cons_unit_of_mem _ _ _ _ [] _ (ix2 j l) rfl (Fin.forall_fin_two.mpr ⟨(Nat.zero_add _).symm, (Nat.zero_add _).symm⟩)).trans ?_
    simp only [term_ge _ _ h0 h1 h2 h3 h4, Finset.sum_const_zero, add_zero]
    exact hz j

end Cert.KernelIdeal.At

end
-- ==== Proof.RefValue.lean ====
/- The reference's results, read at an index, are the gradient's functions of Spec.lean. -/
module

public import proofs.«01_k».proof.Proof.Gen.ReferenceIdeal.Read
public import proofs.«01_k».proof.Proof.Spec
public import Idealize.ShloMosaic.Lib.Pointwise
public import Idealize.ShloMosaic.Lib.Pipeline.ValueKit

@[expose] public section

set_option maxRecDepth 16384

noncomputable section

namespace Cert.ReferenceIdeal.At

open Cert.ReferenceIdeal Cert.ReferenceIdeal.Gen Cert.ReferenceIdeal.Read Idealize.ShloMosaic Idealize.ShloMosaic.TcCoe

variable (x0 x1 : FVec Ideal S4096x1024 .f32) (x2 : FVec Ideal S16x1024 .f32) (x3 : FVec Ideal S4x1024x768 .bf16)
  (x4 : FVec Ideal S1024x1024 .bf16)

/-- The gradient's inputs, the saved arrays being what the reference's own first lines compute. -/
def inp : Conv.In where
  h := fun t l => x0 (ix2 t l)
  dh := fun t l => x1 (ix2 t l)
  y := fun t l => val_main_v48 (F := Ideal) x0 x2 x3 x4 (ix2 t l)
  p := fun t k => val_main_v18 (F := Ideal) x0 x2 x3 (ix2 t k)
  s := fun j l => x2 (ix2 j l)
  wi := fun j l k => x3 (ix3 j l k)
  wo := fun l k => x4 (ix2 l k)

theorem inp_h (t : Fin 4096) (l : Fin 1024) : (inp x0 x1 x2 x3 x4).h t l = x0 (ix2 t l) := rfl
theorem inp_dh (t : Fin 4096) (l : Fin 1024) : (inp x0 x1 x2 x3 x4).dh t l = x1 (ix2 t l) := rfl
theorem inp_y (t : Fin 4096) (l : Fin 1024) : (inp x0 x1 x2 x3 x4).y t l = val_main_v48 (F := Ideal) x0 x2 x3 x4 (ix2 t l) := rfl
theorem inp_p (t : Fin 4096) (k : Fin 3072) : (inp x0 x1 x2 x3 x4).p t k = val_main_v18 (F := Ideal) x0 x2 x3 (ix2 t k) := rfl
theorem inp_s (j : Fin 16) (l : Fin 1024) : (inp x0 x1 x2 x3 x4).s j l = x2 (ix2 j l) := rfl
theorem inp_wi (j : Fin 4) (l : Fin 1024) (k : Fin 768) : (inp x0 x1 x2 x3 x4).wi j l k = x3 (ix3 j l k) := rfl
theorem inp_wo (l k : Fin 1024) : (inp x0 x1 x2 x3 x4).wo l k = x4 (ix2 l k) := rfl

/-- The mean square of a row of the mixer's output. -/
theorem ms1 (t : Fin 4096) : val_main_v89 (F := Ideal) x0 x2 x3 x4 (ix2 t 0) = Rms.ms ((inp x0 x1 x2 x3 x4).y t) := by
  unfold val_main_v89 val_main_v88 val_main_v87 val_main_v86 val_main_v85 val_main_v84 val_main_v83 val_main_cst_5 val_main_cst_6 val_main_cst_7
  pointwise [Rms.ms, inp_y]

/-- The gradient with respect to the mixer's output. -/
theorem dy (t : Fin 4096) (l : Fin 1024) : val_main_v120 (F := Ideal) x0 x1 x2 x3 x4 (ix2 t l) = Conv.dy (inp x0 x1 x2 x3 x4) t l := by
  unfold Conv.dy
  rw [← Rms.bwd_eq]
  unfold val_main_v120 val_main_v119 val_main_v118 val_main_v117 val_main_v116 val_main_v115 val_main_v114 val_main_v113 val_main_v112
    val_main_v111 val_main_v110 val_main_v109 val_main_v108 val_main_v107 val_main_v105 val_main_v104 val_main_v100 val_main_v96
    val_main_v93 val_main_v92 val_main_v91 val_main_v90 val_main_v82 val_main_v81
    val_main_cst_8 val_main_cst_11 val_main_cst_12 val_main_cst_13
  have hm := ms1 x0 x1 x2 x3 x4 t
  pointwise [Rms.cc, Rms.rr, inp_y, inp_dh, inp_s, hm, Fin.sum_univ_one]

/-- The gradient with respect to the gated convolution. -/
theorem dbc (t : Fin 4096) (l : Fin 1024) : val_main_v123 (F := Ideal) x0 x1 x2 x3 x4 (ix2 t l) = Conv.dbc (inp x0 x1 x2 x3 x4) t l := by
  have hd := dy x0 x1 x2 x3 x4
  unfold val_main_v123 val_main_v121
  pointwise [Conv.dbc, hd, inp_wo]

/-- The convolution's input, the first two rows zero. -/
theorem up (n : ℕ) (hn : n ≤ 2) (t : Fin 4096) (l : Fin 1024) (q : Fin 4098) (hq : q.val = 2 - n + t.val) :
    val_main_v58 (F := Ideal) x0 x2 x3 (ix2 q l) = Conv.ub (inp x0 x1 x2 x3 x4) n t l := by
  unfold val_main_v58 val_main_v57 val_main_v56 val_main_v55 val_main_v54 val_main_cst_3
  pointwise [Conv.ub, Conv.gc, Conv.gv, inp_p]
  by_cases h : n ≤ t.val
  · rw [dif_neg (by omega), if_pos h]
    have e : ∀ h1 h2, (⟨q.val - 2, h1⟩ : Fin 4096) = ⟨t.val - n, h2⟩ := fun _ _ => Fin.ext (by dsimp only; omega)
    rw [e]
  · rw [dif_pos (by omega), if_neg h]

/-- The convolution. -/
theorem conv (t : Fin 4096) (l : Fin 1024) : val_main_v79 (F := Ideal) x0 x2 x3 (ix2 t l) = Conv.conv (inp x0 x1 x2 x3 x4) t l := by
  have h0 := fun q h => up x0 x1 x2 x3 x4 0 (by omega) t l q h
  have h1 := fun q h => up x0 x1 x2 x3 x4 1 (by omega) t l q h
  have h2 := fun q h => up x0 x1 x2 x3 x4 2 (by omega) t l q h
  unfold val_main_v79 val_main_v78 val_main_v77 val_main_v76 val_main_v75 val_main_v74 val_main_v73 val_main_v72 val_main_v71 val_main_v70
    val_main_v69 val_main_v68 val_main_v67 val_main_v66 val_main_v65 val_main_v64 val_main_v63 val_main_v62 val_main_v61 val_main_v60 val_main_v52
  pointwise [Conv.conv, inp_s]
  rw [h2 _ (by simp), h1 _ rfl, h0 _ rfl]
  ac_rfl

/-- The gated convolution. -/
theorem bc (t : Fin 4096) (l : Fin 1024) : val_main_v80 (F := Ideal) x0 x2 x3 (ix2 t l) = Conv.bc (inp x0 x1 x2 x3 x4) t l := by
  have h := conv x0 x1 x2 x3 x4 t l
  unfold val_main_v80 val_main_v53
  pointwise [Conv.bc, Conv.gb, inp_p, h]

/-- The gradient with respect to the convolution. -/
theorem dc (t : Fin 4096) (l : Fin 1024) : val_main_v124 (F := Ideal) x0 x1 x2 x3 x4 (ix2 t l) = Conv.dc (inp x0 x1 x2 x3 x4) t l := by
  have h := dbc x0 x1 x2 x3 x4 t l
  unfold val_main_v124 val_main_v53
  pointwise [Conv.dc, Conv.gb, inp_p, h]
  exact mul_comm _ _

/-- The gradient with respect to the convolution's input. -/
theorem du (t : Fin 4096) (l : Fin 1024) : val_main_v158 (F := Ideal) x0 x1 x2 x3 x4 (ix2 t l) = Conv.du (inp x0 x1 x2 x3 x4) t l := by
  have h := dc x0 x1 x2 x3 x4
  unfold val_main_v158 val_main_v156 val_main_v155 val_main_v150 val_main_v149 val_main_v145 val_main_v144 val_main_v139 val_main_v138
    val_main_v134 val_main_v130 val_main_v129 val_main_v76 val_main_v75 val_main_v74 val_main_v69 val_main_v68 val_main_v67
    val_main_v63 val_main_v62 val_main_v61 val_main_v52 val_main_cst_17 val_main_cst_21 val_main_cst_25
  pointwise [Conv.du, Conv.da, inp_s, h]
  have e1 : ∀ h1 h2, (⟨2 + t.val - 1, h1⟩ : Fin 4096) = ⟨t.val + 1, h2⟩ := fun _ _ => Fin.ext (by dsimp only; omega)
  have e2 : ∀ h1 h2, (⟨2 + t.val, h1⟩ : Fin 4096) = ⟨t.val + 2, h2⟩ := fun _ _ => Fin.ext (by dsimp only; omega)
  congr 1
  · congr 1
    by_cases ht : t.val + 1 < 4096
    · rw [dif_pos (by omega), dif_pos ht, e1]
    · rw [dif_neg (by omega), dif_neg ht, zero_mul]
  · by_cases ht : t.val + 2 < 4096
    · rw [dif_pos (by omega), dif_pos ht, e2]
    · rw [dif_neg (by omega), dif_neg ht, zero_mul]

/-- The gradient with respect to the projection. -/
theorem dp (t : Fin 4096) (k : Fin 3072) : val_main_v161 (F := Ideal) x0 x1 x2 x3 x4 (ix2 t k) = Conv.dp (inp x0 x1 x2 x3 x4) t k := by
  have hd := dbc x0 x1 x2 x3 x4
  have hc := conv x0 x1 x2 x3 x4
  have hu := du x0 x1 x2 x3 x4
  unfold val_main_v161 val_main_v160 val_main_v159 val_main_v125 val_main_v55 val_main_v54
  pointwise [Conv.dp, Conv.gv, Conv.gc, inp_p, hd, hc, hu]
  by_cases h0 : k.val < 1024
  · rw [dif_pos h0, dif_pos h0]
  · rw [dif_neg h0, dif_neg h0]
    by_cases h1 : k.val < 2048
    · rw [dif_pos h1, dif_pos (by omega)]
    · rw [dif_neg h1, dif_neg (by omega), mul_comm]
      have e : k.val - 1024 - 1024 = k.val - 2048 := by omega
      simp only [e]

/-- The gradient with respect to the normalised input. -/
theorem dn (t : Fin 4096) (l : Fin 1024) : val_main_v181 (F := Ideal) x0 x1 x2 x3 x4 (ix2 t l) = Conv.dn (inp x0 x1 x2 x3 x4) t l := by
  have hp := dp x0 x1 x2 x3 x4
  unfold val_main_v181 val_main_v51 val_main_v50 val_main_v49
  pointwise [Conv.dn, inp_wi, hp]
  exact Fin.sum_divmod_congr fun k hj hk => by rw [show (⟨k.val / 768 * 768 + k.val % 768, by omega⟩ : Fin 3072) = k from Fin.ext (by dsimp only; omega)]

/-- The mean square of a row of the input. -/
theorem ms0 (t : Fin 4096) : val_main_v170 (F := Ideal) x0 (ix2 t 0) = Rms.ms ((inp x0 x1 x2 x3 x4).h t) := by
  unfold val_main_v170 val_main_v169 val_main_v168 val_main_v167 val_main_v166 val_main_v165 val_main_v164 val_main_cst_26 val_main_cst_27 val_main_cst_28
  pointwise [Rms.ms, inp_h]

/-- The gradient with respect to the sub-layer's input. -/
theorem o (t : Fin 4096) (l : Fin 1024) : val_main_v206 (F := Ideal) x0 x1 x2 x3 x4 (ix2 t l) = Conv.o (inp x0 x1 x2 x3 x4) t l := by
  unfold Conv.o
  rw [← Rms.bwd_eq]
  have hm := ms0 x0 x1 x2 x3 x4 t
  have hn := dn x0 x1 x2 x3 x4
  unfold val_main_v206 val_main_v201 val_main_v200 val_main_v199 val_main_v198 val_main_v197 val_main_v196 val_main_v195 val_main_v194
    val_main_v193 val_main_v192 val_main_v191 val_main_v190 val_main_v189 val_main_v188 val_main_v186 val_main_v185 val_main_v177
    val_main_v174 val_main_v173 val_main_v172 val_main_v171 val_main_v163 val_main_v162
    val_main_cst_29 val_main_cst_32 val_main_cst_33 val_main_cst_34
  pointwise [Rms.cc, Rms.rr, inp_h, inp_dh, inp_s, hm, hn, Fin.sum_univ_one]

/-- The small parameters' gradient. -/
theorem sums (j : Fin 8) (l : Fin 1024) : val_main_v205 (F := Ideal) x0 x1 x2 x3 x4 (ix2 j l) = Conv.sums (inp x0 x1 x2 x3 x4) j l := by
  have h0 := fun t q h => up x0 x1 x2 x3 x4 0 (by omega) t l q h
  have h1 := fun t q h => up x0 x1 x2 x3 x4 1 (by omega) t l q h
  have h2 := fun t q h => up x0 x1 x2 x3 x4 2 (by omega) t l q h
  have hc := dc x0 x1 x2 x3 x4
  have hn := dn x0 x1 x2 x3 x4
  have hm0 := ms0 x0 x1 x2 x3 x4
  have hm1 := ms1 x0 x1 x2 x3 x4
  unfold val_main_v205 val_main_v204 val_main_v203 val_main_v202 val_main_v187 val_main_v184 val_main_v183 val_main_v182 val_main_v176 val_main_v175 val_main_v171
    val_main_v154 val_main_v153 val_main_v152 val_main_v151 val_main_v148 val_main_v147 val_main_v146 val_main_v143 val_main_v142 val_main_v141
    val_main_v140 val_main_v137 val_main_v136 val_main_v135 val_main_v133 val_main_v132 val_main_v131 val_main_v128 val_main_v127 val_main_v126
    val_main_v106 val_main_v103 val_main_v102 val_main_v101 val_main_v100 val_main_v95 val_main_v94 val_main_v90
    val_main_v73 val_main_v66 val_main_v60
    val_main_cst_9 val_main_cst_10 val_main_cst_14 val_main_cst_15 val_main_cst_16 val_main_cst_18 val_main_cst_19 val_main_cst_20 val_main_cst_22
    val_main_cst_23 val_main_cst_24 val_main_cst_30 val_main_cst_31 val_main_cst_35
  pointwise [Conv.sums, Conv.term, inp_h, inp_y, inp_dh, hc, hn, hm0, hm1, Fin.sum_univ_one]
  simp only [fun t : Fin 4096 => h0 t ⟨2 + t.val, by omega⟩ rfl, fun t : Fin 4096 => h1 t ⟨1 + t.val, by omega⟩ rfl,
    fun t : Fin 4096 => h2 t ⟨t.val, by omega⟩ (by simp)]
  fin_cases j <;> norm_num [Rms.rr]
  all_goals exact Finset.sum_congr rfl fun _ _ => mul_comm _ _

end Cert.ReferenceIdeal.At

end
-- ==== Proof.Final.lean ====
/- The arrays the kernel leaves, as functions of its arguments. -/
module

public import proofs.«01_k».proof.Proof.Out
public import proofs.«01_k».proof.Proof.RefValue
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Defs
public import Idealize.ShloMosaic.Adequacy

@[expose] public section

set_option maxRecDepth 16384

noncomputable section

namespace Cert.KernelIdeal.At

open Cert.KernelIdeal Cert.KernelIdeal.Gen Idealize.ShloMosaic Idealize.ShloMosaic.TcCoe

variable (m : (ℓ : Loc nD τ sig) → Buf (Elt Ideal) ℓ) (c : Dev nD)

theorem arr8 : (dats m 0 c).arrAt 8 cfg0.N = fun i => Conv.o (KI m c) (i 0) (i 1) := by
  refine (dats m 0 c).arrAt_eq_of_covers 8 _ (by decide +kernel) fun t hf x => ?_
  blk_simp
  rw [after0_8]
  idx_vars x
  refine (out8 m c t x0 x1).trans ?_
  refine congrArg₂ (Conv.o (KI m c)) (Fin.ext ?_) (Fin.ext ?_)
  · blk_simp [idx t, tok_val, tile]
  · blk_simp [idx t]

theorem arr9 : (dats m 0 c).arrAt 9 cfg0.N = fun i => Conv.dp (KI m c) (i 0) (i 1) := by
  refine (dats m 0 c).arrAt_eq_of_covers 9 _ (by decide +kernel) fun t hf x => ?_
  blk_simp
  rw [after0_9]
  idx_vars x
  refine (out9 m c t x0 x1).trans ?_
  refine congrArg₂ (Conv.dp (KI m c)) (Fin.ext ?_) (Fin.ext ?_)
  · blk_simp [idx t, tok_val, tile]
  · blk_simp [idx t]

theorem arr10 : (dats m 0 c).arrAt 10 cfg0.N = fun i => Conv.dy (KI m c) (i 0) (i 1) := by
  refine (dats m 0 c).arrAt_eq_of_covers 10 _ (by decide +kernel) fun t hf x => ?_
  blk_simp
  rw [after0_10]
  idx_vars x
  refine (out10 m c t x0 x1).trans ?_
  refine congrArg₂ (Conv.dy (KI m c)) (Fin.ext ?_) (Fin.ext ?_)
  · blk_simp [idx t, tok_val, tile]
  · blk_simp [idx t]

theorem arr11 : (dats m 0 c).arrAt 11 cfg0.N = fun i => Conv.bc (KI m c) (i 0) (i 1) := by
  refine (dats m 0 c).arrAt_eq_of_covers 11 _ (by decide +kernel) fun t hf x => ?_
  blk_simp
  rw [after0_11]
  idx_vars x
  refine (out11 m c t x0 x1).trans ?_
  refine congrArg₂ (Conv.bc (KI m c)) (Fin.ext ?_) (Fin.ext ?_)
  · blk_simp [idx t, tok_val, tile]
  · blk_simp [idx t]

/-- The tiles, taken backwards, make up the sequence. -/
theorem sum_tiles (g : Fin 4096 → EReal) : ∑ t : Fin cfg0.N, ∑ r : Fin 512, g (tok (tile t) r) = ∑ x : Fin 4096, g x := by
  have e : ∑ t : Fin 8, ∑ r : Fin 512, g (tok (Fin.rev t) r) = ∑ t : Fin 8, ∑ r : Fin 512, g (tok t r) :=
    Equiv.sum_comp Fin.revPerm fun t : Fin 8 => ∑ r : Fin 512, g (tok t r)
  refine Eq.trans ?_ (e.trans ?_)
  · refine Finset.sum_congr rfl fun t _ => Finset.sum_congr rfl fun r _ => ?_
    congr 2
    apply Fin.ext
    show 7 - t.val = 8 - (t.val + 1)
    omega
  · refine Fin.sum_mul_add_congr fun t r ha => ?_
    rfl

theorem arr12 : (dats m 0 c).arrAt 12 cfg0.N = fun i => Conv.sums (KI m c) (i 0) (i 1) := by
  refine (dats m 0 c).arrAt_eq_of_after_last 12 t0_7 (by decide +kernel) _ fun x => ?_
  blk_simp
  idx_vars x
  rw [after0_12, Pipeline.eq_sum_fin_of_reset_step_apply_last (fun n h (i : Fin 8 × Fin 1024) => (outsAt0 m c n h).2.2.2.2.1 (ix2 i.1 i.2)) 8 (fun _ => 0)
    (fun t i => ∑ r : Fin 512, Conv.term (KI m c) i.1.val (tok (tile t) r) i.2) (fun t h i => sumA m c t h i.1 i.2) (fun t h i => sumB m c t h i.1 i.2)
    (le_of_eq N_0) t0_7 rfl (x0, x1)]
  rw [zero_add]
  exact sum_tiles fun y => Conv.term (KI m c) x0.val y x1

/-- The kernel's inputs are the reference's. -/
theorem KI_eq : KI m c = ReferenceIdeal.At.inp (m ((c : Thread nD τ).loc main_arg0)) (m ((c : Thread nD τ).loc main_arg1)) (m ((c : Thread nD τ).loc main_arg2))
    (m ((c : Thread nD τ).loc main_arg3)) (m ((c : Thread nD τ).loc main_arg4)) := by
  have hy : V m c main_v48 = ReferenceIdeal.Read.val_main_v48 (F := Ideal) (m ((c : Thread nD τ).loc main_arg0)) (m ((c : Thread nD τ).loc main_arg2)) (m ((c : Thread nD τ).loc main_arg3))
      (m ((c : Thread nD τ).loc main_arg4)) := by
    entry_read
    rfl
  have hp : V m c main_v49 = ReferenceIdeal.Read.val_main_v18 (F := Ideal) (m ((c : Thread nD τ).loc main_arg0)) (m ((c : Thread nD τ).loc main_arg2)) (m ((c : Thread nD τ).loc main_arg3)) := by
    entry_read
    rfl
  unfold KI ReferenceIdeal.At.inp
  rw [hy, hp]
  rfl

/-- The contents of the arguments, for the reference. -/
abbrev refIn (m' : (ℓ : Loc Cert.ReferenceIdeal.nD Cert.ReferenceIdeal.τ Cert.ReferenceIdeal.sig) → Buf (Elt Ideal) ℓ) (c : Dev Cert.ReferenceIdeal.nD) : Conv.In :=
  ReferenceIdeal.At.inp (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))

end Cert.KernelIdeal.At

namespace Cert.Proof

open Idealize.ShloMosaic Idealize.SL.Sem

/-- The reference runs, keeps its arguments and leaves its counters at zero. -/
theorem frame_r : Cert.quiescent_ReferenceIdeal := by
  intro m ρ _
  exact (θ_run Cert.ReferenceIdeal.defs _ _).mono (fun r h => ⟨fun c => (h c).2.2.2.2.2, sem_eq_zero_of_no_sems (by decide) r.2⟩)
    (Cert.ReferenceIdeal.Value.run (F := Ideal) m ρ)

/-- Kernel and reference leave the same five arrays. -/
theorem alg : Cert.algebraic_KernelIdeal_ReferenceIdeal := by
  intro m ρ m' ρ' _ hag
  have hin (c : Dev Cert.KernelIdeal.nD) : KernelIdeal.At.refIn m' c = KernelIdeal.At.KI m c := by
    rw [KernelIdeal.At.KI_eq]
    obtain ⟨h0, h1, h2, h3, h4⟩ := hag c
    unfold KernelIdeal.At.refIn
    rw [h0, h1, h2, h3, h4]
  refine ⟨fun c i => Conv.o (KernelIdeal.At.KI m c) (i 0) (i 1), fun c i => Conv.dp (KernelIdeal.At.KI m c) (i 0) (i 1),
    fun c i => Conv.dy (KernelIdeal.At.KI m c) (i 0) (i 1), fun c i => Conv.bc (KernelIdeal.At.KI m c) (i 0) (i 1),
    fun c i => Conv.sums (KernelIdeal.At.KI m c) (i 0) (i 1), (θ_run _ _ _).mono (fun r h c => ?_) (Cert.KernelIdeal.Value.run_blocks (F := Ideal) m ρ),
    (θ_run _ _ _).mono (fun r h c => ?_) (Cert.ReferenceIdeal.Value.run (F := Ideal) m' ρ')⟩
  · obtain ⟨h0, h1, h2, h3, h4, h5⟩ := h c
    exact ⟨h0.trans (KernelIdeal.At.arr8 m c), h1.trans (KernelIdeal.At.arr9 m c), h2.trans (KernelIdeal.At.arr10 m c), h3.trans (KernelIdeal.At.arr11 m c),
      h4.trans (KernelIdeal.At.arr12 m c), h5⟩
  · obtain ⟨h0, h1, h2, h3, h4, h5⟩ := h c
    refine ⟨h0.trans ((Cert.ReferenceIdeal.Read.val_main_v206_eq (StableHlo.launchContents m' c)).trans (funext fun i => ?_)),
      h1.trans ((Cert.ReferenceIdeal.Read.val_main_v207_eq (StableHlo.launchContents m' c)).trans (funext fun i => ?_)),
      h2.trans ((Cert.ReferenceIdeal.Read.val_main_v208_eq (StableHlo.launchContents m' c)).trans (funext fun i => ?_)),
      h3.trans ((Cert.ReferenceIdeal.Read.val_main_v209_eq (StableHlo.launchContents m' c)).trans (funext fun i => ?_)),
      h4.trans ((Cert.ReferenceIdeal.Read.val_main_v205_eq (StableHlo.launchContents m' c)).trans (funext fun i => ?_)), h5⟩
    · idx_vars i
      exact (ReferenceIdeal.At.o _ _ _ _ _ i0 i1).trans (congrArg (Conv.o · i0 i1) (hin c))
    · idx_vars i
      exact (Cert.ReferenceIdeal.Read.val_main_v207_apply _ _ _ _ _ _).trans ((ReferenceIdeal.At.dp _ _ _ _ _ i0 i1).trans (congrArg (Conv.dp · i0 i1) (hin c)))
    · idx_vars i
      exact (Cert.ReferenceIdeal.Read.val_main_v208_apply _ _ _ _ _ _).trans ((ReferenceIdeal.At.dy _ _ _ _ _ i0 i1).trans (congrArg (Conv.dy · i0 i1) (hin c)))
    · idx_vars i
      exact (Cert.ReferenceIdeal.Read.val_main_v209_apply _ _ _ _).trans ((ReferenceIdeal.At.bc _ (m' ((c.tc : Thread Cert.ReferenceIdeal.nD Cert.ReferenceIdeal.τ).loc Cert.ReferenceIdeal.main_arg1)) _ _ _ i0 i1).trans (congrArg (Conv.bc · i0 i1) (hin c)))
    · idx_vars i
      exact (ReferenceIdeal.At.sums _ _ _ _ _ i0 i1).trans (congrArg (Conv.sums · i0 i1) (hin c))

end Cert.Proof

end
-- ==== Proof.Reals.lean ====
/- The extended reals that are real, and the operations that keep them so: what a claim about finite inputs rests on. -/
module

public import proofs.«01_k».proof.Proof.Rms

@[expose] public section

noncomputable section

namespace Cert.Reals

open Idealize.ShloMosaic

/-- The value is a real number. -/
def IsR (x : EReal) : Prop := ∃ r : ℝ, x = (r : EReal)

theorem add {x y : EReal} (hx : IsR x) (hy : IsR y) : IsR (x + y) := by
  obtain ⟨a, rfl⟩ := hx
  obtain ⟨b, rfl⟩ := hy
  exact ⟨a + b, (EReal.coe_add a b).symm⟩

theorem sub {x y : EReal} (hx : IsR x) (hy : IsR y) : IsR (x - y) := by
  obtain ⟨a, rfl⟩ := hx
  obtain ⟨b, rfl⟩ := hy
  exact ⟨a - b, (EReal.coe_sub a b).symm⟩

theorem mul {x y : EReal} (hx : IsR x) (hy : IsR y) : IsR (x * y) := by
  obtain ⟨a, rfl⟩ := hx
  obtain ⟨b, rfl⟩ := hy
  exact ⟨a * b, (EReal.coe_mul a b).symm⟩

theorem zero : IsR 0 := ⟨0, EReal.coe_zero.symm⟩

theorem sum {ι : Type} [Fintype ι] {f : ι → EReal} (hf : ∀ i, IsR (f i)) : IsR (∑ i, f i) := by
  classical
  induction (Finset.univ : Finset ι) using Finset.induction_on with
  | empty => exact ⟨0, by simp⟩
  | insert a s ha ih =>
    rw [Finset.sum_insert ha]
    exact add (hf a) ih

theorem logistic {x : EReal} (hx : IsR x) : IsR (Ideal.logistic x) := by
  obtain ⟨a, rfl⟩ := hx
  exact ⟨_, Ideal.logistic_coe a⟩

theorem div_width {x : EReal} (hx : IsR x) : IsR (Ideal.div x (Ideal.ofBits .f32 0x44800000#32)) := by
  rw [Rms.width, Ideal.div_coe (by norm_num)]
  exact mul hx ⟨_, rfl⟩

theorem rr {ι : Type} [Fintype ι] (x : ι → EReal) : IsR (Rms.rr x) := by
  unfold Rms.rr
  rcases Rms.cases x with h | ⟨⟨v, hv, h⟩, _⟩
  · rw [h]
    exact ⟨0, by simp⟩
  · rw [h, Ideal.rsqrt_coe, if_neg (not_lt.mpr hv.le), if_neg hv.ne']
    exact ⟨_, rfl⟩

theorem bwd {ι : Type} [Fintype ι] {x a : ι → EReal} (hx : ∀ i, IsR (x i)) (ha : ∀ i, IsR (a i)) (l : ι) : IsR (Rms.bwd x a l) :=
  mul (rr x) (sub (ha l) (mul (mul (hx l) (rr x)) (div_width (sum fun k => mul (ha k) (mul (hx k) (rr x))))))

/-- The derivative of `g` times its logistic in the two ways the programs write it. -/
theorem silu {a g : EReal} (ha : IsR a) (hg : IsR g) :
    a * Ideal.logistic g + g * a * (Ideal.logistic g * (1 - Ideal.logistic g)) = a * (Ideal.logistic g * (1 + g * (1 - Ideal.logistic g))) := by
  obtain ⟨s, hs⟩ := logistic hg
  obtain ⟨a, rfl⟩ := ha
  obtain ⟨g, rfl⟩ := hg
  rw [hs]
  norm_cast
  ring

/-- A value whose difference with itself is zero is real. -/
theorem of_sub_self {x : EReal} (h : x - x = 0) : IsR x := by
  induction x using EReal.rec with
  | bot => simp at h
  | top => simp at h
  | coe r => exact ⟨r, rfl⟩

end Cert.Reals

end
-- ==== Proof.FfnSpec.lean ====
/- The gradient of the feed-forward sub-layer, token by token and column by column, over the extended reals: the functions
   that the results of both programs are shown equal to. No program is named here. -/
module

public import proofs.«01_k».proof.Proof.Reals

@[expose] public section

noncomputable section

namespace Cert.FfnSpec

open Idealize.ShloMosaic

/-- What the gradient is computed from: the sub-layer's input `h`, the gradient `dh` of its output, the network's output
    `ff` and the gate and up projections `gu` that the forward pass saved, the first gain `gi` and the second `go`, the
    input weight `wi` in the chips' four column blocks, the output weight `wo`. -/
structure In where
  h : Fin 4096 → Fin 1024 → EReal
  dh : Fin 4096 → Fin 1024 → EReal
  ff : Fin 4096 → Fin 1024 → EReal
  gu : Fin 4096 → Fin 5632 → EReal
  gi : Fin 1024 → EReal
  go : Fin 1024 → EReal
  wi : Fin 4 → Fin 1024 → Fin 1408 → EReal
  wo : Fin 2816 → Fin 1024 → EReal

variable (I : In)

/-- The gradient with respect to the network's output. -/
def dff (t : Fin 4096) (l : Fin 1024) : EReal := Rms.bwd (I.ff t) (fun k => I.dh t k * I.go k) l

/-- The gradient with respect to the activation. -/
def da (t : Fin 4096) (k : Fin 2816) : EReal := ∑ l : Fin 1024, dff I t l * I.wo k l

/-- The two halves of the projection, and the gate's logistic. -/
def gate (t : Fin 4096) (k : Fin 2816) : EReal := I.gu t ⟨k.val, by omega⟩
def up (t : Fin 4096) (k : Fin 2816) : EReal := I.gu t ⟨2816 + k.val, by omega⟩
def sig (t : Fin 4096) (k : Fin 2816) : EReal := Ideal.logistic (gate I t k)

/-- The activation. -/
def act (t : Fin 4096) (k : Fin 2816) : EReal := gate I t k * sig I t k * up I t k

/-- The gradient with respect to the gate and with respect to the up projection. -/
def dgate (t : Fin 4096) (k : Fin 2816) : EReal := da I t k * up I t k * (sig I t k * (1 + gate I t k * (1 - sig I t k)))
def dup (t : Fin 4096) (k : Fin 2816) : EReal := da I t k * (gate I t k * sig I t k)

/-- The gradient with respect to the projection. -/
def dgu (t : Fin 4096) (k : Fin 5632) : EReal :=
  if h : k.val < 2816 then dgate I t ⟨k.val, h⟩ else dup I t ⟨k.val - 2816, by omega⟩

theorem dgu_lo (t : Fin 4096) (k : Fin 5632) (x : Fin 2816) (h : k.val = x.val) : dgu I t k = dgate I t x := by
  unfold dgu
  rw [dif_pos (by omega)]
  exact congrArg (dgate I t) (Fin.ext h)

theorem dgu_hi (t : Fin 4096) (k : Fin 5632) (x : Fin 2816) (h : k.val = 2816 + x.val) : dgu I t k = dup I t x := by
  unfold dgu
  rw [dif_neg (by omega)]
  exact congrArg (dup I t) (Fin.ext (by dsimp only; omega))

/-- The gradient with respect to the normalised input. -/
def dn (t : Fin 4096) (l : Fin 1024) : EReal :=
  ∑ j : Fin 4, ∑ k : Fin 1408, dgu I t ⟨j.val * 1408 + k.val, by omega⟩ * I.wi j l k

/-- The gradient with respect to the sub-layer's input. -/
def o (t : Fin 4096) (l : Fin 1024) : EReal := I.dh t l + Rms.bwd (I.h t) (fun k => dn I t k * I.gi k) l

/-- What a token adds to row `j` of the gains' gradient. -/
def term (j : ℕ) (t : Fin 4096) (l : Fin 1024) : EReal :=
  if j = 0 then dn I t l * (I.h t l * Rms.rr (I.h t))
  else if j = 1 then I.dh t l * (I.ff t l * Rms.rr (I.ff t))
  else 0

/-- The gains' gradient. -/
def sums (j : Fin 8) (l : Fin 1024) : EReal := ∑ t : Fin 4096, term I j.val t l

/-- What the two ways of writing the gate's gradient need: the saved arrays, the gradient and the second gain are real. -/
structure Real : Prop where
  dh : ∀ t l, Reals.IsR (I.dh t l)
  ff : ∀ t l, Reals.IsR (I.ff t l)
  gu : ∀ t k, Reals.IsR (I.gu t k)
  go : ∀ l, Reals.IsR (I.go l)
  wo : ∀ k l, Reals.IsR (I.wo k l)

variable {I}

theorem Real.da (R : Real I) (t : Fin 4096) (k : Fin 2816) : Reals.IsR (da I t k) :=
  Reals.sum fun l => Reals.mul (Reals.bwd (R.ff t) (fun l => Reals.mul (R.dh t l) (R.go l)) l) (R.wo k l)

/-- The gate's gradient as the product rule writes it. -/
theorem dgate_eq (R : Real I) (t : Fin 4096) (k : Fin 2816) :
    FfnSpec.da I t k * up I t k * sig I t k + gate I t k * (FfnSpec.da I t k * up I t k) * (sig I t k * (1 - sig I t k)) = dgate I t k :=
  Reals.silu (Reals.mul (R.da t k) (R.gu t _)) (R.gu t _)

end Cert.FfnSpec

end
-- ==== Proof.FfnPay.lean ====
/- The feed-forward body's values at a tile of 256 tokens, read at an index, are the gradient's functions of FfnSpec.lean. -/
module

public import proofs.«01_k».proof.Proof.Gen.FfnIdeal.Value
public import proofs.«01_k».proof.Proof.FfnSpec
public import Idealize.ShloMosaic.Lib.Pointwise
public import Idealize.ShloMosaic.Lib.Pipeline.ReadBack
public import Idealize.ShloMosaic.Lib.Pipeline.ValueKit
public import Idealize.ShloMosaic.Lib.WritesUnit

@[expose] public section

set_option maxRecDepth 16384

noncomputable section

namespace Cert.FfnIdeal.At

open Cert.FfnIdeal Cert.FfnIdeal.Gen Idealize.ShloMosaic Idealize.ShloMosaic.TcCoe

/-- Token `r` of tile `T`. -/
def tok (T : Fin 16) (r : Fin 256) : Fin 4096 := ⟨T.val * 256 + r.val, by omega⟩

theorem tok_val (T : Fin 16) (r : Fin 256) : (tok T r).val = T.val * 256 + r.val := rfl

/-- Column `x` of half `j` of the activation. -/
def col (j : Fin 2) (x : Fin 1408) : Fin 2816 := ⟨j.val * 1408 + x.val, by omega⟩

theorem col_val (j : Fin 2) (x : Fin 1408) : (col j x).val = j.val * 1408 + x.val := rfl

/-- What the blocks hold at tile `T`. -/
structure Holds (I : FfnSpec.In) (T : Fin 16) (d h y : Vec Ideal S256x1024 .f32) (gi go : Vec Ideal S1x1024 .f32) : Prop where
  d : ∀ r l, d (ix2 r l) = I.dh (tok T r) l
  h : ∀ r l, h (ix2 r l) = I.h (tok T r) l
  y : ∀ r l, y (ix2 r l) = I.ff (tok T r) l
  gi : ∀ l, gi (ix2 0 l) = I.gi l
  go : ∀ l, go (ix2 0 l) = I.go l

/-- What half `j` of the weight's and the projection's columns holds. -/
structure Half (I : FfnSpec.In) (T : Fin 16) (j : Fin 2) (w : Vec Ideal S1408x1024 .bf16) (g u : Vec Ideal S256x1408 .bf16) : Prop where
  w : ∀ x l, w (ix2 x l) = I.wo (col j x) l
  g : ∀ r x, g (ix2 r x) = FfnSpec.gate I (tok T r) (col j x)
  u : ∀ r x, u (ix2 r x) = FfnSpec.up I (tok T r) (col j x)

/-- The input weight's four blocks. -/
def Wi (I : FfnSpec.In) (j : Fin 4) (v : Vec Ideal S1x1024x1408 .bf16) : Prop := ∀ l x, v (ix3 0 l x) = I.wi j l x

section
variable {I : FfnSpec.In} {T : Fin 16} {d h y : Vec Ideal S256x1024 .f32} {gi go : Vec Ideal S1x1024 .f32}
variable (H : Holds I T d h y gi go)
include H

/-- The gradient with respect to the network's output. -/
theorem dff_at (r : Fin 256) (l : Fin 1024) : k0_pay7 (F := Ideal) d y go (ix2 r l) = FfnSpec.dff I (tok T r) l := by
  have hd := H.d
  have hy := H.y
  have hg := H.go
  unfold k0_pay7 k0_pay5 k0_pay4 k0_pay3
  pointwise [FfnSpec.dff, Rms.bwd, Rms.rr, Rms.ms, hd, hy, hg]

/-- What the tile adds to the second gain's gradient. -/
theorem sum1_at (v : Vec Ideal S1x1024 .f32) (l : Fin 1024) :
    k0_pay6 (F := Ideal) d y v (ix2 0 l) = v (ix2 0 l) + ∑ r : Fin 256, FfnSpec.term I 1 (tok T r) l := by
  have hd := H.d
  have hy := H.y
  unfold k0_pay6 k0_pay5 k0_pay4 k0_pay3
  pointwise [FfnSpec.term, Rms.rr, Rms.ms, hd, hy]

variable {j : Fin 2} {w : Vec Ideal S1408x1024 .bf16} {g u : Vec Ideal S256x1408 .bf16} (C : Half I T j w g u)
include C

/-- The gradient with respect to the activation. -/
theorem da_at (r : Fin 256) (x : Fin 1408) : k0_pay8 (F := Ideal) (k0_pay7 d y go) w (ix2 r x) = FfnSpec.da I (tok T r) (col j x) := by
  have hd := dff_at H
  have hw := C.w
  unfold k0_pay8
  pointwise [FfnSpec.da, hd, hw]

omit H in
/-- The activation. -/
theorem act_at (r : Fin 256) (x : Fin 1408) : k0_pay13 (F := Ideal) g u (ix2 r x) = FfnSpec.act I (tok T r) (col j x) := by
  have hg := C.g
  have hu := C.u
  unfold k0_pay13 k0_pay12 k0_pay11 k0_pay10 k0_pay9
  pointwise [FfnSpec.act, FfnSpec.sig, hg, hu]

/-- The gradient with respect to the gate. -/
theorem dgate_at (r : Fin 256) (x : Fin 1408) : k0_pay14 (F := Ideal) (k0_pay7 d y go) w g u (ix2 r x) = FfnSpec.dgate I (tok T r) (col j x) := by
  have hd := da_at H C
  have hg := C.g
  have hu := C.u
  unfold k0_pay14 k0_pay11 k0_pay10 k0_pay9
  pointwise [FfnSpec.dgate, FfnSpec.sig, hd, hg, hu]

/-- The gradient with respect to the up projection. -/
theorem dup_at (r : Fin 256) (x : Fin 1408) : k0_pay15 (F := Ideal) (k0_pay7 d y go) w g (ix2 r x) = FfnSpec.dup I (tok T r) (col j x) := by
  have hd := da_at H C
  have hg := C.g
  unfold k0_pay15 k0_pay12 k0_pay11 k0_pay9
  pointwise [FfnSpec.dup, FfnSpec.sig, hd, hg]

end

/-- The second half's values are the first half's functions of the second half's blocks. -/
theorem act_half (g u : Vec Ideal S256x1408 .bf16) : k0_pay22 (F := Ideal) (k0_pay17 g) (k0_pay18 u) = k0_pay13 g u := rfl
theorem dgate_half (a : FVec Ideal S256x1024 .bf16) (w : Vec Ideal S1408x1024 .bf16) (g u : Vec Ideal S256x1408 .bf16) :
    k0_pay23 (F := Ideal) (k0_pay16 a w) (k0_pay17 g) (k0_pay18 u) = k0_pay14 a w g u := rfl
theorem dup_half (a : FVec Ideal S256x1024 .bf16) (w : Vec Ideal S1408x1024 .bf16) (g : Vec Ideal S256x1408 .bf16) :
    k0_pay24 (F := Ideal) (k0_pay16 a w) (k0_pay17 g) = k0_pay15 a w g := rfl

section
variable {I : FfnSpec.In} {T : Fin 16} {d h y : Vec Ideal S256x1024 .f32} {gi go : Vec Ideal S1x1024 .f32}
  {w0 w1 : Vec Ideal S1408x1024 .bf16} {g0 u0 g1 u1 : Vec Ideal S256x1408 .bf16} {v0 v1 v2 v3 : Vec Ideal S1x1024x1408 .bf16}
variable (H : Holds I T d h y gi go) (C0 : Half I T 0 w0 g0 u0) (C1 : Half I T 1 w1 g1 u1)

include C0 C1 in
/-- The activation as the body has stored it, whole. -/
theorem act_whole (i : S256x2816.Idx) :
    View.canon (Val := Elt Ideal) (e := .bf16)
      [⟨Rect.unit (s := S256x2816) ![0, 1408] S256x1408.size inb_S256x2816_S256x1408_0_1408, k0_pay22 (F := Ideal) (k0_pay17 g1) (k0_pay18 u1)⟩,
        ⟨Rect.unit (s := S256x2816) ![0, 0] S256x1408.size inb_S256x2816_S256x1408_0_0, k0_pay13 (F := Ideal) g0 u0⟩] i
    = FfnSpec.act I (tok T (i 0)) (i 1) := by
  rw [act_half]
  canon_tiles x hx
  · idx_vars x
    rw [act_at C1 x0 x1, show i 0 = x0 from Fin.ext hx0, show i 1 = col 1 x1 from Fin.ext hx1]
  · idx_vars x
    rw [act_at C0 x0 x1, show i 0 = x0 from Fin.ext hx0, show i 1 = col 0 x1 from Fin.ext (hx1.trans (by rw [col_val]; simp))]

include H C0 C1

/-- The projection's gradient as the body has stored it, whole. -/
theorem dgu_whole (i : S256x5632.Idx) :
    View.canon (Val := Elt Ideal) (e := .bf16)
      [⟨Rect.unit (s := S256x5632) ![0, 4224] S256x1408.size inb_S256x5632_S256x1408_0_4224, k0_pay24 (F := Ideal) (k0_pay16 (k0_pay7 d y go) w1) (k0_pay17 g1)⟩,
        ⟨Rect.unit (s := S256x5632) ![0, 1408] S256x1408.size inb_S256x5632_S256x1408_0_1408,
          k0_pay23 (F := Ideal) (k0_pay16 (k0_pay7 d y go) w1) (k0_pay17 g1) (k0_pay18 u1)⟩,
        ⟨Rect.unit (s := S256x5632) ![0, 2816] S256x1408.size inb_S256x5632_S256x1408_0_2816, k0_pay15 (F := Ideal) (k0_pay7 d y go) w0 g0⟩,
        ⟨Rect.unit (s := S256x5632) ![0, 0] S256x1408.size inb_S256x5632_S256x1408_0_0, k0_pay14 (F := Ideal) (k0_pay7 d y go) w0 g0 u0⟩] i
    = FfnSpec.dgu I (tok T (i 0)) (i 1) := by
  rw [dgate_half, dup_half]
  canon_tiles x hx
  · idx_vars x
    have e : (i 1).val = 4224 + x1.val := hx1
    rw [dup_at H C1 x0 x1, show i 0 = x0 from Fin.ext hx0]
    exact (FfnSpec.dgu_hi I _ _ _ (by rw [e, col_val, show (1 : Fin 2).val = 1 from rfl]; omega)).symm
  · idx_vars x
    have e : (i 1).val = 1408 + x1.val := hx1
    rw [dgate_at H C1 x0 x1, show i 0 = x0 from Fin.ext hx0]
    exact (FfnSpec.dgu_lo I _ _ _ (by rw [e, col_val]; show 1408 + x1.val = 1 * 1408 + x1.val; omega)).symm
  · idx_vars x
    have e : (i 1).val = 2816 + x1.val := hx1
    rw [dup_at H C0 x0 x1, show i 0 = x0 from Fin.ext hx0]
    exact (FfnSpec.dgu_hi I _ _ _ (by rw [e, col_val, show (0 : Fin 2).val = 0 from rfl]; omega)).symm
  · idx_vars x
    have e : (i 1).val = x1.val := hx1
    rw [dgate_at H C0 x0 x1, show i 0 = x0 from Fin.ext hx0]
    exact (FfnSpec.dgu_lo I _ _ _ (by rw [e, col_val, show (0 : Fin 2).val = 0 from rfl]; omega)).symm

variable (W0 : Wi I 0 v0) (W1 : Wi I 1 v1) (W2 : Wi I 2 v2) (W3 : Wi I 3 v3)
include W0 W1 W2 W3

/-- The gradient with respect to the normalised input, from the four blocks of the projection's gradient. -/
theorem dn_at (r : Fin 256) (l : Fin 1024) :
    k0_pay27 (F := Ideal) (k0_pay25 (k0_pay14 (k0_pay7 d y go) w0 g0 u0) v0 (k0_pay23 (k0_pay16 (k0_pay7 d y go) w1) (k0_pay17 g1) (k0_pay18 u1)) v1)
      (k0_pay26 (k0_pay15 (k0_pay7 d y go) w0 g0)) v2 (k0_pay24 (k0_pay16 (k0_pay7 d y go) w1) (k0_pay17 g1)) v3 (ix2 r l) = FfnSpec.dn I (tok T r) l := by
  rw [dgate_half, dup_half]
  have a0 := dgate_at H C0
  have a1 := dgate_at H C1
  have a2 := dup_at H C0
  have a3 := dup_at H C1
  have b0 : ∀ l x, v0 (ix3 0 l x) = _ := W0
  have b1 : ∀ l x, v1 (ix3 0 l x) = _ := W1
  have b2 : ∀ l x, v2 (ix3 0 l x) = _ := W2
  have b3 : ∀ l x, v3 (ix3 0 l x) = _ := W3
  unfold k0_pay27 k0_pay26 k0_pay25
  pointwise [a0, a1, a2, a3, b0, b1, b2, b3]
  rw [FfnSpec.dn, Fin.sum_univ_four]
  refine congrArg₂ (· + ·) (congrArg₂ (· + ·) (congrArg₂ (· + ·) ?_ ?_) ?_) ?_ <;> refine Finset.sum_congr rfl fun x _ => congrArg (· * _) ?_
  · exact (FfnSpec.dgu_lo I _ _ _ (by show 0 * 1408 + x.val = 0 * 1408 + x.val; rfl)).symm
  · exact (FfnSpec.dgu_lo I _ _ _ (by show 1 * 1408 + x.val = 1 * 1408 + x.val; rfl)).symm
  · exact (FfnSpec.dgu_hi I _ _ _ (by show 2 * 1408 + x.val = 2816 + (0 * 1408 + x.val); omega)).symm
  · exact (FfnSpec.dgu_hi I _ _ _ (by show 3 * 1408 + x.val = 2816 + (1 * 1408 + x.val); omega)).symm

/-- The gradient with respect to the sub-layer's input. -/
theorem o_at (r : Fin 256) (l : Fin 1024) :
    k0_pay1 (F := Ideal) d (k0_pay28 h)
      (k0_pay31 (k0_pay25 (k0_pay14 (k0_pay7 d y go) w0 g0 u0) v0 (k0_pay23 (k0_pay16 (k0_pay7 d y go) w1) (k0_pay17 g1) (k0_pay18 u1)) v1)
        (k0_pay26 (k0_pay15 (k0_pay7 d y go) w0 g0)) v2 (k0_pay24 (k0_pay16 (k0_pay7 d y go) w1) (k0_pay17 g1)) v3 gi)
      (k0_pay32 (k0_pay25 (k0_pay14 (k0_pay7 d y go) w0 g0 u0) v0 (k0_pay23 (k0_pay16 (k0_pay7 d y go) w1) (k0_pay17 g1) (k0_pay18 u1)) v1)
        (k0_pay26 (k0_pay15 (k0_pay7 d y go) w0 g0)) v2 (k0_pay24 (k0_pay16 (k0_pay7 d y go) w1) (k0_pay17 g1)) v3 h gi) (ix2 r l) = FfnSpec.o I (tok T r) l := by
  have hn := dn_at H C0 C1 W0 W1 W2 W3
  have hd := H.d
  have hh := H.h
  have hg := H.gi
  unfold k0_pay1 k0_pay32 k0_pay31 k0_pay29 k0_pay28
  pointwise [FfnSpec.o, Rms.bwd, Rms.rr, Rms.ms, hd, hh, hn, hg]

/-- What the tile adds to the first gain's gradient. -/
theorem sum0_at (v : Vec Ideal S1x1024 .f32) (l : Fin 1024) :
    k0_pay30 (F := Ideal) (k0_pay25 (k0_pay14 (k0_pay7 d y go) w0 g0 u0) v0 (k0_pay23 (k0_pay16 (k0_pay7 d y go) w1) (k0_pay17 g1) (k0_pay18 u1)) v1)
        (k0_pay26 (k0_pay15 (k0_pay7 d y go) w0 g0)) v2 (k0_pay24 (k0_pay16 (k0_pay7 d y go) w1) (k0_pay17 g1)) v3 h v (ix2 0 l)
      = v (ix2 0 l) + ∑ r : Fin 256, FfnSpec.term I 0 (tok T r) l := by
  have hn := dn_at H C0 C1 W0 W1 W2 W3
  have hh := H.h
  unfold k0_pay30 k0_pay29 k0_pay28
  pointwise [FfnSpec.term, Rms.rr, Rms.ms, hh, hn]

end

/-- A row written over a block: what an entry reads afterwards. -/
theorem row_at {sg : RefSig} (v : View sg .tc .vmem S8x1024 .f32) (f : v.ty.Contents (Elt Ideal)) (n : ℕ) (hn : n < 8)
    (inb : ∀ a, ![n, 0] a + S1x1024.size a ≤ S8x1024.size a) (x : Vec Ideal S1x1024 .f32)
    (L : List (View.Piece (Elt Ideal) S8x1024 .f32)) (j : Fin 8) (l : Fin 1024) :
    v.read (Elt Ideal) (v.writes (Elt Ideal) f (⟨Rect.unit (s := S8x1024) ![n, 0] S1x1024.size inb, x⟩ :: L)) (ix2 j l)
      = if j.val = n then x (ix2 0 l) else v.read (Elt Ideal) (v.writes (Elt Ideal) f L) (ix2 j l) := by
  split_ifs with h
  · exact View.read_writes_cons_unit_of_mem v f inb x L _ (ix2 0 l) rfl (Fin.forall_fin_two.mpr ⟨h, (Nat.zero_add _).symm⟩)
  · refine View.read_writes_cons_unit_of_not_mem v f inb x L _ rfl (0 : Fin 2) ?_
    show j.val < n ∨ n + 1 ≤ j.val
    omega

theorem ld_row (v : Vec Ideal S8x1024 .f32) (n : ℕ) (hn : n < 8) (inb : ∀ a, ![n, 0] a + S1x1024.size a ≤ S8x1024.size a) (j : Fin 8) (hj : j.val = n) (l : Fin 1024) :
    View.ld v (Rect.unit (s := S8x1024) ![n, 0] S1x1024.size inb) (ix2 0 l) = v (ix2 j l) := by
  subst hj
  pointwise []

theorem term_ge (I : FfnSpec.In) (j : ℕ) (h0 : ¬j = 0) (h1 : ¬j = 1) (t : Fin 4096) (l : Fin 1024) : FfnSpec.term I j t l = 0 := by
  unfold FfnSpec.term
  rw [if_neg h0, if_neg h1]

end Cert.FfnIdeal.At

end
-- ==== Proof.FfnPoint.lean ====
/- What the body computes from a tile's blocks, whichever layer's they are. -/
module

public import proofs.«01_k».proof.Proof.FfnPay

@[expose] public section

set_option maxRecDepth 16384

noncomputable section

namespace Cert.FfnIdeal.At

open Cert.FfnIdeal Cert.FfnIdeal.Gen Idealize.ShloMosaic Idealize.ShloMosaic.TcCoe

/-- The columns of the projection that a half takes. -/
abbrev guCols (v : Vec Ideal S256x5632 .bf16) (n : ℕ) (inb : ∀ a, ![0, n] a + S256x1408.size a ≤ S256x5632.size a) : Vec Ideal S256x1408 .bf16 :=
  View.ld v (Rect.unit (s := S256x5632) ![0, n] S256x1408.size inb)

/-- The rows of the output weight that a half takes. -/
abbrev woRows (v : Vec Ideal S2816x1024 .bf16) (n : ℕ) (inb : ∀ a, ![n, 0] a + S1408x1024.size a ≤ S2816x1024.size a) : Vec Ideal S1408x1024 .bf16 :=
  View.ld v (Rect.unit (s := S2816x1024) ![n, 0] S1408x1024.size inb)

/-- A block of the input weight. -/
abbrev wiBlk (v : Vec Ideal S4x1024x1408 .bf16) (n : ℕ) (inb : ∀ a, ![n, 0, 0] a + S1x1024x1408.size a ≤ S4x1024x1408.size a) : Vec Ideal S1x1024x1408 .bf16 :=
  View.ld v (Rect.unit (s := S4x1024x1408) ![n, 0, 0] S1x1024x1408.size inb)

/-- A row of the gains. -/
abbrev smRow (v : Vec Ideal S16x1024 .f32) (n : ℕ) (inb : ∀ a, ![n, 0] a + S1x1024.size a ≤ S16x1024.size a) : Vec Ideal S1x1024 .f32 :=
  View.ld v (Rect.unit (s := S16x1024) ![n, 0] S1x1024.size inb)

theorem guCols_at (v : Vec Ideal S256x5632 .bf16) (n : ℕ) (inb) (r : Fin 256) (x : Fin 1408) (k : Fin 5632) (h : k.val = n + x.val) :
    guCols v n inb (ix2 r x) = v (ix2 r k) := by
  have hk : n + x.val < 5632 := h ▸ k.isLt
  have e : k = ⟨n + x.val, hk⟩ := Fin.ext h
  subst e
  unfold guCols
  pointwise []

theorem woRows_at (v : Vec Ideal S2816x1024 .bf16) (n : ℕ) (inb) (x : Fin 1408) (l : Fin 1024) (k : Fin 2816) (h : k.val = n + x.val) :
    woRows v n inb (ix2 x l) = v (ix2 k l) := by
  have hk : n + x.val < 2816 := h ▸ k.isLt
  have e : k = ⟨n + x.val, hk⟩ := Fin.ext h
  subst e
  unfold woRows
  pointwise []

theorem wiBlk_at (v : Vec Ideal S4x1024x1408 .bf16) (j : Fin 4) (inb) (l : Fin 1024) (x : Fin 1408) :
    wiBlk v j.val inb (ix3 0 l x) = v (ix3 j l x) := by
  unfold wiBlk
  pointwise []

theorem smRow_at (v : Vec Ideal S16x1024 .f32) (j : Fin 16) (inb) (l : Fin 1024) : smRow v j.val inb (ix2 0 l) = v (ix2 j l) := by
  unfold smRow
  pointwise []

/-- What the blocks of a point hold: the tile's tokens, the two gains, the two weights. -/
structure Point (I : FfnSpec.In) (T : Fin 16) (v0 v1 v2 : Vec Ideal S256x1024 .f32) (v3 : Vec Ideal S256x5632 .bf16) (gi go : Vec Ideal S1x1024 .f32)
    (v5 : Vec Ideal S4x1024x1408 .bf16) (v6 : Vec Ideal S2816x1024 .bf16) : Prop extends Holds I T v0 v1 v2 gi go where
  gu : ∀ r k, v3 (ix2 r k) = I.gu (tok T r) k
  wi : ∀ j l k, v5 (ix3 j l k) = I.wi j l k
  wo : ∀ k l, v6 (ix2 k l) = I.wo k l

section
variable {I : FfnSpec.In} {T : Fin 16} {v0 v1 v2 : Vec Ideal S256x1024 .f32} {v3 : Vec Ideal S256x5632 .bf16} {gi go : Vec Ideal S1x1024 .f32}
  {v5 : Vec Ideal S4x1024x1408 .bf16} {v6 : Vec Ideal S2816x1024 .bf16}
variable (P : Point I T v0 v1 v2 v3 gi go v5 v6)
include P

theorem half0 : Half I T 0 (woRows v6 0 inb_S2816x1024_S1408x1024_0_0) (guCols v3 0 inb_S256x5632_S256x1408_0_0) (guCols v3 2816 inb_S256x5632_S256x1408_0_2816) where
  w x l := (woRows_at _ _ _ _ _ _ (by show 0 * 1408 + x.val = 0 + x.val; omega)).trans (P.wo _ l)
  g r x := (guCols_at _ _ _ _ _ _ (by show 0 * 1408 + x.val = 0 + x.val; omega)).trans (P.gu r _)
  u r x := (guCols_at _ _ _ _ _ _ (by show 2816 + (0 * 1408 + x.val) = 2816 + x.val; omega)).trans (P.gu r _)

theorem half1 : Half I T 1 (woRows v6 1408 inb_S2816x1024_S1408x1024_1408_0) (guCols v3 1408 inb_S256x5632_S256x1408_0_1408) (guCols v3 4224 inb_S256x5632_S256x1408_0_4224) where
  w x l := (woRows_at _ _ _ _ _ _ (by show 1 * 1408 + x.val = 1408 + x.val; omega)).trans (P.wo _ l)
  g r x := (guCols_at _ _ _ _ _ _ (by show 1 * 1408 + x.val = 1408 + x.val; omega)).trans (P.gu r _)
  u r x := (guCols_at _ _ _ _ _ _ (by show 2816 + (1 * 1408 + x.val) = 4224 + x.val; omega)).trans (P.gu r _)

theorem wi_at (j : Fin 4) (inb) : Wi I j (wiBlk v5 j.val inb) := fun l x => (wiBlk_at _ j inb l x).trans (P.wi j l x)

end

section
variable (v0 v1 v2 : Vec Ideal S256x1024 .f32) (v3 : Vec Ideal S256x5632 .bf16) (gi go : Vec Ideal S1x1024 .f32)
  (v5 : Vec Ideal S4x1024x1408 .bf16) (v6 : Vec Ideal S2816x1024 .bf16)

/-- The values the body computes from its blocks, in its order. -/
abbrev p7 := k0_pay7 (F := Ideal) v0 v2 go
abbrev p14 := k0_pay14 (F := Ideal) (p7 v0 v2 go) (woRows v6 0 inb_S2816x1024_S1408x1024_0_0) (guCols v3 0 inb_S256x5632_S256x1408_0_0) (guCols v3 2816 inb_S256x5632_S256x1408_0_2816)
abbrev p15 := k0_pay15 (F := Ideal) (p7 v0 v2 go) (woRows v6 0 inb_S2816x1024_S1408x1024_0_0) (guCols v3 0 inb_S256x5632_S256x1408_0_0)
abbrev p16 := k0_pay16 (F := Ideal) (p7 v0 v2 go) (woRows v6 1408 inb_S2816x1024_S1408x1024_1408_0)
abbrev p23 := k0_pay23 (F := Ideal) (p16 v0 v2 go v6) (k0_pay17 (guCols v3 1408 inb_S256x5632_S256x1408_0_1408)) (k0_pay18 (guCols v3 4224 inb_S256x5632_S256x1408_0_4224))
abbrev p24 := k0_pay24 (F := Ideal) (p16 v0 v2 go v6) (k0_pay17 (guCols v3 1408 inb_S256x5632_S256x1408_0_1408))
abbrev p25 := k0_pay25 (F := Ideal) (p14 v0 v2 v3 go v6) (wiBlk v5 0 inb_S4x1024x1408_S1x1024x1408_0_0_0) (p23 v0 v2 v3 go v6) (wiBlk v5 1 inb_S4x1024x1408_S1x1024x1408_1_0_0)

/-- Row 0 and row 1 of the block of sums after the point, from what it held before. -/
abbrev row0 (s : Vec Ideal S8x1024 .f32) := k0_pay30 (F := Ideal) (p25 v0 v2 v3 go v5 v6) (k0_pay26 (p15 v0 v2 v3 go v6)) (wiBlk v5 2 inb_S4x1024x1408_S1x1024x1408_2_0_0)
  (p24 v0 v2 v3 go v6) (wiBlk v5 3 inb_S4x1024x1408_S1x1024x1408_3_0_0) v1 (View.ld s (Rect.unit (s := S8x1024) ![0, 0] S1x1024.size inb_S8x1024_S1x1024_0_0))
abbrev row1 (s : Vec Ideal S8x1024 .f32) := k0_pay6 (F := Ideal) v0 v2 (View.ld s (Rect.unit (s := S8x1024) ![1, 0] S1x1024.size inb_S8x1024_S1x1024_1_0))

end

section
variable {I : FfnSpec.In} {T : Fin 16} {v0 v1 v2 : Vec Ideal S256x1024 .f32} {v3 : Vec Ideal S256x5632 .bf16} {gi go : Vec Ideal S1x1024 .f32}
  {v5 : Vec Ideal S4x1024x1408 .bf16} {v6 : Vec Ideal S2816x1024 .bf16}
variable (P : Point I T v0 v1 v2 v3 gi go v5 v6)
include P

/-- The gradient with respect to the sub-layer's input. -/
theorem o_point (r : Fin 256) (l : Fin 1024) :
    k0_pay1 (F := Ideal) v0 (k0_pay28 v1)
      (k0_pay31 (p25 v0 v2 v3 go v5 v6) (k0_pay26 (p15 v0 v2 v3 go v6)) (wiBlk v5 2 inb_S4x1024x1408_S1x1024x1408_2_0_0)
        (p24 v0 v2 v3 go v6) (wiBlk v5 3 inb_S4x1024x1408_S1x1024x1408_3_0_0) gi)
      (k0_pay32 (p25 v0 v2 v3 go v5 v6) (k0_pay26 (p15 v0 v2 v3 go v6)) (wiBlk v5 2 inb_S4x1024x1408_S1x1024x1408_2_0_0)
        (p24 v0 v2 v3 go v6) (wiBlk v5 3 inb_S4x1024x1408_S1x1024x1408_3_0_0) v1 gi) (ix2 r l) = FfnSpec.o I (tok T r) l :=
  o_at P.toHolds (half0 P) (half1 P) (wi_at P 0 _) (wi_at P 1 _) (wi_at P 2 _) (wi_at P 3 _) r l

/-- The block of sums after the point, over what it held before. -/
theorem sums_step {sg : RefSig} (v : View sg .tc .vmem S8x1024 .f32) (f : v.ty.Contents (Elt Ideal)) (L : List (View.Piece (Elt Ideal) S8x1024 .f32)) (s : Vec Ideal S8x1024 .f32)
    (hs : ∀ j l, v.read (Elt Ideal) (v.writes (Elt Ideal) f L) (ix2 j l) = s (ix2 j l)) (j : Fin 8) (l : Fin 1024) :
    v.read (Elt Ideal) (v.writes (Elt Ideal) f (⟨Rect.unit (s := S8x1024) ![0, 0] S1x1024.size inb_S8x1024_S1x1024_0_0, row0 v0 v1 v2 v3 go v5 v6 s⟩
      :: ⟨Rect.unit (s := S8x1024) ![1, 0] S1x1024.size inb_S8x1024_S1x1024_1_0, row1 v0 v2 s⟩ :: L)) (ix2 j l)
    = s (ix2 j l) + ∑ r : Fin 256, FfnSpec.term I j.val (tok T r) l := by
  refine (row_at _ _ 0 (by omega) _ _ (_ :: _) j l).trans ?_
  split_ifs with h0
  · refine (sum0_at P.toHolds (half0 P) (half1 P) (wi_at P 0 _) (wi_at P 1 _) (wi_at P 2 _) (wi_at P 3 _) _ l).trans ?_
    rw [h0]
    exact congrArg (· + _) (ld_row _ 0 (by omega) _ j h0 l)
  · refine (row_at _ _ 1 (by omega) _ _ L j l).trans ?_
    split_ifs with h1
    · refine (sum1_at P.toHolds _ l).trans ?_
      rw [h1]
      exact congrArg (· + _) (ld_row _ 1 (by omega) _ j h1 l)
    · rw [hs j l]
      simp only [term_ge _ _ h0 h1, Finset.sum_const_zero, add_zero]

/-- The block of sums after the first point, which fills it with zero. -/
theorem sums_first {sg : RefSig} (v : View sg .tc .vmem S8x1024 .f32) (f : v.ty.Contents (Elt Ideal)) (j : Fin 8) (l : Fin 1024) :
    v.read (Elt Ideal) (v.writes (Elt Ideal) f [⟨Rect.unit (s := S8x1024) ![0, 0] S1x1024.size inb_S8x1024_S1x1024_0_0, row0 v0 v1 v2 v3 go v5 v6 (k0_pay2 (F := Ideal))⟩,
      ⟨Rect.unit (s := S8x1024) ![1, 0] S1x1024.size inb_S8x1024_S1x1024_1_0, row1 v0 v2 (k0_pay2 (F := Ideal))⟩,
      ⟨Rect.unit (s := S8x1024) ![0, 0] S8x1024.size inb_S8x1024_S8x1024_0_0, k0_pay2 (F := Ideal)⟩]) (ix2 j l)
    = 0 + ∑ r : Fin 256, FfnSpec.term I j.val (tok T r) l := by
  have hz (i : Fin 8) (l : Fin 1024) : k0_pay2 (F := Ideal) (ix2 i l) = 0 := by
    unfold k0_pay2
    pointwise []
  rw [← hz j l]
  refine sums_step P v f _ _ (fun i l => ?_) j l
  exact View.read_writes_cons_unit_of_mem _ _ _ _ [] _ (ix2 i l) rfl (Fin.forall_fin_two.mpr ⟨(Nat.zero_add _).symm, (Nat.zero_add _).symm⟩)

/-- The block of sums after a later point. -/
theorem sums_next {sg : RefSig} (M : Memref sg .tc .vmem S8x1024 .f32) (W : M.IsWhole) (s : Vec Ideal S8x1024 .f32) (j : Fin 8) (l : Fin 1024) :
    M.view.read (Elt Ideal) (M.view.writes (Elt Ideal) (W.unread s) [⟨Rect.unit (s := S8x1024) ![0, 0] S1x1024.size inb_S8x1024_S1x1024_0_0, row0 v0 v1 v2 v3 go v5 v6 s⟩,
      ⟨Rect.unit (s := S8x1024) ![1, 0] S1x1024.size inb_S8x1024_S1x1024_1_0, row1 v0 v2 s⟩]) (ix2 j l)
    = s (ix2 j l) + ∑ r : Fin 256, FfnSpec.term I j.val (tok T r) l :=
  sums_step P _ _ [] s (fun i l => by rw [View.writes_nil, Memref.IsWhole.read_unread W]) j l

end

end Cert.FfnIdeal.At

end
-- ==== Proof.FfnOut.lean ====
/- The blocks the feed-forward grid points write back, and what the sums hold after each point. -/
module

public import proofs.«01_k».proof.Proof.FfnPoint

@[expose] public section

set_option maxRecDepth 16384

noncomputable section

namespace Cert.FfnIdeal.At

open Cert.FfnIdeal Cert.FfnIdeal.Gen Idealize.ShloMosaic Idealize.ShloMosaic.TcCoe

variable (m : (ℓ : Loc nD τ sig) → Buf (Elt Ideal) ℓ) (c : Dev nD)

/-- The region's input arrays, as the gradient's inputs. -/
def KI : FfnSpec.In where
  h t l := V m c main_arg0 (ix2 t l)
  dh t l := V m c main_arg1 (ix2 t l)
  ff t l := V m c main_v24 (ix2 t l)
  gu t k := V m c main_v25 (ix2 t k)
  gi l := V m c main_arg2 (ix2 6 l)
  go l := V m c main_arg2 (ix2 7 l)
  wi j l k := V m c main_arg3 (ix3 j l k)
  wo k l := V m c main_arg4 (ix2 k l)

/-- The tile of grid point `t`. -/
def tile (t : Fin cfg0.N) : Fin 16 := ⟨t.val, t.isLt⟩

/-- The blocks' places in their arrays. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![0, 0] :=
  (by decide +kernel : ∀ t : Fin grid0.N, _)

theorem b0 (t : Fin cfg0.N) (r : Fin 256) (l : Fin 1024) : iblk m c 0 t (ix2 r l) = (KI m c).dh (tok (tile t) r) l := by
  blk_ext [iblk, KI, tok, tile, idx t]

theorem b1 (t : Fin cfg0.N) (r : Fin 256) (l : Fin 1024) : iblk m c 1 t (ix2 r l) = (KI m c).h (tok (tile t) r) l := by
  blk_ext [iblk, KI, tok, tile, idx t]

theorem b2 (t : Fin cfg0.N) (r : Fin 256) (l : Fin 1024) : iblk m c 2 t (ix2 r l) = (KI m c).ff (tok (tile t) r) l := by
  blk_ext [iblk, KI, tok, tile, idx t]

theorem b3 (t : Fin cfg0.N) (r : Fin 256) (k : Fin 5632) : iblk m c 3 t (ix2 r k) = (KI m c).gu (tok (tile t) r) k := by
  blk_ext [iblk, KI, tok, tile, idx t]

theorem b4 (t : Fin cfg0.N) (j : Fin 16) (l : Fin 1024) : iblk m c 4 t (ix2 j l) = V m c main_arg2 (ix2 j l) := by
  blk_ext [iblk, idx t]

theorem b5 (t : Fin cfg0.N) (j : Fin 4) (l : Fin 1024) (k : Fin 1408) : iblk m c 5 t (ix3 j l k) = (KI m c).wi j l k := by
  blk_ext [iblk, KI, idx t]

theorem b6 (t : Fin cfg0.N) (k : Fin 2816) (l : Fin 1024) : iblk m c 6 t (ix2 k l) = (KI m c).wo k l := by
  blk_ext [iblk, KI, idx t]

/-- A grid point's blocks are its tile's. -/
theorem point (t : Fin cfg0.N) : Point (KI m c) (tile t) (iblk m c 0 t) (iblk m c 1 t) (iblk m c 2 t) (iblk m c 3 t)
    (smRow (iblk m c 4 t) 6 inb_S16x1024_S1x1024_6_0) (smRow (iblk m c 4 t) 7 inb_S16x1024_S1x1024_7_0) (iblk m c 5 t) (iblk m c 6 t) where
  d := b0 m c t
  h := b1 m c t
  y := b2 m c t
  gi l := (smRow_at _ 6 _ l).trans (b4 m c t 6 l)
  go l := (smRow_at _ 7 _ l).trans (b4 m c t 7 l)
  gu := b3 m c t
  wi := b5 m c t
  wo := b6 m c t

/-- The gradient with respect to the network's output. -/
theorem out9 (t : Fin cfg0.N) (r : Fin 256) (l : Fin 1024) :
    (outsAt0 m c t.val t.isLt).2.2.1 (ix2 r l) = FfnSpec.dff (KI m c) (tok (tile t) r) l := by
  by_cases h : t.val % 16 = 0
  · rw [outsAt0_A m c t h]
    frame_out
    exact dff_at (point m c t).toHolds r l
  · rw [outsAt0_B m c t h]
    frame_out
    exact dff_at (point m c t).toHolds r l

/-- The activation. -/
theorem out10 (t : Fin cfg0.N) (r : Fin 256) (k : Fin 2816) :
    (outsAt0 m c t.val t.isLt).2.2.2.1 (ix2 r k) = FfnSpec.act (KI m c) (tok (tile t) r) k := by
  by_cases h : t.val % 16 = 0
  · rw [outsAt0_A m c t h]
    frame_out
    exact act_whole (half0 (point m c t)) (half1 (point m c t)) (ix2 r k)
  · rw [outsAt0_B m c t h]
    frame_out
    exact act_whole (half0 (point m c t)) (half1 (point m c t)) (ix2 r k)

/-- The gradient with respect to the projection. -/
theorem out8 (t : Fin cfg0.N) (r : Fin 256) (k : Fin 5632) :
    (outsAt0 m c t.val t.isLt).2.1 (ix2 r k) = FfnSpec.dgu (KI m c) (tok (tile t) r) k := by
  by_cases h : t.val % 16 = 0
  · rw [outsAt0_A m c t h]
    frame_out
    exact dgu_whole (point m c t).toHolds (half0 (point m c t)) (half1 (point m c t)) (ix2 r k)
  · rw [outsAt0_B m c t h]
    frame_out
    exact dgu_whole (point m c t).toHolds (half0 (point m c t)) (half1 (point m c t)) (ix2 r k)

/-- The gradient with respect to the sub-layer's input. -/
theorem out7 (t : Fin cfg0.N) (r : Fin 256) (l : Fin 1024) :
    (outsAt0 m c t.val t.isLt).1 (ix2 r l) = FfnSpec.o (KI m c) (tok (tile t) r) l := by
  by_cases h : t.val % 16 = 0
  · rw [outsAt0_A m c t h]
    frame_open
    simp (disch := decide) only [↓ View.readCov_skip, ↓ View.readCov_cons_toLoadRect, ↓ View.readCov_fill]
    frame_out
    exact o_point (point m c t) r l
  · rw [outsAt0_B m c t h]
    frame_open
    simp (disch := decide) only [↓ View.readCov_skip, ↓ View.readCov_cons_toLoadRect, ↓ View.readCov_fill]
    frame_out
    exact o_point (point m c t) r l

/-- At the points after the first, the block of sums grows by its tile's terms. -/
theorem sumB (t : Fin cfg0.N) (h : ¬t.val % 16 = 0) (j : Fin 8) (l : Fin 1024) : (outsAt0 m c t.val t.isLt).2.2.2.2 (ix2 j l)
    = (outsAt0 m c (t.val - 1) (Nat.lt_of_le_of_lt (Nat.sub_le _ _) t.isLt)).2.2.2.2 (ix2 j l) + ∑ r : Fin 256, FfnSpec.term (KI m c) j.val (tok (tile t) r) l := by
  rw [outsAt0_B m c t h]
  frame_open
  simp (disch := decide) only [↓ View.readCov_skip, ↓ View.readCov_cons_toLoadRect, ↓ View.readCov_fill]
  frame_out
  exact sums_next (point m c t) _ _ _ j l

/-- The first point starts the block of sums at zero. -/
theorem sumA (t : Fin cfg0.N) (h : t.val % 16 = 0) (j : Fin 8) (l : Fin 1024) : (outsAt0 m c t.val t.isLt).2.2.2.2 (ix2 j l)
    = 0 + ∑ r : Fin 256, FfnSpec.term (KI m c) j.val (tok (tile t) r) l := by
  rw [outsAt0_A m c t h]
  frame_open
  simp (disch := decide) only [↓ View.readCov_skip, ↓ View.readCov_cons_toLoadRect, ↓ View.readCov_fill]
  frame_out
  refine (View.read_writes_junk_apply_eq_canon (ms0_11 t).view _ _).symm.trans ?_
  exact sums_first (point m c t) _ _ j l

end Cert.FfnIdeal.At

end
-- ==== Proof.FfnRef.lean ====
/- The reference's results for the feed-forward sub-layer, read at an index, are the gradient's functions of FfnSpec.lean. -/
module

public import proofs.«01_k».proof.Proof.Gen.FfnReferenceIdeal.Read
public import proofs.«01_k».proof.Proof.FfnSpec
public import Idealize.ShloMosaic.Lib.Pointwise
public import Idealize.ShloMosaic.Lib.Pipeline.ValueKit

@[expose] public section

set_option maxRecDepth 16384

noncomputable section

namespace Cert.FfnReferenceIdeal.At

open Cert.FfnReferenceIdeal Cert.FfnReferenceIdeal.Gen Cert.FfnReferenceIdeal.Read Idealize.ShloMosaic Idealize.ShloMosaic.TcCoe

variable (x0 x1 : FVec Ideal S4096x1024 .f32) (x2 : FVec Ideal S16x1024 .f32) (x3 : FVec Ideal S4x1024x1408 .bf16)
  (x4 : FVec Ideal S2816x1024 .bf16)

/-- The gradient's inputs, the saved arrays being what the reference's own first lines compute. -/
def inp : FfnSpec.In where
  h := fun t l => x0 (ix2 t l)
  dh := fun t l => x1 (ix2 t l)
  ff := fun t l => val_main_v24 (F := Ideal) x0 x2 x3 x4 (ix2 t l)
  gu := fun t k => val_main_v18 (F := Ideal) x0 x2 x3 (ix2 t k)
  gi := fun l => x2 (ix2 6 l)
  go := fun l => x2 (ix2 7 l)
  wi := fun j l k => x3 (ix3 j l k)
  wo := fun k l => x4 (ix2 k l)

theorem inp_h (t : Fin 4096) (l : Fin 1024) : (inp x0 x1 x2 x3 x4).h t l = x0 (ix2 t l) := rfl
theorem inp_dh (t : Fin 4096) (l : Fin 1024) : (inp x0 x1 x2 x3 x4).dh t l = x1 (ix2 t l) := rfl
theorem inp_ff (t : Fin 4096) (l : Fin 1024) : (inp x0 x1 x2 x3 x4).ff t l = val_main_v24 (F := Ideal) x0 x2 x3 x4 (ix2 t l) := rfl
theorem inp_gu (t : Fin 4096) (k : Fin 5632) : (inp x0 x1 x2 x3 x4).gu t k = val_main_v18 (F := Ideal) x0 x2 x3 (ix2 t k) := rfl
theorem inp_gi (l : Fin 1024) : (inp x0 x1 x2 x3 x4).gi l = x2 (ix2 6 l) := rfl
theorem inp_go (l : Fin 1024) : (inp x0 x1 x2 x3 x4).go l = x2 (ix2 7 l) := rfl
theorem inp_wi (j : Fin 4) (l : Fin 1024) (k : Fin 1408) : (inp x0 x1 x2 x3 x4).wi j l k = x3 (ix3 j l k) := rfl
theorem inp_wo (k : Fin 2816) (l : Fin 1024) : (inp x0 x1 x2 x3 x4).wo k l = x4 (ix2 k l) := rfl

/-- The mean square of a row of the network's output. -/
theorem ms1 (t : Fin 4096) : val_main_v40 (F := Ideal) x0 x2 x3 x4 (ix2 t 0) = Rms.ms ((inp x0 x1 x2 x3 x4).ff t) := by
  unfold val_main_v40 val_main_v39 val_main_v38 val_main_v37 val_main_v36 val_main_v35 val_main_v34 val_main_cst_2 val_main_cst_3 val_main_cst_4
  pointwise [Rms.ms, inp_ff]

/-- The gradient with respect to the network's output. -/
theorem dff (t : Fin 4096) (l : Fin 1024) : val_main_v71 (F := Ideal) x0 x1 x2 x3 x4 (ix2 t l) = FfnSpec.dff (inp x0 x1 x2 x3 x4) t l := by
  unfold FfnSpec.dff
  rw [← Rms.bwd_eq]
  unfold val_main_v71 val_main_v70 val_main_v69 val_main_v68 val_main_v67 val_main_v66 val_main_v65 val_main_v64 val_main_v63 val_main_v62
    val_main_v61 val_main_v60 val_main_v59 val_main_v58 val_main_v56 val_main_v55 val_main_v51 val_main_v47 val_main_v44 val_main_v43 val_main_v42
    val_main_v41 val_main_v33 val_main_v32 val_main_cst_5 val_main_cst_8 val_main_cst_9 val_main_cst_10
  have hm := ms1 x0 x1 x2 x3 x4 t
  pointwise [Rms.cc, Rms.rr, inp_ff, inp_dh, inp_go, hm, Fin.sum_univ_one]

/-- The gradient with respect to the activation. -/
theorem da (t : Fin 4096) (k : Fin 2816) : val_main_v74 (F := Ideal) x0 x1 x2 x3 x4 (ix2 t k) = FfnSpec.da (inp x0 x1 x2 x3 x4) t k := by
  have hd := dff x0 x1 x2 x3 x4
  unfold val_main_v74 val_main_v72
  pointwise [FfnSpec.da, hd, inp_wo]

/-- The two halves of the projection, and the gate's logistic. -/
theorem gate (t : Fin 4096) (k : Fin 2816) : val_main_v28 (F := Ideal) x0 x2 x3 (ix2 t k) = FfnSpec.gate (inp x0 x1 x2 x3 x4) t k := by
  unfold val_main_v28
  pointwise [FfnSpec.gate, inp_gu]

theorem up (t : Fin 4096) (k : Fin 2816) : val_main_v29 (F := Ideal) x0 x2 x3 (ix2 t k) = FfnSpec.up (inp x0 x1 x2 x3 x4) t k := by
  unfold val_main_v29
  pointwise [FfnSpec.up, inp_gu]

theorem sig (t : Fin 4096) (k : Fin 2816) : val_main_v30_2 (F := Ideal) x0 x2 x3 (ix2 t k) = FfnSpec.sig (inp x0 x1 x2 x3 x4) t k := by
  have hg := gate x0 x1 x2 x3 x4
  unfold val_main_v30_2 val_main_call1_v4 val_main_call1_v3 val_main_call1_v2 val_main_call1_v1 val_main_call1_v0 val_main_call1_cst val_main_call1_cst_0
  pointwise [FfnSpec.sig, Ideal.logistic, hg]

/-- The activation. -/
theorem act (t : Fin 4096) (k : Fin 2816) : val_main_v31 (F := Ideal) x0 x2 x3 (ix2 t k) = FfnSpec.act (inp x0 x1 x2 x3 x4) t k := by
  have hg := gate x0 x1 x2 x3 x4
  have hu := up x0 x1 x2 x3 x4
  have hs := sig x0 x1 x2 x3 x4
  unfold val_main_v31 val_main_v30_0
  pointwise [FfnSpec.act, hg, hu, hs]

/-- The gradient with respect to the projection. -/
theorem dgu (R : FfnSpec.Real (inp x0 x1 x2 x3 x4)) (t : Fin 4096) (k : Fin 5632) :
    val_main_v78 (F := Ideal) x0 x1 x2 x3 x4 (ix2 t k) = FfnSpec.dgu (inp x0 x1 x2 x3 x4) t k := by
  have hd := da x0 x1 x2 x3 x4
  have hg := gate x0 x1 x2 x3 x4
  have hu := up x0 x1 x2 x3 x4
  have hs := sig x0 x1 x2 x3 x4
  have he := FfnSpec.dgate_eq R
  unfold val_main_v78 val_main_v77 val_main_call2_v2 val_main_call2_v1 val_main_call2_v0 val_main_v76 val_main_v75 val_main_v30_0 val_main_v30_1
    val_main_call1_v7 val_main_call1_v6 val_main_call1_cst_1
  pointwise [FfnSpec.dgu, FfnSpec.dup, hd, hg, hu, hs, he]
  split_ifs <;> first | rfl | exact mul_comm _ _

/-- The gradient with respect to the normalised input. -/
theorem dn (R : FfnSpec.Real (inp x0 x1 x2 x3 x4)) (t : Fin 4096) (l : Fin 1024) :
    val_main_v98 (F := Ideal) x0 x1 x2 x3 x4 (ix2 t l) = FfnSpec.dn (inp x0 x1 x2 x3 x4) t l := by
  have hp := dgu x0 x1 x2 x3 x4 R
  unfold val_main_v98 val_main_v27 val_main_v26 val_main_v25
  pointwise [FfnSpec.dn, inp_wi, hp]
  exact Fin.sum_divmod_congr fun k hj hk => by rw [show (⟨k.val / 1408 * 1408 + k.val % 1408, by omega⟩ : Fin 5632) = k from Fin.ext (by dsimp only; omega)]

/-- The mean square of a row of the input. -/
theorem ms0 (t : Fin 4096) : val_main_v87 (F := Ideal) x0 (ix2 t 0) = Rms.ms ((inp x0 x1 x2 x3 x4).h t) := by
  unfold val_main_v87 val_main_v86 val_main_v85 val_main_v84 val_main_v83 val_main_v82 val_main_v81 val_main_cst_11 val_main_cst_12 val_main_cst_13
  pointwise [Rms.ms, inp_h]

/-- The gradient with respect to the sub-layer's input. -/
theorem o (R : FfnSpec.Real (inp x0 x1 x2 x3 x4)) (t : Fin 4096) (l : Fin 1024) :
    val_main_v123 (F := Ideal) x0 x1 x2 x3 x4 (ix2 t l) = FfnSpec.o (inp x0 x1 x2 x3 x4) t l := by
  unfold FfnSpec.o
  rw [← Rms.bwd_eq]
  have hm := ms0 x0 x1 x2 x3 x4 t
  have hn := dn x0 x1 x2 x3 x4 R
  unfold val_main_v123 val_main_v118 val_main_v117 val_main_v116 val_main_v115 val_main_v114 val_main_v113 val_main_v112 val_main_v111 val_main_v110
    val_main_v109 val_main_v108 val_main_v107 val_main_v106 val_main_v105 val_main_v103 val_main_v102 val_main_v94 val_main_v91 val_main_v90 val_main_v89
    val_main_v88 val_main_v80 val_main_v79 val_main_cst_14 val_main_cst_17 val_main_cst_18 val_main_cst_19
  pointwise [Rms.cc, Rms.rr, inp_h, inp_dh, inp_gi, hm, hn, Fin.sum_univ_one]

/-- The gains' gradient. -/
theorem sums (R : FfnSpec.Real (inp x0 x1 x2 x3 x4)) (j : Fin 8) (l : Fin 1024) :
    val_main_v122 (F := Ideal) x0 x1 x2 x3 x4 (ix2 j l) = FfnSpec.sums (inp x0 x1 x2 x3 x4) j l := by
  have hn := dn x0 x1 x2 x3 x4 R
  have hm0 := ms0 x0 x1 x2 x3 x4
  have hm1 := ms1 x0 x1 x2 x3 x4
  unfold val_main_v122 val_main_v121 val_main_v120 val_main_v119 val_main_v104 val_main_v101 val_main_v100 val_main_v99 val_main_v93 val_main_v92
    val_main_v88 val_main_v57 val_main_v54 val_main_v53 val_main_v52 val_main_v51 val_main_v46 val_main_v45 val_main_v41
    val_main_cst_6 val_main_cst_7 val_main_cst_15 val_main_cst_16 val_main_cst_20
  pointwise [FfnSpec.sums, FfnSpec.term, inp_h, inp_ff, inp_dh, hn, hm0, hm1, Fin.sum_univ_one]
  fin_cases j <;> norm_num [Rms.rr]
  all_goals exact Finset.sum_congr rfl fun _ _ => mul_comm _ _

/-- Of real arguments the saved arrays are real. -/
theorem real (h0 : ∀ i, Reals.IsR (x0 i)) (h1 : ∀ i, Reals.IsR (x1 i)) (h2 : ∀ i, Reals.IsR (x2 i)) (h3 : ∀ i, Reals.IsR (x3 i)) (h4 : ∀ i, Reals.IsR (x4 i)) :
    FfnSpec.Real (inp x0 x1 x2 x3 x4) := by
  have hgu (t : Fin 4096) (k : Fin 5632) : Reals.IsR (val_main_v18 (F := Ideal) x0 x2 x3 (ix2 t k)) := by
    have hr (t : Fin 4096) : val_main_v12 (F := Ideal) x0 (ix2 t 0) = Rms.rr fun l => x0 (ix2 t l) := by
      unfold val_main_v12 val_main_v11 val_main_v10 val_main_v9 val_main_v8 val_main_v7 val_main_v6 val_main_v5 val_main_cst val_main_cst_0 val_main_cst_1
      pointwise [Rms.rr, Rms.ms]
    unfold val_main_v18 val_main_v17 val_main_v16 val_main_v15 val_main_v14 val_main_v13 val_main_v4 val_main_v3 val_main_v2 val_main_v1 val_main_v0
    pointwise [hr]
    exact Reals.sum fun l => Reals.mul (Reals.mul (Reals.mul (h0 _) (Reals.rr _)) (h2 _)) (h3 _)
  refine ⟨fun t l => h1 _, fun t l => ?_, hgu, fun l => h2 _, fun k l => h4 _⟩
  show Reals.IsR (val_main_v24 (F := Ideal) x0 x2 x3 x4 (ix2 t l))
  have hs (t : Fin 4096) (k : Fin 2816) : val_main_call0_v5 (F := Ideal) x0 x2 x3 (ix2 t k) = Ideal.logistic (val_main_v19 (F := Ideal) x0 x2 x3 (ix2 t k)) := by
    unfold val_main_call0_v5 val_main_call0_v4 val_main_call0_v3 val_main_call0_v2 val_main_call0_v1 val_main_call0_v0 val_main_call0_cst val_main_call0_cst_0
    pointwise [Ideal.logistic]
  have hg (t : Fin 4096) (k : Fin 2816) : Reals.IsR (val_main_v19 (F := Ideal) x0 x2 x3 (ix2 t k)) := by
    unfold val_main_v19
    pointwise []
    exact hgu _ _
  have hu (t : Fin 4096) (k : Fin 2816) : Reals.IsR (val_main_v20 (F := Ideal) x0 x2 x3 (ix2 t k)) := by
    unfold val_main_v20
    pointwise []
    exact hgu _ _
  unfold val_main_v24 val_main_v22 val_main_v21 val_main_v23
  pointwise [hs]
  exact Reals.sum fun k => Reals.mul (Reals.mul (Reals.mul (hg _ _) (Reals.logistic (hg _ _))) (hu _ _)) (h4 _)

end Cert.FfnReferenceIdeal.At

end
-- ==== Proof.FfnPre.lean ====
/- What the precondition says: every entry of every argument is a real number. -/
module

public import proofs.«01_k».proof.Proof.Gen.Pre_finite
public import proofs.«01_k».proof.Proof.Reals
public import Idealize.ShloMosaic.Lib.ReduceAll
public import Idealize.ShloMosaic.Lib.Pointwise

@[expose] public section

set_option maxRecDepth 16384

noncomputable section

namespace Cert.Pre_finite.At

open Cert.Pre_finite Idealize.ShloMosaic

/-- An entry whose difference with itself compares equal to zero is real. -/
theorem entry {s : Shape} (x : FVec Ideal s .f32) (h : S_.BroadcastsInDim s ![]) (i : s.Idx)
    (e : cmpf .oeq (subf x x) (broadcastInDim s ![] h (constant S_ .f32 0x00000000#32)) i = 1#1) : Reals.IsR (x i) := by
  apply Reals.of_sub_self
  have e' : BitVec.ofBool (decide (x i - x i = Ideal.ofBits .f32 0x00000000#32)) = 1#1 := e
  rw [Ideal.ofBits_zero_f32] at e'
  by_contra hn
  simp [hn] at e'

variable [Facts]

theorem real (x0 x1 : FVec Ideal S4096x1024 .f32) (x2 : FVec Ideal S16x1024 .f32) (x3 : FVec Ideal S4x1024x1408 .bf16) (x4 : FVec Ideal S2816x1024 .bf16)
    (h : fn (F := Ideal) x0 x1 x2 x3 x4 = fun _ => 1#1) :
    (∀ i, Reals.IsR (x0 i)) ∧ (∀ i, Reals.IsR (x1 i)) ∧ (∀ i, Reals.IsR (x2 i)) ∧ (∀ i, Reals.IsR (x3 i)) ∧ ∀ i, Reals.IsR (x4 i) := by
  have : Subsingleton S_.Idx := ⟨fun a b => funext fun k => k.elim0⟩
  have hj := congrFun h (Shape.Idx.first Facts.h_S_)
  obtain ⟨h, h4⟩ := IntOp.andi_eq_one.mp hj
  obtain ⟨h, h3⟩ := IntOp.andi_eq_one.mp h
  obtain ⟨h, h2⟩ := IntOp.andi_eq_one.mp h
  obtain ⟨h0, h1⟩ := IntOp.andi_eq_one.mp h
  exact ⟨fun i => entry x0 _ i (Host.reduce_andi_all _ _ _ _ _ h0 i), fun i => entry x1 _ i (Host.reduce_andi_all _ _ _ _ _ h1 i),
    fun i => entry x2 _ i (Host.reduce_andi_all _ _ _ _ _ h2 i), fun i => entry x3 _ i (Host.reduce_andi_all _ _ _ _ _ h3 i),
    fun i => entry x4 _ i (Host.reduce_andi_all _ _ _ _ _ h4 i)⟩

end Cert.Pre_finite.At

end
-- ==== Proof.FfnFinal.lean ====
/- The arrays the feed-forward kernel leaves, as functions of its arguments, are the reference's. -/
module

public import proofs.«01_k».proof.Proof.FfnOut
public import proofs.«01_k».proof.Proof.FfnRef
public import proofs.«01_k».proof.Proof.FfnPre
public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.Gen.FfnReferenceIdeal
public import proofs.«01_k».proof.Defs
public import Idealize.ShloMosaic.Adequacy

@[expose] public section

set_option maxRecDepth 16384

noncomputable section

namespace Cert.FfnIdeal.At

open Cert.FfnIdeal Cert.FfnIdeal.Gen Idealize.ShloMosaic Idealize.ShloMosaic.TcCoe

/-- The tiles make up the sequence. -/
theorem sum_tiles (g : Fin 4096 → EReal) : ∑ t : Fin 16, ∑ r : Fin 256, g (tok t r) = ∑ x : Fin 4096, g x :=
  Fin.sum_mul_add_congr fun t r ha => rfl

variable (m : (ℓ : Loc nD τ sig) → Buf (Elt Ideal) ℓ) (c : Dev nD)

theorem arr7 : (dats m 0 c).arrAt 7 cfg0.N = fun i => FfnSpec.o (KI m c) (i 0) (i 1) := by
  refine (dats m 0 c).arrAt_eq_of_covers 7 _ (by decide +kernel) fun t hf x => ?_
  blk_simp
  rw [after0_7]
  idx_vars x
  refine (out7 m c t x0 x1).trans ?_
  refine congrArg₂ (FfnSpec.o (KI m c)) (Fin.ext ?_) (Fin.ext ?_)
  · blk_simp [idx t, tok_val, tile]
  · blk_simp [idx t]

theorem arr8 : (dats m 0 c).arrAt 8 cfg0.N = fun i => FfnSpec.dgu (KI m c) (i 0) (i 1) := by
  refine (dats m 0 c).arrAt_eq_of_covers 8 _ (by decide +kernel) fun t hf x => ?_
  blk_simp
  rw [after0_8]
  idx_vars x
  refine (out8 m c t x0 x1).trans ?_
  refine congrArg₂ (FfnSpec.dgu (KI m c)) (Fin.ext ?_) (Fin.ext ?_)
  · blk_simp [idx t, tok_val, tile]
  · blk_simp [idx t]

theorem arr9 : (dats m 0 c).arrAt 9 cfg0.N = fun i => FfnSpec.dff (KI m c) (i 0) (i 1) := by
  refine (dats m 0 c).arrAt_eq_of_covers 9 _ (by decide +kernel) fun t hf x => ?_
  blk_simp
  rw [after0_9]
  idx_vars x
  refine (out9 m c t x0 x1).trans ?_
  refine congrArg₂ (FfnSpec.dff (KI m c)) (Fin.ext ?_) (Fin.ext ?_)
  · blk_simp [idx t, tok_val, tile]
  · blk_simp [idx t]

theorem arr10 : (dats m 0 c).arrAt 10 cfg0.N = fun i => FfnSpec.act (KI m c) (i 0) (i 1) := by
  refine (dats m 0 c).arrAt_eq_of_covers 10 _ (by decide +kernel) fun t hf x => ?_
  blk_simp
  rw [after0_10]
  idx_vars x
  refine (out10 m c t x0 x1).trans ?_
  refine congrArg₂ (FfnSpec.act (KI m c)) (Fin.ext ?_) (Fin.ext ?_)
  · blk_simp [idx t, tok_val, tile]
  · blk_simp [idx t]

theorem arr11 : (dats m 0 c).arrAt 11 cfg0.N = fun i => FfnSpec.sums (KI m c) (i 0) (i 1) := by
  refine (dats m 0 c).arrAt_eq_of_after_last 11 t0_15 (by decide +kernel) _ fun x => ?_
  blk_simp
  idx_vars x
  rw [after0_11, Pipeline.eq_sum_fin_of_reset_step_apply_last (fun n h (i : Fin 8 × Fin 1024) => (outsAt0 m c n h).2.2.2.2 (ix2 i.1 i.2)) 16 (fun _ => 0)
    (fun t i => ∑ r : Fin 256, FfnSpec.term (KI m c) i.1.val (tok (tile t) r) i.2) (fun t h i => sumA m c t h i.1 i.2) (fun t h i => sumB m c t h i.1 i.2)
    (le_of_eq N_0) t0_15 rfl (x0, x1)]
  rw [zero_add]
  exact sum_tiles fun y => FfnSpec.term (KI m c) x0.val y x1

/-- The reference's inputs, of the memory it starts from. -/
abbrev refIn (m' : (ℓ : Loc Cert.FfnReferenceIdeal.nD Cert.FfnReferenceIdeal.τ Cert.FfnReferenceIdeal.sig) → Buf (Elt Ideal) ℓ) (c : Dev Cert.FfnReferenceIdeal.nD) : FfnSpec.In :=
  FfnReferenceIdeal.At.inp (m' ((c.tc : Thread Cert.FfnReferenceIdeal.nD Cert.FfnReferenceIdeal.τ).loc Cert.FfnReferenceIdeal.main_arg0))
    (m' ((c.tc : Thread Cert.FfnReferenceIdeal.nD Cert.FfnReferenceIdeal.τ).loc Cert.FfnReferenceIdeal.main_arg1))
    (m' ((c.tc : Thread Cert.FfnReferenceIdeal.nD Cert.FfnReferenceIdeal.τ).loc Cert.FfnReferenceIdeal.main_arg2))
    (m' ((c.tc : Thread Cert.FfnReferenceIdeal.nD Cert.FfnReferenceIdeal.τ).loc Cert.FfnReferenceIdeal.main_arg3))
    (m' ((c.tc : Thread Cert.FfnReferenceIdeal.nD Cert.FfnReferenceIdeal.τ).loc Cert.FfnReferenceIdeal.main_arg4))

/-- The kernel's inputs are the reference's. -/
theorem KI_eq : KI m c = FfnReferenceIdeal.At.inp (m ((c : Thread nD τ).loc main_arg0)) (m ((c : Thread nD τ).loc main_arg1)) (m ((c : Thread nD τ).loc main_arg2))
    (m ((c : Thread nD τ).loc main_arg3)) (m ((c : Thread nD τ).loc main_arg4)) := by
  have hy : V m c main_v24 = FfnReferenceIdeal.Read.val_main_v24 (F := Ideal) (m ((c : Thread nD τ).loc main_arg0)) (m ((c : Thread nD τ).loc main_arg2)) (m ((c : Thread nD τ).loc main_arg3))
      (m ((c : Thread nD τ).loc main_arg4)) := by
    entry_read
    rfl
  have hp : V m c main_v25 = FfnReferenceIdeal.Read.val_main_v18 (F := Ideal) (m ((c : Thread nD τ).loc main_arg0)) (m ((c : Thread nD τ).loc main_arg2)) (m ((c : Thread nD τ).loc main_arg3)) := by
    entry_read
    rfl
  unfold KI FfnReferenceIdeal.At.inp
  rw [hy, hp]
  rfl

end Cert.FfnIdeal.At

namespace Cert.Proof.Ffn

open Idealize.ShloMosaic Idealize.SL.Sem

/-- The reference runs, keeps its arguments and leaves its counters at zero. -/
theorem frame_r : Cert.quiescent_FfnReferenceIdeal := by
  intro m ρ _
  exact (θ_run Cert.FfnReferenceIdeal.defs _ _).mono (fun r h => ⟨fun c => (h c).2.2.2.2.2, sem_eq_zero_of_no_sems (by decide) r.2⟩)
    (Cert.FfnReferenceIdeal.Value.run (F := Ideal) m ρ)

/-- Of finite arguments kernel and reference leave the same five arrays. -/
theorem alg : Cert.algebraic_FfnIdeal_FfnReferenceIdeal_pre_finite := by
  intro m ρ m' ρ' hfin hag
  have hin (c : Dev Cert.FfnIdeal.nD) : FfnIdeal.At.refIn m' c = FfnIdeal.At.KI m c := by
    rw [FfnIdeal.At.KI_eq]
    obtain ⟨h0, h1, h2, h3, h4⟩ := hag c
    unfold FfnIdeal.At.refIn
    rw [h0, h1, h2, h3, h4]
  have hR (c : Dev Cert.FfnIdeal.nD) : FfnSpec.Real (FfnIdeal.At.refIn m' c) := by
    obtain ⟨r0, r1, r2, r3, r4⟩ := Cert.Pre_finite.At.real _ _ _ _ _ (hfin c)
    rw [hin c, FfnIdeal.At.KI_eq]
    exact FfnReferenceIdeal.At.real _ _ _ _ _ r0 r1 r2 r3 r4
  refine ⟨fun c i => FfnSpec.o (FfnIdeal.At.KI m c) (i 0) (i 1), fun c i => FfnSpec.dgu (FfnIdeal.At.KI m c) (i 0) (i 1),
    fun c i => FfnSpec.dff (FfnIdeal.At.KI m c) (i 0) (i 1), fun c i => FfnSpec.act (FfnIdeal.At.KI m c) (i 0) (i 1),
    fun c i => FfnSpec.sums (FfnIdeal.At.KI m c) (i 0) (i 1), (θ_run _ _ _).mono (fun r h c => ?_) (Cert.FfnIdeal.Value.run_blocks (F := Ideal) m ρ),
    (θ_run _ _ _).mono (fun r h c => ?_) (Cert.FfnReferenceIdeal.Value.run (F := Ideal) m' ρ')⟩
  · obtain ⟨h0, h1, h2, h3, h4, h5⟩ := h c
    exact ⟨h0.trans (FfnIdeal.At.arr7 m c), h1.trans (FfnIdeal.At.arr8 m c), h2.trans (FfnIdeal.At.arr9 m c), h3.trans (FfnIdeal.At.arr10 m c),
      h4.trans (FfnIdeal.At.arr11 m c), h5⟩
  · obtain ⟨h0, h1, h2, h3, h4, h5⟩ := h c
    refine ⟨h0.trans ((Cert.FfnReferenceIdeal.Read.val_main_v123_eq (StableHlo.launchContents m' c)).trans (funext fun i => ?_)),
      h1.trans ((Cert.FfnReferenceIdeal.Read.val_main_v124_eq (StableHlo.launchContents m' c)).trans (funext fun i => ?_)),
      h2.trans ((Cert.FfnReferenceIdeal.Read.val_main_v125_eq (StableHlo.launchContents m' c)).trans (funext fun i => ?_)),
      h3.trans ((Cert.FfnReferenceIdeal.Read.val_main_v126_eq (StableHlo.launchContents m' c)).trans (funext fun i => ?_)),
      h4.trans ((Cert.FfnReferenceIdeal.Read.val_main_v122_eq (StableHlo.launchContents m' c)).trans (funext fun i => ?_)), h5⟩
    · idx_vars i
      exact (FfnReferenceIdeal.At.o _ _ _ _ _ (hR c) i0 i1).trans (congrArg (FfnSpec.o · i0 i1) (hin c))
    · idx_vars i
      exact (Cert.FfnReferenceIdeal.Read.val_main_v124_apply _ _ _ _ _ _).trans ((FfnReferenceIdeal.At.dgu _ _ _ _ _ (hR c) i0 i1).trans (congrArg (FfnSpec.dgu · i0 i1) (hin c)))
    · idx_vars i
      exact (Cert.FfnReferenceIdeal.Read.val_main_v125_apply _ _ _ _ _ _).trans ((FfnReferenceIdeal.At.dff _ _ _ _ _ i0 i1).trans (congrArg (FfnSpec.dff · i0 i1) (hin c)))
    · idx_vars i
      exact (Cert.FfnReferenceIdeal.Read.val_main_v126_apply _ _ _ _).trans ((FfnReferenceIdeal.At.act _ (m' ((c.tc : Thread Cert.FfnReferenceIdeal.nD Cert.FfnReferenceIdeal.τ).loc Cert.FfnReferenceIdeal.main_arg1)) _ _
        (m' ((c.tc : Thread Cert.FfnReferenceIdeal.nD Cert.FfnReferenceIdeal.τ).loc Cert.FfnReferenceIdeal.main_arg4)) i0 i1).trans (congrArg (FfnSpec.act · i0 i1) (hin c)))
    · idx_vars i
      exact (FfnReferenceIdeal.At.sums _ _ _ _ _ (hR c) i0 i1).trans (congrArg (FfnSpec.sums · i0 i1) (hin c))

end Cert.Proof.Ffn

end
-- ==== Proof.FfnFirstOut.lean ====
/- The blocks the grid points of the first layer's kernel write back, and what the sums hold after each point: the second
   layer's, with the gains of the first. -/
module

public import proofs.«01_k».proof.Proof.FfnPoint
public import proofs.«01_k».proof.Proof.Gen.FfnFirstIdeal.Value

@[expose] public section

set_option maxRecDepth 16384

noncomputable section

namespace Cert.FfnFirstIdeal.At

open Cert.FfnIdeal.At (Point tok smRow smRow_at dff_at half0 half1 act_whole dgu_whole o_point sums_next sums_first)
open Cert.FfnFirstIdeal Cert.FfnFirstIdeal.Gen Idealize.ShloMosaic Idealize.ShloMosaic.TcCoe

variable (m : (ℓ : Loc nD τ sig) → Buf (Elt Ideal) ℓ) (c : Dev nD)

/-- The region's input arrays, as the gradient's inputs. -/
def KI : FfnSpec.In where
  h t l := V m c main_arg0 (ix2 t l)
  dh t l := V m c main_arg1 (ix2 t l)
  ff t l := V m c main_v24 (ix2 t l)
  gu t k := V m c main_v25 (ix2 t k)
  gi l := V m c main_arg2 (ix2 2 l)
  go l := V m c main_arg2 (ix2 3 l)
  wi j l k := V m c main_arg3 (ix3 j l k)
  wo k l := V m c main_arg4 (ix2 k l)

/-- The tile of grid point `t`. -/
def tile (t : Fin cfg0.N) : Fin 16 := ⟨t.val, t.isLt⟩

/-- The blocks' places in their arrays. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![0, 0] :=
  (by decide +kernel : ∀ t : Fin grid0.N, _)

theorem b0 (t : Fin cfg0.N) (r : Fin 256) (l : Fin 1024) : iblk m c 0 t (ix2 r l) = (KI m c).dh (tok (tile t) r) l := by
  blk_ext [iblk, KI, tok, tile, idx t]

theorem b1 (t : Fin cfg0.N) (r : Fin 256) (l : Fin 1024) : iblk m c 1 t (ix2 r l) = (KI m c).h (tok (tile t) r) l := by
  blk_ext [iblk, KI, tok, tile, idx t]

theorem b2 (t : Fin cfg0.N) (r : Fin 256) (l : Fin 1024) : iblk m c 2 t (ix2 r l) = (KI m c).ff (tok (tile t) r) l := by
  blk_ext [iblk, KI, tok, tile, idx t]

theorem b3 (t : Fin cfg0.N) (r : Fin 256) (k : Fin 5632) : iblk m c 3 t (ix2 r k) = (KI m c).gu (tok (tile t) r) k := by
  blk_ext [iblk, KI, tok, tile, idx t]

theorem b4 (t : Fin cfg0.N) (j : Fin 16) (l : Fin 1024) : iblk m c 4 t (ix2 j l) = V m c main_arg2 (ix2 j l) := by
  blk_ext [iblk, idx t]

theorem b5 (t : Fin cfg0.N) (j : Fin 4) (l : Fin 1024) (k : Fin 1408) : iblk m c 5 t (ix3 j l k) = (KI m c).wi j l k := by
  blk_ext [iblk, KI, idx t]

theorem b6 (t : Fin cfg0.N) (k : Fin 2816) (l : Fin 1024) : iblk m c 6 t (ix2 k l) = (KI m c).wo k l := by
  blk_ext [iblk, KI, idx t]

/-- A grid point's blocks are its tile's. -/
theorem point (t : Fin cfg0.N) : Point (KI m c) (tile t) (iblk m c 0 t) (iblk m c 1 t) (iblk m c 2 t) (iblk m c 3 t)
    (smRow (iblk m c 4 t) 2 inb_S16x1024_S1x1024_2_0) (smRow (iblk m c 4 t) 3 inb_S16x1024_S1x1024_3_0) (iblk m c 5 t) (iblk m c 6 t) where
  d := b0 m c t
  h := b1 m c t
  y := b2 m c t
  gi l := (smRow_at _ 2 _ l).trans (b4 m c t 2 l)
  go l := (smRow_at _ 3 _ l).trans (b4 m c t 3 l)
  gu := b3 m c t
  wi := b5 m c t
  wo := b6 m c t

/-- The gradient with respect to the network's output. -/
theorem out9 (t : Fin cfg0.N) (r : Fin 256) (l : Fin 1024) :
    (outsAt0 m c t.val t.isLt).2.2.1 (ix2 r l) = FfnSpec.dff (KI m c) (tok (tile t) r) l := by
  by_cases h : t.val % 16 = 0
  · rw [outsAt0_A m c t h]
    frame_out
    exact dff_at (point m c t).toHolds r l
  · rw [outsAt0_B m c t h]
    frame_out
    exact dff_at (point m c t).toHolds r l

/-- The activation. -/
theorem out10 (t : Fin cfg0.N) (r : Fin 256) (k : Fin 2816) :
    (outsAt0 m c t.val t.isLt).2.2.2.1 (ix2 r k) = FfnSpec.act (KI m c) (tok (tile t) r) k := by
  by_cases h : t.val % 16 = 0
  · rw [outsAt0_A m c t h]
    frame_out
    exact act_whole (half0 (point m c t)) (half1 (point m c t)) (ix2 r k)
  · rw [outsAt0_B m c t h]
    frame_out
    exact act_whole (half0 (point m c t)) (half1 (point m c t)) (ix2 r k)

/-- The gradient with respect to the projection. -/
theorem out8 (t : Fin cfg0.N) (r : Fin 256) (k : Fin 5632) :
    (outsAt0 m c t.val t.isLt).2.1 (ix2 r k) = FfnSpec.dgu (KI m c) (tok (tile t) r) k := by
  by_cases h : t.val % 16 = 0
  · rw [outsAt0_A m c t h]
    frame_out
    exact dgu_whole (point m c t).toHolds (half0 (point m c t)) (half1 (point m c t)) (ix2 r k)
  · rw [outsAt0_B m c t h]
    frame_out
    exact dgu_whole (point m c t).toHolds (half0 (point m c t)) (half1 (point m c t)) (ix2 r k)

/-- The gradient with respect to the sub-layer's input. -/
theorem out7 (t : Fin cfg0.N) (r : Fin 256) (l : Fin 1024) :
    (outsAt0 m c t.val t.isLt).1 (ix2 r l) = FfnSpec.o (KI m c) (tok (tile t) r) l := by
  by_cases h : t.val % 16 = 0
  · rw [outsAt0_A m c t h]
    frame_open
    simp (disch := decide) only [↓ View.readCov_skip, ↓ View.readCov_cons_toLoadRect, ↓ View.readCov_fill]
    frame_out
    exact o_point (point m c t) r l
  · rw [outsAt0_B m c t h]
    frame_open
    simp (disch := decide) only [↓ View.readCov_skip, ↓ View.readCov_cons_toLoadRect, ↓ View.readCov_fill]
    frame_out
    exact o_point (point m c t) r l

/-- At the points after the first, the block of sums grows by its tile's terms. -/
theorem sumB (t : Fin cfg0.N) (h : ¬t.val % 16 = 0) (j : Fin 8) (l : Fin 1024) : (outsAt0 m c t.val t.isLt).2.2.2.2 (ix2 j l)
    = (outsAt0 m c (t.val - 1) (Nat.lt_of_le_of_lt (Nat.sub_le _ _) t.isLt)).2.2.2.2 (ix2 j l) + ∑ r : Fin 256, FfnSpec.term (KI m c) j.val (tok (tile t) r) l := by
  rw [outsAt0_B m c t h]
  frame_open
  simp (disch := decide) only [↓ View.readCov_skip, ↓ View.readCov_cons_toLoadRect, ↓ View.readCov_fill]
  frame_out
  exact sums_next (point m c t) _ _ _ j l

/-- The first point starts the block of sums at zero. -/
theorem sumA (t : Fin cfg0.N) (h : t.val % 16 = 0) (j : Fin 8) (l : Fin 1024) : (outsAt0 m c t.val t.isLt).2.2.2.2 (ix2 j l)
    = 0 + ∑ r : Fin 256, FfnSpec.term (KI m c) j.val (tok (tile t) r) l := by
  rw [outsAt0_A m c t h]
  frame_open
  simp (disch := decide) only [↓ View.readCov_skip, ↓ View.readCov_cons_toLoadRect, ↓ View.readCov_fill]
  frame_out
  refine (View.read_writes_junk_apply_eq_canon (ms0_11 t).view _ _).symm.trans ?_
  exact sums_first (point m c t) _ _ j l

end Cert.FfnFirstIdeal.At

end
-- ==== Proof.FfnFirstRef.lean ====
/- The first layer's reference is the second layer's, its two gains standing in the rows the second layer reads. -/
module

public import proofs.«01_k».proof.Proof.Gen.FfnFirstReferenceIdeal.Read
public import proofs.«01_k».proof.Proof.FfnRef

@[expose] public section

set_option maxRecDepth 16384

noncomputable section

namespace Cert.FfnFirstReferenceIdeal.At

open Cert.FfnFirstReferenceIdeal Cert.FfnFirstReferenceIdeal.Gen Cert.FfnFirstReferenceIdeal.Read Idealize.ShloMosaic Idealize.ShloMosaic.TcCoe

variable (x0 x1 : FVec Ideal S4096x1024 .f32) (x2 : FVec Ideal S16x1024 .f32) (x3 : FVec Ideal S4x1024x1408 .bf16)
  (x4 : FVec Ideal S2816x1024 .bf16)

/-- The gains four rows further on: the first layer's stand where the second layer's stood. -/
def next : FVec Ideal S16x1024 .f32 := fun i => x2 (ix2 ⟨(i 0).val - 4, Nat.lt_of_le_of_lt (Nat.sub_le _ _) (i 0).isLt⟩ (i 1))

theorem v0 : val_main_v0 (F := Ideal) x2 = FfnReferenceIdeal.Read.val_main_v0 (F := Ideal) (next x2) := by
  funext i
  idx_vars i
  unfold val_main_v0 FfnReferenceIdeal.Read.val_main_v0
  pointwise [next]

theorem v32 : val_main_v32 (F := Ideal) x2 = FfnReferenceIdeal.Read.val_main_v32 (F := Ideal) (next x2) := by
  funext i
  idx_vars i
  unfold val_main_v32 FfnReferenceIdeal.Read.val_main_v32
  pointwise [next]

theorem v79 : val_main_v79 (F := Ideal) x2 = FfnReferenceIdeal.Read.val_main_v79 (F := Ideal) (next x2) := v0 x2

theorem v18 : val_main_v18 (F := Ideal) x0 x2 x3 = FfnReferenceIdeal.Read.val_main_v18 (F := Ideal) x0 (next x2) x3 := by
  unfold val_main_v18 val_main_v17 val_main_v16 val_main_v15 val_main_v1
  rw [v0]
  rfl

theorem v31 : val_main_v31 (F := Ideal) x0 x2 x3 = FfnReferenceIdeal.Read.val_main_v31 (F := Ideal) x0 (next x2) x3 := by
  unfold val_main_v31 val_main_v30_0 val_main_v30_2 val_main_call1_v4 val_main_call1_v3 val_main_call1_v2 val_main_call1_v1 val_main_call1_v0 val_main_v28 val_main_v29
  rw [v18]
  rfl

theorem v24 : val_main_v24 (F := Ideal) x0 x2 x3 x4 = FfnReferenceIdeal.Read.val_main_v24 (F := Ideal) x0 (next x2) x3 x4 := by
  unfold val_main_v24 val_main_v22 val_main_v21 val_main_call0_v5 val_main_call0_v4 val_main_call0_v3 val_main_call0_v2 val_main_call0_v1 val_main_call0_v0 val_main_v19 val_main_v20
  rw [v18]
  rfl

theorem v71 : val_main_v71 (F := Ideal) x0 x1 x2 x3 x4 = FfnReferenceIdeal.Read.val_main_v71 (F := Ideal) x0 x1 (next x2) x3 x4 := by
  unfold val_main_v71 val_main_v70 val_main_v69 val_main_v68 val_main_v67 val_main_v66 val_main_v65 val_main_v63 val_main_v62 val_main_v61 val_main_v60 val_main_v59 val_main_v58 val_main_v56 val_main_v55 val_main_v47 val_main_v44 val_main_v42 val_main_v41 val_main_v40 val_main_v39 val_main_v38 val_main_v37 val_main_v36 val_main_v35 val_main_v34 val_main_v33
  rw [v24, v32]
  rfl

theorem v78 : val_main_v78 (F := Ideal) x0 x1 x2 x3 x4 = FfnReferenceIdeal.Read.val_main_v78 (F := Ideal) x0 x1 (next x2) x3 x4 := by
  unfold val_main_v78 val_main_v77 val_main_call2_v2 val_main_call2_v1 val_main_call2_v0 val_main_v76 val_main_v75 val_main_v74 val_main_v30_0 val_main_v30_1
    val_main_call1_v7 val_main_v30_2 val_main_call1_v3 val_main_call1_v1 val_main_call1_v0 val_main_v28 val_main_v29
  rw [v71, v18]
  rfl

theorem v98 : val_main_v98 (F := Ideal) x0 x1 x2 x3 x4 = FfnReferenceIdeal.Read.val_main_v98 (F := Ideal) x0 x1 (next x2) x3 x4 := by
  unfold val_main_v98
  rw [v78]
  rfl

theorem v122 : val_main_v122 (F := Ideal) x0 x1 x2 x3 x4 = FfnReferenceIdeal.Read.val_main_v122 (F := Ideal) x0 x1 (next x2) x3 x4 := by
  unfold val_main_v122 val_main_v120 val_main_v119 val_main_v104 val_main_v101 val_main_v100 val_main_v99 val_main_v57 val_main_v54 val_main_v53 val_main_v52
    val_main_v46 val_main_v45 val_main_v41 val_main_v40 val_main_v38 val_main_v36 val_main_v35 val_main_v34
  rw [v98, v24]
  rfl

theorem v123 : val_main_v123 (F := Ideal) x0 x1 x2 x3 x4 = FfnReferenceIdeal.Read.val_main_v123 (F := Ideal) x0 x1 (next x2) x3 x4 := by
  unfold val_main_v123 val_main_v118 val_main_v117 val_main_v116 val_main_v115 val_main_v114 val_main_v113 val_main_v112 val_main_v110 val_main_v109 val_main_v107 val_main_v106 val_main_v105 val_main_v103 val_main_v102 val_main_v94 val_main_v80
  rw [v98, v79]
  rfl

end Cert.FfnFirstReferenceIdeal.At

end
-- ==== Proof.FfnFirstFinal.lean ====
/- The arrays the first layer's feed-forward kernel leaves, as functions of its arguments, are its reference's. -/
module

public import proofs.«01_k».proof.Proof.FfnFirstOut
public import proofs.«01_k».proof.Proof.FfnFirstRef
public import proofs.«01_k».proof.Proof.FfnFinal
public import proofs.«01_k».proof.Proof.Gen.FfnFirstIdeal.Value
public import proofs.«01_k».proof.Proof.Gen.FfnFirstReferenceIdeal.Run
public import proofs.«01_k».proof.Proof.Gen.FfnFirstReferenceIdeal.Read
public import proofs.«01_k».proof.Proof.Gen.FfnFirstReferenceIdeal
public import proofs.«01_k».proof.Defs
public import Idealize.ShloMosaic.Adequacy

@[expose] public section

set_option maxRecDepth 16384

noncomputable section

namespace Cert.FfnFirstIdeal.At

open Cert.FfnIdeal.At (tok tok_val sum_tiles)
open Cert.FfnFirstIdeal Cert.FfnFirstIdeal.Gen Idealize.ShloMosaic Idealize.ShloMosaic.TcCoe

variable (m : (ℓ : Loc nD τ sig) → Buf (Elt Ideal) ℓ) (c : Dev nD)

theorem arr7 : (dats m 0 c).arrAt 7 cfg0.N = fun i => FfnSpec.o (KI m c) (i 0) (i 1) := by
  refine (dats m 0 c).arrAt_eq_of_covers 7 _ (by decide +kernel) fun t hf x => ?_
  blk_simp
  rw [after0_7]
  idx_vars x
  refine (out7 m c t x0 x1).trans ?_
  refine congrArg₂ (FfnSpec.o (KI m c)) (Fin.ext ?_) (Fin.ext ?_)
  · blk_simp [idx t, tok_val, tile]
  · blk_simp [idx t]

theorem arr8 : (dats m 0 c).arrAt 8 cfg0.N = fun i => FfnSpec.dgu (KI m c) (i 0) (i 1) := by
  refine (dats m 0 c).arrAt_eq_of_covers 8 _ (by decide +kernel) fun t hf x => ?_
  blk_simp
  rw [after0_8]
  idx_vars x
  refine (out8 m c t x0 x1).trans ?_
  refine congrArg₂ (FfnSpec.dgu (KI m c)) (Fin.ext ?_) (Fin.ext ?_)
  · blk_simp [idx t, tok_val, tile]
  · blk_simp [idx t]

theorem arr9 : (dats m 0 c).arrAt 9 cfg0.N = fun i => FfnSpec.dff (KI m c) (i 0) (i 1) := by
  refine (dats m 0 c).arrAt_eq_of_covers 9 _ (by decide +kernel) fun t hf x => ?_
  blk_simp
  rw [after0_9]
  idx_vars x
  refine (out9 m c t x0 x1).trans ?_
  refine congrArg₂ (FfnSpec.dff (KI m c)) (Fin.ext ?_) (Fin.ext ?_)
  · blk_simp [idx t, tok_val, tile]
  · blk_simp [idx t]

theorem arr10 : (dats m 0 c).arrAt 10 cfg0.N = fun i => FfnSpec.act (KI m c) (i 0) (i 1) := by
  refine (dats m 0 c).arrAt_eq_of_covers 10 _ (by decide +kernel) fun t hf x => ?_
  blk_simp
  rw [after0_10]
  idx_vars x
  refine (out10 m c t x0 x1).trans ?_
  refine congrArg₂ (FfnSpec.act (KI m c)) (Fin.ext ?_) (Fin.ext ?_)
  · blk_simp [idx t, tok_val, tile]
  · blk_simp [idx t]

theorem arr11 : (dats m 0 c).arrAt 11 cfg0.N = fun i => FfnSpec.sums (KI m c) (i 0) (i 1) := by
  refine (dats m 0 c).arrAt_eq_of_after_last 11 t0_15 (by decide +kernel) _ fun x => ?_
  blk_simp
  idx_vars x
  rw [after0_11, Pipeline.eq_sum_fin_of_reset_step_apply_last (fun n h (i : Fin 8 × Fin 1024) => (outsAt0 m c n h).2.2.2.2 (ix2 i.1 i.2)) 16 (fun _ => 0)
    (fun t i => ∑ r : Fin 256, FfnSpec.term (KI m c) i.1.val (tok (tile t) r) i.2) (fun t h i => sumA m c t h i.1 i.2) (fun t h i => sumB m c t h i.1 i.2)
    (le_of_eq N_0) t0_15 rfl (x0, x1)]
  rw [zero_add]
  exact sum_tiles fun y => FfnSpec.term (KI m c) x0.val y x1

/-- The reference's inputs, of the memory it starts from. -/
abbrev refIn (m' : (ℓ : Loc Cert.FfnFirstReferenceIdeal.nD Cert.FfnFirstReferenceIdeal.τ Cert.FfnFirstReferenceIdeal.sig) → Buf (Elt Ideal) ℓ) (c : Dev Cert.FfnFirstReferenceIdeal.nD) : FfnSpec.In :=
  FfnReferenceIdeal.At.inp (m' ((c.tc : Thread Cert.FfnFirstReferenceIdeal.nD Cert.FfnFirstReferenceIdeal.τ).loc Cert.FfnFirstReferenceIdeal.main_arg0))
    (m' ((c.tc : Thread Cert.FfnFirstReferenceIdeal.nD Cert.FfnFirstReferenceIdeal.τ).loc Cert.FfnFirstReferenceIdeal.main_arg1))
    (FfnFirstReferenceIdeal.At.next (m' ((c.tc : Thread Cert.FfnFirstReferenceIdeal.nD Cert.FfnFirstReferenceIdeal.τ).loc Cert.FfnFirstReferenceIdeal.main_arg2)))
    (m' ((c.tc : Thread Cert.FfnFirstReferenceIdeal.nD Cert.FfnFirstReferenceIdeal.τ).loc Cert.FfnFirstReferenceIdeal.main_arg3))
    (m' ((c.tc : Thread Cert.FfnFirstReferenceIdeal.nD Cert.FfnFirstReferenceIdeal.τ).loc Cert.FfnFirstReferenceIdeal.main_arg4))

/-- The kernel's inputs are the reference's. -/
theorem KI_eq : KI m c = FfnReferenceIdeal.At.inp (m ((c : Thread nD τ).loc main_arg0)) (m ((c : Thread nD τ).loc main_arg1)) (FfnFirstReferenceIdeal.At.next (m ((c : Thread nD τ).loc main_arg2)))
    (m ((c : Thread nD τ).loc main_arg3)) (m ((c : Thread nD τ).loc main_arg4)) := by
  have hy : V m c main_v24 = FfnFirstReferenceIdeal.Read.val_main_v24 (F := Ideal) (m ((c : Thread nD τ).loc main_arg0)) (m ((c : Thread nD τ).loc main_arg2)) (m ((c : Thread nD τ).loc main_arg3))
      (m ((c : Thread nD τ).loc main_arg4)) := by
    entry_read
    rfl
  have hp : V m c main_v25 = FfnFirstReferenceIdeal.Read.val_main_v18 (F := Ideal) (m ((c : Thread nD τ).loc main_arg0)) (m ((c : Thread nD τ).loc main_arg2)) (m ((c : Thread nD τ).loc main_arg3)) := by
    entry_read
    rfl
  unfold KI FfnReferenceIdeal.At.inp
  rw [hy, hp, FfnFirstReferenceIdeal.At.v24, FfnFirstReferenceIdeal.At.v18]
  rfl

end Cert.FfnFirstIdeal.At

namespace Cert.Proof.FfnFirst

open Idealize.ShloMosaic Idealize.SL.Sem

/-- The reference runs, keeps its arguments and leaves its counters at zero. -/
theorem frame_r : Cert.quiescent_FfnFirstReferenceIdeal := by
  intro m ρ _
  exact (θ_run Cert.FfnFirstReferenceIdeal.defs _ _).mono (fun r h => ⟨fun c => (h c).2.2.2.2.2, sem_eq_zero_of_no_sems (by decide) r.2⟩)
    (Cert.FfnFirstReferenceIdeal.Value.run (F := Ideal) m ρ)

/-- Of finite arguments kernel and reference leave the same five arrays. -/
theorem alg : Cert.algebraic_FfnFirstIdeal_FfnFirstReferenceIdeal_pre_finite := by
  intro m ρ m' ρ' hfin hag
  have hin (c : Dev Cert.FfnFirstIdeal.nD) : FfnFirstIdeal.At.refIn m' c = FfnFirstIdeal.At.KI m c := by
    rw [FfnFirstIdeal.At.KI_eq]
    obtain ⟨h0, h1, h2, h3, h4⟩ := hag c
    unfold FfnFirstIdeal.At.refIn
    rw [h0, h1, h2, h3, h4]
  have hR (c : Dev Cert.FfnFirstIdeal.nD) : FfnSpec.Real (FfnFirstIdeal.At.refIn m' c) := by
    obtain ⟨r0, r1, r2, r3, r4⟩ := Cert.Pre_finite.At.real _ _ _ _ _ (hfin c)
    rw [hin c, FfnFirstIdeal.At.KI_eq]
    exact FfnReferenceIdeal.At.real _ _ _ _ _ r0 r1 (fun i => r2 _) r3 r4
  refine ⟨fun c i => FfnSpec.o (FfnFirstIdeal.At.KI m c) (i 0) (i 1), fun c i => FfnSpec.dgu (FfnFirstIdeal.At.KI m c) (i 0) (i 1),
    fun c i => FfnSpec.dff (FfnFirstIdeal.At.KI m c) (i 0) (i 1), fun c i => FfnSpec.act (FfnFirstIdeal.At.KI m c) (i 0) (i 1),
    fun c i => FfnSpec.sums (FfnFirstIdeal.At.KI m c) (i 0) (i 1), (θ_run _ _ _).mono (fun r h c => ?_) (Cert.FfnFirstIdeal.Value.run_blocks (F := Ideal) m ρ),
    (θ_run _ _ _).mono (fun r h c => ?_) (Cert.FfnFirstReferenceIdeal.Value.run (F := Ideal) m' ρ')⟩
  · obtain ⟨h0, h1, h2, h3, h4, h5⟩ := h c
    exact ⟨h0.trans (FfnFirstIdeal.At.arr7 m c), h1.trans (FfnFirstIdeal.At.arr8 m c), h2.trans (FfnFirstIdeal.At.arr9 m c), h3.trans (FfnFirstIdeal.At.arr10 m c),
      h4.trans (FfnFirstIdeal.At.arr11 m c), h5⟩
  · obtain ⟨h0, h1, h2, h3, h4, h5⟩ := h c
    refine ⟨h0.trans ((Cert.FfnFirstReferenceIdeal.Read.val_main_v123_eq (StableHlo.launchContents m' c)).trans (funext fun i => ?_)),
      h1.trans ((Cert.FfnFirstReferenceIdeal.Read.val_main_v124_eq (StableHlo.launchContents m' c)).trans (funext fun i => ?_)),
      h2.trans ((Cert.FfnFirstReferenceIdeal.Read.val_main_v125_eq (StableHlo.launchContents m' c)).trans (funext fun i => ?_)),
      h3.trans ((Cert.FfnFirstReferenceIdeal.Read.val_main_v126_eq (StableHlo.launchContents m' c)).trans (funext fun i => ?_)),
      h4.trans ((Cert.FfnFirstReferenceIdeal.Read.val_main_v122_eq (StableHlo.launchContents m' c)).trans (funext fun i => ?_)), h5⟩
    · idx_vars i
      exact (congrFun (FfnFirstReferenceIdeal.At.v123 _ _ _ _ _) _).trans ((FfnReferenceIdeal.At.o _ _ _ _ _ (hR c) i0 i1).trans (congrArg (FfnSpec.o · i0 i1) (hin c)))
    · idx_vars i
      exact (Cert.FfnFirstReferenceIdeal.Read.val_main_v124_apply _ _ _ _ _ _).trans ((congrFun (FfnFirstReferenceIdeal.At.v78 _ _ _ _ _) _).trans ((FfnReferenceIdeal.At.dgu _ _ _ _ _ (hR c) i0 i1).trans (congrArg (FfnSpec.dgu · i0 i1) (hin c))))
    · idx_vars i
      exact (Cert.FfnFirstReferenceIdeal.Read.val_main_v125_apply _ _ _ _ _ _).trans ((congrFun (FfnFirstReferenceIdeal.At.v71 _ _ _ _ _) _).trans ((FfnReferenceIdeal.At.dff _ _ _ _ _ i0 i1).trans (congrArg (FfnSpec.dff · i0 i1) (hin c))))
    · idx_vars i
      exact (Cert.FfnFirstReferenceIdeal.Read.val_main_v126_apply _ _ _ _).trans ((congrFun (FfnFirstReferenceIdeal.At.v31 _ _ _) _).trans ((FfnReferenceIdeal.At.act _ (m' ((c.tc : Thread Cert.FfnFirstReferenceIdeal.nD Cert.FfnFirstReferenceIdeal.τ).loc Cert.FfnFirstReferenceIdeal.main_arg1)) _ _
        (m' ((c.tc : Thread Cert.FfnFirstReferenceIdeal.nD Cert.FfnFirstReferenceIdeal.τ).loc Cert.FfnFirstReferenceIdeal.main_arg4)) i0 i1).trans (congrArg (FfnSpec.act · i0 i1) (hin c))))
    · idx_vars i
      exact (congrFun (FfnFirstReferenceIdeal.At.v122 _ _ _ _ _) _).trans ((FfnReferenceIdeal.At.sums _ _ _ _ _ (hR c) i0 i1).trans (congrArg (FfnSpec.sums · i0 i1) (hin c)))

end Cert.Proof.FfnFirst

end
-- ==== Proof.ConvSpec.lean ====
/- The forward pass of the gated short convolution, entry by entry, over its inputs. -/
module

public import proofs.«01_k».proof.Proof.Spec

@[expose] public section

set_option maxRecDepth 16384

noncomputable section

namespace Cert.FwdConv

open Idealize.ShloMosaic

/-- What the sub-layer is computed from: its input `h`, the small parameters `s` (row 4: the first gain, row 5: the second,
    rows 8 to 10: the taps), the input weight `wi` in the chips' four column blocks, the output weight `wo`. -/
structure In where
  h : Fin 4096 → Fin 1024 → EReal
  s : Fin 16 → Fin 1024 → EReal
  wi : Fin 4 → Fin 1024 → Fin 768 → EReal
  wo : Fin 1024 → Fin 1024 → EReal

variable (I : In)

/-- The normalised input. -/
def n (t : Fin 4096) (l : Fin 1024) : EReal := I.h t l * Rms.rr (I.h t) * I.s 4 l

/-- A column block of the projection. -/
def blk (j : Fin 4) (t : Fin 4096) (x : Fin 768) : EReal := ∑ l : Fin 1024, n I t l * I.wi j l x

/-- The projection. -/
def p (t : Fin 4096) (k : Fin 3072) : EReal := blk I ⟨k.val / 768, by omega⟩ t ⟨k.val % 768, by omega⟩

theorem p_at (j : Fin 4) (t : Fin 4096) (x : Fin 768) (k : Fin 3072) (h : k.val = j.val * 768 + x.val) : p I t k = blk I j t x := by
  unfold p
  rw [show (⟨k.val / 768, by omega⟩ : Fin 4) = j from Fin.ext (by dsimp only; omega),
    show (⟨k.val % 768, by omega⟩ : Fin 768) = x from Fin.ext (by dsimp only; omega)]

/-- The gated convolution's inputs; those of the gradient alone play no part. -/
def mid : Conv.In where
  h := I.h
  dh := fun _ _ => 0
  y := fun _ _ => 0
  p := p I
  s := I.s
  wi := I.wi
  wo := I.wo

theorem mid_p (t : Fin 4096) (k : Fin 3072) : (mid I).p t k = p I t k := rfl
theorem mid_s (j : Fin 16) (l : Fin 1024) : (mid I).s j l = I.s j l := rfl

/-- The mixer's output. -/
def y (t : Fin 4096) (k : Fin 1024) : EReal := ∑ l : Fin 1024, Conv.bc (mid I) t l * I.wo l k

/-- The sub-layer's output. -/
def o (t : Fin 4096) (l : Fin 1024) : EReal := I.h t l + y I t l * Rms.rr (y I t) * I.s 5 l

end Cert.FwdConv

end
-- ==== Proof.FwdSpec.lean ====
/- The functions the forward feed-forward sub-layer computes, in the order of its equations. -/
module

public import proofs.«01_k».proof.Proof.Rms
public import Idealize.ShloMosaic.Lib.Pipeline.ValueKit

@[expose] public section

set_option maxRecDepth 16384

noncomputable section

namespace Cert.FwdSpec

open Idealize.ShloMosaic

/-- What the sub-layer is computed from: its input `h`, the first gain `gi` and the second `go`, the input weight `wi` in
    the chips' four column blocks, the output weight `wo`. -/
structure In where
  h : Fin 4096 → Fin 1024 → EReal
  gi : Fin 1024 → EReal
  go : Fin 1024 → EReal
  wi : Fin 4 → Fin 1024 → Fin 1408 → EReal
  wo : Fin 2816 → Fin 1024 → EReal

variable (I : In)

/-- The normalised input. -/
def n (t : Fin 4096) (l : Fin 1024) : EReal := I.h t l * Rms.rr (I.h t) * I.gi l

/-- A column block of the projection. -/
def blk (j : Fin 4) (t : Fin 4096) (x : Fin 1408) : EReal := ∑ l : Fin 1024, n I t l * I.wi j l x

/-- The projection. -/
def gu (t : Fin 4096) (k : Fin 5632) : EReal := blk I ⟨k.val / 1408, by omega⟩ t ⟨k.val % 1408, by omega⟩

theorem gu_at (j : Fin 4) (t : Fin 4096) (x : Fin 1408) (k : Fin 5632) (h : k.val = j.val * 1408 + x.val) : gu I t k = blk I j t x := by
  unfold gu
  rw [show (⟨k.val / 1408, by omega⟩ : Fin 4) = j from Fin.ext (by dsimp only; omega),
    show (⟨k.val % 1408, by omega⟩ : Fin 1408) = x from Fin.ext (by dsimp only; omega)]

/-- The two halves of the projection. -/
def gate (t : Fin 4096) (k : Fin 2816) : EReal := gu I t ⟨k.val, by omega⟩
def up (t : Fin 4096) (k : Fin 2816) : EReal := gu I t ⟨2816 + k.val, by omega⟩

/-- The activation. -/
def act (t : Fin 4096) (k : Fin 2816) : EReal := gate I t k * Ideal.logistic (gate I t k) * up I t k

/-- Half `j` of the activation. -/
def half (j : Fin 2) (t : Fin 4096) (x : Fin 1408) : EReal :=
  blk I ⟨j.val, by omega⟩ t x * Ideal.logistic (blk I ⟨j.val, by omega⟩ t x) * blk I ⟨2 + j.val, by omega⟩ t x

theorem act_at (j : Fin 2) (t : Fin 4096) (x : Fin 1408) (k : Fin 2816) (h : k.val = j.val * 1408 + x.val) : act I t k = half I j t x := by
  unfold act half gate up
  rw [gu_at I ⟨j.val, by omega⟩ t x _ h, gu_at I ⟨2 + j.val, by omega⟩ t x _ (by dsimp only; omega)]

/-- The network's output. -/
def ff (t : Fin 4096) (l : Fin 1024) : EReal := ∑ k : Fin 2816, act I t k * I.wo k l

/-- The sub-layer's output. -/
def out (t : Fin 4096) (l : Fin 1024) : EReal := I.h t l + ff I t l * Rms.rr (ff I t) * I.go l

/-- Token `r` of tile `T`. -/
def tok (T : Fin 8) (r : Fin 512) : Fin 4096 := ⟨T.val * 512 + r.val, by omega⟩

theorem tok_val (T : Fin 8) (r : Fin 512) : (tok T r).val = T.val * 512 + r.val := rfl

/-- Column `x` of half `j` of the activation. -/
def col (j : Fin 2) (x : Fin 1408) : Fin 2816 := ⟨j.val * 1408 + x.val, by omega⟩

/-- The network's output from the two halves of the activation. -/
theorem ff_halves (t : Fin 4096) (l : Fin 1024) :
    (∑ x : Fin 1408, half I 0 t x * I.wo (col 0 x) l) + ∑ x : Fin 1408, half I 1 t x * I.wo (col 1 x) l = ff I t l := by
  unfold ff
  have e : ∑ j : Fin 2, ∑ x : Fin 1408, half I j t x * I.wo (col j x) l = ∑ k : Fin 2816, act I t k * I.wo k l :=
    Fin.sum_mul_add_congr fun j x ha => by rw [act_at I j t x _ rfl]; rfl
  rw [← e, Fin.sum_univ_two]

end Cert.FwdSpec

end
-- ==== Proof.ConvPay.lean ====
/- What a grid point of the forward convolution kernel computes, entry by entry. -/
module

public import proofs.«01_k».proof.Proof.ConvSpec
public import proofs.«01_k».proof.Proof.FwdSpec
public import proofs.«01_k».proof.Proof.Gen.ConvIdeal.Value
public import Idealize.ShloMosaic.Lib.Pointwise
public import Idealize.ShloMosaic.Lib.Pipeline.ReadBack
public import Idealize.ShloMosaic.Lib.Pipeline.ValueKit

@[expose] public section

set_option maxRecDepth 16384

noncomputable section

namespace Cert.ConvIdeal.At

open Cert.ConvIdeal Cert.ConvIdeal.Gen Idealize.ShloMosaic Idealize.ShloMosaic.TcCoe
open FwdSpec (tok tok_val)

/-- A block of the input weight. -/
abbrev wiBlk (v : Vec Ideal S4x1024x768 .bf16) (n : ℕ) (inb : ∀ a, ![n, 0, 0] a + S1x1024x768.size a ≤ S4x1024x768.size a) : Vec Ideal S1x1024x768 .bf16 :=
  View.ld v (Rect.unit (s := S4x1024x768) ![n, 0, 0] S1x1024x768.size inb)

/-- A row of the small parameters. -/
abbrev smRow (v : Vec Ideal S16x1024 .f32) (n : ℕ) (inb : ∀ a, ![n, 0] a + S1x1024.size a ≤ S16x1024.size a) : Vec Ideal S1x1024 .f32 :=
  View.ld v (Rect.unit (s := S16x1024) ![n, 0] S1x1024.size inb)

theorem wiBlk_at (v : Vec Ideal S4x1024x768 .bf16) (j : Fin 4) (inb) (l : Fin 1024) (x : Fin 768) :
    wiBlk v j.val inb (ix3 0 l x) = v (ix3 j l x) := by
  unfold wiBlk
  pointwise []

theorem smRow_at (v : Vec Ideal S16x1024 .f32) (j : Fin 16) (inb) (l : Fin 1024) : smRow v j.val inb (ix2 0 l) = v (ix2 j l) := by
  unfold smRow
  pointwise []

/-- What the blocks hold at tile `T`. -/
structure Point (I : FwdConv.In) (T : Fin 8) (h : Vec Ideal S512x1024 .f32) (s : Vec Ideal S16x1024 .f32) (wi : Vec Ideal S4x1024x768 .bf16)
    (wo : Vec Ideal S1024x1024 .bf16) : Prop where
  h : ∀ r l, h (ix2 r l) = I.h (tok T r) l
  s : ∀ j l, s (ix2 j l) = I.s j l
  wi : ∀ j l k, wi (ix3 j l k) = I.wi j l k
  wo : ∀ l k, wo (ix2 l k) = I.wo l k

variable {I : FwdConv.In} {T : Fin 8} {h : Vec Ideal S512x1024 .f32} {s : Vec Ideal S16x1024 .f32} {wi : Vec Ideal S4x1024x768 .bf16}
  {wo : Vec Ideal S1024x1024 .bf16}
variable (P : Point I T h s wi wo)
include P

theorem row_at (j : Fin 16) (inb) (l : Fin 1024) : smRow s j.val inb (ix2 0 l) = I.s j l := (smRow_at s j inb l).trans (P.s j l)

/-- The normalised input. -/
theorem n_at (r : Fin 512) (l : Fin 1024) : k0_pay5 (F := Ideal) h (smRow s 4 inb_S16x1024_S1x1024_4_0) (ix2 r l) = FwdConv.n I (tok T r) l := by
  have hh := P.h
  have hg : ∀ l, smRow s 4 inb_S16x1024_S1x1024_4_0 (ix2 0 l) = I.s 4 l := row_at P 4 _
  generalize smRow s 4 inb_S16x1024_S1x1024_4_0 = v at hg ⊢
  unfold k0_pay5
  pointwise [FwdConv.n, Rms.rr, Rms.ms, hh, hg]

/-- A column block of the projection. -/
theorem blk_at (j : Fin 4) (inb) (r : Fin 512) (x : Fin 768) :
    k0_pay9 (F := Ideal) (k0_pay5 h (smRow s 4 inb_S16x1024_S1x1024_4_0)) (wiBlk wi j.val inb) (ix2 r x) = FwdConv.blk I j (tok T r) x := by
  have hn := n_at P
  have hw := fun l x => (wiBlk_at wi j inb l x).trans (P.wi j l x)
  generalize wiBlk wi j.val inb = v at hw ⊢
  unfold k0_pay9
  pointwise [FwdConv.blk, hn, hw]

omit P in
/-- A rectangle read from what was stored. -/
theorem third_read (L : List (View.Piece (Elt Ideal) S512x3072 .f32)) (b : ℕ) (hb : b ≤ 2048) (inb : ∀ i, ![0, b] i + S512x1024.size i ≤ S512x3072.size i)
    (r : Fin 512) (l : Fin 1024) :
    (View.whole cc0_scratch0).readCov (Val := Elt Ideal) L (Rect.unit (s := S512x3072) ![0, b] S512x1024.size inb).toLoadRect (ix2 r l)
      = View.canon L (ix2 r ⟨b + l.val, by omega⟩) := by
  rw [View.readCov_eq_canon']
  blk_simp
  refine congrArg (View.canon L) (funext fun a => Fin.ext ?_)
  rw [Rect.idx_unit_val]
  fin_cases a
  · exact Nat.zero_add _
  · exact rfl

omit P in
theorem whole_read (L : List (View.Piece (Elt Ideal) S512x3072 .f32)) (r : Fin 512) (k : Fin 3072) :
    (View.whole cc0_scratch0).readCov (Val := Elt Ideal) L (Rect.unit (s := S512x3072) ![0, 0] S512x3072.size inb_S512x3072_S512x3072_0_0).toLoadRect (ix2 r k)
      = View.canon L (ix2 r k) := by
  rw [View.readCov_eq_canon']
  blk_simp
  refine congrArg (View.canon L) (funext fun a => Fin.ext ?_)
  rw [Rect.idx_unit_val]
  fin_cases a
  · exact Nat.zero_add _
  · exact Nat.zero_add _

omit P in
theorem rows_read (L : List (View.Piece (Elt Ideal) S520x1024 .f32)) (i : Fin 520) (l : Fin 1024) :
    (View.whole cc0_scratch1).readCov (Val := Elt Ideal) L (Rect.unit (s := S520x1024) ![0, 0] S520x1024.size inb_S520x1024_S520x1024_0_0).toLoadRect (ix2 i l)
      = View.canon L (ix2 i l) := by
  rw [View.readCov_eq_canon']
  blk_simp
  refine congrArg (View.canon L) (funext fun a => Fin.ext ?_)
  rw [Rect.idx_unit_val]
  fin_cases a
  · exact Nat.zero_add _
  · exact Nat.zero_add _

omit P in
/-- The projection's four column blocks, as the body stores them. -/
abbrev pieces (h : Vec Ideal S512x1024 .f32) (s : Vec Ideal S16x1024 .f32) (wi : Vec Ideal S4x1024x768 .bf16) : List (View.Piece (Elt Ideal) S512x3072 .f32) :=
  [⟨Rect.unit (s := S512x3072) ![0, 2304] S512x768.size inb_S512x3072_S512x768_0_2304,
      k0_pay10 (F := Ideal) (k0_pay5 h (smRow s 4 inb_S16x1024_S1x1024_4_0)) (wiBlk wi 3 inb_S4x1024x768_S1x1024x768_3_0_0)⟩,
    ⟨Rect.unit (s := S512x3072) ![0, 1536] S512x768.size inb_S512x3072_S512x768_0_1536,
      k0_pay9 (F := Ideal) (k0_pay5 h (smRow s 4 inb_S16x1024_S1x1024_4_0)) (wiBlk wi 2 inb_S4x1024x768_S1x1024x768_2_0_0)⟩,
    ⟨Rect.unit (s := S512x3072) ![0, 768] S512x768.size inb_S512x3072_S512x768_0_768,
      k0_pay8 (F := Ideal) (k0_pay7 h (smRow s 4 inb_S16x1024_S1x1024_4_0) (wiBlk wi 1 inb_S4x1024x768_S1x1024x768_1_0_0))⟩,
    ⟨Rect.unit (s := S512x3072) ![0, 0] S512x768.size inb_S512x3072_S512x768_0_0,
      k0_pay6 (F := Ideal) h (smRow s 4 inb_S16x1024_S1x1024_4_0) (wiBlk wi 0 inb_S4x1024x768_S1x1024x768_0_0_0)⟩]

/-- The projection so stored, whole. -/
theorem p_whole (i : S512x3072.Idx) : View.canon (pieces h s wi) i = FwdConv.p I (tok T (i 0)) (i 1) := by
  unfold pieces
  canon_tiles x hx
  · idx_vars x
    have e : (i 1).val = 2304 + x1.val := hx1
    rw [show i 0 = x0 from Fin.ext hx0, FwdConv.p_at I 3 _ x1 (i 1) (by rw [e]; rfl)]
    exact blk_at P 3 _ x0 x1
  · idx_vars x
    have e : (i 1).val = 1536 + x1.val := hx1
    rw [show i 0 = x0 from Fin.ext hx0, FwdConv.p_at I 2 _ x1 (i 1) (by rw [e]; rfl)]
    exact blk_at P 2 _ x0 x1
  · idx_vars x
    have e : (i 1).val = 768 + x1.val := hx1
    rw [show i 0 = x0 from Fin.ext hx0, FwdConv.p_at I 1 _ x1 (i 1) (by rw [e]; show 768 + x1.val = 1 * 768 + x1.val; omega)]
    exact blk_at P 1 _ x0 x1
  · idx_vars x
    have e : (i 1).val = x1.val := hx1
    rw [show i 0 = x0 from Fin.ext hx0, FwdConv.p_at I 0 _ x1 (i 1) (by rw [e]; show x1.val = 0 * 768 + x1.val; omega)]
    exact blk_at P 0 _ x0 x1

omit P in
/-- A third of the stored projection, read back from column `b`. -/
abbrev third (h : Vec Ideal S512x1024 .f32) (s : Vec Ideal S16x1024 .f32) (wi : Vec Ideal S4x1024x768 .bf16) (b : ℕ)
    (inb : ∀ i, ![0, b] i + S512x1024.size i ≤ S512x3072.size i) : Vec Ideal S512x1024 .f32 :=
  (View.whole cc0_scratch0).readCov (Val := Elt Ideal) (pieces h s wi) (Rect.unit (s := S512x3072) ![0, b] S512x1024.size inb).toLoadRect

theorem third_at (b : ℕ) (hb : b ≤ 2048) (inb) (r : Fin 512) (l : Fin 1024) :
    third h s wi b inb (ix2 r l) = FwdConv.p I (tok T r) ⟨b + l.val, by omega⟩ :=
  (third_read _ b hb inb r l).trans (p_whole P _)

/-- The whole of it, as the kernel writes it back. -/
theorem proj_at (r : Fin 512) (k : Fin 3072) :
    k0_pay11 (F := Ideal) ((View.whole cc0_scratch0).readCov (Val := Elt Ideal) (pieces h s wi)
      (Rect.unit (s := S512x3072) ![0, 0] S512x3072.size inb_S512x3072_S512x3072_0_0).toLoadRect) (ix2 r k) = FwdConv.p I (tok T r) k := by
  have e := fun r k => (whole_read (pieces h s wi) r k).trans (p_whole P (ix2 r k))
  generalize (View.whole cc0_scratch0).readCov (Val := Elt Ideal) (pieces h s wi) _ = v at e ⊢
  unfold k0_pay11
  pointwise [e]

omit P in
/-- The convolution's input at row `q` of the scratch, eight rows before the tile on. -/
def uRow (I : FwdConv.In) (T : Fin 8) (q : Fin 520) (l : Fin 1024) : EReal :=
  if hi : 8 ≤ T.val * 512 + q.val then Conv.gc (FwdConv.mid I) ⟨T.val * 512 + q.val - 8, by omega⟩ l
    * Conv.gv (FwdConv.mid I) ⟨T.val * 512 + q.val - 8, by omega⟩ l else 0

omit P in
theorem uRow_tile (I : FwdConv.In) (T : Fin 8) (r : Fin 512) (q : Fin 520) (l : Fin 1024) (hq : q.val = 8 + r.val) :
    uRow I T q l = Conv.gc (FwdConv.mid I) (tok T r) l * Conv.gv (FwdConv.mid I) (tok T r) l := by
  rw [uRow, dif_pos (by omega)]
  have e : ∀ hh, (⟨T.val * 512 + q.val - 8, hh⟩ : Fin 4096) = tok T r := fun _ => Fin.ext (by rw [tok_val]; dsimp only; omega)
  rw [e]

omit P in
/-- What the first eight rows must hold. -/
def Tail (I : FwdConv.In) (T : Fin 8) (v : Vec Ideal S8x1024 .f32) : Prop :=
  ∀ (i : Fin 8) (l : Fin 1024), v (ix2 i l) = uRow I T ⟨i.val, by omega⟩ l

omit P in
/-- The convolution's input in the scratch: the eight rows before the tile, then the tile. -/
abbrev rows (h : Vec Ideal S512x1024 .f32) (s : Vec Ideal S16x1024 .f32) (wi : Vec Ideal S4x1024x768 .bf16) (v : Vec Ideal S8x1024 .f32) :
    List (View.Piece (Elt Ideal) S520x1024 .f32) :=
  [⟨Rect.unit (s := S520x1024) ![8, 0] S512x1024.size inb_S520x1024_S512x1024_8_0,
      k0_pay12 (F := Ideal) (third h s wi 1024 inb_S512x3072_S512x1024_0_1024) (third h s wi 2048 inb_S512x3072_S512x1024_0_2048)⟩,
    ⟨Rect.unit (s := S520x1024) ![0, 0] S8x1024.size inb_S520x1024_S8x1024_0_0, v⟩]

theorem u_at (r : Fin 512) (l : Fin 1024) :
    k0_pay12 (F := Ideal) (third h s wi 1024 inb_S512x3072_S512x1024_0_1024) (third h s wi 2048 inb_S512x3072_S512x1024_0_2048) (ix2 r l)
      = Conv.gc (FwdConv.mid I) (tok T r) l * Conv.gv (FwdConv.mid I) (tok T r) l := by
  have h1 := third_at P 1024 (by omega) inb_S512x3072_S512x1024_0_1024
  have h2 := third_at P 2048 (by omega) inb_S512x3072_S512x1024_0_2048
  generalize third h s wi 1024 inb_S512x3072_S512x1024_0_1024 = v1 at h1 ⊢
  generalize third h s wi 2048 inb_S512x3072_S512x1024_0_2048 = v2 at h2 ⊢
  unfold k0_pay12
  pointwise [Conv.gc, Conv.gv, FwdConv.mid_p, h1, h2]

variable {v : Vec Ideal S8x1024 .f32} (C : Tail I T v)
include C

theorem rows_at (i : S520x1024.Idx) : View.canon (rows h s wi v) i = uRow I T (i 0) (i 1) := by
  unfold rows
  have hu := u_at P
  generalize k0_pay12 (F := Ideal) (third h s wi 1024 inb_S512x3072_S512x1024_0_1024) (third h s wi 2048 inb_S512x3072_S512x1024_0_2048) = u at hu ⊢
  canon_tiles x hx using View.cover_of_tiledBy (s := S520x1024) (Val := Elt Ideal) (e := .f32) _ ![8, 1024] (by sl_kernel_rfl) _
  · idx_vars x
    have e0 : (i 0).val = 8 + x0.val := hx0
    have e1 : i 1 = x1 := Fin.ext hx1
    rw [e1]
    exact (hu x0 x1).trans (uRow_tile I T x0 (i 0) x1 e0).symm
  · idx_vars x
    have e0 : (i 0).val = x0.val := hx0
    have e1 : i 1 = x1 := Fin.ext hx1
    have e2 : i 0 = (⟨x0.val, by have : x0.val < 8 := x0.isLt; omega⟩ : Fin 520) := Fin.ext e0
    rw [e1, e2]
    exact C x0 x1

omit P C in
/-- The scratch, read back whole. -/
abbrev ue (h : Vec Ideal S512x1024 .f32) (s : Vec Ideal S16x1024 .f32) (wi : Vec Ideal S4x1024x768 .bf16) (v : Vec Ideal S8x1024 .f32) : Vec Ideal S520x1024 .f32 :=
  (View.whole cc0_scratch1).readCov (Val := Elt Ideal) (rows h s wi v) (Rect.unit (s := S520x1024) ![0, 0] S520x1024.size inb_S520x1024_S520x1024_0_0).toLoadRect

/-- Its row eight plus `r` less `n` is the convolution's input `n` tokens before token `r`. -/
theorem ue_ub (n : ℕ) (hn : n ≤ 2) (r : Fin 512) (l : Fin 1024) (i : Fin 520) (hi : i.val = 8 + r.val - n) :
    ue h s wi v (ix2 i l) = Conv.ub (FwdConv.mid I) n (tok T r) l := by
  have e2 : ue h s wi v (ix2 i l) = View.canon (rows h s wi v) (ix2 i l) := rows_read _ i l
  rw [e2, rows_at P C, Conv.ub]
  show uRow I T i l = _
  rw [uRow]
  have et := tok_val T r
  have e : ∀ h1 h2, (⟨T.val * 512 + i.val - 8, h1⟩ : Fin 4096) = ⟨(tok T r).val - n, h2⟩ := fun _ _ => Fin.ext (by dsimp only; omega)
  by_cases hc : n ≤ (tok T r).val
  · rw [dif_pos (show 8 ≤ T.val * 512 + i.val by omega), if_pos hc]
    exact congrArg (fun q => Conv.gc (FwdConv.mid I) q l * Conv.gv (FwdConv.mid I) q l) (e _ _)
  · rw [dif_neg (show ¬ 8 ≤ T.val * 512 + i.val by omega), if_neg hc]

/-- The mixer's output. -/
theorem y_at (r : Fin 512) (k : Fin 1024) :
    k0_pay1 (F := Ideal) (smRow s 8 inb_S16x1024_S1x1024_8_0) (smRow s 9 inb_S16x1024_S1x1024_9_0) (smRow s 10 inb_S16x1024_S1x1024_10_0)
      (ue h s wi v) (third h s wi 0 inb_S512x3072_S512x1024_0_0) wo (ix2 r k) = FwdConv.y I (tok T r) k := by
  have h0 := fun r l q h => ue_ub P C 0 (by omega) r l q h
  have h1 := fun r l q h => ue_ub P C 1 (by omega) r l q h
  have h2 := fun r l q h => ue_ub P C 2 (by omega) r l q h
  have ht := third_at P 0 (by omega) inb_S512x3072_S512x1024_0_0
  have s8 : ∀ l, smRow s 8 inb_S16x1024_S1x1024_8_0 (ix2 0 l) = I.s 8 l := row_at P 8 _
  have s9 : ∀ l, smRow s 9 inb_S16x1024_S1x1024_9_0 (ix2 0 l) = I.s 9 l := row_at P 9 _
  have s10 : ∀ l, smRow s 10 inb_S16x1024_S1x1024_10_0 (ix2 0 l) = I.s 10 l := row_at P 10 _
  have hw := P.wo
  generalize smRow s 8 inb_S16x1024_S1x1024_8_0 = r8 at s8 ⊢
  generalize smRow s 9 inb_S16x1024_S1x1024_9_0 = r9 at s9 ⊢
  generalize smRow s 10 inb_S16x1024_S1x1024_10_0 = r10 at s10 ⊢
  generalize third h s wi 0 inb_S512x3072_S512x1024_0_0 = t0 at ht ⊢
  generalize ue h s wi v = u at h0 h1 h2 ⊢
  unfold k0_pay1
  pointwise [FwdConv.y, Conv.bc, Conv.gb, Conv.conv, FwdConv.mid_p, FwdConv.mid_s, s8, s9, s10, ht, hw]
  refine Finset.sum_congr rfl fun x _ => ?_
  rw [h0 r x _ (by simp), h1 r x _ (by dsimp only; omega), h2 r x _ (by dsimp only; omega)]

/-- The sub-layer's output. -/
theorem o_at (r : Fin 512) (l : Fin 1024) :
    k0_pay2 (F := Ideal) h (smRow s 8 inb_S16x1024_S1x1024_8_0) (smRow s 9 inb_S16x1024_S1x1024_9_0) (smRow s 10 inb_S16x1024_S1x1024_10_0)
      (ue h s wi v) (third h s wi 0 inb_S512x3072_S512x1024_0_0) wo (smRow s 5 inb_S16x1024_S1x1024_5_0) (ix2 r l) = FwdConv.o I (tok T r) l := by
  have hy := y_at P C
  have hh := P.h
  have s5 : ∀ l, smRow s 5 inb_S16x1024_S1x1024_5_0 (ix2 0 l) = I.s 5 l := row_at P 5 _
  generalize smRow s 5 inb_S16x1024_S1x1024_5_0 = r5 at s5 ⊢
  unfold k0_pay2
  generalize k0_pay1 (F := Ideal) _ _ _ _ _ _ = y at hy ⊢
  pointwise [FwdConv.o, Rms.rr, Rms.ms, hh, s5, hy]

end Cert.ConvIdeal.At

end
-- ==== Proof.ConvOut.lean ====
/- What each grid point of the forward convolution kernel leaves in its output blocks. -/
module

public import proofs.«01_k».proof.Proof.ConvPay

@[expose] public section

set_option maxRecDepth 16384

noncomputable section

namespace Cert.ConvIdeal.At

open Cert.ConvIdeal Cert.ConvIdeal.Gen Idealize.ShloMosaic Idealize.ShloMosaic.TcCoe
open FwdSpec (tok tok_val)

variable (m : (ℓ : Loc nD τ sig) → Buf (Elt Ideal) ℓ) (c : Dev nD)

/-- The region's input arrays, as the sub-layer's inputs. -/
def KI : FwdConv.In where
  h t l := V m c main_arg0 (ix2 t l)
  s j l := V m c main_arg1 (ix2 j l)
  wi j l k := V m c main_arg2 (ix3 j l k)
  wo l k := V m c main_arg3 (ix2 l k)

/-- The tile of grid point `t`. -/
def tile (t : Fin cfg0.N) : Fin 8 := ⟨t.val, t.isLt⟩

/-- The blocks' places in their arrays. -/
theorem idx : ∀ t : Fin cfg0.N, win0_0.index t = ![t.val, 0] ∧ win0_1.index t = ![0, 0] ∧ win0_2.index t = ![0, 0, 0]
    ∧ win0_3.index t = ![0, 0] ∧ win0_4.index t = ![t.val, 0] ∧ win0_5.index t = ![t.val, 0] ∧ win0_6.index t = ![t.val, 0]
    ∧ win0_7.index t = ![t.val, 0] :=
  (by decide +kernel : ∀ t : Fin grid0.N, _)

theorem b0 (t : Fin cfg0.N) (r : Fin 512) (l : Fin 1024) : iblk m c 0 t (ix2 r l) = (KI m c).h (tok (tile t) r) l := by
  blk_ext [iblk, KI, tok, tile, idx t]

theorem b1 (t : Fin cfg0.N) (j : Fin 16) (l : Fin 1024) : iblk m c 1 t (ix2 j l) = (KI m c).s j l := by
  blk_ext [iblk, KI, idx t]

theorem b2 (t : Fin cfg0.N) (j : Fin 4) (l : Fin 1024) (k : Fin 768) : iblk m c 2 t (ix3 j l k) = (KI m c).wi j l k := by
  blk_ext [iblk, KI, idx t]

theorem b3 (t : Fin cfg0.N) (l k : Fin 1024) : iblk m c 3 t (ix2 l k) = (KI m c).wo l k := by
  blk_ext [iblk, KI, idx t]

/-- A grid point's blocks are its tile's. -/
theorem point (t : Fin cfg0.N) : Point (KI m c) (tile t) (iblk m c 0 t) (iblk m c 1 t) (iblk m c 2 t) (iblk m c 3 t) where
  h := b0 m c t
  s := b1 m c t
  wi := b2 m c t
  wo := b3 m c t

section
variable {I : FwdConv.In} {T : Fin 8}

/-- The first tile has zeros before it. -/
theorem tail_first (hT : T.val = 0) : Tail I T (k0_pay3 (F := Ideal)) := by
  intro i l
  unfold k0_pay3
  pointwise []
  rw [uRow, dif_neg (by dsimp only; omega)]

/-- Every other one the last rows of the tile before it. -/
theorem tail_next {T' : Fin 8} (hT : T.val = T'.val + 1) (old : Vec Ideal S520x1024 .f32) (ho : ∀ q l, old (ix2 q l) = uRow I T' q l) :
    Tail I T (k0_pay4 (F := Ideal) (View.ld old (Rect.unit (s := S520x1024) ![512, 0] S8x1024.size inb_S520x1024_S8x1024_512_0))) := by
  intro i l
  unfold k0_pay4
  pointwise [ho]
  rw [uRow, uRow, dif_pos (by dsimp only; omega), dif_pos (by dsimp only; omega)]
  have e : ∀ h1 h2, (⟨T'.val * 512 + (512 + i.val) - 8, h1⟩ : Fin 4096) = ⟨T.val * 512 + i.val - 8, h2⟩ := fun _ _ => Fin.ext (by dsimp only; omega)
  rw [e]

end

/-- What a point left in the scratch, as the point after it reads it. -/
abbrev left (n : ℕ) (hn : n < cfg0.N) : Vec Ideal S520x1024 .f32 :=
  View.read (Elt Ideal) (View.whole cc0_scratch1) ((Memref.isWhole_whole cc0_scratch1).unread (outsAt0 m c n hn).2.2.2.2)

theorem left_at (n : ℕ) (hn : n < cfg0.N) (q : Fin 520) (l : Fin 1024) : left m c n hn (ix2 q l) = (outsAt0 m c n hn).2.2.2.2 (ix2 q l) :=
  congrFun (Memref.IsWhole.read_unread _ _) _

/-- The eight rows a point puts before its tile's. -/
def before (t : Fin cfg0.N) : Vec Ideal S8x1024 .f32 :=
  if t.val % 8 = 0 then k0_pay3 (F := Ideal) else
    k0_pay4 (F := Ideal) (View.ld (left m c (t.val - 1) (Nat.lt_of_le_of_lt (Nat.sub_le _ _) t.isLt))
      (Rect.unit (s := S520x1024) ![512, 0] S8x1024.size inb_S520x1024_S8x1024_512_0))

/-- What the scratch carries after a point: the convolution's input from eight rows before its tile on. -/
theorem carry : ∀ (n : ℕ) (hn : n < cfg0.N) (q : Fin 520) (l : Fin 1024),
    (outsAt0 m c n hn).2.2.2.2 (ix2 q l) = uRow (KI m c) (tile ⟨n, hn⟩) q l := by
  have hN : cfg0.N = 8 := rfl
  intro n
  induction n with
  | zero =>
    intro hn q l
    rw [outsAt0_A m c ⟨0, hn⟩ rfl (by simp)]
    frame_out
    exact rows_at (point m c ⟨0, hn⟩) (tail_first rfl) (ix2 q l)
  | succ n ih =>
    intro hn q l
    rw [outsAt0_B m c ⟨n + 1, hn⟩ (by dsimp only; omega) (by dsimp only; omega)]
    frame_out
    exact rows_at (point m c ⟨n + 1, hn⟩) (tail_next (T' := tile ⟨n, by omega⟩) rfl (left m c n (by omega)) fun q l => (left_at m c n _ q l).trans (ih _ q l)) (ix2 q l)

theorem tail (t : Fin cfg0.N) : Tail (KI m c) (tile t) (before m c t) := by
  have hN : cfg0.N = 8 := rfl
  unfold before
  by_cases h : t.val % 8 = 0
  · rw [if_pos h]
    exact tail_first (show t.val = 0 by omega)
  · rw [if_neg h]
    exact tail_next (T' := tile ⟨t.val - 1, by omega⟩) (show t.val = t.val - 1 + 1 by omega) _ fun q l => (left_at m c _ _ q l).trans (carry m c _ _ q l)

/-- The four blocks a point writes back. -/
theorem out4 (t : Fin cfg0.N) (r : Fin 512) (l : Fin 1024) : (outsAt0 m c t.val t.isLt).1 (ix2 r l) = FwdConv.o (KI m c) (tok (tile t) r) l := by
  have hN : cfg0.N = 8 := rfl
  have ho := o_at (point m c t) (tail m c t) r l
  unfold before at ho
  by_cases h : t.val % 8 = 0
  · rw [if_pos h] at ho
    rw [outsAt0_A m c t h (by omega)]
    frame_out
    exact ho
  · rw [if_neg h] at ho
    rw [outsAt0_B m c t h (by omega)]
    frame_out
    exact ho

theorem out5 (t : Fin cfg0.N) (r : Fin 512) (k : Fin 3072) : (outsAt0 m c t.val t.isLt).2.1 (ix2 r k) = FwdConv.p (KI m c) (tok (tile t) r) k := by
  have hN : cfg0.N = 8 := rfl
  have hp := proj_at (point m c t) r k
  by_cases h : t.val % 8 = 0
  · rw [outsAt0_A m c t h (by omega)]
    frame_out
    exact hp
  · rw [outsAt0_B m c t h (by omega)]
    frame_out
    exact hp

theorem out6 (t : Fin cfg0.N) (r : Fin 512) (l : Fin 1024) : (outsAt0 m c t.val t.isLt).2.2.1 (ix2 r l) = FwdConv.y (KI m c) (tok (tile t) r) l := by
  have hN : cfg0.N = 8 := rfl
  have hy := y_at (point m c t) (tail m c t) r l
  unfold before at hy
  by_cases h : t.val % 8 = 0
  · rw [if_pos h] at hy
    rw [outsAt0_A m c t h (by omega)]
    frame_out
    exact hy
  · rw [if_neg h] at hy
    rw [outsAt0_B m c t h (by omega)]
    frame_out
    exact hy

theorem out7 (t : Fin cfg0.N) (r : Fin 512) (l : Fin 1024) : (outsAt0 m c t.val t.isLt).2.2.2.1 (ix2 r l) = FwdConv.n (KI m c) (tok (tile t) r) l := by
  have hN : cfg0.N = 8 := rfl
  have hn := n_at (point m c t) r l
  by_cases h : t.val % 8 = 0
  · rw [outsAt0_A m c t h (by omega)]
    frame_out
    exact hn
  · rw [outsAt0_B m c t h (by omega)]
    frame_out
    exact hn

end Cert.ConvIdeal.At

end
-- ==== Proof.ConvRef.lean ====
/- The convolution layer's reference, entry by entry. -/
module

public import proofs.«01_k».proof.Proof.ConvSpec
public import proofs.«01_k».proof.Proof.Gen.ConvReferenceIdeal.Read
public import Idealize.ShloMosaic.Lib.Pointwise

@[expose] public section

set_option maxRecDepth 16384

noncomputable section

namespace Cert.ConvReferenceIdeal.At

open Cert.ConvReferenceIdeal Cert.ConvReferenceIdeal.Gen Cert.ConvReferenceIdeal.Read Idealize.ShloMosaic Idealize.ShloMosaic.TcCoe

variable (x0 : FVec Ideal S4096x1024 .f32) (x1 : FVec Ideal S16x1024 .f32) (x2 : FVec Ideal S4x1024x768 .bf16) (x3 : FVec Ideal S1024x1024 .bf16)

/-- The sub-layer's inputs. -/
def inp : FwdConv.In where
  h := fun t l => x0 (ix2 t l)
  s := fun j l => x1 (ix2 j l)
  wi := fun j l k => x2 (ix3 j l k)
  wo := fun l k => x3 (ix2 l k)

theorem inp_h (t : Fin 4096) (l : Fin 1024) : (inp x0 x1 x2 x3).h t l = x0 (ix2 t l) := rfl
theorem inp_s (j : Fin 16) (l : Fin 1024) : (inp x0 x1 x2 x3).s j l = x1 (ix2 j l) := rfl
theorem inp_wi (j : Fin 4) (l : Fin 1024) (k : Fin 768) : (inp x0 x1 x2 x3).wi j l k = x2 (ix3 j l k) := rfl
theorem inp_wo (l k : Fin 1024) : (inp x0 x1 x2 x3).wo l k = x3 (ix2 l k) := rfl

/-- The normalised input. -/
theorem n (t : Fin 4096) (l : Fin 1024) : val_main_v14 (F := Ideal) x0 x1 (ix2 t l) = FwdConv.n (inp x0 x1 x2 x3) t l := by
  unfold val_main_v14 val_main_v13 val_main_v12 val_main_v11 val_main_v10 val_main_v9 val_main_v8 val_main_v7 val_main_v6 val_main_v5 val_main_v4
    val_main_v3 val_main_v2 val_main_v1 val_main_v0 val_main_cst val_main_cst_0 val_main_cst_1
  pointwise [FwdConv.n, Rms.rr, Rms.ms, inp_h, inp_s]

/-- The projection. -/
theorem p (t : Fin 4096) (k : Fin 3072) : val_main_v18 (F := Ideal) x0 x1 x2 (ix2 t k) = FwdConv.p (inp x0 x1 x2 x3) t k := by
  have hn := n x0 x1 x2 x3
  unfold val_main_v18 val_main_v17 val_main_v16 val_main_v15
  pointwise [FwdConv.p, FwdConv.blk, inp_wi, hn]

/-- The convolution's input, the first two rows zero. -/
theorem up (n : ℕ) (hn : n ≤ 2) (t : Fin 4096) (l : Fin 1024) (q : Fin 4098) (hq : q.val = 2 - n + t.val) :
    val_main_v25 (F := Ideal) x0 x1 x2 (ix2 q l) = Conv.ub (FwdConv.mid (inp x0 x1 x2 x3)) n t l := by
  have hp := p x0 x1 x2 x3
  unfold val_main_v25 val_main_v24 val_main_v23 val_main_v22 val_main_v21 val_main_cst_2
  pointwise [Conv.ub, Conv.gc, Conv.gv, FwdConv.mid_p, hp]
  by_cases h : n ≤ t.val
  · rw [dif_neg (by omega), if_pos h]
    have e : ∀ h1 h2, (⟨q.val - 2, h1⟩ : Fin 4096) = ⟨t.val - n, h2⟩ := fun _ _ => Fin.ext (by dsimp only; omega)
    rw [e]
  · rw [dif_pos (by omega), if_neg h]

/-- The convolution. -/
theorem conv (t : Fin 4096) (l : Fin 1024) : val_main_v45 (F := Ideal) x0 x1 x2 (ix2 t l) = Conv.conv (FwdConv.mid (inp x0 x1 x2 x3)) t l := by
  have h0 := fun q h => up x0 x1 x2 x3 0 (by omega) t l q h
  have h1 := fun q h => up x0 x1 x2 x3 1 (by omega) t l q h
  have h2 := fun q h => up x0 x1 x2 x3 2 (by omega) t l q h
  unfold val_main_v45 val_main_v44 val_main_v43 val_main_v42 val_main_v41 val_main_v40 val_main_v39 val_main_v38 val_main_v37 val_main_v36 val_main_v35
    val_main_v34 val_main_v33 val_main_v32 val_main_v31 val_main_v30 val_main_v29 val_main_v28 val_main_v27 val_main_v26 val_main_v19
  pointwise [Conv.conv, FwdConv.mid_s, inp_s]
  rw [h2 _ (by simp), h1 _ rfl, h0 _ rfl]
  ac_rfl

/-- The mixer's output. -/
theorem y (t : Fin 4096) (k : Fin 1024) : val_main_v48 (F := Ideal) x0 x1 x2 x3 (ix2 t k) = FwdConv.y (inp x0 x1 x2 x3) t k := by
  have hc := conv x0 x1 x2 x3
  have hp := p x0 x1 x2 x3
  have hb (t : Fin 4096) (l : Fin 1024) : val_main_v46 (F := Ideal) x0 x1 x2 (ix2 t l) = Conv.bc (FwdConv.mid (inp x0 x1 x2 x3)) t l := by
    unfold val_main_v46 val_main_v20
    pointwise [Conv.bc, Conv.gb, FwdConv.mid_p, hc, hp]
  unfold val_main_v48 val_main_v47
  pointwise [FwdConv.y, inp_wo, hb]

/-- The sub-layer's output. -/
theorem o (t : Fin 4096) (l : Fin 1024) : val_main_v64 (F := Ideal) x0 x1 x2 x3 (ix2 t l) = FwdConv.o (inp x0 x1 x2 x3) t l := by
  have hy := y x0 x1 x2 x3
  unfold val_main_v64 val_main_v63 val_main_v62 val_main_v61 val_main_v60 val_main_v59 val_main_v58 val_main_v57 val_main_v56 val_main_v55 val_main_v54
    val_main_v53 val_main_v52 val_main_v51 val_main_v50 val_main_v49 val_main_cst_3 val_main_cst_4 val_main_cst_5
  pointwise [FwdConv.o, Rms.rr, Rms.ms, inp_h, inp_s, hy]

end Cert.ConvReferenceIdeal.At

end
-- ==== Proof.ConvFinal.lean ====
/- The forward convolution call's arrays, and its claims. -/
module

public import proofs.«01_k».proof.Proof.ConvOut
public import proofs.«01_k».proof.Proof.ConvRef
public import proofs.«01_k».proof.Proof.Gen.ConvReferenceIdeal.Run
public import proofs.«01_k».proof.Proof.Gen.ConvReferenceIdeal
public import proofs.«01_k».proof.Defs
public import Idealize.ShloMosaic.Adequacy

@[expose] public section

set_option maxRecDepth 16384

noncomputable section

namespace Cert.ConvIdeal.At

open Cert.ConvIdeal Cert.ConvIdeal.Gen Idealize.ShloMosaic Idealize.ShloMosaic.TcCoe
open FwdSpec (tok tok_val)

variable (m : (ℓ : Loc nD τ sig) → Buf (Elt Ideal) ℓ) (c : Dev nD)

theorem arr4 : (dats m 0 c).arrAt 4 cfg0.N = fun i => FwdConv.o (KI m c) (i 0) (i 1) := by
  refine (dats m 0 c).arrAt_eq_of_covers 4 _ (by decide +kernel) fun t hf x => ?_
  blk_simp
  rw [after0_4]
  idx_vars x
  refine (out4 m c t x0 x1).trans ?_
  refine congrArg₂ (FwdConv.o (KI m c)) (Fin.ext ?_) (Fin.ext ?_)
  · blk_simp [idx t, tok_val, tile]
  · blk_simp [idx t]

theorem arr5 : (dats m 0 c).arrAt 5 cfg0.N = fun i => FwdConv.p (KI m c) (i 0) (i 1) := by
  refine (dats m 0 c).arrAt_eq_of_covers 5 _ (by decide +kernel) fun t hf x => ?_
  blk_simp
  rw [after0_5]
  idx_vars x
  refine (out5 m c t x0 x1).trans ?_
  refine congrArg₂ (FwdConv.p (KI m c)) (Fin.ext ?_) (Fin.ext ?_)
  · blk_simp [idx t, tok_val, tile]
  · blk_simp [idx t]

theorem arr6 : (dats m 0 c).arrAt 6 cfg0.N = fun i => FwdConv.y (KI m c) (i 0) (i 1) := by
  refine (dats m 0 c).arrAt_eq_of_covers 6 _ (by decide +kernel) fun t hf x => ?_
  blk_simp
  rw [after0_6]
  idx_vars x
  refine (out6 m c t x0 x1).trans ?_
  refine congrArg₂ (FwdConv.y (KI m c)) (Fin.ext ?_) (Fin.ext ?_)
  · blk_simp [idx t, tok_val, tile]
  · blk_simp [idx t]

theorem arr7 : (dats m 0 c).arrAt 7 cfg0.N = fun i => FwdConv.n (KI m c) (i 0) (i 1) := by
  refine (dats m 0 c).arrAt_eq_of_covers 7 _ (by decide +kernel) fun t hf x => ?_
  blk_simp
  rw [after0_7]
  idx_vars x
  refine (out7 m c t x0 x1).trans ?_
  refine congrArg₂ (FwdConv.n (KI m c)) (Fin.ext ?_) (Fin.ext ?_)
  · blk_simp [idx t, tok_val, tile]
  · blk_simp [idx t]

end Cert.ConvIdeal.At

namespace Cert.Proof.Conv

open Idealize.ShloMosaic Idealize.SL.Sem

/-- The reference runs, keeps its arguments and leaves its counters at zero. -/
theorem frame_r : Cert.quiescent_ConvReferenceIdeal := by
  intro m ρ _
  exact (θ_run Cert.ConvReferenceIdeal.defs _ _).mono (fun r h => ⟨fun c => (h c).2.2.2.2, sem_eq_zero_of_no_sems (by decide) r.2⟩)
    (Cert.ConvReferenceIdeal.Value.run (F := Ideal) m ρ)

/-- Kernel and reference leave the same four arrays. -/
theorem alg : Cert.algebraic_ConvIdeal_ConvReferenceIdeal := by
  intro m ρ m' ρ' _ hag
  have hin (c : Dev Cert.ConvIdeal.nD) : ConvReferenceIdeal.At.inp (m' ((c.tc : Thread Cert.ConvReferenceIdeal.nD Cert.ConvReferenceIdeal.τ).loc Cert.ConvReferenceIdeal.main_arg0))
      (m' ((c.tc : Thread Cert.ConvReferenceIdeal.nD Cert.ConvReferenceIdeal.τ).loc Cert.ConvReferenceIdeal.main_arg1))
      (m' ((c.tc : Thread Cert.ConvReferenceIdeal.nD Cert.ConvReferenceIdeal.τ).loc Cert.ConvReferenceIdeal.main_arg2))
      (m' ((c.tc : Thread Cert.ConvReferenceIdeal.nD Cert.ConvReferenceIdeal.τ).loc Cert.ConvReferenceIdeal.main_arg3)) = ConvIdeal.At.KI m c := by
    obtain ⟨h0, h1, h2, h3⟩ := hag c
    rw [h0, h1, h2, h3]
    rfl
  refine ⟨fun c i => FwdConv.o (ConvIdeal.At.KI m c) (i 0) (i 1), fun c i => FwdConv.p (ConvIdeal.At.KI m c) (i 0) (i 1),
    fun c i => FwdConv.y (ConvIdeal.At.KI m c) (i 0) (i 1), fun c i => FwdConv.n (ConvIdeal.At.KI m c) (i 0) (i 1),
    (θ_run _ _ _).mono (fun r h c => ?_) (Cert.ConvIdeal.Value.run_blocks (F := Ideal) m ρ),
    (θ_run _ _ _).mono (fun r h c => ?_) (Cert.ConvReferenceIdeal.Value.run (F := Ideal) m' ρ')⟩
  · obtain ⟨h0, h1, h2, h3, h4⟩ := h c
    exact ⟨h0.trans (ConvIdeal.At.arr4 m c), h1.trans (ConvIdeal.At.arr5 m c), h2.trans (ConvIdeal.At.arr6 m c), h3.trans (ConvIdeal.At.arr7 m c), h4⟩
  · obtain ⟨h0, h1, h2, h3, h4⟩ := h c
    refine ⟨h0.trans ((Cert.ConvReferenceIdeal.Read.val_main_v64_eq m' c).trans (funext fun i => ?_)),
      h1.trans ((Cert.ConvReferenceIdeal.Read.val_main_v65_eq _ _ _).trans (funext fun i => ?_)),
      h2.trans ((Cert.ConvReferenceIdeal.Read.val_main_v48_eq m' c).trans (funext fun i => ?_)),
      h3.trans ((Cert.ConvReferenceIdeal.Read.val_main_v66_eq _ _).trans (funext fun i => ?_)), h4⟩
    · idx_vars i
      exact (ConvReferenceIdeal.At.o _ _ _ _ i0 i1).trans (congrArg (FwdConv.o · i0 i1) (hin c))
    · idx_vars i
      exact (Cert.ConvReferenceIdeal.Read.val_main_v65_apply _ _ _ _).trans
        ((ConvReferenceIdeal.At.p _ _ _ _ i0 i1).trans (congrArg (FwdConv.p · i0 i1) (hin c)))
    · idx_vars i
      exact (ConvReferenceIdeal.At.y _ _ _ _ i0 i1).trans (congrArg (FwdConv.y · i0 i1) (hin c))
    · idx_vars i
      exact (Cert.ConvReferenceIdeal.Read.val_main_v66_apply _ _ _).trans
        ((ConvReferenceIdeal.At.n _ _ _ _ i0 i1).trans (congrArg (FwdConv.n · i0 i1) (hin c)))

end Cert.Proof.Conv

end
-- ==== Proof.UpPay.lean ====
/- What a grid point of the forward gate-and-up kernel computes, entry by entry. -/
module

public import proofs.«01_k».proof.Proof.Gen.UpIdeal.Value
public import proofs.«01_k».proof.Proof.FwdSpec
public import Idealize.ShloMosaic.Lib.Pointwise
public import Idealize.ShloMosaic.Lib.Pipeline.ReadBack
public import Idealize.ShloMosaic.Lib.Pipeline.ValueKit
public import Idealize.ShloMosaic.Lib.WritesUnit

@[expose] public section

set_option maxRecDepth 16384

noncomputable section

namespace Cert.UpIdeal.At

open Cert.UpIdeal Cert.UpIdeal.Gen Idealize.ShloMosaic Idealize.ShloMosaic.TcCoe
open FwdSpec (tok tok_val col)

/-- A block of the input weight. -/
abbrev wiBlk (v : Vec Ideal S4x1024x1408 .bf16) (n : ℕ) (inb : ∀ a, ![n, 0, 0] a + S1x1024x1408.size a ≤ S4x1024x1408.size a) : Vec Ideal S1x1024x1408 .bf16 :=
  View.ld v (Rect.unit (s := S4x1024x1408) ![n, 0, 0] S1x1024x1408.size inb)

/-- A row of the gains. -/
abbrev smRow (v : Vec Ideal S16x1024 .f32) (n : ℕ) (inb : ∀ a, ![n, 0] a + S1x1024.size a ≤ S16x1024.size a) : Vec Ideal S1x1024 .f32 :=
  View.ld v (Rect.unit (s := S16x1024) ![n, 0] S1x1024.size inb)

theorem wiBlk_at (v : Vec Ideal S4x1024x1408 .bf16) (j : Fin 4) (inb) (l : Fin 1024) (x : Fin 1408) :
    wiBlk v j.val inb (ix3 0 l x) = v (ix3 j l x) := by
  unfold wiBlk
  pointwise []

theorem smRow_at (v : Vec Ideal S16x1024 .f32) (j : Fin 16) (inb) (l : Fin 1024) : smRow v j.val inb (ix2 0 l) = v (ix2 j l) := by
  unfold smRow
  pointwise []

/-- What the blocks of a point hold: the tile's tokens, the first gain, the input weight. -/
structure Point (I : FwdSpec.In) (T : Fin 8) (h : Vec Ideal S512x1024 .f32) (gi : Vec Ideal S1x1024 .f32) (w : Vec Ideal S4x1024x1408 .bf16) : Prop where
  h : ∀ r l, h (ix2 r l) = I.h (tok T r) l
  gi : ∀ l, gi (ix2 0 l) = I.gi l
  wi : ∀ j l k, w (ix3 j l k) = I.wi j l k

variable {I : FwdSpec.In} {T : Fin 8} {h : Vec Ideal S512x1024 .f32} {gi : Vec Ideal S1x1024 .f32} {w : Vec Ideal S4x1024x1408 .bf16}
variable (P : Point I T h gi w)
include P

/-- The normalised input. -/
theorem n_at (r : Fin 512) (l : Fin 1024) : k0_pay6 (F := Ideal) h gi (ix2 r l) = FwdSpec.n I (tok T r) l := by
  have hh := P.h
  have hg := P.gi
  unfold k0_pay6
  pointwise [FwdSpec.n, Rms.rr, Rms.ms, hh, hg]

/-- A column block of the projection. -/
theorem blk_at (j : Fin 4) (inb) (r : Fin 512) (x : Fin 1408) :
    k0_pay1 (F := Ideal) (k0_pay6 h gi) (wiBlk w j.val inb) (ix2 r x) = FwdSpec.blk I j (tok T r) x := by
  have hn := n_at P
  have hw := fun l x => (wiBlk_at w j inb l x).trans (P.wi j l x)
  generalize wiBlk w j.val inb = v at hw ⊢
  unfold k0_pay1
  pointwise [FwdSpec.blk, hn, hw]

/-- A half of the activation. -/
theorem half_at (j : Fin 2) (inb : ∀ a, ![j.val, 0, 0] a + S1x1024x1408.size a ≤ S4x1024x1408.size a)
    (inb' : ∀ a, ![2 + j.val, 0, 0] a + S1x1024x1408.size a ≤ S4x1024x1408.size a) (r : Fin 512) (x : Fin 1408) :
    k0_pay5 (F := Ideal) (k0_pay6 h gi) (wiBlk w j.val inb) (wiBlk w (2 + j.val) inb') (ix2 r x) = FwdSpec.half I j (tok T r) x := by
  have h0 := blk_at P ⟨j.val, by omega⟩ inb r x
  have h1 : k0_pay2 (F := Ideal) (k0_pay6 h gi) (wiBlk w (2 + j.val) inb') (ix2 r x) = _ := blk_at P ⟨2 + j.val, by omega⟩ inb' r x
  unfold k0_pay5 FwdSpec.half
  rw [← h0, ← h1]
  rfl

/-- The projection as the body has stored it, whole. -/
theorem gu_whole (i : S512x5632.Idx) :
    View.canon (Val := Elt Ideal) (e := .bf16)
      [⟨Rect.unit (s := S512x5632) ![0, 4224] S512x1408.size inb_S512x5632_S512x1408_0_4224, k0_pay4 (F := Ideal) (k0_pay6 h gi) (wiBlk w 3 inb_S4x1024x1408_S1x1024x1408_3_0_0)⟩,
        ⟨Rect.unit (s := S512x5632) ![0, 1408] S512x1408.size inb_S512x5632_S512x1408_0_1408, k0_pay3 (F := Ideal) (k0_pay6 h gi) (wiBlk w 1 inb_S4x1024x1408_S1x1024x1408_1_0_0)⟩,
        ⟨Rect.unit (s := S512x5632) ![0, 2816] S512x1408.size inb_S512x5632_S512x1408_0_2816, k0_pay10 (F := Ideal) h gi (wiBlk w 2 inb_S4x1024x1408_S1x1024x1408_2_0_0)⟩,
        ⟨Rect.unit (s := S512x5632) ![0, 0] S512x1408.size inb_S512x5632_S512x1408_0_0, k0_pay9 (F := Ideal) h gi (wiBlk w 0 inb_S4x1024x1408_S1x1024x1408_0_0_0)⟩] i
    = FwdSpec.gu I (tok T (i 0)) (i 1) := by
  canon_tiles x hx
  · idx_vars x
    have e : (i 1).val = 4224 + x1.val := hx1
    rw [show i 0 = x0 from Fin.ext hx0, FwdSpec.gu_at I 3 _ x1 (i 1) (by rw [e]; rfl)]
    exact blk_at P 3 _ x0 x1
  · idx_vars x
    have e : (i 1).val = 1408 + x1.val := hx1
    rw [show i 0 = x0 from Fin.ext hx0, FwdSpec.gu_at I 1 _ x1 (i 1) (by rw [e]; show 1408 + x1.val = 1 * 1408 + x1.val; omega)]
    exact blk_at P 1 _ x0 x1
  · idx_vars x
    have e : (i 1).val = 2816 + x1.val := hx1
    rw [show i 0 = x0 from Fin.ext hx0, FwdSpec.gu_at I 2 _ x1 (i 1) (by rw [e]; rfl)]
    exact blk_at P 2 _ x0 x1
  · idx_vars x
    have e : (i 1).val = x1.val := hx1
    rw [show i 0 = x0 from Fin.ext hx0, FwdSpec.gu_at I 0 _ x1 (i 1) (by rw [e]; show x1.val = 0 * 1408 + x1.val; omega)]
    exact blk_at P 0 _ x0 x1

/-- The activation as the body has stored it, whole. -/
theorem act_whole (i : S512x2816.Idx) :
    View.canon (Val := Elt Ideal) (e := .bf16)
      [⟨Rect.unit (s := S512x2816) ![0, 1408] S512x1408.size inb_S512x2816_S512x1408_0_1408,
          k0_pay5 (F := Ideal) (k0_pay6 h gi) (wiBlk w 1 inb_S4x1024x1408_S1x1024x1408_1_0_0) (wiBlk w 3 inb_S4x1024x1408_S1x1024x1408_3_0_0)⟩,
        ⟨Rect.unit (s := S512x2816) ![0, 0] S512x1408.size inb_S512x2816_S512x1408_0_0,
          k0_pay11 (F := Ideal) h gi (wiBlk w 0 inb_S4x1024x1408_S1x1024x1408_0_0_0) (wiBlk w 2 inb_S4x1024x1408_S1x1024x1408_2_0_0)⟩] i
    = FwdSpec.act I (tok T (i 0)) (i 1) := by
  canon_tiles x hx
  · idx_vars x
    have e : (i 1).val = 1408 + x1.val := hx1
    rw [show i 0 = x0 from Fin.ext hx0, FwdSpec.act_at I 1 _ x1 (i 1) (by rw [e]; show 1408 + x1.val = 1 * 1408 + x1.val; omega)]
    exact half_at P 1 _ _ x0 x1
  · idx_vars x
    have e : (i 1).val = x1.val := hx1
    rw [show i 0 = x0 from Fin.ext hx0, FwdSpec.act_at I 0 _ x1 (i 1) (by rw [e]; show x1.val = 0 * 1408 + x1.val; omega)]
    exact half_at P 0 _ _ x0 x1

end Cert.UpIdeal.At

end
-- ==== Proof.LossSpec.lean ====
/- The loss of the second layer's output and its gradient. -/
module

public import proofs.«01_k».proof.Proof.FwdSpec

@[expose] public section

set_option maxRecDepth 16384

noncomputable section

namespace Cert.FwdSpec

open Idealize.ShloMosaic

/-- The programs' constants. -/
theorem c_inv : Ideal.ofBits .f32 0x3A800000#32 = ((1 / 1024 : ℝ) : EReal) := by
  simp [Ideal.ofBits, Ideal.ieee, -EReal.coe_mul]; norm_num

theorem c_half : Ideal.ofBits .f32 0x3A000000#32 = ((1 / 2048 : ℝ) : EReal) := by
  simp [Ideal.ofBits, Ideal.ieee, -EReal.coe_mul]; norm_num

theorem half' : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

variable (I : In) (tg : Fin 4096 → Fin 1024 → EReal)

/-- The error. -/
def err (t : Fin 4096) (l : Fin 1024) : EReal := out I t l - tg t l

/-- The loss's gradient with respect to the output. -/
def grad (t : Fin 4096) (l : Fin 1024) : EReal := err I tg t l * ((1 / 1024 : ℝ) : EReal)

/-- The loss: half the mean over the columns of the squared error, summed over the tokens. -/
def loss : EReal := ((1 / 2048 : ℝ) : EReal) * ∑ t : Fin 4096, ∑ l : Fin 1024, err I tg t l * err I tg t l

/-- The gradient as differentiation writes it. -/
theorem grad_eq (t : Fin 4096) (l : Fin 1024) :
    Ideal.div (Ideal.ofBits .f32 0x3F000000#32) (Ideal.ofBits .f32 0x44800000#32) * (Ideal.ofBits .f32 0x40000000#32 * err I tg t l) = grad I tg t l := by
  rw [half', two, Rms.width, Ideal.div_coe (by norm_num), ← mul_assoc, ← EReal.coe_mul, ← EReal.coe_mul, mul_comm]
  unfold grad
  congr 2
  norm_num

/-- The loss with the mean taken row by row. -/
theorem loss_eq :
    Ideal.ofBits .f32 0x3F000000#32 * ∑ t : Fin 4096, Ideal.div (∑ l : Fin 1024, err I tg t l * err I tg t l) (Ideal.ofBits .f32 0x44800000#32) = loss I tg := by
  have hdiv : ∀ s, Ideal.div s ((1024 : ℝ) : EReal) = s * ((1 / 1024 : ℝ) : EReal) := Ideal.div_coe (by norm_num)
  rw [half', Rms.width]
  simp only [hdiv]
  rw [Rms.sum_mul_real (by norm_num), mul_comm (∑ t : Fin 4096, _) _, ← mul_assoc, ← EReal.coe_mul]
  unfold loss
  congr 2
  norm_num

end Cert.FwdSpec

end
-- ==== Proof.LossPay.lean ====
/- What a grid point of the second layer's forward kernel computes, entry by entry. -/
module

public import proofs.«01_k».proof.Proof.Gen.LossIdeal.Value
public import proofs.«01_k».proof.Proof.UpPay
public import proofs.«01_k».proof.Proof.LossSpec

@[expose] public section

set_option maxRecDepth 16384

noncomputable section

namespace Cert.LossIdeal.At

open Cert.LossIdeal Cert.LossIdeal.Gen Idealize.ShloMosaic Idealize.ShloMosaic.TcCoe
open FwdSpec (tok tok_val col)
open UpIdeal.At (wiBlk smRow smRow_at)

/-- The rows of the output weight that a half takes. -/
abbrev woRows (v : Vec Ideal S2816x1024 .bf16) (n : ℕ) (inb : ∀ a, ![n, 0] a + S1408x1024.size a ≤ S2816x1024.size a) : Vec Ideal S1408x1024 .bf16 :=
  View.ld v (Rect.unit (s := S2816x1024) ![n, 0] S1408x1024.size inb)

theorem woRows_at (v : Vec Ideal S2816x1024 .bf16) (n : ℕ) (inb) (x : Fin 1408) (l : Fin 1024) (k : Fin 2816) (h : k.val = n + x.val) :
    woRows v n inb (ix2 x l) = v (ix2 k l) := by
  have hk : n + x.val < 2816 := h ▸ k.isLt
  have e : k = ⟨n + x.val, hk⟩ := Fin.ext h
  subst e
  unfold woRows
  pointwise []

/-- A half of the activation times its rows of the output weight. -/
def part (a : FVec Ideal S512x1408 .bf16) (d : FVec Ideal S1408x1024 .bf16) : FVec Ideal S512x1024 .f32 :=
  matmul dot_S512x1408_S1408x1024_S512x1024_1_0_0_1_n_n none a d (constant S512x1024 .f32 0x00000000#32)

theorem part_at (a : FVec Ideal S512x1408 .bf16) (d : FVec Ideal S1408x1024 .bf16) (r : Fin 512) (l : Fin 1024) :
    part a d (ix2 r l) = ∑ x : Fin 1408, a (ix2 r x) * d (ix2 x l) := by
  unfold part
  pointwise []

/-- The network's output and the sub-layer's output, as the body computes them from its blocks. -/
abbrev pff (h : Vec Ideal S512x1024 .f32) (gi : Vec Ideal S1x1024 .f32) (w : Vec Ideal S4x1024x1408 .bf16) (d : Vec Ideal S2816x1024 .bf16) : FVec Ideal S512x1024 .f32 :=
  k0_pay16 (F := Ideal) (k0_pay6 h gi)
    (k0_pay11 h gi (wiBlk w 0 inb_S4x1024x1408_S1x1024x1408_0_0_0) (wiBlk w 2 inb_S4x1024x1408_S1x1024x1408_2_0_0) (woRows d 0 inb_S2816x1024_S1408x1024_0_0))
    (wiBlk w 1 inb_S4x1024x1408_S1x1024x1408_1_0_0) (wiBlk w 3 inb_S4x1024x1408_S1x1024x1408_3_0_0) (woRows d 1408 inb_S2816x1024_S1408x1024_1408_0)

abbrev pout (h : Vec Ideal S512x1024 .f32) (gi go : Vec Ideal S1x1024 .f32) (w : Vec Ideal S4x1024x1408 .bf16) (d : Vec Ideal S2816x1024 .bf16) : FVec Ideal S512x1024 .f32 :=
  k0_pay17 (F := Ideal) h (k0_pay6 h gi)
    (k0_pay11 h gi (wiBlk w 0 inb_S4x1024x1408_S1x1024x1408_0_0_0) (wiBlk w 2 inb_S4x1024x1408_S1x1024x1408_2_0_0) (woRows d 0 inb_S2816x1024_S1408x1024_0_0))
    (wiBlk w 1 inb_S4x1024x1408_S1x1024x1408_1_0_0) (wiBlk w 3 inb_S4x1024x1408_S1x1024x1408_3_0_0) (woRows d 1408 inb_S2816x1024_S1408x1024_1408_0) go

/-- What the blocks of a point hold: the tile's tokens and targets, the two gains, the two weights. -/
structure Point (I : FwdSpec.In) (tg : Fin 4096 → Fin 1024 → EReal) (T : Fin 8) (h g : Vec Ideal S512x1024 .f32) (gi go : Vec Ideal S1x1024 .f32)
    (w : Vec Ideal S4x1024x1408 .bf16) (d : Vec Ideal S2816x1024 .bf16) : Prop extends UpIdeal.At.Point I T h gi w where
  g : ∀ r l, g (ix2 r l) = tg (tok T r) l
  go : ∀ l, go (ix2 0 l) = I.go l
  wo : ∀ k l, d (ix2 k l) = I.wo k l

variable {I : FwdSpec.In} {tg : Fin 4096 → Fin 1024 → EReal} {T : Fin 8} {h g : Vec Ideal S512x1024 .f32} {gi go : Vec Ideal S1x1024 .f32}
  {w : Vec Ideal S4x1024x1408 .bf16} {d : Vec Ideal S2816x1024 .bf16}
variable (P : Point I tg T h g gi go w d)
include P

/-- The network's output. -/
theorem ff_at (r : Fin 512) (l : Fin 1024) : pff h gi w d (ix2 r l) = FwdSpec.ff I (tok T r) l := by
  rw [← FwdSpec.ff_halves]
  show part (UpIdeal.Gen.k0_pay11 h gi (wiBlk w 0 inb_S4x1024x1408_S1x1024x1408_0_0_0) (wiBlk w 2 inb_S4x1024x1408_S1x1024x1408_2_0_0)) (woRows d 0 inb_S2816x1024_S1408x1024_0_0) (ix2 r l)
    + part (UpIdeal.Gen.k0_pay5 (UpIdeal.Gen.k0_pay6 h gi) (wiBlk w 1 inb_S4x1024x1408_S1x1024x1408_1_0_0) (wiBlk w 3 inb_S4x1024x1408_S1x1024x1408_3_0_0))
      (woRows d 1408 inb_S2816x1024_S1408x1024_1408_0) (ix2 r l) = _
  rw [part_at, part_at]
  refine congrArg₂ (· + ·) (Finset.sum_congr rfl fun x _ => congrArg₂ (· * ·) ?_ ?_) (Finset.sum_congr rfl fun x _ => congrArg₂ (· * ·) ?_ ?_)
  · exact UpIdeal.At.half_at P.toPoint 0 _ _ r x
  · exact (woRows_at d 0 _ x l (col 0 x) (by show 0 * 1408 + x.val = 0 + x.val; omega)).trans (P.wo _ l)
  · exact UpIdeal.At.half_at P.toPoint 1 _ _ r x
  · exact (woRows_at d 1408 _ x l (col 1 x) (by show 1 * 1408 + x.val = 1408 + x.val; omega)).trans (P.wo _ l)

/-- The sub-layer's output. -/
theorem out_at (r : Fin 512) (l : Fin 1024) : pout h gi go w d (ix2 r l) = FwdSpec.out I (tok T r) l := by
  have hf := ff_at P
  have hh := P.h
  have hg := P.go
  unfold pout k0_pay17
  unfold pff at hf
  pointwise [FwdSpec.out, Rms.rr, Rms.ms, hf, hh, hg]

/-- The gradient of the loss. -/
theorem grad_at (r : Fin 512) (l : Fin 1024) : k0_pay2 (F := Ideal) (pout h gi go w d) g (ix2 r l) = FwdSpec.grad I tg (tok T r) l := by
  have ho := out_at P
  have hg := P.g
  generalize pout h gi go w d = o at ho ⊢
  unfold k0_pay2 k0_pay1
  pointwise [FwdSpec.grad, FwdSpec.err, ho, hg]
  rw [FwdSpec.c_inv]

/-- What the point adds to the column sums of squares. -/
theorem sq_at (s : Vec Ideal S1x1024 .f32) (l : Fin 1024) :
    k0_pay4 (F := Ideal) (pout h gi go w d) g s (ix2 0 l) = s (ix2 0 l) + ∑ r : Fin 512, FwdSpec.err I tg (tok T r) l * FwdSpec.err I tg (tok T r) l := by
  have ho := out_at P
  have hg := P.g
  generalize pout h gi go w d = o at ho ⊢
  unfold k0_pay4 k0_pay1
  pointwise [FwdSpec.err, ho, hg]

omit P in
/-- The loss from the column sums. -/
theorem loss_at (s : Vec Ideal S1x1024 .f32) (i : Fin 8) (j : Fin 128) :
    k0_pay5 (F := Ideal) s (ix2 i j) = ((1 / 2048 : ℝ) : EReal) * ∑ l : Fin 1024, s (ix2 0 l) := by
  rw [← FwdSpec.c_half]
  unfold k0_pay5
  pointwise []
  rw [Fin.sum_univ_one]

end Cert.LossIdeal.At

end
-- ==== Proof.LossOut.lean ====
/- The blocks the second layer's forward grid points write back, and what the column sums hold after each point. -/
module

public import proofs.«01_k».proof.Proof.LossPay

@[expose] public section

set_option maxRecDepth 16384

noncomputable section

namespace Cert.LossIdeal.At

open Cert.LossIdeal Cert.LossIdeal.Gen Idealize.ShloMosaic Idealize.ShloMosaic.TcCoe
open FwdSpec (tok tok_val col)
open UpIdeal.At (wiBlk smRow smRow_at)

variable (m : (ℓ : Loc nD τ sig) → Buf (Elt Ideal) ℓ) (c : Dev nD)

/-- The region's input arrays, as the sub-layer's inputs and the target. -/
def KI : FwdSpec.In where
  h t l := V m c main_arg0 (ix2 t l)
  gi l := V m c main_arg2 (ix2 6 l)
  go l := V m c main_arg2 (ix2 7 l)
  wi j l k := V m c main_arg3 (ix3 j l k)
  wo k l := V m c main_arg4 (ix2 k l)

def tg (t : Fin 4096) (l : Fin 1024) : EReal := V m c main_arg1 (ix2 t l)

/-- The tile of grid point `t`. -/
def tile (t : Fin cfg0.N) : Fin 8 := ⟨t.val, t.isLt⟩

/-- The blocks' places in their arrays. -/
theorem idx : ∀ t : Fin cfg0.N, win0_0.index t = ![t.val, 0] ∧ win0_1.index t = ![t.val, 0] ∧ win0_2.index t = ![0, 0] ∧ win0_3.index t = ![0, 0, 0]
    ∧ win0_4.index t = ![0, 0] ∧ win0_5.index t = ![t.val, 0] ∧ win0_6.index t = ![t.val, 0] ∧ win0_7.index t = ![t.val, 0]
    ∧ win0_8.index t = ![t.val, 0] ∧ win0_9.index t = ![0, 0] :=
  (by decide +kernel : ∀ t : Fin grid0.N, _)

theorem b0 (t : Fin cfg0.N) (r : Fin 512) (l : Fin 1024) : iblk m c 0 t (ix2 r l) = (KI m c).h (tok (tile t) r) l := by
  blk_ext [iblk, KI, tok, tile, idx t]

theorem b1 (t : Fin cfg0.N) (r : Fin 512) (l : Fin 1024) : iblk m c 1 t (ix2 r l) = tg m c (tok (tile t) r) l := by
  blk_ext [iblk, tg, tok, tile, idx t]

theorem b2 (t : Fin cfg0.N) (j : Fin 16) (l : Fin 1024) : iblk m c 2 t (ix2 j l) = V m c main_arg2 (ix2 j l) := by
  blk_ext [iblk, idx t]

theorem b3 (t : Fin cfg0.N) (j : Fin 4) (l : Fin 1024) (k : Fin 1408) : iblk m c 3 t (ix3 j l k) = (KI m c).wi j l k := by
  blk_ext [iblk, KI, idx t]

theorem b4 (t : Fin cfg0.N) (k : Fin 2816) (l : Fin 1024) : iblk m c 4 t (ix2 k l) = (KI m c).wo k l := by
  blk_ext [iblk, KI, idx t]

/-- A grid point's blocks are its tile's. -/
theorem point (t : Fin cfg0.N) : Point (KI m c) (tg m c) (tile t) (iblk m c 0 t) (iblk m c 1 t) (smRow (iblk m c 2 t) 6 inb_S16x1024_S1x1024_6_0)
    (smRow (iblk m c 2 t) 7 inb_S16x1024_S1x1024_7_0) (iblk m c 3 t) (iblk m c 4 t) where
  h := b0 m c t
  gi l := (smRow_at _ 6 _ l).trans (b2 m c t 6 l)
  wi := b3 m c t
  g := b1 m c t
  go l := (smRow_at _ 7 _ l).trans (b2 m c t 7 l)
  wo := b4 m c t

/-- A grid point is the first, the last or between them. -/
theorem cases3 (t : Fin cfg0.N) : (t.val % 8 = 0 ∧ ¬t.val % 8 = 7) ∨ (¬t.val % 8 = 0 ∧ ¬t.val % 8 = 7) ∨ (¬t.val % 8 = 0 ∧ t.val % 8 = 7) := by omega

/-- The gradient of the loss. -/
theorem out5 (t : Fin cfg0.N) (r : Fin 512) (l : Fin 1024) :
    (outsAt0 m c t.val t.isLt).1 (ix2 r l) = FwdSpec.grad (KI m c) (tg m c) (tok (tile t) r) l := by
  rcases cases3 t with ⟨h0, h1⟩ | ⟨h0, h1⟩ | ⟨h0, h1⟩
  · rw [outsAt0_A m c t h0 h1]
    frame_out
    exact grad_at (point m c t) r l
  · rw [outsAt0_B m c t h0 h1]
    frame_out
    exact grad_at (point m c t) r l
  · rw [outsAt0_C m c t h0 h1]
    frame_out
    exact grad_at (point m c t) r l

/-- The projection. -/
theorem out6 (t : Fin cfg0.N) (r : Fin 512) (k : Fin 5632) :
    (outsAt0 m c t.val t.isLt).2.1 (ix2 r k) = FwdSpec.gu (KI m c) (tok (tile t) r) k := by
  rcases cases3 t with ⟨h0, h1⟩ | ⟨h0, h1⟩ | ⟨h0, h1⟩
  · rw [outsAt0_A m c t h0 h1]
    frame_out
    exact UpIdeal.At.gu_whole (point m c t).toPoint (ix2 r k)
  · rw [outsAt0_B m c t h0 h1]
    frame_out
    exact UpIdeal.At.gu_whole (point m c t).toPoint (ix2 r k)
  · rw [outsAt0_C m c t h0 h1]
    frame_out
    exact UpIdeal.At.gu_whole (point m c t).toPoint (ix2 r k)

/-- The network's output. -/
theorem out7 (t : Fin cfg0.N) (r : Fin 512) (l : Fin 1024) :
    (outsAt0 m c t.val t.isLt).2.2.1 (ix2 r l) = FwdSpec.ff (KI m c) (tok (tile t) r) l := by
  rcases cases3 t with ⟨h0, h1⟩ | ⟨h0, h1⟩ | ⟨h0, h1⟩
  · rw [outsAt0_A m c t h0 h1]
    frame_out
    exact ff_at (point m c t) r l
  · rw [outsAt0_B m c t h0 h1]
    frame_out
    exact ff_at (point m c t) r l
  · rw [outsAt0_C m c t h0 h1]
    frame_out
    exact ff_at (point m c t) r l

/-- The normalised input. -/
theorem out8 (t : Fin cfg0.N) (r : Fin 512) (l : Fin 1024) :
    (outsAt0 m c t.val t.isLt).2.2.2.1 (ix2 r l) = FwdSpec.n (KI m c) (tok (tile t) r) l := by
  rcases cases3 t with ⟨h0, h1⟩ | ⟨h0, h1⟩ | ⟨h0, h1⟩
  · rw [outsAt0_A m c t h0 h1]
    frame_out
    exact UpIdeal.At.n_at (point m c t).toPoint r l
  · rw [outsAt0_B m c t h0 h1]
    frame_out
    exact UpIdeal.At.n_at (point m c t).toPoint r l
  · rw [outsAt0_C m c t h0 h1]
    frame_out
    exact UpIdeal.At.n_at (point m c t).toPoint r l

/-- At the points after the first, the column sums grow by the tile's squares. -/
theorem sumB (t : Fin cfg0.N) (h : ¬t.val % 8 = 0) (l : Fin 1024) : (outsAt0 m c t.val t.isLt).2.2.2.2.2 (ix2 0 l)
    = (outsAt0 m c (t.val - 1) (Nat.lt_of_le_of_lt (Nat.sub_le _ _) t.isLt)).2.2.2.2.2 (ix2 0 l)
      + ∑ r : Fin 512, FwdSpec.err (KI m c) (tg m c) (tok (tile t) r) l * FwdSpec.err (KI m c) (tg m c) (tok (tile t) r) l := by
  by_cases h1 : t.val % 8 = 7
  · rw [outsAt0_C m c t h h1]
    frame_out
    exact (sq_at (point m c t) _ l).trans (congrArg₂ (· + ·) (congrFun (Memref.IsWhole.read_unread _ _) _) rfl)
  · rw [outsAt0_B m c t h h1]
    frame_out
    exact (sq_at (point m c t) _ l).trans (congrArg₂ (· + ·) (congrFun (Memref.IsWhole.read_unread _ _) _) rfl)

/-- The first point starts the column sums at zero. -/
theorem sumA (t : Fin cfg0.N) (h : t.val % 8 = 0) (l : Fin 1024) : (outsAt0 m c t.val t.isLt).2.2.2.2.2 (ix2 0 l)
    = 0 + ∑ r : Fin 512, FwdSpec.err (KI m c) (tg m c) (tok (tile t) r) l * FwdSpec.err (KI m c) (tg m c) (tok (tile t) r) l := by
  rw [outsAt0_A m c t h (by omega)]
  frame_open
  simp (disch := decide) only [↓ View.readCov_skip, ↓ View.readCov_cons_toLoadRect, ↓ View.readCov_fill]
  frame_out
  refine (sq_at (point m c t) _ l).trans ?_
  refine congrArg₂ (· + ·) ?_ rfl
  pointwise [k0_pay3]

/-- The last point writes the loss of the column sums it leaves. -/
theorem out9 (t : Fin cfg0.N) (h : t.val % 8 = 7) (i : Fin 8) (j : Fin 128) :
    (outsAt0 m c t.val t.isLt).2.2.2.2.1 (ix2 i j) = ((1 / 2048 : ℝ) : EReal) * ∑ l : Fin 1024, (outsAt0 m c t.val t.isLt).2.2.2.2.2 (ix2 0 l) := by
  rw [outsAt0_C m c t (by omega) h]
  frame_open
  simp (disch := decide) only [↓ View.readCov_skip, ↓ View.readCov_cons_toLoadRect, ↓ View.readCov_fill]
  frame_out
  exact loss_at _ i j

end Cert.LossIdeal.At

end
-- ==== Proof.FwdRef.lean ====
/- The forward feed-forward reference's stages, entry by entry. -/
module

public import proofs.«01_k».proof.Proof.LossSpec
public import proofs.«01_k».proof.Proof.Gen.LossReferenceIdeal.Read
public import Idealize.ShloMosaic.Lib.Pointwise

@[expose] public section

set_option maxRecDepth 16384

noncomputable section

namespace Cert.LossReferenceIdeal.At

open Cert.LossReferenceIdeal Cert.LossReferenceIdeal.Gen Cert.LossReferenceIdeal.Read Idealize.ShloMosaic Idealize.ShloMosaic.TcCoe

variable (x0 x1 : FVec Ideal S4096x1024 .f32) (x2 : FVec Ideal S16x1024 .f32) (x3 : FVec Ideal S4x1024x1408 .bf16)
  (x4 : FVec Ideal S2816x1024 .bf16)

/-- The sub-layer's inputs. -/
def inp : FwdSpec.In where
  h := fun t l => x0 (ix2 t l)
  gi := fun l => x2 (ix2 6 l)
  go := fun l => x2 (ix2 7 l)
  wi := fun j l k => x3 (ix3 j l k)
  wo := fun k l => x4 (ix2 k l)

theorem inp_h (t : Fin 4096) (l : Fin 1024) : (inp x0 x2 x3 x4).h t l = x0 (ix2 t l) := rfl
theorem inp_gi (l : Fin 1024) : (inp x0 x2 x3 x4).gi l = x2 (ix2 6 l) := rfl
theorem inp_go (l : Fin 1024) : (inp x0 x2 x3 x4).go l = x2 (ix2 7 l) := rfl
theorem inp_wi (j : Fin 4) (l : Fin 1024) (k : Fin 1408) : (inp x0 x2 x3 x4).wi j l k = x3 (ix3 j l k) := rfl
theorem inp_wo (k : Fin 2816) (l : Fin 1024) : (inp x0 x2 x3 x4).wo k l = x4 (ix2 k l) := rfl

/-- The normalised input. -/
theorem n (t : Fin 4096) (l : Fin 1024) : val_main_v14 (F := Ideal) x0 x2 (ix2 t l) = FwdSpec.n (inp x0 x2 x3 x4) t l := by
  unfold val_main_v14 val_main_v13 val_main_v12 val_main_v11 val_main_v10 val_main_v9 val_main_v8 val_main_v7 val_main_v6 val_main_v5 val_main_v4
    val_main_v3 val_main_v2 val_main_v1 val_main_v0 val_main_cst val_main_cst_0 val_main_cst_1
  pointwise [FwdSpec.n, Rms.rr, Rms.ms, inp_h, inp_gi]

/-- The projection. -/
theorem gu (t : Fin 4096) (k : Fin 5632) : val_main_v18 (F := Ideal) x0 x2 x3 (ix2 t k) = FwdSpec.gu (inp x0 x2 x3 x4) t k := by
  have hn := n x0 x2 x3 x4
  unfold val_main_v18 val_main_v17 val_main_v16 val_main_v15
  pointwise [FwdSpec.gu, FwdSpec.blk, inp_wi, hn]

/-- The activation. -/
theorem act (t : Fin 4096) (k : Fin 2816) : val_main_v22 (F := Ideal) x0 x2 x3 (ix2 t k) = FwdSpec.act (inp x0 x2 x3 x4) t k := by
  have hp := gu x0 x2 x3 x4
  have hg : val_main_v19 (F := Ideal) x0 x2 x3 (ix2 t k) = FwdSpec.gate (inp x0 x2 x3 x4) t k := by
    unfold val_main_v19
    pointwise [FwdSpec.gate, hp]
  have hu : val_main_v20 (F := Ideal) x0 x2 x3 (ix2 t k) = FwdSpec.up (inp x0 x2 x3 x4) t k := by
    unfold val_main_v20
    pointwise [FwdSpec.up, hp]
  unfold val_main_v22 val_main_v21 val_main_call0_v5 val_main_call0_v4 val_main_call0_v3 val_main_call0_v2 val_main_call0_v1
    val_main_call0_v0 val_main_call0_cst val_main_call0_cst_0
  pointwise [FwdSpec.act, Ideal.logistic, hg, hu]

/-- The network's output. -/
theorem ff (t : Fin 4096) (l : Fin 1024) : val_main_v24 (F := Ideal) x0 x2 x3 x4 (ix2 t l) = FwdSpec.ff (inp x0 x2 x3 x4) t l := by
  have ha := act x0 x2 x3 x4
  unfold val_main_v24 val_main_v23
  pointwise [FwdSpec.ff, inp_wo, ha]

/-- The sub-layer's output. -/
theorem out (t : Fin 4096) (l : Fin 1024) : val_main_v40 (F := Ideal) x0 x2 x3 x4 (ix2 t l) = FwdSpec.out (inp x0 x2 x3 x4) t l := by
  have hf := ff x0 x2 x3 x4
  unfold val_main_v40 val_main_v39 val_main_v38 val_main_v37 val_main_v36 val_main_v35 val_main_v34 val_main_v33 val_main_v32 val_main_v31 val_main_v30
    val_main_v29 val_main_v28 val_main_v27 val_main_v26 val_main_v25 val_main_cst_2 val_main_cst_3 val_main_cst_4
  pointwise [FwdSpec.out, Rms.rr, Rms.ms, inp_h, inp_go, hf]

/-- The target. -/
def tg : Fin 4096 → Fin 1024 → EReal := fun t l => x1 (ix2 t l)

/-- The error. -/
theorem err (t : Fin 4096) (l : Fin 1024) : val_main_v41 (F := Ideal) x0 x1 x2 x3 x4 (ix2 t l) = FwdSpec.err (inp x0 x2 x3 x4) (tg x1) t l := by
  have ho := out x0 x2 x3 x4
  unfold val_main_v41
  pointwise [FwdSpec.err, tg, ho]

/-- The gradient of the loss. -/
theorem grad (t : Fin 4096) (l : Fin 1024) : val_main_v55 (F := Ideal) x0 x1 x2 x3 x4 (ix2 t l) = FwdSpec.grad (inp x0 x2 x3 x4) (tg x1) t l := by
  have he := err x0 x1 x2 x3 x4
  rw [← FwdSpec.grad_eq]
  unfold val_main_v55 val_main_v54 val_main_v53 val_main_v52 val_main_v51 val_main_v50 val_main_v44 val_main_v43 val_main_cst_5 val_main_cst_10
    val_main_cst_11 val_main_cst_12
  pointwise [he]

/-- The loss. -/
theorem loss (i : Fin 8) (j : Fin 128) : val_main_v58 (F := Ideal) x0 x1 x2 x3 x4 (ix2 i j) = FwdSpec.loss (inp x0 x2 x3 x4) (tg x1) := by
  have he := err x0 x1 x2 x3 x4
  have hs (t : Fin 4096) : val_main_v45 (F := Ideal) x0 x1 x2 x3 x4 (ix1 t)
      = ∑ l : Fin 1024, FwdSpec.err (inp x0 x2 x3 x4) (tg x1) t l * FwdSpec.err (inp x0 x2 x3 x4) (tg x1) t l := by
    unfold val_main_v45 val_main_v42 val_main_cst_6
    pointwise [he]
  rw [← FwdSpec.loss_eq]
  unfold val_main_v58 val_main_v49 val_main_v48 val_main_v47 val_main_v46 val_main_cst_7 val_main_cst_8 val_main_cst_9
  pointwise [hs]

end Cert.LossReferenceIdeal.At

end
-- ==== Proof.LossFinal.lean ====
/- The second layer's forward call: its arrays, and its claims. -/
module

public import proofs.«01_k».proof.Proof.LossOut
public import proofs.«01_k».proof.Proof.FwdRef
public import proofs.«01_k».proof.Proof.Gen.LossReferenceIdeal.Run
public import proofs.«01_k».proof.Proof.Gen.LossReferenceIdeal.Read
public import proofs.«01_k».proof.Proof.Gen.LossReferenceIdeal
public import proofs.«01_k».proof.Defs
public import Idealize.ShloMosaic.Lib.Pipeline.ValueKit
public import Idealize.ShloMosaic.Adequacy

@[expose] public section

set_option maxRecDepth 16384

noncomputable section

namespace Cert.LossIdeal.At

open Cert.LossIdeal Cert.LossIdeal.Gen Idealize.ShloMosaic Idealize.ShloMosaic.TcCoe
open FwdSpec (tok tok_val)

/-- The tiles make up the sequence. -/
theorem sum_tiles (g : Fin 4096 → EReal) : ∑ t : Fin 8, ∑ r : Fin 512, g (tok t r) = ∑ x : Fin 4096, g x :=
  Fin.sum_mul_add_congr fun t r ha => rfl

variable (m : (ℓ : Loc nD τ sig) → Buf (Elt Ideal) ℓ) (c : Dev nD)

theorem arr5 : (dats m 0 c).arrAt 5 cfg0.N = fun i => FwdSpec.grad (KI m c) (tg m c) (i 0) (i 1) := by
  refine (dats m 0 c).arrAt_eq_of_covers 5 _ (by decide +kernel) fun t hf x => ?_
  blk_simp
  rw [after0_5]
  idx_vars x
  refine (out5 m c t x0 x1).trans ?_
  refine congrArg₂ (FwdSpec.grad (KI m c) (tg m c)) (Fin.ext ?_) (Fin.ext ?_)
  · blk_simp [idx t, tok_val, tile]
  · blk_simp [idx t]

theorem arr6 : (dats m 0 c).arrAt 6 cfg0.N = fun i => FwdSpec.gu (KI m c) (i 0) (i 1) := by
  refine (dats m 0 c).arrAt_eq_of_covers 6 _ (by decide +kernel) fun t hf x => ?_
  blk_simp
  rw [after0_6]
  idx_vars x
  refine (out6 m c t x0 x1).trans ?_
  refine congrArg₂ (FwdSpec.gu (KI m c)) (Fin.ext ?_) (Fin.ext ?_)
  · blk_simp [idx t, tok_val, tile]
  · blk_simp [idx t]

theorem arr7 : (dats m 0 c).arrAt 7 cfg0.N = fun i => FwdSpec.ff (KI m c) (i 0) (i 1) := by
  refine (dats m 0 c).arrAt_eq_of_covers 7 _ (by decide +kernel) fun t hf x => ?_
  blk_simp
  rw [after0_7]
  idx_vars x
  refine (out7 m c t x0 x1).trans ?_
  refine congrArg₂ (FwdSpec.ff (KI m c)) (Fin.ext ?_) (Fin.ext ?_)
  · blk_simp [idx t, tok_val, tile]
  · blk_simp [idx t]

theorem arr8 : (dats m 0 c).arrAt 8 cfg0.N = fun i => FwdSpec.n (KI m c) (i 0) (i 1) := by
  refine (dats m 0 c).arrAt_eq_of_covers 8 _ (by decide +kernel) fun t hf x => ?_
  blk_simp
  rw [after0_8]
  idx_vars x
  refine (out8 m c t x0 x1).trans ?_
  refine congrArg₂ (FwdSpec.n (KI m c)) (Fin.ext ?_) (Fin.ext ?_)
  · blk_simp [idx t, tok_val, tile]
  · blk_simp [idx t]

/-- The column sums after the last point. -/
theorem sums (l : Fin 1024) : (outsAt0 m c t0_7.val t0_7.isLt).2.2.2.2.2 (ix2 0 l)
    = ∑ t : Fin 4096, FwdSpec.err (KI m c) (tg m c) t l * FwdSpec.err (KI m c) (tg m c) t l := by
  rw [Pipeline.eq_sum_fin_of_reset_step_apply_last (fun n h (l : Fin 1024) => (outsAt0 m c n h).2.2.2.2.2 (ix2 0 l)) 8 (fun _ => 0)
    (fun t l => ∑ r : Fin 512, FwdSpec.err (KI m c) (tg m c) (tok (tile t) r) l * FwdSpec.err (KI m c) (tg m c) (tok (tile t) r) l)
    (fun t h l => sumA m c t h l) (fun t h l => sumB m c t h l) (le_of_eq N_0) t0_7 rfl l, zero_add]
  exact sum_tiles fun y => FwdSpec.err (KI m c) (tg m c) y l * FwdSpec.err (KI m c) (tg m c) y l

theorem arr9 : (dats m 0 c).arrAt 9 cfg0.N = fun _ => FwdSpec.loss (KI m c) (tg m c) := by
  refine (dats m 0 c).arrAt_eq_of_after_last 9 t0_7 (by decide +kernel) _ fun x => ?_
  blk_simp
  idx_vars x
  rw [after0_9]
  refine (out9 m c t0_7 rfl x0 x1).trans ?_
  unfold FwdSpec.loss
  rw [Finset.sum_comm]
  exact congrArg _ (Finset.sum_congr rfl fun l _ => sums m c l)

end Cert.LossIdeal.At

namespace Cert.Proof.Loss

open Idealize.ShloMosaic Idealize.SL.Sem

/-- The reference runs, keeps its arguments and leaves its counters at zero. -/
theorem frame_r : Cert.quiescent_LossReferenceIdeal := by
  intro m ρ _
  exact (θ_run Cert.LossReferenceIdeal.defs _ _).mono (fun r h => ⟨fun c => (h c).2.2.2.2.2, sem_eq_zero_of_no_sems (by decide) r.2⟩)
    (Cert.LossReferenceIdeal.Value.run (F := Ideal) m ρ)

/-- Kernel and reference leave the same five arrays. -/
theorem alg : Cert.algebraic_LossIdeal_LossReferenceIdeal := by
  intro m ρ m' ρ' _ hag
  have hin (c : Dev Cert.LossIdeal.nD) : LossReferenceIdeal.At.inp (m' ((c.tc : Thread Cert.LossReferenceIdeal.nD Cert.LossReferenceIdeal.τ).loc Cert.LossReferenceIdeal.main_arg0))
      (m' ((c.tc : Thread Cert.LossReferenceIdeal.nD Cert.LossReferenceIdeal.τ).loc Cert.LossReferenceIdeal.main_arg2))
      (m' ((c.tc : Thread Cert.LossReferenceIdeal.nD Cert.LossReferenceIdeal.τ).loc Cert.LossReferenceIdeal.main_arg3))
      (m' ((c.tc : Thread Cert.LossReferenceIdeal.nD Cert.LossReferenceIdeal.τ).loc Cert.LossReferenceIdeal.main_arg4)) = LossIdeal.At.KI m c := by
    obtain ⟨h0, h1, h2, h3, h4⟩ := hag c
    rw [h0, h2, h3, h4]
    rfl
  have htg (c : Dev Cert.LossIdeal.nD) : LossReferenceIdeal.At.tg (m' ((c.tc : Thread Cert.LossReferenceIdeal.nD Cert.LossReferenceIdeal.τ).loc Cert.LossReferenceIdeal.main_arg1))
      = LossIdeal.At.tg m c := by
    obtain ⟨h0, h1, h2, h3, h4⟩ := hag c
    rw [h1]
    rfl
  refine ⟨fun c i => FwdSpec.grad (LossIdeal.At.KI m c) (LossIdeal.At.tg m c) (i 0) (i 1), fun c i => FwdSpec.gu (LossIdeal.At.KI m c) (i 0) (i 1),
    fun c i => FwdSpec.ff (LossIdeal.At.KI m c) (i 0) (i 1), fun c i => FwdSpec.n (LossIdeal.At.KI m c) (i 0) (i 1),
    fun c _ => FwdSpec.loss (LossIdeal.At.KI m c) (LossIdeal.At.tg m c), (θ_run _ _ _).mono (fun r h c => ?_) (Cert.LossIdeal.Value.run_blocks (F := Ideal) m ρ),
    (θ_run _ _ _).mono (fun r h c => ?_) (Cert.LossReferenceIdeal.Value.run (F := Ideal) m' ρ')⟩
  · obtain ⟨h0, h1, h2, h3, h4, h5⟩ := h c
    exact ⟨h0.trans (LossIdeal.At.arr5 m c), h1.trans (LossIdeal.At.arr6 m c), h2.trans (LossIdeal.At.arr7 m c), h3.trans (LossIdeal.At.arr8 m c),
      h4.trans (LossIdeal.At.arr9 m c), h5⟩
  · obtain ⟨h0, h1, h2, h3, h4, h5⟩ := h c
    refine ⟨h0.trans ((Cert.LossReferenceIdeal.Read.val_main_v55_eq m' c).trans (funext fun i => ?_)),
      h1.trans ((Cert.LossReferenceIdeal.Read.val_main_v56_eq _ _ _).trans (funext fun i => ?_)),
      h2.trans ((Cert.LossReferenceIdeal.Read.val_main_v24_eq _ _ _ _).trans (funext fun i => ?_)),
      h3.trans ((Cert.LossReferenceIdeal.Read.val_main_v57_eq _ _).trans (funext fun i => ?_)),
      h4.trans ((Cert.LossReferenceIdeal.Read.val_main_v58_eq m' c).trans (funext fun i => ?_)), h5⟩
    · idx_vars i
      exact (LossReferenceIdeal.At.grad _ _ _ _ _ i0 i1).trans (congrArg₂ (FwdSpec.grad · · i0 i1) (hin c) (htg c))
    · idx_vars i
      exact (Cert.LossReferenceIdeal.Read.val_main_v56_apply _ _ _ _).trans ((LossReferenceIdeal.At.gu _ _ _
        (m' ((c.tc : Thread Cert.LossReferenceIdeal.nD Cert.LossReferenceIdeal.τ).loc Cert.LossReferenceIdeal.main_arg4)) i0 i1).trans (congrArg (FwdSpec.gu · i0 i1) (hin c)))
    · idx_vars i
      exact (LossReferenceIdeal.At.ff _ _ _ _ i0 i1).trans (congrArg (FwdSpec.ff · i0 i1) (hin c))
    · idx_vars i
      exact (Cert.LossReferenceIdeal.Read.val_main_v57_apply _ _ _).trans ((LossReferenceIdeal.At.n _ _
        (m' ((c.tc : Thread Cert.LossReferenceIdeal.nD Cert.LossReferenceIdeal.τ).loc Cert.LossReferenceIdeal.main_arg3))
        (m' ((c.tc : Thread Cert.LossReferenceIdeal.nD Cert.LossReferenceIdeal.τ).loc Cert.LossReferenceIdeal.main_arg4)) i0 i1).trans (congrArg (FwdSpec.n · i0 i1) (hin c)))
    · idx_vars i
      exact (LossReferenceIdeal.At.loss _ _ _ _ _ i0 i1).trans (congrArg₂ FwdSpec.loss (hin c) (htg c))

end Cert.Proof.Loss

end
-- ==== Proof.FwdFirstRef.lean ====
/- The first layer's forward references are the second layer's, over the gains four rows further on. -/
module

public import proofs.«01_k».proof.Proof.FwdRef
public import proofs.«01_k».proof.Proof.Gen.UpReferenceIdeal.Read
public import proofs.«01_k».proof.Proof.Gen.DownReferenceIdeal.Read

@[expose] public section

set_option maxRecDepth 16384

noncomputable section

namespace Cert.FwdFirst

open Cert.LossReferenceIdeal Idealize.ShloMosaic Idealize.ShloMosaic.TcCoe

variable (x0 : FVec Ideal S4096x1024 .f32) (x1 : FVec Ideal S16x1024 .f32) (x2 : FVec Ideal S4x1024x1408 .bf16)
  (x3 : FVec Ideal S2816x1024 .bf16)

/-- The gains four rows further on: the first layer's stand where the second layer's stood. -/
def next : FVec Ideal S16x1024 .f32 := fun i => x1 (ix2 ⟨(i 0).val - 4, Nat.lt_of_le_of_lt (Nat.sub_le _ _) (i 0).isLt⟩ (i 1))

/-- The first layer's inputs. -/
abbrev inp : FwdSpec.In := LossReferenceIdeal.At.inp x0 (next x1) x2 x3

theorem gain0 : UpReferenceIdeal.Read.val_main_v0 (F := Ideal) x1 = Read.val_main_v0 (F := Ideal) (next x1) := by
  funext i
  idx_vars i
  unfold UpReferenceIdeal.Read.val_main_v0 Read.val_main_v0
  pointwise [next]

theorem gain1 : DownReferenceIdeal.Read.val_main_v25 (F := Ideal) x1 = Read.val_main_v25 (F := Ideal) (next x1) := by
  funext i
  idx_vars i
  unfold DownReferenceIdeal.Read.val_main_v25 Read.val_main_v25
  pointwise [next]

theorem norm : UpReferenceIdeal.Read.val_main_v14 (F := Ideal) x0 x1 = Read.val_main_v14 (F := Ideal) x0 (next x1) := by
  unfold UpReferenceIdeal.Read.val_main_v14 UpReferenceIdeal.Read.val_main_v13 UpReferenceIdeal.Read.val_main_v12 UpReferenceIdeal.Read.val_main_v1
  rw [gain0]
  rfl

theorem proj : UpReferenceIdeal.Read.val_main_v18 (F := Ideal) x0 x1 x2 = Read.val_main_v18 (F := Ideal) x0 (next x1) x2 := by
  unfold UpReferenceIdeal.Read.val_main_v18
  rw [norm]
  rfl

theorem activ : UpReferenceIdeal.Read.val_main_v24 (F := Ideal) x0 x1 x2 = Read.val_main_v22 (F := Ideal) x0 (next x1) x2 := by
  unfold UpReferenceIdeal.Read.val_main_v24 UpReferenceIdeal.Read.val_main_v23 UpReferenceIdeal.Read.val_main_call0_v5 UpReferenceIdeal.Read.val_main_call0_v3
    UpReferenceIdeal.Read.val_main_call0_v1 UpReferenceIdeal.Read.val_main_call0_v0 UpReferenceIdeal.Read.val_main_v21 UpReferenceIdeal.Read.val_main_v22
  rw [proj]
  rfl

theorem activ' : DownReferenceIdeal.Read.val_main_v22 (F := Ideal) x0 x1 x2 = Read.val_main_v22 (F := Ideal) x0 (next x1) x2 :=
  Eq.trans rfl (activ x0 x1 x2)

theorem network : DownReferenceIdeal.Read.val_main_v24 (F := Ideal) x0 x1 x2 x3 = Read.val_main_v24 (F := Ideal) x0 (next x1) x2 x3 := by
  unfold DownReferenceIdeal.Read.val_main_v24
  rw [activ']
  rfl

theorem output : DownReferenceIdeal.Read.val_main_v40 (F := Ideal) x0 x1 x2 x3 = Read.val_main_v40 (F := Ideal) x0 (next x1) x2 x3 := by
  unfold DownReferenceIdeal.Read.val_main_v40 DownReferenceIdeal.Read.val_main_v39 DownReferenceIdeal.Read.val_main_v38 DownReferenceIdeal.Read.val_main_v37
    DownReferenceIdeal.Read.val_main_v36 DownReferenceIdeal.Read.val_main_v35 DownReferenceIdeal.Read.val_main_v34 DownReferenceIdeal.Read.val_main_v33
    DownReferenceIdeal.Read.val_main_v31 DownReferenceIdeal.Read.val_main_v29 DownReferenceIdeal.Read.val_main_v28 DownReferenceIdeal.Read.val_main_v27
    DownReferenceIdeal.Read.val_main_v26
  rw [network, gain1]
  rfl

end Cert.FwdFirst

end
-- ==== Proof.UpFinal.lean ====
/- The forward gate-and-up call's arrays, and its claims. -/
module

public import proofs.«01_k».proof.Proof.UpPay
public import proofs.«01_k».proof.Proof.FwdFirstRef
public import proofs.«01_k».proof.Proof.Gen.UpIdeal.Value
public import proofs.«01_k».proof.Proof.Gen.UpReferenceIdeal.Run
public import proofs.«01_k».proof.Proof.Gen.UpReferenceIdeal.Read
public import proofs.«01_k».proof.Proof.Gen.UpReferenceIdeal
public import proofs.«01_k».proof.Defs
public import Idealize.ShloMosaic.Adequacy

@[expose] public section

set_option maxRecDepth 16384

noncomputable section

namespace Cert.UpIdeal.At

open Cert.UpIdeal Cert.UpIdeal.Gen Idealize.ShloMosaic Idealize.ShloMosaic.TcCoe
open FwdSpec (tok tok_val col)

variable (m : (ℓ : Loc nD τ sig) → Buf (Elt Ideal) ℓ) (c : Dev nD)

/-- The region's input arrays, as the sub-layer's inputs; the output weight plays no part. -/
def KI : FwdSpec.In := FwdFirst.inp (V m c main_arg0) (V m c main_arg1) (V m c main_arg2) (fun _ => 0)

theorem KI_gi (l : Fin 1024) : (KI m c).gi l = V m c main_arg1 (ix2 2 l) := rfl

/-- The tile of grid point `t`. -/
def tile (t : Fin cfg0.N) : Fin 8 := ⟨t.val, t.isLt⟩

/-- The blocks' places in their arrays. -/
theorem idx : ∀ t : Fin cfg0.N, win0_0.index t = ![t.val, 0] ∧ win0_1.index t = ![0, 0] ∧ win0_2.index t = ![0, 0, 0]
    ∧ win0_3.index t = ![t.val, 0] ∧ win0_4.index t = ![t.val, 0] ∧ win0_5.index t = ![t.val, 0] :=
  (by decide +kernel : ∀ t : Fin grid0.N, _)

theorem b0 (t : Fin cfg0.N) (r : Fin 512) (l : Fin 1024) : iblk m c 0 t (ix2 r l) = V m c main_arg0 (ix2 (tok (tile t) r) l) := by
  blk_ext [iblk, tok, tile, idx t]

theorem b1 (t : Fin cfg0.N) (j : Fin 16) (l : Fin 1024) : iblk m c 1 t (ix2 j l) = V m c main_arg1 (ix2 j l) := by
  blk_ext [iblk, idx t]

theorem b2 (t : Fin cfg0.N) (j : Fin 4) (l : Fin 1024) (k : Fin 1408) : iblk m c 2 t (ix3 j l k) = V m c main_arg2 (ix3 j l k) := by
  blk_ext [iblk, idx t]

/-- A grid point's blocks are its tile's. -/
theorem point (t : Fin cfg0.N) : Point (KI m c) (tile t) (iblk m c 0 t) (smRow (iblk m c 1 t) 2 inb_S16x1024_S1x1024_2_0) (iblk m c 2 t) where
  h := b0 m c t
  gi l := ((smRow_at _ 2 _ l).trans (b1 m c t 2 l)).trans (KI_gi m c l).symm
  wi := b2 m c t

section
variable {I : FwdSpec.In} {T : Fin 8} {x0 : Vec Ideal S512x1024 .f32} {x1 : Vec Ideal S16x1024 .f32} {x2 : Vec Ideal S4x1024x1408 .bf16}
variable (P : Point I T x0 (smRow x1 2 inb_S16x1024_S1x1024_2_0) x2)
include P

/-- The three blocks a point writes back. -/
theorem out3 (r : Fin 512) (k : Fin 5632) : out0_3 x0 x1 x2 (ix2 r k) = FwdSpec.gu I (tok T r) k := by
  unfold_out out0_3
  frame_out
  exact gu_whole P (ix2 r k)

theorem out4 (r : Fin 512) (l : Fin 1024) : out0_4 x0 x1 x2 (ix2 r l) = FwdSpec.n I (tok T r) l := by
  unfold_out out0_4
  frame_out
  exact n_at P r l

theorem out5 (r : Fin 512) (k : Fin 2816) : out0_5 x0 x1 x2 (ix2 r k) = FwdSpec.act I (tok T r) k := by
  unfold_out out0_5
  frame_out
  exact act_whole P (ix2 r k)

end

theorem arr3 : (dats m 0 c).arrAt 3 cfg0.N = fun i => FwdSpec.gu (KI m c) (i 0) (i 1) := by
  refine (dats m 0 c).arrAt_eq_of_covers 3 _ (by decide +kernel) fun t hf x => ?_
  blk_simp
  rw [after0_3]
  idx_vars x
  refine (out3 (point m c t) x0 x1).trans ?_
  refine congrArg₂ (FwdSpec.gu (KI m c)) (Fin.ext ?_) (Fin.ext ?_)
  · blk_simp [idx t, tok_val, tile]
  · blk_simp [idx t]

theorem arr4 : (dats m 0 c).arrAt 4 cfg0.N = fun i => FwdSpec.n (KI m c) (i 0) (i 1) := by
  refine (dats m 0 c).arrAt_eq_of_covers 4 _ (by decide +kernel) fun t hf x => ?_
  blk_simp
  rw [after0_4]
  idx_vars x
  refine (out4 (point m c t) x0 x1).trans ?_
  refine congrArg₂ (FwdSpec.n (KI m c)) (Fin.ext ?_) (Fin.ext ?_)
  · blk_simp [idx t, tok_val, tile]
  · blk_simp [idx t]

theorem arr5 : (dats m 0 c).arrAt 5 cfg0.N = fun i => FwdSpec.act (KI m c) (i 0) (i 1) := by
  refine (dats m 0 c).arrAt_eq_of_covers 5 _ (by decide +kernel) fun t hf x => ?_
  blk_simp
  rw [after0_5]
  idx_vars x
  refine (out5 (point m c t) x0 x1).trans ?_
  refine congrArg₂ (FwdSpec.act (KI m c)) (Fin.ext ?_) (Fin.ext ?_)
  · blk_simp [idx t, tok_val, tile]
  · blk_simp [idx t]

end Cert.UpIdeal.At

namespace Cert.Proof.Up

open Idealize.ShloMosaic Idealize.SL.Sem

/-- The reference runs, keeps its arguments and leaves its counters at zero. -/
theorem frame_r : Cert.quiescent_UpReferenceIdeal := by
  intro m ρ _
  exact (θ_run Cert.UpReferenceIdeal.defs _ _).mono (fun r h => ⟨fun c => (h c).2.2.2, sem_eq_zero_of_no_sems (by decide) r.2⟩)
    (Cert.UpReferenceIdeal.Value.run (F := Ideal) m ρ)

/-- Kernel and reference leave the same three arrays. -/
theorem alg : Cert.algebraic_UpIdeal_UpReferenceIdeal := by
  intro m ρ m' ρ' _ hag
  have hin (c : Dev Cert.UpIdeal.nD) : FwdFirst.inp (m' ((c.tc : Thread Cert.UpReferenceIdeal.nD Cert.UpReferenceIdeal.τ).loc Cert.UpReferenceIdeal.main_arg0))
      (m' ((c.tc : Thread Cert.UpReferenceIdeal.nD Cert.UpReferenceIdeal.τ).loc Cert.UpReferenceIdeal.main_arg1))
      (m' ((c.tc : Thread Cert.UpReferenceIdeal.nD Cert.UpReferenceIdeal.τ).loc Cert.UpReferenceIdeal.main_arg2)) (fun _ => 0) = UpIdeal.At.KI m c := by
    obtain ⟨h0, h1, h2⟩ := hag c
    rw [h0, h1, h2]
    rfl
  refine ⟨fun c i => FwdSpec.gu (UpIdeal.At.KI m c) (i 0) (i 1), fun c i => FwdSpec.n (UpIdeal.At.KI m c) (i 0) (i 1),
    fun c i => FwdSpec.act (UpIdeal.At.KI m c) (i 0) (i 1), (θ_run _ _ _).mono (fun r h c => ?_) (Cert.UpIdeal.Value.run_blocks (F := Ideal) m ρ),
    (θ_run _ _ _).mono (fun r h c => ?_) (Cert.UpReferenceIdeal.Value.run (F := Ideal) m' ρ')⟩
  · obtain ⟨h0, h1, h2, h3⟩ := h c
    exact ⟨h0.trans (UpIdeal.At.arr3 m c), h1.trans (UpIdeal.At.arr4 m c), h2.trans (UpIdeal.At.arr5 m c), h3⟩
  · obtain ⟨h0, h1, h2, h3⟩ := h c
    refine ⟨h0.trans ((Cert.UpReferenceIdeal.Read.val_main_v19_eq _ _ _).trans (funext fun i => ?_)),
      h1.trans ((Cert.UpReferenceIdeal.Read.val_main_v20_eq _ _).trans (funext fun i => ?_)),
      h2.trans ((Cert.UpReferenceIdeal.Read.val_main_v25_eq _ _ _).trans (funext fun i => ?_)), h3⟩
    · idx_vars i
      exact (Cert.UpReferenceIdeal.Read.val_main_v19_apply _ _ _ _).trans ((congrFun (FwdFirst.proj _ _ _) _).trans
        ((LossReferenceIdeal.At.gu _ _ _ (fun _ => 0) i0 i1).trans (congrArg (FwdSpec.gu · i0 i1) (hin c))))
    · idx_vars i
      exact (Cert.UpReferenceIdeal.Read.val_main_v20_apply _ _ _).trans ((congrFun (FwdFirst.norm _ _) _).trans
        ((LossReferenceIdeal.At.n _ _ (m' ((c.tc : Thread Cert.UpReferenceIdeal.nD Cert.UpReferenceIdeal.τ).loc Cert.UpReferenceIdeal.main_arg2)) (fun _ => 0) i0 i1).trans (congrArg (FwdSpec.n · i0 i1) (hin c))))
    · idx_vars i
      exact (Cert.UpReferenceIdeal.Read.val_main_v25_apply _ _ _ _).trans ((congrFun (FwdFirst.activ _ _ _) _).trans
        ((LossReferenceIdeal.At.act _ _ _ (fun _ => 0) i0 i1).trans (congrArg (FwdSpec.act · i0 i1) (hin c))))

end Cert.Proof.Up

end
-- ==== Proof.DownFinal.lean ====
/- The forward down-projection call's arrays, and its claims. -/
module

public import proofs.«01_k».proof.Proof.FwdFirstRef
public import proofs.«01_k».proof.Proof.Gen.DownIdeal.Value
public import proofs.«01_k».proof.Proof.Gen.DownReferenceIdeal.Run
public import proofs.«01_k».proof.Proof.Gen.DownReferenceIdeal.Read
public import proofs.«01_k».proof.Proof.Gen.DownReferenceIdeal
public import proofs.«01_k».proof.Defs
public import Idealize.ShloMosaic.Lib.Pointwise
public import Idealize.ShloMosaic.Lib.Pipeline.ReadBack
public import Idealize.ShloMosaic.Lib.Pipeline.ValueKit
public import Idealize.ShloMosaic.Adequacy

@[expose] public section

set_option maxRecDepth 16384

noncomputable section

namespace Cert.DownIdeal.At

open Cert.DownIdeal Cert.DownIdeal.Gen Idealize.ShloMosaic Idealize.ShloMosaic.TcCoe
open FwdSpec (tok tok_val)

/-- A row of the gains. -/
abbrev smRow (v : Vec Ideal S16x1024 .f32) (n : ℕ) (inb : ∀ a, ![n, 0] a + S1x1024.size a ≤ S16x1024.size a) : Vec Ideal S1x1024 .f32 :=
  View.ld v (Rect.unit (s := S16x1024) ![n, 0] S1x1024.size inb)

theorem smRow_at (v : Vec Ideal S16x1024 .f32) (j : Fin 16) (inb) (l : Fin 1024) : smRow v j.val inb (ix2 0 l) = v (ix2 j l) := by
  unfold smRow
  pointwise []

/-- What the blocks of a point hold: the tile's tokens and activation, the second gain, the output weight. -/
structure Point (I : FwdSpec.In) (T : Fin 8) (h : Vec Ideal S512x1024 .f32) (a : Vec Ideal S512x2816 .bf16) (go : Vec Ideal S1x1024 .f32)
    (w : Vec Ideal S2816x1024 .bf16) : Prop where
  h : ∀ r l, h (ix2 r l) = I.h (tok T r) l
  a : ∀ r k, a (ix2 r k) = FwdSpec.act I (tok T r) k
  go : ∀ l, go (ix2 0 l) = I.go l
  wo : ∀ k l, w (ix2 k l) = I.wo k l

section
variable {I : FwdSpec.In} {T : Fin 8} {h : Vec Ideal S512x1024 .f32} {a : Vec Ideal S512x2816 .bf16} {go : Vec Ideal S1x1024 .f32} {w : Vec Ideal S2816x1024 .bf16}
variable (P : Point I T h a go w)
include P

/-- The network's output. -/
theorem ff_at (r : Fin 512) (l : Fin 1024) : k0_pay1 (F := Ideal) a w (ix2 r l) = FwdSpec.ff I (tok T r) l := by
  have ha := P.a
  have hw := P.wo
  unfold k0_pay1
  pointwise [FwdSpec.ff, ha, hw]

/-- The sub-layer's output. -/
theorem out_at (r : Fin 512) (l : Fin 1024) : k0_pay2 (F := Ideal) a w h go (ix2 r l) = FwdSpec.out I (tok T r) l := by
  have hf := ff_at P
  have hh := P.h
  have hg := P.go
  unfold k0_pay2
  pointwise [FwdSpec.out, Rms.rr, Rms.ms, hf, hh, hg]

end

section
variable {I : FwdSpec.In} {T : Fin 8} {x0 : Vec Ideal S512x1024 .f32} {x1 : Vec Ideal S512x2816 .bf16} {x2 : Vec Ideal S16x1024 .f32} {x3 : Vec Ideal S2816x1024 .bf16}
variable (P : Point I T x0 x1 (smRow x2 3 inb_S16x1024_S1x1024_3_0) x3)
include P

/-- The two blocks a point writes back. -/
theorem out4 (r : Fin 512) (l : Fin 1024) : out0_4 x0 x1 x2 x3 (ix2 r l) = FwdSpec.out I (tok T r) l := by
  frame_out
  exact out_at P r l

theorem out5 (r : Fin 512) (l : Fin 1024) : out0_5 x0 x1 x2 x3 (ix2 r l) = FwdSpec.ff I (tok T r) l := by
  frame_out
  exact ff_at P r l

end

variable (m : (ℓ : Loc nD τ sig) → Buf (Elt Ideal) ℓ) (c : Dev nD)

/-- The arguments, as the sub-layer's inputs. -/
def KI : FwdSpec.In := FwdFirst.inp (m ((c : Thread nD τ).loc main_arg0)) (m ((c : Thread nD τ).loc main_arg1)) (m ((c : Thread nD τ).loc main_arg2)) (m ((c : Thread nD τ).loc main_arg3))

theorem KI_go (l : Fin 1024) : (KI m c).go l = m ((c : Thread nD τ).loc main_arg1) (ix2 3 l) := rfl

/-- The activation the region is given is the one the saved projection has. -/
theorem act_in (t : Fin 4096) (k : Fin 2816) : V m c main_v23 (ix2 t k) = FwdSpec.act (KI m c) t k := by
  have h : V m c main_v23 = (truncf (F := Ideal) .bf16 (DownReferenceIdeal.Read.val_main_v22 (F := Ideal) (m ((c : Thread nD τ).loc main_arg0)) (m ((c : Thread nD τ).loc main_arg1)) (m ((c : Thread nD τ).loc main_arg2))) bitsLt_bf16_f32 : FVec Ideal S4096x2816 .bf16) := by
    entry_read
    rfl
  rw [h, FwdFirst.activ']
  exact LossReferenceIdeal.At.act _ _ _ (m ((c : Thread nD τ).loc main_arg3)) t k

/-- The tile of grid point `t`. -/
def tile (t : Fin cfg0.N) : Fin 8 := ⟨t.val, t.isLt⟩

/-- The blocks' places in their arrays. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] :=
  (by decide +kernel : ∀ t : Fin grid0.N, _)

theorem b0 (t : Fin cfg0.N) (r : Fin 512) (l : Fin 1024) : iblk m c 0 t (ix2 r l) = V m c main_arg0 (ix2 (tok (tile t) r) l) := by
  blk_ext [iblk, tok, tile, idx t]

theorem b1 (t : Fin cfg0.N) (r : Fin 512) (k : Fin 2816) : iblk m c 1 t (ix2 r k) = V m c main_v23 (ix2 (tok (tile t) r) k) := by
  blk_ext [iblk, tok, tile, idx t]

theorem b2 (t : Fin cfg0.N) (j : Fin 16) (l : Fin 1024) : iblk m c 2 t (ix2 j l) = V m c main_arg1 (ix2 j l) := by
  blk_ext [iblk, idx t]

theorem b3 (t : Fin cfg0.N) (k : Fin 2816) (l : Fin 1024) : iblk m c 3 t (ix2 k l) = V m c main_arg3 (ix2 k l) := by
  blk_ext [iblk, idx t]

/-- A grid point's blocks are its tile's. -/
theorem point (t : Fin cfg0.N) : Point (KI m c) (tile t) (iblk m c 0 t) (iblk m c 1 t) (smRow (iblk m c 2 t) 3 inb_S16x1024_S1x1024_3_0) (iblk m c 3 t) where
  h r l := (b0 m c t r l).trans (congrFun (V_main_arg0 m c) _)
  a r k := (b1 m c t r k).trans (act_in m c _ k)
  go l := (((smRow_at _ 3 _ l).trans (b2 m c t 3 l)).trans (congrFun (V_main_arg1 m c) _)).trans (KI_go m c l).symm
  wo k l := (b3 m c t k l).trans (congrFun (V_main_arg3 m c) _)

theorem arr4 : (dats m 0 c).arrAt 4 cfg0.N = fun i => FwdSpec.out (KI m c) (i 0) (i 1) := by
  refine (dats m 0 c).arrAt_eq_of_covers 4 _ (by decide +kernel) fun t hf x => ?_
  blk_simp
  rw [after0_4]
  idx_vars x
  refine (out4 (point m c t) x0 x1).trans ?_
  refine congrArg₂ (FwdSpec.out (KI m c)) (Fin.ext ?_) (Fin.ext ?_)
  · blk_simp [idx t, tok_val, tile]
  · blk_simp [idx t]

theorem arr5 : (dats m 0 c).arrAt 5 cfg0.N = fun i => FwdSpec.ff (KI m c) (i 0) (i 1) := by
  refine (dats m 0 c).arrAt_eq_of_covers 5 _ (by decide +kernel) fun t hf x => ?_
  blk_simp
  rw [after0_5]
  idx_vars x
  refine (out5 (point m c t) x0 x1).trans ?_
  refine congrArg₂ (FwdSpec.ff (KI m c)) (Fin.ext ?_) (Fin.ext ?_)
  · blk_simp [idx t, tok_val, tile]
  · blk_simp [idx t]

end Cert.DownIdeal.At

namespace Cert.Proof.Down

open Idealize.ShloMosaic Idealize.SL.Sem

/-- The reference runs, keeps its arguments and leaves its counters at zero. -/
theorem frame_r : Cert.quiescent_DownReferenceIdeal := by
  intro m ρ _
  exact (θ_run Cert.DownReferenceIdeal.defs _ _).mono (fun r h => ⟨fun c => (h c).2.2, sem_eq_zero_of_no_sems (by decide) r.2⟩)
    (Cert.DownReferenceIdeal.Value.run (F := Ideal) m ρ)

/-- Kernel and reference leave the same two arrays. -/
theorem alg : Cert.algebraic_DownIdeal_DownReferenceIdeal := by
  intro m ρ m' ρ' _ hag
  have hin (c : Dev Cert.DownIdeal.nD) : FwdFirst.inp (m' ((c.tc : Thread Cert.DownReferenceIdeal.nD Cert.DownReferenceIdeal.τ).loc Cert.DownReferenceIdeal.main_arg0))
      (m' ((c.tc : Thread Cert.DownReferenceIdeal.nD Cert.DownReferenceIdeal.τ).loc Cert.DownReferenceIdeal.main_arg1))
      (m' ((c.tc : Thread Cert.DownReferenceIdeal.nD Cert.DownReferenceIdeal.τ).loc Cert.DownReferenceIdeal.main_arg2))
      (m' ((c.tc : Thread Cert.DownReferenceIdeal.nD Cert.DownReferenceIdeal.τ).loc Cert.DownReferenceIdeal.main_arg3)) = DownIdeal.At.KI m c := by
    obtain ⟨h0, h1, h2, h3⟩ := hag c
    rw [h0, h1, h2, h3]
    rfl
  refine ⟨fun c i => FwdSpec.out (DownIdeal.At.KI m c) (i 0) (i 1), fun c i => FwdSpec.ff (DownIdeal.At.KI m c) (i 0) (i 1),
    (θ_run _ _ _).mono (fun r h c => ?_) (Cert.DownIdeal.Value.run_blocks (F := Ideal) m ρ),
    (θ_run _ _ _).mono (fun r h c => ?_) (Cert.DownReferenceIdeal.Value.run (F := Ideal) m' ρ')⟩
  · obtain ⟨h0, h1, h2⟩ := h c
    exact ⟨h0.trans (DownIdeal.At.arr4 m c), h1.trans (DownIdeal.At.arr5 m c), h2⟩
  · obtain ⟨h0, h1, h2⟩ := h c
    refine ⟨h0.trans ((Cert.DownReferenceIdeal.Read.val_main_v40_eq m' c).trans (funext fun i => ?_)),
      h1.trans ((Cert.DownReferenceIdeal.Read.val_main_v24_eq _ _ _ _).trans (funext fun i => ?_)), h2⟩
    · idx_vars i
      exact (congrFun (FwdFirst.output _ _ _ _) _).trans ((LossReferenceIdeal.At.out _ _ _ _ i0 i1).trans (congrArg (FwdSpec.out · i0 i1) (hin c)))
    · idx_vars i
      exact (congrFun (FwdFirst.network _ _ _ _) _).trans ((LossReferenceIdeal.At.ff _ _ _ _ i0 i1).trans (congrArg (FwdSpec.ff · i0 i1) (hin c)))

end Cert.Proof.Down

end
-- ==== Proof.PoolSpec.lean ====
/- The forward pass of the pooled mixer, entry by entry, over its inputs; with the sum a window of rows adds up. -/
module

public import proofs.«01_k».proof.Proof.Rms
public import Idealize.ShloMosaic.Lib.Pipeline.ValueKit
public import Idealize.ShloMosaic.Lib.Pointwise
public import Idealize.ShloMosaic.Lib.Routing.OpsOne

@[expose] public section

set_option maxRecDepth 16384

noncomputable section

namespace Cert.FwdPool

open Idealize.ShloMosaic

/-- What the sub-layer is computed from: its input `x`, the small parameters `s` (row 0: the first gain, row 1: the
    second), the column scale `sc`, the four groups' weights `w`. -/
structure In where
  x : Fin 4096 → Fin 1024 → EReal
  s : Fin 16 → Fin 1024 → EReal
  sc : Fin 1024 → EReal
  w : Fin 4 → Fin 256 → Fin 256 → EReal

variable (I : In)

/-- The normalised input. -/
def n (t : Fin 4096) (l : Fin 1024) : EReal := I.x t l * Rms.rr (I.x t) * I.s 0 l

/-- The normalised input after sixteen rows of zeros. -/
def pz (p : ℕ) (l : Fin 1024) : EReal := if h : 16 ≤ p ∧ p - 16 < 4096 then n I ⟨p - 16, h.2⟩ l else 0

theorem pz_at (t : Fin 4096) (l : Fin 1024) (p : ℕ) (hp : p = t.val + 16) : pz I p l = n I t l := by
  rw [pz, dif_pos (by omega)]
  exact congrArg (n I · l) (Fin.ext (by dsimp only; omega))

theorem pz_low (p : ℕ) (hp : p < 16) (l : Fin 1024) : pz I p l = 0 := by rw [pz, dif_neg (by omega)]

/-- The sum of the `w` tokens up to token `t`. -/
def tot (w : ℕ) (t : Fin 4096) (l : Fin 1024) : EReal := ∑ k ∈ Finset.range w, pz I (t.val + 16 - k) l

/-- The number of tokens of a window of `w` up to token `t`. -/
def cnt (w : BitVec 32) (t : Fin 4096) : EReal := FloatOps.sitofp (F := Ideal) .f32 (IntOp.minsi (BitVec.ofNat 32 (t.val + 1)) w)

/-- A group's window, as a number and as a word. -/
def win (g : Fin 4) : ℕ := 2 ^ (g.val + 1)
def winW (g : Fin 4) : BitVec 32 := BitVec.ofNat 32 (win g)

/-- Column `c` of group `g`. -/
def gcol (g : Fin 4) (c : Fin 256) : Fin 1024 := ⟨g.val * 256 + c.val, by omega⟩

/-- The pooled group: the window's mean less the token. -/
def pd (g : Fin 4) (t : Fin 4096) (c : Fin 256) : EReal :=
  Ideal.div (tot I (win g) t (gcol g c)) (cnt (winW g) t) - n I t (gcol g c)

/-- The group mixed. -/
def mm (g : Fin 4) (t : Fin 4096) (x : Fin 256) : EReal := ∑ c : Fin 256, pd I g t c * I.w g c x

/-- The mixer's output. -/
def mix (t : Fin 4096) (l : Fin 1024) : EReal := mm I ⟨l.val / 256, by omega⟩ t ⟨l.val % 256, by omega⟩ * I.sc l

theorem mm_at (g : Fin 4) (t : Fin 4096) (x : Fin 256) (l : Fin 1024) (h : l.val = g.val * 256 + x.val) :
    mm I ⟨l.val / 256, by omega⟩ t ⟨l.val % 256, by omega⟩ = mm I g t x := by
  rw [show (⟨l.val / 256, by omega⟩ : Fin 4) = g from Fin.ext (by dsimp only; omega),
    show (⟨l.val % 256, by omega⟩ : Fin 256) = x from Fin.ext (by dsimp only; omega)]

theorem mix_at (g : Fin 4) (t : Fin 4096) (x : Fin 256) (l : Fin 1024) (h : l.val = g.val * 256 + x.val) :
    mix I t l = mm I g t x * I.sc l := by rw [mix, mm_at I g t x l h]

/-- The sub-layer's output. -/
def o (t : Fin 4096) (l : Fin 1024) : EReal := I.x t l + mix I t l * Rms.rr (mix I t) * I.s 1 l

end Cert.FwdPool

namespace Cert.Window

open Idealize.ShloMosaic Idealize.ShloMosaic.Routing

/-- A fold that adds is the start plus the sum. -/
theorem foldl_add {α : Type} (f : α → EReal) (L : List α) (r : EReal) : L.foldl (fun r n => r + f n) r = r + (L.map f).sum := by
  induction L generalizing r with
  | nil => simp
  | cons a L ih => rw [List.foldl_cons, ih, List.map_cons, List.sum_cons, add_assoc]

/-- A row of an array, zero outside it. -/
def rowZ {A C : ℕ} (x : FVec Ideal (shape2 A C) .f32) (p : ℕ) (c : Fin C) : EReal := if h : p < A then x (ix2 ⟨p, h⟩ c) else 0

/-- The sum over a window of `w` rows, the array padded with `lo` rows of zeros at its start and some at its end. -/
theorem sum_at {A B C w lo hi : ℕ} (h : (shape2 A C).ReduceWindows ![w, 1] ![1, 1] ![lo, 0] ![hi, 0] (shape2 B C))
    (x : FVec Ideal (shape2 A C) .f32) (init : (⟨0, ![]⟩ : Shape).Idx → EReal) (hu) (h0 : ∀ i, init i = 0) (t : Fin B) (c : Fin C) :
    Host.reduceWindowAdd (F := Ideal) (φ := .f32) (u := ⟨0, ![]⟩) ![w, 1] ![1, 1] ![lo, 0] ![hi, 0] x init h hu (ix2 t c)
      = ∑ k ∈ Finset.range w, if lo ≤ t.val + k then rowZ x (t.val + k - lo) c else 0 := by
  show Ideal.hostReduceWindowAdd ![w, 1] ![1, 1] ![lo, 0] ![hi, 0] h x (init (Shape.Idx.first hu)) (ix2 t c) = _
  rw [h0]
  unfold Ideal.hostReduceWindowAdd Host.reduceWindow
  refine (foldl_add _ _ _).trans ((zero_add _).trans ?_)
  refine (congrArg List.sum (List.map_congr_left (g := fun n : Fin (shape2 w 1).numel => if lo ≤ t.val + n.val then rowZ x (t.val + n.val - lo) c else 0) fun n _ => ?_)).trans ?_
  · have w0 : ((shape2 w 1).rowMajor.symm n 0).val = n.val := by rw [symm_col]; rfl
    have w1 : ((shape2 w 1).rowMajor.symm n 1).val = 0 := by rw [symm_col]; rfl
    dsimp only
    split
    · next hin =>
      have h0 := hin 0
      change lo ≤ t.val * 1 + ((shape2 w 1).rowMajor.symm n 0).val ∧ t.val * 1 + ((shape2 w 1).rowMajor.symm n 0).val - lo < A at h0
      rw [w0, Nat.mul_one] at h0
      rw [if_pos h0.1, rowZ, dif_pos h0.2]
      refine congrArg x (funext fun a => Fin.ext ?_)
      match a with
      | ⟨0, _⟩ =>
        show t.val * 1 + ((shape2 w 1).rowMajor.symm n 0).val - lo = t.val + n.val - lo
        rw [w0, Nat.mul_one]
      | ⟨1, _⟩ =>
        show c.val * 1 + ((shape2 w 1).rowMajor.symm n 1).val - 0 = c.val
        rw [w1]; omega
    · next hin =>
      have hc : ¬(lo ≤ t.val + n.val ∧ t.val + n.val - lo < A) := fun hc => hin fun a => by
        match a with
        | ⟨0, _⟩ =>
          show lo ≤ t.val * 1 + ((shape2 w 1).rowMajor.symm n 0).val ∧ t.val * 1 + ((shape2 w 1).rowMajor.symm n 0).val - lo < A
          rw [w0, Nat.mul_one]; exact hc
        | ⟨1, _⟩ =>
          show 0 ≤ c.val * 1 + ((shape2 w 1).rowMajor.symm n 1).val ∧ c.val * 1 + ((shape2 w 1).rowMajor.symm n 1).val - 0 < C
          rw [w1]; exact ⟨Nat.zero_le _, by have := c.isLt; omega⟩
      by_cases hl : lo ≤ t.val + n.val
      · rw [if_pos hl, rowZ, dif_neg fun hA => hc ⟨hl, hA⟩]
      · rw [if_neg hl]
  refine (congrArg List.sum (map_finRange_val _ fun k => if lo ≤ t.val + k then rowZ x (t.val + k - lo) c else 0)).trans ?_
  rw [numel_col]
  rfl

end Cert.Window

namespace Cert.FwdPool

open Idealize.ShloMosaic Idealize.ShloMosaic.Routing

variable (I : In)

/-- The window sum of a group of columns, the window reaching back from each token. -/
theorem tot_of (g : Fin 4) (x : FVec Ideal (shape2 4096 256) .f32) (hx : ∀ t c, x (ix2 t c) = n I t (gcol g c)) {w lo : ℕ} (hlo : lo + 1 = w)
    (hw : w ≤ 16) (h : (shape2 4096 256).ReduceWindows ![w, 1] ![1, 1] ![lo, 0] ![0, 0] (shape2 4096 256))
    (init : (⟨0, ![]⟩ : Shape).Idx → EReal) (hu) (h0 : ∀ i, init i = 0) (t : Fin 4096) (c : Fin 256) :
    Host.reduceWindowAdd (F := Ideal) (φ := .f32) (u := ⟨0, ![]⟩) ![w, 1] ![1, 1] ![lo, 0] ![0, 0] x init h hu (ix2 t c) = tot I w t (gcol g c) := by
  rw [Window.sum_at h x init hu h0 t c, tot, ← Finset.sum_range_reflect]
  refine Finset.sum_congr rfl fun k hk => ?_
  have hk := Finset.mem_range.mp hk
  by_cases hc : k ≤ t.val
  · rw [if_pos (by omega), Window.rowZ, dif_pos (by omega), hx, pz_at I ⟨t.val + (w - 1 - k) - lo, by omega⟩ _ _ (by dsimp only; omega)]
  · rw [if_neg (by omega), pz_low _ _ (by omega)]

/-- Each entry plus the one `k` rows before it, around the end of 528 rows. -/
def dbl (f : ℕ → EReal) (k : ℕ) (a : ℕ) : EReal := f a + f ((a + 528 - k) % 528)

/-- Window sums of `w` rows so added are window sums of twice as many. -/
theorem dbl_sum (f : ℕ → EReal) {u : ℕ → EReal} {w : ℕ} (hu : ∀ a, w ≤ a + 1 → a < 528 → u a = ∑ k ∈ Finset.range w, f (a - k)) (a : ℕ)
    (h : w + w ≤ a + 1) (ha : a < 528) : dbl u w a = ∑ k ∈ Finset.range (w + w), f (a - k) := by
  rw [dbl, Finset.sum_range_add, show (a + 528 - w) % 528 = a - w by omega, hu a (by omega) ha, hu (a - w) (by omega) (by omega)]
  exact congrArg _ (Finset.sum_congr rfl fun k _ => by rw [Nat.sub_sub])

theorem dbl1 (f : ℕ → EReal) (a : ℕ) (h : 2 ≤ a + 1) (ha : a < 528) : dbl f 1 a = ∑ k ∈ Finset.range 2, f (a - k) :=
  dbl_sum f (fun a _ _ => by simp) a h ha
theorem dbl2 (f : ℕ → EReal) (a : ℕ) (h : 4 ≤ a + 1) (ha : a < 528) : dbl (dbl f 1) 2 a = ∑ k ∈ Finset.range 4, f (a - k) :=
  dbl_sum f (dbl1 f) a h ha
theorem dbl4 (f : ℕ → EReal) (a : ℕ) (h : 8 ≤ a + 1) (ha : a < 528) : dbl (dbl (dbl f 1) 2) 4 a = ∑ k ∈ Finset.range 8, f (a - k) :=
  dbl_sum f (dbl2 f) a h ha
theorem dbl8 (f : ℕ → EReal) (a : ℕ) (h : 16 ≤ a + 1) (ha : a < 528) : dbl (dbl (dbl (dbl f 1) 2) 4) 8 a = ∑ k ∈ Finset.range 16, f (a - k) :=
  dbl_sum f (dbl4 f) a h ha

end Cert.FwdPool

end
-- ==== Proof.PoolPay.lean ====
/- What a grid point of the forward pooling kernel computes, entry by entry. -/
module

public import proofs.«01_k».proof.Proof.PoolSpec
public import proofs.«01_k».proof.Proof.FwdSpec
public import proofs.«01_k».proof.Proof.Gen.PoolIdeal.Value
public import Idealize.ShloMosaic.Lib.Pointwise
public import Idealize.ShloMosaic.Lib.Pipeline.ReadBack
public import Idealize.ShloMosaic.Lib.Pipeline.ValueKit

@[expose] public section

set_option maxRecDepth 16384

noncomputable section

namespace Cert.PoolIdeal.At

open Cert.PoolIdeal Cert.PoolIdeal.Gen Idealize.ShloMosaic Idealize.ShloMosaic.TcCoe
open FwdSpec (tok tok_val)
open FwdPool (pz gcol tot win winW cnt dbl)

/-- A row of the small parameters. -/
abbrev smRow (v : Vec Ideal S16x1024 .f32) (n : ℕ) (inb : ∀ a, ![n, 0] a + S1x1024.size a ≤ S16x1024.size a) : Vec Ideal S1x1024 .f32 :=
  View.ld v (Rect.unit (s := S16x1024) ![n, 0] S1x1024.size inb)

/-- A group's weights, and its part of the scale. -/
abbrev wBlk (v : Vec Ideal S4x256x256 .bf16) (n : ℕ) (inb : ∀ a, ![n, 0, 0] a + S1x256x256.size a ≤ S4x256x256.size a) : Vec Ideal S1x256x256 .bf16 :=
  View.ld v (Rect.unit (s := S4x256x256) ![n, 0, 0] S1x256x256.size inb)
abbrev scBlk (v : Vec Ideal S1x1024 .f32) (b : ℕ) (inb : ∀ a, ![0, b] a + S1x256.size a ≤ S1x1024.size a) : Vec Ideal S1x256 .f32 :=
  View.ld v (Rect.unit (s := S1x1024) ![0, b] S1x256.size inb)

theorem smRow_at (v : Vec Ideal S16x1024 .f32) (j : Fin 16) (inb) (l : Fin 1024) : smRow v j.val inb (ix2 0 l) = v (ix2 j l) := by
  unfold smRow
  pointwise []

theorem wBlk_at (v : Vec Ideal S4x256x256 .bf16) (j : Fin 4) (inb) (l x : Fin 256) : wBlk v j.val inb (ix3 0 l x) = v (ix3 j l x) := by
  unfold wBlk
  pointwise []

theorem scBlk_at (v : Vec Ideal S1x1024 .f32) (g : Fin 4) (b : ℕ) (hb : b = g.val * 256) (inb) (x : Fin 256) : scBlk v b inb (ix2 0 x) = v (ix2 0 (gcol g x)) := by
  subst hb
  unfold scBlk
  pointwise [gcol]

/-- What the blocks hold at tile `T`. -/
structure Point (I : FwdPool.In) (T : Fin 8) (h : Vec Ideal S512x1024 .f32) (s : Vec Ideal S16x1024 .f32) (sc : Vec Ideal S1x1024 .f32)
    (w : Vec Ideal S4x256x256 .bf16) : Prop where
  x : ∀ r l, h (ix2 r l) = I.x (tok T r) l
  s : ∀ j l, s (ix2 j l) = I.s j l
  sc : ∀ l, sc (ix2 0 l) = I.sc l
  w : ∀ g c x, w (ix3 g c x) = I.w g c x

variable {I : FwdPool.In} {T : Fin 8} {h : Vec Ideal S512x1024 .f32} {s : Vec Ideal S16x1024 .f32} {sc : Vec Ideal S1x1024 .f32}
  {w : Vec Ideal S4x256x256 .bf16}

section

/-- The number of tokens seen, as the kernel counts it. -/
theorem seen (T : Fin 8) (r : Fin 512) :
    IntOp.addi (IntOp.addi (Scalar.muli (BitVec.ofNat 32 T.val) 512#32) (BitVec.ofNat 32 r.val)) 1#32 = BitVec.ofNat 32 ((tok T r).val + 1) := by
  refine BitVec.eq_of_toNat_eq ?_
  show ((BitVec.ofNat 32 T.val * 512#32 + BitVec.ofNat 32 r.val) + 1#32).toNat = _
  rw [tok_val]
  simp only [BitVec.toNat_add, BitVec.toNat_mul, BitVec.toNat_ofNat]
  omega

/-- The window's tokens, counted in rows of the scratch. -/
theorem tot_tile (u : ℕ) (hu : u ≤ 16) (r : Fin 512) (l : Fin 1024) :
    ∑ k ∈ Finset.range u, pz I (T.val * 512 + (16 + r.val - k)) l = tot I u (tok T r) l := by
  refine Finset.sum_congr rfl fun k hk => ?_
  have := Finset.mem_range.mp hk
  rw [tok_val]
  exact congrArg (pz I · l) (by omega)

theorem n_tile (r : Fin 512) (l : Fin 1024) : pz I (T.val * 512 + (16 + r.val)) l = FwdPool.n I (tok T r) l :=
  FwdPool.pz_at I (tok T r) l _ (by rw [tok_val]; omega)

/-- The first group's window sums, from the scratch's columns. -/
theorem tot0 (r : Fin 512) (l : Fin 1024) : tot I (win 0) (tok T r) l = dbl (fun q => pz I (T.val * 512 + q) l) 1 (16 + r.val) :=
  (tot_tile 2 (by omega) r l).symm.trans (FwdPool.dbl1 (fun q => pz I (T.val * 512 + q) l) _ (by omega) (by omega)).symm
theorem tot1 (r : Fin 512) (l : Fin 1024) : tot I (win 1) (tok T r) l = dbl (dbl (fun q => pz I (T.val * 512 + q) l) 1) 2 (16 + r.val) :=
  (tot_tile 4 (by omega) r l).symm.trans (FwdPool.dbl2 (fun q => pz I (T.val * 512 + q) l) _ (by omega) (by omega)).symm
theorem tot2 (r : Fin 512) (l : Fin 1024) : tot I (win 2) (tok T r) l = dbl (dbl (dbl (fun q => pz I (T.val * 512 + q) l) 1) 2) 4 (16 + r.val) :=
  (tot_tile 8 (by omega) r l).symm.trans (FwdPool.dbl4 (fun q => pz I (T.val * 512 + q) l) _ (by omega) (by omega)).symm
theorem tot3 (r : Fin 512) (l : Fin 1024) : tot I (win 3) (tok T r) l = dbl (dbl (dbl (dbl (fun q => pz I (T.val * 512 + q) l) 1) 2) 4) 8 (16 + r.val) :=
  (tot_tile 16 (by omega) r l).symm.trans (FwdPool.dbl8 (fun q => pz I (T.val * 512 + q) l) _ (by omega) (by omega)).symm

theorem win0 : winW 0 = 2#32 := rfl
theorem win1 : winW 1 = 4#32 := rfl
theorem win2 : winW 2 = 8#32 := rfl
theorem win3 : winW 3 = 16#32 := rfl

variable {e : Vec Ideal S528x256 .f32} {wb : Vec Ideal S1x256x256 .bf16} {sb : Vec Ideal S1x256 .f32} {a : BitVec 32} (r : Fin 512) (x : Fin 256)

theorem mixed0 (he : ∀ q c, e (ix2 q c) = pz I (T.val * 512 + q.val) (gcol 0 c)) (hw : ∀ c x, wb (ix3 0 c x) = I.w 0 c x)
    (hs : ∀ x, sb (ix2 0 x) = I.sc (gcol 0 x)) (i : grid0.Coords) (hi : (i 0).val = T.val) :
    k0_pay7 (F := Ideal) e (k0_pay5 e) (k0_pay6 i) wb sb (ix2 r x) = FwdPool.mm I 0 (tok T r) x * I.sc (gcol 0 x) := by
  have ht := fun l => tot0 (I := I) (T := T) r l
  have hn := fun l => n_tile (I := I) (T := T) r l
  have hk := seen T r
  unfold k0_pay7 k0_pay6 k0_pay5
  rw [hi]
  pointwise [FwdPool.mm, FwdPool.pd, cnt, dbl, he, hw, hs, ht, hn, hk, win0]

theorem mixed1 (he : ∀ q c, e (ix2 q c) = pz I (T.val * 512 + q.val) (gcol 1 c)) (hw : ∀ c x, wb (ix3 0 c x) = I.w 1 c x)
    (hs : ∀ x, sb (ix2 0 x) = I.sc (gcol 1 x)) (ha : a = BitVec.ofNat 32 T.val) :
    k0_pay10 (F := Ideal) (k0_pay8 a e wb) (k0_pay9 sb) (ix2 r x) = FwdPool.mm I 1 (tok T r) x * I.sc (gcol 1 x) := by
  have ht := fun l => tot1 (I := I) (T := T) r l
  have hn := fun l => n_tile (I := I) (T := T) r l
  have hk := seen T r
  subst ha
  unfold k0_pay10 k0_pay9 k0_pay8
  pointwise [FwdPool.mm, FwdPool.pd, cnt, dbl, he, hw, hs, ht, hn, hk, win1]

theorem mixed2 (he : ∀ q c, e (ix2 q c) = pz I (T.val * 512 + q.val) (gcol 2 c)) (hw : ∀ c x, wb (ix3 0 c x) = I.w 2 c x)
    (hs : ∀ x, sb (ix2 0 x) = I.sc (gcol 2 x)) (ha : a = BitVec.ofNat 32 T.val) :
    k0_pay11 (F := Ideal) a e wb sb (ix2 r x) = FwdPool.mm I 2 (tok T r) x * I.sc (gcol 2 x) := by
  have ht := fun l => tot2 (I := I) (T := T) r l
  have hn := fun l => n_tile (I := I) (T := T) r l
  have hk := seen T r
  subst ha
  unfold k0_pay11
  pointwise [FwdPool.mm, FwdPool.pd, cnt, dbl, he, hw, hs, ht, hn, hk, win2]

set_option maxHeartbeats 1600000 in
theorem mixed3 (he : ∀ q c, e (ix2 q c) = pz I (T.val * 512 + q.val) (gcol 3 c)) (hw : ∀ c x, wb (ix3 0 c x) = I.w 3 c x)
    (hs : ∀ x, sb (ix2 0 x) = I.sc (gcol 3 x)) (ha : a = BitVec.ofNat 32 T.val) :
    k0_pay12 (F := Ideal) (Scalar.muli a 512#32) e wb sb (ix2 r x) = FwdPool.mm I 3 (tok T r) x * I.sc (gcol 3 x) := by
  have ht := fun l => tot3 (I := I) (T := T) r l
  have hn := fun l => n_tile (I := I) (T := T) r l
  have hk := seen T r
  subst ha
  unfold k0_pay12
  pointwise [FwdPool.mm, FwdPool.pd, cnt, dbl, he, hw, hs, ht, hn, hk, win3]

/-- What a point writes back, from the mixer's output. -/
theorem res (hx : ∀ r l, h (ix2 r l) = I.x (tok T r) l) {y : Vec Ideal S512x1024 .f32} (hy : ∀ r l, y (ix2 r l) = FwdPool.mix I (tok T r) l)
    {v : Vec Ideal S1x1024 .f32} (hv : ∀ l, v (ix2 0 l) = I.s 1 l) (l : Fin 1024) :
    k0_pay1 (F := Ideal) h y (k0_pay13 y) v (ix2 r l) = FwdPool.o I (tok T r) l := by
  unfold k0_pay1 k0_pay13
  pointwise [FwdPool.o, Rms.rr, Rms.ms, hx, hv, hy]

end

/-- A group's columns read from what was stored. -/
theorem ext_read (L : List (View.Piece (Elt Ideal) S528x1024 .f32)) (g : Fin 4) (b : ℕ) (hb : b = g.val * 256)
    (inb : ∀ i, ![0, b] i + S528x256.size i ≤ S528x1024.size i) (q : Fin 528) (c : Fin 256) :
    (View.whole cc0_scratch0).readCov (Val := Elt Ideal) L (Rect.unit (s := S528x1024) ![0, b] S528x256.size inb).toLoadRect (ix2 q c)
      = View.canon L (ix2 q (gcol g c)) := by
  subst hb
  rw [View.readCov_eq_canon']
  blk_simp
  refine congrArg (View.canon L) (funext fun a => Fin.ext ?_)
  rw [Rect.idx_unit_val]
  fin_cases a
  · exact Nat.zero_add _
  · exact rfl

theorem mix_read (L : List (View.Piece (Elt Ideal) S512x1024 .f32)) (r : Fin 512) (l : Fin 1024) :
    (View.whole cc0_scratch1).readCov (Val := Elt Ideal) L (Rect.unit (s := S512x1024) ![0, 0] S512x1024.size inb_S512x1024_S512x1024_0_0).toLoadRect (ix2 r l)
      = View.canon L (ix2 r l) := by
  rw [View.readCov_eq_canon']
  blk_simp
  refine congrArg (View.canon L) (funext fun a => Fin.ext ?_)
  rw [Rect.idx_unit_val]
  fin_cases a
  · exact Nat.zero_add _
  · exact Nat.zero_add _

/-- What the first sixteen rows must hold. -/
def Tail (I : FwdPool.In) (T : Fin 8) (v : Vec Ideal S16x1024 .f32) : Prop :=
  ∀ (i : Fin 16) (l : Fin 1024), v (ix2 i l) = pz I (T.val * 512 + i.val) l

/-- The normalised input in the scratch: the sixteen rows before the tile, then the tile. -/
abbrev rows (h : Vec Ideal S512x1024 .f32) (s : Vec Ideal S16x1024 .f32) (v : Vec Ideal S16x1024 .f32) : List (View.Piece (Elt Ideal) S528x1024 .f32) :=
  [⟨Rect.unit (s := S528x1024) ![16, 0] S512x1024.size inb_S528x1024_S512x1024_16_0, k0_pay4 (F := Ideal) h (smRow s 0 inb_S16x1024_S1x1024_0_0)⟩,
    ⟨Rect.unit (s := S528x1024) ![0, 0] S16x1024.size inb_S528x1024_S16x1024_0_0, v⟩]

/-- A group's columns of it, read back. -/
abbrev ext (h : Vec Ideal S512x1024 .f32) (s : Vec Ideal S16x1024 .f32) (v : Vec Ideal S16x1024 .f32) (b : ℕ)
    (inb : ∀ i, ![0, b] i + S528x256.size i ≤ S528x1024.size i) : Vec Ideal S528x256 .f32 :=
  (View.whole cc0_scratch0).readCov (Val := Elt Ideal) (rows h s v) (Rect.unit (s := S528x1024) ![0, b] S528x256.size inb).toLoadRect

/-- The mixer's output as the body stores it, a group of columns at a time. -/
abbrev mixes (i : grid0.Coords) (h : Vec Ideal S512x1024 .f32) (s : Vec Ideal S16x1024 .f32) (sc : Vec Ideal S1x1024 .f32) (w : Vec Ideal S4x256x256 .bf16)
    (v : Vec Ideal S16x1024 .f32) : List (View.Piece (Elt Ideal) S512x1024 .f32) :=
  [⟨Rect.unit (s := S512x1024) ![0, 768] S512x256.size inb_S512x1024_S512x256_0_768,
      k0_pay12 (F := Ideal) (Scalar.muli (BitVec.ofNat 32 (i 0).val) 512#32) (ext h s v 768 inb_S528x1024_S528x256_0_768)
        (wBlk w 3 inb_S4x256x256_S1x256x256_3_0_0) (scBlk sc 768 inb_S1x1024_S1x256_0_768)⟩,
    ⟨Rect.unit (s := S512x1024) ![0, 512] S512x256.size inb_S512x1024_S512x256_0_512,
      k0_pay11 (F := Ideal) (BitVec.ofNat 32 (i 0).val) (ext h s v 512 inb_S528x1024_S528x256_0_512)
        (wBlk w 2 inb_S4x256x256_S1x256x256_2_0_0) (scBlk sc 512 inb_S1x1024_S1x256_0_512)⟩,
    ⟨Rect.unit (s := S512x1024) ![0, 256] S512x256.size inb_S512x1024_S512x256_0_256,
      k0_pay10 (F := Ideal) (k0_pay8 (BitVec.ofNat 32 (i 0).val) (ext h s v 256 inb_S528x1024_S528x256_0_256)
        (wBlk w 1 inb_S4x256x256_S1x256x256_1_0_0)) (k0_pay9 (scBlk sc 256 inb_S1x1024_S1x256_0_256))⟩,
    ⟨Rect.unit (s := S512x1024) ![0, 0] S512x256.size inb_S512x1024_S512x256_0_0,
      k0_pay7 (F := Ideal) (ext h s v 0 inb_S528x1024_S528x256_0_0) (k0_pay5 (ext h s v 0 inb_S528x1024_S528x256_0_0)) (k0_pay6 i)
        (wBlk w 0 inb_S4x256x256_S1x256x256_0_0_0) (scBlk sc 0 inb_S1x1024_S1x256_0_0)⟩]

variable (P : Point I T h s sc w)
include P

theorem row_at (j : Fin 16) (inb) (l : Fin 1024) : smRow s j.val inb (ix2 0 l) = I.s j l := (smRow_at s j inb l).trans (P.s j l)

/-- The normalised input. -/
theorem n_at (r : Fin 512) (l : Fin 1024) : k0_pay4 (F := Ideal) h (smRow s 0 inb_S16x1024_S1x1024_0_0) (ix2 r l) = FwdPool.n I (tok T r) l := by
  have hh := P.x
  have hg : ∀ l, smRow s 0 inb_S16x1024_S1x1024_0_0 (ix2 0 l) = I.s 0 l := row_at P 0 _
  generalize smRow s 0 inb_S16x1024_S1x1024_0_0 = v at hg ⊢
  unfold k0_pay4
  pointwise [FwdPool.n, Rms.rr, Rms.ms, hh, hg]

variable {v : Vec Ideal S16x1024 .f32} (C : Tail I T v)
include C

theorem rows_at (i : S528x1024.Idx) : View.canon (rows h s v) i = pz I (T.val * 512 + (i 0).val) (i 1) := by
  unfold rows
  have hu := n_at P
  generalize k0_pay4 (F := Ideal) h (smRow s 0 inb_S16x1024_S1x1024_0_0) = u at hu ⊢
  canon_tiles x hx using View.cover_of_tiledBy (s := S528x1024) (Val := Elt Ideal) (e := .f32) _ ![16, 1024] (by sl_kernel_rfl) _
  · idx_vars x
    have e0 : (i 0).val = 16 + x0.val := hx0
    have e1 : i 1 = x1 := Fin.ext hx1
    rw [e1, e0]
    exact (hu x0 x1).trans (n_tile x0 x1).symm
  · idx_vars x
    have e0 : (i 0).val = x0.val := hx0
    have e1 : i 1 = x1 := Fin.ext hx1
    rw [e1, e0]
    exact C x0 x1

theorem ext_at (g : Fin 4) (b : ℕ) (hb : b = g.val * 256) (inb) (q : Fin 528) (c : Fin 256) :
    ext h s v b inb (ix2 q c) = pz I (T.val * 512 + q.val) (gcol g c) :=
  (ext_read _ g b hb inb q c).trans (rows_at P C _)

/-- The mixer's output so stored, whole. -/
theorem mixes_at (i : grid0.Coords) (hi : (i 0).val = T.val) (j : S512x1024.Idx) : View.canon (mixes i h s sc w v) j = FwdPool.mix I (tok T (j 0)) (j 1) := by
  have ha : BitVec.ofNat 32 (i 0).val = BitVec.ofNat 32 T.val := by rw [hi]
  unfold mixes
  canon_tiles x hx
  · idx_vars x
    rw [show j 0 = x0 from Fin.ext hx0, FwdPool.mix_at I 3 _ x1 (j 1) hx1, show j 1 = gcol 3 x1 from Fin.ext hx1]
    exact mixed3 x0 x1 (ext_at P C 3 768 rfl _) (fun c x => (wBlk_at w 3 _ c x).trans (P.w 3 c x)) (fun x => (scBlk_at sc 3 768 rfl _ x).trans (P.sc _)) ha
  · idx_vars x
    rw [show j 0 = x0 from Fin.ext hx0, FwdPool.mix_at I 2 _ x1 (j 1) hx1, show j 1 = gcol 2 x1 from Fin.ext hx1]
    exact mixed2 x0 x1 (ext_at P C 2 512 rfl _) (fun c x => (wBlk_at w 2 _ c x).trans (P.w 2 c x)) (fun x => (scBlk_at sc 2 512 rfl _ x).trans (P.sc _)) ha
  · idx_vars x
    rw [show j 0 = x0 from Fin.ext hx0, FwdPool.mix_at I 1 _ x1 (j 1) hx1, show j 1 = gcol 1 x1 from Fin.ext hx1]
    exact mixed1 x0 x1 (ext_at P C 1 256 rfl _) (fun c x => (wBlk_at w 1 _ c x).trans (P.w 1 c x)) (fun x => (scBlk_at sc 1 256 rfl _ x).trans (P.sc _)) ha
  · idx_vars x
    have e1 : (j 1).val = 0 * 256 + x1.val := by rw [Nat.zero_mul, Nat.zero_add]; exact hx1
    rw [show j 0 = x0 from Fin.ext hx0, FwdPool.mix_at I 0 _ x1 (j 1) e1, show j 1 = gcol 0 x1 from Fin.ext e1]
    exact mixed0 x0 x1 (ext_at P C 0 0 rfl _) (fun c x => (wBlk_at w 0 _ c x).trans (P.w 0 c x)) (fun x => (scBlk_at sc 0 0 rfl _ x).trans (P.sc _)) i hi

omit P C in
/-- It read back. -/
abbrev mixW (i : grid0.Coords) (h : Vec Ideal S512x1024 .f32) (s : Vec Ideal S16x1024 .f32) (sc : Vec Ideal S1x1024 .f32) (w : Vec Ideal S4x256x256 .bf16)
    (v : Vec Ideal S16x1024 .f32) : Vec Ideal S512x1024 .f32 :=
  (View.whole cc0_scratch1).readCov (Val := Elt Ideal) (mixes i h s sc w v)
    (Rect.unit (s := S512x1024) ![0, 0] S512x1024.size inb_S512x1024_S512x1024_0_0).toLoadRect

/-- The sub-layer's output. -/
theorem o_at (i : grid0.Coords) (hi : (i 0).val = T.val) (r : Fin 512) (l : Fin 1024) :
    k0_pay1 (F := Ideal) h (mixW i h s sc w v) (k0_pay13 (mixW i h s sc w v)) (smRow s 1 inb_S16x1024_S1x1024_1_0) (ix2 r l) = FwdPool.o I (tok T r) l :=
  res r P.x (fun r l => (mix_read _ r l).trans (mixes_at P C i hi _)) (fun l => row_at P 1 _ l) l

end Cert.PoolIdeal.At

end
-- ==== Proof.PoolOut.lean ====
/- What each grid point of the forward pooling kernel leaves in its output block. -/
module

public import proofs.«01_k».proof.Proof.PoolPay

@[expose] public section

set_option maxRecDepth 16384

noncomputable section

namespace Cert.PoolIdeal.At

open Cert.PoolIdeal Cert.PoolIdeal.Gen Idealize.ShloMosaic Idealize.ShloMosaic.TcCoe
open FwdSpec (tok tok_val)
open FwdPool (pz)

variable (m : (ℓ : Loc nD τ sig) → Buf (Elt Ideal) ℓ) (c : Dev nD)

/-- The region's input arrays, as the sub-layer's inputs. -/
def KI : FwdPool.In where
  x t l := V m c main_arg0 (ix2 t l)
  s j l := V m c main_arg1 (ix2 j l)
  sc l := V m c main_arg2 (ix2 0 l)
  w g l k := V m c main_arg3 (ix3 g l k)

/-- The tile of grid point `t`. -/
def tile (t : Fin cfg0.N) : Fin 8 := ⟨t.val, t.isLt⟩

/-- The blocks' places in their arrays. -/
theorem idx : ∀ t : Fin cfg0.N, win0_0.index t = ![t.val, 0] ∧ win0_1.index t = ![0, 0] ∧ win0_2.index t = ![0, 0]
    ∧ win0_3.index t = ![0, 0, 0] ∧ win0_4.index t = ![t.val, 0] ∧ (grid0.coords t 0).val = t.val :=
  (by decide +kernel : ∀ t : Fin grid0.N, _)

theorem coord (t : Fin cfg0.N) : (grid0.coords t 0).val = (tile t).val := (idx t).2.2.2.2.2

theorem b0 (t : Fin cfg0.N) (r : Fin 512) (l : Fin 1024) : iblk m c 0 t (ix2 r l) = (KI m c).x (tok (tile t) r) l := by
  blk_ext [iblk, KI, tok, tile, idx t]

theorem b1 (t : Fin cfg0.N) (j : Fin 16) (l : Fin 1024) : iblk m c 1 t (ix2 j l) = (KI m c).s j l := by
  blk_ext [iblk, KI, idx t]

theorem b2 (t : Fin cfg0.N) (l : Fin 1024) : iblk m c 2 t (ix2 0 l) = (KI m c).sc l := by
  blk_ext [iblk, KI, idx t]

theorem b3 (t : Fin cfg0.N) (g : Fin 4) (l k : Fin 256) : iblk m c 3 t (ix3 g l k) = (KI m c).w g l k := by
  blk_ext [iblk, KI, idx t]

/-- A grid point's blocks are its tile's. -/
theorem point (t : Fin cfg0.N) : Point (KI m c) (tile t) (iblk m c 0 t) (iblk m c 1 t) (iblk m c 2 t) (iblk m c 3 t) where
  x := b0 m c t
  s := b1 m c t
  sc := b2 m c t
  w := b3 m c t

section
variable {I : FwdPool.In} {T : Fin 8}

/-- The first tile has zeros before it. -/
theorem tail_first (hT : T.val = 0) : Tail I T (k0_pay2 (F := Ideal)) := by
  intro i l
  unfold k0_pay2
  pointwise []
  exact (FwdPool.pz_low I _ (by omega) l).symm

/-- Every other one the last rows of the tile before it. -/
theorem tail_next {T' : Fin 8} (hT : T.val = T'.val + 1) (old : Vec Ideal S528x1024 .f32) (ho : ∀ q l, old (ix2 q l) = pz I (T'.val * 512 + q.val) l) :
    Tail I T (k0_pay3 (F := Ideal) (View.ld old (Rect.unit (s := S528x1024) ![512, 0] S16x1024.size inb_S528x1024_S16x1024_512_0))) := by
  intro i l
  unfold k0_pay3
  pointwise [ho]
  exact congrArg (pz I · l) (by omega)

end

/-- What a point left in the scratch, as the point after it reads it. -/
abbrev left (n : ℕ) (hn : n < cfg0.N) : Vec Ideal S528x1024 .f32 :=
  View.read (Elt Ideal) (View.whole cc0_scratch0) ((Memref.isWhole_whole cc0_scratch0).unread (outsAt0 m c n hn).2)

theorem left_at (n : ℕ) (hn : n < cfg0.N) (q : Fin 528) (l : Fin 1024) : left m c n hn (ix2 q l) = (outsAt0 m c n hn).2 (ix2 q l) :=
  congrFun (Memref.IsWhole.read_unread _ _) _

/-- The sixteen rows a point puts before its tile's. -/
def before (t : Fin cfg0.N) : Vec Ideal S16x1024 .f32 :=
  if t.val % 8 = 0 then k0_pay2 (F := Ideal) else
    k0_pay3 (F := Ideal) (View.ld (left m c (t.val - 1) (Nat.lt_of_le_of_lt (Nat.sub_le _ _) t.isLt))
      (Rect.unit (s := S528x1024) ![512, 0] S16x1024.size inb_S528x1024_S16x1024_512_0))

/-- What the scratch carries after a point: the normalised input from sixteen rows before its tile on. -/
theorem carry : ∀ (n : ℕ) (hn : n < cfg0.N) (q : Fin 528) (l : Fin 1024),
    (outsAt0 m c n hn).2 (ix2 q l) = pz (KI m c) ((tile ⟨n, hn⟩).val * 512 + q.val) l := by
  have hN : cfg0.N = 8 := rfl
  intro n
  induction n with
  | zero =>
    intro hn q l
    rw [outsAt0_A m c ⟨0, hn⟩ rfl (by simp)]
    frame_out
    exact rows_at (point m c ⟨0, hn⟩) (tail_first rfl) (ix2 q l)
  | succ n ih =>
    intro hn q l
    rw [outsAt0_B m c ⟨n + 1, hn⟩ (by dsimp only; omega) (by dsimp only; omega)]
    frame_out
    exact rows_at (point m c ⟨n + 1, hn⟩) (tail_next (T' := tile ⟨n, by omega⟩) rfl (left m c n (by omega)) fun q l => (left_at m c n _ q l).trans (ih _ q l)) (ix2 q l)

theorem tail (t : Fin cfg0.N) : Tail (KI m c) (tile t) (before m c t) := by
  have hN : cfg0.N = 8 := rfl
  unfold before
  by_cases h : t.val % 8 = 0
  · rw [if_pos h]
    exact tail_first (show t.val = 0 by omega)
  · rw [if_neg h]
    exact tail_next (T' := tile ⟨t.val - 1, by omega⟩) (show t.val = t.val - 1 + 1 by omega) _ fun q l => (left_at m c _ _ q l).trans (carry m c _ _ q l)

/-- The block a point writes back. -/
theorem out4 (t : Fin cfg0.N) (r : Fin 512) (l : Fin 1024) : (outsAt0 m c t.val t.isLt).1 (ix2 r l) = FwdPool.o (KI m c) (tok (tile t) r) l := by
  have hN : cfg0.N = 8 := rfl
  have ho := o_at (point m c t) (tail m c t) (grid0.coords t) (coord t) r l
  unfold before at ho
  by_cases h : t.val % 8 = 0
  · rw [if_pos h] at ho
    rw [outsAt0_A m c t h (by omega)]
    frame_out
    exact ho
  · rw [if_neg h] at ho
    rw [outsAt0_B m c t h (by omega)]
    frame_out
    exact ho

end Cert.PoolIdeal.At

end
-- ==== Proof.PoolRef.lean ====
/- The pooled mixer's reference, entry by entry. -/
module

public import proofs.«01_k».proof.Proof.PoolSpec
public import proofs.«01_k».proof.Proof.Gen.PoolReferenceIdeal.Read

@[expose] public section

set_option maxRecDepth 16384

noncomputable section

namespace Cert.PoolReferenceIdeal.At

open Cert.PoolReferenceIdeal Cert.PoolReferenceIdeal.Gen Cert.PoolReferenceIdeal.Read Idealize.ShloMosaic Idealize.ShloMosaic.TcCoe

variable (x0 : FVec Ideal S4096x1024 .f32) (x1 : FVec Ideal S16x1024 .f32) (x2 : FVec Ideal S1x1024 .f32) (x3 : FVec Ideal S4x256x256 .bf16)

/-- The sub-layer's inputs. -/
def inp : FwdPool.In where
  x := fun t l => x0 (ix2 t l)
  s := fun j l => x1 (ix2 j l)
  sc := fun l => x2 (ix2 0 l)
  w := fun g c k => x3 (ix3 g c k)

theorem inp_x (t : Fin 4096) (l : Fin 1024) : (inp x0 x1 x2 x3).x t l = x0 (ix2 t l) := rfl
theorem inp_s (j : Fin 16) (l : Fin 1024) : (inp x0 x1 x2 x3).s j l = x1 (ix2 j l) := rfl
theorem inp_sc (l : Fin 1024) : (inp x0 x1 x2 x3).sc l = x2 (ix2 0 l) := rfl
theorem inp_w (g : Fin 4) (c k : Fin 256) : (inp x0 x1 x2 x3).w g c k = x3 (ix3 g c k) := rfl

/-- The normalised input. -/
theorem n (t : Fin 4096) (l : Fin 1024) : val_main_v14 (F := Ideal) x0 x1 (ix2 t l) = FwdPool.n (inp x0 x1 x2 x3) t l := by
  unfold val_main_v14 val_main_v13 val_main_v12 val_main_v11 val_main_v10 val_main_v9 val_main_v8 val_main_v7 val_main_v6 val_main_v5 val_main_v4
    val_main_v3 val_main_v2 val_main_v1 val_main_v0 val_main_cst val_main_cst_0 val_main_cst_1
  pointwise [FwdPool.n, Rms.rr, Rms.ms, inp_x, inp_s]

/-- Its four groups of columns. -/
theorem n0 (t : Fin 4096) (c : Fin 256) : val_main_v18 (F := Ideal) x0 x1 (ix2 t c) = FwdPool.n (inp x0 x1 x2 x3) t (FwdPool.gcol 0 c) := by
  have hn := n x0 x1 x2 x3
  unfold val_main_v18
  pointwise [hn]
  exact congrArg (FwdPool.n _ t) (Fin.ext (by show c.val = 0 * 256 + c.val; omega))

theorem n1 (t : Fin 4096) (c : Fin 256) : val_main_v19 (F := Ideal) x0 x1 (ix2 t c) = FwdPool.n (inp x0 x1 x2 x3) t (FwdPool.gcol 1 c) := by
  have hn := n x0 x1 x2 x3
  unfold val_main_v19
  pointwise [hn]
  exact congrArg (FwdPool.n _ t) (Fin.ext rfl)

theorem n2 (t : Fin 4096) (c : Fin 256) : val_main_v20 (F := Ideal) x0 x1 (ix2 t c) = FwdPool.n (inp x0 x1 x2 x3) t (FwdPool.gcol 2 c) := by
  have hn := n x0 x1 x2 x3
  unfold val_main_v20
  pointwise [hn]
  exact congrArg (FwdPool.n _ t) (Fin.ext rfl)

theorem n3 (t : Fin 4096) (c : Fin 256) : val_main_v21 (F := Ideal) x0 x1 (ix2 t c) = FwdPool.n (inp x0 x1 x2 x3) t (FwdPool.gcol 3 c) := by
  have hn := n x0 x1 x2 x3
  unfold val_main_v21
  pointwise [hn]
  exact congrArg (FwdPool.n _ t) (Fin.ext rfl)

/-- The number of tokens seen, as a word. -/
theorem seen (t : Fin 4096) : IntOp.addi 1#32 (BitVec.ofNat 32 t.val) = BitVec.ofNat 32 (t.val + 1) := by
  refine BitVec.eq_of_toNat_eq ?_
  show (1#32 + BitVec.ofNat 32 t.val).toNat = _
  simp only [BitVec.toNat_add, BitVec.toNat_ofNat]
  omega

theorem pd0 (t : Fin 4096) (c : Fin 256) : val_main_v30 (F := Ideal) x0 x1 (ix2 t c) = FwdPool.pd (inp x0 x1 x2 x3) 0 t c := by
  have hn := n0 x0 x1 x2 x3
  have hw : val_main_v23 (F := Ideal) x0 x1 (ix2 t c) = FwdPool.tot (inp x0 x1 x2 x3) (FwdPool.win 0) t (FwdPool.gcol 0 c) := by
    unfold val_main_v23
    exact FwdPool.tot_of _ 0 _ hn (by decide) (by decide) _ _ _ (fun i => by unfold val_main_v22 val_main_cst_2; pointwise []) t c
  unfold val_main_v30 val_main_v29 val_main_v28 val_main_v27 val_main_v26 val_main_v25 val_main_v24 val_main_v17 val_main_v16 val_main_v15 val_main_c val_main_c_3
  pointwise [FwdPool.pd, FwdPool.cnt, hn, hw, seen]
  rfl

theorem pd1 (t : Fin 4096) (c : Fin 256) : val_main_v39 (F := Ideal) x0 x1 (ix2 t c) = FwdPool.pd (inp x0 x1 x2 x3) 1 t c := by
  have hn := n1 x0 x1 x2 x3
  have hw : val_main_v32 (F := Ideal) x0 x1 (ix2 t c) = FwdPool.tot (inp x0 x1 x2 x3) (FwdPool.win 1) t (FwdPool.gcol 1 c) := by
    unfold val_main_v32
    exact FwdPool.tot_of _ 1 _ hn (by decide) (by decide) _ _ _ (fun i => by unfold val_main_v31 val_main_cst_4; pointwise []) t c
  unfold val_main_v39 val_main_v38 val_main_v37 val_main_v36 val_main_v35 val_main_v34 val_main_v33 val_main_v17 val_main_v16 val_main_v15 val_main_c val_main_c_5
  pointwise [FwdPool.pd, FwdPool.cnt, hn, hw, seen]
  rfl

theorem pd2 (t : Fin 4096) (c : Fin 256) : val_main_v48 (F := Ideal) x0 x1 (ix2 t c) = FwdPool.pd (inp x0 x1 x2 x3) 2 t c := by
  have hn := n2 x0 x1 x2 x3
  have hw : val_main_v41 (F := Ideal) x0 x1 (ix2 t c) = FwdPool.tot (inp x0 x1 x2 x3) (FwdPool.win 2) t (FwdPool.gcol 2 c) := by
    unfold val_main_v41
    exact FwdPool.tot_of _ 2 _ hn (by decide) (by decide) _ _ _ (fun i => by unfold val_main_v40 val_main_cst_6; pointwise []) t c
  unfold val_main_v48 val_main_v47 val_main_v46 val_main_v45 val_main_v44 val_main_v43 val_main_v42 val_main_v17 val_main_v16 val_main_v15 val_main_c val_main_c_7
  pointwise [FwdPool.pd, FwdPool.cnt, hn, hw, seen]
  rfl

theorem pd3 (t : Fin 4096) (c : Fin 256) : val_main_v57 (F := Ideal) x0 x1 (ix2 t c) = FwdPool.pd (inp x0 x1 x2 x3) 3 t c := by
  have hn := n3 x0 x1 x2 x3
  have hw : val_main_v50 (F := Ideal) x0 x1 (ix2 t c) = FwdPool.tot (inp x0 x1 x2 x3) (FwdPool.win 3) t (FwdPool.gcol 3 c) := by
    unfold val_main_v50
    exact FwdPool.tot_of _ 3 _ hn (by decide) (by decide) _ _ _ (fun i => by unfold val_main_v49 val_main_cst_8; pointwise []) t c
  unfold val_main_v57 val_main_v56 val_main_v55 val_main_v54 val_main_v53 val_main_v52 val_main_v51 val_main_v17 val_main_v16 val_main_v15 val_main_c val_main_c_9
  pointwise [FwdPool.pd, FwdPool.cnt, hn, hw, seen]
  rfl

/-- The mixer's output. -/
theorem mix (t : Fin 4096) (l : Fin 1024) : val_main_v73 (F := Ideal) x0 x1 x2 x3 (ix2 t l) = FwdPool.mix (inp x0 x1 x2 x3) t l := by
  have h0 := pd0 x0 x1 x2 x3
  have h1 := pd1 x0 x1 x2 x3
  have h2 := pd2 x0 x1 x2 x3
  have h3 := pd3 x0 x1 x2 x3
  have m0 (x : Fin 256) : val_main_v67 (F := Ideal) x0 x1 x3 (ix2 t x) = FwdPool.mm (inp x0 x1 x2 x3) 0 t x := by
    unfold val_main_v67 val_main_v60 val_main_v59 val_main_v58
    pointwise [FwdPool.mm, h0, inp_w]
  have m1 (x : Fin 256) : val_main_v68 (F := Ideal) x0 x1 x3 (ix2 t x) = FwdPool.mm (inp x0 x1 x2 x3) 1 t x := by
    unfold val_main_v68 val_main_v62 val_main_v61 val_main_v58
    pointwise [FwdPool.mm, h1, inp_w]
  have m2 (x : Fin 256) : val_main_v69 (F := Ideal) x0 x1 x3 (ix2 t x) = FwdPool.mm (inp x0 x1 x2 x3) 2 t x := by
    unfold val_main_v69 val_main_v64 val_main_v63 val_main_v58
    pointwise [FwdPool.mm, h2, inp_w]
  have m3 (x : Fin 256) : val_main_v70 (F := Ideal) x0 x1 x3 (ix2 t x) = FwdPool.mm (inp x0 x1 x2 x3) 3 t x := by
    unfold val_main_v70 val_main_v66 val_main_v65 val_main_v58
    pointwise [FwdPool.mm, h3, inp_w]
  unfold val_main_v73 val_main_v72 val_main_v71
  pointwise [FwdPool.mix, m0, m1, m2, m3, inp_sc]
  refine congrArg (· * _) ?_
  by_cases c0 : l.val < 256
  · rw [dif_pos c0, FwdPool.mm_at _ 0 t ⟨l.val, c0⟩ l (by show l.val = 0 * 256 + l.val; omega)]
  rw [dif_neg c0]
  by_cases c1 : l.val - 256 < 256
  · rw [dif_pos c1, FwdPool.mm_at _ 1 t ⟨l.val - 256, c1⟩ l (by show l.val = 1 * 256 + (l.val - 256); omega)]
  rw [dif_neg c1]
  by_cases c2 : l.val - 256 - 256 < 256
  · rw [dif_pos c2, FwdPool.mm_at _ 2 t ⟨l.val - 256 - 256, c2⟩ l (by show l.val = 2 * 256 + (l.val - 256 - 256); omega)]
  rw [dif_neg c2, FwdPool.mm_at _ 3 t ⟨l.val - 256 - 256 - 256, by omega⟩ l (by show l.val = 3 * 256 + (l.val - 256 - 256 - 256); omega)]

/-- The sub-layer's output. -/
theorem o (t : Fin 4096) (l : Fin 1024) : val_main_v89 (F := Ideal) x0 x1 x2 x3 (ix2 t l) = FwdPool.o (inp x0 x1 x2 x3) t l := by
  have hm := mix x0 x1 x2 x3
  unfold val_main_v89 val_main_v88 val_main_v87 val_main_v86 val_main_v85 val_main_v84 val_main_v83 val_main_v82 val_main_v81 val_main_v80 val_main_v79
    val_main_v78 val_main_v77 val_main_v76 val_main_v75 val_main_v74 val_main_cst_10 val_main_cst_11 val_main_cst_12
  pointwise [FwdPool.o, Rms.rr, Rms.ms, inp_x, inp_s, hm]

end Cert.PoolReferenceIdeal.At

end
-- ==== Proof.PoolFinal.lean ====
/- The forward pooling call's array, and its claims. -/
module

public import proofs.«01_k».proof.Proof.PoolOut
public import proofs.«01_k».proof.Proof.PoolRef
public import proofs.«01_k».proof.Proof.Gen.PoolReferenceIdeal.Run
public import proofs.«01_k».proof.Proof.Gen.PoolReferenceIdeal
public import proofs.«01_k».proof.Defs
public import Idealize.ShloMosaic.Adequacy

@[expose] public section

set_option maxRecDepth 16384

noncomputable section

namespace Cert.PoolIdeal.At

open Cert.PoolIdeal Cert.PoolIdeal.Gen Idealize.ShloMosaic Idealize.ShloMosaic.TcCoe
open FwdSpec (tok tok_val)

variable (m : (ℓ : Loc nD τ sig) → Buf (Elt Ideal) ℓ) (c : Dev nD)

theorem arr4 : (dats m 0 c).arrAt 4 cfg0.N = fun i => FwdPool.o (KI m c) (i 0) (i 1) := by
  refine (dats m 0 c).arrAt_eq_of_covers 4 _ (by decide +kernel) fun t hf x => ?_
  blk_simp
  rw [after0_4]
  idx_vars x
  refine (out4 m c t x0 x1).trans ?_
  refine congrArg₂ (FwdPool.o (KI m c)) (Fin.ext ?_) (Fin.ext ?_)
  · blk_simp [idx t, tok_val, tile]
  · blk_simp [idx t]

end Cert.PoolIdeal.At

namespace Cert.Proof.Pool

open Idealize.ShloMosaic Idealize.SL.Sem

/-- The reference runs, keeps its arguments and leaves its counters at zero. -/
theorem frame_r : Cert.quiescent_PoolReferenceIdeal := by
  intro m ρ _
  exact (θ_run Cert.PoolReferenceIdeal.defs _ _).mono (fun r h => ⟨fun c => (h c).2, sem_eq_zero_of_no_sems (by decide) r.2⟩)
    (Cert.PoolReferenceIdeal.Value.run (F := Ideal) m ρ)

/-- Kernel and reference leave the same array. -/
theorem alg : Cert.algebraic_PoolIdeal_PoolReferenceIdeal := by
  intro m ρ m' ρ' _ hag
  have hin (c : Dev Cert.PoolIdeal.nD) : PoolReferenceIdeal.At.inp (m' ((c.tc : Thread Cert.PoolReferenceIdeal.nD Cert.PoolReferenceIdeal.τ).loc Cert.PoolReferenceIdeal.main_arg0))
      (m' ((c.tc : Thread Cert.PoolReferenceIdeal.nD Cert.PoolReferenceIdeal.τ).loc Cert.PoolReferenceIdeal.main_arg1))
      (m' ((c.tc : Thread Cert.PoolReferenceIdeal.nD Cert.PoolReferenceIdeal.τ).loc Cert.PoolReferenceIdeal.main_arg2))
      (m' ((c.tc : Thread Cert.PoolReferenceIdeal.nD Cert.PoolReferenceIdeal.τ).loc Cert.PoolReferenceIdeal.main_arg3)) = PoolIdeal.At.KI m c := by
    obtain ⟨h0, h1, h2, h3⟩ := hag c
    rw [h0, h1, h2, h3]
    rfl
  refine ⟨fun c i => FwdPool.o (PoolIdeal.At.KI m c) (i 0) (i 1),
    (θ_run _ _ _).mono (fun r h c => ?_) (Cert.PoolIdeal.Value.run_blocks (F := Ideal) m ρ),
    (θ_run _ _ _).mono (fun r h c => ?_) (Cert.PoolReferenceIdeal.Value.run (F := Ideal) m' ρ')⟩
  · obtain ⟨h0, h1⟩ := h c
    exact ⟨h0.trans (PoolIdeal.At.arr4 m c), h1⟩
  · obtain ⟨h0, h1⟩ := h c
    refine ⟨h0.trans ((Cert.PoolReferenceIdeal.Read.val_main_v89_eq m' c).trans (funext fun i => ?_)), h1⟩
    idx_vars i
    exact (PoolReferenceIdeal.At.o _ _ _ _ i0 i1).trans (congrArg (FwdPool.o · i0 i1) (hin c))

end Cert.Proof.Pool

end
-- ==== Proof.PoolBackSpec.lean ====
/- The backward pass of the pooled mixer, entry by entry, over its inputs. -/
module

public import proofs.«01_k».proof.Proof.PoolSpec
public import Idealize.ShloMosaic.Lib.KernelVsHost

@[expose] public section

set_option maxRecDepth 16384

noncomputable section

namespace Cert.BwdPool

open Idealize.ShloMosaic Idealize.ShloMosaic.Routing
open FwdPool (gcol win winW cnt pd mm mix)

/-- What the gradient is computed from: the sub-layer's inputs and the gradient of its output. -/
structure In extends FwdPool.In where
  dh : Fin 4096 → Fin 1024 → EReal

variable (I : In)

/-- The gradient with respect to the mixer's output. -/
def dm (t : Fin 4096) (l : Fin 1024) : EReal := Rms.bwd (mix I.toIn t) (fun k => I.dh t k * I.s 1 k) l

/-- The gradient with respect to the mixed groups. -/
def dmm (t : Fin 4096) (l : Fin 1024) : EReal := dm I t l * I.sc l

/-- The gradient with respect to a pooled group. -/
def dp (g : Fin 4) (t : Fin 4096) (c : Fin 256) : EReal := ∑ y : Fin 256, dmm I t (gcol g y) * I.w g c y

/-- The weights' gradient. -/
def dw (g : Fin 4) (c y : Fin 256) : EReal := ∑ t : Fin 4096, pd I.toIn g t c * dmm I t (gcol g y)

/-- The gradient with respect to a window's sum, zero past the last token. -/
def q (g : Fin 4) (t : Fin 4096) (c : Fin 256) : EReal := Ideal.div (dp I g t c) (cnt (winW g) t)
def qz (g : Fin 4) (p : ℕ) (c : Fin 256) : EReal := if h : p < 4096 then q I g ⟨p, h⟩ c else 0

/-- The gradient with respect to a group of the normalised input: every window holding the token, less the token. -/
def dn (g : Fin 4) (t : Fin 4096) (c : Fin 256) : EReal := (∑ k ∈ Finset.range (win g), qz I g (t.val + k) c) - dp I g t c

/-- The gradient with respect to the normalised input. -/
def dhn (t : Fin 4096) (l : Fin 1024) : EReal := dn I ⟨l.val / 256, by omega⟩ t ⟨l.val % 256, by omega⟩

/-- The gradient with respect to the sub-layer's input. -/
def o (t : Fin 4096) (l : Fin 1024) : EReal := I.dh t l + Rms.bwd (I.x t) (fun k => dhn I t k * I.s 0 k) l

/-- The mixed groups side by side. -/
def mmc (t : Fin 4096) (l : Fin 1024) : EReal := mm I.toIn ⟨l.val / 256, by omega⟩ t ⟨l.val % 256, by omega⟩

/-- What a token adds to row `j` of the small parameters' gradient. -/
def term (j : ℕ) (t : Fin 4096) (l : Fin 1024) : EReal :=
  if j = 0 then dhn I t l * (I.x t l * Rms.rr (I.x t))
  else if j = 1 then I.dh t l * (mix I.toIn t l * Rms.rr (mix I.toIn t))
  else if j = 2 then dm I t l * mmc I t l
  else 0

/-- The small parameters' gradient. -/
def sums (j : Fin 8) (l : Fin 1024) : EReal := ∑ t : Fin 4096, term I j.val t l

theorem qz_at (g : Fin 4) (t : Fin 4096) (c : Fin 256) (p : ℕ) (hp : p = t.val) : qz I g p c = q I g t c := by
  subst hp
  rw [qz, dif_pos t.isLt]

theorem qz_high (g : Fin 4) (p : ℕ) (hp : 4096 ≤ p) (c : Fin 256) : qz I g p c = 0 := by rw [qz, dif_neg (by omega)]

theorem dhn_at (g : Fin 4) (t : Fin 4096) (x : Fin 256) (l : Fin 1024) (h : l.val = g.val * 256 + x.val) : dhn I t l = dn I g t x := by
  rw [dhn, show (⟨l.val / 256, by omega⟩ : Fin 4) = g from Fin.ext (by dsimp only; omega),
    show (⟨l.val % 256, by omega⟩ : Fin 256) = x from Fin.ext (by dsimp only; omega)]

/-- Rows of zeros put after a group of columns. -/
theorem pad_qz (g : Fin 4) {A hi : ℕ} (y : FVec Ideal (shape2 4096 256) .f32) (hy : ∀ t c, y (ix2 t c) = q I g t c)
    (v : (⟨0, ![]⟩ : Shape).Idx → EReal) (h : (shape2 4096 256).Pads (![0, 0] : Fin 2 → ℕ) ![hi, 0] ![0, 0] (shape2 A 256)) (hu) (h0 : ∀ i, v i = 0)
    (p : Fin A) (c : Fin 256) :
    pad (shape2 A 256) ![0, 0] ![hi, 0] ![0, 0] y v h hu (ix2 p c) = qz I g p.val c := by
  by_cases hp : p.val < 4096
  · rw [qz, dif_pos hp, ← hy]
    refine pad_apply_of_inside _ _ _ _ _ h hu _ (ix2 ⟨p.val, hp⟩ c) fun a => ?_
    match a with
    | ⟨0, _⟩ => show p.val = 0 + p.val * (0 + 1); omega
    | ⟨1, _⟩ => show c.val = 0 + c.val * (0 + 1); omega
  · rw [qz, dif_neg hp, pad_apply_of_not_inside _ _ _ _ _ h hu _ (0 : Fin 2), h0]
    show ¬(0 ≤ p.val ∧ (p.val - 0) % (0 + 1) = 0 ∧ (p.val - 0) / (0 + 1) < 4096)
    omega

/-- The window sum of a group of columns, the window reaching on from each token over rows of zeros. -/
theorem ahead_of (g : Fin 4) {A w : ℕ} (hA : A + 1 = 4096 + w) (x : FVec Ideal (shape2 A 256) .f32) (hx : ∀ p c, x (ix2 p c) = qz I g p.val c)
    (h : (shape2 A 256).ReduceWindows ![w, 1] ![1, 1] ![0, 0] ![0, 0] (shape2 4096 256))
    (init : (⟨0, ![]⟩ : Shape).Idx → EReal) (hu) (h0 : ∀ i, init i = 0) (t : Fin 4096) (c : Fin 256) :
    Host.reduceWindowAdd (F := Ideal) (φ := .f32) (u := ⟨0, ![]⟩) ![w, 1] ![1, 1] ![0, 0] ![0, 0] x init h hu (ix2 t c)
      = ∑ k ∈ Finset.range w, qz I g (t.val + k) c := by
  rw [Window.sum_at h x init hu h0 t c]
  refine Finset.sum_congr rfl fun k hk => ?_
  have hk := Finset.mem_range.mp hk
  rw [if_pos (Nat.zero_le _), Window.rowZ, dif_pos (by omega), hx]
  rfl

/-- Each entry plus the one `w` rows after it, around the end of 528 rows: window sums of `w` rows become window sums of
    twice as many. -/
theorem dbl_ahead (f : ℕ → EReal) {u : ℕ → EReal} {w v : ℕ} (hv : v + w = 528) (hu : ∀ a, a + w ≤ 528 → u a = ∑ k ∈ Finset.range w, f (a + k)) (a : ℕ)
    (h : a + (w + w) ≤ 528) (hw : 0 < w) : FwdPool.dbl u v a = ∑ k ∈ Finset.range (w + w), f (a + k) := by
  rw [FwdPool.dbl, Finset.sum_range_add, show (a + 528 - v) % 528 = a + w by omega, hu a (by omega), hu (a + w) (by omega)]
  exact congrArg _ (Finset.sum_congr rfl fun k _ => by rw [Nat.add_assoc])

open FwdPool (dbl)

theorem ahead1 (f : ℕ → EReal) (a : ℕ) (h : a + 2 ≤ 528) : dbl f 527 a = ∑ k ∈ Finset.range 2, f (a + k) :=
  dbl_ahead f (w := 1) rfl (fun a _ => by simp) a h (by decide)
theorem ahead2 (f : ℕ → EReal) (a : ℕ) (h : a + 4 ≤ 528) : dbl (dbl f 527) 526 a = ∑ k ∈ Finset.range 4, f (a + k) :=
  dbl_ahead f (w := 2) rfl (ahead1 f) a h (by decide)
theorem ahead4 (f : ℕ → EReal) (a : ℕ) (h : a + 8 ≤ 528) : dbl (dbl (dbl f 527) 526) 524 a = ∑ k ∈ Finset.range 8, f (a + k) :=
  dbl_ahead f (w := 4) rfl (ahead2 f) a h (by decide)
theorem ahead8 (f : ℕ → EReal) (a : ℕ) (h : a + 16 ≤ 528) : dbl (dbl (dbl (dbl f 527) 526) 524) 520 a = ∑ k ∈ Finset.range 16, f (a + k) :=
  dbl_ahead f (w := 8) rfl (ahead4 f) a h (by decide)

end Cert.BwdPool

end
-- ==== Proof.PoolBackPay.lean ====
/- What the payloads of the backward pooling kernel compute at a grid point, entry by entry. -/
module

public import proofs.«01_k».proof.Proof.PoolBackSpec
public import proofs.«01_k».proof.Proof.FwdSpec
public import proofs.«01_k».proof.Proof.Gen.PoolBackIdeal.Value
public import Idealize.ShloMosaic.Lib.Pointwise
public import Idealize.ShloMosaic.Lib.Pipeline.ReadBack
public import Idealize.ShloMosaic.Lib.Pipeline.ValueKit

@[expose] public section

set_option maxRecDepth 16384

noncomputable section

namespace Cert.PoolBackIdeal.At

open Cert.PoolBackIdeal Cert.PoolBackIdeal.Gen Idealize.ShloMosaic Idealize.ShloMosaic.TcCoe
open FwdSpec (tok tok_val)
open FwdPool (pz gcol tot win winW cnt dbl pd mm mix)
open BwdPool (dm dmm dp q qz dn dhn)

variable {I : BwdPool.In} {T : Fin 8}

/-- The number of tokens seen, as the kernel counts it. -/
theorem seen (T : Fin 8) (r : Fin 512) :
    IntOp.addi (IntOp.addi (Scalar.muli (BitVec.ofNat 32 T.val) 512#32) (BitVec.ofNat 32 r.val)) 1#32 = BitVec.ofNat 32 ((tok T r).val + 1) := by
  refine BitVec.eq_of_toNat_eq ?_
  show ((BitVec.ofNat 32 T.val * 512#32 + BitVec.ofNat 32 r.val) + 1#32).toNat = _
  rw [tok_val]
  simp only [BitVec.toNat_add, BitVec.toNat_mul, BitVec.toNat_ofNat]
  omega

/-- The window's tokens, counted in rows of the scratch. -/
theorem tot_tile (u : ℕ) (hu : u ≤ 16) (r : Fin 512) (l : Fin 1024) :
    ∑ k ∈ Finset.range u, pz I.toIn (T.val * 512 + (16 + r.val - k)) l = tot I.toIn u (tok T r) l := by
  refine Finset.sum_congr rfl fun k hk => ?_
  have := Finset.mem_range.mp hk
  rw [tok_val]
  exact congrArg (pz I.toIn · l) (by omega)

theorem n_tile (r : Fin 512) (l : Fin 1024) : pz I.toIn (T.val * 512 + (16 + r.val)) l = FwdPool.n I.toIn (tok T r) l :=
  FwdPool.pz_at I.toIn (tok T r) l _ (by rw [tok_val]; omega)

theorem tot0 (r : Fin 512) (l : Fin 1024) : tot I.toIn (win 0) (tok T r) l = dbl (fun q => pz I.toIn (T.val * 512 + q) l) 1 (16 + r.val) :=
  (tot_tile 2 (by omega) r l).symm.trans (FwdPool.dbl1 (fun q => pz I.toIn (T.val * 512 + q) l) _ (by omega) (by omega)).symm
theorem tot1 (r : Fin 512) (l : Fin 1024) : tot I.toIn (win 1) (tok T r) l = dbl (dbl (fun q => pz I.toIn (T.val * 512 + q) l) 1) 2 (16 + r.val) :=
  (tot_tile 4 (by omega) r l).symm.trans (FwdPool.dbl2 (fun q => pz I.toIn (T.val * 512 + q) l) _ (by omega) (by omega)).symm
theorem tot2 (r : Fin 512) (l : Fin 1024) : tot I.toIn (win 2) (tok T r) l = dbl (dbl (dbl (fun q => pz I.toIn (T.val * 512 + q) l) 1) 2) 4 (16 + r.val) :=
  (tot_tile 8 (by omega) r l).symm.trans (FwdPool.dbl4 (fun q => pz I.toIn (T.val * 512 + q) l) _ (by omega) (by omega)).symm
theorem tot3 (r : Fin 512) (l : Fin 1024) : tot I.toIn (win 3) (tok T r) l = dbl (dbl (dbl (dbl (fun q => pz I.toIn (T.val * 512 + q) l) 1) 2) 4) 8 (16 + r.val) :=
  (tot_tile 16 (by omega) r l).symm.trans (FwdPool.dbl8 (fun q => pz I.toIn (T.val * 512 + q) l) _ (by omega) (by omega)).symm

theorem win0 : winW 0 = 2#32 := rfl
theorem win1 : winW 1 = 4#32 := rfl
theorem win2 : winW 2 = 8#32 := rfl
theorem win3 : winW 3 = 16#32 := rfl

section
variable {e : Vec Ideal S528x256 .f32} {wb : Vec Ideal S1x256x256 .bf16} {sb : Vec Ideal S1x256 .f32} {a : BitVec 32} (ha : a = BitVec.ofNat 32 T.val)
  (r : Fin 512) (x : Fin 256)
include ha

/-- The pooled groups. -/
theorem pd0 (he : ∀ q c, e (ix2 q c) = pz I.toIn (T.val * 512 + q.val) (gcol 0 c)) : k0_pay11 (F := Ideal) a e (ix2 r x) = pd I.toIn 0 (tok T r) x := by
  have ht := fun l => tot0 (I := I) (T := T) r l
  have hn := fun l => n_tile (I := I) (T := T) r l
  have hk := seen T r
  subst ha
  unfold k0_pay11
  pointwise [pd, cnt, dbl, he, ht, hn, hk, win0]

theorem pd1 (he : ∀ q c, e (ix2 q c) = pz I.toIn (T.val * 512 + q.val) (gcol 1 c)) : k0_pay16 (F := Ideal) a 512#32 e (ix2 r x) = pd I.toIn 1 (tok T r) x := by
  have ht := fun l => tot1 (I := I) (T := T) r l
  have hn := fun l => n_tile (I := I) (T := T) r l
  have hk := seen T r
  subst ha
  unfold k0_pay16
  pointwise [pd, cnt, dbl, he, ht, hn, hk, win1]

theorem pd2 (he : ∀ q c, e (ix2 q c) = pz I.toIn (T.val * 512 + q.val) (gcol 2 c)) : k0_pay21 (F := Ideal) (Scalar.muli a 512#32) e (ix2 r x) = pd I.toIn 2 (tok T r) x := by
  have ht := fun l => tot2 (I := I) (T := T) r l
  have hn := fun l => n_tile (I := I) (T := T) r l
  have hk := seen T r
  subst ha
  unfold k0_pay21
  pointwise [pd, cnt, dbl, he, ht, hn, hk, win2]

set_option maxHeartbeats 1600000 in
theorem pd3 (he : ∀ q c, e (ix2 q c) = pz I.toIn (T.val * 512 + q.val) (gcol 3 c)) : k0_pay26 (F := Ideal) (Scalar.muli a 512#32) e (ix2 r x) = pd I.toIn 3 (tok T r) x := by
  have ht := fun l => tot3 (I := I) (T := T) r l
  have hn := fun l => n_tile (I := I) (T := T) r l
  have hk := seen T r
  subst ha
  unfold k0_pay26
  pointwise [pd, cnt, dbl, he, ht, hn, hk, win3]

/-- As they are stored. -/
theorem pb0 (he : ∀ q c, e (ix2 q c) = pz I.toIn (T.val * 512 + q.val) (gcol 0 c)) : k0_pay12 (F := Ideal) a e (ix2 r x) = pd I.toIn 0 (tok T r) x := by
  have h := fun r x => pd0 ha r x he
  unfold k0_pay12
  pointwise [h]
theorem pb1 (he : ∀ q c, e (ix2 q c) = pz I.toIn (T.val * 512 + q.val) (gcol 1 c)) : k0_pay17 (F := Ideal) a 512#32 e (ix2 r x) = pd I.toIn 1 (tok T r) x := by
  have h := fun r x => pd1 ha r x he
  unfold k0_pay17
  pointwise [h]
theorem pb2 (he : ∀ q c, e (ix2 q c) = pz I.toIn (T.val * 512 + q.val) (gcol 2 c)) : k0_pay22 (F := Ideal) (Scalar.muli a 512#32) e (ix2 r x) = pd I.toIn 2 (tok T r) x := by
  have h := fun r x => pd2 ha r x he
  unfold k0_pay22
  pointwise [h]
theorem pb3 (he : ∀ q c, e (ix2 q c) = pz I.toIn (T.val * 512 + q.val) (gcol 3 c)) : k0_pay27 (F := Ideal) (Scalar.muli a 512#32) e (ix2 r x) = pd I.toIn 3 (tok T r) x := by
  have h := fun r x => pd3 ha r x he
  unfold k0_pay27
  pointwise [h]

/-- The groups mixed, then scaled. -/
theorem mm0 (he : ∀ q c, e (ix2 q c) = pz I.toIn (T.val * 512 + q.val) (gcol 0 c)) (hw : ∀ c x, wb (ix3 0 c x) = I.w 0 c x) :
    k0_pay13 (F := Ideal) a e wb (ix2 r x) = mm I.toIn 0 (tok T r) x := by
  have h := fun r x => pd0 ha r x he
  unfold k0_pay13
  pointwise [mm, h, hw]
theorem mm1 (he : ∀ q c, e (ix2 q c) = pz I.toIn (T.val * 512 + q.val) (gcol 1 c)) (hw : ∀ c x, wb (ix3 0 c x) = I.w 1 c x) :
    k0_pay18 (F := Ideal) a 512#32 e wb (ix2 r x) = mm I.toIn 1 (tok T r) x := by
  have h := fun r x => pd1 ha r x he
  unfold k0_pay18
  pointwise [mm, h, hw]
theorem mm2 (he : ∀ q c, e (ix2 q c) = pz I.toIn (T.val * 512 + q.val) (gcol 2 c)) (hw : ∀ c x, wb (ix3 0 c x) = I.w 2 c x) :
    k0_pay23 (F := Ideal) (Scalar.muli a 512#32) e wb (ix2 r x) = mm I.toIn 2 (tok T r) x := by
  have h := fun r x => pd2 ha r x he
  unfold k0_pay23
  pointwise [mm, h, hw]
theorem mm3 (he : ∀ q c, e (ix2 q c) = pz I.toIn (T.val * 512 + q.val) (gcol 3 c)) (hw : ∀ c x, wb (ix3 0 c x) = I.w 3 c x) :
    k0_pay28 (F := Ideal) (Scalar.muli a 512#32) e wb (ix2 r x) = mm I.toIn 3 (tok T r) x := by
  have h := fun r x => pd3 ha r x he
  unfold k0_pay28
  pointwise [mm, h, hw]

omit ha in
theorem stored0 : k0_pay14 (F := Ideal) a e wb (ix2 r x) = k0_pay13 (F := Ideal) a e wb (ix2 r x) := by
  unfold k0_pay14
  generalize k0_pay13 (F := Ideal) a e wb = u
  pointwise []
omit ha in
theorem stored1 {b : BitVec 32} : k0_pay19 (F := Ideal) a b e wb (ix2 r x) = k0_pay18 (F := Ideal) a b e wb (ix2 r x) := by
  unfold k0_pay19
  generalize k0_pay18 (F := Ideal) a b e wb = u
  pointwise []
omit ha in
theorem stored2 : k0_pay24 (F := Ideal) a e wb (ix2 r x) = k0_pay23 (F := Ideal) a e wb (ix2 r x) := by
  unfold k0_pay24
  generalize k0_pay23 (F := Ideal) a e wb = u
  pointwise []
omit ha in
theorem stored3 : k0_pay29 (F := Ideal) a e wb (ix2 r x) = k0_pay28 (F := Ideal) a e wb (ix2 r x) := by
  unfold k0_pay29
  generalize k0_pay28 (F := Ideal) a e wb = u
  pointwise []
omit ha in
theorem scaled0 : k0_pay15 (F := Ideal) a e wb sb (ix2 r x) = k0_pay13 (F := Ideal) a e wb (ix2 r x) * sb (ix2 0 x) := by
  unfold k0_pay15
  generalize k0_pay13 (F := Ideal) a e wb = u
  pointwise []
omit ha in
theorem scaled1 {b : BitVec 32} : k0_pay20 (F := Ideal) a b e wb sb (ix2 r x) = k0_pay18 (F := Ideal) a b e wb (ix2 r x) * sb (ix2 0 x) := by
  unfold k0_pay20
  generalize k0_pay18 (F := Ideal) a b e wb = u
  pointwise []
omit ha in
theorem scaled2 : k0_pay25 (F := Ideal) a e wb sb (ix2 r x) = k0_pay23 (F := Ideal) a e wb (ix2 r x) * sb (ix2 0 x) := by
  unfold k0_pay25
  generalize k0_pay23 (F := Ideal) a e wb = u
  pointwise []
omit ha in
theorem scaled3 : k0_pay30 (F := Ideal) a e wb sb (ix2 r x) = k0_pay28 (F := Ideal) a e wb (ix2 r x) * sb (ix2 0 x) := by
  unfold k0_pay30
  generalize k0_pay28 (F := Ideal) a e wb = u
  pointwise []

end

section
variable {d y z : Vec Ideal S512x1024 .f32} (hd : ∀ r l, d (ix2 r l) = I.dh (tok T r) l) (hy : ∀ r l, y (ix2 r l) = mix I.toIn (tok T r) l)
  {v g : Vec Ideal S1x1024 .f32} (hg : ∀ l, g (ix2 0 l) = I.s 1 l)
include hd hy

/-- What a tile adds to the second gain's gradient. -/
theorem sum1 (l : Fin 1024) : k0_pay33 (F := Ideal) d y v (ix2 0 l) = v (ix2 0 l) + ∑ r : Fin 512, BwdPool.term I 1 (tok T r) l := by
  unfold k0_pay33 k0_pay32 k0_pay31
  pointwise [BwdPool.term, Rms.rr, Rms.ms, hd, hy]

include hg

/-- The gradient with respect to the mixer's output. -/
theorem dm_at (r : Fin 512) (l : Fin 1024) : k0_pay34 (F := Ideal) d y g (ix2 r l) = dm I (tok T r) l := by
  unfold k0_pay34 k0_pay32 k0_pay31
  pointwise [dm, Rms.bwd, Rms.rr, Rms.ms, hd, hy, hg]

/-- What a tile adds to the scale's gradient. -/
theorem sum2 (hz : ∀ r l, z (ix2 r l) = BwdPool.mmc I (tok T r) l) (l : Fin 1024) :
    k0_pay35 (F := Ideal) d y g v z (ix2 0 l) = v (ix2 0 l) + ∑ r : Fin 512, BwdPool.term I 2 (tok T r) l := by
  have h := dm_at hd hy hg
  unfold k0_pay35
  pointwise [BwdPool.term, h, hz]

/-- The gradient with respect to the mixed groups, and a group of its columns. -/
theorem dmm_at {sc : Vec Ideal S1x1024 .f32} (hs : ∀ l, sc (ix2 0 l) = I.sc l) (r : Fin 512) (l : Fin 1024) :
    k0_pay36 (F := Ideal) (k0_pay34 d y g) sc (ix2 r l) = dmm I (tok T r) l := by
  have h := dm_at hd hy hg
  unfold k0_pay36
  pointwise [dmm, h, hs]

end

theorem cols_at {u : Vec Ideal S512x1024 .f32} (g : Fin 4) (b : ℕ) (hb : b = g.val * 256) (inb) (r : Fin 512) (c : Fin 256) :
    View.ld u (Rect.unit (s := S512x1024) ![0, b] S512x256.size inb) (ix2 r c) = u (ix2 r (gcol g c)) := by
  subst hb
  pointwise [gcol]

section
variable {u : Vec Ideal S512x256 .f32} {g : Fin 4} (hu : ∀ r c, u (ix2 r c) = dmm I (tok T r) (gcol g c)) {wb : Vec Ideal S1x256x256 .bf16}
  (hw : ∀ c x, wb (ix3 0 c x) = I.w g c x) (r : Fin 512) (c : Fin 256)
include hu hw

/-- The gradient with respect to a pooled group, as each group computes it. -/
theorem dp0 : k0_pay38 (F := Ideal) u wb (ix2 r c) = dp I g (tok T r) c := by
  unfold k0_pay38 k0_pay37
  pointwise [dp, hu, hw]
theorem dp1 : k0_pay46 (F := Ideal) u wb (ix2 r c) = dp I g (tok T r) c := by
  unfold k0_pay46 k0_pay45
  pointwise [dp, hu, hw]
theorem dp2 : k0_pay55 (F := Ideal) (k0_pay54 u) wb (ix2 r c) = dp I g (tok T r) c := by
  unfold k0_pay55 k0_pay54
  pointwise [dp, hu, hw]
theorem dp3 : k0_pay63 (F := Ideal) u wb (ix2 r c) = dp I g (tok T r) c := by
  unfold k0_pay63 k0_pay62
  pointwise [dp, hu, hw]

omit hw
variable {o : Vec Ideal S1x256x256 .f32} {p : Vec Ideal S512x256 .bf16} (hp : ∀ r c, p (ix2 r c) = pd I.toIn g (tok T r) c) (x : Fin 256)
include hp

/-- What a tile adds to a group's weights' gradient. -/
theorem dw0 : k0_pay39 (F := Ideal) u o p (ix3 0 c x) = o (ix3 0 c x) + ∑ r : Fin 512, pd I.toIn g (tok T r) c * dmm I (tok T r) (gcol g x) := by
  unfold k0_pay39 k0_pay37
  pointwise [hu, hp]
theorem dw1 : k0_pay48 (F := Ideal) (k0_pay47 u o p) (ix3 0 c x) = o (ix3 0 c x) + ∑ r : Fin 512, pd I.toIn g (tok T r) c * dmm I (tok T r) (gcol g x) := by
  unfold k0_pay48 k0_pay47 k0_pay45
  pointwise [hu, hp]
theorem dw2 : k0_pay56 (F := Ideal) (k0_pay54 u) o p (ix3 0 c x) = o (ix3 0 c x) + ∑ r : Fin 512, pd I.toIn g (tok T r) c * dmm I (tok T r) (gcol g x) := by
  unfold k0_pay56 k0_pay54
  pointwise [hu, hp]
theorem dw3 : k0_pay64 (F := Ideal) u o p (ix3 0 c x) = o (ix3 0 c x) + ∑ r : Fin 512, pd I.toIn g (tok T r) c * dmm I (tok T r) (gcol g x) := by
  unfold k0_pay64 k0_pay62
  pointwise [hu, hp]

end

/-- A tile's quotient, by the row's place. -/
theorem q_tile (g : Fin 4) (r : Fin 512) (c : Fin 256) : q I g (tok T r) c = qz I g (T.val * 512 + r.val) c :=
  (BwdPool.qz_at I g (tok T r) c _ (tok_val T r).symm).symm

section
variable {u : Vec Ideal S512x256 .f32} {wb : Vec Ideal S1x256x256 .bf16} {a : BitVec 32} (ha : a = BitVec.ofNat 32 T.val) (r : Fin 512) (c : Fin 256)
include ha

/-- The gradient with respect to the windows' sums. -/
theorem q0 (hu : ∀ r c, u (ix2 r c) = dmm I (tok T r) (gcol 0 c)) (hw : ∀ c x, wb (ix3 0 c x) = I.w 0 c x) :
    k0_pay40 (F := Ideal) a u wb (ix2 r c) = qz I 0 (T.val * 512 + r.val) c := by
  have h := dp0 hu hw
  have hk := seen T r
  rw [← q_tile]
  subst ha
  unfold k0_pay40
  pointwise [q, cnt, h, hk, win0]
theorem q1 {b : Vec Ideal S512x256 .f32} (h : ∀ r c, b (ix2 r c) = dp I 1 (tok T r) c) :
    k0_pay49 (F := Ideal) a b (ix2 r c) = qz I 1 (T.val * 512 + r.val) c := by
  have hk := seen T r
  rw [← q_tile]
  subst ha
  unfold k0_pay49
  pointwise [q, cnt, h, hk, win1]
theorem q2 (hu : ∀ r c, u (ix2 r c) = dmm I (tok T r) (gcol 2 c)) (hw : ∀ c x, wb (ix3 0 c x) = I.w 2 c x) :
    k0_pay57 (F := Ideal) a (k0_pay54 u) wb (ix2 r c) = qz I 2 (T.val * 512 + r.val) c := by
  have h := dp2 hu hw
  have hk := seen T r
  rw [← q_tile]
  subst ha
  unfold k0_pay57
  pointwise [q, cnt, h, hk, win2]
theorem q3 {b : Vec Ideal S512x256 .f32} (h : ∀ r c, b (ix2 r c) = dp I 3 (tok T r) c) :
    k0_pay67 (F := Ideal) b (k0_pay65 a) k0_pay66 (ix2 r c) = qz I 3 (T.val * 512 + r.val) c := by
  have hk := seen T r
  rw [← q_tile]
  subst ha
  unfold k0_pay67 k0_pay65 k0_pay66
  pointwise [q, cnt, h, hk, win3]

end

section
variable {b : Vec Ideal S512x256 .f32} {e : Vec Ideal S528x256 .f32} (r : Fin 512) (c : Fin 256)

theorem ahead_tile (g : Fin 4) : ∑ k ∈ Finset.range (win g), qz I g (T.val * 512 + (r.val + k)) c = ∑ k ∈ Finset.range (win g), qz I g ((tok T r).val + k) c := by
  rw [tok_val]
  exact Finset.sum_congr rfl fun k _ => congrArg (qz I g · c) (by omega)

/-- The gradient with respect to a group of the normalised input. -/
theorem dn0 (hb : ∀ r c, b (ix2 r c) = dp I 0 (tok T r) c) (he : ∀ p c, e (ix2 p c) = qz I 0 (T.val * 512 + p.val) c) :
    k0_pay44 (F := Ideal) b e (ix2 r c) = dn I 0 (tok T r) c := by
  have ha := (BwdPool.ahead1 (fun p => qz I 0 (T.val * 512 + p) c) r.val (by omega)).trans (ahead_tile r c 0)
  unfold k0_pay44
  pointwise [dn, dbl, hb, he, ← ha]
theorem dn1 (hb : ∀ r c, b (ix2 r c) = dp I 1 (tok T r) c) (he : ∀ p c, e (ix2 p c) = qz I 1 (T.val * 512 + p.val) c) :
    k0_pay53 (F := Ideal) b e (ix2 r c) = dn I 1 (tok T r) c := by
  have ha := (BwdPool.ahead2 (fun p => qz I 1 (T.val * 512 + p) c) r.val (by omega)).trans (ahead_tile r c 1)
  unfold k0_pay53
  pointwise [dn, dbl, hb, he, ← ha]
theorem dn2 (hb : ∀ r c, b (ix2 r c) = dp I 2 (tok T r) c) (he : ∀ p c, e (ix2 p c) = qz I 2 (T.val * 512 + p.val) c) :
    k0_pay61 (F := Ideal) b e (ix2 r c) = dn I 2 (tok T r) c := by
  have ha := (BwdPool.ahead4 (fun p => qz I 2 (T.val * 512 + p) c) r.val (by omega)).trans (ahead_tile r c 2)
  unfold k0_pay61
  pointwise [dn, dbl, hb, he, ← ha]
set_option maxHeartbeats 1600000 in
theorem dn3 (hb : ∀ r c, b (ix2 r c) = dp I 3 (tok T r) c) (he : ∀ p c, e (ix2 p c) = qz I 3 (T.val * 512 + p.val) c) :
    k0_pay71 (F := Ideal) b e (ix2 r c) = dn I 3 (tok T r) c := by
  have ha := (BwdPool.ahead8 (fun p => qz I 3 (T.val * 512 + p) c) r.val (by omega)).trans (ahead_tile r c 3)
  unfold k0_pay71
  pointwise [dn, dbl, hb, he, ← ha]

end

section
variable {x y d : Vec Ideal S512x1024 .f32} (hx : ∀ r l, x (ix2 r l) = I.x (tok T r) l) (hy : ∀ r l, y (ix2 r l) = dhn I (tok T r) l)
  {v g : Vec Ideal S1x1024 .f32}
include hx hy

/-- What a tile adds to the first gain's gradient. -/
theorem sum0 (l : Fin 1024) : k0_pay1 (F := Ideal) (k0_pay72 v) (k0_pay73 (k0_pay7 x) y) (ix2 0 l) = v (ix2 0 l) + ∑ r : Fin 512, BwdPool.term I 0 (tok T r) l := by
  unfold k0_pay1 k0_pay72 k0_pay73 k0_pay7 k0_pay6
  pointwise [BwdPool.term, Rms.rr, Rms.ms, hx, hy]

/-- The gradient with respect to the sub-layer's input. -/
theorem o_of (hd : ∀ r l, d (ix2 r l) = I.dh (tok T r) l) (hg : ∀ l, g (ix2 0 l) = I.s 0 l) (r : Fin 512) (l : Fin 1024) :
    k0_pay2 (F := Ideal) g (k0_pay6 x) (k0_pay7 x) d y (ix2 r l) = BwdPool.o I (tok T r) l := by
  unfold k0_pay2 k0_pay7 k0_pay6
  pointwise [BwdPool.o, Rms.bwd, Rms.rr, Rms.ms, hx, hy, hd, hg]

end

section
variable {x : Vec Ideal S512x1024 .f32} (hx : ∀ r l, x (ix2 r l) = I.x (tok T r) l) {g : Vec Ideal S1x1024 .f32} (hg : ∀ l, g (ix2 0 l) = I.s 0 l)
include hg

/-- The normalised input. -/
theorem n_of (hx : ∀ r l, x (ix2 r l) = I.x (tok T r) l) (r : Fin 512) (l : Fin 1024) : k0_pay10 (F := Ideal) (k0_pay9 g x) (ix2 r l) = FwdPool.n I.toIn (tok T r) l := by
  unfold k0_pay10 k0_pay9 k0_pay7 k0_pay6
  pointwise [FwdPool.n, Rms.rr, Rms.ms, hx, hg]

/-- The sixteen rows before the tile. -/
theorem tail_of {hal : Vec Ideal S16x1024 .f32} {i : grid0.Coords}
    (hi : Scalar.cmpi .sgt (Scalar.subi 7#32 (BitVec.ofNat 32 (i 0).val)) 0#32 = if T.val = 0 then 0#1 else 1#1)
    (hh : ∀ (j : Fin 16) l (hT : T.val ≠ 0) (h : T.val * 512 - 16 + j.val < 4096), hal (ix2 j l) = I.x ⟨T.val * 512 - 16 + j.val, h⟩ l) (j : Fin 16) (l : Fin 1024) :
    k0_pay8 (F := Ideal) i g hal (ix2 j l) = pz I.toIn (T.val * 512 + j.val) l := by
  unfold k0_pay8
  rw [hi]
  by_cases hT : T.val = 0
  · rw [if_pos hT]
    pointwise []
    exact (FwdPool.pz_low I.toIn _ (by omega) l).symm
  · rw [if_neg hT, FwdPool.pz_at I.toIn ⟨T.val * 512 - 16 + j.val, by omega⟩ l _ (by dsimp only; omega)]
    have h := fun l => hh j l hT (by omega)
    pointwise [FwdPool.n, Rms.rr, Rms.ms, h, hg]

end

end Cert.PoolBackIdeal.At

end
-- ==== Proof.PoolBackPoint.lean ====
/- What a grid point of the backward pooling kernel stores, a group of columns at a time, and what it reads back. -/
module

public import proofs.«01_k».proof.Proof.PoolBackPay
public import Idealize.ShloMosaic.Lib.WritesUnit

@[expose] public section

set_option maxRecDepth 16384

noncomputable section

namespace Cert.PoolBackIdeal.At

open Cert.PoolBackIdeal Cert.PoolBackIdeal.Gen Idealize.ShloMosaic Idealize.ShloMosaic.TcCoe
open FwdSpec (tok tok_val)
open FwdPool (pz gcol pd mm mix)
open BwdPool (dm dmm dp q qz dn dhn mmc)

/-- A row of the small parameters. -/
abbrev smRow (v : Vec Ideal S16x1024 .f32) (n : ℕ) (inb : ∀ a, ![n, 0] a + S1x1024.size a ≤ S16x1024.size a) : Vec Ideal S1x1024 .f32 :=
  View.ld v (Rect.unit (s := S16x1024) ![n, 0] S1x1024.size inb)

/-- A group's weights, its part of the scale, its columns of a tile and of the carried rows. -/
abbrev wBlk (v : Vec Ideal S4x256x256 .bf16) (n : ℕ) (inb : ∀ a, ![n, 0, 0] a + S1x256x256.size a ≤ S4x256x256.size a) : Vec Ideal S1x256x256 .bf16 :=
  View.ld v (Rect.unit (s := S4x256x256) ![n, 0, 0] S1x256x256.size inb)
abbrev scBlk (v : Vec Ideal S1x1024 .f32) (b : ℕ) (inb : ∀ a, ![0, b] a + S1x256.size a ≤ S1x1024.size a) : Vec Ideal S1x256 .f32 :=
  View.ld v (Rect.unit (s := S1x1024) ![0, b] S1x256.size inb)
abbrev cols (v : Vec Ideal S512x1024 .f32) (b : ℕ) (inb : ∀ a, ![0, b] a + S512x256.size a ≤ S512x1024.size a) : Vec Ideal S512x256 .f32 :=
  View.ld v (Rect.unit (s := S512x1024) ![0, b] S512x256.size inb)
abbrev crCols (v : Vec Ideal S16x1024 .f32) (b : ℕ) (inb : ∀ a, ![0, b] a + S16x256.size a ≤ S16x1024.size a) : Vec Ideal S16x256 .f32 :=
  View.ld v (Rect.unit (s := S16x1024) ![0, b] S16x256.size inb)
abbrev dwBlk (v : Vec Ideal S4x256x256 .f32) (n : ℕ) (inb : ∀ a, ![n, 0, 0] a + S1x256x256.size a ≤ S4x256x256.size a) : Vec Ideal S1x256x256 .f32 :=
  View.ld v (Rect.unit (s := S4x256x256) ![n, 0, 0] S1x256x256.size inb)

theorem smRow_at (v : Vec Ideal S16x1024 .f32) (j : Fin 16) (inb) (l : Fin 1024) : smRow v j.val inb (ix2 0 l) = v (ix2 j l) := by
  unfold smRow
  pointwise []
theorem wBlk_at (v : Vec Ideal S4x256x256 .bf16) (j : Fin 4) (inb) (l x : Fin 256) : wBlk v j.val inb (ix3 0 l x) = v (ix3 j l x) := by
  unfold wBlk
  pointwise []
theorem dwBlk_at (v : Vec Ideal S4x256x256 .f32) (j : Fin 4) (n : ℕ) (hn : j.val = n) (inb) (l x : Fin 256) : dwBlk v n inb (ix3 0 l x) = v (ix3 j l x) := by
  subst hn
  unfold dwBlk
  pointwise []
theorem scBlk_at (v : Vec Ideal S1x1024 .f32) (g : Fin 4) (b : ℕ) (hb : b = g.val * 256) (inb) (x : Fin 256) : scBlk v b inb (ix2 0 x) = v (ix2 0 (gcol g x)) := by
  subst hb
  unfold scBlk
  pointwise [gcol]
theorem crCols_at (v : Vec Ideal S16x1024 .f32) (g : Fin 4) (b : ℕ) (hb : b = g.val * 256) (inb) (i : Fin 16) (x : Fin 256) : crCols v b inb (ix2 i x) = v (ix2 i (gcol g x)) := by
  subst hb
  unfold crCols
  pointwise [gcol]

/-- A group's columns read from what was stored. -/
theorem ext_read (L : List (View.Piece (Elt Ideal) S528x1024 .f32)) (g : Fin 4) (b : ℕ) (hb : b = g.val * 256)
    (inb : ∀ i, ![0, b] i + S528x256.size i ≤ S528x1024.size i) (q : Fin 528) (c : Fin 256) :
    (View.whole cc0_scratch0).readCov (Val := Elt Ideal) L (Rect.unit (s := S528x1024) ![0, b] S528x256.size inb).toLoadRect (ix2 q c)
      = View.canon L (ix2 q (gcol g c)) := by
  subst hb
  rw [View.readCov_eq_canon']
  blk_simp
  refine congrArg (View.canon L) (funext fun a => Fin.ext ?_)
  rw [Rect.idx_unit_val]
  fin_cases a
  · exact Nat.zero_add _
  · exact rfl

theorem ext4_read (L : List (View.Piece (Elt Ideal) S528x1024 .f32)) (g : Fin 4) (b : ℕ) (hb : b = g.val * 256)
    (inb : ∀ i, ![0, b] i + S528x256.size i ≤ S528x1024.size i) (q : Fin 528) (c : Fin 256) :
    (View.whole cc0_scratch4).readCov (Val := Elt Ideal) L (Rect.unit (s := S528x1024) ![0, b] S528x256.size inb).toLoadRect (ix2 q c)
      = View.canon L (ix2 q (gcol g c)) := by
  subst hb
  rw [View.readCov_eq_canon']
  blk_simp
  refine congrArg (View.canon L) (funext fun a => Fin.ext ?_)
  rw [Rect.idx_unit_val]
  fin_cases a
  · exact Nat.zero_add _
  · exact rfl

/-- A whole tile read from what was stored. -/
theorem whole_read {M : View sig .tc .vmem S512x1024 .f32} (hM : ∀ (L : List (View.Piece (Elt Ideal) S512x1024 .f32)),
      M.readCov (Val := Elt Ideal) L (Rect.unit (s := S512x1024) ![0, 0] S512x1024.size inb_S512x1024_S512x1024_0_0).toLoadRect
        = fun i => View.canon L ((Rect.unit (s := S512x1024) ![0, 0] S512x1024.size inb_S512x1024_S512x1024_0_0).idx i))
    (L : List (View.Piece (Elt Ideal) S512x1024 .f32)) (r : Fin 512) (l : Fin 1024) :
    M.readCov (Val := Elt Ideal) L (Rect.unit (s := S512x1024) ![0, 0] S512x1024.size inb_S512x1024_S512x1024_0_0).toLoadRect (ix2 r l)
      = View.canon L (ix2 r l) := by
  rw [hM]
  refine congrArg (View.canon L) (funext fun a => Fin.ext ?_)
  rw [Rect.idx_unit_val]
  fin_cases a
  · exact Nat.zero_add _
  · exact Nat.zero_add _

section
variable (L : List (View.Piece (Elt Ideal) S512x1024 .f32)) (r : Fin 512) (l : Fin 1024)

theorem mix_read : (View.whole cc0_scratch1).readCov (Val := Elt Ideal) L (Rect.unit (s := S512x1024) ![0, 0] S512x1024.size inb_S512x1024_S512x1024_0_0).toLoadRect (ix2 r l)
    = View.canon L (ix2 r l) := whole_read (fun L => by rw [View.readCov_eq_canon']) L r l
theorem mm_read : (View.whole cc0_scratch2).readCov (Val := Elt Ideal) L (Rect.unit (s := S512x1024) ![0, 0] S512x1024.size inb_S512x1024_S512x1024_0_0).toLoadRect (ix2 r l)
    = View.canon L (ix2 r l) := whole_read (fun L => by rw [View.readCov_eq_canon']) L r l
theorem dhn_read : (View.whole cc0_scratch5).readCov (Val := Elt Ideal) L (Rect.unit (s := S512x1024) ![0, 0] S512x1024.size inb_S512x1024_S512x1024_0_0).toLoadRect (ix2 r l)
    = View.canon L (ix2 r l) := whole_read (fun L => by rw [View.readCov_eq_canon']) L r l

end

section
variable (v : View sig .tc .vmem S528x1024 .f32) (f : v.ty.Contents (Elt Ideal)) {b : ℕ} (L : List (View.Piece (Elt Ideal) S528x1024 .f32)) (p : Fin 528)
  (l : Fin 1024)

theorem late_hit (inb : ∀ i, ![512, b] i + S16x256.size i ≤ S528x1024.size i) (x : Vec Ideal S16x256 .f32) (i : Fin 16) (c : Fin 256)
    (hp : p.val = 512 + i.val) (hl : l.val = b + c.val) :
    v.read (Elt Ideal) (v.writes (Elt Ideal) f (⟨Rect.unit (s := S528x1024) ![512, b] S16x256.size inb, x⟩ :: L)) (ix2 p l) = x (ix2 i c) :=
  View.read_writes_cons_unit_of_mem v f inb x L _ (ix2 i c) rfl (Fin.forall_fin_two.mpr ⟨hp, hl⟩)
theorem late_miss (inb : ∀ i, ![512, b] i + S16x256.size i ≤ S528x1024.size i) (x : Vec Ideal S16x256 .f32) (hp : p.val < 512) :
    v.read (Elt Ideal) (v.writes (Elt Ideal) f (⟨Rect.unit (s := S528x1024) ![512, b] S16x256.size inb, x⟩ :: L)) (ix2 p l)
      = v.read (Elt Ideal) (v.writes (Elt Ideal) f L) (ix2 p l) := by
  refine View.read_writes_cons_unit_of_not_mem v f inb x L _ rfl (0 : Fin 2) ?_
  show p.val < 512 ∨ 512 + 16 ≤ p.val
  exact Or.inl hp
theorem early_hit (inb : ∀ i, ![0, b] i + S512x256.size i ≤ S528x1024.size i) (x : Vec Ideal S512x256 .f32) (i : Fin 512) (c : Fin 256)
    (hp : p.val = 0 + i.val) (hl : l.val = b + c.val) :
    v.read (Elt Ideal) (v.writes (Elt Ideal) f (⟨Rect.unit (s := S528x1024) ![0, b] S512x256.size inb, x⟩ :: L)) (ix2 p l) = x (ix2 i c) :=
  View.read_writes_cons_unit_of_mem v f inb x L _ (ix2 i c) rfl (Fin.forall_fin_two.mpr ⟨hp, hl⟩)

end

/-- Sixteen rows stored after a tile's: what is read from them together. -/
theorem q_read (L : List (View.Piece (Elt Ideal) S528x1024 .f32)) (g : Fin 4) (b : ℕ) (hb : b = g.val * 256)
    (inb1 : ∀ i, ![512, b] i + S16x256.size i ≤ S528x1024.size i) (inb2 : ∀ i, ![0, b] i + S512x256.size i ≤ S528x1024.size i)
    (inb : ∀ i, ![0, b] i + S528x256.size i ≤ S528x1024.size i) {k : Vec Ideal S16x256 .f32} {a : Vec Ideal S512x256 .f32} {f : ℕ → Fin 256 → EReal}
    (ha : ∀ r c, a (ix2 r c) = f r.val c) (hk : ∀ i c, k (ix2 i c) = f (512 + i.val) c) (p : Fin 528) (c : Fin 256) :
    (View.whole cc0_scratch4).readCov (Val := Elt Ideal) (⟨Rect.unit (s := S528x1024) ![512, b] S16x256.size inb1, k⟩
      :: ⟨Rect.unit (s := S528x1024) ![0, b] S512x256.size inb2, a⟩ :: L) (Rect.unit (s := S528x1024) ![0, b] S528x256.size inb).toLoadRect (ix2 p c)
      = f p.val c := by
  have hc : (gcol g c).val = b + c.val := by rw [hb]; rfl
  rw [ext4_read _ g b hb]
  refine (View.read_writes_junk_apply_eq_canon (View.whole cc0_scratch4) _ _).symm.trans ?_
  by_cases h : p.val < 512
  · rw [late_miss _ _ _ _ _ inb1 k h]
    exact (early_hit _ _ L p _ inb2 a ⟨p.val, h⟩ c (Nat.zero_add _).symm hc).trans (ha _ c)
  · have h' : p.val = 512 + (p.val - 512) := by omega
    rw [late_hit _ _ _ _ _ inb1 k ⟨p.val - 512, by omega⟩ c h' hc]
    exact (hk _ c).trans (congrArg (f · c) h'.symm)

variable {I : BwdPool.In} {T : Fin 8}

/-- The normalised input in the scratch: the sixteen rows before the tile, then the tile. -/
abbrev rows (i : grid0.Coords) (x : Vec Ideal S512x1024 .f32) (s hal : Vec Ideal S16x1024 .f32) : List (View.Piece (Elt Ideal) S528x1024 .f32) :=
  [⟨Rect.unit (s := S528x1024) ![16, 0] S512x1024.size inb_S528x1024_S512x1024_16_0, k0_pay10 (F := Ideal) (k0_pay9 (smRow s 0 inb_S16x1024_S1x1024_0_0) x)⟩,
    ⟨Rect.unit (s := S528x1024) ![0, 0] S16x1024.size inb_S528x1024_S16x1024_0_0, k0_pay8 (F := Ideal) i (smRow s 0 inb_S16x1024_S1x1024_0_0) hal⟩]

/-- A group's columns of it, read back. -/
abbrev ext (i : grid0.Coords) (x : Vec Ideal S512x1024 .f32) (s hal : Vec Ideal S16x1024 .f32) (b : ℕ)
    (inb : ∀ i, ![0, b] i + S528x256.size i ≤ S528x1024.size i) : Vec Ideal S528x256 .f32 :=
  (View.whole cc0_scratch0).readCov (Val := Elt Ideal) (rows i x s hal) (Rect.unit (s := S528x1024) ![0, b] S528x256.size inb).toLoadRect

section
variable {i : grid0.Coords} {x : Vec Ideal S512x1024 .f32} {s hal : Vec Ideal S16x1024 .f32}

theorem rows_of (hn : ∀ r l, k0_pay10 (F := Ideal) (k0_pay9 (smRow s 0 inb_S16x1024_S1x1024_0_0) x) (ix2 r l) = FwdPool.n I.toIn (tok T r) l)
    (hh : ∀ j l, k0_pay8 (F := Ideal) i (smRow s 0 inb_S16x1024_S1x1024_0_0) hal (ix2 j l) = pz I.toIn (T.val * 512 + j.val) l) (j : S528x1024.Idx) :
    View.canon (rows i x s hal) j = pz I.toIn (T.val * 512 + (j 0).val) (j 1) := by
  unfold rows
  generalize k0_pay10 (F := Ideal) (k0_pay9 (smRow s 0 inb_S16x1024_S1x1024_0_0) x) = u at hn ⊢
  generalize k0_pay8 (F := Ideal) i (smRow s 0 inb_S16x1024_S1x1024_0_0) hal = v at hh ⊢
  canon_tiles x hx using View.cover_of_tiledBy (s := S528x1024) (Val := Elt Ideal) (e := .f32) _ ![16, 1024] (by sl_kernel_rfl) _
  · idx_vars x
    have e0 : (j 0).val = 16 + x0.val := hx0
    have e1 : j 1 = x1 := Fin.ext hx1
    rw [e1, e0]
    exact (hn x0 x1).trans (n_tile x0 x1).symm
  · idx_vars x
    have e0 : (j 0).val = x0.val := hx0
    have e1 : j 1 = x1 := Fin.ext hx1
    rw [e1, e0]
    exact hh x0 x1

end

/-- A group's columns are a column of the whole. -/
theorem part (g : Fin 4) (b : ℕ) (hb : b = g.val * 256) {l : Fin 1024} {x : Fin 256} (h : l.val = b + x.val) : l = gcol g x := Fin.ext (h.trans (by rw [hb]; rfl))

section
variable (a : BitVec 32) (e0 e1 e2 e3 : Vec Ideal S528x256 .f32) (w : Vec Ideal S4x256x256 .bf16) (sc : Vec Ideal S1x1024 .f32)

/-- The mixer's output as the body stores it, and the mixed groups before the scale. -/
abbrev mixes : List (View.Piece (Elt Ideal) S512x1024 .f32) :=
  [⟨Rect.unit (s := S512x1024) ![0, 768] S512x256.size inb_S512x1024_S512x256_0_768,
      k0_pay30 (F := Ideal) (Scalar.muli a 512#32) e3 (wBlk w 3 inb_S4x256x256_S1x256x256_3_0_0) (scBlk sc 768 inb_S1x1024_S1x256_0_768)⟩,
    ⟨Rect.unit (s := S512x1024) ![0, 512] S512x256.size inb_S512x1024_S512x256_0_512,
      k0_pay25 (F := Ideal) (Scalar.muli a 512#32) e2 (wBlk w 2 inb_S4x256x256_S1x256x256_2_0_0) (scBlk sc 512 inb_S1x1024_S1x256_0_512)⟩,
    ⟨Rect.unit (s := S512x1024) ![0, 256] S512x256.size inb_S512x1024_S512x256_0_256,
      k0_pay20 (F := Ideal) a 512#32 e1 (wBlk w 1 inb_S4x256x256_S1x256x256_1_0_0) (scBlk sc 256 inb_S1x1024_S1x256_0_256)⟩,
    ⟨Rect.unit (s := S512x1024) ![0, 0] S512x256.size inb_S512x1024_S512x256_0_0,
      k0_pay15 (F := Ideal) a e0 (wBlk w 0 inb_S4x256x256_S1x256x256_0_0_0) (scBlk sc 0 inb_S1x1024_S1x256_0_0)⟩]
abbrev mms : List (View.Piece (Elt Ideal) S512x1024 .f32) :=
  [⟨Rect.unit (s := S512x1024) ![0, 768] S512x256.size inb_S512x1024_S512x256_0_768,
      k0_pay29 (F := Ideal) (Scalar.muli a 512#32) e3 (wBlk w 3 inb_S4x256x256_S1x256x256_3_0_0)⟩,
    ⟨Rect.unit (s := S512x1024) ![0, 512] S512x256.size inb_S512x1024_S512x256_0_512,
      k0_pay24 (F := Ideal) (Scalar.muli a 512#32) e2 (wBlk w 2 inb_S4x256x256_S1x256x256_2_0_0)⟩,
    ⟨Rect.unit (s := S512x1024) ![0, 256] S512x256.size inb_S512x1024_S512x256_0_256,
      k0_pay19 (F := Ideal) a 512#32 e1 (wBlk w 1 inb_S4x256x256_S1x256x256_1_0_0)⟩,
    ⟨Rect.unit (s := S512x1024) ![0, 0] S512x256.size inb_S512x1024_S512x256_0_0,
      k0_pay14 (F := Ideal) a e0 (wBlk w 0 inb_S4x256x256_S1x256x256_0_0_0)⟩]

/-- They read back whole. -/
abbrev mixW : Vec Ideal S512x1024 .f32 := (View.whole cc0_scratch1).readCov (Val := Elt Ideal) (mixes a e0 e1 e2 e3 w sc)
  (Rect.unit (s := S512x1024) ![0, 0] S512x1024.size inb_S512x1024_S512x1024_0_0).toLoadRect
abbrev mmW : Vec Ideal S512x1024 .f32 := (View.whole cc0_scratch2).readCov (Val := Elt Ideal) (mms a e0 e1 e2 e3 w)
  (Rect.unit (s := S512x1024) ![0, 0] S512x1024.size inb_S512x1024_S512x1024_0_0).toLoadRect

variable {a e0 e1 e2 e3 w sc} (ha : a = BitVec.ofNat 32 T.val)
  (h0 : ∀ q c, e0 (ix2 q c) = pz I.toIn (T.val * 512 + q.val) (gcol 0 c)) (h1 : ∀ q c, e1 (ix2 q c) = pz I.toIn (T.val * 512 + q.val) (gcol 1 c))
  (h2 : ∀ q c, e2 (ix2 q c) = pz I.toIn (T.val * 512 + q.val) (gcol 2 c)) (h3 : ∀ q c, e3 (ix2 q c) = pz I.toIn (T.val * 512 + q.val) (gcol 3 c))
  (hw : ∀ g c x, w (ix3 g c x) = I.w g c x) (hs : ∀ l, sc (ix2 0 l) = I.sc l)
include ha h0 h1 h2 h3 hw

theorem mms_at (j : S512x1024.Idx) : View.canon (mms a e0 e1 e2 e3 w) j = mmc I (tok T (j 0)) (j 1) := by
  unfold mms
  canon_tiles x hx
  · idx_vars x
    rw [show j 0 = x0 from Fin.ext hx0]
    exact ((stored3 x0 x1).trans (mm3 ha x0 x1 h3 fun c x => (wBlk_at w 3 _ c x).trans (hw 3 c x))).trans (FwdPool.mm_at I.toIn 3 _ x1 (j 1) hx1).symm
  · idx_vars x
    rw [show j 0 = x0 from Fin.ext hx0]
    exact ((stored2 x0 x1).trans (mm2 ha x0 x1 h2 fun c x => (wBlk_at w 2 _ c x).trans (hw 2 c x))).trans (FwdPool.mm_at I.toIn 2 _ x1 (j 1) hx1).symm
  · idx_vars x
    rw [show j 0 = x0 from Fin.ext hx0]
    exact ((stored1 x0 x1).trans (mm1 ha x0 x1 h1 fun c x => (wBlk_at w 1 _ c x).trans (hw 1 c x))).trans (FwdPool.mm_at I.toIn 1 _ x1 (j 1) hx1).symm
  · idx_vars x
    have e1 : (j 1).val = 0 * 256 + x1.val := by rw [Nat.zero_mul, Nat.zero_add]; exact hx1
    rw [show j 0 = x0 from Fin.ext hx0]
    exact ((stored0 x0 x1).trans (mm0 ha x0 x1 h0 fun c x => (wBlk_at w 0 _ c x).trans (hw 0 c x))).trans (FwdPool.mm_at I.toIn 0 _ x1 (j 1) e1).symm

theorem mmW_at (r : Fin 512) (l : Fin 1024) : mmW a e0 e1 e2 e3 w (ix2 r l) = mmc I (tok T r) l := (mm_read _ r l).trans (mms_at ha h0 h1 h2 h3 hw _)

include hs

theorem mixes_at (j : S512x1024.Idx) : View.canon (mixes a e0 e1 e2 e3 w sc) j = mix I.toIn (tok T (j 0)) (j 1) := by
  unfold mixes
  canon_tiles x hx
  · idx_vars x
    rw [show j 0 = x0 from Fin.ext hx0, FwdPool.mix_at I.toIn 3 _ x1 (j 1) hx1, show j 1 = gcol 3 x1 from Fin.ext hx1]
    exact (scaled3 x0 x1).trans (congrArg₂ (· * ·) (mm3 ha x0 x1 h3 fun c x => (wBlk_at w 3 _ c x).trans (hw 3 c x)) ((scBlk_at sc 3 768 rfl _ x1).trans (hs _)))
  · idx_vars x
    rw [show j 0 = x0 from Fin.ext hx0, FwdPool.mix_at I.toIn 2 _ x1 (j 1) hx1, show j 1 = gcol 2 x1 from Fin.ext hx1]
    exact (scaled2 x0 x1).trans (congrArg₂ (· * ·) (mm2 ha x0 x1 h2 fun c x => (wBlk_at w 2 _ c x).trans (hw 2 c x)) ((scBlk_at sc 2 512 rfl _ x1).trans (hs _)))
  · idx_vars x
    rw [show j 0 = x0 from Fin.ext hx0, FwdPool.mix_at I.toIn 1 _ x1 (j 1) hx1, show j 1 = gcol 1 x1 from Fin.ext hx1]
    exact (scaled1 x0 x1).trans (congrArg₂ (· * ·) (mm1 ha x0 x1 h1 fun c x => (wBlk_at w 1 _ c x).trans (hw 1 c x)) ((scBlk_at sc 1 256 rfl _ x1).trans (hs _)))
  · idx_vars x
    have e1 : (j 1).val = 0 * 256 + x1.val := by rw [Nat.zero_mul, Nat.zero_add]; exact hx1
    rw [show j 0 = x0 from Fin.ext hx0, FwdPool.mix_at I.toIn 0 _ x1 (j 1) e1, show j 1 = gcol 0 x1 from Fin.ext e1]
    exact (scaled0 x0 x1).trans (congrArg₂ (· * ·) (mm0 ha x0 x1 h0 fun c x => (wBlk_at w 0 _ c x).trans (hw 0 c x)) ((scBlk_at sc 0 0 rfl _ x1).trans (hs _)))

theorem mixW_at (r : Fin 512) (l : Fin 1024) : mixW a e0 e1 e2 e3 w sc (ix2 r l) = mix I.toIn (tok T r) l := (mix_read _ r l).trans (mixes_at ha h0 h1 h2 h3 hw hs _)

end

/-- The windows' gradient, by place and column. -/
def qc (I : BwdPool.In) (p : ℕ) (l : Fin 1024) : EReal := qz I ⟨l.val / 256, by omega⟩ p ⟨l.val % 256, by omega⟩

theorem qc_at (I : BwdPool.In) (g : Fin 4) (p : ℕ) (x : Fin 256) (l : Fin 1024) (h : l.val = g.val * 256 + x.val) : qc I p l = qz I g p x := by
  rw [qc, show (⟨l.val / 256, by omega⟩ : Fin 4) = g from Fin.ext (by dsimp only; omega),
    show (⟨l.val % 256, by omega⟩ : Fin 256) = x from Fin.ext (by dsimp only; omega)]

/-- What the carried rows must hold: the first rows of the tile after this one. -/
def Carried (I : BwdPool.In) (T : Fin 8) (v : Vec Ideal S16x1024 .f32) : Prop :=
  ∀ (i : Fin 16) (l : Fin 1024), v (ix2 i l) = qc I (T.val * 512 + (512 + i.val)) l

section
variable {u : Vec Ideal S512x256 .f32} {b : Vec Ideal S512x256 .bf16} {wb : Vec Ideal S1x256x256 .bf16} {a : BitVec 32} {k n : IVec S512x1 32}
  {v : Vec Ideal S16x256 .f32} (r : Fin 512) (i : Fin 16) (c : Fin 256)

/-- Stored as they are: each group's quotient, the carried rows, the rows to carry. -/
theorem keep0 : k0_pay41 (F := Ideal) u (ix2 r c) = u (ix2 r c) := by
  unfold k0_pay41
  pointwise []
theorem keep1 : k0_pay50 (F := Ideal) a u (ix2 r c) = k0_pay49 (F := Ideal) a u (ix2 r c) := by
  unfold k0_pay50
  generalize k0_pay49 (F := Ideal) a u = z
  pointwise []
theorem keep2 : k0_pay58 (F := Ideal) a b wb (ix2 r c) = k0_pay57 (F := Ideal) a b wb (ix2 r c) := by
  unfold k0_pay58
  generalize k0_pay57 (F := Ideal) a b wb = z
  pointwise []
theorem keep3 : k0_pay68 (F := Ideal) u k n (ix2 r c) = k0_pay67 (F := Ideal) u k n (ix2 r c) := by
  unfold k0_pay68
  generalize k0_pay67 (F := Ideal) u k n = z
  pointwise []
theorem old0 : k0_pay42 (F := Ideal) v (ix2 i c) = v (ix2 i c) := by
  unfold k0_pay42
  pointwise []
theorem old1 : k0_pay51 (F := Ideal) v (ix2 i c) = v (ix2 i c) := by
  unfold k0_pay51
  pointwise []
theorem old2 : k0_pay59 (F := Ideal) v (ix2 i c) = v (ix2 i c) := by
  unfold k0_pay59
  pointwise []
theorem old3 : k0_pay69 (F := Ideal) v (ix2 i c) = v (ix2 i c) := by
  unfold k0_pay69
  pointwise []
theorem new0 : k0_pay43 (F := Ideal) u (ix2 i c) = u (ix2 ⟨i.val, by omega⟩ c) := by
  unfold k0_pay43
  pointwise []
theorem new1 : k0_pay52 (F := Ideal) a u (ix2 i c) = k0_pay49 (F := Ideal) a u (ix2 ⟨i.val, by omega⟩ c) := by
  unfold k0_pay52
  generalize k0_pay49 (F := Ideal) a u = z
  pointwise []
theorem new2 : k0_pay60 (F := Ideal) a b wb (ix2 i c) = k0_pay57 (F := Ideal) a b wb (ix2 ⟨i.val, by omega⟩ c) := by
  unfold k0_pay60
  generalize k0_pay57 (F := Ideal) a b wb = z
  pointwise []
theorem new3 : k0_pay70 (F := Ideal) u k n (ix2 i c) = k0_pay67 (F := Ideal) u k n (ix2 ⟨i.val, by omega⟩ c) := by
  unfold k0_pay70
  generalize k0_pay67 (F := Ideal) u k n = z
  pointwise []

end

section
variable (a : BitVec 32) (u : Vec Ideal S512x1024 .f32) (w : Vec Ideal S4x256x256 .bf16) (U : Vec Ideal S16x1024 .f32)

/-- What the body has stored of the windows' gradient when it reads each group of it. -/
abbrev qs0 : List (View.Piece (Elt Ideal) S528x1024 .f32) :=
  [⟨Rect.unit (s := S528x1024) ![512, 0] S16x256.size inb_S528x1024_S16x256_512_0, k0_pay42 (F := Ideal) (crCols U 0 inb_S16x1024_S16x256_0_0)⟩,
    ⟨Rect.unit (s := S528x1024) ![0, 0] S512x256.size inb_S528x1024_S512x256_0_0,
      k0_pay41 (F := Ideal) (k0_pay40 a (cols u 0 inb_S512x1024_S512x256_0_0) (wBlk w 0 inb_S4x256x256_S1x256x256_0_0_0))⟩]
abbrev qs1 : List (View.Piece (Elt Ideal) S528x1024 .f32) :=
  ⟨Rect.unit (s := S528x1024) ![512, 256] S16x256.size inb_S528x1024_S16x256_512_256, k0_pay51 (F := Ideal) (crCols U 256 inb_S16x1024_S16x256_0_256)⟩
    :: ⟨Rect.unit (s := S528x1024) ![0, 256] S512x256.size inb_S528x1024_S512x256_0_256,
      k0_pay50 (F := Ideal) a (k0_pay46 (cols u 256 inb_S512x1024_S512x256_0_256) (wBlk w 1 inb_S4x256x256_S1x256x256_1_0_0))⟩ :: qs0 a u w U
abbrev qs2 : List (View.Piece (Elt Ideal) S528x1024 .f32) :=
  ⟨Rect.unit (s := S528x1024) ![512, 512] S16x256.size inb_S528x1024_S16x256_512_512, k0_pay59 (F := Ideal) (crCols U 512 inb_S16x1024_S16x256_0_512)⟩
    :: ⟨Rect.unit (s := S528x1024) ![0, 512] S512x256.size inb_S528x1024_S512x256_0_512,
      k0_pay58 (F := Ideal) a (k0_pay54 (cols u 512 inb_S512x1024_S512x256_0_512)) (wBlk w 2 inb_S4x256x256_S1x256x256_2_0_0)⟩ :: qs1 a u w U
abbrev qs3 : List (View.Piece (Elt Ideal) S528x1024 .f32) :=
  ⟨Rect.unit (s := S528x1024) ![512, 768] S16x256.size inb_S528x1024_S16x256_512_768, k0_pay69 (F := Ideal) (crCols U 768 inb_S16x1024_S16x256_0_768)⟩
    :: ⟨Rect.unit (s := S528x1024) ![0, 768] S512x256.size inb_S528x1024_S512x256_0_768,
      k0_pay68 (F := Ideal) (k0_pay63 (cols u 768 inb_S512x1024_S512x256_0_768) (wBlk w 3 inb_S4x256x256_S1x256x256_3_0_0)) (k0_pay65 a) k0_pay66⟩ :: qs2 a u w U

abbrev qr (L : List (View.Piece (Elt Ideal) S528x1024 .f32)) (b : ℕ) (inb : ∀ i, ![0, b] i + S528x256.size i ≤ S528x1024.size i) : Vec Ideal S528x256 .f32 :=
  (View.whole cc0_scratch4).readCov (Val := Elt Ideal) L (Rect.unit (s := S528x1024) ![0, b] S528x256.size inb).toLoadRect

/-- The gradient with respect to the normalised input, as the body stores it. -/
abbrev dhns : List (View.Piece (Elt Ideal) S512x1024 .f32) :=
  [⟨Rect.unit (s := S512x1024) ![0, 768] S512x256.size inb_S512x1024_S512x256_0_768,
      k0_pay71 (F := Ideal) (k0_pay63 (cols u 768 inb_S512x1024_S512x256_0_768) (wBlk w 3 inb_S4x256x256_S1x256x256_3_0_0))
        (qr (qs3 a u w U) 768 inb_S528x1024_S528x256_0_768)⟩,
    ⟨Rect.unit (s := S512x1024) ![0, 512] S512x256.size inb_S512x1024_S512x256_0_512,
      k0_pay61 (F := Ideal) (k0_pay55 (k0_pay54 (cols u 512 inb_S512x1024_S512x256_0_512)) (wBlk w 2 inb_S4x256x256_S1x256x256_2_0_0))
        (qr (qs2 a u w U) 512 inb_S528x1024_S528x256_0_512)⟩,
    ⟨Rect.unit (s := S512x1024) ![0, 256] S512x256.size inb_S512x1024_S512x256_0_256,
      k0_pay53 (F := Ideal) (k0_pay46 (cols u 256 inb_S512x1024_S512x256_0_256) (wBlk w 1 inb_S4x256x256_S1x256x256_1_0_0))
        (qr (qs1 a u w U) 256 inb_S528x1024_S528x256_0_256)⟩,
    ⟨Rect.unit (s := S512x1024) ![0, 0] S512x256.size inb_S512x1024_S512x256_0_0,
      k0_pay44 (F := Ideal) (k0_pay38 (cols u 0 inb_S512x1024_S512x256_0_0) (wBlk w 0 inb_S4x256x256_S1x256x256_0_0_0))
        (qr (qs0 a u w U) 0 inb_S528x1024_S528x256_0_0)⟩]

/-- It read back. -/
abbrev dhnW : Vec Ideal S512x1024 .f32 := (View.whole cc0_scratch5).readCov (Val := Elt Ideal) (dhns a u w U)
  (Rect.unit (s := S512x1024) ![0, 0] S512x1024.size inb_S512x1024_S512x1024_0_0).toLoadRect

/-- The rows carried to the tile before. -/
abbrev carries : List (View.Piece (Elt Ideal) S16x1024 .f32) :=
  [⟨Rect.unit (s := S16x1024) ![0, 768] S16x256.size inb_S16x1024_S16x256_0_768,
      k0_pay70 (F := Ideal) (k0_pay63 (cols u 768 inb_S512x1024_S512x256_0_768) (wBlk w 3 inb_S4x256x256_S1x256x256_3_0_0)) (k0_pay65 a) k0_pay66⟩,
    ⟨Rect.unit (s := S16x1024) ![0, 512] S16x256.size inb_S16x1024_S16x256_0_512,
      k0_pay60 (F := Ideal) a (k0_pay54 (cols u 512 inb_S512x1024_S512x256_0_512)) (wBlk w 2 inb_S4x256x256_S1x256x256_2_0_0)⟩,
    ⟨Rect.unit (s := S16x1024) ![0, 256] S16x256.size inb_S16x1024_S16x256_0_256,
      k0_pay52 (F := Ideal) a (k0_pay46 (cols u 256 inb_S512x1024_S512x256_0_256) (wBlk w 1 inb_S4x256x256_S1x256x256_1_0_0))⟩,
    ⟨Rect.unit (s := S16x1024) ![0, 0] S16x256.size inb_S16x1024_S16x256_0_0,
      k0_pay43 (F := Ideal) (k0_pay40 a (cols u 0 inb_S512x1024_S512x256_0_0) (wBlk w 0 inb_S4x256x256_S1x256x256_0_0_0))⟩]

variable {a u w U} (ha : a = BitVec.ofNat 32 T.val) (hu : ∀ r l, u (ix2 r l) = dmm I (tok T r) l) (hw : ∀ g c x, w (ix3 g c x) = I.w g c x)

include hu in
theorem part_at (g : Fin 4) (b : ℕ) (hb : b = g.val * 256) (inb) (r : Fin 512) (c : Fin 256) : cols u b inb (ix2 r c) = dmm I (tok T r) (gcol g c) :=
  (cols_at g b hb inb r c).trans (hu r _)

include hw in
theorem wpart (g : Fin 4) (inb) (c x : Fin 256) : wBlk w g.val inb (ix3 0 c x) = I.w g c x := (wBlk_at w g inb c x).trans (hw g c x)

include ha hu hw

/-- The rows so carried. -/
theorem carries_at (j : S16x1024.Idx) : View.canon (carries a u w) j = qc I (T.val * 512 + (j 0).val) (j 1) := by
  unfold carries
  canon_tiles x hx
  · idx_vars x
    rw [show j 0 = x0 from Fin.ext hx0, qc_at I 3 _ x1 (j 1) hx1]
    exact (new3 x0 x1).trans (q3 ha _ x1 fun r c => dp3 (part_at hu 3 768 rfl _) (wpart hw 3 _) r c)
  · idx_vars x
    rw [show j 0 = x0 from Fin.ext hx0, qc_at I 2 _ x1 (j 1) hx1]
    exact (new2 x0 x1).trans (q2 ha _ x1 (part_at hu 2 512 rfl _) (wpart hw 2 _))
  · idx_vars x
    rw [show j 0 = x0 from Fin.ext hx0, qc_at I 1 _ x1 (j 1) hx1]
    exact (new1 x0 x1).trans (q1 ha _ x1 fun r c => dp1 (part_at hu 1 256 rfl _) (wpart hw 1 _) r c)
  · idx_vars x
    have e1 : (j 1).val = 0 * 256 + x1.val := by rw [Nat.zero_mul, Nat.zero_add]; exact hx1
    rw [show j 0 = x0 from Fin.ext hx0, qc_at I 0 _ x1 (j 1) e1]
    exact (new0 x0 x1).trans (q0 ha _ x1 (part_at hu 0 0 rfl _) (wpart hw 0 _))

variable (C : Carried I T U)

omit ha hu hw in
include C in
theorem old_at (g : Fin 4) (b : ℕ) (hb : b = g.val * 256) (inb) (i : Fin 16) (c : Fin 256) : crCols U b inb (ix2 i c) = qz I g (T.val * 512 + (512 + i.val)) c :=
  (crCols_at U g b hb inb i c).trans ((C i _).trans (qc_at I g _ c _ rfl))

include C

theorem dhns_at (j : S512x1024.Idx) : View.canon (dhns a u w U) j = dhn I (tok T (j 0)) (j 1) := by
  unfold dhns
  canon_tiles x hx
  · idx_vars x
    rw [show j 0 = x0 from Fin.ext hx0, BwdPool.dhn_at I 3 _ x1 (j 1) hx1]
    have hd := dp3 (part_at hu 3 768 rfl inb_S512x1024_S512x256_0_768) (wpart hw 3 inb_S4x256x256_S1x256x256_3_0_0)
    exact dn3 x0 x1 hd (q_read (f := fun p c => qz I 3 (T.val * 512 + p) c) _ 3 768 rfl _ _ _ (fun r c => (keep3 r c).trans (q3 ha r c hd)) fun i c => (old3 i c).trans (old_at C 3 768 rfl _ i c))
  · idx_vars x
    rw [show j 0 = x0 from Fin.ext hx0, BwdPool.dhn_at I 2 _ x1 (j 1) hx1]
    exact dn2 x0 x1 (dp2 (part_at hu 2 512 rfl _) (wpart hw 2 _)) (q_read (f := fun p c => qz I 2 (T.val * 512 + p) c) _ 2 512 rfl _ _ _
      (fun r c => (keep2 r c).trans (q2 ha r c (part_at hu 2 512 rfl _) (wpart hw 2 _))) fun i c => (old2 i c).trans (old_at C 2 512 rfl _ i c))
  · idx_vars x
    rw [show j 0 = x0 from Fin.ext hx0, BwdPool.dhn_at I 1 _ x1 (j 1) hx1]
    have hd := dp1 (part_at hu 1 256 rfl inb_S512x1024_S512x256_0_256) (wpart hw 1 inb_S4x256x256_S1x256x256_1_0_0)
    exact dn1 x0 x1 hd (q_read (f := fun p c => qz I 1 (T.val * 512 + p) c) _ 1 256 rfl _ _ _ (fun r c => (keep1 r c).trans (q1 ha r c hd)) fun i c => (old1 i c).trans (old_at C 1 256 rfl _ i c))
  · idx_vars x
    have e1 : (j 1).val = 0 * 256 + x1.val := by rw [Nat.zero_mul, Nat.zero_add]; exact hx1
    rw [show j 0 = x0 from Fin.ext hx0, BwdPool.dhn_at I 0 _ x1 (j 1) e1]
    exact dn0 x0 x1 (dp0 (part_at hu 0 0 rfl _) (wpart hw 0 _)) (q_read (f := fun p c => qz I 0 (T.val * 512 + p) c) _ 0 0 rfl _ _ _
      (fun r c => (keep0 r c).trans (q0 ha r c (part_at hu 0 0 rfl _) (wpart hw 0 _))) fun i c => (old0 i c).trans (old_at C 0 0 rfl _ i c))

theorem dhnW_at (r : Fin 512) (l : Fin 1024) : dhnW a u w U (ix2 r l) = dhn I (tok T r) l := (dhn_read _ r l).trans (dhns_at ha hu hw C _)

end

/-- A group's block written over the weights' gradient: what an entry reads afterwards. -/
theorem blk_at (v : View sig .tc .vmem S4x256x256 .f32) (f : v.ty.Contents (Elt Ideal)) (n : ℕ) (hn : n < 4)
    (inb : ∀ a, ![n, 0, 0] a + S1x256x256.size a ≤ S4x256x256.size a) (x : Vec Ideal S1x256x256 .f32)
    (L : List (View.Piece (Elt Ideal) S4x256x256 .f32)) (g : Fin 4) (c y : Fin 256) :
    v.read (Elt Ideal) (v.writes (Elt Ideal) f (⟨Rect.unit (s := S4x256x256) ![n, 0, 0] S1x256x256.size inb, x⟩ :: L)) (ix3 g c y)
      = if g.val = n then x (ix3 0 c y) else v.read (Elt Ideal) (v.writes (Elt Ideal) f L) (ix3 g c y) := by
  split_ifs with h
  · refine View.read_writes_cons_unit_of_mem v f inb x L _ (ix3 0 c y) rfl fun a => ?_
    fin_cases a
    · exact h
    · exact (Nat.zero_add _).symm
    · exact (Nat.zero_add _).symm
  · refine View.read_writes_cons_unit_of_not_mem v f inb x L _ rfl (0 : Fin 3) ?_
    show g.val < n ∨ n + 1 ≤ g.val
    omega

/-- A row written over the sums: what an entry reads afterwards. -/
theorem row_at (v : View sig .tc .vmem S8x1024 .f32) (f : v.ty.Contents (Elt Ideal)) (n : ℕ) (hn : n < 8)
    (inb : ∀ a, ![n, 0] a + S1x1024.size a ≤ S8x1024.size a) (x : Vec Ideal S1x1024 .f32)
    (L : List (View.Piece (Elt Ideal) S8x1024 .f32)) (j : Fin 8) (l : Fin 1024) :
    v.read (Elt Ideal) (v.writes (Elt Ideal) f (⟨Rect.unit (s := S8x1024) ![n, 0] S1x1024.size inb, x⟩ :: L)) (ix2 j l)
      = if j.val = n then x (ix2 0 l) else v.read (Elt Ideal) (v.writes (Elt Ideal) f L) (ix2 j l) := by
  split_ifs with h
  · exact View.read_writes_cons_unit_of_mem v f inb x L _ (ix2 0 l) rfl (Fin.forall_fin_two.mpr ⟨h, (Nat.zero_add _).symm⟩)
  · refine View.read_writes_cons_unit_of_not_mem v f inb x L _ rfl (0 : Fin 2) ?_
    show j.val < n ∨ n + 1 ≤ j.val
    omega

theorem ld_row (v : Vec Ideal S8x1024 .f32) (n : ℕ) (inb : ∀ a, ![n, 0] a + S1x1024.size a ≤ S8x1024.size a) (j : Fin 8) (hj : j.val = n) (l : Fin 1024) :
    View.ld v (Rect.unit (s := S8x1024) ![n, 0] S1x1024.size inb) (ix2 0 l) = v (ix2 j l) := by
  subst hj
  pointwise []

end Cert.PoolBackIdeal.At

end
-- ==== Proof.PoolBackOut.lean ====
/- What each grid point of the backward pooling kernel leaves in its output blocks, and in what it accumulates. -/
module

public import proofs.«01_k».proof.Proof.PoolBackPoint

@[expose] public section

set_option maxRecDepth 16384

noncomputable section

namespace Cert.PoolBackIdeal.At

open Cert.PoolBackIdeal Cert.PoolBackIdeal.Gen Idealize.ShloMosaic Idealize.ShloMosaic.TcCoe
open FwdSpec (tok tok_val)
open FwdPool (pz gcol pd)
open BwdPool (dmm dhn mmc)

variable (m : (ℓ : Loc nD τ sig) → Buf (Elt Ideal) ℓ) (c : Dev nD)

/-- The region's input arrays, as the gradient's inputs. -/
def KI : BwdPool.In where
  dh t l := V m c main_arg0 (ix2 t l)
  x t l := V m c main_arg1 (ix2 t l)
  s j l := V m c main_arg2 (ix2 j l)
  sc l := V m c main_arg3 (ix2 0 l)
  w g l k := V m c main_arg4 (ix3 g l k)

/-- The tile of grid point `t`: the points go through the sequence backwards. -/
def tile (t : Fin cfg0.N) : Fin 8 := ⟨7 - t.val, by omega⟩

/-- The blocks' places in their arrays. -/
theorem idx : ∀ t : Fin cfg0.N, win0_0.index t = ![7 - t.val, 0] ∧ win0_1.index t = ![7 - t.val, 0] ∧ win0_2.index t = ![(7 - t.val) * 32 - 1, 0]
    ∧ win0_3.index t = ![0, 0] ∧ win0_4.index t = ![0, 0] ∧ win0_5.index t = ![0, 0, 0] ∧ win0_6.index t = ![7 - t.val, 0]
    ∧ win0_7.index t = ![0, 0, 0] ∧ win0_8.index t = ![0, 0] :=
  (by decide +kernel : ∀ t : Fin grid0.N, _)

/-- The tile, and whether it has one before it, as the body computes them. -/
theorem word : ∀ t : Fin cfg0.N, Scalar.subi (7#32) (BitVec.ofNat 32 ↑(grid0.coords t 0)) = BitVec.ofNat 32 (tile t).val :=
  (by decide +kernel : ∀ t : Fin grid0.N, Scalar.subi (7#32) (BitVec.ofNat 32 ↑(grid0.coords t 0)) = BitVec.ofNat 32 (7 - t.val))
theorem first : ∀ t : Fin cfg0.N, Scalar.cmpi .sgt (Scalar.subi (7#32) (BitVec.ofNat 32 ↑(grid0.coords t 0))) 0#32
    = if (tile t).val = 0 then 0#1 else 1#1 :=
  (by decide +kernel : ∀ t : Fin grid0.N, Scalar.cmpi .sgt (Scalar.subi (7#32) (BitVec.ofNat 32 ↑(grid0.coords t 0))) 0#32
    = if 7 - t.val = 0 then 0#1 else 1#1)

theorem b0 (t : Fin cfg0.N) (r : Fin 512) (l : Fin 1024) : iblk m c 0 t (ix2 r l) = (KI m c).dh (tok (tile t) r) l := by
  blk_ext [iblk, KI, tok, tile, idx t]

theorem b1 (t : Fin cfg0.N) (r : Fin 512) (l : Fin 1024) : iblk m c 1 t (ix2 r l) = (KI m c).x (tok (tile t) r) l := by
  blk_ext [iblk, KI, tok, tile, idx t]

theorem b2 (t : Fin cfg0.N) (i : Fin 16) (l : Fin 1024) (ht : (tile t).val ≠ 0) (hi) :
    iblk m c 2 t (ix2 i l) = (KI m c).x ⟨(tile t).val * 512 - 16 + i.val, hi⟩ l := by
  have ht' : 7 - t.val ≠ 0 := ht
  blk_ext [iblk, KI, tok, tile, idx t]

theorem b3 (t : Fin cfg0.N) (j : Fin 16) (l : Fin 1024) : iblk m c 3 t (ix2 j l) = (KI m c).s j l := by
  blk_ext [iblk, KI, idx t]

theorem b4 (t : Fin cfg0.N) (l : Fin 1024) : iblk m c 4 t (ix2 0 l) = (KI m c).sc l := by
  blk_ext [iblk, KI, idx t]

theorem b5 (t : Fin cfg0.N) (g : Fin 4) (l k : Fin 256) : iblk m c 5 t (ix3 g l k) = (KI m c).w g l k := by
  blk_ext [iblk, KI, idx t]

section
variable (t : Fin cfg0.N)

/-- The word of a point's tile, its columns of the scratch, the mixer's output, and the gradient with respect to the mixed groups. -/
abbrev w0 : BitVec 32 := Scalar.subi (7#32) (BitVec.ofNat 32 ↑(grid0.coords t 0))
abbrev xt (b : ℕ) (inb : ∀ i, ![0, b] i + S528x256.size i ≤ S528x1024.size i) : Vec Ideal S528x256 .f32 :=
  ext (grid0.coords t) (iblk m c 1 t) (iblk m c 3 t) (iblk m c 2 t) b inb
abbrev mx : Vec Ideal S512x1024 .f32 :=
  mixW (w0 t) (xt m c t 0 inb_S528x1024_S528x256_0_0) (xt m c t 256 inb_S528x1024_S528x256_0_256) (xt m c t 512 inb_S528x1024_S528x256_0_512)
    (xt m c t 768 inb_S528x1024_S528x256_0_768) (iblk m c 5 t) (iblk m c 4 t)
abbrev mg : Vec Ideal S512x1024 .f32 :=
  mmW (w0 t) (xt m c t 0 inb_S528x1024_S528x256_0_0) (xt m c t 256 inb_S528x1024_S528x256_0_256) (xt m c t 512 inb_S528x1024_S528x256_0_512)
    (xt m c t 768 inb_S528x1024_S528x256_0_768) (iblk m c 5 t)
abbrev du : Vec Ideal S512x1024 .f32 :=
  k0_pay36 (F := Ideal) (k0_pay34 (iblk m c 0 t) (mx m c t) (smRow (iblk m c 3 t) 1 inb_S16x1024_S1x1024_1_0)) (iblk m c 4 t)

theorem g0 (l : Fin 1024) : smRow (iblk m c 3 t) 0 inb_S16x1024_S1x1024_0_0 (ix2 0 l) = (KI m c).s 0 l := (smRow_at _ 0 _ l).trans (b3 m c t 0 l)
theorem g1 (l : Fin 1024) : smRow (iblk m c 3 t) 1 inb_S16x1024_S1x1024_1_0 (ix2 0 l) = (KI m c).s 1 l := (smRow_at _ 1 _ l).trans (b3 m c t 1 l)

theorem xt_at (g : Fin 4) (b : ℕ) (hb : b = g.val * 256) (inb) (q : Fin 528) (k : Fin 256) :
    xt m c t b inb (ix2 q k) = pz (KI m c).toIn ((tile t).val * 512 + q.val) (gcol g k) :=
  (ext_read _ g b hb inb q k).trans (rows_of (n_of (g0 m c t) (b1 m c t)) (tail_of (g0 m c t) (first t) fun j l hT h => b2 m c t j l hT h) _)

theorem mx_at (r : Fin 512) (l : Fin 1024) : mx m c t (ix2 r l) = FwdPool.mix (KI m c).toIn (tok (tile t) r) l :=
  mixW_at (word t) (xt_at m c t 0 0 rfl _) (xt_at m c t 1 256 rfl _) (xt_at m c t 2 512 rfl _) (xt_at m c t 3 768 rfl _) (b5 m c t) (b4 m c t) r l

theorem mg_at (r : Fin 512) (l : Fin 1024) : mg m c t (ix2 r l) = mmc (KI m c) (tok (tile t) r) l :=
  mmW_at (word t) (xt_at m c t 0 0 rfl _) (xt_at m c t 1 256 rfl _) (xt_at m c t 2 512 rfl _) (xt_at m c t 3 768 rfl _) (b5 m c t) r l

theorem du_at (r : Fin 512) (l : Fin 1024) : du m c t (ix2 r l) = dmm (KI m c) (tok (tile t) r) l :=
  dmm_at (b0 m c t) (mx_at m c t) (g1 m c t) (b4 m c t) r l

end

/-- Earlier writes do not matter where later ones cover. -/
theorem canon_append {S : Shape} {e : EltTy} (L L' : List (View.Piece (Elt Ideal) S e)) (y : S.Idx) (hc : ∃ p ∈ L, y ∈ p.1.set) :
    View.canon (L ++ L') y = View.canon L y := by
  induction L with
  | nil =>
    obtain ⟨p, hp, _⟩ := hc
    exact absurd hp List.not_mem_nil
  | cons p L ih =>
    by_cases hm : y ∈ p.1.set
    · obtain ⟨x, rfl⟩ := p.1.exists_idx_of_mem hm
      rw [List.cons_append, show p.1.idx x = p.1.emb x from rfl]
      exact (View.canon_cons_emb _ _ _ x).trans (View.canon_cons_emb _ _ _ x).symm
    · rw [List.cons_append, View.canon_cons_of_not_mem _ _ hm, View.canon_cons_of_not_mem _ _ hm]
      obtain ⟨q, hq, hyq⟩ := hc
      rcases List.mem_cons.mp hq with rfl | hq
      · exact absurd hyq hm
      · exact ih ⟨q, hq, hyq⟩

/-- What the scratch carries after a point: the first rows of its tile. -/
theorem carry (t : Fin cfg0.N) (i : Fin 16) (l : Fin 1024) :
    (outsAt0 m c t.val t.isLt).2.2.2 (ix2 i l) = qc (KI m c) ((tile t).val * 512 + i.val) l := by
  have H := carries_at (word t) (du_at m c t) (b5 m c t) (ix2 i l)
  by_cases h : t.val % 8 = 0
  · rw [outsAt0_A m c t h]
    frame_open
    simp (disch := decide) only [↓ View.readCov_skip, ↓ View.readCov_cons_toLoadRect, ↓ View.readCov_fill]
    frame_out
    exact (canon_append _ [_] _ (View.cover_of_tiled_head _ _ _ (by rfl) (ix2 i l))).trans H
  · rw [outsAt0_B m c t h]
    frame_open
    simp (disch := decide) only [↓ View.readCov_skip, ↓ View.readCov_cons_toLoadRect, ↓ View.readCov_fill]
    frame_out
    exact H

/-- The carried rows a point reads: zero at the first, what the point before left afterwards. -/
def cr (t : Fin cfg0.N) : Vec Ideal S16x1024 .f32 :=
  if t.val % 8 = 0 then k0_pay5 (F := Ideal) else (outsAt0 m c (t.val - 1) (Nat.lt_of_le_of_lt (Nat.sub_le _ _) t.isLt)).2.2.2

theorem carried (t : Fin cfg0.N) : Carried (KI m c) (tile t) (cr m c t) := by
  intro i l
  have hN : cfg0.N = 8 := rfl
  unfold cr
  by_cases h : t.val % 8 = 0
  · rw [if_pos h, qc, BwdPool.qz_high _ _ _ (by show 4096 ≤ (7 - t.val) * 512 + (512 + i.val); omega)]
    unfold k0_pay5
    pointwise []
  · rw [if_neg h]
    refine (carry m c ⟨t.val - 1, by omega⟩ i l).trans (congrArg (qc (KI m c) · l) ?_)
    show (7 - (t.val - 1)) * 512 + i.val = (7 - t.val) * 512 + (512 + i.val)
    omega

theorem carriedA (t : Fin cfg0.N) (h : t.val % 8 = 0) : Carried (KI m c) (tile t) (k0_pay5 (F := Ideal)) := by
  have C := carried m c t
  rwa [show cr m c t = k0_pay5 (F := Ideal) from if_pos h] at C

theorem carriedB (t : Fin cfg0.N) (h : ¬t.val % 8 = 0) :
    Carried (KI m c) (tile t) (outsAt0 m c (t.val - 1) (Nat.lt_of_le_of_lt (Nat.sub_le _ _) t.isLt)).2.2.2 := by
  have C := carried m c t
  rwa [show cr m c t = _ from if_neg h] at C

section
variable (t : Fin cfg0.N) {U : Vec Ideal S16x1024 .f32} (C : Carried (KI m c) (tile t) U)
include C

/-- The gradient with respect to the normalised input, read back. -/
theorem dhn_at (r : Fin 512) (l : Fin 1024) : dhnW (w0 t) (du m c t) (iblk m c 5 t) U (ix2 r l) = dhn (KI m c) (tok (tile t) r) l :=
  dhnW_at (word t) (du_at m c t) (b5 m c t) C r l

theorem o_at (r : Fin 512) (l : Fin 1024) : k0_pay2 (F := Ideal) (smRow (iblk m c 3 t) 0 inb_S16x1024_S1x1024_0_0) (k0_pay6 (iblk m c 1 t)) (k0_pay7 (iblk m c 1 t)) (iblk m c 0 t)
    (dhnW (w0 t) (du m c t) (iblk m c 5 t) U) (ix2 r l) = BwdPool.o (KI m c) (tok (tile t) r) l :=
  o_of (b1 m c t) (dhn_at m c t C) (b0 m c t) (g0 m c t) r l

theorem sum0_at (v : Vec Ideal S1x1024 .f32) (l : Fin 1024) : k0_pay1 (F := Ideal) (k0_pay72 v) (k0_pay73 (k0_pay7 (iblk m c 1 t)) (dhnW (w0 t) (du m c t) (iblk m c 5 t) U)) (ix2 0 l)
    = v (ix2 0 l) + ∑ r : Fin 512, BwdPool.term (KI m c) 0 (tok (tile t) r) l :=
  sum0 (b1 m c t) (dhn_at m c t C) l

end

/-- The gradient with respect to the sub-layer's input. -/
theorem out6 (t : Fin cfg0.N) (r : Fin 512) (l : Fin 1024) : (outsAt0 m c t.val t.isLt).1 (ix2 r l) = BwdPool.o (KI m c) (tok (tile t) r) l := by
  by_cases h : t.val % 8 = 0
  · have H := o_at m c t (carriedA m c t h) r l
    rw [outsAt0_A m c t h]
    frame_open
    simp (disch := decide) only [↓ View.readCov_skip, ↓ View.readCov_cons_toLoadRect, ↓ View.readCov_fill]
    frame_out
    exact H
  · have H := o_at m c t (carriedB m c t h) r l
    rw [outsAt0_B m c t h]
    frame_open
    simp (disch := decide) only [↓ View.readCov_skip, ↓ View.readCov_cons_toLoadRect, ↓ View.readCov_fill]
    frame_out
    simp only [read_unread_whole]
    exact H

/-- What a tile adds to the weights' gradient. -/
def wterm (g : Fin 4) (k y : Fin 256) (t : Fin 4096) : EReal := pd (KI m c).toIn g t k * dmm (KI m c) t (gcol g y)

section
variable (t : Fin cfg0.N) (o : Vec Ideal S4x256x256 .f32) (v : View sig .tc .vmem S4x256x256 .f32) (f : v.ty.Contents (Elt Ideal))
  (L : List (View.Piece (Elt Ideal) S4x256x256 .f32))

/-- The four groups' blocks as the body stores them. -/
abbrev dws : List (View.Piece (Elt Ideal) S4x256x256 .f32) :=
  ⟨Rect.unit (s := S4x256x256) ![3, 0, 0] S1x256x256.size inb_S4x256x256_S1x256x256_3_0_0,
      k0_pay64 (F := Ideal) (cols (du m c t) 768 inb_S512x1024_S512x256_0_768) (dwBlk o 3 inb_S4x256x256_S1x256x256_3_0_0)
        (k0_pay27 (Scalar.muli (w0 t) 512#32) (xt m c t 768 inb_S528x1024_S528x256_0_768))⟩
    :: ⟨Rect.unit (s := S4x256x256) ![2, 0, 0] S1x256x256.size inb_S4x256x256_S1x256x256_2_0_0,
      k0_pay56 (F := Ideal) (k0_pay54 (cols (du m c t) 512 inb_S512x1024_S512x256_0_512)) (dwBlk o 2 inb_S4x256x256_S1x256x256_2_0_0)
        (k0_pay22 (Scalar.muli (w0 t) 512#32) (xt m c t 512 inb_S528x1024_S528x256_0_512))⟩
    :: ⟨Rect.unit (s := S4x256x256) ![1, 0, 0] S1x256x256.size inb_S4x256x256_S1x256x256_1_0_0,
      k0_pay48 (F := Ideal) (k0_pay47 (cols (du m c t) 256 inb_S512x1024_S512x256_0_256) (dwBlk o 1 inb_S4x256x256_S1x256x256_1_0_0)
        (k0_pay17 (w0 t) 512#32 (xt m c t 256 inb_S528x1024_S528x256_0_256)))⟩
    :: ⟨Rect.unit (s := S4x256x256) ![0, 0, 0] S1x256x256.size inb_S4x256x256_S1x256x256_0_0_0,
      k0_pay39 (F := Ideal) (cols (du m c t) 0 inb_S512x1024_S512x256_0_0) (dwBlk o 0 inb_S4x256x256_S1x256x256_0_0_0)
        (k0_pay12 (w0 t) (xt m c t 0 inb_S528x1024_S528x256_0_0))⟩
    :: L

theorem dws_at (g : Fin 4) (k y : Fin 256) :
    v.read (Elt Ideal) (v.writes (Elt Ideal) f (dws m c t o L)) (ix3 g k y) = o (ix3 g k y) + ∑ r : Fin 512, wterm m c g k y (tok (tile t) r) := by
  unfold dws
  rw [blk_at v f 3 (by omega), blk_at v f 2 (by omega), blk_at v f 1 (by omega), blk_at v f 0 (by omega)]
  split_ifs with h3 h2 h1 h0
  · obtain rfl : g = 3 := Fin.ext h3
    refine (dw3 (part_at (du_at m c t) 3 768 rfl _) k (fun r k => pb3 (word t) r k (xt_at m c t 3 768 rfl _)) y).trans ?_
    exact congrArg (· + _) (dwBlk_at o 3 3 rfl _ k y)
  · obtain rfl : g = 2 := Fin.ext h2
    refine (dw2 (part_at (du_at m c t) 2 512 rfl _) k (fun r k => pb2 (word t) r k (xt_at m c t 2 512 rfl _)) y).trans ?_
    exact congrArg (· + _) (dwBlk_at o 2 2 rfl _ k y)
  · obtain rfl : g = 1 := Fin.ext h1
    refine (dw1 (part_at (du_at m c t) 1 256 rfl _) k (fun r k => pb1 (word t) r k (xt_at m c t 1 256 rfl _)) y).trans ?_
    exact congrArg (· + _) (dwBlk_at o 1 1 rfl _ k y)
  · obtain rfl : g = 0 := Fin.ext h0
    refine (dw0 (part_at (du_at m c t) 0 0 rfl _) k (fun r k => pb0 (word t) r k (xt_at m c t 0 0 rfl _)) y).trans ?_
    exact congrArg (· + _) (dwBlk_at o 0 0 rfl _ k y)
  · omega

end

/-- The weights' gradient grows by each tile's terms, from zero at the first point. -/
theorem dwB (t : Fin cfg0.N) (h : ¬t.val % 8 = 0) (g : Fin 4) (k y : Fin 256) : (outsAt0 m c t.val t.isLt).2.1 (ix3 g k y)
    = (outsAt0 m c (t.val - 1) (Nat.lt_of_le_of_lt (Nat.sub_le _ _) t.isLt)).2.1 (ix3 g k y) + ∑ r : Fin 512, wterm m c g k y (tok (tile t) r) := by
  rw [outsAt0_B m c t h]
  frame_open
  simp (disch := decide) only [↓ View.readCov_skip, ↓ View.readCov_cons_toLoadRect, ↓ View.readCov_fill]
  frame_out
  try simp only [read_unread_whole]
  refine (View.read_writes_junk_apply_eq_canon (ms0_7 t).view _ _).symm.trans ?_
  exact dws_at m c t _ (ms0_7 t).view _ [] g k y

theorem dwA (t : Fin cfg0.N) (h : t.val % 8 = 0) (g : Fin 4) (k y : Fin 256) : (outsAt0 m c t.val t.isLt).2.1 (ix3 g k y)
    = 0 + ∑ r : Fin 512, wterm m c g k y (tok (tile t) r) := by
  have hz : k0_pay4 (F := Ideal) (ix3 g k y) = 0 := by
    unfold k0_pay4
    pointwise []
  rw [outsAt0_A m c t h]
  frame_open
  simp (disch := decide) only [↓ View.readCov_skip, ↓ View.readCov_cons_toLoadRect, ↓ View.readCov_fill]
  frame_out
  refine (View.read_writes_junk_apply_eq_canon (ms0_7 t).view _ _).symm.trans ?_
  exact (dws_at m c t _ (ms0_7 t).view _ [_] g k y).trans (congrArg (· + _) hz)

theorem term_ge (I : BwdPool.In) (j : ℕ) (h0 : ¬j = 0) (h1 : ¬j = 1) (h2 : ¬j = 2) (t : Fin 4096) (l : Fin 1024) : BwdPool.term I j t l = 0 := by
  unfold BwdPool.term
  rw [if_neg h0, if_neg h1, if_neg h2]

section
variable (t : Fin cfg0.N) (o : Vec Ideal S8x1024 .f32) (v : View sig .tc .vmem S8x1024 .f32) (f : v.ty.Contents (Elt Ideal))
  (L : List (View.Piece (Elt Ideal) S8x1024 .f32)) {U : Vec Ideal S16x1024 .f32} (C : Carried (KI m c) (tile t) U)

/-- The three rows of the sums as the body stores them. -/
abbrev sms (U : Vec Ideal S16x1024 .f32) : List (View.Piece (Elt Ideal) S8x1024 .f32) :=
  ⟨Rect.unit (s := S8x1024) ![0, 0] S1x1024.size inb_S8x1024_S1x1024_0_0,
      k0_pay1 (F := Ideal) (k0_pay72 (View.ld o (Rect.unit (s := S8x1024) ![0, 0] S1x1024.size inb_S8x1024_S1x1024_0_0)))
        (k0_pay73 (k0_pay7 (iblk m c 1 t)) (dhnW (w0 t) (du m c t) (iblk m c 5 t) U))⟩
    :: ⟨Rect.unit (s := S8x1024) ![2, 0] S1x1024.size inb_S8x1024_S1x1024_2_0,
      k0_pay35 (F := Ideal) (iblk m c 0 t) (mx m c t) (smRow (iblk m c 3 t) 1 inb_S16x1024_S1x1024_1_0)
        (View.ld o (Rect.unit (s := S8x1024) ![2, 0] S1x1024.size inb_S8x1024_S1x1024_2_0)) (mg m c t)⟩
    :: ⟨Rect.unit (s := S8x1024) ![1, 0] S1x1024.size inb_S8x1024_S1x1024_1_0,
      k0_pay33 (F := Ideal) (iblk m c 0 t) (mx m c t) (View.ld o (Rect.unit (s := S8x1024) ![1, 0] S1x1024.size inb_S8x1024_S1x1024_1_0))⟩
    :: L

include C in
theorem sms_at (j : Fin 8) (l : Fin 1024) (hL : v.read (Elt Ideal) (v.writes (Elt Ideal) f L) (ix2 j l) = o (ix2 j l)) :
    v.read (Elt Ideal) (v.writes (Elt Ideal) f (sms m c t o L U)) (ix2 j l) = o (ix2 j l) + ∑ r : Fin 512, BwdPool.term (KI m c) j.val (tok (tile t) r) l := by
  unfold sms
  rw [row_at v f 0 (by omega), row_at v f 2 (by omega), row_at v f 1 (by omega)]
  split_ifs with h0 h2 h1
  · rw [h0]
    exact (sum0_at m c t C _ l).trans (congrArg (· + _) (ld_row _ 0 _ j h0 l))
  · rw [h2]
    exact (sum2 (b0 m c t) (mx_at m c t) (g1 m c t) (mg_at m c t) l).trans (congrArg (· + _) (ld_row _ 2 _ j h2 l))
  · rw [h1]
    exact (sum1 (b0 m c t) (mx_at m c t) l).trans (congrArg (· + _) (ld_row _ 1 _ j h1 l))
  · rw [hL]
    simp only [term_ge _ _ h0 h1 h2, Finset.sum_const_zero, add_zero]

end

/-- So do the sums. -/
theorem sumB (t : Fin cfg0.N) (h : ¬t.val % 8 = 0) (j : Fin 8) (l : Fin 1024) : (outsAt0 m c t.val t.isLt).2.2.1 (ix2 j l)
    = (outsAt0 m c (t.val - 1) (Nat.lt_of_le_of_lt (Nat.sub_le _ _) t.isLt)).2.2.1 (ix2 j l) + ∑ r : Fin 512, BwdPool.term (KI m c) j.val (tok (tile t) r) l := by
  have C := carriedB m c t h
  rw [outsAt0_B m c t h]
  frame_open
  simp (disch := decide) only [↓ View.readCov_skip, ↓ View.readCov_cons_toLoadRect, ↓ View.readCov_fill]
  frame_out
  simp only [read_unread_whole]
  refine sms_at m c t _ (ms0_8 t).view _ [] C j l ?_
  rw [View.writes_nil, Memref.IsWhole.read_unread]

theorem sumA (t : Fin cfg0.N) (h : t.val % 8 = 0) (j : Fin 8) (l : Fin 1024) : (outsAt0 m c t.val t.isLt).2.2.1 (ix2 j l)
    = 0 + ∑ r : Fin 512, BwdPool.term (KI m c) j.val (tok (tile t) r) l := by
  have C := carriedA m c t h
  have hz : k0_pay3 (F := Ideal) (ix2 j l) = 0 := by
    unfold k0_pay3
    pointwise []
  rw [outsAt0_A m c t h]
  frame_open
  simp (disch := decide) only [↓ View.readCov_skip, ↓ View.readCov_cons_toLoadRect, ↓ View.readCov_fill]
  frame_out
  refine (View.read_writes_junk_apply_eq_canon (ms0_8 t).view _ _).symm.trans ?_
  refine (sms_at m c t _ (ms0_8 t).view _ [_] C j l ?_).trans (congrArg (· + _) hz)
  exact View.read_writes_cons_unit_of_mem _ _ _ _ [] _ (ix2 j l) rfl (Fin.forall_fin_two.mpr ⟨(Nat.zero_add _).symm, (Nat.zero_add _).symm⟩)

end Cert.PoolBackIdeal.At

end
-- ==== Proof.PoolBackRef.lean ====
/- The gradient of the pooled mixer as the reference computes it, entry by entry. -/
module

public import proofs.«01_k».proof.Proof.PoolBackSpec
public import proofs.«01_k».proof.Proof.Gen.PoolBackReferenceIdeal.Read

@[expose] public section

set_option maxRecDepth 16384

noncomputable section

namespace Cert.PoolBackReferenceIdeal.At

open Cert.PoolBackReferenceIdeal Cert.PoolBackReferenceIdeal.Gen Cert.PoolBackReferenceIdeal.Read Idealize.ShloMosaic Idealize.ShloMosaic.TcCoe
open FwdPool (gcol)

variable (x0 x1 : FVec Ideal S4096x1024 .f32) (x2 : FVec Ideal S16x1024 .f32) (x3 : FVec Ideal S1x1024 .f32) (x4 : FVec Ideal S4x256x256 .bf16)

/-- The gradient's inputs. -/
def inp : BwdPool.In where
  x := fun t l => x1 (ix2 t l)
  s := fun j l => x2 (ix2 j l)
  sc := fun l => x3 (ix2 0 l)
  w := fun g c k => x4 (ix3 g c k)
  dh := fun t l => x0 (ix2 t l)

theorem inp_x (t : Fin 4096) (l : Fin 1024) : (inp x0 x1 x2 x3 x4).x t l = x1 (ix2 t l) := rfl
theorem inp_s (j : Fin 16) (l : Fin 1024) : (inp x0 x1 x2 x3 x4).s j l = x2 (ix2 j l) := rfl
theorem inp_sc (l : Fin 1024) : (inp x0 x1 x2 x3 x4).sc l = x3 (ix2 0 l) := rfl
theorem inp_w (g : Fin 4) (c k : Fin 256) : (inp x0 x1 x2 x3 x4).w g c k = x4 (ix3 g c k) := rfl
theorem inp_dh (t : Fin 4096) (l : Fin 1024) : (inp x0 x1 x2 x3 x4).dh t l = x0 (ix2 t l) := rfl

/-- The mean square of a row of the input. -/
theorem ms0 (t : Fin 4096) : val_main_v9 (F := Ideal) x1 (ix2 t 0) = Rms.ms ((inp x0 x1 x2 x3 x4).x t) := by
  unfold val_main_v9 val_main_v8 val_main_v7 val_main_v6 val_main_v5 val_main_v4 val_main_v3 val_main_cst val_main_cst_0 val_main_cst_1
  pointwise [Rms.ms, inp_x]

/-- The input over its root mean square. -/
theorem xh (t : Fin 4096) (l : Fin 1024) : val_main_v15 (F := Ideal) x1 (ix2 t l) = (inp x0 x1 x2 x3 x4).x t l * Rms.rr ((inp x0 x1 x2 x3 x4).x t) := by
  have hm := ms0 x0 x1 x2 x3 x4 t
  unfold val_main_v15 val_main_v14 val_main_v10
  pointwise [Rms.rr, inp_x, hm]

/-- The normalised input. -/
theorem n (t : Fin 4096) (l : Fin 1024) : val_main_v18 (F := Ideal) x1 x2 (ix2 t l) = FwdPool.n (inp x0 x1 x2 x3 x4).toIn t l := by
  have hx := xh x0 x1 x2 x3 x4 t l
  unfold val_main_v18 val_main_v17 val_main_v16 val_main_v2 val_main_v1
  pointwise [FwdPool.n, hx, inp_s]

/-- Its four groups of columns. -/
theorem n0 (t : Fin 4096) (c : Fin 256) : val_main_v22 (F := Ideal) x1 x2 (ix2 t c) = FwdPool.n (inp x0 x1 x2 x3 x4).toIn t (gcol 0 c) := by
  have hn := n x0 x1 x2 x3 x4
  unfold val_main_v22
  pointwise [hn]
  exact congrArg (FwdPool.n _ t) (Fin.ext (by show c.val = 0 * 256 + c.val; omega))

theorem n1 (t : Fin 4096) (c : Fin 256) : val_main_v23 (F := Ideal) x1 x2 (ix2 t c) = FwdPool.n (inp x0 x1 x2 x3 x4).toIn t (gcol 1 c) := by
  have hn := n x0 x1 x2 x3 x4
  unfold val_main_v23
  pointwise [hn]
  exact congrArg (FwdPool.n _ t) (Fin.ext rfl)

theorem n2 (t : Fin 4096) (c : Fin 256) : val_main_v24 (F := Ideal) x1 x2 (ix2 t c) = FwdPool.n (inp x0 x1 x2 x3 x4).toIn t (gcol 2 c) := by
  have hn := n x0 x1 x2 x3 x4
  unfold val_main_v24
  pointwise [hn]
  exact congrArg (FwdPool.n _ t) (Fin.ext rfl)

theorem n3 (t : Fin 4096) (c : Fin 256) : val_main_v25 (F := Ideal) x1 x2 (ix2 t c) = FwdPool.n (inp x0 x1 x2 x3 x4).toIn t (gcol 3 c) := by
  have hn := n x0 x1 x2 x3 x4
  unfold val_main_v25
  pointwise [hn]
  exact congrArg (FwdPool.n _ t) (Fin.ext rfl)

/-- The number of tokens seen, as a word. -/
theorem seen (t : Fin 4096) : IntOp.addi 1#32 (BitVec.ofNat 32 t.val) = BitVec.ofNat 32 (t.val + 1) := by
  refine BitVec.eq_of_toNat_eq ?_
  show (1#32 + BitVec.ofNat 32 t.val).toNat = _
  simp only [BitVec.toNat_add, BitVec.toNat_ofNat]
  omega

/-- The number of tokens of each group's windows. -/
theorem cnt0 (t : Fin 4096) : val_main_v31 (F := Ideal) (ix2 t 0) = FwdPool.cnt (FwdPool.winW 0) t := by
  unfold val_main_v31 val_main_v30 val_main_v29 val_main_v28 val_main_v21 val_main_v20 val_main_v19 val_main_c val_main_c_4
  pointwise [FwdPool.cnt, seen]
  rfl

theorem cnt1 (t : Fin 4096) : val_main_v40 (F := Ideal) (ix2 t 0) = FwdPool.cnt (FwdPool.winW 1) t := by
  unfold val_main_v40 val_main_v39 val_main_v38 val_main_v37 val_main_v21 val_main_v20 val_main_v19 val_main_c val_main_c_6
  pointwise [FwdPool.cnt, seen]
  rfl

theorem cnt2 (t : Fin 4096) : val_main_v49 (F := Ideal) (ix2 t 0) = FwdPool.cnt (FwdPool.winW 2) t := by
  unfold val_main_v49 val_main_v48 val_main_v47 val_main_v46 val_main_v21 val_main_v20 val_main_v19 val_main_c val_main_c_8
  pointwise [FwdPool.cnt, seen]
  rfl

theorem cnt3 (t : Fin 4096) : val_main_v58 (F := Ideal) (ix2 t 0) = FwdPool.cnt (FwdPool.winW 3) t := by
  unfold val_main_v58 val_main_v57 val_main_v56 val_main_v55 val_main_v21 val_main_v20 val_main_v19 val_main_c val_main_c_10
  pointwise [FwdPool.cnt, seen]
  rfl

/-- The pooled groups. -/
theorem pd0 (t : Fin 4096) (c : Fin 256) : val_main_v34 (F := Ideal) x1 x2 (ix2 t c) = FwdPool.pd (inp x0 x1 x2 x3 x4).toIn 0 t c := by
  have hn := n0 x0 x1 x2 x3 x4
  have hk := cnt0 t
  have hw : val_main_v27 (F := Ideal) x1 x2 (ix2 t c) = FwdPool.tot (inp x0 x1 x2 x3 x4).toIn (FwdPool.win 0) t (gcol 0 c) := by
    unfold val_main_v27
    exact FwdPool.tot_of _ 0 _ hn (by decide) (by decide) _ _ _ (fun i => by unfold val_main_v26 val_main_cst_3; pointwise []) t c
  unfold val_main_v34 val_main_v33 val_main_v32
  pointwise [FwdPool.pd, hn, hw, hk]

theorem pd1 (t : Fin 4096) (c : Fin 256) : val_main_v43 (F := Ideal) x1 x2 (ix2 t c) = FwdPool.pd (inp x0 x1 x2 x3 x4).toIn 1 t c := by
  have hn := n1 x0 x1 x2 x3 x4
  have hk := cnt1 t
  have hw : val_main_v36 (F := Ideal) x1 x2 (ix2 t c) = FwdPool.tot (inp x0 x1 x2 x3 x4).toIn (FwdPool.win 1) t (gcol 1 c) := by
    unfold val_main_v36
    exact FwdPool.tot_of _ 1 _ hn (by decide) (by decide) _ _ _ (fun i => by unfold val_main_v35 val_main_cst_5; pointwise []) t c
  unfold val_main_v43 val_main_v42 val_main_v41
  pointwise [FwdPool.pd, hn, hw, hk]

theorem pd2 (t : Fin 4096) (c : Fin 256) : val_main_v52 (F := Ideal) x1 x2 (ix2 t c) = FwdPool.pd (inp x0 x1 x2 x3 x4).toIn 2 t c := by
  have hn := n2 x0 x1 x2 x3 x4
  have hk := cnt2 t
  have hw : val_main_v45 (F := Ideal) x1 x2 (ix2 t c) = FwdPool.tot (inp x0 x1 x2 x3 x4).toIn (FwdPool.win 2) t (gcol 2 c) := by
    unfold val_main_v45
    exact FwdPool.tot_of _ 2 _ hn (by decide) (by decide) _ _ _ (fun i => by unfold val_main_v44 val_main_cst_7; pointwise []) t c
  unfold val_main_v52 val_main_v51 val_main_v50
  pointwise [FwdPool.pd, hn, hw, hk]

theorem pd3 (t : Fin 4096) (c : Fin 256) : val_main_v61 (F := Ideal) x1 x2 (ix2 t c) = FwdPool.pd (inp x0 x1 x2 x3 x4).toIn 3 t c := by
  have hn := n3 x0 x1 x2 x3 x4
  have hk := cnt3 t
  have hw : val_main_v54 (F := Ideal) x1 x2 (ix2 t c) = FwdPool.tot (inp x0 x1 x2 x3 x4).toIn (FwdPool.win 3) t (gcol 3 c) := by
    unfold val_main_v54
    exact FwdPool.tot_of _ 3 _ hn (by decide) (by decide) _ _ _ (fun i => by unfold val_main_v53 val_main_cst_9; pointwise []) t c
  unfold val_main_v61 val_main_v60 val_main_v59
  pointwise [FwdPool.pd, hn, hw, hk]

/-- The mixed groups. -/
theorem mmc (t : Fin 4096) (l : Fin 1024) : val_main_v74 (F := Ideal) x1 x2 x4 (ix2 t l) = BwdPool.mmc (inp x0 x1 x2 x3 x4) t l := by
  have h0 := pd0 x0 x1 x2 x3 x4
  have h1 := pd1 x0 x1 x2 x3 x4
  have h2 := pd2 x0 x1 x2 x3 x4
  have h3 := pd3 x0 x1 x2 x3 x4
  have m0 (x : Fin 256) : val_main_v70 (F := Ideal) x1 x2 x4 (ix2 t x) = FwdPool.mm (inp x0 x1 x2 x3 x4).toIn 0 t x := by
    unfold val_main_v70 val_main_v63 val_main_v62 val_main_v0
    pointwise [FwdPool.mm, h0, inp_w]
  have m1 (x : Fin 256) : val_main_v71 (F := Ideal) x1 x2 x4 (ix2 t x) = FwdPool.mm (inp x0 x1 x2 x3 x4).toIn 1 t x := by
    unfold val_main_v71 val_main_v65 val_main_v64 val_main_v0
    pointwise [FwdPool.mm, h1, inp_w]
  have m2 (x : Fin 256) : val_main_v72 (F := Ideal) x1 x2 x4 (ix2 t x) = FwdPool.mm (inp x0 x1 x2 x3 x4).toIn 2 t x := by
    unfold val_main_v72 val_main_v67 val_main_v66 val_main_v0
    pointwise [FwdPool.mm, h2, inp_w]
  have m3 (x : Fin 256) : val_main_v73 (F := Ideal) x1 x2 x4 (ix2 t x) = FwdPool.mm (inp x0 x1 x2 x3 x4).toIn 3 t x := by
    unfold val_main_v73 val_main_v69 val_main_v68 val_main_v0
    pointwise [FwdPool.mm, h3, inp_w]
  unfold val_main_v74
  pointwise [BwdPool.mmc, m0, m1, m2, m3]
  by_cases c0 : l.val < 256
  · rw [dif_pos c0, FwdPool.mm_at _ 0 t ⟨l.val, c0⟩ l (by show l.val = 0 * 256 + l.val; omega)]
  rw [dif_neg c0]
  by_cases c1 : l.val - 256 < 256
  · rw [dif_pos c1, FwdPool.mm_at _ 1 t ⟨l.val - 256, c1⟩ l (by show l.val = 1 * 256 + (l.val - 256); omega)]
  rw [dif_neg c1]
  by_cases c2 : l.val - 256 - 256 < 256
  · rw [dif_pos c2, FwdPool.mm_at _ 2 t ⟨l.val - 256 - 256, c2⟩ l (by show l.val = 2 * 256 + (l.val - 256 - 256); omega)]
  rw [dif_neg c2, FwdPool.mm_at _ 3 t ⟨l.val - 256 - 256 - 256, by omega⟩ l (by show l.val = 3 * 256 + (l.val - 256 - 256 - 256); omega)]

/-- The mixer's output. -/
theorem mix (t : Fin 4096) (l : Fin 1024) : val_main_v76 (F := Ideal) x1 x2 x3 x4 (ix2 t l) = FwdPool.mix (inp x0 x1 x2 x3 x4).toIn t l := by
  have h := mmc x0 x1 x2 x3 x4 t l
  unfold val_main_v76 val_main_v75
  pointwise [FwdPool.mix, BwdPool.mmc, h, inp_sc]

/-- The mean square of a row of it. -/
theorem ms1 (t : Fin 4096) : val_main_v85 (F := Ideal) x1 x2 x3 x4 (ix2 t 0) = Rms.ms (FwdPool.mix (inp x0 x1 x2 x3 x4).toIn t) := by
  have h := mix x0 x1 x2 x3 x4
  unfold val_main_v85 val_main_v84 val_main_v83 val_main_v82 val_main_v81 val_main_v80 val_main_v79 val_main_cst_11 val_main_cst_12 val_main_cst_13
  pointwise [Rms.ms, h]

/-- The gradient with respect to the mixer's output. -/
theorem dm (t : Fin 4096) (l : Fin 1024) : val_main_v116 (F := Ideal) x0 x1 x2 x3 x4 (ix2 t l) = BwdPool.dm (inp x0 x1 x2 x3 x4) t l := by
  unfold BwdPool.dm
  rw [← Rms.bwd_eq]
  have h := mix x0 x1 x2 x3 x4
  have hm := ms1 x0 x1 x2 x3 x4 t
  unfold val_main_v116 val_main_v115 val_main_v114 val_main_v113 val_main_v112 val_main_v111 val_main_v110 val_main_v109 val_main_v108
    val_main_v107 val_main_v106 val_main_v105 val_main_v104 val_main_v103 val_main_v101 val_main_v100 val_main_v96 val_main_v92
    val_main_v89 val_main_v88 val_main_v87 val_main_v86 val_main_v78 val_main_v77
    val_main_cst_14 val_main_cst_17 val_main_cst_18 val_main_cst_19
  pointwise [Rms.cc, Rms.rr, inp_dh, inp_s, h, hm, Fin.sum_univ_one]

/-- The gradient with respect to the mixed groups. -/
theorem dmm (t : Fin 4096) (l : Fin 1024) : val_main_v121 (F := Ideal) x0 x1 x2 x3 x4 (ix2 t l) = BwdPool.dmm (inp x0 x1 x2 x3 x4) t l := by
  have h := dm x0 x1 x2 x3 x4 t l
  unfold val_main_v121 val_main_v120
  pointwise [BwdPool.dmm, h, inp_sc]

/-- Its four groups of columns. -/
theorem dmm0 (t : Fin 4096) (c : Fin 256) : val_main_v122 (F := Ideal) x0 x1 x2 x3 x4 (ix2 t c) = BwdPool.dmm (inp x0 x1 x2 x3 x4) t (gcol 0 c) := by
  have h := dmm x0 x1 x2 x3 x4
  unfold val_main_v122
  pointwise [h]
  exact congrArg (BwdPool.dmm _ t) (Fin.ext (by show c.val = 0 * 256 + c.val; omega))

theorem dmm1 (t : Fin 4096) (c : Fin 256) : val_main_v123 (F := Ideal) x0 x1 x2 x3 x4 (ix2 t c) = BwdPool.dmm (inp x0 x1 x2 x3 x4) t (gcol 1 c) := by
  have h := dmm x0 x1 x2 x3 x4
  unfold val_main_v123
  pointwise [h]
  exact congrArg (BwdPool.dmm _ t) (Fin.ext rfl)

theorem dmm2 (t : Fin 4096) (c : Fin 256) : val_main_v124 (F := Ideal) x0 x1 x2 x3 x4 (ix2 t c) = BwdPool.dmm (inp x0 x1 x2 x3 x4) t (gcol 2 c) := by
  have h := dmm x0 x1 x2 x3 x4
  unfold val_main_v124
  pointwise [h]
  exact congrArg (BwdPool.dmm _ t) (Fin.ext rfl)

theorem dmm3 (t : Fin 4096) (c : Fin 256) : val_main_v125 (F := Ideal) x0 x1 x2 x3 x4 (ix2 t c) = BwdPool.dmm (inp x0 x1 x2 x3 x4) t (gcol 3 c) := by
  have h := dmm x0 x1 x2 x3 x4
  unfold val_main_v125
  pointwise [h]
  exact congrArg (BwdPool.dmm _ t) (Fin.ext rfl)

/-- The gradient with respect to the pooled groups. -/
theorem dp0 (t : Fin 4096) (c : Fin 256) : val_main_v137 (F := Ideal) x0 x1 x2 x3 x4 (ix2 t c) = BwdPool.dp (inp x0 x1 x2 x3 x4) 0 t c := by
  have h := dmm0 x0 x1 x2 x3 x4
  unfold val_main_v137 val_main_v63 val_main_v62 val_main_v0
  pointwise [BwdPool.dp, h, inp_w]

theorem dp1 (t : Fin 4096) (c : Fin 256) : val_main_v134 (F := Ideal) x0 x1 x2 x3 x4 (ix2 t c) = BwdPool.dp (inp x0 x1 x2 x3 x4) 1 t c := by
  have h := dmm1 x0 x1 x2 x3 x4
  unfold val_main_v134 val_main_v65 val_main_v64 val_main_v0
  pointwise [BwdPool.dp, h, inp_w]

theorem dp2 (t : Fin 4096) (c : Fin 256) : val_main_v131 (F := Ideal) x0 x1 x2 x3 x4 (ix2 t c) = BwdPool.dp (inp x0 x1 x2 x3 x4) 2 t c := by
  have h := dmm2 x0 x1 x2 x3 x4
  unfold val_main_v131 val_main_v67 val_main_v66 val_main_v0
  pointwise [BwdPool.dp, h, inp_w]

theorem dp3 (t : Fin 4096) (c : Fin 256) : val_main_v128 (F := Ideal) x0 x1 x2 x3 x4 (ix2 t c) = BwdPool.dp (inp x0 x1 x2 x3 x4) 3 t c := by
  have h := dmm3 x0 x1 x2 x3 x4
  unfold val_main_v128 val_main_v69 val_main_v68 val_main_v0
  pointwise [BwdPool.dp, h, inp_w]

/-- The weights' gradient, group by group. -/
theorem dw0 (c y : Fin 256) : val_main_v136 (F := Ideal) x0 x1 x2 x3 x4 (ix2 c y) = BwdPool.dw (inp x0 x1 x2 x3 x4) 0 c y := by
  have h := dmm0 x0 x1 x2 x3 x4
  have hp := pd0 x0 x1 x2 x3 x4
  unfold val_main_v136 val_main_v135
  pointwise [BwdPool.dw, h, hp]
  exact Finset.sum_congr rfl fun _ _ => mul_comm _ _

theorem dw1 (c y : Fin 256) : val_main_v133 (F := Ideal) x0 x1 x2 x3 x4 (ix2 c y) = BwdPool.dw (inp x0 x1 x2 x3 x4) 1 c y := by
  have h := dmm1 x0 x1 x2 x3 x4
  have hp := pd1 x0 x1 x2 x3 x4
  unfold val_main_v133 val_main_v132
  pointwise [BwdPool.dw, h, hp]
  exact Finset.sum_congr rfl fun _ _ => mul_comm _ _

theorem dw2 (c y : Fin 256) : val_main_v130 (F := Ideal) x0 x1 x2 x3 x4 (ix2 c y) = BwdPool.dw (inp x0 x1 x2 x3 x4) 2 c y := by
  have h := dmm2 x0 x1 x2 x3 x4
  have hp := pd2 x0 x1 x2 x3 x4
  unfold val_main_v130 val_main_v129
  pointwise [BwdPool.dw, h, hp]
  exact Finset.sum_congr rfl fun _ _ => mul_comm _ _

theorem dw3 (c y : Fin 256) : val_main_v127 (F := Ideal) x0 x1 x2 x3 x4 (ix2 c y) = BwdPool.dw (inp x0 x1 x2 x3 x4) 3 c y := by
  have h := dmm3 x0 x1 x2 x3 x4
  have hp := pd3 x0 x1 x2 x3 x4
  unfold val_main_v127 val_main_v126
  pointwise [BwdPool.dw, h, hp]
  exact Finset.sum_congr rfl fun _ _ => mul_comm _ _

theorem dw (g : Fin 4) (c y : Fin 256) : val_main_v142 (F := Ideal) x0 x1 x2 x3 x4 (ix3 g c y) = BwdPool.dw (inp x0 x1 x2 x3 x4) g c y := by
  have h0 := dw0 x0 x1 x2 x3 x4
  have h1 := dw1 x0 x1 x2 x3 x4
  have h2 := dw2 x0 x1 x2 x3 x4
  have h3 := dw3 x0 x1 x2 x3 x4
  unfold val_main_v142 val_main_v141 val_main_v140 val_main_v139 val_main_v138
  pointwise [h0, h1, h2, h3]
  fin_cases g <;> rfl

/-- The gradient with respect to the normalised input, group by group. -/
theorem dn0 (t : Fin 4096) (c : Fin 256) : val_main_v170 (F := Ideal) x0 x1 x2 x3 x4 (ix2 t c) = BwdPool.dn (inp x0 x1 x2 x3 x4) 0 t c := by
  have hd := dp0 x0 x1 x2 x3 x4
  have hk := cnt0
  have hq (t : Fin 4096) (c : Fin 256) : val_main_v166 (F := Ideal) x0 x1 x2 x3 x4 (ix2 t c) = BwdPool.q (inp x0 x1 x2 x3 x4) 0 t c := by
    unfold val_main_v166 val_main_v165
    pointwise [BwdPool.q, hd, hk]
  have hz (p : Fin 4097) (c : Fin 256) : val_main_v167 (F := Ideal) x0 x1 x2 x3 x4 (ix2 p c) = BwdPool.qz (inp x0 x1 x2 x3 x4) 0 p.val c := by
    unfold val_main_v167
    exact BwdPool.pad_qz _ 0 _ hq _ _ _ (fun i => by unfold val_main_cst_27; pointwise []) p c
  have hw : val_main_v169 (F := Ideal) x0 x1 x2 x3 x4 (ix2 t c) = ∑ k ∈ Finset.range (FwdPool.win 0), BwdPool.qz (inp x0 x1 x2 x3 x4) 0 (t.val + k) c := by
    unfold val_main_v169
    exact BwdPool.ahead_of _ 0 (by decide) _ hz _ _ _ (fun i => by unfold val_main_v168 val_main_cst_28; pointwise []) t c
  unfold val_main_v170 val_main_v164
  pointwise [BwdPool.dn, hd, hw]
  rw [sub_eq_add_neg]
  exact add_comm _ _

theorem dn1 (t : Fin 4096) (c : Fin 256) : val_main_v163 (F := Ideal) x0 x1 x2 x3 x4 (ix2 t c) = BwdPool.dn (inp x0 x1 x2 x3 x4) 1 t c := by
  have hd := dp1 x0 x1 x2 x3 x4
  have hk := cnt1
  have hq (t : Fin 4096) (c : Fin 256) : val_main_v159 (F := Ideal) x0 x1 x2 x3 x4 (ix2 t c) = BwdPool.q (inp x0 x1 x2 x3 x4) 1 t c := by
    unfold val_main_v159 val_main_v158
    pointwise [BwdPool.q, hd, hk]
  have hz (p : Fin 4099) (c : Fin 256) : val_main_v160 (F := Ideal) x0 x1 x2 x3 x4 (ix2 p c) = BwdPool.qz (inp x0 x1 x2 x3 x4) 1 p.val c := by
    unfold val_main_v160
    exact BwdPool.pad_qz _ 1 _ hq _ _ _ (fun i => by unfold val_main_cst_25; pointwise []) p c
  have hw : val_main_v162 (F := Ideal) x0 x1 x2 x3 x4 (ix2 t c) = ∑ k ∈ Finset.range (FwdPool.win 1), BwdPool.qz (inp x0 x1 x2 x3 x4) 1 (t.val + k) c := by
    unfold val_main_v162
    exact BwdPool.ahead_of _ 1 (by decide) _ hz _ _ _ (fun i => by unfold val_main_v161 val_main_cst_26; pointwise []) t c
  unfold val_main_v163 val_main_v157
  pointwise [BwdPool.dn, hd, hw]
  rw [sub_eq_add_neg]
  exact add_comm _ _

theorem dn2 (t : Fin 4096) (c : Fin 256) : val_main_v156 (F := Ideal) x0 x1 x2 x3 x4 (ix2 t c) = BwdPool.dn (inp x0 x1 x2 x3 x4) 2 t c := by
  have hd := dp2 x0 x1 x2 x3 x4
  have hk := cnt2
  have hq (t : Fin 4096) (c : Fin 256) : val_main_v152 (F := Ideal) x0 x1 x2 x3 x4 (ix2 t c) = BwdPool.q (inp x0 x1 x2 x3 x4) 2 t c := by
    unfold val_main_v152 val_main_v151
    pointwise [BwdPool.q, hd, hk]
  have hz (p : Fin 4103) (c : Fin 256) : val_main_v153 (F := Ideal) x0 x1 x2 x3 x4 (ix2 p c) = BwdPool.qz (inp x0 x1 x2 x3 x4) 2 p.val c := by
    unfold val_main_v153
    exact BwdPool.pad_qz _ 2 _ hq _ _ _ (fun i => by unfold val_main_cst_23; pointwise []) p c
  have hw : val_main_v155 (F := Ideal) x0 x1 x2 x3 x4 (ix2 t c) = ∑ k ∈ Finset.range (FwdPool.win 2), BwdPool.qz (inp x0 x1 x2 x3 x4) 2 (t.val + k) c := by
    unfold val_main_v155
    exact BwdPool.ahead_of _ 2 (by decide) _ hz _ _ _ (fun i => by unfold val_main_v154 val_main_cst_24; pointwise []) t c
  unfold val_main_v156 val_main_v150
  pointwise [BwdPool.dn, hd, hw]
  rw [sub_eq_add_neg]
  exact add_comm _ _

theorem dn3 (t : Fin 4096) (c : Fin 256) : val_main_v149 (F := Ideal) x0 x1 x2 x3 x4 (ix2 t c) = BwdPool.dn (inp x0 x1 x2 x3 x4) 3 t c := by
  have hd := dp3 x0 x1 x2 x3 x4
  have hk := cnt3
  have hq (t : Fin 4096) (c : Fin 256) : val_main_v145 (F := Ideal) x0 x1 x2 x3 x4 (ix2 t c) = BwdPool.q (inp x0 x1 x2 x3 x4) 3 t c := by
    unfold val_main_v145 val_main_v144
    pointwise [BwdPool.q, hd, hk]
  have hz (p : Fin 4111) (c : Fin 256) : val_main_v146 (F := Ideal) x0 x1 x2 x3 x4 (ix2 p c) = BwdPool.qz (inp x0 x1 x2 x3 x4) 3 p.val c := by
    unfold val_main_v146
    exact BwdPool.pad_qz _ 3 _ hq _ _ _ (fun i => by unfold val_main_cst_21; pointwise []) p c
  have hw : val_main_v148 (F := Ideal) x0 x1 x2 x3 x4 (ix2 t c) = ∑ k ∈ Finset.range (FwdPool.win 3), BwdPool.qz (inp x0 x1 x2 x3 x4) 3 (t.val + k) c := by
    unfold val_main_v148
    exact BwdPool.ahead_of _ 3 (by decide) _ hz _ _ _ (fun i => by unfold val_main_v147 val_main_cst_22; pointwise []) t c
  unfold val_main_v149 val_main_v143
  pointwise [BwdPool.dn, hd, hw]
  rw [sub_eq_add_neg]
  exact add_comm _ _

theorem dhn (t : Fin 4096) (l : Fin 1024) : val_main_v171 (F := Ideal) x0 x1 x2 x3 x4 (ix2 t l) = BwdPool.dhn (inp x0 x1 x2 x3 x4) t l := by
  have h0 := dn0 x0 x1 x2 x3 x4
  have h1 := dn1 x0 x1 x2 x3 x4
  have h2 := dn2 x0 x1 x2 x3 x4
  have h3 := dn3 x0 x1 x2 x3 x4
  unfold val_main_v171
  pointwise [h0, h1, h2, h3]
  by_cases c0 : l.val < 256
  · rw [dif_pos c0, BwdPool.dhn_at _ 0 t ⟨l.val, c0⟩ l (by show l.val = 0 * 256 + l.val; omega)]
  rw [dif_neg c0]
  by_cases c1 : l.val - 256 < 256
  · rw [dif_pos c1, BwdPool.dhn_at _ 1 t ⟨l.val - 256, c1⟩ l (by show l.val = 1 * 256 + (l.val - 256); omega)]
  rw [dif_neg c1]
  by_cases c2 : l.val - 256 - 256 < 256
  · rw [dif_pos c2, BwdPool.dhn_at _ 2 t ⟨l.val - 256 - 256, c2⟩ l (by show l.val = 2 * 256 + (l.val - 256 - 256); omega)]
  rw [dif_neg c2, BwdPool.dhn_at _ 3 t ⟨l.val - 256 - 256 - 256, by omega⟩ l (by show l.val = 3 * 256 + (l.val - 256 - 256 - 256); omega)]

/-- The gradient with respect to the sub-layer's input. -/
theorem o (t : Fin 4096) (l : Fin 1024) : val_main_v196 (F := Ideal) x0 x1 x2 x3 x4 (ix2 t l) = BwdPool.o (inp x0 x1 x2 x3 x4) t l := by
  unfold BwdPool.o
  rw [← Rms.bwd_eq]
  have hm := ms0 x0 x1 x2 x3 x4 t
  have hn := dhn x0 x1 x2 x3 x4
  unfold val_main_v196 val_main_v191 val_main_v190 val_main_v189 val_main_v188 val_main_v187 val_main_v186 val_main_v185 val_main_v184 val_main_v183
    val_main_v182 val_main_v181 val_main_v180 val_main_v179 val_main_v178 val_main_v176 val_main_v175 val_main_v16 val_main_v13 val_main_v12
    val_main_v11 val_main_v10 val_main_v2 val_main_v1 val_main_cst_2 val_main_cst_31 val_main_cst_32 val_main_cst_33
  pointwise [Rms.cc, Rms.rr, inp_x, inp_dh, inp_s, hm, hn, Fin.sum_univ_one]

/-- The small parameters' gradient. -/
theorem sums (j : Fin 8) (l : Fin 1024) : val_main_v195 (F := Ideal) x0 x1 x2 x3 x4 (ix2 j l) = BwdPool.sums (inp x0 x1 x2 x3 x4) j l := by
  have hx := xh x0 x1 x2 x3 x4
  have hn := dhn x0 x1 x2 x3 x4
  have hy := mix x0 x1 x2 x3 x4
  have hm := ms1 x0 x1 x2 x3 x4
  have hd := dm x0 x1 x2 x3 x4
  have hc := mmc x0 x1 x2 x3 x4
  unfold val_main_v195 val_main_v194 val_main_v193 val_main_v192 val_main_v177 val_main_v174 val_main_v173 val_main_v172 val_main_v119 val_main_v118
    val_main_v117 val_main_v102 val_main_v99 val_main_v98 val_main_v97 val_main_v96 val_main_v91 val_main_v90 val_main_v86
    val_main_cst_15 val_main_cst_16 val_main_cst_20 val_main_cst_29 val_main_cst_30 val_main_cst_34
  pointwise [BwdPool.sums, BwdPool.term, inp_dh, hx, hn, hy, hm, hd, hc, Fin.sum_univ_one]
  fin_cases j <;> norm_num [Rms.rr]
  all_goals exact Finset.sum_congr rfl fun _ _ => mul_comm _ _

end Cert.PoolBackReferenceIdeal.At

end
-- ==== Proof.PoolBackFinal.lean ====
/- The backward pooling call's arrays, and its claims. -/
module

public import proofs.«01_k».proof.Proof.PoolBackOut
public import proofs.«01_k».proof.Proof.PoolBackRef
public import proofs.«01_k».proof.Proof.Gen.PoolBackReferenceIdeal.Run
public import proofs.«01_k».proof.Proof.Gen.PoolBackReferenceIdeal
public import proofs.«01_k».proof.Defs
public import Idealize.ShloMosaic.Adequacy

@[expose] public section

set_option maxRecDepth 16384

noncomputable section

namespace Cert.PoolBackIdeal.At

open Cert.PoolBackIdeal Cert.PoolBackIdeal.Gen Idealize.ShloMosaic Idealize.ShloMosaic.TcCoe
open FwdSpec (tok tok_val)

variable (m : (ℓ : Loc nD τ sig) → Buf (Elt Ideal) ℓ) (c : Dev nD)

theorem arr6 : (dats m 0 c).arrAt 6 cfg0.N = fun i => BwdPool.o (KI m c) (i 0) (i 1) := by
  refine (dats m 0 c).arrAt_eq_of_covers 6 _ (by decide +kernel) fun t hf x => ?_
  blk_simp
  rw [after0_6]
  idx_vars x
  refine (out6 m c t x0 x1).trans ?_
  refine congrArg₂ (BwdPool.o (KI m c)) (Fin.ext ?_) (Fin.ext ?_)
  · blk_simp [idx t, tok_val, tile]
  · blk_simp [idx t]

/-- The tiles, taken backwards, make up the sequence. -/
theorem sum_tiles (g : Fin 4096 → EReal) : ∑ t : Fin cfg0.N, ∑ r : Fin 512, g (tok (tile t) r) = ∑ x : Fin 4096, g x := by
  have e : ∑ t : Fin 8, ∑ r : Fin 512, g (tok (Fin.rev t) r) = ∑ t : Fin 8, ∑ r : Fin 512, g (tok t r) :=
    Equiv.sum_comp Fin.revPerm fun t : Fin 8 => ∑ r : Fin 512, g (tok t r)
  refine Eq.trans ?_ (e.trans ?_)
  · refine Finset.sum_congr rfl fun t _ => Finset.sum_congr rfl fun r _ => ?_
    congr 2
    apply Fin.ext
    show 7 - t.val = 8 - (t.val + 1)
    omega
  · refine Fin.sum_mul_add_congr fun t r ha => ?_
    rfl

theorem arr7 : (dats m 0 c).arrAt 7 cfg0.N = fun i => BwdPool.dw (KI m c) (i 0) (i 1) (i 2) := by
  refine (dats m 0 c).arrAt_eq_of_after_last 7 t0_7 (by decide +kernel) _ fun x => ?_
  blk_simp
  idx_vars x
  rw [after0_7, Pipeline.eq_sum_fin_of_reset_step_apply_last (fun n h (i : Fin 4 × Fin 256 × Fin 256) => (outsAt0 m c n h).2.1 (ix3 i.1 i.2.1 i.2.2)) 8 (fun _ => 0)
    (fun t i => ∑ r : Fin 512, wterm m c i.1 i.2.1 i.2.2 (tok (tile t) r)) (fun t h i => dwA m c t h i.1 i.2.1 i.2.2) (fun t h i => dwB m c t h i.1 i.2.1 i.2.2)
    (le_of_eq N_0) t0_7 rfl (x0, x1, x2)]
  rw [zero_add]
  exact sum_tiles fun y => wterm m c x0 x1 x2 y

theorem arr8 : (dats m 0 c).arrAt 8 cfg0.N = fun i => BwdPool.sums (KI m c) (i 0) (i 1) := by
  refine (dats m 0 c).arrAt_eq_of_after_last 8 t0_7 (by decide +kernel) _ fun x => ?_
  blk_simp
  idx_vars x
  rw [after0_8, Pipeline.eq_sum_fin_of_reset_step_apply_last (fun n h (i : Fin 8 × Fin 1024) => (outsAt0 m c n h).2.2.1 (ix2 i.1 i.2)) 8 (fun _ => 0)
    (fun t i => ∑ r : Fin 512, BwdPool.term (KI m c) i.1.val (tok (tile t) r) i.2) (fun t h i => sumA m c t h i.1 i.2) (fun t h i => sumB m c t h i.1 i.2)
    (le_of_eq N_0) t0_7 rfl (x0, x1)]
  rw [zero_add]
  exact sum_tiles fun y => BwdPool.term (KI m c) x0.val y x1

end Cert.PoolBackIdeal.At

namespace Cert.Proof.PoolBack

open Idealize.ShloMosaic Idealize.SL.Sem

/-- The reference runs, keeps its arguments and leaves its counters at zero. -/
theorem frame_r : Cert.quiescent_PoolBackReferenceIdeal := by
  intro m ρ _
  exact (θ_run Cert.PoolBackReferenceIdeal.defs _ _).mono (fun r h => ⟨fun c => (h c).2.2.2, sem_eq_zero_of_no_sems (by decide) r.2⟩)
    (Cert.PoolBackReferenceIdeal.Value.run (F := Ideal) m ρ)

/-- Kernel and reference leave the same three arrays. -/
theorem alg : Cert.algebraic_PoolBackIdeal_PoolBackReferenceIdeal := by
  intro m ρ m' ρ' _ hag
  have hin (c : Dev Cert.PoolBackIdeal.nD) : PoolBackReferenceIdeal.At.inp (m' ((c.tc : Thread Cert.PoolBackReferenceIdeal.nD Cert.PoolBackReferenceIdeal.τ).loc Cert.PoolBackReferenceIdeal.main_arg0))
      (m' ((c.tc : Thread Cert.PoolBackReferenceIdeal.nD Cert.PoolBackReferenceIdeal.τ).loc Cert.PoolBackReferenceIdeal.main_arg1))
      (m' ((c.tc : Thread Cert.PoolBackReferenceIdeal.nD Cert.PoolBackReferenceIdeal.τ).loc Cert.PoolBackReferenceIdeal.main_arg2))
      (m' ((c.tc : Thread Cert.PoolBackReferenceIdeal.nD Cert.PoolBackReferenceIdeal.τ).loc Cert.PoolBackReferenceIdeal.main_arg3))
      (m' ((c.tc : Thread Cert.PoolBackReferenceIdeal.nD Cert.PoolBackReferenceIdeal.τ).loc Cert.PoolBackReferenceIdeal.main_arg4)) = PoolBackIdeal.At.KI m c := by
    obtain ⟨h0, h1, h2, h3, h4⟩ := hag c
    rw [h0, h1, h2, h3, h4]
    rfl
  refine ⟨fun c i => BwdPool.o (PoolBackIdeal.At.KI m c) (i 0) (i 1), fun c i => BwdPool.dw (PoolBackIdeal.At.KI m c) (i 0) (i 1) (i 2),
    fun c i => BwdPool.sums (PoolBackIdeal.At.KI m c) (i 0) (i 1),
    (θ_run _ _ _).mono (fun r h c => ?_) (Cert.PoolBackIdeal.Value.run_blocks (F := Ideal) m ρ),
    (θ_run _ _ _).mono (fun r h c => ?_) (Cert.PoolBackReferenceIdeal.Value.run (F := Ideal) m' ρ')⟩
  · obtain ⟨h0, h1, h2, h3⟩ := h c
    exact ⟨h0.trans (PoolBackIdeal.At.arr6 m c), h1.trans (PoolBackIdeal.At.arr7 m c), h2.trans (PoolBackIdeal.At.arr8 m c), h3⟩
  · obtain ⟨h0, h1, h2, h3⟩ := h c
    refine ⟨h0.trans ((Cert.PoolBackReferenceIdeal.Read.val_main_v196_eq (StableHlo.launchContents m' c)).trans (funext fun i => ?_)),
      h1.trans ((Cert.PoolBackReferenceIdeal.Read.val_main_v142_eq (StableHlo.launchContents m' c)).trans (funext fun i => ?_)),
      h2.trans ((Cert.PoolBackReferenceIdeal.Read.val_main_v195_eq (StableHlo.launchContents m' c)).trans (funext fun i => ?_)), h3⟩
    · idx_vars i
      exact (PoolBackReferenceIdeal.At.o _ _ _ _ _ i0 i1).trans (congrArg (BwdPool.o · i0 i1) (hin c))
    · idx_vars i
      exact (PoolBackReferenceIdeal.At.dw _ _ _ _ _ i0 i1 i2).trans (congrArg (BwdPool.dw · i0 i1 i2) (hin c))
    · idx_vars i
      exact (PoolBackReferenceIdeal.At.sums _ _ _ _ _ i0 i1).trans (congrArg (BwdPool.sums · i0 i1) (hin c))

end Cert.Proof.PoolBack

end
-- ==== Proof.StepSpec.lean ====
/- One step of the optimiser on one weight. -/
module

public import Idealize.ShloMosaic.Lib.Pipeline.ValueKit
public import Idealize.ShloMosaic.Adequacy

@[expose] public section

set_option maxRecDepth 16384

noncomputable section

namespace Cert.StepAt

open Idealize.ShloMosaic

/-- The moments after a step, and the step, of one weight `w` with gradient `g` and moments `m`, `v`. -/
def nm (g m : EReal) : EReal := Ideal.ofBits .f32 0x3F666666#32 * m + Ideal.ofBits .f32 0x3DCCCCCD#32 * g
def nv (g v : EReal) : EReal := Ideal.ofBits .f32 0x3F7FBE77#32 * v + Ideal.ofBits .f32 0x3A83126F#32 * (g * g)
def step (w g m v : EReal) : EReal := Ideal.ofBits .f32 0xBA83126F#32
  * (Ideal.div (Ideal.div (nm g m) (Ideal.ofBits .f32 0x3F26BD02#32))
      (Ideal.sqrt (Ideal.div (nv g v) (Ideal.ofBits .f32 0x3C231ACC#32)) + Ideal.ofBits .f32 0x322BCC77#32) + Ideal.ofBits .f32 0x3C23D70A#32 * w)

end Cert.StepAt

end
-- ==== Proof.StepGateUpFinal.lean ====
/- The optimiser's step on the feed-forward layer's first weights: its arrays, and its claims. -/
module

public import proofs.«01_k».proof.Proof.Gen.StepGateUpIdeal.Value
public import proofs.«01_k».proof.Proof.Gen.StepGateUpReferenceIdeal.Run
public import proofs.«01_k».proof.Proof.Gen.StepGateUpReferenceIdeal.Read
public import proofs.«01_k».proof.Proof.Gen.StepGateUpReferenceIdeal
public import proofs.«01_k».proof.Defs
public import proofs.«01_k».proof.Proof.StepSpec
public import Idealize.ShloMosaic.Lib.Pipeline.ValueKit
public import Idealize.ShloMosaic.Adequacy

@[expose] public section

set_option maxRecDepth 16384

noncomputable section

namespace Cert.StepGateUpIdeal.At

open Cert.StepGateUpIdeal Cert.StepGateUpIdeal.Gen Idealize.ShloMosaic Idealize.ShloMosaic.TcCoe Cert.StepAt

section
variable (w g m v : Vec Ideal S128x1408 .f32) (x : S128x1408.Idx)

theorem nm_at : k0_pay1 (F := Ideal) g m x = nm (g x) (m x) := rfl
theorem nv_at : k0_pay2 (F := Ideal) g v x = nv (g x) (v x) := rfl
theorem step_at : k0_pay3 (F := Ideal) g w m v x = step (w x) (g x) (m x) (v x) := rfl

end

section
variable (w g m v : FVec Ideal S2048x1408 .f32) (i : S2048x1408.Idx)

theorem nm_ref : StepGateUpReferenceIdeal.Read.val_main_v4 (F := Ideal) g m i = nm (g i) (m i) := by
  rw [StepGateUpReferenceIdeal.Read.val_main_v4_apply, StepGateUpReferenceIdeal.Read.val_main_v1_apply, StepGateUpReferenceIdeal.Read.val_main_v0_apply,
    StepGateUpReferenceIdeal.Read.val_main_v3_apply, StepGateUpReferenceIdeal.Read.val_main_v2_apply]
  rfl

theorem nv_ref : StepGateUpReferenceIdeal.Read.val_main_v10 (F := Ideal) g v i = nv (g i) (v i) := by
  rw [StepGateUpReferenceIdeal.Read.val_main_v10_apply, StepGateUpReferenceIdeal.Read.val_main_v6_apply, StepGateUpReferenceIdeal.Read.val_main_v5_apply,
    StepGateUpReferenceIdeal.Read.val_main_v9_apply, StepGateUpReferenceIdeal.Read.val_main_v8_apply]
  rfl

theorem step_ref : StepGateUpReferenceIdeal.Read.val_main_v23 (F := Ideal) w g m v i = step (w i) (g i) (m i) (v i) := by
  rw [StepGateUpReferenceIdeal.Read.val_main_v23_apply, StepGateUpReferenceIdeal.Read.val_main_v22_apply, StepGateUpReferenceIdeal.Read.val_main_v21_apply,
    StepGateUpReferenceIdeal.Read.val_main_v18_apply, StepGateUpReferenceIdeal.Read.val_main_v12_apply, StepGateUpReferenceIdeal.Read.val_main_v11_apply,
    StepGateUpReferenceIdeal.Read.val_main_v17_apply, StepGateUpReferenceIdeal.Read.val_main_v16_apply, StepGateUpReferenceIdeal.Read.val_main_v15_apply,
    StepGateUpReferenceIdeal.Read.val_main_v14_apply, StepGateUpReferenceIdeal.Read.val_main_v13_apply, StepGateUpReferenceIdeal.Read.val_main_v20_apply,
    StepGateUpReferenceIdeal.Read.val_main_v19_apply, nm_ref, nv_ref]
  rfl

end

section
variable (x0 x1 x2 x3 : Vec Ideal S128x1408 .f32) (r : Fin 128) (l : Fin 1408)

/-- The four blocks a point writes back. -/
theorem out4 : out0_4 x0 x1 x2 x3 (ix2 r l) = step (x0 (ix2 r l)) (x1 (ix2 r l)) (x2 (ix2 r l)) (x3 (ix2 r l)) := by
  frame_out
  exact step_at _ _ _ _ _

theorem out5 : out0_5 x0 x1 x2 x3 (ix2 r l) = nm (x1 (ix2 r l)) (x2 (ix2 r l)) := by
  frame_out
  exact nm_at _ _ _

theorem out6 : out0_6 x0 x1 x2 x3 (ix2 r l) = nv (x1 (ix2 r l)) (x3 (ix2 r l)) := by
  frame_out
  exact nv_at _ _ _

theorem out7 : out0_7 x0 x1 x2 x3 (ix2 r l) = x1 (ix2 r l) := by
  frame_out

end

variable (m : (ℓ : Loc nD τ sig) → Buf (Elt Ideal) ℓ) (c : Dev nD)

/-- The weight's row that a row of a block is. -/
def row (t : Fin cfg0.N) (r : Fin 128) : Fin 2048 := ⟨t.val * 128 + r.val, by have : t.val < 16 := t.isLt; omega⟩

/-- The blocks' places in their arrays. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The arguments. -/
abbrev W (i : S2048x1408.Idx) : EReal := m ((c : Thread nD τ).loc main_arg0) i
abbrev G (i : S2048x1408.Idx) : EReal := m ((c : Thread nD τ).loc main_arg1) i
abbrev M (i : S2048x1408.Idx) : EReal := m ((c : Thread nD τ).loc main_arg2) i
abbrev N (i : S2048x1408.Idx) : EReal := m ((c : Thread nD τ).loc main_arg3) i

theorem b0 (t : Fin cfg0.N) (r : Fin 128) (l : Fin 1408) : iblk m c 0 t (ix2 r l) = W m c (ix2 (row t r) l) := by
  refine Eq.trans ?_ (congrFun (V_main_arg0 m c) _)
  blk_ext [iblk, row, idx t]
theorem b1 (t : Fin cfg0.N) (r : Fin 128) (l : Fin 1408) : iblk m c 1 t (ix2 r l) = G m c (ix2 (row t r) l) := by
  refine Eq.trans ?_ (congrFun (V_main_arg1 m c) _)
  blk_ext [iblk, row, idx t]
theorem b2 (t : Fin cfg0.N) (r : Fin 128) (l : Fin 1408) : iblk m c 2 t (ix2 r l) = M m c (ix2 (row t r) l) := by
  refine Eq.trans ?_ (congrFun (V_main_arg2 m c) _)
  blk_ext [iblk, row, idx t]
theorem b3 (t : Fin cfg0.N) (r : Fin 128) (l : Fin 1408) : iblk m c 3 t (ix2 r l) = N m c (ix2 (row t r) l) := by
  refine Eq.trans ?_ (congrFun (V_main_arg3 m c) _)
  blk_ext [iblk, row, idx t]

theorem arr4 : (dats m 0 c).arrAt 4 cfg0.N = fun i => step (W m c i) (G m c i) (M m c i) (N m c i) := by
  refine (dats m 0 c).arrAt_eq_of_covers 4 _ (by decide +kernel) fun t hf x => ?_
  blk_simp
  rw [after0_4]
  idx_vars x
  refine (out4 _ _ _ _ x0 x1).trans ?_
  rw [b0, b1, b2, b3]
  refine congrArg (fun i => step (W m c i) (G m c i) (M m c i) (N m c i)) (funext (Fin.forall_fin_two.mpr ⟨Fin.ext ?_, Fin.ext ?_⟩))
  · blk_simp [idx t, row]
  · blk_simp [idx t]

theorem arr5 : (dats m 0 c).arrAt 5 cfg0.N = fun i => nm (G m c i) (M m c i) := by
  refine (dats m 0 c).arrAt_eq_of_covers 5 _ (by decide +kernel) fun t hf x => ?_
  blk_simp
  rw [after0_5]
  idx_vars x
  refine (out5 _ _ _ _ x0 x1).trans ?_
  rw [b1, b2]
  refine congrArg (fun i => nm (G m c i) (M m c i)) (funext (Fin.forall_fin_two.mpr ⟨Fin.ext ?_, Fin.ext ?_⟩))
  · blk_simp [idx t, row]
  · blk_simp [idx t]

theorem arr6 : (dats m 0 c).arrAt 6 cfg0.N = fun i => nv (G m c i) (N m c i) := by
  refine (dats m 0 c).arrAt_eq_of_covers 6 _ (by decide +kernel) fun t hf x => ?_
  blk_simp
  rw [after0_6]
  idx_vars x
  refine (out6 _ _ _ _ x0 x1).trans ?_
  rw [b1, b3]
  refine congrArg (fun i => nv (G m c i) (N m c i)) (funext (Fin.forall_fin_two.mpr ⟨Fin.ext ?_, Fin.ext ?_⟩))
  · blk_simp [idx t, row]
  · blk_simp [idx t]

theorem arr7 : (dats m 0 c).arrAt 7 cfg0.N = fun i => G m c i := by
  refine (dats m 0 c).arrAt_eq_of_covers 7 _ (by decide +kernel) fun t hf x => ?_
  blk_simp
  rw [after0_7]
  idx_vars x
  refine (out7 _ _ _ _ x0 x1).trans ?_
  rw [b1]
  refine congrArg (G m c) (funext (Fin.forall_fin_two.mpr ⟨Fin.ext ?_, Fin.ext ?_⟩))
  · blk_simp [idx t, row]
  · blk_simp [idx t]

end Cert.StepGateUpIdeal.At

namespace Cert.Proof.StepGateUp

open Idealize.ShloMosaic Idealize.SL.Sem

/-- The reference runs, keeps its arguments and leaves its counters at zero. -/
theorem frame_r : Cert.quiescent_StepGateUpReferenceIdeal := by
  intro m ρ _
  exact (θ_run Cert.StepGateUpReferenceIdeal.defs _ _).mono (fun r h => ⟨fun c => (h c).2.2.2.2, sem_eq_zero_of_no_sems (by decide) r.2⟩)
    (Cert.StepGateUpReferenceIdeal.Value.run (F := Ideal) m ρ)

/-- Kernel and reference leave the same four arrays. -/
theorem alg : Cert.algebraic_StepGateUpIdeal_StepGateUpReferenceIdeal := by
  intro m ρ m' ρ' _ hag
  refine ⟨fun c i => StepAt.step (StepGateUpIdeal.At.W m c i) (StepGateUpIdeal.At.G m c i) (StepGateUpIdeal.At.M m c i) (StepGateUpIdeal.At.N m c i),
    fun c i => StepAt.nm (StepGateUpIdeal.At.G m c i) (StepGateUpIdeal.At.M m c i),
    fun c i => StepAt.nv (StepGateUpIdeal.At.G m c i) (StepGateUpIdeal.At.N m c i), fun c i => StepGateUpIdeal.At.G m c i,
    (θ_run _ _ _).mono (fun r h c => ?_) (Cert.StepGateUpIdeal.Value.run_blocks (F := Ideal) m ρ),
    (θ_run _ _ _).mono (fun r h c => ?_) (Cert.StepGateUpReferenceIdeal.Value.run (F := Ideal) m' ρ')⟩
  · obtain ⟨h0, h1, h2, h3, h4⟩ := h c
    exact ⟨h0.trans (StepGateUpIdeal.At.arr4 m c), h1.trans (StepGateUpIdeal.At.arr5 m c), h2.trans (StepGateUpIdeal.At.arr6 m c), h3.trans (StepGateUpIdeal.At.arr7 m c), h4⟩
  · obtain ⟨h0, h1, h2, h3, h4⟩ := h c
    obtain ⟨a0, a1, a2, a3⟩ := hag c
    refine ⟨h0.trans ((Cert.StepGateUpReferenceIdeal.Read.val_main_v23_eq _ _ _ _).trans (funext fun i => (StepGateUpIdeal.At.step_ref _ _ _ _ i).trans ?_)),
      h1.trans ((Cert.StepGateUpReferenceIdeal.Read.val_main_v4_eq _ _).trans (funext fun i => (StepGateUpIdeal.At.nm_ref _ _ i).trans ?_)),
      h2.trans ((Cert.StepGateUpReferenceIdeal.Read.val_main_v10_eq _ _).trans (funext fun i => (StepGateUpIdeal.At.nv_ref _ _ i).trans ?_)),
      h3.trans a1, h4⟩
    · rw [a0, a1, a2, a3]
    · rw [a1, a2]
    · rw [a1, a3]

end Cert.Proof.StepGateUp

end
-- ==== Proof.StepDownFinal.lean ====
/- The optimiser's step on the feed-forward layer's second weights: its arrays, and its claims. -/
module

public import proofs.«01_k».proof.Proof.Gen.StepDownIdeal.Value
public import proofs.«01_k».proof.Proof.Gen.StepDownReferenceIdeal.Run
public import proofs.«01_k».proof.Proof.Gen.StepDownReferenceIdeal.Read
public import proofs.«01_k».proof.Proof.Gen.StepDownReferenceIdeal
public import proofs.«01_k».proof.Defs
public import proofs.«01_k».proof.Proof.StepSpec
public import Idealize.ShloMosaic.Lib.Pipeline.ValueKit
public import Idealize.ShloMosaic.Adequacy

@[expose] public section

set_option maxRecDepth 16384

noncomputable section

namespace Cert.StepDownIdeal.At

open Cert.StepDownIdeal Cert.StepDownIdeal.Gen Idealize.ShloMosaic Idealize.ShloMosaic.TcCoe Cert.StepAt

section
variable (w g m v : Vec Ideal S176x1024 .f32) (x : S176x1024.Idx)

theorem nm_at : k0_pay1 (F := Ideal) g m x = nm (g x) (m x) := rfl
theorem nv_at : k0_pay2 (F := Ideal) g v x = nv (g x) (v x) := rfl
theorem step_at : k0_pay3 (F := Ideal) g w m v x = step (w x) (g x) (m x) (v x) := rfl

end

section
variable (w g m v : FVec Ideal S1408x1024 .f32) (i : S1408x1024.Idx)

theorem nm_ref : StepDownReferenceIdeal.Read.val_main_v4 (F := Ideal) g m i = nm (g i) (m i) := by
  rw [StepDownReferenceIdeal.Read.val_main_v4_apply, StepDownReferenceIdeal.Read.val_main_v1_apply, StepDownReferenceIdeal.Read.val_main_v0_apply,
    StepDownReferenceIdeal.Read.val_main_v3_apply, StepDownReferenceIdeal.Read.val_main_v2_apply]
  rfl

theorem nv_ref : StepDownReferenceIdeal.Read.val_main_v10 (F := Ideal) g v i = nv (g i) (v i) := by
  rw [StepDownReferenceIdeal.Read.val_main_v10_apply, StepDownReferenceIdeal.Read.val_main_v6_apply, StepDownReferenceIdeal.Read.val_main_v5_apply,
    StepDownReferenceIdeal.Read.val_main_v9_apply, StepDownReferenceIdeal.Read.val_main_v8_apply]
  rfl

theorem step_ref : StepDownReferenceIdeal.Read.val_main_v23 (F := Ideal) w g m v i = step (w i) (g i) (m i) (v i) := by
  rw [StepDownReferenceIdeal.Read.val_main_v23_apply, StepDownReferenceIdeal.Read.val_main_v22_apply, StepDownReferenceIdeal.Read.val_main_v21_apply,
    StepDownReferenceIdeal.Read.val_main_v18_apply, StepDownReferenceIdeal.Read.val_main_v12_apply, StepDownReferenceIdeal.Read.val_main_v11_apply,
    StepDownReferenceIdeal.Read.val_main_v17_apply, StepDownReferenceIdeal.Read.val_main_v16_apply, StepDownReferenceIdeal.Read.val_main_v15_apply,
    StepDownReferenceIdeal.Read.val_main_v14_apply, StepDownReferenceIdeal.Read.val_main_v13_apply, StepDownReferenceIdeal.Read.val_main_v20_apply,
    StepDownReferenceIdeal.Read.val_main_v19_apply, nm_ref, nv_ref]
  rfl

end

section
variable (x0 x1 x2 x3 : Vec Ideal S176x1024 .f32) (r : Fin 176) (l : Fin 1024)

/-- The four blocks a point writes back. -/
theorem out4 : out0_4 x0 x1 x2 x3 (ix2 r l) = step (x0 (ix2 r l)) (x1 (ix2 r l)) (x2 (ix2 r l)) (x3 (ix2 r l)) := by
  frame_out
  exact step_at _ _ _ _ _

theorem out5 : out0_5 x0 x1 x2 x3 (ix2 r l) = nm (x1 (ix2 r l)) (x2 (ix2 r l)) := by
  frame_out
  exact nm_at _ _ _

theorem out6 : out0_6 x0 x1 x2 x3 (ix2 r l) = nv (x1 (ix2 r l)) (x3 (ix2 r l)) := by
  frame_out
  exact nv_at _ _ _

theorem out7 : out0_7 x0 x1 x2 x3 (ix2 r l) = x1 (ix2 r l) := by
  frame_out

end

variable (m : (ℓ : Loc nD τ sig) → Buf (Elt Ideal) ℓ) (c : Dev nD)

/-- The weight's row that a row of a block is. -/
def row (t : Fin cfg0.N) (r : Fin 176) : Fin 1408 := ⟨t.val * 176 + r.val, by have : t.val < 8 := t.isLt; omega⟩

/-- The blocks' places in their arrays. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The arguments. -/
abbrev W (i : S1408x1024.Idx) : EReal := m ((c : Thread nD τ).loc main_arg0) i
abbrev G (i : S1408x1024.Idx) : EReal := m ((c : Thread nD τ).loc main_arg1) i
abbrev M (i : S1408x1024.Idx) : EReal := m ((c : Thread nD τ).loc main_arg2) i
abbrev N (i : S1408x1024.Idx) : EReal := m ((c : Thread nD τ).loc main_arg3) i

theorem b0 (t : Fin cfg0.N) (r : Fin 176) (l : Fin 1024) : iblk m c 0 t (ix2 r l) = W m c (ix2 (row t r) l) := by
  refine Eq.trans ?_ (congrFun (V_main_arg0 m c) _)
  blk_ext [iblk, row, idx t]
theorem b1 (t : Fin cfg0.N) (r : Fin 176) (l : Fin 1024) : iblk m c 1 t (ix2 r l) = G m c (ix2 (row t r) l) := by
  refine Eq.trans ?_ (congrFun (V_main_arg1 m c) _)
  blk_ext [iblk, row, idx t]
theorem b2 (t : Fin cfg0.N) (r : Fin 176) (l : Fin 1024) : iblk m c 2 t (ix2 r l) = M m c (ix2 (row t r) l) := by
  refine Eq.trans ?_ (congrFun (V_main_arg2 m c) _)
  blk_ext [iblk, row, idx t]
theorem b3 (t : Fin cfg0.N) (r : Fin 176) (l : Fin 1024) : iblk m c 3 t (ix2 r l) = N m c (ix2 (row t r) l) := by
  refine Eq.trans ?_ (congrFun (V_main_arg3 m c) _)
  blk_ext [iblk, row, idx t]

theorem arr4 : (dats m 0 c).arrAt 4 cfg0.N = fun i => step (W m c i) (G m c i) (M m c i) (N m c i) := by
  refine (dats m 0 c).arrAt_eq_of_covers 4 _ (by decide +kernel) fun t hf x => ?_
  blk_simp
  rw [after0_4]
  idx_vars x
  refine (out4 _ _ _ _ x0 x1).trans ?_
  rw [b0, b1, b2, b3]
  refine congrArg (fun i => step (W m c i) (G m c i) (M m c i) (N m c i)) (funext (Fin.forall_fin_two.mpr ⟨Fin.ext ?_, Fin.ext ?_⟩))
  · blk_simp [idx t, row]
  · blk_simp [idx t]

theorem arr5 : (dats m 0 c).arrAt 5 cfg0.N = fun i => nm (G m c i) (M m c i) := by
  refine (dats m 0 c).arrAt_eq_of_covers 5 _ (by decide +kernel) fun t hf x => ?_
  blk_simp
  rw [after0_5]
  idx_vars x
  refine (out5 _ _ _ _ x0 x1).trans ?_
  rw [b1, b2]
  refine congrArg (fun i => nm (G m c i) (M m c i)) (funext (Fin.forall_fin_two.mpr ⟨Fin.ext ?_, Fin.ext ?_⟩))
  · blk_simp [idx t, row]
  · blk_simp [idx t]

theorem arr6 : (dats m 0 c).arrAt 6 cfg0.N = fun i => nv (G m c i) (N m c i) := by
  refine (dats m 0 c).arrAt_eq_of_covers 6 _ (by decide +kernel) fun t hf x => ?_
  blk_simp
  rw [after0_6]
  idx_vars x
  refine (out6 _ _ _ _ x0 x1).trans ?_
  rw [b1, b3]
  refine congrArg (fun i => nv (G m c i) (N m c i)) (funext (Fin.forall_fin_two.mpr ⟨Fin.ext ?_, Fin.ext ?_⟩))
  · blk_simp [idx t, row]
  · blk_simp [idx t]

theorem arr7 : (dats m 0 c).arrAt 7 cfg0.N = fun i => G m c i := by
  refine (dats m 0 c).arrAt_eq_of_covers 7 _ (by decide +kernel) fun t hf x => ?_
  blk_simp
  rw [after0_7]
  idx_vars x
  refine (out7 _ _ _ _ x0 x1).trans ?_
  rw [b1]
  refine congrArg (G m c) (funext (Fin.forall_fin_two.mpr ⟨Fin.ext ?_, Fin.ext ?_⟩))
  · blk_simp [idx t, row]
  · blk_simp [idx t]

end Cert.StepDownIdeal.At

namespace Cert.Proof.StepDown

open Idealize.ShloMosaic Idealize.SL.Sem

/-- The reference runs, keeps its arguments and leaves its counters at zero. -/
theorem frame_r : Cert.quiescent_StepDownReferenceIdeal := by
  intro m ρ _
  exact (θ_run Cert.StepDownReferenceIdeal.defs _ _).mono (fun r h => ⟨fun c => (h c).2.2.2.2, sem_eq_zero_of_no_sems (by decide) r.2⟩)
    (Cert.StepDownReferenceIdeal.Value.run (F := Ideal) m ρ)

/-- Kernel and reference leave the same four arrays. -/
theorem alg : Cert.algebraic_StepDownIdeal_StepDownReferenceIdeal := by
  intro m ρ m' ρ' _ hag
  refine ⟨fun c i => StepAt.step (StepDownIdeal.At.W m c i) (StepDownIdeal.At.G m c i) (StepDownIdeal.At.M m c i) (StepDownIdeal.At.N m c i),
    fun c i => StepAt.nm (StepDownIdeal.At.G m c i) (StepDownIdeal.At.M m c i),
    fun c i => StepAt.nv (StepDownIdeal.At.G m c i) (StepDownIdeal.At.N m c i), fun c i => StepDownIdeal.At.G m c i,
    (θ_run _ _ _).mono (fun r h c => ?_) (Cert.StepDownIdeal.Value.run_blocks (F := Ideal) m ρ),
    (θ_run _ _ _).mono (fun r h c => ?_) (Cert.StepDownReferenceIdeal.Value.run (F := Ideal) m' ρ')⟩
  · obtain ⟨h0, h1, h2, h3, h4⟩ := h c
    exact ⟨h0.trans (StepDownIdeal.At.arr4 m c), h1.trans (StepDownIdeal.At.arr5 m c), h2.trans (StepDownIdeal.At.arr6 m c), h3.trans (StepDownIdeal.At.arr7 m c), h4⟩
  · obtain ⟨h0, h1, h2, h3, h4⟩ := h c
    obtain ⟨a0, a1, a2, a3⟩ := hag c
    refine ⟨h0.trans ((Cert.StepDownReferenceIdeal.Read.val_main_v23_eq _ _ _ _).trans (funext fun i => (StepDownIdeal.At.step_ref _ _ _ _ i).trans ?_)),
      h1.trans ((Cert.StepDownReferenceIdeal.Read.val_main_v4_eq _ _).trans (funext fun i => (StepDownIdeal.At.nm_ref _ _ i).trans ?_)),
      h2.trans ((Cert.StepDownReferenceIdeal.Read.val_main_v10_eq _ _).trans (funext fun i => (StepDownIdeal.At.nv_ref _ _ i).trans ?_)),
      h3.trans a1, h4⟩
    · rw [a0, a1, a2, a3]
    · rw [a1, a2]
    · rw [a1, a3]

end Cert.Proof.StepDown

end
-- ==== Proof.StepInFinal.lean ====
/- The optimiser's step on the convolution layer's first weights: its arrays, and its claims. -/
module

public import proofs.«01_k».proof.Proof.Gen.StepInIdeal.Value
public import proofs.«01_k».proof.Proof.Gen.StepInReferenceIdeal.Run
public import proofs.«01_k».proof.Proof.Gen.StepInReferenceIdeal.Read
public import proofs.«01_k».proof.Proof.Gen.StepInReferenceIdeal
public import proofs.«01_k».proof.Defs
public import proofs.«01_k».proof.Proof.StepSpec
public import Idealize.ShloMosaic.Lib.Pipeline.ValueKit
public import Idealize.ShloMosaic.Adequacy

@[expose] public section

set_option maxRecDepth 16384

noncomputable section

namespace Cert.StepInIdeal.At

open Cert.StepInIdeal Cert.StepInIdeal.Gen Idealize.ShloMosaic Idealize.ShloMosaic.TcCoe Cert.StepAt

section
variable (w g m v : Vec Ideal S256x768 .f32) (x : S256x768.Idx)

theorem nm_at : k0_pay1 (F := Ideal) g m x = nm (g x) (m x) := rfl
theorem nv_at : k0_pay2 (F := Ideal) g v x = nv (g x) (v x) := rfl
theorem step_at : k0_pay3 (F := Ideal) g w m v x = step (w x) (g x) (m x) (v x) := rfl

end

section
variable (w g m v : FVec Ideal S1024x768 .f32) (i : S1024x768.Idx)

theorem nm_ref : StepInReferenceIdeal.Read.val_main_v4 (F := Ideal) g m i = nm (g i) (m i) := by
  rw [StepInReferenceIdeal.Read.val_main_v4_apply, StepInReferenceIdeal.Read.val_main_v1_apply, StepInReferenceIdeal.Read.val_main_v0_apply,
    StepInReferenceIdeal.Read.val_main_v3_apply, StepInReferenceIdeal.Read.val_main_v2_apply]
  rfl

theorem nv_ref : StepInReferenceIdeal.Read.val_main_v10 (F := Ideal) g v i = nv (g i) (v i) := by
  rw [StepInReferenceIdeal.Read.val_main_v10_apply, StepInReferenceIdeal.Read.val_main_v6_apply, StepInReferenceIdeal.Read.val_main_v5_apply,
    StepInReferenceIdeal.Read.val_main_v9_apply, StepInReferenceIdeal.Read.val_main_v8_apply]
  rfl

theorem step_ref : StepInReferenceIdeal.Read.val_main_v23 (F := Ideal) w g m v i = step (w i) (g i) (m i) (v i) := by
  rw [StepInReferenceIdeal.Read.val_main_v23_apply, StepInReferenceIdeal.Read.val_main_v22_apply, StepInReferenceIdeal.Read.val_main_v21_apply,
    StepInReferenceIdeal.Read.val_main_v18_apply, StepInReferenceIdeal.Read.val_main_v12_apply, StepInReferenceIdeal.Read.val_main_v11_apply,
    StepInReferenceIdeal.Read.val_main_v17_apply, StepInReferenceIdeal.Read.val_main_v16_apply, StepInReferenceIdeal.Read.val_main_v15_apply,
    StepInReferenceIdeal.Read.val_main_v14_apply, StepInReferenceIdeal.Read.val_main_v13_apply, StepInReferenceIdeal.Read.val_main_v20_apply,
    StepInReferenceIdeal.Read.val_main_v19_apply, nm_ref, nv_ref]
  rfl

end

section
variable (x0 x1 x2 x3 : Vec Ideal S256x768 .f32) (r : Fin 256) (l : Fin 768)

/-- The four blocks a point writes back. -/
theorem out4 : out0_4 x0 x1 x2 x3 (ix2 r l) = step (x0 (ix2 r l)) (x1 (ix2 r l)) (x2 (ix2 r l)) (x3 (ix2 r l)) := by
  frame_out
  exact step_at _ _ _ _ _

theorem out5 : out0_5 x0 x1 x2 x3 (ix2 r l) = nm (x1 (ix2 r l)) (x2 (ix2 r l)) := by
  frame_out
  exact nm_at _ _ _

theorem out6 : out0_6 x0 x1 x2 x3 (ix2 r l) = nv (x1 (ix2 r l)) (x3 (ix2 r l)) := by
  frame_out
  exact nv_at _ _ _

theorem out7 : out0_7 x0 x1 x2 x3 (ix2 r l) = x1 (ix2 r l) := by
  frame_out

end

variable (m : (ℓ : Loc nD τ sig) → Buf (Elt Ideal) ℓ) (c : Dev nD)

/-- The weight's row that a row of a block is. -/
def row (t : Fin cfg0.N) (r : Fin 256) : Fin 1024 := ⟨t.val * 256 + r.val, by have : t.val < 4 := t.isLt; omega⟩

/-- The blocks' places in their arrays. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The arguments. -/
abbrev W (i : S1024x768.Idx) : EReal := m ((c : Thread nD τ).loc main_arg0) i
abbrev G (i : S1024x768.Idx) : EReal := m ((c : Thread nD τ).loc main_arg1) i
abbrev M (i : S1024x768.Idx) : EReal := m ((c : Thread nD τ).loc main_arg2) i
abbrev N (i : S1024x768.Idx) : EReal := m ((c : Thread nD τ).loc main_arg3) i

theorem b0 (t : Fin cfg0.N) (r : Fin 256) (l : Fin 768) : iblk m c 0 t (ix2 r l) = W m c (ix2 (row t r) l) := by
  refine Eq.trans ?_ (congrFun (V_main_arg0 m c) _)
  blk_ext [iblk, row, idx t]
theorem b1 (t : Fin cfg0.N) (r : Fin 256) (l : Fin 768) : iblk m c 1 t (ix2 r l) = G m c (ix2 (row t r) l) := by
  refine Eq.trans ?_ (congrFun (V_main_arg1 m c) _)
  blk_ext [iblk, row, idx t]
theorem b2 (t : Fin cfg0.N) (r : Fin 256) (l : Fin 768) : iblk m c 2 t (ix2 r l) = M m c (ix2 (row t r) l) := by
  refine Eq.trans ?_ (congrFun (V_main_arg2 m c) _)
  blk_ext [iblk, row, idx t]
theorem b3 (t : Fin cfg0.N) (r : Fin 256) (l : Fin 768) : iblk m c 3 t (ix2 r l) = N m c (ix2 (row t r) l) := by
  refine Eq.trans ?_ (congrFun (V_main_arg3 m c) _)
  blk_ext [iblk, row, idx t]

theorem arr4 : (dats m 0 c).arrAt 4 cfg0.N = fun i => step (W m c i) (G m c i) (M m c i) (N m c i) := by
  refine (dats m 0 c).arrAt_eq_of_covers 4 _ (by decide +kernel) fun t hf x => ?_
  blk_simp
  rw [after0_4]
  idx_vars x
  refine (out4 _ _ _ _ x0 x1).trans ?_
  rw [b0, b1, b2, b3]
  refine congrArg (fun i => step (W m c i) (G m c i) (M m c i) (N m c i)) (funext (Fin.forall_fin_two.mpr ⟨Fin.ext ?_, Fin.ext ?_⟩))
  · blk_simp [idx t, row]
  · blk_simp [idx t]

theorem arr5 : (dats m 0 c).arrAt 5 cfg0.N = fun i => nm (G m c i) (M m c i) := by
  refine (dats m 0 c).arrAt_eq_of_covers 5 _ (by decide +kernel) fun t hf x => ?_
  blk_simp
  rw [after0_5]
  idx_vars x
  refine (out5 _ _ _ _ x0 x1).trans ?_
  rw [b1, b2]
  refine congrArg (fun i => nm (G m c i) (M m c i)) (funext (Fin.forall_fin_two.mpr ⟨Fin.ext ?_, Fin.ext ?_⟩))
  · blk_simp [idx t, row]
  · blk_simp [idx t]

theorem arr6 : (dats m 0 c).arrAt 6 cfg0.N = fun i => nv (G m c i) (N m c i) := by
  refine (dats m 0 c).arrAt_eq_of_covers 6 _ (by decide +kernel) fun t hf x => ?_
  blk_simp
  rw [after0_6]
  idx_vars x
  refine (out6 _ _ _ _ x0 x1).trans ?_
  rw [b1, b3]
  refine congrArg (fun i => nv (G m c i) (N m c i)) (funext (Fin.forall_fin_two.mpr ⟨Fin.ext ?_, Fin.ext ?_⟩))
  · blk_simp [idx t, row]
  · blk_simp [idx t]

theorem arr7 : (dats m 0 c).arrAt 7 cfg0.N = fun i => G m c i := by
  refine (dats m 0 c).arrAt_eq_of_covers 7 _ (by decide +kernel) fun t hf x => ?_
  blk_simp
  rw [after0_7]
  idx_vars x
  refine (out7 _ _ _ _ x0 x1).trans ?_
  rw [b1]
  refine congrArg (G m c) (funext (Fin.forall_fin_two.mpr ⟨Fin.ext ?_, Fin.ext ?_⟩))
  · blk_simp [idx t, row]
  · blk_simp [idx t]

end Cert.StepInIdeal.At

namespace Cert.Proof.StepIn

open Idealize.ShloMosaic Idealize.SL.Sem

/-- The reference runs, keeps its arguments and leaves its counters at zero. -/
theorem frame_r : Cert.quiescent_StepInReferenceIdeal := by
  intro m ρ _
  exact (θ_run Cert.StepInReferenceIdeal.defs _ _).mono (fun r h => ⟨fun c => (h c).2.2.2.2, sem_eq_zero_of_no_sems (by decide) r.2⟩)
    (Cert.StepInReferenceIdeal.Value.run (F := Ideal) m ρ)

/-- Kernel and reference leave the same four arrays. -/
theorem alg : Cert.algebraic_StepInIdeal_StepInReferenceIdeal := by
  intro m ρ m' ρ' _ hag
  refine ⟨fun c i => StepAt.step (StepInIdeal.At.W m c i) (StepInIdeal.At.G m c i) (StepInIdeal.At.M m c i) (StepInIdeal.At.N m c i),
    fun c i => StepAt.nm (StepInIdeal.At.G m c i) (StepInIdeal.At.M m c i),
    fun c i => StepAt.nv (StepInIdeal.At.G m c i) (StepInIdeal.At.N m c i), fun c i => StepInIdeal.At.G m c i,
    (θ_run _ _ _).mono (fun r h c => ?_) (Cert.StepInIdeal.Value.run_blocks (F := Ideal) m ρ),
    (θ_run _ _ _).mono (fun r h c => ?_) (Cert.StepInReferenceIdeal.Value.run (F := Ideal) m' ρ')⟩
  · obtain ⟨h0, h1, h2, h3, h4⟩ := h c
    exact ⟨h0.trans (StepInIdeal.At.arr4 m c), h1.trans (StepInIdeal.At.arr5 m c), h2.trans (StepInIdeal.At.arr6 m c), h3.trans (StepInIdeal.At.arr7 m c), h4⟩
  · obtain ⟨h0, h1, h2, h3, h4⟩ := h c
    obtain ⟨a0, a1, a2, a3⟩ := hag c
    refine ⟨h0.trans ((Cert.StepInReferenceIdeal.Read.val_main_v23_eq _ _ _ _).trans (funext fun i => (StepInIdeal.At.step_ref _ _ _ _ i).trans ?_)),
      h1.trans ((Cert.StepInReferenceIdeal.Read.val_main_v4_eq _ _).trans (funext fun i => (StepInIdeal.At.nm_ref _ _ i).trans ?_)),
      h2.trans ((Cert.StepInReferenceIdeal.Read.val_main_v10_eq _ _).trans (funext fun i => (StepInIdeal.At.nv_ref _ _ i).trans ?_)),
      h3.trans a1, h4⟩
    · rw [a0, a1, a2, a3]
    · rw [a1, a2]
    · rw [a1, a3]

end Cert.Proof.StepIn

end
-- ==== Proof.StepOutFinal.lean ====
/- The optimiser's step on the convolution layer's second weights: its arrays, and its claims. -/
module

public import proofs.«01_k».proof.Proof.Gen.StepOutIdeal.Value
public import proofs.«01_k».proof.Proof.Gen.StepOutReferenceIdeal.Run
public import proofs.«01_k».proof.Proof.Gen.StepOutReferenceIdeal.Read
public import proofs.«01_k».proof.Proof.Gen.StepOutReferenceIdeal
public import proofs.«01_k».proof.Defs
public import proofs.«01_k».proof.Proof.StepSpec
public import Idealize.ShloMosaic.Lib.Pipeline.ValueKit
public import Idealize.ShloMosaic.Adequacy

@[expose] public section

set_option maxRecDepth 16384

noncomputable section

namespace Cert.StepOutIdeal.At

open Cert.StepOutIdeal Cert.StepOutIdeal.Gen Idealize.ShloMosaic Idealize.ShloMosaic.TcCoe Cert.StepAt

section
variable (w g m v : Vec Ideal S256x1024 .f32) (x : S256x1024.Idx)

theorem nm_at : k0_pay1 (F := Ideal) g m x = nm (g x) (m x) := rfl
theorem nv_at : k0_pay2 (F := Ideal) g v x = nv (g x) (v x) := rfl
theorem step_at : k0_pay3 (F := Ideal) g w m v x = step (w x) (g x) (m x) (v x) := rfl

end

section
variable (w g m v : FVec Ideal S256x1024 .f32) (i : S256x1024.Idx)

theorem nm_ref : StepOutReferenceIdeal.Read.val_main_v4 (F := Ideal) g m i = nm (g i) (m i) := by
  rw [StepOutReferenceIdeal.Read.val_main_v4_apply, StepOutReferenceIdeal.Read.val_main_v1_apply, StepOutReferenceIdeal.Read.val_main_v0_apply,
    StepOutReferenceIdeal.Read.val_main_v3_apply, StepOutReferenceIdeal.Read.val_main_v2_apply]
  rfl

theorem nv_ref : StepOutReferenceIdeal.Read.val_main_v10 (F := Ideal) g v i = nv (g i) (v i) := by
  rw [StepOutReferenceIdeal.Read.val_main_v10_apply, StepOutReferenceIdeal.Read.val_main_v6_apply, StepOutReferenceIdeal.Read.val_main_v5_apply,
    StepOutReferenceIdeal.Read.val_main_v9_apply, StepOutReferenceIdeal.Read.val_main_v8_apply]
  rfl

theorem step_ref : StepOutReferenceIdeal.Read.val_main_v23 (F := Ideal) w g m v i = step (w i) (g i) (m i) (v i) := by
  rw [StepOutReferenceIdeal.Read.val_main_v23_apply, StepOutReferenceIdeal.Read.val_main_v22_apply, StepOutReferenceIdeal.Read.val_main_v21_apply,
    StepOutReferenceIdeal.Read.val_main_v18_apply, StepOutReferenceIdeal.Read.val_main_v12_apply, StepOutReferenceIdeal.Read.val_main_v11_apply,
    StepOutReferenceIdeal.Read.val_main_v17_apply, StepOutReferenceIdeal.Read.val_main_v16_apply, StepOutReferenceIdeal.Read.val_main_v15_apply,
    StepOutReferenceIdeal.Read.val_main_v14_apply, StepOutReferenceIdeal.Read.val_main_v13_apply, StepOutReferenceIdeal.Read.val_main_v20_apply,
    StepOutReferenceIdeal.Read.val_main_v19_apply, nm_ref, nv_ref]
  rfl

end

section
variable (x0 x1 x2 x3 : Vec Ideal S256x1024 .f32) (r : Fin 256) (l : Fin 1024)

/-- The four blocks a point writes back. -/
theorem out4 : out0_4 x0 x1 x2 x3 (ix2 r l) = step (x0 (ix2 r l)) (x1 (ix2 r l)) (x2 (ix2 r l)) (x3 (ix2 r l)) := by
  frame_out
  exact step_at _ _ _ _ _

theorem out5 : out0_5 x0 x1 x2 x3 (ix2 r l) = nm (x1 (ix2 r l)) (x2 (ix2 r l)) := by
  frame_out
  exact nm_at _ _ _

theorem out6 : out0_6 x0 x1 x2 x3 (ix2 r l) = nv (x1 (ix2 r l)) (x3 (ix2 r l)) := by
  frame_out
  exact nv_at _ _ _

theorem out7 : out0_7 x0 x1 x2 x3 (ix2 r l) = x1 (ix2 r l) := by
  frame_out

end

variable (m : (ℓ : Loc nD τ sig) → Buf (Elt Ideal) ℓ) (c : Dev nD)

/-- The weight's row that a row of a block is. -/
def row (t : Fin cfg0.N) (r : Fin 256) : Fin 256 := ⟨t.val * 256 + r.val, by have : t.val < 1 := t.isLt; omega⟩

/-- The blocks' places in their arrays. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The arguments. -/
abbrev W (i : S256x1024.Idx) : EReal := m ((c : Thread nD τ).loc main_arg0) i
abbrev G (i : S256x1024.Idx) : EReal := m ((c : Thread nD τ).loc main_arg1) i
abbrev M (i : S256x1024.Idx) : EReal := m ((c : Thread nD τ).loc main_arg2) i
abbrev N (i : S256x1024.Idx) : EReal := m ((c : Thread nD τ).loc main_arg3) i

theorem b0 (t : Fin cfg0.N) (r : Fin 256) (l : Fin 1024) : iblk m c 0 t (ix2 r l) = W m c (ix2 (row t r) l) := by
  refine Eq.trans ?_ (congrFun (V_main_arg0 m c) _)
  blk_ext [iblk, row, idx t]
theorem b1 (t : Fin cfg0.N) (r : Fin 256) (l : Fin 1024) : iblk m c 1 t (ix2 r l) = G m c (ix2 (row t r) l) := by
  refine Eq.trans ?_ (congrFun (V_main_arg1 m c) _)
  blk_ext [iblk, row, idx t]
theorem b2 (t : Fin cfg0.N) (r : Fin 256) (l : Fin 1024) : iblk m c 2 t (ix2 r l) = M m c (ix2 (row t r) l) := by
  refine Eq.trans ?_ (congrFun (V_main_arg2 m c) _)
  blk_ext [iblk, row, idx t]
theorem b3 (t : Fin cfg0.N) (r : Fin 256) (l : Fin 1024) : iblk m c 3 t (ix2 r l) = N m c (ix2 (row t r) l) := by
  refine Eq.trans ?_ (congrFun (V_main_arg3 m c) _)
  blk_ext [iblk, row, idx t]

theorem arr4 : (dats m 0 c).arrAt 4 cfg0.N = fun i => step (W m c i) (G m c i) (M m c i) (N m c i) := by
  refine (dats m 0 c).arrAt_eq_of_covers 4 _ (by decide +kernel) fun t hf x => ?_
  blk_simp
  rw [after0_4]
  idx_vars x
  refine (out4 _ _ _ _ x0 x1).trans ?_
  rw [b0, b1, b2, b3]
  refine congrArg (fun i => step (W m c i) (G m c i) (M m c i) (N m c i)) (funext (Fin.forall_fin_two.mpr ⟨Fin.ext ?_, Fin.ext ?_⟩))
  · blk_simp [idx t, row]
  · blk_simp [idx t]

theorem arr5 : (dats m 0 c).arrAt 5 cfg0.N = fun i => nm (G m c i) (M m c i) := by
  refine (dats m 0 c).arrAt_eq_of_covers 5 _ (by decide +kernel) fun t hf x => ?_
  blk_simp
  rw [after0_5]
  idx_vars x
  refine (out5 _ _ _ _ x0 x1).trans ?_
  rw [b1, b2]
  refine congrArg (fun i => nm (G m c i) (M m c i)) (funext (Fin.forall_fin_two.mpr ⟨Fin.ext ?_, Fin.ext ?_⟩))
  · blk_simp [idx t, row]
  · blk_simp [idx t]

theorem arr6 : (dats m 0 c).arrAt 6 cfg0.N = fun i => nv (G m c i) (N m c i) := by
  refine (dats m 0 c).arrAt_eq_of_covers 6 _ (by decide +kernel) fun t hf x => ?_
  blk_simp
  rw [after0_6]
  idx_vars x
  refine (out6 _ _ _ _ x0 x1).trans ?_
  rw [b1, b3]
  refine congrArg (fun i => nv (G m c i) (N m c i)) (funext (Fin.forall_fin_two.mpr ⟨Fin.ext ?_, Fin.ext ?_⟩))
  · blk_simp [idx t, row]
  · blk_simp [idx t]

theorem arr7 : (dats m 0 c).arrAt 7 cfg0.N = fun i => G m c i := by
  refine (dats m 0 c).arrAt_eq_of_covers 7 _ (by decide +kernel) fun t hf x => ?_
  blk_simp
  rw [after0_7]
  idx_vars x
  refine (out7 _ _ _ _ x0 x1).trans ?_
  rw [b1]
  refine congrArg (G m c) (funext (Fin.forall_fin_two.mpr ⟨Fin.ext ?_, Fin.ext ?_⟩))
  · blk_simp [idx t, row]
  · blk_simp [idx t]

end Cert.StepOutIdeal.At

namespace Cert.Proof.StepOut

open Idealize.ShloMosaic Idealize.SL.Sem

/-- The reference runs, keeps its arguments and leaves its counters at zero. -/
theorem frame_r : Cert.quiescent_StepOutReferenceIdeal := by
  intro m ρ _
  exact (θ_run Cert.StepOutReferenceIdeal.defs _ _).mono (fun r h => ⟨fun c => (h c).2.2.2.2, sem_eq_zero_of_no_sems (by decide) r.2⟩)
    (Cert.StepOutReferenceIdeal.Value.run (F := Ideal) m ρ)

/-- Kernel and reference leave the same four arrays. -/
theorem alg : Cert.algebraic_StepOutIdeal_StepOutReferenceIdeal := by
  intro m ρ m' ρ' _ hag
  refine ⟨fun c i => StepAt.step (StepOutIdeal.At.W m c i) (StepOutIdeal.At.G m c i) (StepOutIdeal.At.M m c i) (StepOutIdeal.At.N m c i),
    fun c i => StepAt.nm (StepOutIdeal.At.G m c i) (StepOutIdeal.At.M m c i),
    fun c i => StepAt.nv (StepOutIdeal.At.G m c i) (StepOutIdeal.At.N m c i), fun c i => StepOutIdeal.At.G m c i,
    (θ_run _ _ _).mono (fun r h c => ?_) (Cert.StepOutIdeal.Value.run_blocks (F := Ideal) m ρ),
    (θ_run _ _ _).mono (fun r h c => ?_) (Cert.StepOutReferenceIdeal.Value.run (F := Ideal) m' ρ')⟩
  · obtain ⟨h0, h1, h2, h3, h4⟩ := h c
    exact ⟨h0.trans (StepOutIdeal.At.arr4 m c), h1.trans (StepOutIdeal.At.arr5 m c), h2.trans (StepOutIdeal.At.arr6 m c), h3.trans (StepOutIdeal.At.arr7 m c), h4⟩
  · obtain ⟨h0, h1, h2, h3, h4⟩ := h c
    obtain ⟨a0, a1, a2, a3⟩ := hag c
    refine ⟨h0.trans ((Cert.StepOutReferenceIdeal.Read.val_main_v23_eq _ _ _ _).trans (funext fun i => (StepOutIdeal.At.step_ref _ _ _ _ i).trans ?_)),
      h1.trans ((Cert.StepOutReferenceIdeal.Read.val_main_v4_eq _ _).trans (funext fun i => (StepOutIdeal.At.nm_ref _ _ i).trans ?_)),
      h2.trans ((Cert.StepOutReferenceIdeal.Read.val_main_v10_eq _ _).trans (funext fun i => (StepOutIdeal.At.nv_ref _ _ i).trans ?_)),
      h3.trans a1, h4⟩
    · rw [a0, a1, a2, a3]
    · rw [a1, a2]
    · rw [a1, a3]

end Cert.Proof.StepOut

end
-- ==== Proof.StepPoolFinal.lean ====
/- The optimiser's step on the pooling layer's weights: its arrays, and its claims. -/
module

public import proofs.«01_k».proof.Proof.Gen.StepPoolIdeal.Value
public import proofs.«01_k».proof.Proof.Gen.StepPoolReferenceIdeal.Run
public import proofs.«01_k».proof.Proof.Gen.StepPoolReferenceIdeal.Read
public import proofs.«01_k».proof.Proof.Gen.StepPoolReferenceIdeal
public import proofs.«01_k».proof.Defs
public import proofs.«01_k».proof.Proof.StepSpec
public import Idealize.ShloMosaic.Lib.Pipeline.ValueKit
public import Idealize.ShloMosaic.Adequacy

@[expose] public section

set_option maxRecDepth 16384

noncomputable section

namespace Cert.StepPoolIdeal.At

open Cert.StepPoolIdeal Cert.StepPoolIdeal.Gen Idealize.ShloMosaic Idealize.ShloMosaic.TcCoe Cert.StepAt

section
variable (w g m v : Vec Ideal S1x4x64x256 .f32) (x : S1x4x64x256.Idx)

theorem nm_at : k0_pay2 (F := Ideal) g m x = nm (g x) (m x) := rfl
theorem nv_at : k0_pay3 (F := Ideal) g v x = nv (g x) (v x) := rfl
theorem step_at : k0_pay1 (F := Ideal) (k0_pay4 g m v) (k0_pay5 w) x = step (w x) (g x) (m x) (v x) := rfl

end

section
variable (w g m v : FVec Ideal S1x4x64x256 .f32) (i : S1x4x64x256.Idx)

theorem nm_ref : StepPoolReferenceIdeal.Read.val_main_v4 (F := Ideal) g m i = nm (g i) (m i) := by
  rw [StepPoolReferenceIdeal.Read.val_main_v4_apply, StepPoolReferenceIdeal.Read.val_main_v1_apply, StepPoolReferenceIdeal.Read.val_main_v0_apply,
    StepPoolReferenceIdeal.Read.val_main_v3_apply, StepPoolReferenceIdeal.Read.val_main_v2_apply]
  rfl

theorem nv_ref : StepPoolReferenceIdeal.Read.val_main_v10 (F := Ideal) g v i = nv (g i) (v i) := by
  rw [StepPoolReferenceIdeal.Read.val_main_v10_apply, StepPoolReferenceIdeal.Read.val_main_v6_apply, StepPoolReferenceIdeal.Read.val_main_v5_apply,
    StepPoolReferenceIdeal.Read.val_main_v9_apply, StepPoolReferenceIdeal.Read.val_main_v8_apply]
  rfl

theorem step_ref : StepPoolReferenceIdeal.Read.val_main_v23 (F := Ideal) w g m v i = step (w i) (g i) (m i) (v i) := by
  rw [StepPoolReferenceIdeal.Read.val_main_v23_apply, StepPoolReferenceIdeal.Read.val_main_v22_apply, StepPoolReferenceIdeal.Read.val_main_v21_apply,
    StepPoolReferenceIdeal.Read.val_main_v18_apply, StepPoolReferenceIdeal.Read.val_main_v12_apply, StepPoolReferenceIdeal.Read.val_main_v11_apply,
    StepPoolReferenceIdeal.Read.val_main_v17_apply, StepPoolReferenceIdeal.Read.val_main_v16_apply, StepPoolReferenceIdeal.Read.val_main_v15_apply,
    StepPoolReferenceIdeal.Read.val_main_v14_apply, StepPoolReferenceIdeal.Read.val_main_v13_apply, StepPoolReferenceIdeal.Read.val_main_v20_apply,
    StepPoolReferenceIdeal.Read.val_main_v19_apply, nm_ref, nv_ref]
  rfl

end

variable (m : (ℓ : Loc nD τ sig) → Buf (Elt Ideal) ℓ) (c : Dev nD)

/-- The arguments. -/
abbrev W (i : S1x4x64x256.Idx) : EReal := m ((c : Thread nD τ).loc main_arg0) i
abbrev G (i : S1x4x64x256.Idx) : EReal := m ((c : Thread nD τ).loc main_arg1) i
abbrev M (i : S1x4x64x256.Idx) : EReal := m ((c : Thread nD τ).loc main_arg2) i
abbrev N (i : S1x4x64x256.Idx) : EReal := m ((c : Thread nD τ).loc main_arg3) i

end Cert.StepPoolIdeal.At

namespace Cert.Proof.StepPool

open Idealize.ShloMosaic Idealize.SL.Sem

/-- The reference runs, keeps its arguments and leaves its counters at zero. -/
theorem frame_r : Cert.quiescent_StepPoolReferenceIdeal := by
  intro m ρ _
  exact (θ_run Cert.StepPoolReferenceIdeal.defs _ _).mono (fun r h => ⟨fun c => (h c).2.2.2.2, sem_eq_zero_of_no_sems (by decide) r.2⟩)
    (Cert.StepPoolReferenceIdeal.Value.run (F := Ideal) m ρ)

/-- Kernel and reference leave the same four arrays. -/
theorem alg : Cert.algebraic_StepPoolIdeal_StepPoolReferenceIdeal := by
  intro m ρ m' ρ' _ hag
  refine ⟨fun c i => StepPoolIdeal.At.G m c i,
    fun c i => StepAt.step (StepPoolIdeal.At.W m c i) (StepPoolIdeal.At.G m c i) (StepPoolIdeal.At.M m c i) (StepPoolIdeal.At.N m c i),
    fun c i => StepAt.nm (StepPoolIdeal.At.G m c i) (StepPoolIdeal.At.M m c i),
    fun c i => StepAt.nv (StepPoolIdeal.At.G m c i) (StepPoolIdeal.At.N m c i),
    (θ_run _ _ _).mono (fun r h c => ?_) (Cert.StepPoolIdeal.Value.run (F := Ideal) m ρ),
    (θ_run _ _ _).mono (fun r h c => ?_) (Cert.StepPoolReferenceIdeal.Value.run (F := Ideal) m' ρ')⟩
  · obtain ⟨h0, h1, h2, h3, h4⟩ := h c
    exact ⟨h0, h1.trans (funext fun i => StepPoolIdeal.At.step_at _ _ _ _ i), h2.trans (funext fun i => StepPoolIdeal.At.nm_at _ _ i),
      h3.trans (funext fun i => StepPoolIdeal.At.nv_at _ _ i), h4⟩
  · obtain ⟨h0, h1, h2, h3, h4⟩ := h c
    obtain ⟨a0, a1, a2, a3⟩ := hag c
    refine ⟨h0.trans a1,
      h1.trans ((Cert.StepPoolReferenceIdeal.Read.val_main_v23_eq _ _ _ _).trans (funext fun i => (StepPoolIdeal.At.step_ref _ _ _ _ i).trans ?_)),
      h2.trans ((Cert.StepPoolReferenceIdeal.Read.val_main_v4_eq _ _).trans (funext fun i => (StepPoolIdeal.At.nm_ref _ _ i).trans ?_)),
      h3.trans ((Cert.StepPoolReferenceIdeal.Read.val_main_v10_eq _ _).trans (funext fun i => (StepPoolIdeal.At.nv_ref _ _ i).trans ?_)), h4⟩
    · rw [a0, a1, a2, a3]
    · rw [a1, a2]
    · rw [a1, a3]

end Cert.Proof.StepPool

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.FfnFirst
public import proofs.«01_k».proof.Proof.Gen.FfnFirst.Skeleton
public import proofs.«01_k».proof.Proof.Gen.FfnFirst.Launch
public import proofs.«01_k».proof.Proof.Gen.FfnFirst.Points
public import proofs.«01_k».proof.Proof.Gen.FfnFirst.Frame
public import proofs.«01_k».proof.Proof.Gen.FfnFirstIdeal
public import proofs.«01_k».proof.Proof.Gen.FfnFirstIdeal.Skeleton
public import proofs.«01_k».proof.Proof.Gen.FfnFirstIdeal.Launch
public import proofs.«01_k».proof.Proof.Gen.FfnFirstIdeal.Points
public import proofs.«01_k».proof.Proof.Gen.FfnFirstIdeal.Frame
public import proofs.«01_k».proof.Proof.Gen.FfnFirstIdeal.Value
public import proofs.«01_k».proof.Proof.Gen.FfnFirstReferenceIdeal
public import proofs.«01_k».proof.Proof.Gen.FfnFirstReferenceIdeal.Run
public import proofs.«01_k».proof.Proof.Gen.FfnFirstReferenceIdeal.Read
public import proofs.«01_k».proof.Proof.Gen.Pre_finite
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvReferenceIdeal
public import proofs.«01_k».proof.Proof.Gen.ConvReferenceIdeal.Run
public import proofs.«01_k».proof.Proof.Gen.ConvReferenceIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolIdeal.Value
public import proofs.«01_k».proof.Proof.Gen.PoolReferenceIdeal
public import proofs.«01_k».proof.Proof.Gen.PoolReferenceIdeal.Run
public import proofs.«01_k».proof.Proof.Gen.PoolReferenceIdeal.Read
public import proofs.«01_k».proof.Proof.Gen.PoolBack
public import proofs.«01_k».proof.Proof.Gen.PoolBack.Skeleton
public import proofs.«01_k».proof.Proof.Gen.PoolBack.Launch
public import proofs.«01_k».proof.Proof.Gen.PoolBack.Points
public import proofs.«01_k».proof.Proof.Gen.PoolBack.Frame
public import proofs.«01_k».proof.Proof.Gen.PoolBackIdeal
public import proofs.«01_k».proof.Proof.Gen.PoolBackIdeal.Skeleton
public import proofs.«01_k».proof.Proof.Gen.PoolBackIdeal.Launch
public import proofs.«01_k».proof.Proof.Gen.PoolBackIdeal.Points
public import proofs.«01_k».proof.Proof.Gen.PoolBackIdeal.Frame
public import proofs.«01_k».proof.Proof.Gen.PoolBackIdeal.Value
public import proofs.«01_k».proof.Proof.Gen.PoolBackReferenceIdeal
public import proofs.«01_k».proof.Proof.Gen.PoolBackReferenceIdeal.Run
public import proofs.«01_k».proof.Proof.Gen.PoolBackReferenceIdeal.Read
public import proofs.«01_k».proof.Proof.Gen.StepGateUp
public import proofs.«01_k».proof.Proof.Gen.StepGateUp.Skeleton
public import proofs.«01_k».proof.Proof.Gen.StepGateUp.Launch
public import proofs.«01_k».proof.Proof.Gen.StepGateUp.Points
public import proofs.«01_k».proof.Proof.Gen.StepGateUp.Frame
public import proofs.«01_k».proof.Proof.Gen.StepGateUpIdeal
public import proofs.«01_k».proof.Proof.Gen.StepGateUpIdeal.Skeleton
public import proofs.«01_k».proof.Proof.Gen.StepGateUpIdeal.Launch
public import proofs.«01_k».proof.Proof.Gen.StepGateUpIdeal.Points
public import proofs.«01_k».proof.Proof.Gen.StepGateUpIdeal.Frame
public import proofs.«01_k».proof.Proof.Gen.StepGateUpIdeal.Value
public import proofs.«01_k».proof.Proof.Gen.StepGateUpReferenceIdeal
public import proofs.«01_k».proof.Proof.Gen.StepGateUpReferenceIdeal.Run
public import proofs.«01_k».proof.Proof.Gen.StepGateUpReferenceIdeal.Read
public import proofs.«01_k».proof.Proof.Gen.StepDown
public import proofs.«01_k».proof.Proof.Gen.StepDown.Skeleton
public import proofs.«01_k».proof.Proof.Gen.StepDown.Launch
public import proofs.«01_k».proof.Proof.Gen.StepDown.Points
public import proofs.«01_k».proof.Proof.Gen.StepDown.Frame
public import proofs.«01_k».proof.Proof.Gen.StepDownIdeal
public import proofs.«01_k».proof.Proof.Gen.StepDownIdeal.Skeleton
public import proofs.«01_k».proof.Proof.Gen.StepDownIdeal.Launch
public import proofs.«01_k».proof.Proof.Gen.StepDownIdeal.Points
public import proofs.«01_k».proof.Proof.Gen.StepDownIdeal.Frame
public import proofs.«01_k».proof.Proof.Gen.StepDownIdeal.Value
public import proofs.«01_k».proof.Proof.Gen.StepDownReferenceIdeal
public import proofs.«01_k».proof.Proof.Gen.StepDownReferenceIdeal.Run
public import proofs.«01_k».proof.Proof.Gen.StepDownReferenceIdeal.Read
public import proofs.«01_k».proof.Proof.Gen.StepIn
public import proofs.«01_k».proof.Proof.Gen.StepIn.Skeleton
public import proofs.«01_k».proof.Proof.Gen.StepIn.Launch
public import proofs.«01_k».proof.Proof.Gen.StepIn.Points
public import proofs.«01_k».proof.Proof.Gen.StepIn.Frame
public import proofs.«01_k».proof.Proof.Gen.StepInIdeal
public import proofs.«01_k».proof.Proof.Gen.StepInIdeal.Skeleton
public import proofs.«01_k».proof.Proof.Gen.StepInIdeal.Launch
public import proofs.«01_k».proof.Proof.Gen.StepInIdeal.Points
public import proofs.«01_k».proof.Proof.Gen.StepInIdeal.Frame
public import proofs.«01_k».proof.Proof.Gen.StepInIdeal.Value
public import proofs.«01_k».proof.Proof.Gen.StepInReferenceIdeal
public import proofs.«01_k».proof.Proof.Gen.StepInReferenceIdeal.Run
public import proofs.«01_k».proof.Proof.Gen.StepInReferenceIdeal.Read
public import proofs.«01_k».proof.Proof.Gen.StepOut
public import proofs.«01_k».proof.Proof.Gen.StepOut.Skeleton
public import proofs.«01_k».proof.Proof.Gen.StepOut.Launch
public import proofs.«01_k».proof.Proof.Gen.StepOut.Points
public import proofs.«01_k».proof.Proof.Gen.StepOut.Frame
public import proofs.«01_k».proof.Proof.Gen.StepOutIdeal
public import proofs.«01_k».proof.Proof.Gen.StepOutIdeal.Skeleton
public import proofs.«01_k».proof.Proof.Gen.StepOutIdeal.Launch
public import proofs.«01_k».proof.Proof.Gen.StepOutIdeal.Points
public import proofs.«01_k».proof.Proof.Gen.StepOutIdeal.Frame
public import proofs.«01_k».proof.Proof.Gen.StepOutIdeal.Value
public import proofs.«01_k».proof.Proof.Gen.StepOutReferenceIdeal
public import proofs.«01_k».proof.Proof.Gen.StepOutReferenceIdeal.Run
public import proofs.«01_k».proof.Proof.Gen.StepOutReferenceIdeal.Read
public import proofs.«01_k».proof.Proof.Gen.StepPool
public import proofs.«01_k».proof.Proof.Gen.StepPool.Skeleton
public import proofs.«01_k».proof.Proof.Gen.StepPool.Launch
public import proofs.«01_k».proof.Proof.Gen.StepPool.Points
public import proofs.«01_k».proof.Proof.Gen.StepPool.Frame
public import proofs.«01_k».proof.Proof.Gen.StepPoolIdeal
public import proofs.«01_k».proof.Proof.Gen.StepPoolIdeal.Skeleton
public import proofs.«01_k».proof.Proof.Gen.StepPoolIdeal.Launch
public import proofs.«01_k».proof.Proof.Gen.StepPoolIdeal.Points
public import proofs.«01_k».proof.Proof.Gen.StepPoolIdeal.Frame
public import proofs.«01_k».proof.Proof.Gen.StepPoolIdeal.Value
public import proofs.«01_k».proof.Proof.Gen.StepPoolReferenceIdeal
public import proofs.«01_k».proof.Proof.Gen.StepPoolReferenceIdeal.Run
public import proofs.«01_k».proof.Proof.Gen.StepPoolReferenceIdeal.Read
public import proofs.«01_k».proof.Proof.Final
public import proofs.«01_k».proof.Proof.FfnFinal
public import proofs.«01_k».proof.Proof.FfnFirstFinal
public import proofs.«01_k».proof.Proof.ConvFinal
public import proofs.«01_k».proof.Proof.LossFinal
public import proofs.«01_k».proof.Proof.UpFinal
public import proofs.«01_k».proof.Proof.DownFinal
public import proofs.«01_k».proof.Proof.PoolFinal
public import proofs.«01_k».proof.Proof.PoolBackFinal
public import proofs.«01_k».proof.Proof.StepGateUpFinal
public import proofs.«01_k».proof.Proof.StepDownFinal
public import proofs.«01_k».proof.Proof.StepInFinal
public import proofs.«01_k».proof.Proof.StepOutFinal
public import proofs.«01_k».proof.Proof.StepPoolFinal
public import Idealize.ShloMosaic.Adequacy
public import Idealize.ShloMosaic.Init

@[expose] public section

noncomputable section

namespace Cert.Proof

open Idealize.ShloMosaic Idealize.SL.Sem Cert.Kernel

/-- Everything the certificate claims: of the gradient of the gated short convolution, of the gradients of the two
    feed-forward layers, where the equations with the references take finite arguments, of the forward convolution, of the
    forward pass of the last layer with the loss, of the two calls of the forward pass of the first layer, of the pooled
    mixer, forwards and backwards, and of the optimiser's step on five weights. -/
theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.FfnFirst.Gen.facts, Cert.FfnFirstIdeal.Gen.facts, Cert.FfnFirstReferenceIdeal.Gen.facts,
  Cert.Conv.Gen.facts, Cert.ConvIdeal.Gen.facts, Cert.ConvReferenceIdeal.Gen.facts,
  Cert.Loss.Gen.facts, Cert.LossIdeal.Gen.facts, Cert.LossReferenceIdeal.Gen.facts,
  Cert.Up.Gen.facts, Cert.UpIdeal.Gen.facts, Cert.UpReferenceIdeal.Gen.facts,
  Cert.Down.Gen.facts, Cert.DownIdeal.Gen.facts, Cert.DownReferenceIdeal.Gen.facts,
  Cert.Pool.Gen.facts, Cert.PoolIdeal.Gen.facts, Cert.PoolReferenceIdeal.Gen.facts,
  Cert.PoolBack.Gen.facts, Cert.PoolBackIdeal.Gen.facts, Cert.PoolBackReferenceIdeal.Gen.facts,
  Cert.StepGateUp.Gen.facts, Cert.StepGateUpIdeal.Gen.facts, Cert.StepGateUpReferenceIdeal.Gen.facts,
  Cert.StepDown.Gen.facts, Cert.StepDownIdeal.Gen.facts, Cert.StepDownReferenceIdeal.Gen.facts,
  Cert.StepIn.Gen.facts, Cert.StepInIdeal.Gen.facts, Cert.StepInReferenceIdeal.Gen.facts,
  Cert.StepOut.Gen.facts, Cert.StepOutIdeal.Gen.facts, Cert.StepOutReferenceIdeal.Gen.facts,
  Cert.StepPool.Gen.facts, Cert.StepPoolIdeal.Gen.facts, Cert.StepPoolReferenceIdeal.Gen.facts,
  Cert.Pre_finite.Gen.facts,
  fun m ρ _ => Cert.Kernel.Gen.frame m ρ, fun m ρ _ => Cert.KernelIdeal.Gen.frame m ρ, frame_r,
  fun m ρ _ => Cert.Ffn.Gen.frame m ρ, fun m ρ _ => Cert.FfnIdeal.Gen.frame m ρ, fun m ρ _ => Cert.FfnIdeal.Gen.frame m ρ,
  Ffn.frame_r, fun m ρ _ => Ffn.frame_r m ρ trivial,
  fun m ρ _ => Cert.FfnFirst.Gen.frame m ρ, fun m ρ _ => Cert.FfnFirstIdeal.Gen.frame m ρ, fun m ρ _ => Cert.FfnFirstIdeal.Gen.frame m ρ,
  FfnFirst.frame_r, fun m ρ _ => FfnFirst.frame_r m ρ trivial,
  fun m ρ _ => Cert.Conv.Gen.frame m ρ, fun m ρ _ => Cert.ConvIdeal.Gen.frame m ρ, Conv.frame_r,
  fun m ρ _ => Cert.Loss.Gen.frame m ρ, fun m ρ _ => Cert.LossIdeal.Gen.frame m ρ, Loss.frame_r,
  fun m ρ _ => Cert.Up.Gen.frame m ρ, fun m ρ _ => Cert.UpIdeal.Gen.frame m ρ, Up.frame_r,
  fun m ρ _ => Cert.Down.Gen.frame m ρ, fun m ρ _ => Cert.DownIdeal.Gen.frame m ρ, Down.frame_r,
  fun m ρ _ => Cert.Pool.Gen.frame m ρ, fun m ρ _ => Cert.PoolIdeal.Gen.frame m ρ, Pool.frame_r,
  fun m ρ _ => Cert.PoolBack.Gen.frame m ρ, fun m ρ _ => Cert.PoolBackIdeal.Gen.frame m ρ, PoolBack.frame_r,
  fun m ρ _ => Cert.StepGateUp.Gen.frame m ρ, fun m ρ _ => Cert.StepGateUpIdeal.Gen.frame m ρ, StepGateUp.frame_r,
  fun m ρ _ => Cert.StepDown.Gen.frame m ρ, fun m ρ _ => Cert.StepDownIdeal.Gen.frame m ρ, StepDown.frame_r,
  fun m ρ _ => Cert.StepIn.Gen.frame m ρ, fun m ρ _ => Cert.StepInIdeal.Gen.frame m ρ, StepIn.frame_r,
  fun m ρ _ => Cert.StepOut.Gen.frame m ρ, fun m ρ _ => Cert.StepOutIdeal.Gen.frame m ρ, StepOut.frame_r,
  fun m ρ _ => Cert.StepPool.Gen.frame m ρ, fun m ρ _ => Cert.StepPoolIdeal.Gen.frame m ρ, StepPool.frame_r,
  trivial, alg, trivial, Ffn.alg, trivial, FfnFirst.alg, trivial, Conv.alg, trivial, Loss.alg, trivial, Up.alg, trivial, Down.alg, trivial, Pool.alg,
  trivial, PoolBack.alg, trivial, StepGateUp.alg, trivial, StepDown.alg, trivial, StepIn.alg, trivial, StepOut.alg, trivial, StepPool.alg⟩

end Cert.Proof

end
